-- ==== Defs.lean ====
def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_finite_hidden [hPre_finite_hidden : Cert.Pre_finite_hidden.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_finite_hidden.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3))) = (fun _ => 1#1)

def Pre_HiddenRefIdeal (m : (ℓ : Loc Cert.HiddenRefIdeal.nD Cert.HiddenRefIdeal.τ Cert.HiddenRefIdeal.sig) → Buf (Elt Ideal) ℓ) : Prop :=
  True

def Pre_HiddenRefIdeal_finite_hidden [hPre_finite_hidden : Cert.Pre_finite_hidden.Facts] (m : (ℓ : Loc Cert.HiddenRefIdeal.nD Cert.HiddenRefIdeal.τ Cert.HiddenRefIdeal.sig) → Buf (Elt Ideal) ℓ) : Prop :=
  ∀ c : Dev Cert.HiddenRefIdeal.nD,
    (Cert.Pre_finite_hidden.fn (F := Ideal) (m ((c.tc : Thread Cert.HiddenRefIdeal.nD Cert.HiddenRefIdeal.τ).loc Cert.HiddenRefIdeal.main_arg0)) (m ((c.tc : Thread Cert.HiddenRefIdeal.nD Cert.HiddenRefIdeal.τ).loc Cert.HiddenRefIdeal.main_arg1)) (m ((c.tc : Thread Cert.HiddenRefIdeal.nD Cert.HiddenRefIdeal.τ).loc Cert.HiddenRefIdeal.main_arg2)) (m ((c.tc : Thread Cert.HiddenRefIdeal.nD Cert.HiddenRefIdeal.τ).loc Cert.HiddenRefIdeal.main_arg3))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_MmAdd (m : (ℓ : Loc Cert.MmAdd.nD Cert.MmAdd.τ Cert.MmAdd.sig) → Buf (Elt Bits) ℓ) : Prop :=
  True

def Pre_MmAddIdeal (m : (ℓ : Loc Cert.MmAddIdeal.nD Cert.MmAddIdeal.τ Cert.MmAddIdeal.sig) → Buf (Elt Ideal) ℓ) : Prop :=
  True

def Pre_MmAddRefIdeal (m : (ℓ : Loc Cert.MmAddRefIdeal.nD Cert.MmAddRefIdeal.τ Cert.MmAddRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_dx [hPre_finite_dx : Cert.Pre_finite_dx.Facts] (m : (ℓ : Loc Cert.DxIdeal.nD Cert.DxIdeal.τ Cert.DxIdeal.sig) → Buf (Elt Ideal) ℓ) : Prop :=
  ∀ c : Dev Cert.DxIdeal.nD,
    (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_finite_dx [hPre_finite_dx : Cert.Pre_finite_dx.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResIdeal_finite_res [hPre_finite_res : Cert.Pre_finite_res.Facts] (m : (ℓ : Loc Cert.ResIdeal.nD Cert.ResIdeal.τ Cert.ResIdeal.sig) → Buf (Elt Ideal) ℓ) : Prop :=
  ∀ c : Dev Cert.ResIdeal.nD,
    (Cert.Pre_finite_res.fn (F := Ideal) (m ((c.tc : Thread Cert.ResIdeal.nD Cert.ResIdeal.τ).loc Cert.ResIdeal.main_arg0)) (m ((c.tc : Thread Cert.ResIdeal.nD Cert.ResIdeal.τ).loc Cert.ResIdeal.main_arg1)) (m ((c.tc : Thread Cert.ResIdeal.nD Cert.ResIdeal.τ).loc Cert.ResIdeal.main_arg2)) (m ((c.tc : Thread Cert.ResIdeal.nD Cert.ResIdeal.τ).loc Cert.ResIdeal.main_arg3))) = (fun _ => 1#1)

def Pre_ResRefIdeal (m : (ℓ : Loc Cert.ResRefIdeal.nD Cert.ResRefIdeal.τ Cert.ResRefIdeal.sig) → Buf (Elt Ideal) ℓ) : Prop :=
  True

def Pre_ResRefIdeal_finite_res [hPre_finite_res : Cert.Pre_finite_res.Facts] (m : (ℓ : Loc Cert.ResRefIdeal.nD Cert.ResRefIdeal.τ Cert.ResRefIdeal.sig) → Buf (Elt Ideal) ℓ) : Prop :=
  ∀ c : Dev Cert.ResRefIdeal.nD,
    (Cert.Pre_finite_res.fn (F := Ideal) (m ((c.tc : Thread Cert.ResRefIdeal.nD Cert.ResRefIdeal.τ).loc Cert.ResRefIdeal.main_arg0)) (m ((c.tc : Thread Cert.ResRefIdeal.nD Cert.ResRefIdeal.τ).loc Cert.ResRefIdeal.main_arg1)) (m ((c.tc : Thread Cert.ResRefIdeal.nD Cert.ResRefIdeal.τ).loc Cert.ResRefIdeal.main_arg2)) (m ((c.tc : Thread Cert.ResRefIdeal.nD Cert.ResRefIdeal.τ).loc Cert.ResRefIdeal.main_arg3))) = (fun _ => 1#1)

def Pre_ResIn (m : (ℓ : Loc Cert.ResIn.nD Cert.ResIn.τ Cert.ResIn.sig) → Buf (Elt Bits) ℓ) : Prop :=
  True

def Pre_ResInIdeal (m : (ℓ : Loc Cert.ResInIdeal.nD Cert.ResInIdeal.τ Cert.ResInIdeal.sig) → Buf (Elt Ideal) ℓ) : Prop :=
  True

def Pre_ResInIdeal_finite_res [hPre_finite_res : Cert.Pre_finite_res.Facts] (m : (ℓ : Loc Cert.ResInIdeal.nD Cert.ResInIdeal.τ Cert.ResInIdeal.sig) → Buf (Elt Ideal) ℓ) : Prop :=
  ∀ c : Dev Cert.ResInIdeal.nD,
    (Cert.Pre_finite_res.fn (F := Ideal) (m ((c.tc : Thread Cert.ResInIdeal.nD Cert.ResInIdeal.τ).loc Cert.ResInIdeal.main_arg0)) (m ((c.tc : Thread Cert.ResInIdeal.nD Cert.ResInIdeal.τ).loc Cert.ResInIdeal.main_arg1)) (m ((c.tc : Thread Cert.ResInIdeal.nD Cert.ResInIdeal.τ).loc Cert.ResInIdeal.main_arg2)) (m ((c.tc : Thread Cert.ResInIdeal.nD Cert.ResInIdeal.τ).loc Cert.ResInIdeal.main_arg3))) = (fun _ => 1#1)

def Pre_ResInRefIdeal (m : (ℓ : Loc Cert.ResInRefIdeal.nD Cert.ResInRefIdeal.τ Cert.ResInRefIdeal.sig) → Buf (Elt Ideal) ℓ) : Prop :=
  True

def Pre_ResInRefIdeal_finite_res [hPre_finite_res : Cert.Pre_finite_res.Facts] (m : (ℓ : Loc Cert.ResInRefIdeal.nD Cert.ResInRefIdeal.τ Cert.ResInRefIdeal.sig) → Buf (Elt Ideal) ℓ) : Prop :=
  ∀ c : Dev Cert.ResInRefIdeal.nD,
    (Cert.Pre_finite_res.fn (F := Ideal) (m ((c.tc : Thread Cert.ResInRefIdeal.nD Cert.ResInRefIdeal.τ).loc Cert.ResInRefIdeal.main_arg0)) (m ((c.tc : Thread Cert.ResInRefIdeal.nD Cert.ResInRefIdeal.τ).loc Cert.ResInRefIdeal.main_arg1)) (m ((c.tc : Thread Cert.ResInRefIdeal.nD Cert.ResInRefIdeal.τ).loc Cert.ResInRefIdeal.main_arg2)) (m ((c.tc : Thread Cert.ResInRefIdeal.nD Cert.ResInRefIdeal.τ).loc Cert.ResInRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PoolOut (m : (ℓ : Loc Cert.PoolOut.nD Cert.PoolOut.τ Cert.PoolOut.sig) → Buf (Elt Bits) ℓ) : Prop :=
  True

def Pre_PoolOutIdeal (m : (ℓ : Loc Cert.PoolOutIdeal.nD Cert.PoolOutIdeal.τ Cert.PoolOutIdeal.sig) → Buf (Elt Ideal) ℓ) : Prop :=
  True

def Pre_PoolOutRefIdeal (m : (ℓ : Loc Cert.PoolOutRefIdeal.nD Cert.PoolOutRefIdeal.τ Cert.PoolOutRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutIdeal_finite_conv [hPre_finite_conv : Cert.Pre_finite_conv.Facts] (m : (ℓ : Loc Cert.ConvOutIdeal.nD Cert.ConvOutIdeal.τ Cert.ConvOutIdeal.sig) → Buf (Elt Ideal) ℓ) : Prop :=
  ∀ c : Dev Cert.ConvOutIdeal.nD,
    (Cert.Pre_finite_conv.fn (F := Ideal) (m ((c.tc : Thread Cert.ConvOutIdeal.nD Cert.ConvOutIdeal.τ).loc Cert.ConvOutIdeal.main_arg0)) (m ((c.tc : Thread Cert.ConvOutIdeal.nD Cert.ConvOutIdeal.τ).loc Cert.ConvOutIdeal.main_arg1)) (m ((c.tc : Thread Cert.ConvOutIdeal.nD Cert.ConvOutIdeal.τ).loc Cert.ConvOutIdeal.main_arg2)) (m ((c.tc : Thread Cert.ConvOutIdeal.nD Cert.ConvOutIdeal.τ).loc Cert.ConvOutIdeal.main_arg3)) (m ((c.tc : Thread Cert.ConvOutIdeal.nD Cert.ConvOutIdeal.τ).loc Cert.ConvOutIdeal.main_arg4))) = (fun _ => 1#1)

def Pre_ConvOutRefIdeal (m : (ℓ : Loc Cert.ConvOutRefIdeal.nD Cert.ConvOutRefIdeal.τ Cert.ConvOutRefIdeal.sig) → Buf (Elt Ideal) ℓ) : Prop :=
  True

def Pre_ConvOutRefIdeal_finite_conv [hPre_finite_conv : Cert.Pre_finite_conv.Facts] (m : (ℓ : Loc Cert.ConvOutRefIdeal.nD Cert.ConvOutRefIdeal.τ Cert.ConvOutRefIdeal.sig) → Buf (Elt Ideal) ℓ) : Prop :=
  ∀ c : Dev Cert.ConvOutRefIdeal.nD,
    (Cert.Pre_finite_conv.fn (F := Ideal) (m ((c.tc : Thread Cert.ConvOutRefIdeal.nD Cert.ConvOutRefIdeal.τ).loc Cert.ConvOutRefIdeal.main_arg0)) (m ((c.tc : Thread Cert.ConvOutRefIdeal.nD Cert.ConvOutRefIdeal.τ).loc Cert.ConvOutRefIdeal.main_arg1)) (m ((c.tc : Thread Cert.ConvOutRefIdeal.nD Cert.ConvOutRefIdeal.τ).loc Cert.ConvOutRefIdeal.main_arg2)) (m ((c.tc : Thread Cert.ConvOutRefIdeal.nD Cert.ConvOutRefIdeal.τ).loc Cert.ConvOutRefIdeal.main_arg3)) (m ((c.tc : Thread Cert.ConvOutRefIdeal.nD Cert.ConvOutRefIdeal.τ).loc Cert.ConvOutRefIdeal.main_arg4))) = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_FfnRes (m : (ℓ : Loc Cert.FfnRes.nD Cert.FfnRes.τ Cert.FfnRes.sig) → Buf (Elt Bits) ℓ) : Prop :=
  True

def Pre_FfnResIdeal (m : (ℓ : Loc Cert.FfnResIdeal.nD Cert.FfnResIdeal.τ Cert.FfnResIdeal.sig) → Buf (Elt Ideal) ℓ) : Prop :=
  True

def Pre_FfnResRefIdeal (m : (ℓ : Loc Cert.FfnResRefIdeal.nD Cert.FfnResRefIdeal.τ Cert.FfnResRefIdeal.sig) → Buf (Elt Ideal) ℓ) : Prop :=
  True

def Pre_AttnRes (m : (ℓ : Loc Cert.AttnRes.nD Cert.AttnRes.τ Cert.AttnRes.sig) → Buf (Elt Bits) ℓ) : Prop :=
  True

def Pre_AttnResIdeal (m : (ℓ : Loc Cert.AttnResIdeal.nD Cert.AttnResIdeal.τ Cert.AttnResIdeal.sig) → Buf (Elt Ideal) ℓ) : Prop :=
  True

def Pre_AttnResRefIdeal (m : (ℓ : Loc Cert.AttnResRefIdeal.nD Cert.AttnResRefIdeal.τ Cert.AttnResRefIdeal.sig) → Buf (Elt Ideal) ℓ) : Prop :=
  True

def Pre_ConvRes (m : (ℓ : Loc Cert.ConvRes.nD Cert.ConvRes.τ Cert.ConvRes.sig) → Buf (Elt Bits) ℓ) : Prop :=
  True

def Pre_ConvResIdeal (m : (ℓ : Loc Cert.ConvResIdeal.nD Cert.ConvResIdeal.τ Cert.ConvResIdeal.sig) → Buf (Elt Ideal) ℓ) : Prop :=
  True

def Pre_ConvResRefIdeal (m : (ℓ : Loc Cert.ConvResRefIdeal.nD Cert.ConvResRefIdeal.τ Cert.ConvResRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_AttnDx (m : (ℓ : Loc Cert.AttnDx.nD Cert.AttnDx.τ Cert.AttnDx.sig) → Buf (Elt Bits) ℓ) : Prop :=
  True

def Pre_AttnDxIdeal (m : (ℓ : Loc Cert.AttnDxIdeal.nD Cert.AttnDxIdeal.τ Cert.AttnDxIdeal.sig) → Buf (Elt Ideal) ℓ) : Prop :=
  True

def Pre_AttnDxRefIdeal (m : (ℓ : Loc Cert.AttnDxRefIdeal.nD Cert.AttnDxRefIdeal.τ Cert.AttnDxRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradIdeal_bucketed [hPre_bucketed : Cert.Pre_bucketed.Facts] (m : (ℓ : Loc Cert.BiasGradIdeal.nD Cert.BiasGradIdeal.τ Cert.BiasGradIdeal.sig) → Buf (Elt Ideal) ℓ) : Prop :=
  ∀ c : Dev Cert.BiasGradIdeal.nD,
    (Cert.Pre_bucketed.fn (F := Ideal) (m ((c.tc : Thread Cert.BiasGradIdeal.nD Cert.BiasGradIdeal.τ).loc Cert.BiasGradIdeal.main_arg0)) (m ((c.tc : Thread Cert.BiasGradIdeal.nD Cert.BiasGradIdeal.τ).loc Cert.BiasGradIdeal.main_arg1))) = (fun _ => 1#1)

def Pre_BiasGradRefIdeal (m : (ℓ : Loc Cert.BiasGradRefIdeal.nD Cert.BiasGradRefIdeal.τ Cert.BiasGradRefIdeal.sig) → Buf (Elt Ideal) ℓ) : Prop :=
  True

def Pre_BiasGradRefIdeal_bucketed [hPre_bucketed : Cert.Pre_bucketed.Facts] (m : (ℓ : Loc Cert.BiasGradRefIdeal.nD Cert.BiasGradRefIdeal.τ Cert.BiasGradRefIdeal.sig) → Buf (Elt Ideal) ℓ) : Prop :=
  ∀ c : Dev Cert.BiasGradRefIdeal.nD,
    (Cert.Pre_bucketed.fn (F := Ideal) (m ((c.tc : Thread Cert.BiasGradRefIdeal.nD Cert.BiasGradRefIdeal.τ).loc Cert.BiasGradRefIdeal.main_arg0)) (m ((c.tc : Thread Cert.BiasGradRefIdeal.nD Cert.BiasGradRefIdeal.τ).loc Cert.BiasGradRefIdeal.main_arg1))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_bucketed_table [hPre_bucketed_table : Cert.Pre_bucketed_table.Facts] (m : (ℓ : Loc Cert.BiasIdeal.nD Cert.BiasIdeal.τ Cert.BiasIdeal.sig) → Buf (Elt Ideal) ℓ) : Prop :=
  ∀ c : Dev Cert.BiasIdeal.nD,
    (Cert.Pre_bucketed_table.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_bucketed_table [hPre_bucketed_table : Cert.Pre_bucketed_table.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_bucketed_table.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1))) = (fun _ => 1#1)

def Pre_PoolW (m : (ℓ : Loc Cert.PoolW.nD Cert.PoolW.τ Cert.PoolW.sig) → Buf (Elt Bits) ℓ) : Prop :=
  True

def Pre_PoolWIdeal (m : (ℓ : Loc Cert.PoolWIdeal.nD Cert.PoolWIdeal.τ Cert.PoolWIdeal.sig) → Buf (Elt Ideal) ℓ) : Prop :=
  True

def Pre_PoolWRefIdeal (m : (ℓ : Loc Cert.PoolWRefIdeal.nD Cert.PoolWRefIdeal.τ Cert.PoolWRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_AdamScaleRefIdeal (m : (ℓ : Loc Cert.AdamScaleRefIdeal.nD Cert.AdamScaleRefIdeal.τ Cert.AdamScaleRefIdeal.sig) → Buf (Elt Ideal) ℓ) : Prop :=
  True

def Pre_AdamSink (m : (ℓ : Loc Cert.AdamSink.nD Cert.AdamSink.τ Cert.AdamSink.sig) → Buf (Elt Bits) ℓ) : Prop :=
  True

def Pre_AdamSinkIdeal (m : (ℓ : Loc Cert.AdamSinkIdeal.nD Cert.AdamSinkIdeal.τ Cert.AdamSinkIdeal.sig) → Buf (Elt Ideal) ℓ) : Prop :=
  True

def Pre_AdamSinkRefIdeal (m : (ℓ : Loc Cert.AdamSinkRefIdeal.nD Cert.AdamSinkRefIdeal.τ Cert.AdamSinkRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamConvIn (m : (ℓ : Loc Cert.AdamConvIn.nD Cert.AdamConvIn.τ Cert.AdamConvIn.sig) → Buf (Elt Bits) ℓ) : Prop :=
  True

def Pre_AdamConvInIdeal (m : (ℓ : Loc Cert.AdamConvInIdeal.nD Cert.AdamConvInIdeal.τ Cert.AdamConvInIdeal.sig) → Buf (Elt Ideal) ℓ) : Prop :=
  True

def Pre_AdamConvInRefIdeal (m : (ℓ : Loc Cert.AdamConvInRefIdeal.nD Cert.AdamConvInRefIdeal.τ Cert.AdamConvInRefIdeal.sig) → Buf (Elt Ideal) ℓ) : Prop :=
  True

def Pre_AdamConvOut (m : (ℓ : Loc Cert.AdamConvOut.nD Cert.AdamConvOut.τ Cert.AdamConvOut.sig) → Buf (Elt Bits) ℓ) : Prop :=
  True

def Pre_AdamConvOutIdeal (m : (ℓ : Loc Cert.AdamConvOutIdeal.nD Cert.AdamConvOutIdeal.τ Cert.AdamConvOutIdeal.sig) → Buf (Elt Ideal) ℓ) : Prop :=
  True

def Pre_AdamConvOutRefIdeal (m : (ℓ : Loc Cert.AdamConvOutRefIdeal.nD Cert.AdamConvOutRefIdeal.τ Cert.AdamConvOutRefIdeal.sig) → Buf (Elt Ideal) ℓ) : Prop :=
  True

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenIdeal_pre_finite_hidden [hHiddenIdeal : Cert.HiddenIdeal.Facts] [hPre_finite_hidden : Cert.Pre_finite_hidden.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_finite_hidden m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_HiddenRefIdeal_pre_finite_hidden [hHiddenRefIdeal : Cert.HiddenRefIdeal.Facts] [hPre_finite_hidden : Cert.Pre_finite_hidden.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal_finite_hidden m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_MmAdd [hMmAdd : Cert.MmAdd.Facts] : Prop :=
  ∀ (m : (ℓ : Loc Cert.MmAdd.nD Cert.MmAdd.τ Cert.MmAdd.sig) → Buf (Elt Bits) ℓ) (g : Dev Cert.MmAdd.nD → PrngReg), Pre_MmAdd m →
    θ_run (Cert.MmAdd.defs (F := Bits)) (onTc (τ := Cert.MmAdd.τ) (Cert.MmAdd.main (F := Bits))) ⟨m, fun _ => 0, g⟩ (fun r => (∀ c : Dev Cert.MmAdd.nD,
      r.2.mem ((c.tc : Thread Cert.MmAdd.nD Cert.MmAdd.τ).loc Cert.MmAdd.main_arg0) = m ((c.tc : Thread Cert.MmAdd.nD Cert.MmAdd.τ).loc Cert.MmAdd.main_arg0)
      ∧ r.2.mem ((c.tc : Thread Cert.MmAdd.nD Cert.MmAdd.τ).loc Cert.MmAdd.main_arg1) = m ((c.tc : Thread Cert.MmAdd.nD Cert.MmAdd.τ).loc Cert.MmAdd.main_arg1)
      ∧ r.2.mem ((c.tc : Thread Cert.MmAdd.nD Cert.MmAdd.τ).loc Cert.MmAdd.main_arg2) = m ((c.tc : Thread Cert.MmAdd.nD Cert.MmAdd.τ).loc Cert.MmAdd.main_arg2))
      ∧ r.2.sem = fun _ => 0)

def quiescent_MmAddIdeal [hMmAddIdeal : Cert.MmAddIdeal.Facts] : Prop :=
  ∀ (m : (ℓ : Loc Cert.MmAddIdeal.nD Cert.MmAddIdeal.τ Cert.MmAddIdeal.sig) → Buf (Elt Ideal) ℓ) (g : Dev Cert.MmAddIdeal.nD → PrngReg), Pre_MmAddIdeal m →
    θ_run (Cert.MmAddIdeal.defs (F := Ideal)) (onTc (τ := Cert.MmAddIdeal.τ) (Cert.MmAddIdeal.main (F := Ideal))) ⟨m, fun _ => 0, g⟩ (fun r => (∀ c : Dev Cert.MmAddIdeal.nD,
      r.2.mem ((c.tc : Thread Cert.MmAddIdeal.nD Cert.MmAddIdeal.τ).loc Cert.MmAddIdeal.main_arg0) = m ((c.tc : Thread Cert.MmAddIdeal.nD Cert.MmAddIdeal.τ).loc Cert.MmAddIdeal.main_arg0)
      ∧ r.2.mem ((c.tc : Thread Cert.MmAddIdeal.nD Cert.MmAddIdeal.τ).loc Cert.MmAddIdeal.main_arg1) = m ((c.tc : Thread Cert.MmAddIdeal.nD Cert.MmAddIdeal.τ).loc Cert.MmAddIdeal.main_arg1)
      ∧ r.2.mem ((c.tc : Thread Cert.MmAddIdeal.nD Cert.MmAddIdeal.τ).loc Cert.MmAddIdeal.main_arg2) = m ((c.tc : Thread Cert.MmAddIdeal.nD Cert.MmAddIdeal.τ).loc Cert.MmAddIdeal.main_arg2))
      ∧ r.2.sem = fun _ => 0)

def quiescent_MmAddRefIdeal [hMmAddRefIdeal : Cert.MmAddRefIdeal.Facts] : Prop :=
  ∀ (m : (ℓ : Loc Cert.MmAddRefIdeal.nD Cert.MmAddRefIdeal.τ Cert.MmAddRefIdeal.sig) → Buf (Elt Ideal) ℓ) (g : Dev Cert.MmAddRefIdeal.nD → PrngReg), Pre_MmAddRefIdeal m →
    θ_run (Cert.MmAddRefIdeal.defs (F := Ideal)) (onTc (τ := Cert.MmAddRefIdeal.τ) (Cert.MmAddRefIdeal.main (F := Ideal))) ⟨m, fun _ => 0, g⟩ (fun r => (∀ c : Dev Cert.MmAddRefIdeal.nD,
      r.2.mem ((c.tc : Thread Cert.MmAddRefIdeal.nD Cert.MmAddRefIdeal.τ).loc Cert.MmAddRefIdeal.main_arg0) = m ((c.tc : Thread Cert.MmAddRefIdeal.nD Cert.MmAddRefIdeal.τ).loc Cert.MmAddRefIdeal.main_arg0)
      ∧ r.2.mem ((c.tc : Thread Cert.MmAddRefIdeal.nD Cert.MmAddRefIdeal.τ).loc Cert.MmAddRefIdeal.main_arg1) = m ((c.tc : Thread Cert.MmAddRefIdeal.nD Cert.MmAddRefIdeal.τ).loc Cert.MmAddRefIdeal.main_arg1)
      ∧ r.2.mem ((c.tc : Thread Cert.MmAddRefIdeal.nD Cert.MmAddRefIdeal.τ).loc Cert.MmAddRefIdeal.main_arg2) = m ((c.tc : Thread Cert.MmAddRefIdeal.nD Cert.MmAddRefIdeal.τ).loc Cert.MmAddRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxIdeal_pre_finite_dx [hDxIdeal : Cert.DxIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_dx m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_DxRefIdeal_pre_finite_dx [hDxRefIdeal : Cert.DxRefIdeal.Facts] [hPre_finite_dx : Cert.Pre_finite_dx.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_finite_dx m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResIdeal_pre_finite_res [hResIdeal : Cert.ResIdeal.Facts] [hPre_finite_res : Cert.Pre_finite_res.Facts] : Prop :=
  ∀ (m : (ℓ : Loc Cert.ResIdeal.nD Cert.ResIdeal.τ Cert.ResIdeal.sig) → Buf (Elt Ideal) ℓ) (g : Dev Cert.ResIdeal.nD → PrngReg), Pre_ResIdeal_finite_res m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_ResRefIdeal_pre_finite_res [hResRefIdeal : Cert.ResRefIdeal.Facts] [hPre_finite_res : Cert.Pre_finite_res.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal_finite_res m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_ResIn [hResIn : Cert.ResIn.Facts] : Prop :=
  ∀ (m : (ℓ : Loc Cert.ResIn.nD Cert.ResIn.τ Cert.ResIn.sig) → Buf (Elt Bits) ℓ) (g : Dev Cert.ResIn.nD → PrngReg), Pre_ResIn m →
    θ_run (Cert.ResIn.defs (F := Bits)) (onTc (τ := Cert.ResIn.τ) (Cert.ResIn.main (F := Bits))) ⟨m, fun _ => 0, g⟩ (fun r => (∀ c : Dev Cert.ResIn.nD,
      r.2.mem ((c.tc : Thread Cert.ResIn.nD Cert.ResIn.τ).loc Cert.ResIn.main_arg0) = m ((c.tc : Thread Cert.ResIn.nD Cert.ResIn.τ).loc Cert.ResIn.main_arg0)
      ∧ r.2.mem ((c.tc : Thread Cert.ResIn.nD Cert.ResIn.τ).loc Cert.ResIn.main_arg1) = m ((c.tc : Thread Cert.ResIn.nD Cert.ResIn.τ).loc Cert.ResIn.main_arg1)
      ∧ r.2.mem ((c.tc : Thread Cert.ResIn.nD Cert.ResIn.τ).loc Cert.ResIn.main_arg2) = m ((c.tc : Thread Cert.ResIn.nD Cert.ResIn.τ).loc Cert.ResIn.main_arg2)
      ∧ r.2.mem ((c.tc : Thread Cert.ResIn.nD Cert.ResIn.τ).loc Cert.ResIn.main_arg3) = m ((c.tc : Thread Cert.ResIn.nD Cert.ResIn.τ).loc Cert.ResIn.main_arg3))
      ∧ r.2.sem = fun _ => 0)

def quiescent_ResInIdeal [hResInIdeal : Cert.ResInIdeal.Facts] : Prop :=
  ∀ (m : (ℓ : Loc Cert.ResInIdeal.nD Cert.ResInIdeal.τ Cert.ResInIdeal.sig) → Buf (Elt Ideal) ℓ) (g : Dev Cert.ResInIdeal.nD → PrngReg), Pre_ResInIdeal m →
    θ_run (Cert.ResInIdeal.defs (F := Ideal)) (onTc (τ := Cert.ResInIdeal.τ) (Cert.ResInIdeal.main (F := Ideal))) ⟨m, fun _ => 0, g⟩ (fun r => (∀ c : Dev Cert.ResInIdeal.nD,
      r.2.mem ((c.tc : Thread Cert.ResInIdeal.nD Cert.ResInIdeal.τ).loc Cert.ResInIdeal.main_arg0) = m ((c.tc : Thread Cert.ResInIdeal.nD Cert.ResInIdeal.τ).loc Cert.ResInIdeal.main_arg0)
      ∧ r.2.mem ((c.tc : Thread Cert.ResInIdeal.nD Cert.ResInIdeal.τ).loc Cert.ResInIdeal.main_arg1) = m ((c.tc : Thread Cert.ResInIdeal.nD Cert.ResInIdeal.τ).loc Cert.ResInIdeal.main_arg1)
      ∧ r.2.mem ((c.tc : Thread Cert.ResInIdeal.nD Cert.ResInIdeal.τ).loc Cert.ResInIdeal.main_arg2) = m ((c.tc : Thread Cert.ResInIdeal.nD Cert.ResInIdeal.τ).loc Cert.ResInIdeal.main_arg2)
      ∧ r.2.mem ((c.tc : Thread Cert.ResInIdeal.nD Cert.ResInIdeal.τ).loc Cert.ResInIdeal.main_arg3) = m ((c.tc : Thread Cert.ResInIdeal.nD Cert.ResInIdeal.τ).loc Cert.ResInIdeal.main_arg3))
      ∧ r.2.sem = fun _ => 0)

def quiescent_ResInIdeal_pre_finite_res [hResInIdeal : Cert.ResInIdeal.Facts] [hPre_finite_res : Cert.Pre_finite_res.Facts] : Prop :=
  ∀ (m : (ℓ : Loc Cert.ResInIdeal.nD Cert.ResInIdeal.τ Cert.ResInIdeal.sig) → Buf (Elt Ideal) ℓ) (g : Dev Cert.ResInIdeal.nD → PrngReg), Pre_ResInIdeal_finite_res m →
    θ_run (Cert.ResInIdeal.defs (F := Ideal)) (onTc (τ := Cert.ResInIdeal.τ) (Cert.ResInIdeal.main (F := Ideal))) ⟨m, fun _ => 0, g⟩ (fun r => (∀ c : Dev Cert.ResInIdeal.nD,
      r.2.mem ((c.tc : Thread Cert.ResInIdeal.nD Cert.ResInIdeal.τ).loc Cert.ResInIdeal.main_arg0) = m ((c.tc : Thread Cert.ResInIdeal.nD Cert.ResInIdeal.τ).loc Cert.ResInIdeal.main_arg0)
      ∧ r.2.mem ((c.tc : Thread Cert.ResInIdeal.nD Cert.ResInIdeal.τ).loc Cert.ResInIdeal.main_arg1) = m ((c.tc : Thread Cert.ResInIdeal.nD Cert.ResInIdeal.τ).loc Cert.ResInIdeal.main_arg1)
      ∧ r.2.mem ((c.tc : Thread Cert.ResInIdeal.nD Cert.ResInIdeal.τ).loc Cert.ResInIdeal.main_arg2) = m ((c.tc : Thread Cert.ResInIdeal.nD Cert.ResInIdeal.τ).loc Cert.ResInIdeal.main_arg2)
      ∧ r.2.mem ((c.tc : Thread Cert.ResInIdeal.nD Cert.ResInIdeal.τ).loc Cert.ResInIdeal.main_arg3) = m ((c.tc : Thread Cert.ResInIdeal.nD Cert.ResInIdeal.τ).loc Cert.ResInIdeal.main_arg3))
      ∧ r.2.sem = fun _ => 0)

def quiescent_ResInRefIdeal [hResInRefIdeal : Cert.ResInRefIdeal.Facts] : Prop :=
  ∀ (m : (ℓ : Loc Cert.ResInRefIdeal.nD Cert.ResInRefIdeal.τ Cert.ResInRefIdeal.sig) → Buf (Elt Ideal) ℓ) (g : Dev Cert.ResInRefIdeal.nD → PrngReg), Pre_ResInRefIdeal m →
    θ_run (Cert.ResInRefIdeal.defs (F := Ideal)) (onTc (τ := Cert.ResInRefIdeal.τ) (Cert.ResInRefIdeal.main (F := Ideal))) ⟨m, fun _ => 0, g⟩ (fun r => (∀ c : Dev Cert.ResInRefIdeal.nD,
      r.2.mem ((c.tc : Thread Cert.ResInRefIdeal.nD Cert.ResInRefIdeal.τ).loc Cert.ResInRefIdeal.main_arg0) = m ((c.tc : Thread Cert.ResInRefIdeal.nD Cert.ResInRefIdeal.τ).loc Cert.ResInRefIdeal.main_arg0)
      ∧ r.2.mem ((c.tc : Thread Cert.ResInRefIdeal.nD Cert.ResInRefIdeal.τ).loc Cert.ResInRefIdeal.main_arg1) = m ((c.tc : Thread Cert.ResInRefIdeal.nD Cert.ResInRefIdeal.τ).loc Cert.ResInRefIdeal.main_arg1)
      ∧ r.2.mem ((c.tc : Thread Cert.ResInRefIdeal.nD Cert.ResInRefIdeal.τ).loc Cert.ResInRefIdeal.main_arg2) = m ((c.tc : Thread Cert.ResInRefIdeal.nD Cert.ResInRefIdeal.τ).loc Cert.ResInRefIdeal.main_arg2)
      ∧ r.2.mem ((c.tc : Thread Cert.ResInRefIdeal.nD Cert.ResInRefIdeal.τ).loc Cert.ResInRefIdeal.main_arg3) = m ((c.tc : Thread Cert.ResInRefIdeal.nD Cert.ResInRefIdeal.τ).loc Cert.ResInRefIdeal.main_arg3))
      ∧ r.2.sem = fun _ => 0)

def quiescent_ResInRefIdeal_pre_finite_res [hResInRefIdeal : Cert.ResInRefIdeal.Facts] [hPre_finite_res : Cert.Pre_finite_res.Facts] : Prop :=
  ∀ (m : (ℓ : Loc Cert.ResInRefIdeal.nD Cert.ResInRefIdeal.τ Cert.ResInRefIdeal.sig) → Buf (Elt Ideal) ℓ) (g : Dev Cert.ResInRefIdeal.nD → PrngReg), Pre_ResInRefIdeal_finite_res m →
    θ_run (Cert.ResInRefIdeal.defs (F := Ideal)) (onTc (τ := Cert.ResInRefIdeal.τ) (Cert.ResInRefIdeal.main (F := Ideal))) ⟨m, fun _ => 0, g⟩ (fun r => (∀ c : Dev Cert.ResInRefIdeal.nD,
      r.2.mem ((c.tc : Thread Cert.ResInRefIdeal.nD Cert.ResInRefIdeal.τ).loc Cert.ResInRefIdeal.main_arg0) = m ((c.tc : Thread Cert.ResInRefIdeal.nD Cert.ResInRefIdeal.τ).loc Cert.ResInRefIdeal.main_arg0)
      ∧ r.2.mem ((c.tc : Thread Cert.ResInRefIdeal.nD Cert.ResInRefIdeal.τ).loc Cert.ResInRefIdeal.main_arg1) = m ((c.tc : Thread Cert.ResInRefIdeal.nD Cert.ResInRefIdeal.τ).loc Cert.ResInRefIdeal.main_arg1)
      ∧ r.2.mem ((c.tc : Thread Cert.ResInRefIdeal.nD Cert.ResInRefIdeal.τ).loc Cert.ResInRefIdeal.main_arg2) = m ((c.tc : Thread Cert.ResInRefIdeal.nD Cert.ResInRefIdeal.τ).loc Cert.ResInRefIdeal.main_arg2)
      ∧ r.2.mem ((c.tc : Thread Cert.ResInRefIdeal.nD Cert.ResInRefIdeal.τ).loc Cert.ResInRefIdeal.main_arg3) = m ((c.tc : Thread Cert.ResInRefIdeal.nD Cert.ResInRefIdeal.τ).loc Cert.ResInRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_PoolOut [hPoolOut : Cert.PoolOut.Facts] : Prop :=
  ∀ (m : (ℓ : Loc Cert.PoolOut.nD Cert.PoolOut.τ Cert.PoolOut.sig) → Buf (Elt Bits) ℓ) (g : Dev Cert.PoolOut.nD → PrngReg), Pre_PoolOut m →
    θ_run (Cert.PoolOut.defs (F := Bits)) (onTc (τ := Cert.PoolOut.τ) (Cert.PoolOut.main (F := Bits))) ⟨m, fun _ => 0, g⟩ (fun r => (∀ c : Dev Cert.PoolOut.nD,
      r.2.mem ((c.tc : Thread Cert.PoolOut.nD Cert.PoolOut.τ).loc Cert.PoolOut.main_arg0) = m ((c.tc : Thread Cert.PoolOut.nD Cert.PoolOut.τ).loc Cert.PoolOut.main_arg0)
      ∧ r.2.mem ((c.tc : Thread Cert.PoolOut.nD Cert.PoolOut.τ).loc Cert.PoolOut.main_arg1) = m ((c.tc : Thread Cert.PoolOut.nD Cert.PoolOut.τ).loc Cert.PoolOut.main_arg1)
      ∧ r.2.mem ((c.tc : Thread Cert.PoolOut.nD Cert.PoolOut.τ).loc Cert.PoolOut.main_arg2) = m ((c.tc : Thread Cert.PoolOut.nD Cert.PoolOut.τ).loc Cert.PoolOut.main_arg2)
      ∧ r.2.mem ((c.tc : Thread Cert.PoolOut.nD Cert.PoolOut.τ).loc Cert.PoolOut.main_arg3) = m ((c.tc : Thread Cert.PoolOut.nD Cert.PoolOut.τ).loc Cert.PoolOut.main_arg3))
      ∧ r.2.sem = fun _ => 0)

def quiescent_PoolOutIdeal [hPoolOutIdeal : Cert.PoolOutIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg), Pre_PoolOutIdeal m →
    θ_run (Cert.PoolOutIdeal.defs (F := Ideal)) (onTc (τ := Cert.PoolOutIdeal.τ) (Cert.PoolOutIdeal.main (F := Ideal))) ⟨m, fun _ => 0, g⟩ (fun r => (∀ c : Dev Cert.PoolOutIdeal.nD,
      r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
      ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
      ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
      ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3))
      ∧ r.2.sem = fun _ => 0)

def quiescent_PoolOutRefIdeal [hPoolOutRefIdeal : Cert.PoolOutRefIdeal.Facts] : Prop :=
  ∀ (m : (ℓ : Loc Cert.PoolOutRefIdeal.nD Cert.PoolOutRefIdeal.τ Cert.PoolOutRefIdeal.sig) → Buf (Elt Ideal) ℓ) (g : Dev Cert.PoolOutRefIdeal.nD → PrngReg), Pre_PoolOutRefIdeal m →
    θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1)
      ∧ r.2.mem ((c.tc : Thread Cert.PoolOutRefIdeal.nD Cert.PoolOutRefIdeal.τ).loc Cert.PoolOutRefIdeal.main_arg2) = m ((c.tc : Thread Cert.PoolOutRefIdeal.nD Cert.PoolOutRefIdeal.τ).loc Cert.PoolOutRefIdeal.main_arg2)
      ∧ r.2.mem ((c.tc : Thread Cert.PoolOutRefIdeal.nD Cert.PoolOutRefIdeal.τ).loc Cert.PoolOutRefIdeal.main_arg3) = m ((c.tc : Thread Cert.PoolOutRefIdeal.nD Cert.PoolOutRefIdeal.τ).loc Cert.PoolOutRefIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ r.2.sem = fun _ => 0)

def quiescent_ConvOutIdeal_pre_finite_conv [hConvOutIdeal : Cert.ConvOutIdeal.Facts] [hPre_finite_conv : Cert.Pre_finite_conv.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal_finite_conv m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4))
      ∧ r.2.sem = fun _ => 0)

def quiescent_ConvOutRefIdeal_pre_finite_conv [hConvOutRefIdeal : Cert.ConvOutRefIdeal.Facts] [hPre_finite_conv : Cert.Pre_finite_conv.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal_finite_conv m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3)
      ∧ r.2.mem ((c.tc : Thread Cert.PoolFwd.nD Cert.PoolFwd.τ).loc Cert.PoolFwd.main_arg4) = m ((c.tc : Thread Cert.PoolFwd.nD Cert.PoolFwd.τ).loc Cert.PoolFwd.main_arg4))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3)
      ∧ r.2.mem ((c.tc : Thread Cert.PoolFwdRefIdeal.nD Cert.PoolFwdRefIdeal.τ).loc Cert.PoolFwdRefIdeal.main_arg4) = m ((c.tc : Thread Cert.PoolFwdRefIdeal.nD Cert.PoolFwdRefIdeal.τ).loc Cert.PoolFwdRefIdeal.main_arg4))
      ∧ r.2.sem = fun _ => 0)

def quiescent_FfnRes [hFfnRes : Cert.FfnRes.Facts] : Prop :=
  ∀ (m : (ℓ : Loc Cert.FfnRes.nD Cert.FfnRes.τ Cert.FfnRes.sig) → Buf (Elt Bits) ℓ) (g : Dev Cert.FfnRes.nD → PrngReg), Pre_FfnRes m →
    θ_run (Cert.FfnRes.defs (F := Bits)) (onTc (τ := Cert.FfnRes.τ) (Cert.FfnRes.main (F := Bits))) ⟨m, fun _ => 0, g⟩ (fun r => (∀ c : Dev Cert.FfnRes.nD,
      r.2.mem ((c.tc : Thread Cert.FfnRes.nD Cert.FfnRes.τ).loc Cert.FfnRes.main_arg0) = m ((c.tc : Thread Cert.FfnRes.nD Cert.FfnRes.τ).loc Cert.FfnRes.main_arg0)
      ∧ r.2.mem ((c.tc : Thread Cert.FfnRes.nD Cert.FfnRes.τ).loc Cert.FfnRes.main_arg1) = m ((c.tc : Thread Cert.FfnRes.nD Cert.FfnRes.τ).loc Cert.FfnRes.main_arg1)
      ∧ r.2.mem ((c.tc : Thread Cert.FfnRes.nD Cert.FfnRes.τ).loc Cert.FfnRes.main_arg2) = m ((c.tc : Thread Cert.FfnRes.nD Cert.FfnRes.τ).loc Cert.FfnRes.main_arg2))
      ∧ r.2.sem = fun _ => 0)

def quiescent_FfnResIdeal [hFfnResIdeal : Cert.FfnResIdeal.Facts] : Prop :=
  ∀ (m : (ℓ : Loc Cert.FfnResIdeal.nD Cert.FfnResIdeal.τ Cert.FfnResIdeal.sig) → Buf (Elt Ideal) ℓ) (g : Dev Cert.FfnResIdeal.nD → PrngReg), Pre_FfnResIdeal m →
    θ_run (Cert.FfnResIdeal.defs (F := Ideal)) (onTc (τ := Cert.FfnResIdeal.τ) (Cert.FfnResIdeal.main (F := Ideal))) ⟨m, fun _ => 0, g⟩ (fun r => (∀ c : Dev Cert.FfnResIdeal.nD,
      r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
      ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
      ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2))
      ∧ r.2.sem = fun _ => 0)

def quiescent_FfnResRefIdeal [hFfnResRefIdeal : Cert.FfnResRefIdeal.Facts] : Prop :=
  ∀ (m : (ℓ : Loc Cert.FfnResRefIdeal.nD Cert.FfnResRefIdeal.τ Cert.FfnResRefIdeal.sig) → Buf (Elt Ideal) ℓ) (g : Dev Cert.FfnResRefIdeal.nD → PrngReg), Pre_FfnResRefIdeal m →
    θ_run (Cert.FfnResRefIdeal.defs (F := Ideal)) (onTc (τ := Cert.FfnResRefIdeal.τ) (Cert.FfnResRefIdeal.main (F := Ideal))) ⟨m, fun _ => 0, g⟩ (fun r => (∀ c : Dev Cert.FfnResRefIdeal.nD,
      r.2.mem ((c.tc : Thread Cert.FfnResRefIdeal.nD Cert.FfnResRefIdeal.τ).loc Cert.FfnResRefIdeal.main_arg0) = m ((c.tc : Thread Cert.FfnResRefIdeal.nD Cert.FfnResRefIdeal.τ).loc Cert.FfnResRefIdeal.main_arg0)
      ∧ r.2.mem ((c.tc : Thread Cert.FfnResRefIdeal.nD Cert.FfnResRefIdeal.τ).loc Cert.FfnResRefIdeal.main_arg1) = m ((c.tc : Thread Cert.FfnResRefIdeal.nD Cert.FfnResRefIdeal.τ).loc Cert.FfnResRefIdeal.main_arg1)
      ∧ r.2.mem ((c.tc : Thread Cert.FfnResRefIdeal.nD Cert.FfnResRefIdeal.τ).loc Cert.FfnResRefIdeal.main_arg2) = m ((c.tc : Thread Cert.FfnResRefIdeal.nD Cert.FfnResRefIdeal.τ).loc Cert.FfnResRefIdeal.main_arg2))
      ∧ r.2.sem = fun _ => 0)

def quiescent_AttnRes [hAttnRes : Cert.AttnRes.Facts] : Prop :=
  ∀ (m : (ℓ : Loc Cert.AttnRes.nD Cert.AttnRes.τ Cert.AttnRes.sig) → Buf (Elt Bits) ℓ) (g : Dev Cert.AttnRes.nD → PrngReg), Pre_AttnRes m →
    θ_run (Cert.AttnRes.defs (F := Bits)) (onTc (τ := Cert.AttnRes.τ) (Cert.AttnRes.main (F := Bits))) ⟨m, fun _ => 0, g⟩ (fun r => (∀ c : Dev Cert.AttnRes.nD,
      r.2.mem ((c.tc : Thread Cert.AttnRes.nD Cert.AttnRes.τ).loc Cert.AttnRes.main_arg0) = m ((c.tc : Thread Cert.AttnRes.nD Cert.AttnRes.τ).loc Cert.AttnRes.main_arg0)
      ∧ r.2.mem ((c.tc : Thread Cert.AttnRes.nD Cert.AttnRes.τ).loc Cert.AttnRes.main_arg1) = m ((c.tc : Thread Cert.AttnRes.nD Cert.AttnRes.τ).loc Cert.AttnRes.main_arg1)
      ∧ r.2.mem ((c.tc : Thread Cert.AttnRes.nD Cert.AttnRes.τ).loc Cert.AttnRes.main_arg2) = m ((c.tc : Thread Cert.AttnRes.nD Cert.AttnRes.τ).loc Cert.AttnRes.main_arg2)
      ∧ r.2.mem ((c.tc : Thread Cert.AttnRes.nD Cert.AttnRes.τ).loc Cert.AttnRes.main_arg3) = m ((c.tc : Thread Cert.AttnRes.nD Cert.AttnRes.τ).loc Cert.AttnRes.main_arg3))
      ∧ r.2.sem = fun _ => 0)

def quiescent_AttnResIdeal [hAttnResIdeal : Cert.AttnResIdeal.Facts] : Prop :=
  ∀ (m : (ℓ : Loc Cert.AttnResIdeal.nD Cert.AttnResIdeal.τ Cert.AttnResIdeal.sig) → Buf (Elt Ideal) ℓ) (g : Dev Cert.AttnResIdeal.nD → PrngReg), Pre_AttnResIdeal m →
    θ_run (Cert.AttnResIdeal.defs (F := Ideal)) (onTc (τ := Cert.AttnResIdeal.τ) (Cert.AttnResIdeal.main (F := Ideal))) ⟨m, fun _ => 0, g⟩ (fun r => (∀ c : Dev Cert.AttnResIdeal.nD,
      r.2.mem ((c.tc : Thread Cert.AttnResIdeal.nD Cert.AttnResIdeal.τ).loc Cert.AttnResIdeal.main_arg0) = m ((c.tc : Thread Cert.AttnResIdeal.nD Cert.AttnResIdeal.τ).loc Cert.AttnResIdeal.main_arg0)
      ∧ r.2.mem ((c.tc : Thread Cert.AttnResIdeal.nD Cert.AttnResIdeal.τ).loc Cert.AttnResIdeal.main_arg1) = m ((c.tc : Thread Cert.AttnResIdeal.nD Cert.AttnResIdeal.τ).loc Cert.AttnResIdeal.main_arg1)
      ∧ r.2.mem ((c.tc : Thread Cert.AttnResIdeal.nD Cert.AttnResIdeal.τ).loc Cert.AttnResIdeal.main_arg2) = m ((c.tc : Thread Cert.AttnResIdeal.nD Cert.AttnResIdeal.τ).loc Cert.AttnResIdeal.main_arg2)
      ∧ r.2.mem ((c.tc : Thread Cert.AttnResIdeal.nD Cert.AttnResIdeal.τ).loc Cert.AttnResIdeal.main_arg3) = m ((c.tc : Thread Cert.AttnResIdeal.nD Cert.AttnResIdeal.τ).loc Cert.AttnResIdeal.main_arg3))
      ∧ r.2.sem = fun _ => 0)

def quiescent_AttnResRefIdeal [hAttnResRefIdeal : Cert.AttnResRefIdeal.Facts] : Prop :=
  ∀ (m : (ℓ : Loc Cert.AttnResRefIdeal.nD Cert.AttnResRefIdeal.τ Cert.AttnResRefIdeal.sig) → Buf (Elt Ideal) ℓ) (g : Dev Cert.AttnResRefIdeal.nD → PrngReg), Pre_AttnResRefIdeal m →
    θ_run (Cert.AttnResRefIdeal.defs (F := Ideal)) (onTc (τ := Cert.AttnResRefIdeal.τ) (Cert.AttnResRefIdeal.main (F := Ideal))) ⟨m, fun _ => 0, g⟩ (fun r => (∀ c : Dev Cert.AttnResRefIdeal.nD,
      r.2.mem ((c.tc : Thread Cert.AttnResRefIdeal.nD Cert.AttnResRefIdeal.τ).loc Cert.AttnResRefIdeal.main_arg0) = m ((c.tc : Thread Cert.AttnResRefIdeal.nD Cert.AttnResRefIdeal.τ).loc Cert.AttnResRefIdeal.main_arg0)
      ∧ r.2.mem ((c.tc : Thread Cert.AttnResRefIdeal.nD Cert.AttnResRefIdeal.τ).loc Cert.AttnResRefIdeal.main_arg1) = m ((c.tc : Thread Cert.AttnResRefIdeal.nD Cert.AttnResRefIdeal.τ).loc Cert.AttnResRefIdeal.main_arg1)
      ∧ r.2.mem ((c.tc : Thread Cert.AttnResRefIdeal.nD Cert.AttnResRefIdeal.τ).loc Cert.AttnResRefIdeal.main_arg2) = m ((c.tc : Thread Cert.AttnResRefIdeal.nD Cert.AttnResRefIdeal.τ).loc Cert.AttnResRefIdeal.main_arg2)
      ∧ r.2.mem ((c.tc : Thread Cert.AttnResRefIdeal.nD Cert.AttnResRefIdeal.τ).loc Cert.AttnResRefIdeal.main_arg3) = m ((c.tc : Thread Cert.AttnResRefIdeal.nD Cert.AttnResRefIdeal.τ).loc Cert.AttnResRefIdeal.main_arg3))
      ∧ r.2.sem = fun _ => 0)

def quiescent_ConvRes [hConvRes : Cert.ConvRes.Facts] : Prop :=
  ∀ (m : (ℓ : Loc Cert.ConvRes.nD Cert.ConvRes.τ Cert.ConvRes.sig) → Buf (Elt Bits) ℓ) (g : Dev Cert.ConvRes.nD → PrngReg), Pre_ConvRes m →
    θ_run (Cert.ConvRes.defs (F := Bits)) (onTc (τ := Cert.ConvRes.τ) (Cert.ConvRes.main (F := Bits))) ⟨m, fun _ => 0, g⟩ (fun r => (∀ c : Dev Cert.ConvRes.nD,
      r.2.mem ((c.tc : Thread Cert.ConvRes.nD Cert.ConvRes.τ).loc Cert.ConvRes.main_arg0) = m ((c.tc : Thread Cert.ConvRes.nD Cert.ConvRes.τ).loc Cert.ConvRes.main_arg0)
      ∧ r.2.mem ((c.tc : Thread Cert.ConvRes.nD Cert.ConvRes.τ).loc Cert.ConvRes.main_arg1) = m ((c.tc : Thread Cert.ConvRes.nD Cert.ConvRes.τ).loc Cert.ConvRes.main_arg1)
      ∧ r.2.mem ((c.tc : Thread Cert.ConvRes.nD Cert.ConvRes.τ).loc Cert.ConvRes.main_arg2) = m ((c.tc : Thread Cert.ConvRes.nD Cert.ConvRes.τ).loc Cert.ConvRes.main_arg2)
      ∧ r.2.mem ((c.tc : Thread Cert.ConvRes.nD Cert.ConvRes.τ).loc Cert.ConvRes.main_arg3) = m ((c.tc : Thread Cert.ConvRes.nD Cert.ConvRes.τ).loc Cert.ConvRes.main_arg3)
      ∧ r.2.mem ((c.tc : Thread Cert.ConvRes.nD Cert.ConvRes.τ).loc Cert.ConvRes.main_arg4) = m ((c.tc : Thread Cert.ConvRes.nD Cert.ConvRes.τ).loc Cert.ConvRes.main_arg4))
      ∧ r.2.sem = fun _ => 0)

def quiescent_ConvResIdeal [hConvResIdeal : Cert.ConvResIdeal.Facts] : Prop :=
  ∀ (m : (ℓ : Loc Cert.ConvResIdeal.nD Cert.ConvResIdeal.τ Cert.ConvResIdeal.sig) → Buf (Elt Ideal) ℓ) (g : Dev Cert.ConvResIdeal.nD → PrngReg), Pre_ConvResIdeal m →
    θ_run (Cert.ConvResIdeal.defs (F := Ideal)) (onTc (τ := Cert.ConvResIdeal.τ) (Cert.ConvResIdeal.main (F := Ideal))) ⟨m, fun _ => 0, g⟩ (fun r => (∀ c : Dev Cert.ConvResIdeal.nD,
      r.2.mem ((c.tc : Thread Cert.ConvResIdeal.nD Cert.ConvResIdeal.τ).loc Cert.ConvResIdeal.main_arg0) = m ((c.tc : Thread Cert.ConvResIdeal.nD Cert.ConvResIdeal.τ).loc Cert.ConvResIdeal.main_arg0)
      ∧ r.2.mem ((c.tc : Thread Cert.ConvResIdeal.nD Cert.ConvResIdeal.τ).loc Cert.ConvResIdeal.main_arg1) = m ((c.tc : Thread Cert.ConvResIdeal.nD Cert.ConvResIdeal.τ).loc Cert.ConvResIdeal.main_arg1)
      ∧ r.2.mem ((c.tc : Thread Cert.ConvResIdeal.nD Cert.ConvResIdeal.τ).loc Cert.ConvResIdeal.main_arg2) = m ((c.tc : Thread Cert.ConvResIdeal.nD Cert.ConvResIdeal.τ).loc Cert.ConvResIdeal.main_arg2)
      ∧ r.2.mem ((c.tc : Thread Cert.ConvResIdeal.nD Cert.ConvResIdeal.τ).loc Cert.ConvResIdeal.main_arg3) = m ((c.tc : Thread Cert.ConvResIdeal.nD Cert.ConvResIdeal.τ).loc Cert.ConvResIdeal.main_arg3)
      ∧ r.2.mem ((c.tc : Thread Cert.ConvResIdeal.nD Cert.ConvResIdeal.τ).loc Cert.ConvResIdeal.main_arg4) = m ((c.tc : Thread Cert.ConvResIdeal.nD Cert.ConvResIdeal.τ).loc Cert.ConvResIdeal.main_arg4))
      ∧ r.2.sem = fun _ => 0)

def quiescent_ConvResRefIdeal [hConvResRefIdeal : Cert.ConvResRefIdeal.Facts] : Prop :=
  ∀ (m : (ℓ : Loc Cert.ConvResRefIdeal.nD Cert.ConvResRefIdeal.τ Cert.ConvResRefIdeal.sig) → Buf (Elt Ideal) ℓ) (g : Dev Cert.ConvResRefIdeal.nD → PrngReg), Pre_ConvResRefIdeal m →
    θ_run (Cert.ConvResRefIdeal.defs (F := Ideal)) (onTc (τ := Cert.ConvResRefIdeal.τ) (Cert.ConvResRefIdeal.main (F := Ideal))) ⟨m, fun _ => 0, g⟩ (fun r => (∀ c : Dev Cert.ConvResRefIdeal.nD,
      r.2.mem ((c.tc : Thread Cert.ConvResRefIdeal.nD Cert.ConvResRefIdeal.τ).loc Cert.ConvResRefIdeal.main_arg0) = m ((c.tc : Thread Cert.ConvResRefIdeal.nD Cert.ConvResRefIdeal.τ).loc Cert.ConvResRefIdeal.main_arg0)
      ∧ r.2.mem ((c.tc : Thread Cert.ConvResRefIdeal.nD Cert.ConvResRefIdeal.τ).loc Cert.ConvResRefIdeal.main_arg1) = m ((c.tc : Thread Cert.ConvResRefIdeal.nD Cert.ConvResRefIdeal.τ).loc Cert.ConvResRefIdeal.main_arg1)
      ∧ r.2.mem ((c.tc : Thread Cert.ConvResRefIdeal.nD Cert.ConvResRefIdeal.τ).loc Cert.ConvResRefIdeal.main_arg2) = m ((c.tc : Thread Cert.ConvResRefIdeal.nD Cert.ConvResRefIdeal.τ).loc Cert.ConvResRefIdeal.main_arg2)
      ∧ r.2.mem ((c.tc : Thread Cert.ConvResRefIdeal.nD Cert.ConvResRefIdeal.τ).loc Cert.ConvResRefIdeal.main_arg3) = m ((c.tc : Thread Cert.ConvResRefIdeal.nD Cert.ConvResRefIdeal.τ).loc Cert.ConvResRefIdeal.main_arg3)
      ∧ r.2.mem ((c.tc : Thread Cert.ConvResRefIdeal.nD Cert.ConvResRefIdeal.τ).loc Cert.ConvResRefIdeal.main_arg4) = m ((c.tc : Thread Cert.ConvResRefIdeal.nD Cert.ConvResRefIdeal.τ).loc Cert.ConvResRefIdeal.main_arg4))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_AttnDx [hAttnDx : Cert.AttnDx.Facts] : Prop :=
  ∀ (m : (ℓ : Loc Cert.AttnDx.nD Cert.AttnDx.τ Cert.AttnDx.sig) → Buf (Elt Bits) ℓ) (g : Dev Cert.AttnDx.nD → PrngReg), Pre_AttnDx m →
    θ_run (Cert.AttnDx.defs (F := Bits)) (onTc (τ := Cert.AttnDx.τ) (Cert.AttnDx.main (F := Bits))) ⟨m, fun _ => 0, g⟩ (fun r => (∀ c : Dev Cert.AttnDx.nD,
      r.2.mem ((c.tc : Thread Cert.AttnDx.nD Cert.AttnDx.τ).loc Cert.AttnDx.main_arg0) = m ((c.tc : Thread Cert.AttnDx.nD Cert.AttnDx.τ).loc Cert.AttnDx.main_arg0)
      ∧ r.2.mem ((c.tc : Thread Cert.AttnDx.nD Cert.AttnDx.τ).loc Cert.AttnDx.main_arg1) = m ((c.tc : Thread Cert.AttnDx.nD Cert.AttnDx.τ).loc Cert.AttnDx.main_arg1))
      ∧ r.2.sem = fun _ => 0)

def quiescent_AttnDxIdeal [hAttnDxIdeal : Cert.AttnDxIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg), Pre_AttnDxIdeal m →
    θ_run (Cert.AttnDxIdeal.defs (F := Ideal)) (onTc (τ := Cert.AttnDxIdeal.τ) (Cert.AttnDxIdeal.main (F := Ideal))) ⟨m, fun _ => 0, g⟩ (fun r => (∀ c : Dev Cert.AttnDxIdeal.nD,
      r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
      ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1))
      ∧ r.2.sem = fun _ => 0)

def quiescent_AttnDxRefIdeal [hAttnDxRefIdeal : Cert.AttnDxRefIdeal.Facts] : Prop :=
  ∀ (m : (ℓ : Loc Cert.AttnDxRefIdeal.nD Cert.AttnDxRefIdeal.τ Cert.AttnDxRefIdeal.sig) → Buf (Elt Ideal) ℓ) (g : Dev Cert.AttnDxRefIdeal.nD → PrngReg), Pre_AttnDxRefIdeal m →
    θ_run (Cert.AttnDxRefIdeal.defs (F := Ideal)) (onTc (τ := Cert.AttnDxRefIdeal.τ) (Cert.AttnDxRefIdeal.main (F := Ideal))) ⟨m, fun _ => 0, g⟩ (fun r => (∀ c : Dev Cert.AttnDxRefIdeal.nD,
      r.2.mem ((c.tc : Thread Cert.AttnDxRefIdeal.nD Cert.AttnDxRefIdeal.τ).loc Cert.AttnDxRefIdeal.main_arg0) = m ((c.tc : Thread Cert.AttnDxRefIdeal.nD Cert.AttnDxRefIdeal.τ).loc Cert.AttnDxRefIdeal.main_arg0)
      ∧ r.2.mem ((c.tc : Thread Cert.AttnDxRefIdeal.nD Cert.AttnDxRefIdeal.τ).loc Cert.AttnDxRefIdeal.main_arg1) = m ((c.tc : Thread Cert.AttnDxRefIdeal.nD Cert.AttnDxRefIdeal.τ).loc Cert.AttnDxRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0)
      ∧ r.2.mem ((c.tc : Thread Cert.BiasGrad.nD Cert.BiasGrad.τ).loc Cert.BiasGrad.main_arg1) = m ((c.tc : Thread Cert.BiasGrad.nD Cert.BiasGrad.τ).loc Cert.BiasGrad.main_arg1))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradIdeal_pre_bucketed [hBiasGradIdeal : Cert.BiasGradIdeal.Facts] [hPre_bucketed : Cert.Pre_bucketed.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal_bucketed m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0)

def quiescent_BiasGradRefIdeal_pre_bucketed [hBiasGradRefIdeal : Cert.BiasGradRefIdeal.Facts] [hPre_bucketed : Cert.Pre_bucketed.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal_bucketed m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_bucketed_table [hBiasIdeal : Cert.BiasIdeal.Facts] [hPre_bucketed_table : Cert.Pre_bucketed_table.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_bucketed_table m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_BiasRefIdeal_pre_bucketed_table [hBiasRefIdeal : Cert.BiasRefIdeal.Facts] [hPre_bucketed_table : Cert.Pre_bucketed_table.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_bucketed_table m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0)

def quiescent_PoolW [hPoolW : Cert.PoolW.Facts] : Prop :=
  ∀ (m : (ℓ : Loc Cert.PoolW.nD Cert.PoolW.τ Cert.PoolW.sig) → Buf (Elt Bits) ℓ) (g : Dev Cert.PoolW.nD → PrngReg), Pre_PoolW m →
    θ_run (Cert.PoolW.defs (F := Bits)) (onTc (τ := Cert.PoolW.τ) (Cert.PoolW.main (F := Bits))) ⟨m, fun _ => 0, g⟩ (fun r => (∀ c : Dev Cert.PoolW.nD,
      r.2.mem ((c.tc : Thread Cert.PoolW.nD Cert.PoolW.τ).loc Cert.PoolW.main_arg0) = m ((c.tc : Thread Cert.PoolW.nD Cert.PoolW.τ).loc Cert.PoolW.main_arg0)
      ∧ r.2.mem ((c.tc : Thread Cert.PoolW.nD Cert.PoolW.τ).loc Cert.PoolW.main_arg1) = m ((c.tc : Thread Cert.PoolW.nD Cert.PoolW.τ).loc Cert.PoolW.main_arg1))
      ∧ r.2.sem = fun _ => 0)

def quiescent_PoolWIdeal [hPoolWIdeal : Cert.PoolWIdeal.Facts] : Prop :=
  ∀ (m : (ℓ : Loc Cert.PoolWIdeal.nD Cert.PoolWIdeal.τ Cert.PoolWIdeal.sig) → Buf (Elt Ideal) ℓ) (g : Dev Cert.PoolWIdeal.nD → PrngReg), Pre_PoolWIdeal m →
    θ_run (Cert.PoolWIdeal.defs (F := Ideal)) (onTc (τ := Cert.PoolWIdeal.τ) (Cert.PoolWIdeal.main (F := Ideal))) ⟨m, fun _ => 0, g⟩ (fun r => (∀ c : Dev Cert.PoolWIdeal.nD,
      r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
      ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1))
      ∧ r.2.sem = fun _ => 0)

def quiescent_PoolWRefIdeal [hPoolWRefIdeal : Cert.PoolWRefIdeal.Facts] : Prop :=
  ∀ (m : (ℓ : Loc Cert.PoolWRefIdeal.nD Cert.PoolWRefIdeal.τ Cert.PoolWRefIdeal.sig) → Buf (Elt Ideal) ℓ) (g : Dev Cert.PoolWRefIdeal.nD → PrngReg), Pre_PoolWRefIdeal m →
    θ_run (Cert.PoolWRefIdeal.defs (F := Ideal)) (onTc (τ := Cert.PoolWRefIdeal.τ) (Cert.PoolWRefIdeal.main (F := Ideal))) ⟨m, fun _ => 0, g⟩ (fun r => (∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ r.2.sem = fun _ => 0)

def quiescent_AdamScaleRefIdeal [hAdamScaleRefIdeal : Cert.AdamScaleRefIdeal.Facts] : Prop :=
  ∀ (m : (ℓ : Loc Cert.AdamScaleRefIdeal.nD Cert.AdamScaleRefIdeal.τ Cert.AdamScaleRefIdeal.sig) → Buf (Elt Ideal) ℓ) (g : Dev Cert.AdamScaleRefIdeal.nD → PrngReg), Pre_AdamScaleRefIdeal m →
    θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3))
      ∧ r.2.sem = fun _ => 0)

def quiescent_AdamSink [hAdamSink : Cert.AdamSink.Facts] : Prop :=
  ∀ (m : (ℓ : Loc Cert.AdamSink.nD Cert.AdamSink.τ Cert.AdamSink.sig) → Buf (Elt Bits) ℓ) (g : Dev Cert.AdamSink.nD → PrngReg), Pre_AdamSink m →
    θ_run (Cert.AdamSink.defs (F := Bits)) (onTc (τ := Cert.AdamSink.τ) (Cert.AdamSink.main (F := Bits))) ⟨m, fun _ => 0, g⟩ (fun r => (∀ c : Dev Cert.AdamSink.nD,
      r.2.mem ((c.tc : Thread Cert.AdamSink.nD Cert.AdamSink.τ).loc Cert.AdamSink.main_arg0) = m ((c.tc : Thread Cert.AdamSink.nD Cert.AdamSink.τ).loc Cert.AdamSink.main_arg0)
      ∧ r.2.mem ((c.tc : Thread Cert.AdamSink.nD Cert.AdamSink.τ).loc Cert.AdamSink.main_arg1) = m ((c.tc : Thread Cert.AdamSink.nD Cert.AdamSink.τ).loc Cert.AdamSink.main_arg1)
      ∧ r.2.mem ((c.tc : Thread Cert.AdamSink.nD Cert.AdamSink.τ).loc Cert.AdamSink.main_arg2) = m ((c.tc : Thread Cert.AdamSink.nD Cert.AdamSink.τ).loc Cert.AdamSink.main_arg2)
      ∧ r.2.mem ((c.tc : Thread Cert.AdamSink.nD Cert.AdamSink.τ).loc Cert.AdamSink.main_arg3) = m ((c.tc : Thread Cert.AdamSink.nD Cert.AdamSink.τ).loc Cert.AdamSink.main_arg3))
      ∧ r.2.sem = fun _ => 0)

def quiescent_AdamSinkIdeal [hAdamSinkIdeal : Cert.AdamSinkIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg), Pre_AdamSinkIdeal m →
    θ_run (Cert.AdamSinkIdeal.defs (F := Ideal)) (onTc (τ := Cert.AdamSinkIdeal.τ) (Cert.AdamSinkIdeal.main (F := Ideal))) ⟨m, fun _ => 0, g⟩ (fun r => (∀ c : Dev Cert.AdamSinkIdeal.nD,
      r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
      ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
      ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
      ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ r.2.sem = fun _ => 0)

def quiescent_AdamSinkRefIdeal [hAdamSinkRefIdeal : Cert.AdamSinkRefIdeal.Facts] : Prop :=
  ∀ (m : (ℓ : Loc Cert.AdamSinkRefIdeal.nD Cert.AdamSinkRefIdeal.τ Cert.AdamSinkRefIdeal.sig) → Buf (Elt Ideal) ℓ) (g : Dev Cert.AdamSinkRefIdeal.nD → PrngReg), Pre_AdamSinkRefIdeal m →
    θ_run (Cert.AdamSinkRefIdeal.defs (F := Ideal)) (onTc (τ := Cert.AdamSinkRefIdeal.τ) (Cert.AdamSinkRefIdeal.main (F := Ideal))) ⟨m, fun _ => 0, g⟩ (fun r => (∀ c : Dev Cert.AdamSinkRefIdeal.nD,
      r.2.mem ((c.tc : Thread Cert.AdamSinkRefIdeal.nD Cert.AdamSinkRefIdeal.τ).loc Cert.AdamSinkRefIdeal.main_arg0) = m ((c.tc : Thread Cert.AdamSinkRefIdeal.nD Cert.AdamSinkRefIdeal.τ).loc Cert.AdamSinkRefIdeal.main_arg0)
      ∧ r.2.mem ((c.tc : Thread Cert.AdamSinkRefIdeal.nD Cert.AdamSinkRefIdeal.τ).loc Cert.AdamSinkRefIdeal.main_arg1) = m ((c.tc : Thread Cert.AdamSinkRefIdeal.nD Cert.AdamSinkRefIdeal.τ).loc Cert.AdamSinkRefIdeal.main_arg1)
      ∧ r.2.mem ((c.tc : Thread Cert.AdamSinkRefIdeal.nD Cert.AdamSinkRefIdeal.τ).loc Cert.AdamSinkRefIdeal.main_arg2) = m ((c.tc : Thread Cert.AdamSinkRefIdeal.nD Cert.AdamSinkRefIdeal.τ).loc Cert.AdamSinkRefIdeal.main_arg2)
      ∧ r.2.mem ((c.tc : Thread Cert.AdamSinkRefIdeal.nD Cert.AdamSinkRefIdeal.τ).loc Cert.AdamSinkRefIdeal.main_arg3) = m ((c.tc : Thread Cert.AdamSinkRefIdeal.nD Cert.AdamSinkRefIdeal.τ).loc Cert.AdamSinkRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4)
      ∧ r.2.mem ((c.tc : Thread Cert.AdamFfn.nD Cert.AdamFfn.τ).loc Cert.AdamFfn.main_arg5) = m ((c.tc : Thread Cert.AdamFfn.nD Cert.AdamFfn.τ).loc Cert.AdamFfn.main_arg5)
      ∧ r.2.mem ((c.tc : Thread Cert.AdamFfn.nD Cert.AdamFfn.τ).loc Cert.AdamFfn.main_arg6) = m ((c.tc : Thread Cert.AdamFfn.nD Cert.AdamFfn.τ).loc Cert.AdamFfn.main_arg6)
      ∧ r.2.mem ((c.tc : Thread Cert.AdamFfn.nD Cert.AdamFfn.τ).loc Cert.AdamFfn.main_arg7) = m ((c.tc : Thread Cert.AdamFfn.nD Cert.AdamFfn.τ).loc Cert.AdamFfn.main_arg7))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4)
      ∧ r.2.mem ((c.tc : Thread Cert.AdamFfnIdeal.nD Cert.AdamFfnIdeal.τ).loc Cert.AdamFfnIdeal.main_arg5) = m ((c.tc : Thread Cert.AdamFfnIdeal.nD Cert.AdamFfnIdeal.τ).loc Cert.AdamFfnIdeal.main_arg5)
      ∧ r.2.mem ((c.tc : Thread Cert.AdamFfnIdeal.nD Cert.AdamFfnIdeal.τ).loc Cert.AdamFfnIdeal.main_arg6) = m ((c.tc : Thread Cert.AdamFfnIdeal.nD Cert.AdamFfnIdeal.τ).loc Cert.AdamFfnIdeal.main_arg6)
      ∧ r.2.mem ((c.tc : Thread Cert.AdamFfnIdeal.nD Cert.AdamFfnIdeal.τ).loc Cert.AdamFfnIdeal.main_arg7) = m ((c.tc : Thread Cert.AdamFfnIdeal.nD Cert.AdamFfnIdeal.τ).loc Cert.AdamFfnIdeal.main_arg7))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4)
      ∧ r.2.mem ((c.tc : Thread Cert.AdamFfnRefIdeal.nD Cert.AdamFfnRefIdeal.τ).loc Cert.AdamFfnRefIdeal.main_arg5) = m ((c.tc : Thread Cert.AdamFfnRefIdeal.nD Cert.AdamFfnRefIdeal.τ).loc Cert.AdamFfnRefIdeal.main_arg5)
      ∧ r.2.mem ((c.tc : Thread Cert.AdamFfnRefIdeal.nD Cert.AdamFfnRefIdeal.τ).loc Cert.AdamFfnRefIdeal.main_arg6) = m ((c.tc : Thread Cert.AdamFfnRefIdeal.nD Cert.AdamFfnRefIdeal.τ).loc Cert.AdamFfnRefIdeal.main_arg6)
      ∧ r.2.mem ((c.tc : Thread Cert.AdamFfnRefIdeal.nD Cert.AdamFfnRefIdeal.τ).loc Cert.AdamFfnRefIdeal.main_arg7) = m ((c.tc : Thread Cert.AdamFfnRefIdeal.nD Cert.AdamFfnRefIdeal.τ).loc Cert.AdamFfnRefIdeal.main_arg7))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5)
      ∧ r.2.mem ((c.tc : Thread Cert.AdamGate.nD Cert.AdamGate.τ).loc Cert.AdamGate.main_arg6) = m ((c.tc : Thread Cert.AdamGate.nD Cert.AdamGate.τ).loc Cert.AdamGate.main_arg6)
      ∧ r.2.mem ((c.tc : Thread Cert.AdamGate.nD Cert.AdamGate.τ).loc Cert.AdamGate.main_arg7) = m ((c.tc : Thread Cert.AdamGate.nD Cert.AdamGate.τ).loc Cert.AdamGate.main_arg7))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
      ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
      ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4)
      ∧ r.2.mem ((c.tc : Thread Cert.AdamGateRefIdeal.nD Cert.AdamGateRefIdeal.τ).loc Cert.AdamGateRefIdeal.main_arg5) = m ((c.tc : Thread Cert.AdamGateRefIdeal.nD Cert.AdamGateRefIdeal.τ).loc Cert.AdamGateRefIdeal.main_arg5)
      ∧ r.2.mem ((c.tc : Thread Cert.AdamGateRefIdeal.nD Cert.AdamGateRefIdeal.τ).loc Cert.AdamGateRefIdeal.main_arg6) = m ((c.tc : Thread Cert.AdamGateRefIdeal.nD Cert.AdamGateRefIdeal.τ).loc Cert.AdamGateRefIdeal.main_arg6)
      ∧ r.2.mem ((c.tc : Thread Cert.AdamGateRefIdeal.nD Cert.AdamGateRefIdeal.τ).loc Cert.AdamGateRefIdeal.main_arg7) = m ((c.tc : Thread Cert.AdamGateRefIdeal.nD Cert.AdamGateRefIdeal.τ).loc Cert.AdamGateRefIdeal.main_arg7))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4)
      ∧ r.2.mem ((c.tc : Thread Cert.AdamProj.nD Cert.AdamProj.τ).loc Cert.AdamProj.main_arg5) = m ((c.tc : Thread Cert.AdamProj.nD Cert.AdamProj.τ).loc Cert.AdamProj.main_arg5)
      ∧ r.2.mem ((c.tc : Thread Cert.AdamProj.nD Cert.AdamProj.τ).loc Cert.AdamProj.main_arg6) = m ((c.tc : Thread Cert.AdamProj.nD Cert.AdamProj.τ).loc Cert.AdamProj.main_arg6)
      ∧ r.2.mem ((c.tc : Thread Cert.AdamProj.nD Cert.AdamProj.τ).loc Cert.AdamProj.main_arg7) = m ((c.tc : Thread Cert.AdamProj.nD Cert.AdamProj.τ).loc Cert.AdamProj.main_arg7))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
      ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5)
      ∧ r.2.mem ((c.tc : Thread Cert.AdamProjIdeal.nD Cert.AdamProjIdeal.τ).loc Cert.AdamProjIdeal.main_arg6) = m ((c.tc : Thread Cert.AdamProjIdeal.nD Cert.AdamProjIdeal.τ).loc Cert.AdamProjIdeal.main_arg6)
      ∧ r.2.mem ((c.tc : Thread Cert.AdamProjIdeal.nD Cert.AdamProjIdeal.τ).loc Cert.AdamProjIdeal.main_arg7) = m ((c.tc : Thread Cert.AdamProjIdeal.nD Cert.AdamProjIdeal.τ).loc Cert.AdamProjIdeal.main_arg7))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4)
      ∧ r.2.mem ((c.tc : Thread Cert.AdamProjRefIdeal.nD Cert.AdamProjRefIdeal.τ).loc Cert.AdamProjRefIdeal.main_arg5) = m ((c.tc : Thread Cert.AdamProjRefIdeal.nD Cert.AdamProjRefIdeal.τ).loc Cert.AdamProjRefIdeal.main_arg5)
      ∧ r.2.mem ((c.tc : Thread Cert.AdamProjRefIdeal.nD Cert.AdamProjRefIdeal.τ).loc Cert.AdamProjRefIdeal.main_arg6) = m ((c.tc : Thread Cert.AdamProjRefIdeal.nD Cert.AdamProjRefIdeal.τ).loc Cert.AdamProjRefIdeal.main_arg6)
      ∧ r.2.mem ((c.tc : Thread Cert.AdamProjRefIdeal.nD Cert.AdamProjRefIdeal.τ).loc Cert.AdamProjRefIdeal.main_arg7) = m ((c.tc : Thread Cert.AdamProjRefIdeal.nD Cert.AdamProjRefIdeal.τ).loc Cert.AdamProjRefIdeal.main_arg7))
      ∧ r.2.sem = fun _ => 0)

def quiescent_AdamConvIn [hAdamConvIn : Cert.AdamConvIn.Facts] : Prop :=
  ∀ (m : (ℓ : Loc Cert.AdamConvIn.nD Cert.AdamConvIn.τ Cert.AdamConvIn.sig) → Buf (Elt Bits) ℓ) (g : Dev Cert.AdamConvIn.nD → PrngReg), Pre_AdamConvIn m →
    θ_run (Cert.AdamConvIn.defs (F := Bits)) (onTc (τ := Cert.AdamConvIn.τ) (Cert.AdamConvIn.main (F := Bits))) ⟨m, fun _ => 0, g⟩ (fun r => (∀ c : Dev Cert.AdamConvIn.nD,
      r.2.mem ((c.tc : Thread Cert.AdamConvIn.nD Cert.AdamConvIn.τ).loc Cert.AdamConvIn.main_arg0) = m ((c.tc : Thread Cert.AdamConvIn.nD Cert.AdamConvIn.τ).loc Cert.AdamConvIn.main_arg0)
      ∧ r.2.mem ((c.tc : Thread Cert.AdamConvIn.nD Cert.AdamConvIn.τ).loc Cert.AdamConvIn.main_arg1) = m ((c.tc : Thread Cert.AdamConvIn.nD Cert.AdamConvIn.τ).loc Cert.AdamConvIn.main_arg1)
      ∧ r.2.mem ((c.tc : Thread Cert.AdamConvIn.nD Cert.AdamConvIn.τ).loc Cert.AdamConvIn.main_arg2) = m ((c.tc : Thread Cert.AdamConvIn.nD Cert.AdamConvIn.τ).loc Cert.AdamConvIn.main_arg2)
      ∧ r.2.mem ((c.tc : Thread Cert.AdamConvIn.nD Cert.AdamConvIn.τ).loc Cert.AdamConvIn.main_arg3) = m ((c.tc : Thread Cert.AdamConvIn.nD Cert.AdamConvIn.τ).loc Cert.AdamConvIn.main_arg3)
      ∧ r.2.mem ((c.tc : Thread Cert.AdamConvIn.nD Cert.AdamConvIn.τ).loc Cert.AdamConvIn.main_arg4) = m ((c.tc : Thread Cert.AdamConvIn.nD Cert.AdamConvIn.τ).loc Cert.AdamConvIn.main_arg4)
      ∧ r.2.mem ((c.tc : Thread Cert.AdamConvIn.nD Cert.AdamConvIn.τ).loc Cert.AdamConvIn.main_arg5) = m ((c.tc : Thread Cert.AdamConvIn.nD Cert.AdamConvIn.τ).loc Cert.AdamConvIn.main_arg5)
      ∧ r.2.mem ((c.tc : Thread Cert.AdamConvIn.nD Cert.AdamConvIn.τ).loc Cert.AdamConvIn.main_arg6) = m ((c.tc : Thread Cert.AdamConvIn.nD Cert.AdamConvIn.τ).loc Cert.AdamConvIn.main_arg6)
      ∧ r.2.mem ((c.tc : Thread Cert.AdamConvIn.nD Cert.AdamConvIn.τ).loc Cert.AdamConvIn.main_arg7) = m ((c.tc : Thread Cert.AdamConvIn.nD Cert.AdamConvIn.τ).loc Cert.AdamConvIn.main_arg7))
      ∧ r.2.sem = fun _ => 0)

def quiescent_AdamConvInIdeal [hAdamConvInIdeal : Cert.AdamConvInIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg), Pre_AdamConvInIdeal m →
    θ_run (Cert.AdamConvInIdeal.defs (F := Ideal)) (onTc (τ := Cert.AdamConvInIdeal.τ) (Cert.AdamConvInIdeal.main (F := Ideal))) ⟨m, fun _ => 0, g⟩ (fun r => (∀ c : Dev Cert.AdamConvInIdeal.nD,
      r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
      ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
      ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
      ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3)
      ∧ r.2.mem ((c.tc : Thread Cert.AdamConvInIdeal.nD Cert.AdamConvInIdeal.τ).loc Cert.AdamConvInIdeal.main_arg4) = m ((c.tc : Thread Cert.AdamConvInIdeal.nD Cert.AdamConvInIdeal.τ).loc Cert.AdamConvInIdeal.main_arg4)
      ∧ r.2.mem ((c.tc : Thread Cert.AdamConvInIdeal.nD Cert.AdamConvInIdeal.τ).loc Cert.AdamConvInIdeal.main_arg5) = m ((c.tc : Thread Cert.AdamConvInIdeal.nD Cert.AdamConvInIdeal.τ).loc Cert.AdamConvInIdeal.main_arg5)
      ∧ r.2.mem ((c.tc : Thread Cert.AdamConvInIdeal.nD Cert.AdamConvInIdeal.τ).loc Cert.AdamConvInIdeal.main_arg6) = m ((c.tc : Thread Cert.AdamConvInIdeal.nD Cert.AdamConvInIdeal.τ).loc Cert.AdamConvInIdeal.main_arg6)
      ∧ r.2.mem ((c.tc : Thread Cert.AdamConvInIdeal.nD Cert.AdamConvInIdeal.τ).loc Cert.AdamConvInIdeal.main_arg7) = m ((c.tc : Thread Cert.AdamConvInIdeal.nD Cert.AdamConvInIdeal.τ).loc Cert.AdamConvInIdeal.main_arg7))
      ∧ r.2.sem = fun _ => 0)

def quiescent_AdamConvInRefIdeal [hAdamConvInRefIdeal : Cert.AdamConvInRefIdeal.Facts] : Prop :=
  ∀ (m : (ℓ : Loc Cert.AdamConvInRefIdeal.nD Cert.AdamConvInRefIdeal.τ Cert.AdamConvInRefIdeal.sig) → Buf (Elt Ideal) ℓ) (g : Dev Cert.AdamConvInRefIdeal.nD → PrngReg), Pre_AdamConvInRefIdeal m →
    θ_run (Cert.AdamConvInRefIdeal.defs (F := Ideal)) (onTc (τ := Cert.AdamConvInRefIdeal.τ) (Cert.AdamConvInRefIdeal.main (F := Ideal))) ⟨m, fun _ => 0, g⟩ (fun r => (∀ c : Dev Cert.AdamConvInRefIdeal.nD,
      r.2.mem ((c.tc : Thread Cert.AdamConvInRefIdeal.nD Cert.AdamConvInRefIdeal.τ).loc Cert.AdamConvInRefIdeal.main_arg0) = m ((c.tc : Thread Cert.AdamConvInRefIdeal.nD Cert.AdamConvInRefIdeal.τ).loc Cert.AdamConvInRefIdeal.main_arg0)
      ∧ r.2.mem ((c.tc : Thread Cert.AdamConvInRefIdeal.nD Cert.AdamConvInRefIdeal.τ).loc Cert.AdamConvInRefIdeal.main_arg1) = m ((c.tc : Thread Cert.AdamConvInRefIdeal.nD Cert.AdamConvInRefIdeal.τ).loc Cert.AdamConvInRefIdeal.main_arg1)
      ∧ r.2.mem ((c.tc : Thread Cert.AdamConvInRefIdeal.nD Cert.AdamConvInRefIdeal.τ).loc Cert.AdamConvInRefIdeal.main_arg2) = m ((c.tc : Thread Cert.AdamConvInRefIdeal.nD Cert.AdamConvInRefIdeal.τ).loc Cert.AdamConvInRefIdeal.main_arg2)
      ∧ r.2.mem ((c.tc : Thread Cert.AdamConvInRefIdeal.nD Cert.AdamConvInRefIdeal.τ).loc Cert.AdamConvInRefIdeal.main_arg3) = m ((c.tc : Thread Cert.AdamConvInRefIdeal.nD Cert.AdamConvInRefIdeal.τ).loc Cert.AdamConvInRefIdeal.main_arg3)
      ∧ r.2.mem ((c.tc : Thread Cert.AdamConvInRefIdeal.nD Cert.AdamConvInRefIdeal.τ).loc Cert.AdamConvInRefIdeal.main_arg4) = m ((c.tc : Thread Cert.AdamConvInRefIdeal.nD Cert.AdamConvInRefIdeal.τ).loc Cert.AdamConvInRefIdeal.main_arg4)
      ∧ r.2.mem ((c.tc : Thread Cert.AdamConvInRefIdeal.nD Cert.AdamConvInRefIdeal.τ).loc Cert.AdamConvInRefIdeal.main_arg5) = m ((c.tc : Thread Cert.AdamConvInRefIdeal.nD Cert.AdamConvInRefIdeal.τ).loc Cert.AdamConvInRefIdeal.main_arg5)
      ∧ r.2.mem ((c.tc : Thread Cert.AdamConvInRefIdeal.nD Cert.AdamConvInRefIdeal.τ).loc Cert.AdamConvInRefIdeal.main_arg6) = m ((c.tc : Thread Cert.AdamConvInRefIdeal.nD Cert.AdamConvInRefIdeal.τ).loc Cert.AdamConvInRefIdeal.main_arg6)
      ∧ r.2.mem ((c.tc : Thread Cert.AdamConvInRefIdeal.nD Cert.AdamConvInRefIdeal.τ).loc Cert.AdamConvInRefIdeal.main_arg7) = m ((c.tc : Thread Cert.AdamConvInRefIdeal.nD Cert.AdamConvInRefIdeal.τ).loc Cert.AdamConvInRefIdeal.main_arg7))
      ∧ r.2.sem = fun _ => 0)

def quiescent_AdamConvOut [hAdamConvOut : Cert.AdamConvOut.Facts] : Prop :=
  ∀ (m : (ℓ : Loc Cert.AdamConvOut.nD Cert.AdamConvOut.τ Cert.AdamConvOut.sig) → Buf (Elt Bits) ℓ) (g : Dev Cert.AdamConvOut.nD → PrngReg), Pre_AdamConvOut m →
    θ_run (Cert.AdamConvOut.defs (F := Bits)) (onTc (τ := Cert.AdamConvOut.τ) (Cert.AdamConvOut.main (F := Bits))) ⟨m, fun _ => 0, g⟩ (fun r => (∀ c : Dev Cert.AdamConvOut.nD,
      r.2.mem ((c.tc : Thread Cert.AdamConvOut.nD Cert.AdamConvOut.τ).loc Cert.AdamConvOut.main_arg0) = m ((c.tc : Thread Cert.AdamConvOut.nD Cert.AdamConvOut.τ).loc Cert.AdamConvOut.main_arg0)
      ∧ r.2.mem ((c.tc : Thread Cert.AdamConvOut.nD Cert.AdamConvOut.τ).loc Cert.AdamConvOut.main_arg1) = m ((c.tc : Thread Cert.AdamConvOut.nD Cert.AdamConvOut.τ).loc Cert.AdamConvOut.main_arg1)
      ∧ r.2.mem ((c.tc : Thread Cert.AdamConvOut.nD Cert.AdamConvOut.τ).loc Cert.AdamConvOut.main_arg2) = m ((c.tc : Thread Cert.AdamConvOut.nD Cert.AdamConvOut.τ).loc Cert.AdamConvOut.main_arg2)
      ∧ r.2.mem ((c.tc : Thread Cert.AdamConvOut.nD Cert.AdamConvOut.τ).loc Cert.AdamConvOut.main_arg3) = m ((c.tc : Thread Cert.AdamConvOut.nD Cert.AdamConvOut.τ).loc Cert.AdamConvOut.main_arg3)
      ∧ r.2.mem ((c.tc : Thread Cert.AdamConvOut.nD Cert.AdamConvOut.τ).loc Cert.AdamConvOut.main_arg4) = m ((c.tc : Thread Cert.AdamConvOut.nD Cert.AdamConvOut.τ).loc Cert.AdamConvOut.main_arg4)
      ∧ r.2.mem ((c.tc : Thread Cert.AdamConvOut.nD Cert.AdamConvOut.τ).loc Cert.AdamConvOut.main_arg5) = m ((c.tc : Thread Cert.AdamConvOut.nD Cert.AdamConvOut.τ).loc Cert.AdamConvOut.main_arg5)
      ∧ r.2.mem ((c.tc : Thread Cert.AdamConvOut.nD Cert.AdamConvOut.τ).loc Cert.AdamConvOut.main_arg6) = m ((c.tc : Thread Cert.AdamConvOut.nD Cert.AdamConvOut.τ).loc Cert.AdamConvOut.main_arg6)
      ∧ r.2.mem ((c.tc : Thread Cert.AdamConvOut.nD Cert.AdamConvOut.τ).loc Cert.AdamConvOut.main_arg7) = m ((c.tc : Thread Cert.AdamConvOut.nD Cert.AdamConvOut.τ).loc Cert.AdamConvOut.main_arg7))
      ∧ r.2.sem = fun _ => 0)

def quiescent_AdamConvOutIdeal [hAdamConvOutIdeal : Cert.AdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg), Pre_AdamConvOutIdeal m →
    θ_run (Cert.AdamConvOutIdeal.defs (F := Ideal)) (onTc (τ := Cert.AdamConvOutIdeal.τ) (Cert.AdamConvOutIdeal.main (F := Ideal))) ⟨m, fun _ => 0, g⟩ (fun r => (∀ c : Dev Cert.AdamConvOutIdeal.nD,
      r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
      ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
      ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
      ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3)
      ∧ r.2.mem ((c.tc : Thread Cert.AdamConvOutIdeal.nD Cert.AdamConvOutIdeal.τ).loc Cert.AdamConvOutIdeal.main_arg4) = m ((c.tc : Thread Cert.AdamConvOutIdeal.nD Cert.AdamConvOutIdeal.τ).loc Cert.AdamConvOutIdeal.main_arg4)
      ∧ r.2.mem ((c.tc : Thread Cert.AdamConvOutIdeal.nD Cert.AdamConvOutIdeal.τ).loc Cert.AdamConvOutIdeal.main_arg5) = m ((c.tc : Thread Cert.AdamConvOutIdeal.nD Cert.AdamConvOutIdeal.τ).loc Cert.AdamConvOutIdeal.main_arg5)
      ∧ r.2.mem ((c.tc : Thread Cert.AdamConvOutIdeal.nD Cert.AdamConvOutIdeal.τ).loc Cert.AdamConvOutIdeal.main_arg6) = m ((c.tc : Thread Cert.AdamConvOutIdeal.nD Cert.AdamConvOutIdeal.τ).loc Cert.AdamConvOutIdeal.main_arg6)
      ∧ r.2.mem ((c.tc : Thread Cert.AdamConvOutIdeal.nD Cert.AdamConvOutIdeal.τ).loc Cert.AdamConvOutIdeal.main_arg7) = m ((c.tc : Thread Cert.AdamConvOutIdeal.nD Cert.AdamConvOutIdeal.τ).loc Cert.AdamConvOutIdeal.main_arg7))
      ∧ r.2.sem = fun _ => 0)

def quiescent_AdamConvOutRefIdeal [hAdamConvOutRefIdeal : Cert.AdamConvOutRefIdeal.Facts] : Prop :=
  ∀ (m : (ℓ : Loc Cert.AdamConvOutRefIdeal.nD Cert.AdamConvOutRefIdeal.τ Cert.AdamConvOutRefIdeal.sig) → Buf (Elt Ideal) ℓ) (g : Dev Cert.AdamConvOutRefIdeal.nD → PrngReg), Pre_AdamConvOutRefIdeal m →
    θ_run (Cert.AdamConvOutRefIdeal.defs (F := Ideal)) (onTc (τ := Cert.AdamConvOutRefIdeal.τ) (Cert.AdamConvOutRefIdeal.main (F := Ideal))) ⟨m, fun _ => 0, g⟩ (fun r => (∀ c : Dev Cert.AdamConvOutRefIdeal.nD,
      r.2.mem ((c.tc : Thread Cert.AdamConvOutRefIdeal.nD Cert.AdamConvOutRefIdeal.τ).loc Cert.AdamConvOutRefIdeal.main_arg0) = m ((c.tc : Thread Cert.AdamConvOutRefIdeal.nD Cert.AdamConvOutRefIdeal.τ).loc Cert.AdamConvOutRefIdeal.main_arg0)
      ∧ r.2.mem ((c.tc : Thread Cert.AdamConvOutRefIdeal.nD Cert.AdamConvOutRefIdeal.τ).loc Cert.AdamConvOutRefIdeal.main_arg1) = m ((c.tc : Thread Cert.AdamConvOutRefIdeal.nD Cert.AdamConvOutRefIdeal.τ).loc Cert.AdamConvOutRefIdeal.main_arg1)
      ∧ r.2.mem ((c.tc : Thread Cert.AdamConvOutRefIdeal.nD Cert.AdamConvOutRefIdeal.τ).loc Cert.AdamConvOutRefIdeal.main_arg2) = m ((c.tc : Thread Cert.AdamConvOutRefIdeal.nD Cert.AdamConvOutRefIdeal.τ).loc Cert.AdamConvOutRefIdeal.main_arg2)
      ∧ r.2.mem ((c.tc : Thread Cert.AdamConvOutRefIdeal.nD Cert.AdamConvOutRefIdeal.τ).loc Cert.AdamConvOutRefIdeal.main_arg3) = m ((c.tc : Thread Cert.AdamConvOutRefIdeal.nD Cert.AdamConvOutRefIdeal.τ).loc Cert.AdamConvOutRefIdeal.main_arg3)
      ∧ r.2.mem ((c.tc : Thread Cert.AdamConvOutRefIdeal.nD Cert.AdamConvOutRefIdeal.τ).loc Cert.AdamConvOutRefIdeal.main_arg4) = m ((c.tc : Thread Cert.AdamConvOutRefIdeal.nD Cert.AdamConvOutRefIdeal.τ).loc Cert.AdamConvOutRefIdeal.main_arg4)
      ∧ r.2.mem ((c.tc : Thread Cert.AdamConvOutRefIdeal.nD Cert.AdamConvOutRefIdeal.τ).loc Cert.AdamConvOutRefIdeal.main_arg5) = m ((c.tc : Thread Cert.AdamConvOutRefIdeal.nD Cert.AdamConvOutRefIdeal.τ).loc Cert.AdamConvOutRefIdeal.main_arg5)
      ∧ r.2.mem ((c.tc : Thread Cert.AdamConvOutRefIdeal.nD Cert.AdamConvOutRefIdeal.τ).loc Cert.AdamConvOutRefIdeal.main_arg6) = m ((c.tc : Thread Cert.AdamConvOutRefIdeal.nD Cert.AdamConvOutRefIdeal.τ).loc Cert.AdamConvOutRefIdeal.main_arg6)
      ∧ r.2.mem ((c.tc : Thread Cert.AdamConvOutRefIdeal.nD Cert.AdamConvOutRefIdeal.τ).loc Cert.AdamConvOutRefIdeal.main_arg7) = m ((c.tc : Thread Cert.AdamConvOutRefIdeal.nD Cert.AdamConvOutRefIdeal.τ).loc Cert.AdamConvOutRefIdeal.main_arg7))
      ∧ r.2.sem = fun _ => 0)

def preserves_Hidden_HiddenIdeal : Prop :=
  True

def algebraic_HiddenIdeal_HiddenRefIdeal_pre_finite_hidden [hHiddenIdeal : Cert.HiddenIdeal.Facts] [hHiddenRefIdeal : Cert.HiddenRefIdeal.Facts] [hPre_finite_hidden : Cert.Pre_finite_hidden.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal_finite_hidden m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v0_0)) (v1 : (c : Dev Cert.HiddenIdeal.nD) → Buf (Elt Ideal) ((c.tc : Thread Cert.HiddenIdeal.nD Cert.HiddenIdeal.τ).loc Cert.HiddenIdeal.main_v0_1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0_0) = v0 c
          ∧ r.2.mem ((c.tc : Thread Cert.HiddenIdeal.nD Cert.HiddenIdeal.τ).loc Cert.HiddenIdeal.main_v0_1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v12) = v0 c
          ∧ r.2.mem ((c.tc : Thread Cert.HiddenRefIdeal.nD Cert.HiddenRefIdeal.τ).loc Cert.HiddenRefIdeal.main_v13) = v1 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v7) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v0)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v0) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v3) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_MmAdd_MmAddIdeal : Prop :=
  True

def algebraic_MmAddIdeal_MmAddRefIdeal [hMmAddIdeal : Cert.MmAddIdeal.Facts] [hMmAddRefIdeal : Cert.MmAddRefIdeal.Facts] : Prop :=
  ∀ (m : (ℓ : Loc Cert.MmAddIdeal.nD Cert.MmAddIdeal.τ Cert.MmAddIdeal.sig) → Buf (Elt Ideal) ℓ) (g : Dev Cert.MmAddIdeal.nD → PrngReg)
    (m' : (ℓ : Loc Cert.MmAddRefIdeal.nD Cert.MmAddRefIdeal.τ Cert.MmAddRefIdeal.sig) → Buf (Elt Ideal) ℓ) (g' : Dev Cert.MmAddRefIdeal.nD → PrngReg), Pre_MmAddIdeal m →
    (∀ c : Dev Cert.MmAddIdeal.nD,
      m' ((c.tc : Thread Cert.MmAddRefIdeal.nD Cert.MmAddRefIdeal.τ).loc Cert.MmAddRefIdeal.main_arg0) = m ((c.tc : Thread Cert.MmAddIdeal.nD Cert.MmAddIdeal.τ).loc Cert.MmAddIdeal.main_arg0)
      ∧ m' ((c.tc : Thread Cert.MmAddRefIdeal.nD Cert.MmAddRefIdeal.τ).loc Cert.MmAddRefIdeal.main_arg1) = m ((c.tc : Thread Cert.MmAddIdeal.nD Cert.MmAddIdeal.τ).loc Cert.MmAddIdeal.main_arg1)
      ∧ m' ((c.tc : Thread Cert.MmAddRefIdeal.nD Cert.MmAddRefIdeal.τ).loc Cert.MmAddRefIdeal.main_arg2) = m ((c.tc : Thread Cert.MmAddIdeal.nD Cert.MmAddIdeal.τ).loc Cert.MmAddIdeal.main_arg2)) →
    ∃ (v0 : (c : Dev Cert.MmAddIdeal.nD) → Buf (Elt Ideal) ((c.tc : Thread Cert.MmAddIdeal.nD Cert.MmAddIdeal.τ).loc Cert.MmAddIdeal.main_v0)),
      θ_run (Cert.MmAddIdeal.defs (F := Ideal)) (onTc (τ := Cert.MmAddIdeal.τ) (Cert.MmAddIdeal.main (F := Ideal))) ⟨m, fun _ => 0, g⟩ (fun r => ∀ c : Dev Cert.MmAddIdeal.nD,
          r.2.mem ((c.tc : Thread Cert.MmAddIdeal.nD Cert.MmAddIdeal.τ).loc Cert.MmAddIdeal.main_v0) = v0 c
          ∧ r.2.mem ((c.tc : Thread Cert.MmAddIdeal.nD Cert.MmAddIdeal.τ).loc Cert.MmAddIdeal.main_arg0) = m ((c.tc : Thread Cert.MmAddIdeal.nD Cert.MmAddIdeal.τ).loc Cert.MmAddIdeal.main_arg0)
          ∧ r.2.mem ((c.tc : Thread Cert.MmAddIdeal.nD Cert.MmAddIdeal.τ).loc Cert.MmAddIdeal.main_arg1) = m ((c.tc : Thread Cert.MmAddIdeal.nD Cert.MmAddIdeal.τ).loc Cert.MmAddIdeal.main_arg1)
          ∧ r.2.mem ((c.tc : Thread Cert.MmAddIdeal.nD Cert.MmAddIdeal.τ).loc Cert.MmAddIdeal.main_arg2) = m ((c.tc : Thread Cert.MmAddIdeal.nD Cert.MmAddIdeal.τ).loc Cert.MmAddIdeal.main_arg2))
      ∧ θ_run (Cert.MmAddRefIdeal.defs (F := Ideal)) (onTc (τ := Cert.MmAddRefIdeal.τ) (Cert.MmAddRefIdeal.main (F := Ideal))) ⟨m', fun _ => 0, g'⟩ (fun r => ∀ c : Dev Cert.MmAddRefIdeal.nD,
          r.2.mem ((c.tc : Thread Cert.MmAddRefIdeal.nD Cert.MmAddRefIdeal.τ).loc Cert.MmAddRefIdeal.main_v7) = v0 c
          ∧ r.2.mem ((c.tc : Thread Cert.MmAddRefIdeal.nD Cert.MmAddRefIdeal.τ).loc Cert.MmAddRefIdeal.main_arg0) = m' ((c.tc : Thread Cert.MmAddRefIdeal.nD Cert.MmAddRefIdeal.τ).loc Cert.MmAddRefIdeal.main_arg0)
          ∧ r.2.mem ((c.tc : Thread Cert.MmAddRefIdeal.nD Cert.MmAddRefIdeal.τ).loc Cert.MmAddRefIdeal.main_arg1) = m' ((c.tc : Thread Cert.MmAddRefIdeal.nD Cert.MmAddRefIdeal.τ).loc Cert.MmAddRefIdeal.main_arg1)
          ∧ r.2.mem ((c.tc : Thread Cert.MmAddRefIdeal.nD Cert.MmAddRefIdeal.τ).loc Cert.MmAddRefIdeal.main_arg2) = m' ((c.tc : Thread Cert.MmAddRefIdeal.nD Cert.MmAddRefIdeal.τ).loc Cert.MmAddRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_v13) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Dx_DxIdeal : Prop :=
  True

def algebraic_DxIdeal_DxRefIdeal_pre_finite_dx [hDxIdeal : Cert.DxIdeal.Facts] [hDxRefIdeal : Cert.DxRefIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_finite_dx m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)) (v2 : (c : Dev Cert.DxIdeal.nD) → Buf (Elt Ideal) ((c.tc : Thread Cert.DxIdeal.nD Cert.DxIdeal.τ).loc Cert.DxIdeal.main_v0_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_v0_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v43) = v0 c
          ∧ r.2.mem ((c.tc : Thread Cert.DxRefIdeal.nD Cert.DxRefIdeal.τ).loc Cert.DxRefIdeal.main_v44) = v1 c
          ∧ r.2.mem ((c.tc : Thread Cert.DxRefIdeal.nD Cert.DxRefIdeal.τ).loc Cert.DxRefIdeal.main_v42) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v15) = v1 c
          ∧ r.2.mem ((c.tc : Thread Cert.GateRefIdeal.nD Cert.GateRefIdeal.τ).loc Cert.GateRefIdeal.main_v30) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v0)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v0) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v7) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_Res_ResIdeal : Prop :=
  True

def algebraic_ResIdeal_ResRefIdeal_pre_finite_res [hResIdeal : Cert.ResIdeal.Facts] [hResRefIdeal : Cert.ResRefIdeal.Facts] [hPre_finite_res : Cert.Pre_finite_res.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal_finite_res m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v0_0)) (v1 : (c : Dev Cert.ResIdeal.nD) → Buf (Elt Ideal) ((c.tc : Thread Cert.ResIdeal.nD Cert.ResIdeal.τ).loc Cert.ResIdeal.main_v0_1)) (v2 : (c : Dev Cert.ResIdeal.nD) → Buf (Elt Ideal) ((c.tc : Thread Cert.ResIdeal.nD Cert.ResIdeal.τ).loc Cert.ResIdeal.main_v0_2)) (v3 : (c : Dev Cert.ResIdeal.nD) → Buf (Elt Ideal) ((c.tc : Thread Cert.ResIdeal.nD Cert.ResIdeal.τ).loc Cert.ResIdeal.main_v0_3)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v0_0) = v0 c
          ∧ r.2.mem ((c.tc : Thread Cert.ResIdeal.nD Cert.ResIdeal.τ).loc Cert.ResIdeal.main_v0_1) = v1 c
          ∧ r.2.mem ((c.tc : Thread Cert.ResIdeal.nD Cert.ResIdeal.τ).loc Cert.ResIdeal.main_v0_2) = v2 c
          ∧ r.2.mem ((c.tc : Thread Cert.ResIdeal.nD Cert.ResIdeal.τ).loc Cert.ResIdeal.main_v0_3) = v3 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v38) = v0 c
          ∧ r.2.mem ((c.tc : Thread Cert.ResRefIdeal.nD Cert.ResRefIdeal.τ).loc Cert.ResRefIdeal.main_v39) = v1 c
          ∧ r.2.mem ((c.tc : Thread Cert.ResRefIdeal.nD Cert.ResRefIdeal.τ).loc Cert.ResRefIdeal.main_v37) = v2 c
          ∧ r.2.mem ((c.tc : Thread Cert.ResRefIdeal.nD Cert.ResRefIdeal.τ).loc Cert.ResRefIdeal.main_v41) = v3 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_ResIn_ResInIdeal : Prop :=
  True

def algebraic_ResInIdeal_ResInRefIdeal_pre_finite_res [hResInIdeal : Cert.ResInIdeal.Facts] [hResInRefIdeal : Cert.ResInRefIdeal.Facts] [hPre_finite_res : Cert.Pre_finite_res.Facts] : Prop :=
  ∀ (m : (ℓ : Loc Cert.ResInIdeal.nD Cert.ResInIdeal.τ Cert.ResInIdeal.sig) → Buf (Elt Ideal) ℓ) (g : Dev Cert.ResInIdeal.nD → PrngReg)
    (m' : (ℓ : Loc Cert.ResInRefIdeal.nD Cert.ResInRefIdeal.τ Cert.ResInRefIdeal.sig) → Buf (Elt Ideal) ℓ) (g' : Dev Cert.ResInRefIdeal.nD → PrngReg), Pre_ResInIdeal_finite_res m →
    (∀ c : Dev Cert.ResInIdeal.nD,
      m' ((c.tc : Thread Cert.ResInRefIdeal.nD Cert.ResInRefIdeal.τ).loc Cert.ResInRefIdeal.main_arg0) = m ((c.tc : Thread Cert.ResInIdeal.nD Cert.ResInIdeal.τ).loc Cert.ResInIdeal.main_arg0)
      ∧ m' ((c.tc : Thread Cert.ResInRefIdeal.nD Cert.ResInRefIdeal.τ).loc Cert.ResInRefIdeal.main_arg1) = m ((c.tc : Thread Cert.ResInIdeal.nD Cert.ResInIdeal.τ).loc Cert.ResInIdeal.main_arg1)
      ∧ m' ((c.tc : Thread Cert.ResInRefIdeal.nD Cert.ResInRefIdeal.τ).loc Cert.ResInRefIdeal.main_arg2) = m ((c.tc : Thread Cert.ResInIdeal.nD Cert.ResInIdeal.τ).loc Cert.ResInIdeal.main_arg2)
      ∧ m' ((c.tc : Thread Cert.ResInRefIdeal.nD Cert.ResInRefIdeal.τ).loc Cert.ResInRefIdeal.main_arg3) = m ((c.tc : Thread Cert.ResInIdeal.nD Cert.ResInIdeal.τ).loc Cert.ResInIdeal.main_arg3)) →
    ∃ (v0 : (c : Dev Cert.ResInIdeal.nD) → Buf (Elt Ideal) ((c.tc : Thread Cert.ResInIdeal.nD Cert.ResInIdeal.τ).loc Cert.ResInIdeal.main_v0_0)) (v1 : (c : Dev Cert.ResInIdeal.nD) → Buf (Elt Ideal) ((c.tc : Thread Cert.ResInIdeal.nD Cert.ResInIdeal.τ).loc Cert.ResInIdeal.main_v0_1)) (v2 : (c : Dev Cert.ResInIdeal.nD) → Buf (Elt Ideal) ((c.tc : Thread Cert.ResInIdeal.nD Cert.ResInIdeal.τ).loc Cert.ResInIdeal.main_v0_2)),
      θ_run (Cert.ResInIdeal.defs (F := Ideal)) (onTc (τ := Cert.ResInIdeal.τ) (Cert.ResInIdeal.main (F := Ideal))) ⟨m, fun _ => 0, g⟩ (fun r => ∀ c : Dev Cert.ResInIdeal.nD,
          r.2.mem ((c.tc : Thread Cert.ResInIdeal.nD Cert.ResInIdeal.τ).loc Cert.ResInIdeal.main_v0_0) = v0 c
          ∧ r.2.mem ((c.tc : Thread Cert.ResInIdeal.nD Cert.ResInIdeal.τ).loc Cert.ResInIdeal.main_v0_1) = v1 c
          ∧ r.2.mem ((c.tc : Thread Cert.ResInIdeal.nD Cert.ResInIdeal.τ).loc Cert.ResInIdeal.main_v0_2) = v2 c
          ∧ r.2.mem ((c.tc : Thread Cert.ResInIdeal.nD Cert.ResInIdeal.τ).loc Cert.ResInIdeal.main_arg0) = m ((c.tc : Thread Cert.ResInIdeal.nD Cert.ResInIdeal.τ).loc Cert.ResInIdeal.main_arg0)
          ∧ r.2.mem ((c.tc : Thread Cert.ResInIdeal.nD Cert.ResInIdeal.τ).loc Cert.ResInIdeal.main_arg1) = m ((c.tc : Thread Cert.ResInIdeal.nD Cert.ResInIdeal.τ).loc Cert.ResInIdeal.main_arg1)
          ∧ r.2.mem ((c.tc : Thread Cert.ResInIdeal.nD Cert.ResInIdeal.τ).loc Cert.ResInIdeal.main_arg2) = m ((c.tc : Thread Cert.ResInIdeal.nD Cert.ResInIdeal.τ).loc Cert.ResInIdeal.main_arg2)
          ∧ r.2.mem ((c.tc : Thread Cert.ResInIdeal.nD Cert.ResInIdeal.τ).loc Cert.ResInIdeal.main_arg3) = m ((c.tc : Thread Cert.ResInIdeal.nD Cert.ResInIdeal.τ).loc Cert.ResInIdeal.main_arg3))
      ∧ θ_run (Cert.ResInRefIdeal.defs (F := Ideal)) (onTc (τ := Cert.ResInRefIdeal.τ) (Cert.ResInRefIdeal.main (F := Ideal))) ⟨m', fun _ => 0, g'⟩ (fun r => ∀ c : Dev Cert.ResInRefIdeal.nD,
          r.2.mem ((c.tc : Thread Cert.ResInRefIdeal.nD Cert.ResInRefIdeal.τ).loc Cert.ResInRefIdeal.main_v38) = v0 c
          ∧ r.2.mem ((c.tc : Thread Cert.ResInRefIdeal.nD Cert.ResInRefIdeal.τ).loc Cert.ResInRefIdeal.main_v39) = v1 c
          ∧ r.2.mem ((c.tc : Thread Cert.ResInRefIdeal.nD Cert.ResInRefIdeal.τ).loc Cert.ResInRefIdeal.main_v37) = v2 c
          ∧ r.2.mem ((c.tc : Thread Cert.ResInRefIdeal.nD Cert.ResInRefIdeal.τ).loc Cert.ResInRefIdeal.main_arg0) = m' ((c.tc : Thread Cert.ResInRefIdeal.nD Cert.ResInRefIdeal.τ).loc Cert.ResInRefIdeal.main_arg0)
          ∧ r.2.mem ((c.tc : Thread Cert.ResInRefIdeal.nD Cert.ResInRefIdeal.τ).loc Cert.ResInRefIdeal.main_arg1) = m' ((c.tc : Thread Cert.ResInRefIdeal.nD Cert.ResInRefIdeal.τ).loc Cert.ResInRefIdeal.main_arg1)
          ∧ r.2.mem ((c.tc : Thread Cert.ResInRefIdeal.nD Cert.ResInRefIdeal.τ).loc Cert.ResInRefIdeal.main_arg2) = m' ((c.tc : Thread Cert.ResInRefIdeal.nD Cert.ResInRefIdeal.τ).loc Cert.ResInRefIdeal.main_arg2)
          ∧ r.2.mem ((c.tc : Thread Cert.ResInRefIdeal.nD Cert.ResInRefIdeal.τ).loc Cert.ResInRefIdeal.main_arg3) = m' ((c.tc : Thread Cert.ResInRefIdeal.nD Cert.ResInRefIdeal.τ).loc Cert.ResInRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_PoolOut_PoolOutIdeal : Prop :=
  True

def algebraic_PoolOutIdeal_PoolOutRefIdeal [hPoolOutIdeal : Cert.PoolOutIdeal.Facts] [hPoolOutRefIdeal : Cert.PoolOutRefIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg)
    (m' : (ℓ : Loc Cert.PoolOutRefIdeal.nD Cert.PoolOutRefIdeal.τ Cert.PoolOutRefIdeal.sig) → Buf (Elt Ideal) ℓ) (g' : Dev Cert.PoolOutRefIdeal.nD → PrngReg), Pre_PoolOutIdeal m →
    (∀ c : Dev Cert.PoolOutIdeal.nD,
      m' ((c.tc : Thread Cert.PoolOutRefIdeal.nD Cert.PoolOutRefIdeal.τ).loc Cert.PoolOutRefIdeal.main_arg0) = m ((c.tc : Thread Cert.PoolOutIdeal.nD Cert.PoolOutIdeal.τ).loc Cert.PoolOutIdeal.main_arg0)
      ∧ m' ((c.tc : Thread Cert.PoolOutRefIdeal.nD Cert.PoolOutRefIdeal.τ).loc Cert.PoolOutRefIdeal.main_arg1) = m ((c.tc : Thread Cert.PoolOutIdeal.nD Cert.PoolOutIdeal.τ).loc Cert.PoolOutIdeal.main_arg1)
      ∧ m' ((c.tc : Thread Cert.PoolOutRefIdeal.nD Cert.PoolOutRefIdeal.τ).loc Cert.PoolOutRefIdeal.main_arg2) = m ((c.tc : Thread Cert.PoolOutIdeal.nD Cert.PoolOutIdeal.τ).loc Cert.PoolOutIdeal.main_arg2)
      ∧ m' ((c.tc : Thread Cert.PoolOutRefIdeal.nD Cert.PoolOutRefIdeal.τ).loc Cert.PoolOutRefIdeal.main_arg3) = m ((c.tc : Thread Cert.PoolOutIdeal.nD Cert.PoolOutIdeal.τ).loc Cert.PoolOutIdeal.main_arg3)) →
    ∃ (v0 : (c : Dev Cert.PoolOutIdeal.nD) → Buf (Elt Ideal) ((c.tc : Thread Cert.PoolOutIdeal.nD Cert.PoolOutIdeal.τ).loc Cert.PoolOutIdeal.main_v0_0)) (v1 : (c : Dev Cert.PoolOutIdeal.nD) → Buf (Elt Ideal) ((c.tc : Thread Cert.PoolOutIdeal.nD Cert.PoolOutIdeal.τ).loc Cert.PoolOutIdeal.main_v0_1)) (v2 : (c : Dev Cert.PoolOutIdeal.nD) → Buf (Elt Ideal) ((c.tc : Thread Cert.PoolOutIdeal.nD Cert.PoolOutIdeal.τ).loc Cert.PoolOutIdeal.main_v0_2)),
      θ_run (Cert.PoolOutIdeal.defs (F := Ideal)) (onTc (τ := Cert.PoolOutIdeal.τ) (Cert.PoolOutIdeal.main (F := Ideal))) ⟨m, fun _ => 0, g⟩ (fun r => ∀ c : Dev Cert.PoolOutIdeal.nD,
          r.2.mem ((c.tc : Thread Cert.PoolOutIdeal.nD Cert.PoolOutIdeal.τ).loc Cert.PoolOutIdeal.main_v0_0) = v0 c
          ∧ r.2.mem ((c.tc : Thread Cert.PoolOutIdeal.nD Cert.PoolOutIdeal.τ).loc Cert.PoolOutIdeal.main_v0_1) = v1 c
          ∧ r.2.mem ((c.tc : Thread Cert.PoolOutIdeal.nD Cert.PoolOutIdeal.τ).loc Cert.PoolOutIdeal.main_v0_2) = v2 c
          ∧ r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
          ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
          ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
          ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3))
      ∧ θ_run (Cert.PoolOutRefIdeal.defs (F := Ideal)) (onTc (τ := Cert.PoolOutRefIdeal.τ) (Cert.PoolOutRefIdeal.main (F := Ideal))) ⟨m', fun _ => 0, g'⟩ (fun r => ∀ c : Dev Cert.PoolOutRefIdeal.nD,
          r.2.mem ((c.tc : Thread Cert.PoolOutRefIdeal.nD Cert.PoolOutRefIdeal.τ).loc Cert.PoolOutRefIdeal.main_v24) = v0 c
          ∧ r.2.mem ((c.tc : Thread Cert.PoolOutRefIdeal.nD Cert.PoolOutRefIdeal.τ).loc Cert.PoolOutRefIdeal.main_v12) = v1 c
          ∧ r.2.mem ((c.tc : Thread Cert.PoolOutRefIdeal.nD Cert.PoolOutRefIdeal.τ).loc Cert.PoolOutRefIdeal.main_v11) = v2 c
          ∧ r.2.mem ((c.tc : Thread Cert.PoolOutRefIdeal.nD Cert.PoolOutRefIdeal.τ).loc Cert.PoolOutRefIdeal.main_arg0) = m' ((c.tc : Thread Cert.PoolOutRefIdeal.nD Cert.PoolOutRefIdeal.τ).loc Cert.PoolOutRefIdeal.main_arg0)
          ∧ r.2.mem ((c.tc : Thread Cert.PoolOutRefIdeal.nD Cert.PoolOutRefIdeal.τ).loc Cert.PoolOutRefIdeal.main_arg1) = m' ((c.tc : Thread Cert.PoolOutRefIdeal.nD Cert.PoolOutRefIdeal.τ).loc Cert.PoolOutRefIdeal.main_arg1)
          ∧ r.2.mem ((c.tc : Thread Cert.PoolOutRefIdeal.nD Cert.PoolOutRefIdeal.τ).loc Cert.PoolOutRefIdeal.main_arg2) = m' ((c.tc : Thread Cert.PoolOutRefIdeal.nD Cert.PoolOutRefIdeal.τ).loc Cert.PoolOutRefIdeal.main_arg2)
          ∧ r.2.mem ((c.tc : Thread Cert.PoolOutRefIdeal.nD Cert.PoolOutRefIdeal.τ).loc Cert.PoolOutRefIdeal.main_arg3) = m' ((c.tc : Thread Cert.PoolOutRefIdeal.nD Cert.PoolOutRefIdeal.τ).loc Cert.PoolOutRefIdeal.main_arg3))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v9) = v0 c
          ∧ r.2.mem ((c.tc : Thread Cert.GateBwdRefIdeal.nD Cert.GateBwdRefIdeal.τ).loc Cert.GateBwdRefIdeal.main_v10) = v1 c
          ∧ r.2.mem ((c.tc : Thread Cert.GateBwdRefIdeal.nD Cert.GateBwdRefIdeal.τ).loc Cert.GateBwdRefIdeal.main_v12) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_ConvOut_ConvOutIdeal : Prop :=
  True

def algebraic_ConvOutIdeal_ConvOutRefIdeal_pre_finite_conv [hConvOutIdeal : Cert.ConvOutIdeal.Facts] [hConvOutRefIdeal : Cert.ConvOutRefIdeal.Facts] [hPre_finite_conv : Cert.Pre_finite_conv.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal_finite_conv m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)) →
    ∃ (v0 : (c : Dev Cert.ConvOutIdeal.nD) → Buf (Elt Ideal) ((c.tc : Thread Cert.ConvOutIdeal.nD Cert.ConvOutIdeal.τ).loc Cert.ConvOutIdeal.main_v0_0)) (v1 : (c : Dev Cert.ConvOutIdeal.nD) → Buf (Elt Ideal) ((c.tc : Thread Cert.ConvOutIdeal.nD Cert.ConvOutIdeal.τ).loc Cert.ConvOutIdeal.main_v0_1)) (v2 : (c : Dev Cert.ConvOutIdeal.nD) → Buf (Elt Ideal) ((c.tc : Thread Cert.ConvOutIdeal.nD Cert.ConvOutIdeal.τ).loc Cert.ConvOutIdeal.main_v0_2)) (v3 : (c : Dev Cert.ConvOutIdeal.nD) → Buf (Elt Ideal) ((c.tc : Thread Cert.ConvOutIdeal.nD Cert.ConvOutIdeal.τ).loc Cert.ConvOutIdeal.main_v0_3)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0_0) = v0 c
          ∧ r.2.mem ((c.tc : Thread Cert.ConvOutIdeal.nD Cert.ConvOutIdeal.τ).loc Cert.ConvOutIdeal.main_v0_1) = v1 c
          ∧ r.2.mem ((c.tc : Thread Cert.ConvOutIdeal.nD Cert.ConvOutIdeal.τ).loc Cert.ConvOutIdeal.main_v0_2) = v2 c
          ∧ r.2.mem ((c.tc : Thread Cert.ConvOutIdeal.nD Cert.ConvOutIdeal.τ).loc Cert.ConvOutIdeal.main_v0_3) = v3 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v64) = v0 c
          ∧ r.2.mem ((c.tc : Thread Cert.ConvOutRefIdeal.nD Cert.ConvOutRefIdeal.τ).loc Cert.ConvOutRefIdeal.main_v66) = v1 c
          ∧ r.2.mem ((c.tc : Thread Cert.ConvOutRefIdeal.nD Cert.ConvOutRefIdeal.τ).loc Cert.ConvOutRefIdeal.main_v65) = v2 c
          ∧ r.2.mem ((c.tc : Thread Cert.ConvOutRefIdeal.nD Cert.ConvOutRefIdeal.τ).loc Cert.ConvOutRefIdeal.main_v68) = v3 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)
      ∧ m' ((c.tc : Thread Cert.PoolFwdRefIdeal.nD Cert.PoolFwdRefIdeal.τ).loc Cert.PoolFwdRefIdeal.main_arg4) = m ((c.tc : Thread Cert.PoolFwdIdeal.nD Cert.PoolFwdIdeal.τ).loc Cert.PoolFwdIdeal.main_arg4)) →
    ∃ (v0 : (c : Dev Cert.PoolFwdIdeal.nD) → Buf (Elt Ideal) ((c.tc : Thread Cert.PoolFwdIdeal.nD Cert.PoolFwdIdeal.τ).loc Cert.PoolFwdIdeal.main_v0_0)) (v1 : (c : Dev Cert.PoolFwdIdeal.nD) → Buf (Elt Ideal) ((c.tc : Thread Cert.PoolFwdIdeal.nD Cert.PoolFwdIdeal.τ).loc Cert.PoolFwdIdeal.main_v0_1)) (v2 : (c : Dev Cert.PoolFwdIdeal.nD) → Buf (Elt Ideal) ((c.tc : Thread Cert.PoolFwdIdeal.nD Cert.PoolFwdIdeal.τ).loc Cert.PoolFwdIdeal.main_v0_2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0_0) = v0 c
          ∧ r.2.mem ((c.tc : Thread Cert.PoolFwdIdeal.nD Cert.PoolFwdIdeal.τ).loc Cert.PoolFwdIdeal.main_v0_1) = v1 c
          ∧ r.2.mem ((c.tc : Thread Cert.PoolFwdIdeal.nD Cert.PoolFwdIdeal.τ).loc Cert.PoolFwdIdeal.main_v0_2) = v2 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
          ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v8) = v0 c
          ∧ r.2.mem ((c.tc : Thread Cert.PoolFwdRefIdeal.nD Cert.PoolFwdRefIdeal.τ).loc Cert.PoolFwdRefIdeal.main_v9) = v1 c
          ∧ r.2.mem ((c.tc : Thread Cert.PoolFwdRefIdeal.nD Cert.PoolFwdRefIdeal.τ).loc Cert.PoolFwdRefIdeal.main_v24) = v2 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3)
          ∧ r.2.mem ((c.tc : Thread Cert.PoolFwdRefIdeal.nD Cert.PoolFwdRefIdeal.τ).loc Cert.PoolFwdRefIdeal.main_arg4) = m' ((c.tc : Thread Cert.PoolFwdRefIdeal.nD Cert.PoolFwdRefIdeal.τ).loc Cert.PoolFwdRefIdeal.main_arg4))

def preserves_FfnRes_FfnResIdeal : Prop :=
  True

def algebraic_FfnResIdeal_FfnResRefIdeal [hFfnResIdeal : Cert.FfnResIdeal.Facts] [hFfnResRefIdeal : Cert.FfnResRefIdeal.Facts] : Prop :=
  ∀ (m : (ℓ : Loc Cert.FfnResIdeal.nD Cert.FfnResIdeal.τ Cert.FfnResIdeal.sig) → Buf (Elt Ideal) ℓ) (g : Dev Cert.FfnResIdeal.nD → PrngReg)
    (m' : (ℓ : Loc Cert.FfnResRefIdeal.nD Cert.FfnResRefIdeal.τ Cert.FfnResRefIdeal.sig) → Buf (Elt Ideal) ℓ) (g' : Dev Cert.FfnResRefIdeal.nD → PrngReg), Pre_FfnResIdeal m →
    (∀ c : Dev Cert.FfnResIdeal.nD,
      m' ((c.tc : Thread Cert.FfnResRefIdeal.nD Cert.FfnResRefIdeal.τ).loc Cert.FfnResRefIdeal.main_arg0) = m ((c.tc : Thread Cert.FfnResIdeal.nD Cert.FfnResIdeal.τ).loc Cert.FfnResIdeal.main_arg0)
      ∧ m' ((c.tc : Thread Cert.FfnResRefIdeal.nD Cert.FfnResRefIdeal.τ).loc Cert.FfnResRefIdeal.main_arg1) = m ((c.tc : Thread Cert.FfnResIdeal.nD Cert.FfnResIdeal.τ).loc Cert.FfnResIdeal.main_arg1)
      ∧ m' ((c.tc : Thread Cert.FfnResRefIdeal.nD Cert.FfnResRefIdeal.τ).loc Cert.FfnResRefIdeal.main_arg2) = m ((c.tc : Thread Cert.FfnResIdeal.nD Cert.FfnResIdeal.τ).loc Cert.FfnResIdeal.main_arg2)) →
    ∃ (v0 : (c : Dev Cert.FfnResIdeal.nD) → Buf (Elt Ideal) ((c.tc : Thread Cert.FfnResIdeal.nD Cert.FfnResIdeal.τ).loc Cert.FfnResIdeal.main_v0_0)) (v1 : (c : Dev Cert.FfnResIdeal.nD) → Buf (Elt Ideal) ((c.tc : Thread Cert.FfnResIdeal.nD Cert.FfnResIdeal.τ).loc Cert.FfnResIdeal.main_v0_1)),
      θ_run (Cert.FfnResIdeal.defs (F := Ideal)) (onTc (τ := Cert.FfnResIdeal.τ) (Cert.FfnResIdeal.main (F := Ideal))) ⟨m, fun _ => 0, g⟩ (fun r => ∀ c : Dev Cert.FfnResIdeal.nD,
          r.2.mem ((c.tc : Thread Cert.FfnResIdeal.nD Cert.FfnResIdeal.τ).loc Cert.FfnResIdeal.main_v0_0) = v0 c
          ∧ r.2.mem ((c.tc : Thread Cert.FfnResIdeal.nD Cert.FfnResIdeal.τ).loc Cert.FfnResIdeal.main_v0_1) = v1 c
          ∧ r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
          ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
          ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2))
      ∧ θ_run (Cert.FfnResRefIdeal.defs (F := Ideal)) (onTc (τ := Cert.FfnResRefIdeal.τ) (Cert.FfnResRefIdeal.main (F := Ideal))) ⟨m', fun _ => 0, g'⟩ (fun r => ∀ c : Dev Cert.FfnResRefIdeal.nD,
          r.2.mem ((c.tc : Thread Cert.FfnResRefIdeal.nD Cert.FfnResRefIdeal.τ).loc Cert.FfnResRefIdeal.main_v0) = v0 c
          ∧ r.2.mem ((c.tc : Thread Cert.FfnResRefIdeal.nD Cert.FfnResRefIdeal.τ).loc Cert.FfnResRefIdeal.main_v15) = v1 c
          ∧ r.2.mem ((c.tc : Thread Cert.FfnResRefIdeal.nD Cert.FfnResRefIdeal.τ).loc Cert.FfnResRefIdeal.main_arg0) = m' ((c.tc : Thread Cert.FfnResRefIdeal.nD Cert.FfnResRefIdeal.τ).loc Cert.FfnResRefIdeal.main_arg0)
          ∧ r.2.mem ((c.tc : Thread Cert.FfnResRefIdeal.nD Cert.FfnResRefIdeal.τ).loc Cert.FfnResRefIdeal.main_arg1) = m' ((c.tc : Thread Cert.FfnResRefIdeal.nD Cert.FfnResRefIdeal.τ).loc Cert.FfnResRefIdeal.main_arg1)
          ∧ r.2.mem ((c.tc : Thread Cert.FfnResRefIdeal.nD Cert.FfnResRefIdeal.τ).loc Cert.FfnResRefIdeal.main_arg2) = m' ((c.tc : Thread Cert.FfnResRefIdeal.nD Cert.FfnResRefIdeal.τ).loc Cert.FfnResRefIdeal.main_arg2))

def preserves_AttnRes_AttnResIdeal : Prop :=
  True

def algebraic_AttnResIdeal_AttnResRefIdeal [hAttnResIdeal : Cert.AttnResIdeal.Facts] [hAttnResRefIdeal : Cert.AttnResRefIdeal.Facts] : Prop :=
  ∀ (m : (ℓ : Loc Cert.AttnResIdeal.nD Cert.AttnResIdeal.τ Cert.AttnResIdeal.sig) → Buf (Elt Ideal) ℓ) (g : Dev Cert.AttnResIdeal.nD → PrngReg)
    (m' : (ℓ : Loc Cert.AttnResRefIdeal.nD Cert.AttnResRefIdeal.τ Cert.AttnResRefIdeal.sig) → Buf (Elt Ideal) ℓ) (g' : Dev Cert.AttnResRefIdeal.nD → PrngReg), Pre_AttnResIdeal m →
    (∀ c : Dev Cert.AttnResIdeal.nD,
      m' ((c.tc : Thread Cert.AttnResRefIdeal.nD Cert.AttnResRefIdeal.τ).loc Cert.AttnResRefIdeal.main_arg0) = m ((c.tc : Thread Cert.AttnResIdeal.nD Cert.AttnResIdeal.τ).loc Cert.AttnResIdeal.main_arg0)
      ∧ m' ((c.tc : Thread Cert.AttnResRefIdeal.nD Cert.AttnResRefIdeal.τ).loc Cert.AttnResRefIdeal.main_arg1) = m ((c.tc : Thread Cert.AttnResIdeal.nD Cert.AttnResIdeal.τ).loc Cert.AttnResIdeal.main_arg1)
      ∧ m' ((c.tc : Thread Cert.AttnResRefIdeal.nD Cert.AttnResRefIdeal.τ).loc Cert.AttnResRefIdeal.main_arg2) = m ((c.tc : Thread Cert.AttnResIdeal.nD Cert.AttnResIdeal.τ).loc Cert.AttnResIdeal.main_arg2)
      ∧ m' ((c.tc : Thread Cert.AttnResRefIdeal.nD Cert.AttnResRefIdeal.τ).loc Cert.AttnResRefIdeal.main_arg3) = m ((c.tc : Thread Cert.AttnResIdeal.nD Cert.AttnResIdeal.τ).loc Cert.AttnResIdeal.main_arg3)) →
    ∃ (v0 : (c : Dev Cert.AttnResIdeal.nD) → Buf (Elt Ideal) ((c.tc : Thread Cert.AttnResIdeal.nD Cert.AttnResIdeal.τ).loc Cert.AttnResIdeal.main_v0_0)) (v1 : (c : Dev Cert.AttnResIdeal.nD) → Buf (Elt Ideal) ((c.tc : Thread Cert.AttnResIdeal.nD Cert.AttnResIdeal.τ).loc Cert.AttnResIdeal.main_v0_1)),
      θ_run (Cert.AttnResIdeal.defs (F := Ideal)) (onTc (τ := Cert.AttnResIdeal.τ) (Cert.AttnResIdeal.main (F := Ideal))) ⟨m, fun _ => 0, g⟩ (fun r => ∀ c : Dev Cert.AttnResIdeal.nD,
          r.2.mem ((c.tc : Thread Cert.AttnResIdeal.nD Cert.AttnResIdeal.τ).loc Cert.AttnResIdeal.main_v0_0) = v0 c
          ∧ r.2.mem ((c.tc : Thread Cert.AttnResIdeal.nD Cert.AttnResIdeal.τ).loc Cert.AttnResIdeal.main_v0_1) = v1 c
          ∧ r.2.mem ((c.tc : Thread Cert.AttnResIdeal.nD Cert.AttnResIdeal.τ).loc Cert.AttnResIdeal.main_arg0) = m ((c.tc : Thread Cert.AttnResIdeal.nD Cert.AttnResIdeal.τ).loc Cert.AttnResIdeal.main_arg0)
          ∧ r.2.mem ((c.tc : Thread Cert.AttnResIdeal.nD Cert.AttnResIdeal.τ).loc Cert.AttnResIdeal.main_arg1) = m ((c.tc : Thread Cert.AttnResIdeal.nD Cert.AttnResIdeal.τ).loc Cert.AttnResIdeal.main_arg1)
          ∧ r.2.mem ((c.tc : Thread Cert.AttnResIdeal.nD Cert.AttnResIdeal.τ).loc Cert.AttnResIdeal.main_arg2) = m ((c.tc : Thread Cert.AttnResIdeal.nD Cert.AttnResIdeal.τ).loc Cert.AttnResIdeal.main_arg2)
          ∧ r.2.mem ((c.tc : Thread Cert.AttnResIdeal.nD Cert.AttnResIdeal.τ).loc Cert.AttnResIdeal.main_arg3) = m ((c.tc : Thread Cert.AttnResIdeal.nD Cert.AttnResIdeal.τ).loc Cert.AttnResIdeal.main_arg3))
      ∧ θ_run (Cert.AttnResRefIdeal.defs (F := Ideal)) (onTc (τ := Cert.AttnResRefIdeal.τ) (Cert.AttnResRefIdeal.main (F := Ideal))) ⟨m', fun _ => 0, g'⟩ (fun r => ∀ c : Dev Cert.AttnResRefIdeal.nD,
          r.2.mem ((c.tc : Thread Cert.AttnResRefIdeal.nD Cert.AttnResRefIdeal.τ).loc Cert.AttnResRefIdeal.main_v4) = v0 c
          ∧ r.2.mem ((c.tc : Thread Cert.AttnResRefIdeal.nD Cert.AttnResRefIdeal.τ).loc Cert.AttnResRefIdeal.main_v19) = v1 c
          ∧ r.2.mem ((c.tc : Thread Cert.AttnResRefIdeal.nD Cert.AttnResRefIdeal.τ).loc Cert.AttnResRefIdeal.main_arg0) = m' ((c.tc : Thread Cert.AttnResRefIdeal.nD Cert.AttnResRefIdeal.τ).loc Cert.AttnResRefIdeal.main_arg0)
          ∧ r.2.mem ((c.tc : Thread Cert.AttnResRefIdeal.nD Cert.AttnResRefIdeal.τ).loc Cert.AttnResRefIdeal.main_arg1) = m' ((c.tc : Thread Cert.AttnResRefIdeal.nD Cert.AttnResRefIdeal.τ).loc Cert.AttnResRefIdeal.main_arg1)
          ∧ r.2.mem ((c.tc : Thread Cert.AttnResRefIdeal.nD Cert.AttnResRefIdeal.τ).loc Cert.AttnResRefIdeal.main_arg2) = m' ((c.tc : Thread Cert.AttnResRefIdeal.nD Cert.AttnResRefIdeal.τ).loc Cert.AttnResRefIdeal.main_arg2)
          ∧ r.2.mem ((c.tc : Thread Cert.AttnResRefIdeal.nD Cert.AttnResRefIdeal.τ).loc Cert.AttnResRefIdeal.main_arg3) = m' ((c.tc : Thread Cert.AttnResRefIdeal.nD Cert.AttnResRefIdeal.τ).loc Cert.AttnResRefIdeal.main_arg3))

def preserves_ConvRes_ConvResIdeal : Prop :=
  True

def algebraic_ConvResIdeal_ConvResRefIdeal [hConvResIdeal : Cert.ConvResIdeal.Facts] [hConvResRefIdeal : Cert.ConvResRefIdeal.Facts] : Prop :=
  ∀ (m : (ℓ : Loc Cert.ConvResIdeal.nD Cert.ConvResIdeal.τ Cert.ConvResIdeal.sig) → Buf (Elt Ideal) ℓ) (g : Dev Cert.ConvResIdeal.nD → PrngReg)
    (m' : (ℓ : Loc Cert.ConvResRefIdeal.nD Cert.ConvResRefIdeal.τ Cert.ConvResRefIdeal.sig) → Buf (Elt Ideal) ℓ) (g' : Dev Cert.ConvResRefIdeal.nD → PrngReg), Pre_ConvResIdeal m →
    (∀ c : Dev Cert.ConvResIdeal.nD,
      m' ((c.tc : Thread Cert.ConvResRefIdeal.nD Cert.ConvResRefIdeal.τ).loc Cert.ConvResRefIdeal.main_arg0) = m ((c.tc : Thread Cert.ConvResIdeal.nD Cert.ConvResIdeal.τ).loc Cert.ConvResIdeal.main_arg0)
      ∧ m' ((c.tc : Thread Cert.ConvResRefIdeal.nD Cert.ConvResRefIdeal.τ).loc Cert.ConvResRefIdeal.main_arg1) = m ((c.tc : Thread Cert.ConvResIdeal.nD Cert.ConvResIdeal.τ).loc Cert.ConvResIdeal.main_arg1)
      ∧ m' ((c.tc : Thread Cert.ConvResRefIdeal.nD Cert.ConvResRefIdeal.τ).loc Cert.ConvResRefIdeal.main_arg2) = m ((c.tc : Thread Cert.ConvResIdeal.nD Cert.ConvResIdeal.τ).loc Cert.ConvResIdeal.main_arg2)
      ∧ m' ((c.tc : Thread Cert.ConvResRefIdeal.nD Cert.ConvResRefIdeal.τ).loc Cert.ConvResRefIdeal.main_arg3) = m ((c.tc : Thread Cert.ConvResIdeal.nD Cert.ConvResIdeal.τ).loc Cert.ConvResIdeal.main_arg3)
      ∧ m' ((c.tc : Thread Cert.ConvResRefIdeal.nD Cert.ConvResRefIdeal.τ).loc Cert.ConvResRefIdeal.main_arg4) = m ((c.tc : Thread Cert.ConvResIdeal.nD Cert.ConvResIdeal.τ).loc Cert.ConvResIdeal.main_arg4)) →
    ∃ (v0 : (c : Dev Cert.ConvResIdeal.nD) → Buf (Elt Ideal) ((c.tc : Thread Cert.ConvResIdeal.nD Cert.ConvResIdeal.τ).loc Cert.ConvResIdeal.main_v0_0)) (v1 : (c : Dev Cert.ConvResIdeal.nD) → Buf (Elt Ideal) ((c.tc : Thread Cert.ConvResIdeal.nD Cert.ConvResIdeal.τ).loc Cert.ConvResIdeal.main_v0_1)),
      θ_run (Cert.ConvResIdeal.defs (F := Ideal)) (onTc (τ := Cert.ConvResIdeal.τ) (Cert.ConvResIdeal.main (F := Ideal))) ⟨m, fun _ => 0, g⟩ (fun r => ∀ c : Dev Cert.ConvResIdeal.nD,
          r.2.mem ((c.tc : Thread Cert.ConvResIdeal.nD Cert.ConvResIdeal.τ).loc Cert.ConvResIdeal.main_v0_0) = v0 c
          ∧ r.2.mem ((c.tc : Thread Cert.ConvResIdeal.nD Cert.ConvResIdeal.τ).loc Cert.ConvResIdeal.main_v0_1) = v1 c
          ∧ r.2.mem ((c.tc : Thread Cert.ConvResIdeal.nD Cert.ConvResIdeal.τ).loc Cert.ConvResIdeal.main_arg0) = m ((c.tc : Thread Cert.ConvResIdeal.nD Cert.ConvResIdeal.τ).loc Cert.ConvResIdeal.main_arg0)
          ∧ r.2.mem ((c.tc : Thread Cert.ConvResIdeal.nD Cert.ConvResIdeal.τ).loc Cert.ConvResIdeal.main_arg1) = m ((c.tc : Thread Cert.ConvResIdeal.nD Cert.ConvResIdeal.τ).loc Cert.ConvResIdeal.main_arg1)
          ∧ r.2.mem ((c.tc : Thread Cert.ConvResIdeal.nD Cert.ConvResIdeal.τ).loc Cert.ConvResIdeal.main_arg2) = m ((c.tc : Thread Cert.ConvResIdeal.nD Cert.ConvResIdeal.τ).loc Cert.ConvResIdeal.main_arg2)
          ∧ r.2.mem ((c.tc : Thread Cert.ConvResIdeal.nD Cert.ConvResIdeal.τ).loc Cert.ConvResIdeal.main_arg3) = m ((c.tc : Thread Cert.ConvResIdeal.nD Cert.ConvResIdeal.τ).loc Cert.ConvResIdeal.main_arg3)
          ∧ r.2.mem ((c.tc : Thread Cert.ConvResIdeal.nD Cert.ConvResIdeal.τ).loc Cert.ConvResIdeal.main_arg4) = m ((c.tc : Thread Cert.ConvResIdeal.nD Cert.ConvResIdeal.τ).loc Cert.ConvResIdeal.main_arg4))
      ∧ θ_run (Cert.ConvResRefIdeal.defs (F := Ideal)) (onTc (τ := Cert.ConvResRefIdeal.τ) (Cert.ConvResRefIdeal.main (F := Ideal))) ⟨m', fun _ => 0, g'⟩ (fun r => ∀ c : Dev Cert.ConvResRefIdeal.nD,
          r.2.mem ((c.tc : Thread Cert.ConvResRefIdeal.nD Cert.ConvResRefIdeal.τ).loc Cert.ConvResRefIdeal.main_v6) = v0 c
          ∧ r.2.mem ((c.tc : Thread Cert.ConvResRefIdeal.nD Cert.ConvResRefIdeal.τ).loc Cert.ConvResRefIdeal.main_v21) = v1 c
          ∧ r.2.mem ((c.tc : Thread Cert.ConvResRefIdeal.nD Cert.ConvResRefIdeal.τ).loc Cert.ConvResRefIdeal.main_arg0) = m' ((c.tc : Thread Cert.ConvResRefIdeal.nD Cert.ConvResRefIdeal.τ).loc Cert.ConvResRefIdeal.main_arg0)
          ∧ r.2.mem ((c.tc : Thread Cert.ConvResRefIdeal.nD Cert.ConvResRefIdeal.τ).loc Cert.ConvResRefIdeal.main_arg1) = m' ((c.tc : Thread Cert.ConvResRefIdeal.nD Cert.ConvResRefIdeal.τ).loc Cert.ConvResRefIdeal.main_arg1)
          ∧ r.2.mem ((c.tc : Thread Cert.ConvResRefIdeal.nD Cert.ConvResRefIdeal.τ).loc Cert.ConvResRefIdeal.main_arg2) = m' ((c.tc : Thread Cert.ConvResRefIdeal.nD Cert.ConvResRefIdeal.τ).loc Cert.ConvResRefIdeal.main_arg2)
          ∧ r.2.mem ((c.tc : Thread Cert.ConvResRefIdeal.nD Cert.ConvResRefIdeal.τ).loc Cert.ConvResRefIdeal.main_arg3) = m' ((c.tc : Thread Cert.ConvResRefIdeal.nD Cert.ConvResRefIdeal.τ).loc Cert.ConvResRefIdeal.main_arg3)
          ∧ r.2.mem ((c.tc : Thread Cert.ConvResRefIdeal.nD Cert.ConvResRefIdeal.τ).loc Cert.ConvResRefIdeal.main_arg4) = m' ((c.tc : Thread Cert.ConvResRefIdeal.nD Cert.ConvResRefIdeal.τ).loc Cert.ConvResRefIdeal.main_arg4))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0_0)) (v1 : (c : Dev Cert.ConvInIdeal.nD) → Buf (Elt Ideal) ((c.tc : Thread Cert.ConvInIdeal.nD Cert.ConvInIdeal.τ).loc Cert.ConvInIdeal.main_v0_1)) (v2 : (c : Dev Cert.ConvInIdeal.nD) → Buf (Elt Ideal) ((c.tc : Thread Cert.ConvInIdeal.nD Cert.ConvInIdeal.τ).loc Cert.ConvInIdeal.main_v0_2)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0_0) = v0 c
          ∧ r.2.mem ((c.tc : Thread Cert.ConvInIdeal.nD Cert.ConvInIdeal.τ).loc Cert.ConvInIdeal.main_v0_1) = v1 c
          ∧ r.2.mem ((c.tc : Thread Cert.ConvInIdeal.nD Cert.ConvInIdeal.τ).loc Cert.ConvInIdeal.main_v0_2) = v2 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v9) = v0 c
          ∧ r.2.mem ((c.tc : Thread Cert.ConvInRefIdeal.nD Cert.ConvInRefIdeal.τ).loc Cert.ConvInRefIdeal.main_v10) = v1 c
          ∧ r.2.mem ((c.tc : Thread Cert.ConvInRefIdeal.nD Cert.ConvInRefIdeal.τ).loc Cert.ConvInRefIdeal.main_v17) = v2 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_AttnDx_AttnDxIdeal : Prop :=
  True

def algebraic_AttnDxIdeal_AttnDxRefIdeal [hAttnDxIdeal : Cert.AttnDxIdeal.Facts] [hAttnDxRefIdeal : Cert.AttnDxRefIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg)
    (m' : (ℓ : Loc Cert.AttnDxRefIdeal.nD Cert.AttnDxRefIdeal.τ Cert.AttnDxRefIdeal.sig) → Buf (Elt Ideal) ℓ) (g' : Dev Cert.AttnDxRefIdeal.nD → PrngReg), Pre_AttnDxIdeal m →
    (∀ c : Dev Cert.AttnDxIdeal.nD,
      m' ((c.tc : Thread Cert.AttnDxRefIdeal.nD Cert.AttnDxRefIdeal.τ).loc Cert.AttnDxRefIdeal.main_arg0) = m ((c.tc : Thread Cert.AttnDxIdeal.nD Cert.AttnDxIdeal.τ).loc Cert.AttnDxIdeal.main_arg0)
      ∧ m' ((c.tc : Thread Cert.AttnDxRefIdeal.nD Cert.AttnDxRefIdeal.τ).loc Cert.AttnDxRefIdeal.main_arg1) = m ((c.tc : Thread Cert.AttnDxIdeal.nD Cert.AttnDxIdeal.τ).loc Cert.AttnDxIdeal.main_arg1)) →
    ∃ (v0 : (c : Dev Cert.AttnDxIdeal.nD) → Buf (Elt Ideal) ((c.tc : Thread Cert.AttnDxIdeal.nD Cert.AttnDxIdeal.τ).loc Cert.AttnDxIdeal.main_v0)),
      θ_run (Cert.AttnDxIdeal.defs (F := Ideal)) (onTc (τ := Cert.AttnDxIdeal.τ) (Cert.AttnDxIdeal.main (F := Ideal))) ⟨m, fun _ => 0, g⟩ (fun r => ∀ c : Dev Cert.AttnDxIdeal.nD,
          r.2.mem ((c.tc : Thread Cert.AttnDxIdeal.nD Cert.AttnDxIdeal.τ).loc Cert.AttnDxIdeal.main_v0) = v0 c
          ∧ r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
          ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1))
      ∧ θ_run (Cert.AttnDxRefIdeal.defs (F := Ideal)) (onTc (τ := Cert.AttnDxRefIdeal.τ) (Cert.AttnDxRefIdeal.main (F := Ideal))) ⟨m', fun _ => 0, g'⟩ (fun r => ∀ c : Dev Cert.AttnDxRefIdeal.nD,
          r.2.mem ((c.tc : Thread Cert.AttnDxRefIdeal.nD Cert.AttnDxRefIdeal.τ).loc Cert.AttnDxRefIdeal.main_v5) = v0 c
          ∧ r.2.mem ((c.tc : Thread Cert.AttnDxRefIdeal.nD Cert.AttnDxRefIdeal.τ).loc Cert.AttnDxRefIdeal.main_arg0) = m' ((c.tc : Thread Cert.AttnDxRefIdeal.nD Cert.AttnDxRefIdeal.τ).loc Cert.AttnDxRefIdeal.main_arg0)
          ∧ r.2.mem ((c.tc : Thread Cert.AttnDxRefIdeal.nD Cert.AttnDxRefIdeal.τ).loc Cert.AttnDxRefIdeal.main_arg1) = m' ((c.tc : Thread Cert.AttnDxRefIdeal.nD Cert.AttnDxRefIdeal.τ).loc Cert.AttnDxRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v6) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)) →
    ∃ (v0 : (c : Dev Cert.RmsInIdeal.nD) → Buf (Elt Ideal) ((c.tc : Thread Cert.RmsInIdeal.nD Cert.RmsInIdeal.τ).loc Cert.RmsInIdeal.main_v0)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v0) = v0 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v14) = v0 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1))

def preserves_BiasGrad_BiasGradIdeal : Prop :=
  True

def algebraic_BiasGradIdeal_BiasGradRefIdeal_pre_bucketed [hBiasGradIdeal : Cert.BiasGradIdeal.Facts] [hBiasGradRefIdeal : Cert.BiasGradRefIdeal.Facts] [hPre_bucketed : Cert.Pre_bucketed.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal_bucketed m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)
      ∧ m' ((c.tc : Thread Cert.BiasGradRefIdeal.nD Cert.BiasGradRefIdeal.τ).loc Cert.BiasGradRefIdeal.main_arg1) = m ((c.tc : Thread Cert.BiasGradIdeal.nD Cert.BiasGradIdeal.τ).loc Cert.BiasGradIdeal.main_arg1)) →
    ∃ (v0 : (c : Dev Cert.BiasGradIdeal.nD) → Buf (Elt Ideal) ((c.tc : Thread Cert.BiasGradIdeal.nD Cert.BiasGradIdeal.τ).loc Cert.BiasGradIdeal.main_v8)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v8) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v11) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0)
          ∧ r.2.mem ((c.tc : Thread Cert.BiasGradRefIdeal.nD Cert.BiasGradRefIdeal.τ).loc Cert.BiasGradRefIdeal.main_arg1) = m' ((c.tc : Thread Cert.BiasGradRefIdeal.nD Cert.BiasGradRefIdeal.τ).loc Cert.BiasGradRefIdeal.main_arg1))

def preserves_Bias_BiasIdeal : Prop :=
  True

def algebraic_BiasIdeal_BiasRefIdeal_pre_bucketed_table [hBiasIdeal : Cert.BiasIdeal.Facts] [hBiasRefIdeal : Cert.BiasRefIdeal.Facts] [hPre_bucketed_table : Cert.Pre_bucketed_table.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_bucketed_table m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v7)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v7) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v8) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1))

def preserves_PoolW_PoolWIdeal : Prop :=
  True

def algebraic_PoolWIdeal_PoolWRefIdeal [hPoolWIdeal : Cert.PoolWIdeal.Facts] [hPoolWRefIdeal : Cert.PoolWRefIdeal.Facts] : Prop :=
  ∀ (m : (ℓ : Loc Cert.PoolWIdeal.nD Cert.PoolWIdeal.τ Cert.PoolWIdeal.sig) → Buf (Elt Ideal) ℓ) (g : Dev Cert.PoolWIdeal.nD → PrngReg)
    (m' : (ℓ : Loc Cert.PoolWRefIdeal.nD Cert.PoolWRefIdeal.τ Cert.PoolWRefIdeal.sig) → Buf (Elt Ideal) ℓ) (g' : Dev Cert.PoolWRefIdeal.nD → PrngReg), Pre_PoolWIdeal m →
    (∀ c : Dev Cert.PoolWIdeal.nD,
      m' ((c.tc : Thread Cert.PoolWRefIdeal.nD Cert.PoolWRefIdeal.τ).loc Cert.PoolWRefIdeal.main_arg0) = m ((c.tc : Thread Cert.PoolWIdeal.nD Cert.PoolWIdeal.τ).loc Cert.PoolWIdeal.main_arg0)
      ∧ m' ((c.tc : Thread Cert.PoolWRefIdeal.nD Cert.PoolWRefIdeal.τ).loc Cert.PoolWRefIdeal.main_arg1) = m ((c.tc : Thread Cert.PoolWIdeal.nD Cert.PoolWIdeal.τ).loc Cert.PoolWIdeal.main_arg1)) →
    ∃ (v0 : (c : Dev Cert.PoolWIdeal.nD) → Buf (Elt Ideal) ((c.tc : Thread Cert.PoolWIdeal.nD Cert.PoolWIdeal.τ).loc Cert.PoolWIdeal.main_v0)),
      θ_run (Cert.PoolWIdeal.defs (F := Ideal)) (onTc (τ := Cert.PoolWIdeal.τ) (Cert.PoolWIdeal.main (F := Ideal))) ⟨m, fun _ => 0, g⟩ (fun r => ∀ c : Dev Cert.PoolWIdeal.nD,
          r.2.mem ((c.tc : Thread Cert.PoolWIdeal.nD Cert.PoolWIdeal.τ).loc Cert.PoolWIdeal.main_v0) = v0 c
          ∧ r.2.mem ((c.tc : Thread Cert.PoolWIdeal.nD Cert.PoolWIdeal.τ).loc Cert.PoolWIdeal.main_arg0) = m ((c.tc : Thread Cert.PoolWIdeal.nD Cert.PoolWIdeal.τ).loc Cert.PoolWIdeal.main_arg0)
          ∧ r.2.mem ((c.tc : Thread Cert.PoolWIdeal.nD Cert.PoolWIdeal.τ).loc Cert.PoolWIdeal.main_arg1) = m ((c.tc : Thread Cert.PoolWIdeal.nD Cert.PoolWIdeal.τ).loc Cert.PoolWIdeal.main_arg1))
      ∧ θ_run (Cert.PoolWRefIdeal.defs (F := Ideal)) (onTc (τ := Cert.PoolWRefIdeal.τ) (Cert.PoolWRefIdeal.main (F := Ideal))) ⟨m', fun _ => 0, g'⟩ (fun r => ∀ c : Dev Cert.PoolWRefIdeal.nD,
          r.2.mem ((c.tc : Thread Cert.PoolWRefIdeal.nD Cert.PoolWRefIdeal.τ).loc Cert.PoolWRefIdeal.main_v10) = v0 c
          ∧ r.2.mem ((c.tc : Thread Cert.PoolWRefIdeal.nD Cert.PoolWRefIdeal.τ).loc Cert.PoolWRefIdeal.main_arg0) = m' ((c.tc : Thread Cert.PoolWRefIdeal.nD Cert.PoolWRefIdeal.τ).loc Cert.PoolWRefIdeal.main_arg0)
          ∧ r.2.mem ((c.tc : Thread Cert.PoolWRefIdeal.nD Cert.PoolWRefIdeal.τ).loc Cert.PoolWRefIdeal.main_arg1) = m' ((c.tc : Thread Cert.PoolWRefIdeal.nD Cert.PoolWRefIdeal.τ).loc Cert.PoolWRefIdeal.main_arg1))

def preserves_AdamNorm_AdamNormIdeal : Prop :=
  IdealRules.named_const.Statement Cert.AdamNormIdeal.κ "c1" .f32 0x3FC48605#32 ((8388608 / 5463681 : ℝ) : EReal)
  ∧ IdealRules.named_const.Statement Cert.AdamNormIdeal.κ "c2" .f32 0x42C8E6D3#32 ((268435456 / 2672307 : ℝ) : EReal)

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v0) = v0 c
          ∧ r.2.mem ((c.tc : Thread Cert.AdamNormRefIdeal.nD Cert.AdamNormRefIdeal.τ).loc Cert.AdamNormRefIdeal.main_v24) = v1 c
          ∧ r.2.mem ((c.tc : Thread Cert.AdamNormRefIdeal.nD Cert.AdamNormRefIdeal.τ).loc Cert.AdamNormRefIdeal.main_v5) = v2 c
          ∧ r.2.mem ((c.tc : Thread Cert.AdamNormRefIdeal.nD Cert.AdamNormRefIdeal.τ).loc Cert.AdamNormRefIdeal.main_v11) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamVec_AdamVecIdeal : Prop :=
  IdealRules.named_const.Statement Cert.AdamVecIdeal.κ "c1" .f32 0x3FC48605#32 ((8388608 / 5463681 : ℝ) : EReal)
  ∧ IdealRules.named_const.Statement Cert.AdamVecIdeal.κ "c2" .f32 0x42C8E6D3#32 ((268435456 / 2672307 : ℝ) : EReal)

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)) (v3 : (c : Dev Cert.AdamVecIdeal.nD) → Buf (Elt Ideal) ((c.tc : Thread Cert.AdamVecIdeal.nD Cert.AdamVecIdeal.τ).loc Cert.AdamVecIdeal.main_v0_3)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_v0_3) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v0) = v0 c
          ∧ r.2.mem ((c.tc : Thread Cert.AdamVecRefIdeal.nD Cert.AdamVecRefIdeal.τ).loc Cert.AdamVecRefIdeal.main_v24) = v1 c
          ∧ r.2.mem ((c.tc : Thread Cert.AdamVecRefIdeal.nD Cert.AdamVecRefIdeal.τ).loc Cert.AdamVecRefIdeal.main_v5) = v2 c
          ∧ r.2.mem ((c.tc : Thread Cert.AdamVecRefIdeal.nD Cert.AdamVecRefIdeal.τ).loc Cert.AdamVecRefIdeal.main_v11) = v3 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamHead_AdamHeadIdeal : Prop :=
  IdealRules.named_const.Statement Cert.AdamHeadIdeal.κ "c1" .f32 0x3FC48605#32 ((8388608 / 5463681 : ℝ) : EReal)
  ∧ IdealRules.named_const.Statement Cert.AdamHeadIdeal.κ "c2" .f32 0x42C8E6D3#32 ((268435456 / 2672307 : ℝ) : EReal)

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v0) = v0 c
          ∧ r.2.mem ((c.tc : Thread Cert.AdamHeadRefIdeal.nD Cert.AdamHeadRefIdeal.τ).loc Cert.AdamHeadRefIdeal.main_v24) = v1 c
          ∧ r.2.mem ((c.tc : Thread Cert.AdamHeadRefIdeal.nD Cert.AdamHeadRefIdeal.τ).loc Cert.AdamHeadRefIdeal.main_v5) = v2 c
          ∧ r.2.mem ((c.tc : Thread Cert.AdamHeadRefIdeal.nD Cert.AdamHeadRefIdeal.τ).loc Cert.AdamHeadRefIdeal.main_v11) = v3 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamScale_AdamScaleIdeal : Prop :=
  IdealRules.named_const.Statement Cert.AdamScaleIdeal.κ "c1" .f32 0x3FC48605#32 ((8388608 / 5463681 : ℝ) : EReal)
  ∧ IdealRules.named_const.Statement Cert.AdamScaleIdeal.κ "c2" .f32 0x42C8E6D3#32 ((268435456 / 2672307 : ℝ) : EReal)

def algebraic_AdamScaleIdeal_AdamScaleRefIdeal [hAdamScaleIdeal : Cert.AdamScaleIdeal.Facts] [hAdamScaleRefIdeal : Cert.AdamScaleRefIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.AdamScaleRefIdeal.nD Cert.AdamScaleRefIdeal.τ Cert.AdamScaleRefIdeal.sig) → Buf (Elt Ideal) ℓ) (g' : Dev Cert.AdamScaleRefIdeal.nD → PrngReg), Pre_AdamScaleIdeal m →
    (∀ c : Dev Cert.AdamScaleIdeal.nD,
      m' ((c.tc : Thread Cert.AdamScaleRefIdeal.nD Cert.AdamScaleRefIdeal.τ).loc Cert.AdamScaleRefIdeal.main_arg0) = m ((c.tc : Thread Cert.AdamScaleIdeal.nD Cert.AdamScaleIdeal.τ).loc Cert.AdamScaleIdeal.main_arg0)
      ∧ m' ((c.tc : Thread Cert.AdamScaleRefIdeal.nD Cert.AdamScaleRefIdeal.τ).loc Cert.AdamScaleRefIdeal.main_arg1) = m ((c.tc : Thread Cert.AdamScaleIdeal.nD Cert.AdamScaleIdeal.τ).loc Cert.AdamScaleIdeal.main_arg1)
      ∧ m' ((c.tc : Thread Cert.AdamScaleRefIdeal.nD Cert.AdamScaleRefIdeal.τ).loc Cert.AdamScaleRefIdeal.main_arg2) = m ((c.tc : Thread Cert.AdamScaleIdeal.nD Cert.AdamScaleIdeal.τ).loc Cert.AdamScaleIdeal.main_arg2)
      ∧ m' ((c.tc : Thread Cert.AdamScaleRefIdeal.nD Cert.AdamScaleRefIdeal.τ).loc Cert.AdamScaleRefIdeal.main_arg3) = m ((c.tc : Thread Cert.AdamScaleIdeal.nD Cert.AdamScaleIdeal.τ).loc Cert.AdamScaleIdeal.main_arg3)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)) (v3 : (c : Dev Cert.AdamScaleIdeal.nD) → Buf (Elt Ideal) ((c.tc : Thread Cert.AdamScaleIdeal.nD Cert.AdamScaleIdeal.τ).loc Cert.AdamScaleIdeal.main_v0_3)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_v0_3) = v3 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ θ_run (Cert.AdamScaleRefIdeal.defs (F := Ideal)) (onTc (τ := Cert.AdamScaleRefIdeal.τ) (Cert.AdamScaleRefIdeal.main (F := Ideal))) ⟨m', fun _ => 0, g'⟩ (fun r => ∀ c : Dev Cert.AdamScaleRefIdeal.nD,
          r.2.mem ((c.tc : Thread Cert.AdamScaleRefIdeal.nD Cert.AdamScaleRefIdeal.τ).loc Cert.AdamScaleRefIdeal.main_v0) = v0 c
          ∧ r.2.mem ((c.tc : Thread Cert.AdamScaleRefIdeal.nD Cert.AdamScaleRefIdeal.τ).loc Cert.AdamScaleRefIdeal.main_v24) = v1 c
          ∧ r.2.mem ((c.tc : Thread Cert.AdamScaleRefIdeal.nD Cert.AdamScaleRefIdeal.τ).loc Cert.AdamScaleRefIdeal.main_v5) = v2 c
          ∧ r.2.mem ((c.tc : Thread Cert.AdamScaleRefIdeal.nD Cert.AdamScaleRefIdeal.τ).loc Cert.AdamScaleRefIdeal.main_v11) = v3 c
          ∧ r.2.mem ((c.tc : Thread Cert.AdamScaleRefIdeal.nD Cert.AdamScaleRefIdeal.τ).loc Cert.AdamScaleRefIdeal.main_arg0) = m' ((c.tc : Thread Cert.AdamScaleRefIdeal.nD Cert.AdamScaleRefIdeal.τ).loc Cert.AdamScaleRefIdeal.main_arg0)
          ∧ r.2.mem ((c.tc : Thread Cert.AdamScaleRefIdeal.nD Cert.AdamScaleRefIdeal.τ).loc Cert.AdamScaleRefIdeal.main_arg1) = m' ((c.tc : Thread Cert.AdamScaleRefIdeal.nD Cert.AdamScaleRefIdeal.τ).loc Cert.AdamScaleRefIdeal.main_arg1)
          ∧ r.2.mem ((c.tc : Thread Cert.AdamScaleRefIdeal.nD Cert.AdamScaleRefIdeal.τ).loc Cert.AdamScaleRefIdeal.main_arg2) = m' ((c.tc : Thread Cert.AdamScaleRefIdeal.nD Cert.AdamScaleRefIdeal.τ).loc Cert.AdamScaleRefIdeal.main_arg2)
          ∧ r.2.mem ((c.tc : Thread Cert.AdamScaleRefIdeal.nD Cert.AdamScaleRefIdeal.τ).loc Cert.AdamScaleRefIdeal.main_arg3) = m' ((c.tc : Thread Cert.AdamScaleRefIdeal.nD Cert.AdamScaleRefIdeal.τ).loc Cert.AdamScaleRefIdeal.main_arg3))

def preserves_AdamSink_AdamSinkIdeal : Prop :=
  IdealRules.named_const.Statement Cert.AdamSinkIdeal.κ "c1" .f32 0x3FC48605#32 ((8388608 / 5463681 : ℝ) : EReal)
  ∧ IdealRules.named_const.Statement Cert.AdamSinkIdeal.κ "c2" .f32 0x42C8E6D3#32 ((268435456 / 2672307 : ℝ) : EReal)

def algebraic_AdamSinkIdeal_AdamSinkRefIdeal [hAdamSinkIdeal : Cert.AdamSinkIdeal.Facts] [hAdamSinkRefIdeal : Cert.AdamSinkRefIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg)
    (m' : (ℓ : Loc Cert.AdamSinkRefIdeal.nD Cert.AdamSinkRefIdeal.τ Cert.AdamSinkRefIdeal.sig) → Buf (Elt Ideal) ℓ) (g' : Dev Cert.AdamSinkRefIdeal.nD → PrngReg), Pre_AdamSinkIdeal m →
    (∀ c : Dev Cert.AdamSinkIdeal.nD,
      m' ((c.tc : Thread Cert.AdamSinkRefIdeal.nD Cert.AdamSinkRefIdeal.τ).loc Cert.AdamSinkRefIdeal.main_arg0) = m ((c.tc : Thread Cert.AdamSinkIdeal.nD Cert.AdamSinkIdeal.τ).loc Cert.AdamSinkIdeal.main_arg0)
      ∧ m' ((c.tc : Thread Cert.AdamSinkRefIdeal.nD Cert.AdamSinkRefIdeal.τ).loc Cert.AdamSinkRefIdeal.main_arg1) = m ((c.tc : Thread Cert.AdamSinkIdeal.nD Cert.AdamSinkIdeal.τ).loc Cert.AdamSinkIdeal.main_arg1)
      ∧ m' ((c.tc : Thread Cert.AdamSinkRefIdeal.nD Cert.AdamSinkRefIdeal.τ).loc Cert.AdamSinkRefIdeal.main_arg2) = m ((c.tc : Thread Cert.AdamSinkIdeal.nD Cert.AdamSinkIdeal.τ).loc Cert.AdamSinkIdeal.main_arg2)
      ∧ m' ((c.tc : Thread Cert.AdamSinkRefIdeal.nD Cert.AdamSinkRefIdeal.τ).loc Cert.AdamSinkRefIdeal.main_arg3) = m ((c.tc : Thread Cert.AdamSinkIdeal.nD Cert.AdamSinkIdeal.τ).loc Cert.AdamSinkIdeal.main_arg3)) →
    ∃ (v0 : (c : Dev Cert.AdamSinkIdeal.nD) → Buf (Elt Ideal) ((c.tc : Thread Cert.AdamSinkIdeal.nD Cert.AdamSinkIdeal.τ).loc Cert.AdamSinkIdeal.main_v0_0)) (v1 : (c : Dev Cert.AdamSinkIdeal.nD) → Buf (Elt Ideal) ((c.tc : Thread Cert.AdamSinkIdeal.nD Cert.AdamSinkIdeal.τ).loc Cert.AdamSinkIdeal.main_v0_1)) (v2 : (c : Dev Cert.AdamSinkIdeal.nD) → Buf (Elt Ideal) ((c.tc : Thread Cert.AdamSinkIdeal.nD Cert.AdamSinkIdeal.τ).loc Cert.AdamSinkIdeal.main_v0_2)) (v3 : (c : Dev Cert.AdamSinkIdeal.nD) → Buf (Elt Ideal) ((c.tc : Thread Cert.AdamSinkIdeal.nD Cert.AdamSinkIdeal.τ).loc Cert.AdamSinkIdeal.main_v0_3)),
      θ_run (Cert.AdamSinkIdeal.defs (F := Ideal)) (onTc (τ := Cert.AdamSinkIdeal.τ) (Cert.AdamSinkIdeal.main (F := Ideal))) ⟨m, fun _ => 0, g⟩ (fun r => ∀ c : Dev Cert.AdamSinkIdeal.nD,
          r.2.mem ((c.tc : Thread Cert.AdamSinkIdeal.nD Cert.AdamSinkIdeal.τ).loc Cert.AdamSinkIdeal.main_v0_0) = v0 c
          ∧ r.2.mem ((c.tc : Thread Cert.AdamSinkIdeal.nD Cert.AdamSinkIdeal.τ).loc Cert.AdamSinkIdeal.main_v0_1) = v1 c
          ∧ r.2.mem ((c.tc : Thread Cert.AdamSinkIdeal.nD Cert.AdamSinkIdeal.τ).loc Cert.AdamSinkIdeal.main_v0_2) = v2 c
          ∧ r.2.mem ((c.tc : Thread Cert.AdamSinkIdeal.nD Cert.AdamSinkIdeal.τ).loc Cert.AdamSinkIdeal.main_v0_3) = v3 c
          ∧ r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
          ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
          ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
          ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ θ_run (Cert.AdamSinkRefIdeal.defs (F := Ideal)) (onTc (τ := Cert.AdamSinkRefIdeal.τ) (Cert.AdamSinkRefIdeal.main (F := Ideal))) ⟨m', fun _ => 0, g'⟩ (fun r => ∀ c : Dev Cert.AdamSinkRefIdeal.nD,
          r.2.mem ((c.tc : Thread Cert.AdamSinkRefIdeal.nD Cert.AdamSinkRefIdeal.τ).loc Cert.AdamSinkRefIdeal.main_v0) = v0 c
          ∧ r.2.mem ((c.tc : Thread Cert.AdamSinkRefIdeal.nD Cert.AdamSinkRefIdeal.τ).loc Cert.AdamSinkRefIdeal.main_v24) = v1 c
          ∧ r.2.mem ((c.tc : Thread Cert.AdamSinkRefIdeal.nD Cert.AdamSinkRefIdeal.τ).loc Cert.AdamSinkRefIdeal.main_v5) = v2 c
          ∧ r.2.mem ((c.tc : Thread Cert.AdamSinkRefIdeal.nD Cert.AdamSinkRefIdeal.τ).loc Cert.AdamSinkRefIdeal.main_v11) = v3 c
          ∧ r.2.mem ((c.tc : Thread Cert.AdamSinkRefIdeal.nD Cert.AdamSinkRefIdeal.τ).loc Cert.AdamSinkRefIdeal.main_arg0) = m' ((c.tc : Thread Cert.AdamSinkRefIdeal.nD Cert.AdamSinkRefIdeal.τ).loc Cert.AdamSinkRefIdeal.main_arg0)
          ∧ r.2.mem ((c.tc : Thread Cert.AdamSinkRefIdeal.nD Cert.AdamSinkRefIdeal.τ).loc Cert.AdamSinkRefIdeal.main_arg1) = m' ((c.tc : Thread Cert.AdamSinkRefIdeal.nD Cert.AdamSinkRefIdeal.τ).loc Cert.AdamSinkRefIdeal.main_arg1)
          ∧ r.2.mem ((c.tc : Thread Cert.AdamSinkRefIdeal.nD Cert.AdamSinkRefIdeal.τ).loc Cert.AdamSinkRefIdeal.main_arg2) = m' ((c.tc : Thread Cert.AdamSinkRefIdeal.nD Cert.AdamSinkRefIdeal.τ).loc Cert.AdamSinkRefIdeal.main_arg2)
          ∧ r.2.mem ((c.tc : Thread Cert.AdamSinkRefIdeal.nD Cert.AdamSinkRefIdeal.τ).loc Cert.AdamSinkRefIdeal.main_arg3) = m' ((c.tc : Thread Cert.AdamSinkRefIdeal.nD Cert.AdamSinkRefIdeal.τ).loc Cert.AdamSinkRefIdeal.main_arg3))

def preserves_AdamBias_AdamBiasIdeal : Prop :=
  IdealRules.named_const.Statement Cert.AdamBiasIdeal.κ "c1" .f32 0x3FC48605#32 ((8388608 / 5463681 : ℝ) : EReal)
  ∧ IdealRules.named_const.Statement Cert.AdamBiasIdeal.κ "c2" .f32 0x42C8E6D3#32 ((268435456 / 2672307 : ℝ) : EReal)

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)) (v3 : (c : Dev Cert.AdamBiasIdeal.nD) → Buf (Elt Ideal) ((c.tc : Thread Cert.AdamBiasIdeal.nD Cert.AdamBiasIdeal.τ).loc Cert.AdamBiasIdeal.main_v0_3)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_v0_3) = v3 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v0) = v0 c
          ∧ r.2.mem ((c.tc : Thread Cert.AdamBiasRefIdeal.nD Cert.AdamBiasRefIdeal.τ).loc Cert.AdamBiasRefIdeal.main_v24) = v1 c
          ∧ r.2.mem ((c.tc : Thread Cert.AdamBiasRefIdeal.nD Cert.AdamBiasRefIdeal.τ).loc Cert.AdamBiasRefIdeal.main_v5) = v2 c
          ∧ r.2.mem ((c.tc : Thread Cert.AdamBiasRefIdeal.nD Cert.AdamBiasRefIdeal.τ).loc Cert.AdamBiasRefIdeal.main_v11) = v3 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamConvB_AdamConvBIdeal : Prop :=
  IdealRules.named_const.Statement Cert.AdamConvBIdeal.κ "c1" .f32 0x3FC48605#32 ((8388608 / 5463681 : ℝ) : EReal)
  ∧ IdealRules.named_const.Statement Cert.AdamConvBIdeal.κ "c2" .f32 0x42C8E6D3#32 ((268435456 / 2672307 : ℝ) : EReal)

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)) (v3 : (c : Dev Cert.AdamConvBIdeal.nD) → Buf (Elt Ideal) ((c.tc : Thread Cert.AdamConvBIdeal.nD Cert.AdamConvBIdeal.τ).loc Cert.AdamConvBIdeal.main_v0_3)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_v0_3) = v3 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v0) = v0 c
          ∧ r.2.mem ((c.tc : Thread Cert.AdamConvBRefIdeal.nD Cert.AdamConvBRefIdeal.τ).loc Cert.AdamConvBRefIdeal.main_v24) = v1 c
          ∧ r.2.mem ((c.tc : Thread Cert.AdamConvBRefIdeal.nD Cert.AdamConvBRefIdeal.τ).loc Cert.AdamConvBRefIdeal.main_v5) = v2 c
          ∧ r.2.mem ((c.tc : Thread Cert.AdamConvBRefIdeal.nD Cert.AdamConvBRefIdeal.τ).loc Cert.AdamConvBRefIdeal.main_v11) = v3 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamConvW_AdamConvWIdeal : Prop :=
  IdealRules.named_const.Statement Cert.AdamConvWIdeal.κ "c1" .f32 0x3FC48605#32 ((8388608 / 5463681 : ℝ) : EReal)
  ∧ IdealRules.named_const.Statement Cert.AdamConvWIdeal.κ "c2" .f32 0x42C8E6D3#32 ((268435456 / 2672307 : ℝ) : EReal)

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)) (v3 : (c : Dev Cert.AdamConvWIdeal.nD) → Buf (Elt Ideal) ((c.tc : Thread Cert.AdamConvWIdeal.nD Cert.AdamConvWIdeal.τ).loc Cert.AdamConvWIdeal.main_v0_3)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_v0_3) = v3 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v0) = v0 c
          ∧ r.2.mem ((c.tc : Thread Cert.AdamConvWRefIdeal.nD Cert.AdamConvWRefIdeal.τ).loc Cert.AdamConvWRefIdeal.main_v24) = v1 c
          ∧ r.2.mem ((c.tc : Thread Cert.AdamConvWRefIdeal.nD Cert.AdamConvWRefIdeal.τ).loc Cert.AdamConvWRefIdeal.main_v5) = v2 c
          ∧ r.2.mem ((c.tc : Thread Cert.AdamConvWRefIdeal.nD Cert.AdamConvWRefIdeal.τ).loc Cert.AdamConvWRefIdeal.main_v11) = v3 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamQkv_AdamQkvIdeal : Prop :=
  IdealRules.named_const.Statement Cert.AdamQkvIdeal.κ "c1" .f32 0x3FC48605#32 ((8388608 / 5463681 : ℝ) : EReal)
  ∧ IdealRules.named_const.Statement Cert.AdamQkvIdeal.κ "c2" .f32 0x42C8E6D3#32 ((268435456 / 2672307 : ℝ) : EReal)

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)) (v3 : (c : Dev Cert.AdamQkvIdeal.nD) → Buf (Elt Ideal) ((c.tc : Thread Cert.AdamQkvIdeal.nD Cert.AdamQkvIdeal.τ).loc Cert.AdamQkvIdeal.main_v0_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_v0_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v2) = v0 c
          ∧ r.2.mem ((c.tc : Thread Cert.AdamQkvRefIdeal.nD Cert.AdamQkvRefIdeal.τ).loc Cert.AdamQkvRefIdeal.main_v26) = v1 c
          ∧ r.2.mem ((c.tc : Thread Cert.AdamQkvRefIdeal.nD Cert.AdamQkvRefIdeal.τ).loc Cert.AdamQkvRefIdeal.main_v7) = v2 c
          ∧ r.2.mem ((c.tc : Thread Cert.AdamQkvRefIdeal.nD Cert.AdamQkvRefIdeal.τ).loc Cert.AdamQkvRefIdeal.main_v13) = v3 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPool_AdamPoolIdeal : Prop :=
  IdealRules.named_const.Statement Cert.AdamPoolIdeal.κ "c1" .f32 0x3FC48605#32 ((8388608 / 5463681 : ℝ) : EReal)
  ∧ IdealRules.named_const.Statement Cert.AdamPoolIdeal.κ "c2" .f32 0x42C8E6D3#32 ((268435456 / 2672307 : ℝ) : EReal)

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v2) = v0 c
          ∧ r.2.mem ((c.tc : Thread Cert.AdamPoolRefIdeal.nD Cert.AdamPoolRefIdeal.τ).loc Cert.AdamPoolRefIdeal.main_v26) = v1 c
          ∧ r.2.mem ((c.tc : Thread Cert.AdamPoolRefIdeal.nD Cert.AdamPoolRefIdeal.τ).loc Cert.AdamPoolRefIdeal.main_v7) = v2 c
          ∧ r.2.mem ((c.tc : Thread Cert.AdamPoolRefIdeal.nD Cert.AdamPoolRefIdeal.τ).loc Cert.AdamPoolRefIdeal.main_v13) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamFfn_AdamFfnIdeal : Prop :=
  IdealRules.named_const.Statement Cert.AdamFfnIdeal.κ "c1" .f32 0x3FC48605#32 ((8388608 / 5463681 : ℝ) : EReal)
  ∧ IdealRules.named_const.Statement Cert.AdamFfnIdeal.κ "c2" .f32 0x42C8E6D3#32 ((268435456 / 2672307 : ℝ) : EReal)

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)
      ∧ m' ((c.tc : Thread Cert.AdamFfnRefIdeal.nD Cert.AdamFfnRefIdeal.τ).loc Cert.AdamFfnRefIdeal.main_arg5) = m ((c.tc : Thread Cert.AdamFfnIdeal.nD Cert.AdamFfnIdeal.τ).loc Cert.AdamFfnIdeal.main_arg5)
      ∧ m' ((c.tc : Thread Cert.AdamFfnRefIdeal.nD Cert.AdamFfnRefIdeal.τ).loc Cert.AdamFfnRefIdeal.main_arg6) = m ((c.tc : Thread Cert.AdamFfnIdeal.nD Cert.AdamFfnIdeal.τ).loc Cert.AdamFfnIdeal.main_arg6)
      ∧ m' ((c.tc : Thread Cert.AdamFfnRefIdeal.nD Cert.AdamFfnRefIdeal.τ).loc Cert.AdamFfnRefIdeal.main_arg7) = m ((c.tc : Thread Cert.AdamFfnIdeal.nD Cert.AdamFfnIdeal.τ).loc Cert.AdamFfnIdeal.main_arg7)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4)
          ∧ r.2.mem ((c.tc : Thread Cert.AdamFfnIdeal.nD Cert.AdamFfnIdeal.τ).loc Cert.AdamFfnIdeal.main_arg5) = m ((c.tc : Thread Cert.AdamFfnIdeal.nD Cert.AdamFfnIdeal.τ).loc Cert.AdamFfnIdeal.main_arg5)
          ∧ r.2.mem ((c.tc : Thread Cert.AdamFfnIdeal.nD Cert.AdamFfnIdeal.τ).loc Cert.AdamFfnIdeal.main_arg6) = m ((c.tc : Thread Cert.AdamFfnIdeal.nD Cert.AdamFfnIdeal.τ).loc Cert.AdamFfnIdeal.main_arg6)
          ∧ r.2.mem ((c.tc : Thread Cert.AdamFfnIdeal.nD Cert.AdamFfnIdeal.τ).loc Cert.AdamFfnIdeal.main_arg7) = m ((c.tc : Thread Cert.AdamFfnIdeal.nD Cert.AdamFfnIdeal.τ).loc Cert.AdamFfnIdeal.main_arg7))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v34) = v0 c
          ∧ r.2.mem ((c.tc : Thread Cert.AdamFfnRefIdeal.nD Cert.AdamFfnRefIdeal.τ).loc Cert.AdamFfnRefIdeal.main_v37) = v1 c
          ∧ r.2.mem ((c.tc : Thread Cert.AdamFfnRefIdeal.nD Cert.AdamFfnRefIdeal.τ).loc Cert.AdamFfnRefIdeal.main_v40) = v2 c
          ∧ r.2.mem ((c.tc : Thread Cert.AdamFfnRefIdeal.nD Cert.AdamFfnRefIdeal.τ).loc Cert.AdamFfnRefIdeal.main_v43) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4)
          ∧ r.2.mem ((c.tc : Thread Cert.AdamFfnRefIdeal.nD Cert.AdamFfnRefIdeal.τ).loc Cert.AdamFfnRefIdeal.main_arg5) = m' ((c.tc : Thread Cert.AdamFfnRefIdeal.nD Cert.AdamFfnRefIdeal.τ).loc Cert.AdamFfnRefIdeal.main_arg5)
          ∧ r.2.mem ((c.tc : Thread Cert.AdamFfnRefIdeal.nD Cert.AdamFfnRefIdeal.τ).loc Cert.AdamFfnRefIdeal.main_arg6) = m' ((c.tc : Thread Cert.AdamFfnRefIdeal.nD Cert.AdamFfnRefIdeal.τ).loc Cert.AdamFfnRefIdeal.main_arg6)
          ∧ r.2.mem ((c.tc : Thread Cert.AdamFfnRefIdeal.nD Cert.AdamFfnRefIdeal.τ).loc Cert.AdamFfnRefIdeal.main_arg7) = m' ((c.tc : Thread Cert.AdamFfnRefIdeal.nD Cert.AdamFfnRefIdeal.τ).loc Cert.AdamFfnRefIdeal.main_arg7))

def preserves_AdamGate_AdamGateIdeal : Prop :=
  IdealRules.named_const.Statement Cert.AdamGateIdeal.κ "c1" .f32 0x3FC48605#32 ((8388608 / 5463681 : ℝ) : EReal)
  ∧ IdealRules.named_const.Statement Cert.AdamGateIdeal.κ "c2" .f32 0x42C8E6D3#32 ((268435456 / 2672307 : ℝ) : EReal)

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)
      ∧ m' ((c.tc : Thread Cert.AdamGateRefIdeal.nD Cert.AdamGateRefIdeal.τ).loc Cert.AdamGateRefIdeal.main_arg5) = m ((c.tc : Thread Cert.AdamGateIdeal.nD Cert.AdamGateIdeal.τ).loc Cert.AdamGateIdeal.main_arg5)
      ∧ m' ((c.tc : Thread Cert.AdamGateRefIdeal.nD Cert.AdamGateRefIdeal.τ).loc Cert.AdamGateRefIdeal.main_arg6) = m ((c.tc : Thread Cert.AdamGateIdeal.nD Cert.AdamGateIdeal.τ).loc Cert.AdamGateIdeal.main_arg6)
      ∧ m' ((c.tc : Thread Cert.AdamGateRefIdeal.nD Cert.AdamGateRefIdeal.τ).loc Cert.AdamGateRefIdeal.main_arg7) = m ((c.tc : Thread Cert.AdamGateIdeal.nD Cert.AdamGateIdeal.τ).loc Cert.AdamGateIdeal.main_arg7)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
          ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
          ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v34) = v0 c
          ∧ r.2.mem ((c.tc : Thread Cert.AdamGateRefIdeal.nD Cert.AdamGateRefIdeal.τ).loc Cert.AdamGateRefIdeal.main_v37) = v1 c
          ∧ r.2.mem ((c.tc : Thread Cert.AdamGateRefIdeal.nD Cert.AdamGateRefIdeal.τ).loc Cert.AdamGateRefIdeal.main_v40) = v2 c
          ∧ r.2.mem ((c.tc : Thread Cert.AdamGateRefIdeal.nD Cert.AdamGateRefIdeal.τ).loc Cert.AdamGateRefIdeal.main_v43) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4)
          ∧ r.2.mem ((c.tc : Thread Cert.AdamGateRefIdeal.nD Cert.AdamGateRefIdeal.τ).loc Cert.AdamGateRefIdeal.main_arg5) = m' ((c.tc : Thread Cert.AdamGateRefIdeal.nD Cert.AdamGateRefIdeal.τ).loc Cert.AdamGateRefIdeal.main_arg5)
          ∧ r.2.mem ((c.tc : Thread Cert.AdamGateRefIdeal.nD Cert.AdamGateRefIdeal.τ).loc Cert.AdamGateRefIdeal.main_arg6) = m' ((c.tc : Thread Cert.AdamGateRefIdeal.nD Cert.AdamGateRefIdeal.τ).loc Cert.AdamGateRefIdeal.main_arg6)
          ∧ r.2.mem ((c.tc : Thread Cert.AdamGateRefIdeal.nD Cert.AdamGateRefIdeal.τ).loc Cert.AdamGateRefIdeal.main_arg7) = m' ((c.tc : Thread Cert.AdamGateRefIdeal.nD Cert.AdamGateRefIdeal.τ).loc Cert.AdamGateRefIdeal.main_arg7))

def preserves_AdamProj_AdamProjIdeal : Prop :=
  IdealRules.named_const.Statement Cert.AdamProjIdeal.κ "c1" .f32 0x3FC48605#32 ((8388608 / 5463681 : ℝ) : EReal)
  ∧ IdealRules.named_const.Statement Cert.AdamProjIdeal.κ "c2" .f32 0x42C8E6D3#32 ((268435456 / 2672307 : ℝ) : EReal)

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)
      ∧ m' ((c.tc : Thread Cert.AdamProjRefIdeal.nD Cert.AdamProjRefIdeal.τ).loc Cert.AdamProjRefIdeal.main_arg5) = m ((c.tc : Thread Cert.AdamProjIdeal.nD Cert.AdamProjIdeal.τ).loc Cert.AdamProjIdeal.main_arg5)
      ∧ m' ((c.tc : Thread Cert.AdamProjRefIdeal.nD Cert.AdamProjRefIdeal.τ).loc Cert.AdamProjRefIdeal.main_arg6) = m ((c.tc : Thread Cert.AdamProjIdeal.nD Cert.AdamProjIdeal.τ).loc Cert.AdamProjIdeal.main_arg6)
      ∧ m' ((c.tc : Thread Cert.AdamProjRefIdeal.nD Cert.AdamProjRefIdeal.τ).loc Cert.AdamProjRefIdeal.main_arg7) = m ((c.tc : Thread Cert.AdamProjIdeal.nD Cert.AdamProjIdeal.τ).loc Cert.AdamProjIdeal.main_arg7)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
          ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5)
          ∧ r.2.mem ((c.tc : Thread Cert.AdamProjIdeal.nD Cert.AdamProjIdeal.τ).loc Cert.AdamProjIdeal.main_arg6) = m ((c.tc : Thread Cert.AdamProjIdeal.nD Cert.AdamProjIdeal.τ).loc Cert.AdamProjIdeal.main_arg6)
          ∧ r.2.mem ((c.tc : Thread Cert.AdamProjIdeal.nD Cert.AdamProjIdeal.τ).loc Cert.AdamProjIdeal.main_arg7) = m ((c.tc : Thread Cert.AdamProjIdeal.nD Cert.AdamProjIdeal.τ).loc Cert.AdamProjIdeal.main_arg7))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v34) = v0 c
          ∧ r.2.mem ((c.tc : Thread Cert.AdamProjRefIdeal.nD Cert.AdamProjRefIdeal.τ).loc Cert.AdamProjRefIdeal.main_v37) = v1 c
          ∧ r.2.mem ((c.tc : Thread Cert.AdamProjRefIdeal.nD Cert.AdamProjRefIdeal.τ).loc Cert.AdamProjRefIdeal.main_v40) = v2 c
          ∧ r.2.mem ((c.tc : Thread Cert.AdamProjRefIdeal.nD Cert.AdamProjRefIdeal.τ).loc Cert.AdamProjRefIdeal.main_v43) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4)
          ∧ r.2.mem ((c.tc : Thread Cert.AdamProjRefIdeal.nD Cert.AdamProjRefIdeal.τ).loc Cert.AdamProjRefIdeal.main_arg5) = m' ((c.tc : Thread Cert.AdamProjRefIdeal.nD Cert.AdamProjRefIdeal.τ).loc Cert.AdamProjRefIdeal.main_arg5)
          ∧ r.2.mem ((c.tc : Thread Cert.AdamProjRefIdeal.nD Cert.AdamProjRefIdeal.τ).loc Cert.AdamProjRefIdeal.main_arg6) = m' ((c.tc : Thread Cert.AdamProjRefIdeal.nD Cert.AdamProjRefIdeal.τ).loc Cert.AdamProjRefIdeal.main_arg6)
          ∧ r.2.mem ((c.tc : Thread Cert.AdamProjRefIdeal.nD Cert.AdamProjRefIdeal.τ).loc Cert.AdamProjRefIdeal.main_arg7) = m' ((c.tc : Thread Cert.AdamProjRefIdeal.nD Cert.AdamProjRefIdeal.τ).loc Cert.AdamProjRefIdeal.main_arg7))

def preserves_AdamConvIn_AdamConvInIdeal : Prop :=
  IdealRules.named_const.Statement Cert.AdamConvInIdeal.κ "c1" .f32 0x3FC48605#32 ((8388608 / 5463681 : ℝ) : EReal)
  ∧ IdealRules.named_const.Statement Cert.AdamConvInIdeal.κ "c2" .f32 0x42C8E6D3#32 ((268435456 / 2672307 : ℝ) : EReal)

def algebraic_AdamConvInIdeal_AdamConvInRefIdeal [hAdamConvInIdeal : Cert.AdamConvInIdeal.Facts] [hAdamConvInRefIdeal : Cert.AdamConvInRefIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg)
    (m' : (ℓ : Loc Cert.AdamConvInRefIdeal.nD Cert.AdamConvInRefIdeal.τ Cert.AdamConvInRefIdeal.sig) → Buf (Elt Ideal) ℓ) (g' : Dev Cert.AdamConvInRefIdeal.nD → PrngReg), Pre_AdamConvInIdeal m →
    (∀ c : Dev Cert.AdamConvInIdeal.nD,
      m' ((c.tc : Thread Cert.AdamConvInRefIdeal.nD Cert.AdamConvInRefIdeal.τ).loc Cert.AdamConvInRefIdeal.main_arg0) = m ((c.tc : Thread Cert.AdamConvInIdeal.nD Cert.AdamConvInIdeal.τ).loc Cert.AdamConvInIdeal.main_arg0)
      ∧ m' ((c.tc : Thread Cert.AdamConvInRefIdeal.nD Cert.AdamConvInRefIdeal.τ).loc Cert.AdamConvInRefIdeal.main_arg1) = m ((c.tc : Thread Cert.AdamConvInIdeal.nD Cert.AdamConvInIdeal.τ).loc Cert.AdamConvInIdeal.main_arg1)
      ∧ m' ((c.tc : Thread Cert.AdamConvInRefIdeal.nD Cert.AdamConvInRefIdeal.τ).loc Cert.AdamConvInRefIdeal.main_arg2) = m ((c.tc : Thread Cert.AdamConvInIdeal.nD Cert.AdamConvInIdeal.τ).loc Cert.AdamConvInIdeal.main_arg2)
      ∧ m' ((c.tc : Thread Cert.AdamConvInRefIdeal.nD Cert.AdamConvInRefIdeal.τ).loc Cert.AdamConvInRefIdeal.main_arg3) = m ((c.tc : Thread Cert.AdamConvInIdeal.nD Cert.AdamConvInIdeal.τ).loc Cert.AdamConvInIdeal.main_arg3)
      ∧ m' ((c.tc : Thread Cert.AdamConvInRefIdeal.nD Cert.AdamConvInRefIdeal.τ).loc Cert.AdamConvInRefIdeal.main_arg4) = m ((c.tc : Thread Cert.AdamConvInIdeal.nD Cert.AdamConvInIdeal.τ).loc Cert.AdamConvInIdeal.main_arg4)
      ∧ m' ((c.tc : Thread Cert.AdamConvInRefIdeal.nD Cert.AdamConvInRefIdeal.τ).loc Cert.AdamConvInRefIdeal.main_arg5) = m ((c.tc : Thread Cert.AdamConvInIdeal.nD Cert.AdamConvInIdeal.τ).loc Cert.AdamConvInIdeal.main_arg5)
      ∧ m' ((c.tc : Thread Cert.AdamConvInRefIdeal.nD Cert.AdamConvInRefIdeal.τ).loc Cert.AdamConvInRefIdeal.main_arg6) = m ((c.tc : Thread Cert.AdamConvInIdeal.nD Cert.AdamConvInIdeal.τ).loc Cert.AdamConvInIdeal.main_arg6)
      ∧ m' ((c.tc : Thread Cert.AdamConvInRefIdeal.nD Cert.AdamConvInRefIdeal.τ).loc Cert.AdamConvInRefIdeal.main_arg7) = m ((c.tc : Thread Cert.AdamConvInIdeal.nD Cert.AdamConvInIdeal.τ).loc Cert.AdamConvInIdeal.main_arg7)) →
    ∃ (v0 : (c : Dev Cert.AdamConvInIdeal.nD) → Buf (Elt Ideal) ((c.tc : Thread Cert.AdamConvInIdeal.nD Cert.AdamConvInIdeal.τ).loc Cert.AdamConvInIdeal.main_v0_0)) (v1 : (c : Dev Cert.AdamConvInIdeal.nD) → Buf (Elt Ideal) ((c.tc : Thread Cert.AdamConvInIdeal.nD Cert.AdamConvInIdeal.τ).loc Cert.AdamConvInIdeal.main_v0_1)) (v2 : (c : Dev Cert.AdamConvInIdeal.nD) → Buf (Elt Ideal) ((c.tc : Thread Cert.AdamConvInIdeal.nD Cert.AdamConvInIdeal.τ).loc Cert.AdamConvInIdeal.main_v0_2)) (v3 : (c : Dev Cert.AdamConvInIdeal.nD) → Buf (Elt Ideal) ((c.tc : Thread Cert.AdamConvInIdeal.nD Cert.AdamConvInIdeal.τ).loc Cert.AdamConvInIdeal.main_v0_3)),
      θ_run (Cert.AdamConvInIdeal.defs (F := Ideal)) (onTc (τ := Cert.AdamConvInIdeal.τ) (Cert.AdamConvInIdeal.main (F := Ideal))) ⟨m, fun _ => 0, g⟩ (fun r => ∀ c : Dev Cert.AdamConvInIdeal.nD,
          r.2.mem ((c.tc : Thread Cert.AdamConvInIdeal.nD Cert.AdamConvInIdeal.τ).loc Cert.AdamConvInIdeal.main_v0_0) = v0 c
          ∧ r.2.mem ((c.tc : Thread Cert.AdamConvInIdeal.nD Cert.AdamConvInIdeal.τ).loc Cert.AdamConvInIdeal.main_v0_1) = v1 c
          ∧ r.2.mem ((c.tc : Thread Cert.AdamConvInIdeal.nD Cert.AdamConvInIdeal.τ).loc Cert.AdamConvInIdeal.main_v0_2) = v2 c
          ∧ r.2.mem ((c.tc : Thread Cert.AdamConvInIdeal.nD Cert.AdamConvInIdeal.τ).loc Cert.AdamConvInIdeal.main_v0_3) = v3 c
          ∧ r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
          ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
          ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
          ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3)
          ∧ r.2.mem ((c.tc : Thread Cert.AdamConvInIdeal.nD Cert.AdamConvInIdeal.τ).loc Cert.AdamConvInIdeal.main_arg4) = m ((c.tc : Thread Cert.AdamConvInIdeal.nD Cert.AdamConvInIdeal.τ).loc Cert.AdamConvInIdeal.main_arg4)
          ∧ r.2.mem ((c.tc : Thread Cert.AdamConvInIdeal.nD Cert.AdamConvInIdeal.τ).loc Cert.AdamConvInIdeal.main_arg5) = m ((c.tc : Thread Cert.AdamConvInIdeal.nD Cert.AdamConvInIdeal.τ).loc Cert.AdamConvInIdeal.main_arg5)
          ∧ r.2.mem ((c.tc : Thread Cert.AdamConvInIdeal.nD Cert.AdamConvInIdeal.τ).loc Cert.AdamConvInIdeal.main_arg6) = m ((c.tc : Thread Cert.AdamConvInIdeal.nD Cert.AdamConvInIdeal.τ).loc Cert.AdamConvInIdeal.main_arg6)
          ∧ r.2.mem ((c.tc : Thread Cert.AdamConvInIdeal.nD Cert.AdamConvInIdeal.τ).loc Cert.AdamConvInIdeal.main_arg7) = m ((c.tc : Thread Cert.AdamConvInIdeal.nD Cert.AdamConvInIdeal.τ).loc Cert.AdamConvInIdeal.main_arg7))
      ∧ θ_run (Cert.AdamConvInRefIdeal.defs (F := Ideal)) (onTc (τ := Cert.AdamConvInRefIdeal.τ) (Cert.AdamConvInRefIdeal.main (F := Ideal))) ⟨m', fun _ => 0, g'⟩ (fun r => ∀ c : Dev Cert.AdamConvInRefIdeal.nD,
          r.2.mem ((c.tc : Thread Cert.AdamConvInRefIdeal.nD Cert.AdamConvInRefIdeal.τ).loc Cert.AdamConvInRefIdeal.main_v34) = v0 c
          ∧ r.2.mem ((c.tc : Thread Cert.AdamConvInRefIdeal.nD Cert.AdamConvInRefIdeal.τ).loc Cert.AdamConvInRefIdeal.main_v37) = v1 c
          ∧ r.2.mem ((c.tc : Thread Cert.AdamConvInRefIdeal.nD Cert.AdamConvInRefIdeal.τ).loc Cert.AdamConvInRefIdeal.main_v40) = v2 c
          ∧ r.2.mem ((c.tc : Thread Cert.AdamConvInRefIdeal.nD Cert.AdamConvInRefIdeal.τ).loc Cert.AdamConvInRefIdeal.main_v43) = v3 c
          ∧ r.2.mem ((c.tc : Thread Cert.AdamConvInRefIdeal.nD Cert.AdamConvInRefIdeal.τ).loc Cert.AdamConvInRefIdeal.main_arg0) = m' ((c.tc : Thread Cert.AdamConvInRefIdeal.nD Cert.AdamConvInRefIdeal.τ).loc Cert.AdamConvInRefIdeal.main_arg0)
          ∧ r.2.mem ((c.tc : Thread Cert.AdamConvInRefIdeal.nD Cert.AdamConvInRefIdeal.τ).loc Cert.AdamConvInRefIdeal.main_arg1) = m' ((c.tc : Thread Cert.AdamConvInRefIdeal.nD Cert.AdamConvInRefIdeal.τ).loc Cert.AdamConvInRefIdeal.main_arg1)
          ∧ r.2.mem ((c.tc : Thread Cert.AdamConvInRefIdeal.nD Cert.AdamConvInRefIdeal.τ).loc Cert.AdamConvInRefIdeal.main_arg2) = m' ((c.tc : Thread Cert.AdamConvInRefIdeal.nD Cert.AdamConvInRefIdeal.τ).loc Cert.AdamConvInRefIdeal.main_arg2)
          ∧ r.2.mem ((c.tc : Thread Cert.AdamConvInRefIdeal.nD Cert.AdamConvInRefIdeal.τ).loc Cert.AdamConvInRefIdeal.main_arg3) = m' ((c.tc : Thread Cert.AdamConvInRefIdeal.nD Cert.AdamConvInRefIdeal.τ).loc Cert.AdamConvInRefIdeal.main_arg3)
          ∧ r.2.mem ((c.tc : Thread Cert.AdamConvInRefIdeal.nD Cert.AdamConvInRefIdeal.τ).loc Cert.AdamConvInRefIdeal.main_arg4) = m' ((c.tc : Thread Cert.AdamConvInRefIdeal.nD Cert.AdamConvInRefIdeal.τ).loc Cert.AdamConvInRefIdeal.main_arg4)
          ∧ r.2.mem ((c.tc : Thread Cert.AdamConvInRefIdeal.nD Cert.AdamConvInRefIdeal.τ).loc Cert.AdamConvInRefIdeal.main_arg5) = m' ((c.tc : Thread Cert.AdamConvInRefIdeal.nD Cert.AdamConvInRefIdeal.τ).loc Cert.AdamConvInRefIdeal.main_arg5)
          ∧ r.2.mem ((c.tc : Thread Cert.AdamConvInRefIdeal.nD Cert.AdamConvInRefIdeal.τ).loc Cert.AdamConvInRefIdeal.main_arg6) = m' ((c.tc : Thread Cert.AdamConvInRefIdeal.nD Cert.AdamConvInRefIdeal.τ).loc Cert.AdamConvInRefIdeal.main_arg6)
          ∧ r.2.mem ((c.tc : Thread Cert.AdamConvInRefIdeal.nD Cert.AdamConvInRefIdeal.τ).loc Cert.AdamConvInRefIdeal.main_arg7) = m' ((c.tc : Thread Cert.AdamConvInRefIdeal.nD Cert.AdamConvInRefIdeal.τ).loc Cert.AdamConvInRefIdeal.main_arg7))

def preserves_AdamConvOut_AdamConvOutIdeal : Prop :=
  IdealRules.named_const.Statement Cert.AdamConvOutIdeal.κ "c1" .f32 0x3FC48605#32 ((8388608 / 5463681 : ℝ) : EReal)
  ∧ IdealRules.named_const.Statement Cert.AdamConvOutIdeal.κ "c2" .f32 0x42C8E6D3#32 ((268435456 / 2672307 : ℝ) : EReal)

def algebraic_AdamConvOutIdeal_AdamConvOutRefIdeal [hAdamConvOutIdeal : Cert.AdamConvOutIdeal.Facts] [hAdamConvOutRefIdeal : Cert.AdamConvOutRefIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg)
    (m' : (ℓ : Loc Cert.AdamConvOutRefIdeal.nD Cert.AdamConvOutRefIdeal.τ Cert.AdamConvOutRefIdeal.sig) → Buf (Elt Ideal) ℓ) (g' : Dev Cert.AdamConvOutRefIdeal.nD → PrngReg), Pre_AdamConvOutIdeal m →
    (∀ c : Dev Cert.AdamConvOutIdeal.nD,
      m' ((c.tc : Thread Cert.AdamConvOutRefIdeal.nD Cert.AdamConvOutRefIdeal.τ).loc Cert.AdamConvOutRefIdeal.main_arg0) = m ((c.tc : Thread Cert.AdamConvOutIdeal.nD Cert.AdamConvOutIdeal.τ).loc Cert.AdamConvOutIdeal.main_arg0)
      ∧ m' ((c.tc : Thread Cert.AdamConvOutRefIdeal.nD Cert.AdamConvOutRefIdeal.τ).loc Cert.AdamConvOutRefIdeal.main_arg1) = m ((c.tc : Thread Cert.AdamConvOutIdeal.nD Cert.AdamConvOutIdeal.τ).loc Cert.AdamConvOutIdeal.main_arg1)
      ∧ m' ((c.tc : Thread Cert.AdamConvOutRefIdeal.nD Cert.AdamConvOutRefIdeal.τ).loc Cert.AdamConvOutRefIdeal.main_arg2) = m ((c.tc : Thread Cert.AdamConvOutIdeal.nD Cert.AdamConvOutIdeal.τ).loc Cert.AdamConvOutIdeal.main_arg2)
      ∧ m' ((c.tc : Thread Cert.AdamConvOutRefIdeal.nD Cert.AdamConvOutRefIdeal.τ).loc Cert.AdamConvOutRefIdeal.main_arg3) = m ((c.tc : Thread Cert.AdamConvOutIdeal.nD Cert.AdamConvOutIdeal.τ).loc Cert.AdamConvOutIdeal.main_arg3)
      ∧ m' ((c.tc : Thread Cert.AdamConvOutRefIdeal.nD Cert.AdamConvOutRefIdeal.τ).loc Cert.AdamConvOutRefIdeal.main_arg4) = m ((c.tc : Thread Cert.AdamConvOutIdeal.nD Cert.AdamConvOutIdeal.τ).loc Cert.AdamConvOutIdeal.main_arg4)
      ∧ m' ((c.tc : Thread Cert.AdamConvOutRefIdeal.nD Cert.AdamConvOutRefIdeal.τ).loc Cert.AdamConvOutRefIdeal.main_arg5) = m ((c.tc : Thread Cert.AdamConvOutIdeal.nD Cert.AdamConvOutIdeal.τ).loc Cert.AdamConvOutIdeal.main_arg5)
      ∧ m' ((c.tc : Thread Cert.AdamConvOutRefIdeal.nD Cert.AdamConvOutRefIdeal.τ).loc Cert.AdamConvOutRefIdeal.main_arg6) = m ((c.tc : Thread Cert.AdamConvOutIdeal.nD Cert.AdamConvOutIdeal.τ).loc Cert.AdamConvOutIdeal.main_arg6)
      ∧ m' ((c.tc : Thread Cert.AdamConvOutRefIdeal.nD Cert.AdamConvOutRefIdeal.τ).loc Cert.AdamConvOutRefIdeal.main_arg7) = m ((c.tc : Thread Cert.AdamConvOutIdeal.nD Cert.AdamConvOutIdeal.τ).loc Cert.AdamConvOutIdeal.main_arg7)) →
    ∃ (v0 : (c : Dev Cert.AdamConvOutIdeal.nD) → Buf (Elt Ideal) ((c.tc : Thread Cert.AdamConvOutIdeal.nD Cert.AdamConvOutIdeal.τ).loc Cert.AdamConvOutIdeal.main_v0_0)) (v1 : (c : Dev Cert.AdamConvOutIdeal.nD) → Buf (Elt Ideal) ((c.tc : Thread Cert.AdamConvOutIdeal.nD Cert.AdamConvOutIdeal.τ).loc Cert.AdamConvOutIdeal.main_v0_1)) (v2 : (c : Dev Cert.AdamConvOutIdeal.nD) → Buf (Elt Ideal) ((c.tc : Thread Cert.AdamConvOutIdeal.nD Cert.AdamConvOutIdeal.τ).loc Cert.AdamConvOutIdeal.main_v0_2)) (v3 : (c : Dev Cert.AdamConvOutIdeal.nD) → Buf (Elt Ideal) ((c.tc : Thread Cert.AdamConvOutIdeal.nD Cert.AdamConvOutIdeal.τ).loc Cert.AdamConvOutIdeal.main_v0_3)),
      θ_run (Cert.AdamConvOutIdeal.defs (F := Ideal)) (onTc (τ := Cert.AdamConvOutIdeal.τ) (Cert.AdamConvOutIdeal.main (F := Ideal))) ⟨m, fun _ => 0, g⟩ (fun r => ∀ c : Dev Cert.AdamConvOutIdeal.nD,
          r.2.mem ((c.tc : Thread Cert.AdamConvOutIdeal.nD Cert.AdamConvOutIdeal.τ).loc Cert.AdamConvOutIdeal.main_v0_0) = v0 c
          ∧ r.2.mem ((c.tc : Thread Cert.AdamConvOutIdeal.nD Cert.AdamConvOutIdeal.τ).loc Cert.AdamConvOutIdeal.main_v0_1) = v1 c
          ∧ r.2.mem ((c.tc : Thread Cert.AdamConvOutIdeal.nD Cert.AdamConvOutIdeal.τ).loc Cert.AdamConvOutIdeal.main_v0_2) = v2 c
          ∧ r.2.mem ((c.tc : Thread Cert.AdamConvOutIdeal.nD Cert.AdamConvOutIdeal.τ).loc Cert.AdamConvOutIdeal.main_v0_3) = v3 c
          ∧ r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
          ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
          ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
          ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3)
          ∧ r.2.mem ((c.tc : Thread Cert.AdamConvOutIdeal.nD Cert.AdamConvOutIdeal.τ).loc Cert.AdamConvOutIdeal.main_arg4) = m ((c.tc : Thread Cert.AdamConvOutIdeal.nD Cert.AdamConvOutIdeal.τ).loc Cert.AdamConvOutIdeal.main_arg4)
          ∧ r.2.mem ((c.tc : Thread Cert.AdamConvOutIdeal.nD Cert.AdamConvOutIdeal.τ).loc Cert.AdamConvOutIdeal.main_arg5) = m ((c.tc : Thread Cert.AdamConvOutIdeal.nD Cert.AdamConvOutIdeal.τ).loc Cert.AdamConvOutIdeal.main_arg5)
          ∧ r.2.mem ((c.tc : Thread Cert.AdamConvOutIdeal.nD Cert.AdamConvOutIdeal.τ).loc Cert.AdamConvOutIdeal.main_arg6) = m ((c.tc : Thread Cert.AdamConvOutIdeal.nD Cert.AdamConvOutIdeal.τ).loc Cert.AdamConvOutIdeal.main_arg6)
          ∧ r.2.mem ((c.tc : Thread Cert.AdamConvOutIdeal.nD Cert.AdamConvOutIdeal.τ).loc Cert.AdamConvOutIdeal.main_arg7) = m ((c.tc : Thread Cert.AdamConvOutIdeal.nD Cert.AdamConvOutIdeal.τ).loc Cert.AdamConvOutIdeal.main_arg7))
      ∧ θ_run (Cert.AdamConvOutRefIdeal.defs (F := Ideal)) (onTc (τ := Cert.AdamConvOutRefIdeal.τ) (Cert.AdamConvOutRefIdeal.main (F := Ideal))) ⟨m', fun _ => 0, g'⟩ (fun r => ∀ c : Dev Cert.AdamConvOutRefIdeal.nD,
          r.2.mem ((c.tc : Thread Cert.AdamConvOutRefIdeal.nD Cert.AdamConvOutRefIdeal.τ).loc Cert.AdamConvOutRefIdeal.main_v34) = v0 c
          ∧ r.2.mem ((c.tc : Thread Cert.AdamConvOutRefIdeal.nD Cert.AdamConvOutRefIdeal.τ).loc Cert.AdamConvOutRefIdeal.main_v37) = v1 c
          ∧ r.2.mem ((c.tc : Thread Cert.AdamConvOutRefIdeal.nD Cert.AdamConvOutRefIdeal.τ).loc Cert.AdamConvOutRefIdeal.main_v40) = v2 c
          ∧ r.2.mem ((c.tc : Thread Cert.AdamConvOutRefIdeal.nD Cert.AdamConvOutRefIdeal.τ).loc Cert.AdamConvOutRefIdeal.main_v43) = v3 c
          ∧ r.2.mem ((c.tc : Thread Cert.AdamConvOutRefIdeal.nD Cert.AdamConvOutRefIdeal.τ).loc Cert.AdamConvOutRefIdeal.main_arg0) = m' ((c.tc : Thread Cert.AdamConvOutRefIdeal.nD Cert.AdamConvOutRefIdeal.τ).loc Cert.AdamConvOutRefIdeal.main_arg0)
          ∧ r.2.mem ((c.tc : Thread Cert.AdamConvOutRefIdeal.nD Cert.AdamConvOutRefIdeal.τ).loc Cert.AdamConvOutRefIdeal.main_arg1) = m' ((c.tc : Thread Cert.AdamConvOutRefIdeal.nD Cert.AdamConvOutRefIdeal.τ).loc Cert.AdamConvOutRefIdeal.main_arg1)
          ∧ r.2.mem ((c.tc : Thread Cert.AdamConvOutRefIdeal.nD Cert.AdamConvOutRefIdeal.τ).loc Cert.AdamConvOutRefIdeal.main_arg2) = m' ((c.tc : Thread Cert.AdamConvOutRefIdeal.nD Cert.AdamConvOutRefIdeal.τ).loc Cert.AdamConvOutRefIdeal.main_arg2)
          ∧ r.2.mem ((c.tc : Thread Cert.AdamConvOutRefIdeal.nD Cert.AdamConvOutRefIdeal.τ).loc Cert.AdamConvOutRefIdeal.main_arg3) = m' ((c.tc : Thread Cert.AdamConvOutRefIdeal.nD Cert.AdamConvOutRefIdeal.τ).loc Cert.AdamConvOutRefIdeal.main_arg3)
          ∧ r.2.mem ((c.tc : Thread Cert.AdamConvOutRefIdeal.nD Cert.AdamConvOutRefIdeal.τ).loc Cert.AdamConvOutRefIdeal.main_arg4) = m' ((c.tc : Thread Cert.AdamConvOutRefIdeal.nD Cert.AdamConvOutRefIdeal.τ).loc Cert.AdamConvOutRefIdeal.main_arg4)
          ∧ r.2.mem ((c.tc : Thread Cert.AdamConvOutRefIdeal.nD Cert.AdamConvOutRefIdeal.τ).loc Cert.AdamConvOutRefIdeal.main_arg5) = m' ((c.tc : Thread Cert.AdamConvOutRefIdeal.nD Cert.AdamConvOutRefIdeal.τ).loc Cert.AdamConvOutRefIdeal.main_arg5)
          ∧ r.2.mem ((c.tc : Thread Cert.AdamConvOutRefIdeal.nD Cert.AdamConvOutRefIdeal.τ).loc Cert.AdamConvOutRefIdeal.main_arg6) = m' ((c.tc : Thread Cert.AdamConvOutRefIdeal.nD Cert.AdamConvOutRefIdeal.τ).loc Cert.AdamConvOutRefIdeal.main_arg6)
          ∧ r.2.mem ((c.tc : Thread Cert.AdamConvOutRefIdeal.nD Cert.AdamConvOutRefIdeal.τ).loc Cert.AdamConvOutRefIdeal.main_arg7) = m' ((c.tc : Thread Cert.AdamConvOutRefIdeal.nD Cert.AdamConvOutRefIdeal.τ).loc Cert.AdamConvOutRefIdeal.main_arg7))

def Claim : Prop :=
  ∃ (hHidden : Cert.Hidden.Facts) (hHiddenIdeal : Cert.HiddenIdeal.Facts) (hHiddenRefIdeal : Cert.HiddenRefIdeal.Facts) (hRows : Cert.Rows.Facts) (hRowsIdeal : Cert.RowsIdeal.Facts) (hRowsRefIdeal : Cert.RowsRefIdeal.Facts) (hMm : Cert.Mm.Facts) (hMmIdeal : Cert.MmIdeal.Facts) (hMmRefIdeal : Cert.MmRefIdeal.Facts) (hMmAdd : Cert.MmAdd.Facts) (hMmAddIdeal : Cert.MmAddIdeal.Facts) (hMmAddRefIdeal : Cert.MmAddRefIdeal.Facts) (hUp : Cert.Up.Facts) (hUpIdeal : Cert.UpIdeal.Facts) (hUpRefIdeal : Cert.UpRefIdeal.Facts) (hDx : Cert.Dx.Facts) (hDxIdeal : Cert.DxIdeal.Facts) (hDxRefIdeal : Cert.DxRefIdeal.Facts) (hGate : Cert.Gate.Facts) (hGateIdeal : Cert.GateIdeal.Facts) (hGateRefIdeal : Cert.GateRefIdeal.Facts) (hGradW : Cert.GradW.Facts) (hGradWIdeal : Cert.GradWIdeal.Facts) (hGradWRefIdeal : Cert.GradWRefIdeal.Facts) (hRes : Cert.Res.Facts) (hResIdeal : Cert.ResIdeal.Facts) (hResRefIdeal : Cert.ResRefIdeal.Facts) (hResIn : Cert.ResIn.Facts) (hResInIdeal : Cert.ResInIdeal.Facts) (hResInRefIdeal : Cert.ResInRefIdeal.Facts) (hLoss : Cert.Loss.Facts) (hLossIdeal : Cert.LossIdeal.Facts) (hLossRefIdeal : Cert.LossRefIdeal.Facts) (hPoolOut : Cert.PoolOut.Facts) (hPoolOutIdeal : Cert.PoolOutIdeal.Facts) (hPoolOutRefIdeal : Cert.PoolOutRefIdeal.Facts) (hGateBwd : Cert.GateBwd.Facts) (hGateBwdIdeal : Cert.GateBwdIdeal.Facts) (hGateBwdRefIdeal : Cert.GateBwdRefIdeal.Facts) (hConvOut : Cert.ConvOut.Facts) (hConvOutIdeal : Cert.ConvOutIdeal.Facts) (hConvOutRefIdeal : Cert.ConvOutRefIdeal.Facts) (hPoolFwd : Cert.PoolFwd.Facts) (hPoolFwdIdeal : Cert.PoolFwdIdeal.Facts) (hPoolFwdRefIdeal : Cert.PoolFwdRefIdeal.Facts) (hFfnRes : Cert.FfnRes.Facts) (hFfnResIdeal : Cert.FfnResIdeal.Facts) (hFfnResRefIdeal : Cert.FfnResRefIdeal.Facts) (hAttnRes : Cert.AttnRes.Facts) (hAttnResIdeal : Cert.AttnResIdeal.Facts) (hAttnResRefIdeal : Cert.AttnResRefIdeal.Facts) (hConvRes : Cert.ConvRes.Facts) (hConvResIdeal : Cert.ConvResIdeal.Facts) (hConvResRefIdeal : Cert.ConvResRefIdeal.Facts) (hConvIn : Cert.ConvIn.Facts) (hConvInIdeal : Cert.ConvInIdeal.Facts) (hConvInRefIdeal : Cert.ConvInRefIdeal.Facts) (hAttnDx : Cert.AttnDx.Facts) (hAttnDxIdeal : Cert.AttnDxIdeal.Facts) (hAttnDxRefIdeal : Cert.AttnDxRefIdeal.Facts) (hQkv : Cert.Qkv.Facts) (hQkvIdeal : Cert.QkvIdeal.Facts) (hQkvRefIdeal : Cert.QkvRefIdeal.Facts) (hPleProj : Cert.PleProj.Facts) (hPleProjIdeal : Cert.PleProjIdeal.Facts) (hPleProjRefIdeal : Cert.PleProjRefIdeal.Facts) (hRmsIn : Cert.RmsIn.Facts) (hRmsInIdeal : Cert.RmsInIdeal.Facts) (hRmsInRefIdeal : Cert.RmsInRefIdeal.Facts) (hBiasGrad : Cert.BiasGrad.Facts) (hBiasGradIdeal : Cert.BiasGradIdeal.Facts) (hBiasGradRefIdeal : Cert.BiasGradRefIdeal.Facts) (hBias : Cert.Bias.Facts) (hBiasIdeal : Cert.BiasIdeal.Facts) (hBiasRefIdeal : Cert.BiasRefIdeal.Facts) (hPoolW : Cert.PoolW.Facts) (hPoolWIdeal : Cert.PoolWIdeal.Facts) (hPoolWRefIdeal : Cert.PoolWRefIdeal.Facts) (hAdamNorm : Cert.AdamNorm.Facts) (hAdamNormIdeal : Cert.AdamNormIdeal.Facts) (hAdamNormRefIdeal : Cert.AdamNormRefIdeal.Facts) (hAdamVec : Cert.AdamVec.Facts) (hAdamVecIdeal : Cert.AdamVecIdeal.Facts) (hAdamVecRefIdeal : Cert.AdamVecRefIdeal.Facts) (hAdamHead : Cert.AdamHead.Facts) (hAdamHeadIdeal : Cert.AdamHeadIdeal.Facts) (hAdamHeadRefIdeal : Cert.AdamHeadRefIdeal.Facts) (hAdamScale : Cert.AdamScale.Facts) (hAdamScaleIdeal : Cert.AdamScaleIdeal.Facts) (hAdamScaleRefIdeal : Cert.AdamScaleRefIdeal.Facts) (hAdamSink : Cert.AdamSink.Facts) (hAdamSinkIdeal : Cert.AdamSinkIdeal.Facts) (hAdamSinkRefIdeal : Cert.AdamSinkRefIdeal.Facts) (hAdamBias : Cert.AdamBias.Facts) (hAdamBiasIdeal : Cert.AdamBiasIdeal.Facts) (hAdamBiasRefIdeal : Cert.AdamBiasRefIdeal.Facts) (hAdamConvB : Cert.AdamConvB.Facts) (hAdamConvBIdeal : Cert.AdamConvBIdeal.Facts) (hAdamConvBRefIdeal : Cert.AdamConvBRefIdeal.Facts) (hAdamConvW : Cert.AdamConvW.Facts) (hAdamConvWIdeal : Cert.AdamConvWIdeal.Facts) (hAdamConvWRefIdeal : Cert.AdamConvWRefIdeal.Facts) (hAdamQkv : Cert.AdamQkv.Facts) (hAdamQkvIdeal : Cert.AdamQkvIdeal.Facts) (hAdamQkvRefIdeal : Cert.AdamQkvRefIdeal.Facts) (hAdamOut : Cert.AdamOut.Facts) (hAdamOutIdeal : Cert.AdamOutIdeal.Facts) (hAdamOutRefIdeal : Cert.AdamOutRefIdeal.Facts) (hAdamPool : Cert.AdamPool.Facts) (hAdamPoolIdeal : Cert.AdamPoolIdeal.Facts) (hAdamPoolRefIdeal : Cert.AdamPoolRefIdeal.Facts) (hAdamFfn : Cert.AdamFfn.Facts) (hAdamFfnIdeal : Cert.AdamFfnIdeal.Facts) (hAdamFfnRefIdeal : Cert.AdamFfnRefIdeal.Facts) (hAdamGate : Cert.AdamGate.Facts) (hAdamGateIdeal : Cert.AdamGateIdeal.Facts) (hAdamGateRefIdeal : Cert.AdamGateRefIdeal.Facts) (hAdamProj : Cert.AdamProj.Facts) (hAdamProjIdeal : Cert.AdamProjIdeal.Facts) (hAdamProjRefIdeal : Cert.AdamProjRefIdeal.Facts) (hAdamConvIn : Cert.AdamConvIn.Facts) (hAdamConvInIdeal : Cert.AdamConvInIdeal.Facts) (hAdamConvInRefIdeal : Cert.AdamConvInRefIdeal.Facts) (hAdamConvOut : Cert.AdamConvOut.Facts) (hAdamConvOutIdeal : Cert.AdamConvOutIdeal.Facts) (hAdamConvOutRefIdeal : Cert.AdamConvOutRefIdeal.Facts) (hPre_finite_hidden : Cert.Pre_finite_hidden.Facts) (hPre_finite_dx : Cert.Pre_finite_dx.Facts) (hPre_finite_res : Cert.Pre_finite_res.Facts) (hPre_finite_conv : Cert.Pre_finite_conv.Facts) (hPre_bucketed : Cert.Pre_bucketed.Facts) (hPre_bucketed_table : Cert.Pre_bucketed_table.Facts),
    quiescent_Hidden (hHidden := hHidden)
    ∧ quiescent_HiddenIdeal (hHiddenIdeal := hHiddenIdeal)
    ∧ quiescent_HiddenIdeal_pre_finite_hidden (hHiddenIdeal := hHiddenIdeal) (hPre_finite_hidden := hPre_finite_hidden)
    ∧ quiescent_HiddenRefIdeal (hHiddenRefIdeal := hHiddenRefIdeal)
    ∧ quiescent_HiddenRefIdeal_pre_finite_hidden (hHiddenRefIdeal := hHiddenRefIdeal) (hPre_finite_hidden := hPre_finite_hidden)
    ∧ quiescent_Rows (hRows := hRows)
    ∧ quiescent_RowsIdeal (hRowsIdeal := hRowsIdeal)
    ∧ quiescent_RowsRefIdeal (hRowsRefIdeal := hRowsRefIdeal)
    ∧ quiescent_Mm (hMm := hMm)
    ∧ quiescent_MmIdeal (hMmIdeal := hMmIdeal)
    ∧ quiescent_MmRefIdeal (hMmRefIdeal := hMmRefIdeal)
    ∧ quiescent_MmAdd (hMmAdd := hMmAdd)
    ∧ quiescent_MmAddIdeal (hMmAddIdeal := hMmAddIdeal)
    ∧ quiescent_MmAddRefIdeal (hMmAddRefIdeal := hMmAddRefIdeal)
    ∧ quiescent_Up (hUp := hUp)
    ∧ quiescent_UpIdeal (hUpIdeal := hUpIdeal)
    ∧ quiescent_UpRefIdeal (hUpRefIdeal := hUpRefIdeal)
    ∧ quiescent_Dx (hDx := hDx)
    ∧ quiescent_DxIdeal (hDxIdeal := hDxIdeal)
    ∧ quiescent_DxIdeal_pre_finite_dx (hDxIdeal := hDxIdeal) (hPre_finite_dx := hPre_finite_dx)
    ∧ quiescent_DxRefIdeal (hDxRefIdeal := hDxRefIdeal)
    ∧ quiescent_DxRefIdeal_pre_finite_dx (hDxRefIdeal := hDxRefIdeal) (hPre_finite_dx := hPre_finite_dx)
    ∧ quiescent_Gate (hGate := hGate)
    ∧ quiescent_GateIdeal (hGateIdeal := hGateIdeal)
    ∧ quiescent_GateRefIdeal (hGateRefIdeal := hGateRefIdeal)
    ∧ quiescent_GradW (hGradW := hGradW)
    ∧ quiescent_GradWIdeal (hGradWIdeal := hGradWIdeal)
    ∧ quiescent_GradWRefIdeal (hGradWRefIdeal := hGradWRefIdeal)
    ∧ quiescent_Res (hRes := hRes)
    ∧ quiescent_ResIdeal (hResIdeal := hResIdeal)
    ∧ quiescent_ResIdeal_pre_finite_res (hResIdeal := hResIdeal) (hPre_finite_res := hPre_finite_res)
    ∧ quiescent_ResRefIdeal (hResRefIdeal := hResRefIdeal)
    ∧ quiescent_ResRefIdeal_pre_finite_res (hResRefIdeal := hResRefIdeal) (hPre_finite_res := hPre_finite_res)
    ∧ quiescent_ResIn (hResIn := hResIn)
    ∧ quiescent_ResInIdeal (hResInIdeal := hResInIdeal)
    ∧ quiescent_ResInIdeal_pre_finite_res (hResInIdeal := hResInIdeal) (hPre_finite_res := hPre_finite_res)
    ∧ quiescent_ResInRefIdeal (hResInRefIdeal := hResInRefIdeal)
    ∧ quiescent_ResInRefIdeal_pre_finite_res (hResInRefIdeal := hResInRefIdeal) (hPre_finite_res := hPre_finite_res)
    ∧ quiescent_Loss (hLoss := hLoss)
    ∧ quiescent_LossIdeal (hLossIdeal := hLossIdeal)
    ∧ quiescent_LossRefIdeal (hLossRefIdeal := hLossRefIdeal)
    ∧ quiescent_PoolOut (hPoolOut := hPoolOut)
    ∧ quiescent_PoolOutIdeal (hPoolOutIdeal := hPoolOutIdeal)
    ∧ quiescent_PoolOutRefIdeal (hPoolOutRefIdeal := hPoolOutRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_ConvOut (hConvOut := hConvOut)
    ∧ quiescent_ConvOutIdeal (hConvOutIdeal := hConvOutIdeal)
    ∧ quiescent_ConvOutIdeal_pre_finite_conv (hConvOutIdeal := hConvOutIdeal) (hPre_finite_conv := hPre_finite_conv)
    ∧ quiescent_ConvOutRefIdeal (hConvOutRefIdeal := hConvOutRefIdeal)
    ∧ quiescent_ConvOutRefIdeal_pre_finite_conv (hConvOutRefIdeal := hConvOutRefIdeal) (hPre_finite_conv := hPre_finite_conv)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_FfnRes (hFfnRes := hFfnRes)
    ∧ quiescent_FfnResIdeal (hFfnResIdeal := hFfnResIdeal)
    ∧ quiescent_FfnResRefIdeal (hFfnResRefIdeal := hFfnResRefIdeal)
    ∧ quiescent_AttnRes (hAttnRes := hAttnRes)
    ∧ quiescent_AttnResIdeal (hAttnResIdeal := hAttnResIdeal)
    ∧ quiescent_AttnResRefIdeal (hAttnResRefIdeal := hAttnResRefIdeal)
    ∧ quiescent_ConvRes (hConvRes := hConvRes)
    ∧ quiescent_ConvResIdeal (hConvResIdeal := hConvResIdeal)
    ∧ quiescent_ConvResRefIdeal (hConvResRefIdeal := hConvResRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_AttnDx (hAttnDx := hAttnDx)
    ∧ quiescent_AttnDxIdeal (hAttnDxIdeal := hAttnDxIdeal)
    ∧ quiescent_AttnDxRefIdeal (hAttnDxRefIdeal := hAttnDxRefIdeal)
    ∧ quiescent_Qkv (hQkv := hQkv)
    ∧ quiescent_QkvIdeal (hQkvIdeal := hQkvIdeal)
    ∧ quiescent_QkvRefIdeal (hQkvRefIdeal := hQkvRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_BiasGrad (hBiasGrad := hBiasGrad)
    ∧ quiescent_BiasGradIdeal (hBiasGradIdeal := hBiasGradIdeal)
    ∧ quiescent_BiasGradIdeal_pre_bucketed (hBiasGradIdeal := hBiasGradIdeal) (hPre_bucketed := hPre_bucketed)
    ∧ quiescent_BiasGradRefIdeal (hBiasGradRefIdeal := hBiasGradRefIdeal)
    ∧ quiescent_BiasGradRefIdeal_pre_bucketed (hBiasGradRefIdeal := hBiasGradRefIdeal) (hPre_bucketed := hPre_bucketed)
    ∧ quiescent_Bias (hBias := hBias)
    ∧ quiescent_BiasIdeal (hBiasIdeal := hBiasIdeal)
    ∧ quiescent_BiasIdeal_pre_bucketed_table (hBiasIdeal := hBiasIdeal) (hPre_bucketed_table := hPre_bucketed_table)
    ∧ quiescent_BiasRefIdeal (hBiasRefIdeal := hBiasRefIdeal)
    ∧ quiescent_BiasRefIdeal_pre_bucketed_table (hBiasRefIdeal := hBiasRefIdeal) (hPre_bucketed_table := hPre_bucketed_table)
    ∧ quiescent_PoolW (hPoolW := hPoolW)
    ∧ quiescent_PoolWIdeal (hPoolWIdeal := hPoolWIdeal)
    ∧ quiescent_PoolWRefIdeal (hPoolWRefIdeal := hPoolWRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamScale (hAdamScale := hAdamScale)
    ∧ quiescent_AdamScaleIdeal (hAdamScaleIdeal := hAdamScaleIdeal)
    ∧ quiescent_AdamScaleRefIdeal (hAdamScaleRefIdeal := hAdamScaleRefIdeal)
    ∧ quiescent_AdamSink (hAdamSink := hAdamSink)
    ∧ quiescent_AdamSinkIdeal (hAdamSinkIdeal := hAdamSinkIdeal)
    ∧ quiescent_AdamSinkRefIdeal (hAdamSinkRefIdeal := hAdamSinkRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamConvIn (hAdamConvIn := hAdamConvIn)
    ∧ quiescent_AdamConvInIdeal (hAdamConvInIdeal := hAdamConvInIdeal)
    ∧ quiescent_AdamConvInRefIdeal (hAdamConvInRefIdeal := hAdamConvInRefIdeal)
    ∧ quiescent_AdamConvOut (hAdamConvOut := hAdamConvOut)
    ∧ quiescent_AdamConvOutIdeal (hAdamConvOutIdeal := hAdamConvOutIdeal)
    ∧ quiescent_AdamConvOutRefIdeal (hAdamConvOutRefIdeal := hAdamConvOutRefIdeal)
    ∧ preserves_Hidden_HiddenIdeal
    ∧ algebraic_HiddenIdeal_HiddenRefIdeal_pre_finite_hidden (hHiddenIdeal := hHiddenIdeal) (hHiddenRefIdeal := hHiddenRefIdeal) (hPre_finite_hidden := hPre_finite_hidden)
    ∧ preserves_Rows_RowsIdeal
    ∧ algebraic_RowsIdeal_RowsRefIdeal (hRowsIdeal := hRowsIdeal) (hRowsRefIdeal := hRowsRefIdeal)
    ∧ preserves_Mm_MmIdeal
    ∧ algebraic_MmIdeal_MmRefIdeal (hMmIdeal := hMmIdeal) (hMmRefIdeal := hMmRefIdeal)
    ∧ preserves_MmAdd_MmAddIdeal
    ∧ algebraic_MmAddIdeal_MmAddRefIdeal (hMmAddIdeal := hMmAddIdeal) (hMmAddRefIdeal := hMmAddRefIdeal)
    ∧ preserves_Up_UpIdeal
    ∧ algebraic_UpIdeal_UpRefIdeal (hUpIdeal := hUpIdeal) (hUpRefIdeal := hUpRefIdeal)
    ∧ preserves_Dx_DxIdeal
    ∧ algebraic_DxIdeal_DxRefIdeal_pre_finite_dx (hDxIdeal := hDxIdeal) (hDxRefIdeal := hDxRefIdeal) (hPre_finite_dx := hPre_finite_dx)
    ∧ preserves_Gate_GateIdeal
    ∧ algebraic_GateIdeal_GateRefIdeal (hGateIdeal := hGateIdeal) (hGateRefIdeal := hGateRefIdeal)
    ∧ preserves_GradW_GradWIdeal
    ∧ algebraic_GradWIdeal_GradWRefIdeal (hGradWIdeal := hGradWIdeal) (hGradWRefIdeal := hGradWRefIdeal)
    ∧ preserves_Res_ResIdeal
    ∧ algebraic_ResIdeal_ResRefIdeal_pre_finite_res (hResIdeal := hResIdeal) (hResRefIdeal := hResRefIdeal) (hPre_finite_res := hPre_finite_res)
    ∧ preserves_ResIn_ResInIdeal
    ∧ algebraic_ResInIdeal_ResInRefIdeal_pre_finite_res (hResInIdeal := hResInIdeal) (hResInRefIdeal := hResInRefIdeal) (hPre_finite_res := hPre_finite_res)
    ∧ preserves_Loss_LossIdeal
    ∧ algebraic_LossIdeal_LossRefIdeal (hLossIdeal := hLossIdeal) (hLossRefIdeal := hLossRefIdeal)
    ∧ preserves_PoolOut_PoolOutIdeal
    ∧ algebraic_PoolOutIdeal_PoolOutRefIdeal (hPoolOutIdeal := hPoolOutIdeal) (hPoolOutRefIdeal := hPoolOutRefIdeal)
    ∧ preserves_GateBwd_GateBwdIdeal
    ∧ algebraic_GateBwdIdeal_GateBwdRefIdeal (hGateBwdIdeal := hGateBwdIdeal) (hGateBwdRefIdeal := hGateBwdRefIdeal)
    ∧ preserves_ConvOut_ConvOutIdeal
    ∧ algebraic_ConvOutIdeal_ConvOutRefIdeal_pre_finite_conv (hConvOutIdeal := hConvOutIdeal) (hConvOutRefIdeal := hConvOutRefIdeal) (hPre_finite_conv := hPre_finite_conv)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_FfnRes_FfnResIdeal
    ∧ algebraic_FfnResIdeal_FfnResRefIdeal (hFfnResIdeal := hFfnResIdeal) (hFfnResRefIdeal := hFfnResRefIdeal)
    ∧ preserves_AttnRes_AttnResIdeal
    ∧ algebraic_AttnResIdeal_AttnResRefIdeal (hAttnResIdeal := hAttnResIdeal) (hAttnResRefIdeal := hAttnResRefIdeal)
    ∧ preserves_ConvRes_ConvResIdeal
    ∧ algebraic_ConvResIdeal_ConvResRefIdeal (hConvResIdeal := hConvResIdeal) (hConvResRefIdeal := hConvResRefIdeal)
    ∧ preserves_ConvIn_ConvInIdeal
    ∧ algebraic_ConvInIdeal_ConvInRefIdeal (hConvInIdeal := hConvInIdeal) (hConvInRefIdeal := hConvInRefIdeal)
    ∧ preserves_AttnDx_AttnDxIdeal
    ∧ algebraic_AttnDxIdeal_AttnDxRefIdeal (hAttnDxIdeal := hAttnDxIdeal) (hAttnDxRefIdeal := hAttnDxRefIdeal)
    ∧ preserves_Qkv_QkvIdeal
    ∧ algebraic_QkvIdeal_QkvRefIdeal (hQkvIdeal := hQkvIdeal) (hQkvRefIdeal := hQkvRefIdeal)
    ∧ preserves_PleProj_PleProjIdeal
    ∧ algebraic_PleProjIdeal_PleProjRefIdeal (hPleProjIdeal := hPleProjIdeal) (hPleProjRefIdeal := hPleProjRefIdeal)
    ∧ preserves_RmsIn_RmsInIdeal
    ∧ algebraic_RmsInIdeal_RmsInRefIdeal (hRmsInIdeal := hRmsInIdeal) (hRmsInRefIdeal := hRmsInRefIdeal)
    ∧ preserves_BiasGrad_BiasGradIdeal
    ∧ algebraic_BiasGradIdeal_BiasGradRefIdeal_pre_bucketed (hBiasGradIdeal := hBiasGradIdeal) (hBiasGradRefIdeal := hBiasGradRefIdeal) (hPre_bucketed := hPre_bucketed)
    ∧ preserves_Bias_BiasIdeal
    ∧ algebraic_BiasIdeal_BiasRefIdeal_pre_bucketed_table (hBiasIdeal := hBiasIdeal) (hBiasRefIdeal := hBiasRefIdeal) (hPre_bucketed_table := hPre_bucketed_table)
    ∧ preserves_PoolW_PoolWIdeal
    ∧ algebraic_PoolWIdeal_PoolWRefIdeal (hPoolWIdeal := hPoolWIdeal) (hPoolWRefIdeal := hPoolWRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamScale_AdamScaleIdeal
    ∧ algebraic_AdamScaleIdeal_AdamScaleRefIdeal (hAdamScaleIdeal := hAdamScaleIdeal) (hAdamScaleRefIdeal := hAdamScaleRefIdeal)
    ∧ preserves_AdamSink_AdamSinkIdeal
    ∧ algebraic_AdamSinkIdeal_AdamSinkRefIdeal (hAdamSinkIdeal := hAdamSinkIdeal) (hAdamSinkRefIdeal := hAdamSinkRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamConvIn_AdamConvInIdeal
    ∧ algebraic_AdamConvInIdeal_AdamConvInRefIdeal (hAdamConvInIdeal := hAdamConvInIdeal) (hAdamConvInRefIdeal := hAdamConvInRefIdeal)
    ∧ preserves_AdamConvOut_AdamConvOutIdeal
    ∧ algebraic_AdamConvOutIdeal_AdamConvOutRefIdeal (hAdamConvOutIdeal := hAdamConvOutIdeal) (hAdamConvOutRefIdeal := hAdamConvOutRefIdeal)
-- ==== Pre_bucketed.lean ====
abbrev S128x256 : Shape := ⟨2, ![128, 256]⟩
abbrev S32x128x256 : Shape := ⟨3, ![32, 128, 256]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel

variable [Facts]

def fn {F : FTy → Type} [FloatOps F] (main_arg0 : IVec S128x256 32) (main_arg1 : FVec F S32x128x256 .f32) : IVec S_ 1 :=
  let main_c : IVec S_ 32 := constantI S_ 32 0#32
  let main_v0 : IVec S128x256 32 := broadcastInDim S128x256 ![] bcast_S_S128x256 main_c
  let main_v1 : IVec S128x256 1 := cmpi .sge main_arg0 main_v0
  let main_c_0 : IVec S_ 1 := constantI S_ 1 1#1
  let main_v2 : IVec S_ 1 := (fun x v => Host.reduce IntOp.andi x v reducesTo_S128x256_S_d0_1 h_S_) main_v1 main_c_0
  main_v2
-- ==== Pre_bucketed_table.lean ====
abbrev S128x256 : Shape := ⟨2, ![128, 256]⟩
abbrev S32x32 : Shape := ⟨2, ![32, 32]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel

variable [Facts]

def fn {F : FTy → Type} [FloatOps F] (main_arg0 : IVec S128x256 32) (main_arg1 : FVec F S32x32 .f32) : IVec S_ 1 :=
  let main_c : IVec S_ 32 := constantI S_ 32 0#32
  let main_v0 : IVec S128x256 32 := broadcastInDim S128x256 ![] bcast_S_S128x256 main_c
  let main_v1 : IVec S128x256 1 := cmpi .sge main_arg0 main_v0
  let main_c_0 : IVec S_ 32 := constantI S_ 32 32#32
  let main_v2 : IVec S128x256 32 := broadcastInDim S128x256 ![] bcast_S_S128x256 main_c_0
  let main_v3 : IVec S128x256 1 := cmpi .slt main_arg0 main_v2
  let main_v4 : IVec S128x256 1 := andi main_v1 main_v3
  let main_c_1 : IVec S_ 1 := constantI S_ 1 1#1
  let main_v5 : IVec S_ 1 := (fun x v => Host.reduce IntOp.andi x v reducesTo_S128x256_S_d0_1 h_S_) main_v4 main_c_1
  main_v5
-- ==== Pre_finite_conv.lean ====
abbrev S8192x2048 : Shape := ⟨2, ![8192, 2048]⟩
abbrev S8x1x256x2048 : Shape := ⟨4, ![8, 1, 256, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x1x256x2048 : S_.BroadcastsInDim S8x1x256x2048 (![] : Fin 0 → Fin S8x1x256x2048.rank)
  reducesTo_S8x1x256x2048_S_d0_1_2_3 : S8x1x256x2048.ReducesTo [0, 1, 2, 3] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S8192x2048 .bf16) (main_arg1 : FVec F S8x1x256x2048 .bf16) (main_arg2 : FVec F S8192x2048 .f32) (main_arg3 : FVec F S1x2048 .f32) (main_arg4 : FVec F S1x2048 .f32) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x1x256x2048 .bf16 := Host.absf main_arg1
  let main_cst_0 : FVec F S_ .bf16 := constant S_ .bf16 0x7F80#16
  let main_v5 : FVec F S8x1x256x2048 .bf16 := broadcastInDim S8x1x256x2048 ![] bcast_S_S8x1x256x2048 main_cst_0
  let main_v6 : IVec S8x1x256x2048 1 := cmpf .olt main_v4 main_v5
  let main_c_1 : IVec S_ 1 := constantI S_ 1 1#1
  let main_v7 : IVec S_ 1 := (fun x v => Host.reduce IntOp.andi x v reducesTo_S8x1x256x2048_S_d0_1_2_3 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Pre_finite_dx.lean ====
abbrev S8192x2048 : Shape := ⟨2, ![8192, 2048]⟩
abbrev S8x1x256x2048 : Shape := ⟨4, ![8, 1, 256, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x1x256x2048 : S_.BroadcastsInDim S8x1x256x2048 (![] : Fin 0 → Fin S8x1x256x2048.rank)
  reducesTo_S8x1x256x2048_S_d0_1_2_3 : S8x1x256x2048.ReducesTo [0, 1, 2, 3] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S8192x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x2048 .bf16) (main_arg1 : FVec F S8x1x256x2048 .bf16) (main_arg2 : FVec F S8192x2048 .f32) (main_arg3 : FVec F S1x2048 .f32) (main_arg4 : FVec F S8192x2048 .f32) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x1x256x2048 .bf16 := Host.absf main_arg1
  let main_cst_0 : FVec F S_ .bf16 := constant S_ .bf16 0x7F80#16
  let main_v5 : FVec F S8x1x256x2048 .bf16 := broadcastInDim S8x1x256x2048 ![] bcast_S_S8x1x256x2048 main_cst_0
  let main_v6 : IVec S8x1x256x2048 1 := cmpf .olt main_v4 main_v5
  let main_c_1 : IVec S_ 1 := constantI S_ 1 1#1
  let main_v7 : IVec S_ 1 := (fun x v => Host.reduce IntOp.andi x v reducesTo_S8x1x256x2048_S_d0_1_2_3 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_v13 main_v16
-- ==== Pre_finite_hidden.lean ====
abbrev S8192x2048 : Shape := ⟨2, ![8192, 2048]⟩
abbrev S8x1x704x2048 : Shape := ⟨4, ![8, 1, 704, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x1x704x2048 : S_.BroadcastsInDim S8x1x704x2048 (![] : Fin 0 → Fin S8x1x704x2048.rank)
  reducesTo_S8x1x704x2048_S_d0_1_2_3 : S8x1x704x2048.ReducesTo [0, 1, 2, 3] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v13 : IVec S_ 1) (main_v16 : IVec S8192x5632 1) : IVec S_ 1 :=
  let main_c_5 : IVec S_ 1 := constantI S_ 1 1#1
  let main_v17 : IVec S_ 1 := (fun x v => Host.reduce IntOp.andi x v reducesTo_S8192x5632_S_d0_1 h_S_) main_v16 main_c_5
  let main_v18 : IVec S_ 1 := andi main_v13 main_v17
  main_v18

def fn {F : FTy → Type} [FloatOps F] (main_arg0 : FVec F S8192x2048 .bf16) (main_arg1 : FVec F S8x1x704x2048 .bf16) (main_arg2 : FVec F S8192x5632 .bf16) (main_arg3 : FVec F S8192x5632 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x1x704x2048 .bf16 := Host.absf main_arg1
  let main_cst_0 : FVec F S_ .bf16 := constant S_ .bf16 0x7F80#16
  let main_v5 : FVec F S8x1x704x2048 .bf16 := broadcastInDim S8x1x704x2048 ![] bcast_S_S8x1x704x2048 main_cst_0
  let main_v6 : IVec S8x1x704x2048 1 := cmpf .olt main_v4 main_v5
  let main_c_1 : IVec S_ 1 := constantI S_ 1 1#1
  let main_v7 : IVec S_ 1 := (fun x v => Host.reduce IntOp.andi x v reducesTo_S8x1x704x2048_S_d0_1_2_3 h_S_) main_v6 main_c_1
  let main_v8 : IVec S_ 1 := andi main_v3 main_v7
  let main_v9 : FVec F S8192x5632 .bf16 := Host.absf main_arg2
  let main_cst_2 : FVec F S_ .bf16 := constant S_ .bf16 0x7F80#16
  let main_v10 : FVec F S8192x5632 .bf16 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  let main_v14 : FVec F S8192x5632 .bf16 := Host.absf main_arg3
  let main_cst_4 : FVec F S_ .bf16 := constant S_ .bf16 0x7F80#16
  let main_v15 : FVec F S8192x5632 .bf16 := broadcastInDim S8192x5632 ![] bcast_S_S8192x5632 main_cst_4
  let main_v16 : IVec S8192x5632 1 := cmpf .olt main_v14 main_v15
  fn_part1 (F := F) main_v13 main_v16
-- ==== Pre_finite_res.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S1x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Hidden.lean ====
abbrev S8192x2048 : Shape := ⟨2, ![8192, 2048]⟩
abbrev S8x1x704x2048 : Shape := ⟨4, ![8, 1, 704, 2048]⟩
abbrev S8192x5632 : Shape := ⟨2, ![8192, 5632]⟩
abbrev S512x2048 : Shape := ⟨2, ![512, 2048]⟩
abbrev S2x1x704x2048 : Shape := ⟨4, ![2, 1, 704, 2048]⟩
abbrev S512x1408 : Shape := ⟨2, ![512, 1408]⟩
abbrev S2x704x2048 : Shape := ⟨3, ![2, 704, 2048]⟩
abbrev S1408x2048 : Shape := ⟨2, ![1408, 2048]⟩
abbrev S256x2048 : Shape := ⟨2, ![256, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x1x704x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2x1x704x2048, .bf16⟩
  | .local _ .vmem, ⟨3, _⟩ => ⟨S2x1x704x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HiddenRefIdeal.lean ====
abbrev S8192x2048 : Shape := ⟨2, ![8192, 2048]⟩
abbrev S8x1x704x2048 : Shape := ⟨4, ![8, 1, 704, 2048]⟩
abbrev S8192x5632 : Shape := ⟨2, ![8192, 5632]⟩
abbrev S5632x2048 : Shape := ⟨2, ![5632, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x704x2048, .bf16⟩
  | .hbm, ⟨2, _⟩ => ⟨S8192x5632, .bf16⟩
  | .hbm, ⟨3, _⟩ => ⟨S8192x5632, .bf16⟩
  | .hbm, ⟨4, _⟩ => ⟨S5632x2048, .bf16⟩
  | .hbm, ⟨5, _⟩ => ⟨S5632x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .bf16⟩
  | .hbm, ⟨32, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Rows.lean ====
abbrev S8192x5632 : Shape := ⟨2, ![8192, 5632]⟩
abbrev S8192x2048 : Shape := ⟨2, ![8192, 2048]⟩
abbrev S8x704x2048 : Shape := ⟨3, ![8, 704, 2048]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8x704x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RowsRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S8x704x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mm.lean ====
abbrev S8192x5632 : Shape := ⟨2, ![8192, 5632]⟩
abbrev S8x1x704x2048 : Shape := ⟨4, ![8, 1, 704, 2048]⟩
abbrev S8192x2048 : Shape := ⟨2, ![8192, 2048]⟩
abbrev S512x5632 : Shape := ⟨2, ![512, 5632]⟩
abbrev S8x1x704x1024 : Shape := ⟨4, ![8, 1, 704, 1024]⟩
abbrev S512x1024 : Shape := ⟨2, ![512, 1024]⟩
abbrev S8x704x1024 : Shape := ⟨3, ![8, 704, 1024]⟩
abbrev S5632x1024 : Shape := ⟨2, ![5632, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8x1x704x2048, .bf16⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S8x1x704x1024, .bf16⟩
  | .local _ .vmem, ⟨3, _⟩ => ⟨S8x1x704x1024, .bf16⟩
  | .local _ .vmem, ⟨4, _⟩ => ⟨S512x1024, .f32⟩
  | .local _ .vmem, ⟨5, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRefIdeal.lean ====
abbrev S8192x5632 : Shape := ⟨2, ![8192, 5632]⟩
abbrev S8x1x704x2048 : Shape := ⟨4, ![8, 1, 704, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8x1x704x2048, .bf16⟩
  | .hbm, ⟨2, _⟩ => ⟨S8192x5632, .f32⟩
  | .hbm, ⟨3, _⟩ => ⟨S5632x2048, .bf16⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmAdd.lean ====
abbrev S8192x5632 : Shape := ⟨2, ![8192, 5632]⟩
abbrev S8x1x704x2048 : Shape := ⟨4, ![8, 1, 704, 2048]⟩
abbrev S8192x2048 : Shape := ⟨2, ![8192, 2048]⟩
abbrev S512x5632 : Shape := ⟨2, ![512, 5632]⟩
abbrev S8x1x704x1024 : Shape := ⟨4, ![8, 1, 704, 1024]⟩
abbrev S512x1024 : Shape := ⟨2, ![512, 1024]⟩
abbrev S8x704x1024 : Shape := ⟨3, ![8, 704, 1024]⟩
abbrev S5632x1024 : Shape := ⟨2, ![5632, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8x1x704x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S8x1x704x1024, .bf16⟩
  | .local _ .vmem, ⟨3, _⟩ => ⟨S8x1x704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmAddRefIdeal.lean ====
abbrev S8192x5632 : Shape := ⟨2, ![8192, 5632]⟩
abbrev S8x1x704x2048 : Shape := ⟨4, ![8, 1, 704, 2048]⟩
abbrev S8192x2048 : Shape := ⟨2, ![8192, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8x1x704x2048, .bf16⟩
  | .hbm, ⟨2, _⟩ => ⟨S8192x2048, .f32⟩
  | .hbm, ⟨3, _⟩ => ⟨S5632x2048, .bf16⟩
  | .hbm, ⟨4, _⟩ => ⟨S2048x5632, .bf16⟩
  | .hbm, ⟨5, _⟩ => ⟨S2048x5632, .f32⟩
  | .hbm, ⟨6, _⟩ => ⟨S_, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x2048, .f32⟩
  | .hbm, ⟨11, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S8192x2048 : Shape := ⟨2, ![8192, 2048]⟩
abbrev S8x1x704x2048 : Shape := ⟨4, ![8, 1, 704, 2048]⟩
abbrev S8192x5632 : Shape := ⟨2, ![8192, 5632]⟩
abbrev S512x2048 : Shape := ⟨2, ![512, 2048]⟩
abbrev S2x1x704x2048 : Shape := ⟨4, ![2, 1, 704, 2048]⟩
abbrev S512x1408 : Shape := ⟨2, ![512, 1408]⟩
abbrev S2x704x2048 : Shape := ⟨3, ![2, 704, 2048]⟩
abbrev S1408x2048 : Shape := ⟨2, ![1408, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x1x704x2048, .bf16⟩
  | .hbm, ⟨2, _⟩ => ⟨S8x1x704x2048, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2x1x704x2048, .bf16⟩
  | .local _ .vmem, ⟨3, _⟩ => ⟨S2x1x704x2048, .bf16⟩
  | .local _ .vmem, ⟨4, _⟩ => ⟨S2x1x704x2048, .bf16⟩
  | .local _ .vmem, ⟨5, _⟩ => ⟨S2x1x704x2048, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x2048 : Shape := ⟨2, ![8192, 2048]⟩
abbrev S8x1x704x2048 : Shape := ⟨4, ![8, 1, 704, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x704x2048, .bf16⟩
  | .hbm, ⟨2, _⟩ => ⟨S8x1x704x2048, .bf16⟩
  | .hbm, ⟨3, _⟩ => ⟨S8192x2048, .f32⟩
  | .hbm, ⟨4, _⟩ => ⟨S5632x2048, .bf16⟩
  | .hbm, ⟨5, _⟩ => ⟨S2048x5632, .bf16⟩
  | .hbm, ⟨6, _⟩ => ⟨S2048x5632, .f32⟩
  | .hbm, ⟨7, _⟩ => ⟨S8192x5632, .f32⟩
  | .hbm, ⟨8, _⟩ => ⟨S5632x2048, .bf16⟩
  | .hbm, ⟨9, _⟩ => ⟨S2048x5632, .bf16⟩
  | .hbm, ⟨10, _⟩ => ⟨S2048x5632, .f32⟩
  | .hbm, ⟨11, _⟩ => ⟨S8192x5632, .f32⟩
  | .hbm, ⟨12, _⟩ => ⟨S8192x5632, .bf16⟩
  | .hbm, ⟨13, _⟩ => ⟨S8192x5632, .bf16⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Dx.lean ====
abbrev S8192x2048 : Shape := ⟨2, ![8192, 2048]⟩
abbrev S8x1x256x2048 : Shape := ⟨4, ![8, 1, 256, 2048]⟩
abbrev S1x2048 : Shape := ⟨2, ![1, 2048]⟩
abbrev S256x2048 : Shape := ⟨2, ![256, 2048]⟩
abbrev S8x256x2048 : Shape := ⟨3, ![8, 256, 2048]⟩
abbrev S2048x2048 : Shape := ⟨2, ![2048, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S8x1x256x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DxRefIdeal.lean ====
abbrev S8192x2048 : Shape := ⟨2, ![8192, 2048]⟩
abbrev S8x1x256x2048 : Shape := ⟨4, ![8, 1, 256, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .bf16⟩
  | .hbm, ⟨6, _⟩ => ⟨S2048x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Gate.lean ====
abbrev S8192x2048 : Shape := ⟨2, ![8192, 2048]⟩
abbrev S8x1x256x2048 : Shape := ⟨4, ![8, 1, 256, 2048]⟩
abbrev S1x2048 : Shape := ⟨2, ![1, 2048]⟩
abbrev S256x2048 : Shape := ⟨2, ![256, 2048]⟩
abbrev S8x256x2048 : Shape := ⟨3, ![8, 256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S8x1x256x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateRefIdeal.lean ====
abbrev S8192x2048 : Shape := ⟨2, ![8192, 2048]⟩
abbrev S8x1x256x2048 : Shape := ⟨4, ![8, 1, 256, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S2048x2048, .bf16⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== GradW.lean ====
abbrev S8192x2048 : Shape := ⟨2, ![8192, 2048]⟩
abbrev S8x256x2048 : Shape := ⟨3, ![8, 256, 2048]⟩
abbrev S2048x256 : Shape := ⟨2, ![2048, 256]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWRefIdeal.lean ====
abbrev S8192x2048 : Shape := ⟨2, ![8192, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S8x256x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Res.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_17 : BitVec 32 := 0#32
  let v38 : BitVec 1 := Scalar.cmpi .ne v37 c0_i32_17
  v38

def k0_cond3 (i : grid0.Coords) : BitVec 1 :=
  let arg0 : BitVec 32 := BitVec.ofNat 32 (i 0).val
  let c0_i32_19 : BitVec 32 := 0#32
  let v41 : BitVec 1 := Scalar.cmpi .eq arg0 c0_i32_19
  let v42 : BitVec 32 := Scalar.extui v41
  let c0_i32_20 : BitVec 32 := 0#32
  let v43 : BitVec 1 := Scalar.cmpi .ne v42 c0_i32_20
  v43

def k0_cond4 (i : grid0.Coords) : BitVec 1 :=
  let arg0 : BitVec 32 := BitVec.ofNat 32 (i 0).val
  let c0_i32_19 : BitVec 32 := 0#32
  let v41 : BitVec 1 := Scalar.cmpi .eq arg0 c0_i32_19
  let true_21 : BitVec 1 := 1#1
  let v44 : BitVec 1 := Scalar.xori v41 true_21
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ResRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .bf16⟩
  | .hbm, ⟨53, _⟩ => ⟨S_, .f32⟩
  | .hbm, ⟨54, _⟩ => ⟨S2048, .f32⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== ResIn.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ResInRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Loss.lean ====
abbrev S8192x2048 : Shape := ⟨2, ![8192, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_11 : BitVec 32 := 0#32
  let v21 : BitVec 1 := Scalar.cmpi .ne v20 c0_i32_11
  v21

def k0_cond2 (i : grid0.Coords) : BitVec 1 :=
  let arg0 : BitVec 32 := BitVec.ofNat 32 (i 0).val
  let c0_i32 : BitVec 32 := 0#32
  let v19 : BitVec 1 := Scalar.cmpi .eq arg0 c0_i32
  let v_true : BitVec 1 := 1#1
  let v22 : BitVec 1 := Scalar.xori v19 v_true
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== PoolOut.lean ====
abbrev S8192x2048 : Shape := ⟨2, ![8192, 2048]⟩
abbrev S1x2048 : Shape := ⟨2, ![1, 2048]⟩
abbrev S4x512x512 : Shape := ⟨3, ![4, 512, 512]⟩
abbrev S256x2048 : Shape := ⟨2, ![256, 2048]⟩
abbrev S2048 : Shape := ⟨1, ![2048]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S4x512x512, .bf16⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S4x512x512, .bf16⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32 : BitVec 32 := 0#32
  let v6 : BitVec 1 := Scalar.cmpi .eq arg0 c0_i32
  let v_true : BitVec 1 := 1#1
  let v9 : BitVec 1 := Scalar.xori v6 v_true
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolOutRefIdeal.lean ====
abbrev S8192x2048 : Shape := ⟨2, ![8192, 2048]⟩
abbrev S1x2048 : Shape := ⟨2, ![1, 2048]⟩
abbrev S4x512x512 : Shape := ⟨3, ![4, 512, 512]⟩
abbrev S2048 : Shape := ⟨1, ![2048]⟩
abbrev S_ : Shape := ⟨0, ![]⟩
abbrev S8192x4x512 : Shape := ⟨3, ![8192, 4, 512]⟩
abbrev S4x512x8192 : Shape := ⟨3, ![4, 512, 8192]⟩
abbrev S4x8192x512 : Shape := ⟨3, ![4, 8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S4x512x512, .bf16⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S8192x2048, .bf16⟩
  | .hbm, ⟨19, _⟩ => ⟨S_, .f32⟩
  | .hbm, ⟨20, _⟩ => ⟨S8192x2048, .f32⟩
  | .hbm, ⟨21, _⟩ => ⟨S8192x4x512, .f32⟩
  | .hbm, ⟨22, _⟩ => ⟨S4x512x512, .f32⟩
  | .hbm, ⟨23, _⟩ => ⟨S4x512x8192, .f32⟩
  | .hbm, ⟨24, _⟩ => ⟨S8192x4x512, .f32⟩
  | .hbm, ⟨25, _⟩ => ⟨S8192x2048, .f32⟩
  | .hbm, ⟨26, _⟩ => ⟨S8192x2048, .f32⟩
  | .hbm, ⟨27, _⟩ => ⟨S8192x4x512, .f32⟩
  | .hbm, ⟨28, _⟩ => ⟨S4x512x8192, .f32⟩
  | .hbm, ⟨29, _⟩ => ⟨S4x8192x512, .f32⟩
  | .hbm, ⟨30, _⟩ => ⟨S8192x4x512, .f32⟩
  | .hbm, ⟨31, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== GateBwd.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_10 : BitVec 32 := 0#32
  let v19 : BitVec 1 := Scalar.cmpi .ne v18 c0_i32_10
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateBwdRefIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x2048, .bf16⟩
  | .hbm, ⟨15, _⟩ => ⟨S_, .f32⟩
  | .hbm, ⟨16, _⟩ => ⟨S2048, .f32⟩
  | .hbm, ⟨17, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ConvOut.lean ====
abbrev S8192x2048 : Shape := ⟨2, ![8192, 2048]⟩
abbrev S8x1x256x2048 : Shape := ⟨4, ![8, 1, 256, 2048]⟩
abbrev S1x2048 : Shape := ⟨2, ![1, 2048]⟩
abbrev S256x2048 : Shape := ⟨2, ![256, 2048]⟩
abbrev S1x1x256x2048 : Shape := ⟨4, ![1, 1, 256, 2048]⟩
abbrev S256x256 : Shape := ⟨2, ![256, 256]⟩
abbrev S256 : Shape := ⟨1, ![256]⟩
abbrev S256x1 : Shape := ⟨2, ![256, 1]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S8x1x256x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v85 : BitVec 1 := Scalar.cmpi .eq arg0 c0_i32
  let v86 : BitVec 32 := Scalar.extui v85
  let c0_i32_56 : BitVec 32 := 0#32
  let v87 : BitVec 1 := Scalar.cmpi .ne v86 c0_i32_56
  v87

def k0_cond2 (i : grid0.Coords) : BitVec 1 :=
  let arg0 : BitVec 32 := BitVec.ofNat 32 (i 0).val
  let c0_i32 : BitVec 32 := 0#32
  let v85 : BitVec 1 := Scalar.cmpi .eq arg0 c0_i32
  let v_true : BitVec 1 := 1#1
  let v88 : BitVec 1 := Scalar.xori v85 v_true
  let v89 : BitVec 32 := Scalar.extui v88
  let c0_i32_57 : BitVec 32 := 0#32
  let v90 : BitVec 1 := Scalar.cmpi .ne v89 c0_i32_57
  v90

def k0_cond3 (i : grid0.Coords) : BitVec 1 :=
  let arg0 : BitVec 32 := BitVec.ofNat 32 (i 0).val
  let c0_i32_59 : BitVec 32 := 0#32
  let v93 : BitVec 1 := Scalar.cmpi .eq arg0 c0_i32_59
  let v94 : BitVec 32 := Scalar.extui v93
  let c0_i32_60 : BitVec 32 := 0#32
  let v95 : BitVec 1 := Scalar.cmpi .ne v94 c0_i32_60
  v95

def k0_cond4 (i : grid0.Coords) : BitVec 1 :=
  let arg0 : BitVec 32 := BitVec.ofNat 32 (i 0).val
  let c0_i32_59 : BitVec 32 := 0#32
  let v93 : BitVec 1 := Scalar.cmpi .eq arg0 c0_i32_59
  let true_61 : BitVec 1 := 1#1
  let v96 : BitVec 1 := Scalar.xori v93 true_61
  let v97 : BitVec 32 := Scalar.extui v96
  let c0_i32_62 : BitVec 32 := 0#32
  let v98 : BitVec 1 := Scalar.cmpi .ne v97 c0_i32_62
  v98

def k0_cond5 (i : grid0.Coords) : BitVec 1 :=
  let arg0 : BitVec 32 := BitVec.ofNat 32 (i 0).val
  let c0_i32_64 : BitVec 32 := 0#32
  let v101 : BitVec 1 := Scalar.cmpi .eq arg0 c0_i32_64
  let v102 : BitVec 32 := Scalar.extui v101
  let c0_i32_65 : BitVec 32 := 0#32
  let v103 : BitVec 1 := Scalar.cmpi .ne v102 c0_i32_65
  v103

def k0_cond6 (i : grid0.Coords) : BitVec 1 :=
  let arg0 : BitVec 32 := BitVec.ofNat 32 (i 0).val
  let c0_i32_64 : BitVec 32 := 0#32
  let v101 : BitVec 1 := Scalar.cmpi .eq arg0 c0_i32_64
  let true_66 : BitVec 1 := 1#1
  let v104 : BitVec 1 := Scalar.xori v101 true_66
  let v105 : BitVec 32 := Scalar.extui v104
  let c0_i32_67 : BitVec 32 := 0#32
  let v106 : BitVec 1 := Scalar.cmpi .ne v105 c0_i32_67
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvOutRefIdeal.lean ====
abbrev S8192x2048 : Shape := ⟨2, ![8192, 2048]⟩
abbrev S8x1x256x2048 : Shape := ⟨4, ![8, 1, 256, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 106
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S_, .f32⟩
  | .hbm, ⟨64, _⟩ => ⟨S2048, .f32⟩
  | .hbm, ⟨65, _⟩ => ⟨S8192x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x2048, .f32⟩
  | .hbm, ⟨78, _⟩ => ⟨S8192x2048, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x2048, .f32⟩
  | .hbm, ⟨100, _⟩ => ⟨S8192x2048, .f32⟩
  | .hbm, ⟨101, _⟩ => ⟨S1x2048, .f32⟩
  | .hbm, ⟨102, _⟩ => ⟨S1x2048, .f32⟩
  | .hbm, ⟨103, _⟩ => ⟨S_, .f32⟩
  | .hbm, ⟨104, _⟩ => ⟨S2048, .f32⟩
  | .hbm, ⟨105, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_15 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]
-- ==== PoolFwd.lean ====
abbrev S8192x2048 : Shape := ⟨2, ![8192, 2048]⟩
abbrev S4x512x512 : Shape := ⟨3, ![4, 512, 512]⟩
abbrev S1x2048 : Shape := ⟨2, ![1, 2048]⟩
abbrev S256x2048 : Shape := ⟨2, ![256, 2048]⟩
abbrev S256x512 : Shape := ⟨2, ![256, 512]⟩
abbrev S1x512x512 : Shape := ⟨3, ![1, 512, 512]⟩
abbrev S512x512 : Shape := ⟨2, ![512, 512]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S1x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S4x512x512, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PoolFwdRefIdeal.lean ====
abbrev S8192x2048 : Shape := ⟨2, ![8192, 2048]⟩
abbrev S4x512x512 : Shape := ⟨3, ![4, 512, 512]⟩
abbrev S1x2048 : Shape := ⟨2, ![1, 2048]⟩
abbrev S8192x4x512 : Shape := ⟨3, ![8192, 4, 512]⟩
abbrev S4x512x8192 : Shape := ⟨3, ![4, 512, 8192]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S1x2048, .f32⟩
  | .hbm, ⟨3, _⟩ => ⟨S8192x2048, .f32⟩
  | .hbm, ⟨4, _⟩ => ⟨S1x2048, .f32⟩
  | .hbm, ⟨5, _⟩ => ⟨S8192x4x512, .bf16⟩
  | .hbm, ⟨6, _⟩ => ⟨S8192x4x512, .f32⟩
  | .hbm, ⟨7, _⟩ => ⟨S4x512x512, .f32⟩
  | .hbm, ⟨8, _⟩ => ⟨S4x512x8192, .f32⟩
  | .hbm, ⟨9, _⟩ => ⟨S8192x4x512, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== FfnRes.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnResRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== AttnRes.lean ====
abbrev S8192x2048 : Shape := ⟨2, ![8192, 2048]⟩
abbrev S8x1x256x2048 : Shape := ⟨4, ![8, 1, 256, 2048]⟩
abbrev S1x2048 : Shape := ⟨2, ![1, 2048]⟩
abbrev S256x2048 : Shape := ⟨2, ![256, 2048]⟩
abbrev S8x256x2048 : Shape := ⟨3, ![8, 256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S8x1x256x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnResRefIdeal.lean ====
abbrev S8192x2048 : Shape := ⟨2, ![8192, 2048]⟩
abbrev S8x1x256x2048 : Shape := ⟨4, ![8, 1, 256, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ConvRes.lean ====
abbrev S8192x2048 : Shape := ⟨2, ![8192, 2048]⟩
abbrev S8x1x256x2048 : Shape := ⟨4, ![8, 1, 256, 2048]⟩
abbrev S1x2048 : Shape := ⟨2, ![1, 2048]⟩
abbrev S256x2048 : Shape := ⟨2, ![256, 2048]⟩
abbrev S8x256x2048 : Shape := ⟨3, ![8, 256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S8x1x256x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvResRefIdeal.lean ====
abbrev S8192x2048 : Shape := ⟨2, ![8192, 2048]⟩
abbrev S8x1x256x2048 : Shape := ⟨4, ![8, 1, 256, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x2048, .bf16⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== ConvIn.lean ====
abbrev S8192x2048 : Shape := ⟨2, ![8192, 2048]⟩
abbrev S8x1x512x2048 : Shape := ⟨4, ![8, 1, 512, 2048]⟩
abbrev S1x4096 : Shape := ⟨2, ![1, 4096]⟩
abbrev S512x2048 : Shape := ⟨2, ![512, 2048]⟩
abbrev S1x1x512x2048 : Shape := ⟨4, ![1, 1, 512, 2048]⟩
abbrev S1x512 : Shape := ⟨2, ![1, 512]⟩
abbrev S512x512 : Shape := ⟨2, ![512, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8x1x512x2048, .bf16⟩
  | .hbm, ⟨2, _⟩ => ⟨S1x4096, .f32⟩
  | .hbm, ⟨3, _⟩ => ⟨S8192x2048, .bf16⟩
  | .hbm, ⟨4, _⟩ => ⟨S8192x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1x1x512x2048, .bf16⟩
  | .local _ .vmem, ⟨5, _⟩ => ⟨S1x1x512x2048, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvInRefIdeal.lean ====
abbrev S8192x2048 : Shape := ⟨2, ![8192, 2048]⟩
abbrev S8x1x512x2048 : Shape := ⟨4, ![8, 1, 512, 2048]⟩
abbrev S1x4096 : Shape := ⟨2, ![1, 4096]⟩
abbrev S4096x2048 : Shape := ⟨2, ![4096, 2048]⟩
abbrev S2048x4096 : Shape := ⟨2, ![2048, 4096]⟩
abbrev S8192x4096 : Shape := ⟨2, ![8192, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x512x2048, .bf16⟩
  | .hbm, ⟨2, _⟩ => ⟨S1x4096, .f32⟩
  | .hbm, ⟨3, _⟩ => ⟨S8192x2048, .f32⟩
  | .hbm, ⟨4, _⟩ => ⟨S4096x2048, .bf16⟩
  | .hbm, ⟨5, _⟩ => ⟨S2048x4096, .bf16⟩
  | .hbm, ⟨6, _⟩ => ⟨S2048x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x2048, .bf16⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== AttnDx.lean ====
abbrev S8192x2048 : Shape := ⟨2, ![8192, 2048]⟩
abbrev S8x1x256x2048 : Shape := ⟨4, ![8, 1, 256, 2048]⟩
abbrev S512x2048 : Shape := ⟨2, ![512, 2048]⟩
abbrev S8x256x2048 : Shape := ⟨3, ![8, 256, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S8x1x256x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnDxRefIdeal.lean ====
abbrev S8192x2048 : Shape := ⟨2, ![8192, 2048]⟩
abbrev S8x1x256x2048 : Shape := ⟨4, ![8, 1, 256, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x256x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Qkv.lean ====
abbrev S8192x2048 : Shape := ⟨2, ![8192, 2048]⟩
abbrev S8x1x384x2048 : Shape := ⟨4, ![8, 1, 384, 2048]⟩
abbrev S8192x3072 : Shape := ⟨2, ![8192, 3072]⟩
abbrev S512x2048 : Shape := ⟨2, ![512, 2048]⟩
abbrev S1x1x384x2048 : Shape := ⟨4, ![1, 1, 384, 2048]⟩
abbrev S512x384 : Shape := ⟨2, ![512, 384]⟩
abbrev S384x2048 : Shape := ⟨2, ![384, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x1x384x2048, .bf16⟩
  | .hbm, ⟨2, _⟩ => ⟨S8192x3072, .f32⟩
  | .local _ .vmem, ⟨0, _⟩ => ⟨S512x2048, .bf16⟩
  | .local _ .vmem, ⟨1, _⟩ => ⟨S512x2048, .bf16⟩
  | .local _ .vmem, ⟨2, _⟩ => ⟨S1x1x384x2048, .bf16⟩
  | .local _ .vmem, ⟨3, _⟩ => ⟨S1x1x384x2048, .bf16⟩
  | .local _ .vmem, ⟨4, _⟩ => ⟨S512x384, .f32⟩
  | .local _ .vmem, ⟨5, _⟩ => ⟨S512x384, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S8192x2048 : Shape := ⟨2, ![8192, 2048]⟩
abbrev S8x1x384x2048 : Shape := ⟨4, ![8, 1, 384, 2048]⟩
abbrev S3072x2048 : Shape := ⟨2, ![3072, 2048]⟩
abbrev S2048x3072 : Shape := ⟨2, ![2048, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x1x384x2048, .bf16⟩
  | .hbm, ⟨2, _⟩ => ⟨S8192x2048, .f32⟩
  | .hbm, ⟨3, _⟩ => ⟨S3072x2048, .bf16⟩
  | .hbm, ⟨4, _⟩ => ⟨S2048x3072, .bf16⟩
  | .hbm, ⟨5, _⟩ => ⟨S2048x3072, .f32⟩
  | .hbm, ⟨6, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PleProj.lean ====
abbrev S8192x256 : Shape := ⟨2, ![8192, 256]⟩
abbrev S8x1x256x256 : Shape := ⟨4, ![8, 1, 256, 256]⟩
abbrev S8192x2048 : Shape := ⟨2, ![8192, 2048]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8x1x256x256, .bf16⟩
  | .hbm, ⟨2, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S512x256, .bf16⟩
  | .local _ .vmem, ⟨5, _⟩ => ⟨S512x256, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleProjRefIdeal.lean ====
abbrev S8192x256 : Shape := ⟨2, ![8192, 256]⟩
abbrev S8x1x256x256 : Shape := ⟨4, ![8, 1, 256, 256]⟩
abbrev S8x256x256 : Shape := ⟨3, ![8, 256, 256]⟩
abbrev S256x8x256 : Shape := ⟨3, ![256, 8, 256]⟩
abbrev S256x2048 : Shape := ⟨2, ![256, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8x1x256x256, .bf16⟩
  | .hbm, ⟨2, _⟩ => ⟨S8x256x256, .bf16⟩
  | .hbm, ⟨3, _⟩ => ⟨S256x8x256, .bf16⟩
  | .hbm, ⟨4, _⟩ => ⟨S256x2048, .bf16⟩
  | .hbm, ⟨5, _⟩ => ⟨S8192x256, .f32⟩
  | .hbm, ⟨6, _⟩ => ⟨S256x2048, .f32⟩
  | .hbm, ⟨7, _⟩ => ⟨S8192x2048, .f32⟩
  | .hbm, ⟨8, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== RmsIn.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsInRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== BiasGrad.lean ====
abbrev S128x256 : Shape := ⟨2, ![128, 256]⟩
abbrev S32x128x256 : Shape := ⟨3, ![32, 128, 256]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S32x32 : Shape := ⟨2, ![32, 32]⟩

abbrev nBuf : Space → Nat
  | .hbm => 11
  | .vmem => 3
  | .smem => 0
  | _ => 0

abbrev bufTy : (tb : Table) → Fin (tcTables nBuf tb) → BufTy
  | .hbm, ⟨0, _⟩ => ⟨S128x256, .i32⟩
  | .hbm, ⟨1, _⟩ => ⟨S32x128x256, .f32⟩
  | .hbm, ⟨2, _⟩ => ⟨S1x32768, .i32⟩
  | .hbm, ⟨3, _⟩ => ⟨S32, .i32⟩
  | .hbm, ⟨4, _⟩ => ⟨S32x1, .i32⟩
  | .hbm, ⟨5, _⟩ => ⟨S32x32768, .i32⟩
  | .hbm, ⟨6, _⟩ => ⟨S32x32768, .i32⟩
  | .hbm, ⟨7, _⟩ => ⟨S32x32768, .i1⟩
  | .hbm, ⟨8, _⟩ => ⟨S32x32768, .f32⟩
  | .hbm, ⟨9, _⟩ => ⟨S32x32768, .f32⟩
  | .hbm, ⟨10, _⟩ => ⟨S32x32, .f32⟩
  | .local _ .vmem, ⟨0, _⟩ => ⟨S32x32768, .f32⟩
  | .local _ .vmem, ⟨1, _⟩ => ⟨S32x32768, .f32⟩
  | .local _ .vmem, ⟨2, _⟩ => ⟨S32x32, .f32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BiasGradRefIdeal.lean ====
abbrev S128x256 : Shape := ⟨2, ![128, 256]⟩
abbrev S32x128x256 : Shape := ⟨3, ![32, 128, 256]⟩
abbrev S_ : Shape := ⟨0, ![]⟩
abbrev S32x32 : Shape := ⟨2, ![32, 32]⟩
abbrev S128x256x1 : Shape := ⟨3, ![128, 256, 1]⟩
abbrev S128x256x32 : Shape := ⟨3, ![128, 256, 32]⟩

abbrev nBuf : Space → Nat
  | .hbm => 18
  | .vmem => 0
  | .smem => 0
  | _ => 0

abbrev bufTy : (tb : Table) → Fin (tcTables nBuf tb) → BufTy
  | .hbm, ⟨0, _⟩ => ⟨S128x256, .i32⟩
  | .hbm, ⟨1, _⟩ => ⟨S32x128x256, .f32⟩
  | .hbm, ⟨2, _⟩ => ⟨S_, .f32⟩
  | .hbm, ⟨3, _⟩ => ⟨S32x32, .f32⟩
  | .hbm, ⟨4, _⟩ => ⟨S_, .i32⟩
  | .hbm, ⟨5, _⟩ => ⟨S128x256, .i32⟩
  | .hbm, ⟨6, _⟩ => ⟨S128x256, .i1⟩
  | .hbm, ⟨7, _⟩ => ⟨S_, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S128x256x1, .i32⟩
  | .hbm, ⟨12, _⟩ => ⟨S128x256x32, .f32⟩
  | .hbm, ⟨13, _⟩ => ⟨S32x128x256, .f32⟩
  | .hbm, ⟨14, _⟩ => ⟨S128x256x32, .f32⟩
  | .hbm, ⟨15, _⟩ => ⟨S_, .f32⟩
  | .hbm, ⟨16, _⟩ => ⟨S32x32, .f32⟩
  | .hbm, ⟨17, _⟩ => ⟨S32x32, .f32⟩
  | _, _ => ⟨S128x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Bias.lean ====
abbrev S128x256 : Shape := ⟨2, ![128, 256]⟩
abbrev S32x32 : Shape := ⟨2, ![32, 32]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩

abbrev nBuf : Space → Nat
  | .hbm => 10
  | .vmem => 3
  | .smem => 0
  | _ => 0

abbrev bufTy : (tb : Table) → Fin (tcTables nBuf tb) → BufTy
  | .hbm, ⟨0, _⟩ => ⟨S128x256, .i32⟩
  | .hbm, ⟨1, _⟩ => ⟨S32x32, .f32⟩
  | .hbm, ⟨2, _⟩ => ⟨S1x32768, .i32⟩
  | .hbm, ⟨3, _⟩ => ⟨S32, .i32⟩
  | .hbm, ⟨4, _⟩ => ⟨S32x1, .i32⟩
  | .hbm, ⟨5, _⟩ => ⟨S32x32768, .i32⟩
  | .hbm, ⟨6, _⟩ => ⟨S32x32768, .i32⟩
  | .hbm, ⟨7, _⟩ => ⟨S32x32768, .i1⟩
  | .hbm, ⟨8, _⟩ => ⟨S32x32768, .f32⟩
  | .hbm, ⟨9, _⟩ => ⟨S32x32768, .f32⟩
  | .local _ .vmem, ⟨0, _⟩ => ⟨S32x32, .f32⟩
  | .local _ .vmem, ⟨1, _⟩ => ⟨S32x32768, .f32⟩
  | .local _ .vmem, ⟨2, _⟩ => ⟨S32x32768, .f32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BiasRefIdeal.lean ====
abbrev S128x256 : Shape := ⟨2, ![128, 256]⟩
abbrev S32x32 : Shape := ⟨2, ![32, 32]⟩
abbrev S_ : Shape := ⟨0, ![]⟩
abbrev S128x256x1 : Shape := ⟨3, ![128, 256, 1]⟩
abbrev S128x256x32 : Shape := ⟨3, ![128, 256, 32]⟩
abbrev S32x128x256 : Shape := ⟨3, ![32, 128, 256]⟩
abbrev S32x32768 : Shape := ⟨2, ![32, 32768]⟩

abbrev nBuf : Space → Nat
  | .hbm => 13
  | .vmem => 0
  | .smem => 0
  | _ => 0

abbrev bufTy : (tb : Table) → Fin (tcTables nBuf tb) → BufTy
  | .hbm, ⟨0, _⟩ => ⟨S128x256, .i32⟩
  | .hbm, ⟨1, _⟩ => ⟨S32x32, .f32⟩
  | .hbm, ⟨2, _⟩ => ⟨S_, .i32⟩
  | .hbm, ⟨3, _⟩ => ⟨S128x256, .i32⟩
  | .hbm, ⟨4, _⟩ => ⟨S128x256, .i1⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256x1, .i32⟩
  | .hbm, ⟨10, _⟩ => ⟨S128x256x32, .f32⟩
  | .hbm, ⟨11, _⟩ => ⟨S32x128x256, .f32⟩
  | .hbm, ⟨12, _⟩ => ⟨S32x32768, .f32⟩
  | _, _ => ⟨S128x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== PoolW.lean ====
abbrev S8192x2048 : Shape := ⟨2, ![8192, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolWRefIdeal.lean ====
abbrev S8192x2048 : Shape := ⟨2, ![8192, 2048]⟩
abbrev S_ : Shape := ⟨0, ![]⟩
abbrev S4x512x512 : Shape := ⟨3, ![4, 512, 512]⟩
abbrev S8192x4x512 : Shape := ⟨3, ![8192, 4, 512]⟩
abbrev S4x512x8192 : Shape := ⟨3, ![4, 512, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S4x512x512, .f32⟩
  | .hbm, ⟨4, _⟩ => ⟨S8192x2048, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .f32⟩
  | .hbm, ⟨10, _⟩ => ⟨S8192x4x512, .f32⟩
  | .hbm, ⟨11, _⟩ => ⟨S4x512x8192, .f32⟩
  | .hbm, ⟨12, _⟩ => ⟨S4x512x512, .f32⟩
  | .hbm, ⟨13, _⟩ => ⟨S4x512x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== AdamNorm.lean ====
abbrev S4x2048 : Shape := ⟨2, ![4, 2048]⟩
abbrev S1x4x2048 : Shape := ⟨3, ![1, 4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S1x4x2048, .f32⟩
  | .hbm, ⟨2, _⟩ => ⟨S1x4x2048, .f32⟩
  | .hbm, ⟨3, _⟩ => ⟨S1x4x2048, .f32⟩
  | .hbm, ⟨4, _⟩ => ⟨S1x4x2048, .f32⟩
  | .hbm, ⟨5, _⟩ => ⟨S1x4x2048, .f32⟩
  | .hbm, ⟨6, _⟩ => ⟨S1x4x2048, .f32⟩
  | .hbm, ⟨7, _⟩ => ⟨S1x4x2048, .f32⟩
  | .local _ .vmem, ⟨0, _⟩ => ⟨S4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x2048, .f32⟩
  | .local _ .vmem, ⟨7, _⟩ => ⟨S1x4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S4x2048 : Shape := ⟨2, ![4, 2048]⟩
abbrev S1x4x2048 : Shape := ⟨3, ![1, 4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S1x4x2048, .f32⟩
  | .hbm, ⟨2, _⟩ => ⟨S1x4x2048, .f32⟩
  | .hbm, ⟨3, _⟩ => ⟨S1x4x2048, .f32⟩
  | .hbm, ⟨4, _⟩ => ⟨S1x4x2048, .f32⟩
  | .hbm, ⟨5, _⟩ => ⟨S1x4x2048, .f32⟩
  | .hbm, ⟨6, _⟩ => ⟨S1x4x2048, .f32⟩
  | .hbm, ⟨7, _⟩ => ⟨S1x4x2048, .f32⟩
  | .local _ .vmem, ⟨0, _⟩ => ⟨S4x2048, .f32⟩
  | .local _ .vmem, ⟨1, _⟩ => ⟨S1x4x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x4x2048, .f32⟩
  | .local _ .vmem, ⟨5, _⟩ => ⟨S1x4x2048, .f32⟩
  | .local _ .vmem, ⟨6, _⟩ => ⟨S1x4x2048, .f32⟩
  | .local _ .vmem, ⟨7, _⟩ => ⟨S1x4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S4x2048 : Shape := ⟨2, ![4, 2048]⟩
abbrev S1x4x2048 : Shape := ⟨3, ![1, 4, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x4x2048, .f32⟩
  | .hbm, ⟨2, _⟩ => ⟨S1x4x2048, .f32⟩
  | .hbm, ⟨3, _⟩ => ⟨S1x4x2048, .f32⟩
  | .hbm, ⟨4, _⟩ => ⟨S1x4x2048, .f32⟩
  | .hbm, ⟨5, _⟩ => ⟨S_, .f32⟩
  | .hbm, ⟨6, _⟩ => ⟨S1x4x2048, .f32⟩
  | .hbm, ⟨7, _⟩ => ⟨S1x4x2048, .f32⟩
  | .hbm, ⟨8, _⟩ => ⟨S_, .f32⟩
  | .hbm, ⟨9, _⟩ => ⟨S1x4x2048, .f32⟩
  | .hbm, ⟨10, _⟩ => ⟨S1x4x2048, .f32⟩
  | .hbm, ⟨11, _⟩ => ⟨S1x4x2048, .f32⟩
  | .hbm, ⟨12, _⟩ => ⟨S_, .f32⟩
  | .hbm, ⟨13, _⟩ => ⟨S1x4x2048, .f32⟩
  | .hbm, ⟨14, _⟩ => ⟨S1x4x2048, .f32⟩
  | .hbm, ⟨15, _⟩ => ⟨S1x4x2048, .f32⟩
  | .hbm, ⟨16, _⟩ => ⟨S_, .f32⟩
  | .hbm, ⟨17, _⟩ => ⟨S1x4x2048, .f32⟩
  | .hbm, ⟨18, _⟩ => ⟨S1x4x2048, .f32⟩
  | .hbm, ⟨19, _⟩ => ⟨S1x4x2048, .f32⟩
  | .hbm, ⟨20, _⟩ => ⟨S_, .f32⟩
  | .hbm, ⟨21, _⟩ => ⟨S1x4x2048, .f32⟩
  | .hbm, ⟨22, _⟩ => ⟨S1x4x2048, .f32⟩
  | .hbm, ⟨23, _⟩ => ⟨S_, .f32⟩
  | .hbm, ⟨24, _⟩ => ⟨S1x4x2048, .f32⟩
  | .hbm, ⟨25, _⟩ => ⟨S1x4x2048, .f32⟩
  | .hbm, ⟨26, _⟩ => ⟨S1x4x2048, .f32⟩
  | .hbm, ⟨27, _⟩ => ⟨S_, .f32⟩
  | .hbm, ⟨28, _⟩ => ⟨S1x4x2048, .f32⟩
  | .hbm, ⟨29, _⟩ => ⟨S1x4x2048, .f32⟩
  | .hbm, ⟨30, _⟩ => ⟨S1x4x2048, .f32⟩
  | .hbm, ⟨31, _⟩ => ⟨S_, .f32⟩
  | .hbm, ⟨32, _⟩ => ⟨S1x4x2048, .f32⟩
  | .hbm, ⟨33, _⟩ => ⟨S1x4x2048, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S1x4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamVec.lean ====
abbrev S2x256 : Shape := ⟨2, ![2, 256]⟩
abbrev S1x2x256 : Shape := ⟨3, ![1, 2, 256]⟩

abbrev nBuf : Space → Nat
  | .hbm => 8
  | .vmem => 8
  | .smem => 0
  | _ => 0

abbrev bufTy : (tb : Table) → Fin (tcTables nBuf tb) → BufTy
  | .hbm, ⟨0, _⟩ => ⟨S2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecIdeal.lean ====
abbrev S2x256 : Shape := ⟨2, ![2, 256]⟩
abbrev S1x2x256 : Shape := ⟨3, ![1, 2, 256]⟩

abbrev nBuf : Space → Nat
  | .hbm => 8
  | .vmem => 8
  | .smem => 0
  | _ => 0

abbrev bufTy : (tb : Table) → Fin (tcTables nBuf tb) → BufTy
  | .hbm, ⟨0, _⟩ => ⟨S2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVecRefIdeal.lean ====
abbrev S2x256 : Shape := ⟨2, ![2, 256]⟩
abbrev S1x2x256 : Shape := ⟨3, ![1, 2, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S_, .f32⟩
  | .hbm, ⟨6, _⟩ => ⟨S1x2x256, .f32⟩
  | .hbm, ⟨7, _⟩ => ⟨S1x2x256, .f32⟩
  | .hbm, ⟨8, _⟩ => ⟨S_, .f32⟩
  | .hbm, ⟨9, _⟩ => ⟨S1x2x256, .f32⟩
  | .hbm, ⟨10, _⟩ => ⟨S1x2x256, .f32⟩
  | .hbm, ⟨11, _⟩ => ⟨S1x2x256, .f32⟩
  | .hbm, ⟨12, _⟩ => ⟨S_, .f32⟩
  | .hbm, ⟨13, _⟩ => ⟨S1x2x256, .f32⟩
  | .hbm, ⟨14, _⟩ => ⟨S1x2x256, .f32⟩
  | .hbm, ⟨15, _⟩ => ⟨S1x2x256, .f32⟩
  | .hbm, ⟨16, _⟩ => ⟨S_, .f32⟩
  | .hbm, ⟨17, _⟩ => ⟨S1x2x256, .f32⟩
  | .hbm, ⟨18, _⟩ => ⟨S1x2x256, .f32⟩
  | .hbm, ⟨19, _⟩ => ⟨S1x2x256, .f32⟩
  | .hbm, ⟨20, _⟩ => ⟨S_, .f32⟩
  | .hbm, ⟨21, _⟩ => ⟨S1x2x256, .f32⟩
  | .hbm, ⟨22, _⟩ => ⟨S1x2x256, .f32⟩
  | .hbm, ⟨23, _⟩ => ⟨S_, .f32⟩
  | .hbm, ⟨24, _⟩ => ⟨S1x2x256, .f32⟩
  | .hbm, ⟨25, _⟩ => ⟨S1x2x256, .f32⟩
  | .hbm, ⟨26, _⟩ => ⟨S1x2x256, .f32⟩
  | .hbm, ⟨27, _⟩ => ⟨S_, .f32⟩
  | .hbm, ⟨28, _⟩ => ⟨S1x2x256, .f32⟩
  | .hbm, ⟨29, _⟩ => ⟨S1x2x256, .f32⟩
  | .hbm, ⟨30, _⟩ => ⟨S1x2x256, .f32⟩
  | .hbm, ⟨31, _⟩ => ⟨S_, .f32⟩
  | .hbm, ⟨32, _⟩ => ⟨S1x2x256, .f32⟩
  | .hbm, ⟨33, _⟩ => ⟨S1x2x256, .f32⟩
  | .hbm, ⟨34, _⟩ => ⟨S1x2x256, .f32⟩
  | .hbm, ⟨35, _⟩ => ⟨S_, .f32⟩
  | .hbm, ⟨36, _⟩ => ⟨S1x2x256, .f32⟩
  | .hbm, ⟨37, _⟩ => ⟨S1x2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamHead.lean ====
abbrev S1x64 : Shape := ⟨2, ![1, 64]⟩
abbrev S1x1x64 : Shape := ⟨3, ![1, 1, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x64, .f32⟩
  | .hbm, ⟨1, _⟩ => ⟨S1x1x64, .f32⟩
  | .hbm, ⟨2, _⟩ => ⟨S1x1x64, .f32⟩
  | .hbm, ⟨3, _⟩ => ⟨S1x1x64, .f32⟩
  | .hbm, ⟨4, _⟩ => ⟨S1x1x64, .f32⟩
  | .hbm, ⟨5, _⟩ => ⟨S1x1x64, .f32⟩
  | .hbm, ⟨6, _⟩ => ⟨S1x1x64, .f32⟩
  | .hbm, ⟨7, _⟩ => ⟨S1x1x64, .f32⟩
  | .local _ .vmem, ⟨0, _⟩ => ⟨S1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadIdeal.lean ====
abbrev S1x64 : Shape := ⟨2, ![1, 64]⟩
abbrev S1x1x64 : Shape := ⟨3, ![1, 1, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x64, .f32⟩
  | .hbm, ⟨1, _⟩ => ⟨S1x1x64, .f32⟩
  | .hbm, ⟨2, _⟩ => ⟨S1x1x64, .f32⟩
  | .hbm, ⟨3, _⟩ => ⟨S1x1x64, .f32⟩
  | .hbm, ⟨4, _⟩ => ⟨S1x1x64, .f32⟩
  | .hbm, ⟨5, _⟩ => ⟨S1x1x64, .f32⟩
  | .hbm, ⟨6, _⟩ => ⟨S1x1x64, .f32⟩
  | .hbm, ⟨7, _⟩ => ⟨S1x1x64, .f32⟩
  | .local _ .vmem, ⟨0, _⟩ => ⟨S1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadRefIdeal.lean ====
abbrev S1x64 : Shape := ⟨2, ![1, 64]⟩
abbrev S1x1x64 : Shape := ⟨3, ![1, 1, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x1x64, .f32⟩
  | .hbm, ⟨2, _⟩ => ⟨S1x1x64, .f32⟩
  | .hbm, ⟨3, _⟩ => ⟨S1x1x64, .f32⟩
  | .hbm, ⟨4, _⟩ => ⟨S1x1x64, .f32⟩
  | .hbm, ⟨5, _⟩ => ⟨S_, .f32⟩
  | .hbm, ⟨6, _⟩ => ⟨S1x1x64, .f32⟩
  | .hbm, ⟨7, _⟩ => ⟨S1x1x64, .f32⟩
  | .hbm, ⟨8, _⟩ => ⟨S_, .f32⟩
  | .hbm, ⟨9, _⟩ => ⟨S1x1x64, .f32⟩
  | .hbm, ⟨10, _⟩ => ⟨S1x1x64, .f32⟩
  | .hbm, ⟨11, _⟩ => ⟨S1x1x64, .f32⟩
  | .hbm, ⟨12, _⟩ => ⟨S_, .f32⟩
  | .hbm, ⟨13, _⟩ => ⟨S1x1x64, .f32⟩
  | .hbm, ⟨14, _⟩ => ⟨S1x1x64, .f32⟩
  | .hbm, ⟨15, _⟩ => ⟨S1x1x64, .f32⟩
  | .hbm, ⟨16, _⟩ => ⟨S_, .f32⟩
  | .hbm, ⟨17, _⟩ => ⟨S1x1x64, .f32⟩
  | .hbm, ⟨18, _⟩ => ⟨S1x1x64, .f32⟩
  | .hbm, ⟨19, _⟩ => ⟨S1x1x64, .f32⟩
  | .hbm, ⟨20, _⟩ => ⟨S_, .f32⟩
  | .hbm, ⟨21, _⟩ => ⟨S1x1x64, .f32⟩
  | .hbm, ⟨22, _⟩ => ⟨S1x1x64, .f32⟩
  | .hbm, ⟨23, _⟩ => ⟨S_, .f32⟩
  | .hbm, ⟨24, _⟩ => ⟨S1x1x64, .f32⟩
  | .hbm, ⟨25, _⟩ => ⟨S1x1x64, .f32⟩
  | .hbm, ⟨26, _⟩ => ⟨S1x1x64, .f32⟩
  | .hbm, ⟨27, _⟩ => ⟨S_, .f32⟩
  | .hbm, ⟨28, _⟩ => ⟨S1x1x64, .f32⟩
  | .hbm, ⟨29, _⟩ => ⟨S1x1x64, .f32⟩
  | .hbm, ⟨30, _⟩ => ⟨S1x1x64, .f32⟩
  | .hbm, ⟨31, _⟩ => ⟨S_, .f32⟩
  | .hbm, ⟨32, _⟩ => ⟨S1x1x64, .f32⟩
  | .hbm, ⟨33, _⟩ => ⟨S1x1x64, .f32⟩
  | .hbm, ⟨34, _⟩ => ⟨S1x1x64, .f32⟩
  | .hbm, ⟨35, _⟩ => ⟨S_, .f32⟩
  | .hbm, ⟨36, _⟩ => ⟨S1x1x64, .f32⟩
  | .hbm, ⟨37, _⟩ => ⟨S1x1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamScale.lean ====
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScaleIdeal.lean ====
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .local _ .vmem, ⟨0, _⟩ => ⟨S1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScaleRefIdeal.lean ====
abbrev S1x2048 : Shape := ⟨2, ![1, 2048]⟩
abbrev S1x1x2048 : Shape := ⟨3, ![1, 1, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S_, .f32⟩
  | .hbm, ⟨6, _⟩ => ⟨S1x1x2048, .f32⟩
  | .hbm, ⟨7, _⟩ => ⟨S1x1x2048, .f32⟩
  | .hbm, ⟨8, _⟩ => ⟨S_, .f32⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S_, .f32⟩
  | .hbm, ⟨13, _⟩ => ⟨S1x1x2048, .f32⟩
  | .hbm, ⟨14, _⟩ => ⟨S1x1x2048, .f32⟩
  | .hbm, ⟨15, _⟩ => ⟨S1x1x2048, .f32⟩
  | .hbm, ⟨16, _⟩ => ⟨S_, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S_, .f32⟩
  | .hbm, ⟨21, _⟩ => ⟨S1x1x2048, .f32⟩
  | .hbm, ⟨22, _⟩ => ⟨S1x1x2048, .f32⟩
  | .hbm, ⟨23, _⟩ => ⟨S_, .f32⟩
  | .hbm, ⟨24, _⟩ => ⟨S1x1x2048, .f32⟩
  | .hbm, ⟨25, _⟩ => ⟨S1x1x2048, .f32⟩
  | .hbm, ⟨26, _⟩ => ⟨S1x1x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S1x1x2048, .f32⟩
  | .hbm, ⟨31, _⟩ => ⟨S_, .f32⟩
  | .hbm, ⟨32, _⟩ => ⟨S1x1x2048, .f32⟩
  | .hbm, ⟨33, _⟩ => ⟨S1x1x2048, .f32⟩
  | .hbm, ⟨34, _⟩ => ⟨S1x1x2048, .f32⟩
  | .hbm, ⟨35, _⟩ => ⟨S_, .f32⟩
  | .hbm, ⟨36, _⟩ => ⟨S1x1x2048, .f32⟩
  | .hbm, ⟨37, _⟩ => ⟨S1x1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSink.lean ====
abbrev S1x32 : Shape := ⟨2, ![1, 32]⟩
abbrev S1x1x32 : Shape := ⟨3, ![1, 1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x1x32, .f32⟩
  | .hbm, ⟨2, _⟩ => ⟨S1x1x32, .f32⟩
  | .hbm, ⟨3, _⟩ => ⟨S1x1x32, .f32⟩
  | .hbm, ⟨4, _⟩ => ⟨S1x1x32, .f32⟩
  | .hbm, ⟨5, _⟩ => ⟨S1x1x32, .f32⟩
  | .hbm, ⟨6, _⟩ => ⟨S1x1x32, .f32⟩
  | .hbm, ⟨7, _⟩ => ⟨S1x1x32, .f32⟩
  | .local _ .vmem, ⟨0, _⟩ => ⟨S1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSinkIdeal.lean ====
abbrev S1x32 : Shape := ⟨2, ![1, 32]⟩
abbrev S1x1x32 : Shape := ⟨3, ![1, 1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x32, .f32⟩
  | .hbm, ⟨1, _⟩ => ⟨S1x1x32, .f32⟩
  | .hbm, ⟨2, _⟩ => ⟨S1x1x32, .f32⟩
  | .hbm, ⟨3, _⟩ => ⟨S1x1x32, .f32⟩
  | .hbm, ⟨4, _⟩ => ⟨S1x1x32, .f32⟩
  | .hbm, ⟨5, _⟩ => ⟨S1x1x32, .f32⟩
  | .hbm, ⟨6, _⟩ => ⟨S1x1x32, .f32⟩
  | .hbm, ⟨7, _⟩ => ⟨S1x1x32, .f32⟩
  | .local _ .vmem, ⟨0, _⟩ => ⟨S1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSinkRefIdeal.lean ====
abbrev S1x32 : Shape := ⟨2, ![1, 32]⟩
abbrev S1x1x32 : Shape := ⟨3, ![1, 1, 32]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x1x32, .f32⟩
  | .hbm, ⟨2, _⟩ => ⟨S1x1x32, .f32⟩
  | .hbm, ⟨3, _⟩ => ⟨S1x1x32, .f32⟩
  | .hbm, ⟨4, _⟩ => ⟨S1x1x32, .f32⟩
  | .hbm, ⟨5, _⟩ => ⟨S_, .f32⟩
  | .hbm, ⟨6, _⟩ => ⟨S1x1x32, .f32⟩
  | .hbm, ⟨7, _⟩ => ⟨S1x1x32, .f32⟩
  | .hbm, ⟨8, _⟩ => ⟨S_, .f32⟩
  | .hbm, ⟨9, _⟩ => ⟨S1x1x32, .f32⟩
  | .hbm, ⟨10, _⟩ => ⟨S1x1x32, .f32⟩
  | .hbm, ⟨11, _⟩ => ⟨S1x1x32, .f32⟩
  | .hbm, ⟨12, _⟩ => ⟨S_, .f32⟩
  | .hbm, ⟨13, _⟩ => ⟨S1x1x32, .f32⟩
  | .hbm, ⟨14, _⟩ => ⟨S1x1x32, .f32⟩
  | .hbm, ⟨15, _⟩ => ⟨S1x1x32, .f32⟩
  | .hbm, ⟨16, _⟩ => ⟨S_, .f32⟩
  | .hbm, ⟨17, _⟩ => ⟨S1x1x32, .f32⟩
  | .hbm, ⟨18, _⟩ => ⟨S1x1x32, .f32⟩
  | .hbm, ⟨19, _⟩ => ⟨S1x1x32, .f32⟩
  | .hbm, ⟨20, _⟩ => ⟨S_, .f32⟩
  | .hbm, ⟨21, _⟩ => ⟨S1x1x32, .f32⟩
  | .hbm, ⟨22, _⟩ => ⟨S1x1x32, .f32⟩
  | .hbm, ⟨23, _⟩ => ⟨S_, .f32⟩
  | .hbm, ⟨24, _⟩ => ⟨S1x1x32, .f32⟩
  | .hbm, ⟨25, _⟩ => ⟨S1x1x32, .f32⟩
  | .hbm, ⟨26, _⟩ => ⟨S1x1x32, .f32⟩
  | .hbm, ⟨27, _⟩ => ⟨S_, .f32⟩
  | .hbm, ⟨28, _⟩ => ⟨S1x1x32, .f32⟩
  | .hbm, ⟨29, _⟩ => ⟨S1x1x32, .f32⟩
  | .hbm, ⟨30, _⟩ => ⟨S1x1x32, .f32⟩
  | .hbm, ⟨31, _⟩ => ⟨S_, .f32⟩
  | .hbm, ⟨32, _⟩ => ⟨S1x1x32, .f32⟩
  | .hbm, ⟨33, _⟩ => ⟨S1x1x32, .f32⟩
  | .hbm, ⟨34, _⟩ => ⟨S1x1x32, .f32⟩
  | .hbm, ⟨35, _⟩ => ⟨S_, .f32⟩
  | .hbm, ⟨36, _⟩ => ⟨S1x1x32, .f32⟩
  | .hbm, ⟨37, _⟩ => ⟨S1x1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamBias.lean ====
abbrev S32x32 : Shape := ⟨2, ![32, 32]⟩
abbrev S1x32x32 : Shape := ⟨3, ![1, 32, 32]⟩

abbrev nBuf : Space → Nat
  | .hbm => 8
  | .vmem => 8
  | .smem => 0
  | _ => 0

abbrev bufTy : (tb : Table) → Fin (tcTables nBuf tb) → BufTy
  | .hbm, ⟨0, _⟩ => ⟨S32x32, .f32⟩
  | .hbm, ⟨1, _⟩ => ⟨S1x32x32, .f32⟩
  | .hbm, ⟨2, _⟩ => ⟨S1x32x32, .f32⟩
  | .hbm, ⟨3, _⟩ => ⟨S1x32x32, .f32⟩
  | .hbm, ⟨4, _⟩ => ⟨S1x32x32, .f32⟩
  | .hbm, ⟨5, _⟩ => ⟨S1x32x32, .f32⟩
  | .hbm, ⟨6, _⟩ => ⟨S1x32x32, .f32⟩
  | .hbm, ⟨7, _⟩ => ⟨S1x32x32, .f32⟩
  | .local _ .vmem, ⟨0, _⟩ => ⟨S32x32, .f32⟩
  | .local _ .vmem, ⟨1, _⟩ => ⟨S1x32x32, .f32⟩
  | .local _ .vmem, ⟨2, _⟩ => ⟨S1x32x32, .f32⟩
  | .local _ .vmem, ⟨3, _⟩ => ⟨S1x32x32, .f32⟩
  | .local _ .vmem, ⟨4, _⟩ => ⟨S1x32x32, .f32⟩
  | .local _ .vmem, ⟨5, _⟩ => ⟨S1x32x32, .f32⟩
  | .local _ .vmem, ⟨6, _⟩ => ⟨S1x32x32, .f32⟩
  | .local _ .vmem, ⟨7, _⟩ => ⟨S1x32x32, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasIdeal.lean ====
abbrev S32x32 : Shape := ⟨2, ![32, 32]⟩
abbrev S1x32x32 : Shape := ⟨3, ![1, 32, 32]⟩

abbrev nBuf : Space → Nat
  | .hbm => 8
  | .vmem => 8
  | .smem => 0
  | _ => 0

abbrev bufTy : (tb : Table) → Fin (tcTables nBuf tb) → BufTy
  | .hbm, ⟨0, _⟩ => ⟨S32x32, .f32⟩
  | .hbm, ⟨1, _⟩ => ⟨S1x32x32, .f32⟩
  | .hbm, ⟨2, _⟩ => ⟨S1x32x32, .f32⟩
  | .hbm, ⟨3, _⟩ => ⟨S1x32x32, .f32⟩
  | .hbm, ⟨4, _⟩ => ⟨S1x32x32, .f32⟩
  | .hbm, ⟨5, _⟩ => ⟨S1x32x32, .f32⟩
  | .hbm, ⟨6, _⟩ => ⟨S1x32x32, .f32⟩
  | .hbm, ⟨7, _⟩ => ⟨S1x32x32, .f32⟩
  | .local _ .vmem, ⟨0, _⟩ => ⟨S32x32, .f32⟩
  | .local _ .vmem, ⟨1, _⟩ => ⟨S1x32x32, .f32⟩
  | .local _ .vmem, ⟨2, _⟩ => ⟨S1x32x32, .f32⟩
  | .local _ .vmem, ⟨3, _⟩ => ⟨S1x32x32, .f32⟩
  | .local _ .vmem, ⟨4, _⟩ => ⟨S1x32x32, .f32⟩
  | .local _ .vmem, ⟨5, _⟩ => ⟨S1x32x32, .f32⟩
  | .local _ .vmem, ⟨6, _⟩ => ⟨S1x32x32, .f32⟩
  | .local _ .vmem, ⟨7, _⟩ => ⟨S1x32x32, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasRefIdeal.lean ====
abbrev S32x32 : Shape := ⟨2, ![32, 32]⟩
abbrev S1x32x32 : Shape := ⟨3, ![1, 32, 32]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S32x32, .f32⟩
  | .hbm, ⟨1, _⟩ => ⟨S1x32x32, .f32⟩
  | .hbm, ⟨2, _⟩ => ⟨S1x32x32, .f32⟩
  | .hbm, ⟨3, _⟩ => ⟨S1x32x32, .f32⟩
  | .hbm, ⟨4, _⟩ => ⟨S1x32x32, .f32⟩
  | .hbm, ⟨5, _⟩ => ⟨S_, .f32⟩
  | .hbm, ⟨6, _⟩ => ⟨S1x32x32, .f32⟩
  | .hbm, ⟨7, _⟩ => ⟨S1x32x32, .f32⟩
  | .hbm, ⟨8, _⟩ => ⟨S_, .f32⟩
  | .hbm, ⟨9, _⟩ => ⟨S1x32x32, .f32⟩
  | .hbm, ⟨10, _⟩ => ⟨S1x32x32, .f32⟩
  | .hbm, ⟨11, _⟩ => ⟨S1x32x32, .f32⟩
  | .hbm, ⟨12, _⟩ => ⟨S_, .f32⟩
  | .hbm, ⟨13, _⟩ => ⟨S1x32x32, .f32⟩
  | .hbm, ⟨14, _⟩ => ⟨S1x32x32, .f32⟩
  | .hbm, ⟨15, _⟩ => ⟨S1x32x32, .f32⟩
  | .hbm, ⟨16, _⟩ => ⟨S_, .f32⟩
  | .hbm, ⟨17, _⟩ => ⟨S1x32x32, .f32⟩
  | .hbm, ⟨18, _⟩ => ⟨S1x32x32, .f32⟩
  | .hbm, ⟨19, _⟩ => ⟨S1x32x32, .f32⟩
  | .hbm, ⟨20, _⟩ => ⟨S_, .f32⟩
  | .hbm, ⟨21, _⟩ => ⟨S1x32x32, .f32⟩
  | .hbm, ⟨22, _⟩ => ⟨S1x32x32, .f32⟩
  | .hbm, ⟨23, _⟩ => ⟨S_, .f32⟩
  | .hbm, ⟨24, _⟩ => ⟨S1x32x32, .f32⟩
  | .hbm, ⟨25, _⟩ => ⟨S1x32x32, .f32⟩
  | .hbm, ⟨26, _⟩ => ⟨S1x32x32, .f32⟩
  | .hbm, ⟨27, _⟩ => ⟨S_, .f32⟩
  | .hbm, ⟨28, _⟩ => ⟨S1x32x32, .f32⟩
  | .hbm, ⟨29, _⟩ => ⟨S1x32x32, .f32⟩
  | .hbm, ⟨30, _⟩ => ⟨S1x32x32, .f32⟩
  | .hbm, ⟨31, _⟩ => ⟨S_, .f32⟩
  | .hbm, ⟨32, _⟩ => ⟨S1x32x32, .f32⟩
  | .hbm, ⟨33, _⟩ => ⟨S1x32x32, .f32⟩
  | .hbm, ⟨34, _⟩ => ⟨S1x32x32, .f32⟩
  | .hbm, ⟨35, _⟩ => ⟨S_, .f32⟩
  | .hbm, ⟨36, _⟩ => ⟨S1x32x32, .f32⟩
  | .hbm, ⟨37, _⟩ => ⟨S1x32x32, .f32⟩
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamConvB.lean ====
abbrev S2x512 : Shape := ⟨2, ![2, 512]⟩
abbrev S1x2x512 : Shape := ⟨3, ![1, 2, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvBIdeal.lean ====
abbrev S2x512 : Shape := ⟨2, ![2, 512]⟩
abbrev S1x2x512 : Shape := ⟨3, ![1, 2, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvBRefIdeal.lean ====
abbrev S2x512 : Shape := ⟨2, ![2, 512]⟩
abbrev S1x2x512 : Shape := ⟨3, ![1, 2, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S_, .f32⟩
  | .hbm, ⟨6, _⟩ => ⟨S1x2x512, .f32⟩
  | .hbm, ⟨7, _⟩ => ⟨S1x2x512, .f32⟩
  | .hbm, ⟨8, _⟩ => ⟨S_, .f32⟩
  | .hbm, ⟨9, _⟩ => ⟨S1x2x512, .f32⟩
  | .hbm, ⟨10, _⟩ => ⟨S1x2x512, .f32⟩
  | .hbm, ⟨11, _⟩ => ⟨S1x2x512, .f32⟩
  | .hbm, ⟨12, _⟩ => ⟨S_, .f32⟩
  | .hbm, ⟨13, _⟩ => ⟨S1x2x512, .f32⟩
  | .hbm, ⟨14, _⟩ => ⟨S1x2x512, .f32⟩
  | .hbm, ⟨15, _⟩ => ⟨S1x2x512, .f32⟩
  | .hbm, ⟨16, _⟩ => ⟨S_, .f32⟩
  | .hbm, ⟨17, _⟩ => ⟨S1x2x512, .f32⟩
  | .hbm, ⟨18, _⟩ => ⟨S1x2x512, .f32⟩
  | .hbm, ⟨19, _⟩ => ⟨S1x2x512, .f32⟩
  | .hbm, ⟨20, _⟩ => ⟨S_, .f32⟩
  | .hbm, ⟨21, _⟩ => ⟨S1x2x512, .f32⟩
  | .hbm, ⟨22, _⟩ => ⟨S1x2x512, .f32⟩
  | .hbm, ⟨23, _⟩ => ⟨S_, .f32⟩
  | .hbm, ⟨24, _⟩ => ⟨S1x2x512, .f32⟩
  | .hbm, ⟨25, _⟩ => ⟨S1x2x512, .f32⟩
  | .hbm, ⟨26, _⟩ => ⟨S1x2x512, .f32⟩
  | .hbm, ⟨27, _⟩ => ⟨S_, .f32⟩
  | .hbm, ⟨28, _⟩ => ⟨S1x2x512, .f32⟩
  | .hbm, ⟨29, _⟩ => ⟨S1x2x512, .f32⟩
  | .hbm, ⟨30, _⟩ => ⟨S1x2x512, .f32⟩
  | .hbm, ⟨31, _⟩ => ⟨S_, .f32⟩
  | .hbm, ⟨32, _⟩ => ⟨S1x2x512, .f32⟩
  | .hbm, ⟨33, _⟩ => ⟨S1x2x512, .f32⟩
  | .hbm, ⟨34, _⟩ => ⟨S1x2x512, .f32⟩
  | .hbm, ⟨35, _⟩ => ⟨S_, .f32⟩
  | .hbm, ⟨36, _⟩ => ⟨S1x2x512, .f32⟩
  | .hbm, ⟨37, _⟩ => ⟨S1x2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamConvW.lean ====
abbrev S62x256 : Shape := ⟨2, ![62, 256]⟩
abbrev S1x62x256 : Shape := ⟨3, ![1, 62, 256]⟩

abbrev nBuf : Space → Nat
  | .hbm => 8
  | .vmem => 8
  | .smem => 0
  | _ => 0

abbrev bufTy : (tb : Table) → Fin (tcTables nBuf tb) → BufTy
  | .hbm, ⟨0, _⟩ => ⟨S62x256, .f32⟩
  | .hbm, ⟨1, _⟩ => ⟨S1x62x256, .f32⟩
  | .hbm, ⟨2, _⟩ => ⟨S1x62x256, .f32⟩
  | .hbm, ⟨3, _⟩ => ⟨S1x62x256, .f32⟩
  | .hbm, ⟨4, _⟩ => ⟨S1x62x256, .f32⟩
  | .hbm, ⟨5, _⟩ => ⟨S1x62x256, .f32⟩
  | .hbm, ⟨6, _⟩ => ⟨S1x62x256, .f32⟩
  | .hbm, ⟨7, _⟩ => ⟨S1x62x256, .f32⟩
  | .local _ .vmem, ⟨0, _⟩ => ⟨S62x256, .f32⟩
  | .local _ .vmem, ⟨1, _⟩ => ⟨S1x62x256, .f32⟩
  | .local _ .vmem, ⟨2, _⟩ => ⟨S1x62x256, .f32⟩
  | .local _ .vmem, ⟨3, _⟩ => ⟨S1x62x256, .f32⟩
  | .local _ .vmem, ⟨4, _⟩ => ⟨S1x62x256, .f32⟩
  | .local _ .vmem, ⟨5, _⟩ => ⟨S1x62x256, .f32⟩
  | .local _ .vmem, ⟨6, _⟩ => ⟨S1x62x256, .f32⟩
  | .local _ .vmem, ⟨7, _⟩ => ⟨S1x62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvWIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamConvWRefIdeal.lean ====
abbrev S62x256 : Shape := ⟨2, ![62, 256]⟩
abbrev S1x62x256 : Shape := ⟨3, ![1, 62, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S62x256, .f32⟩
  | .hbm, ⟨1, _⟩ => ⟨S1x62x256, .f32⟩
  | .hbm, ⟨2, _⟩ => ⟨S1x62x256, .f32⟩
  | .hbm, ⟨3, _⟩ => ⟨S1x62x256, .f32⟩
  | .hbm, ⟨4, _⟩ => ⟨S1x62x256, .f32⟩
  | .hbm, ⟨5, _⟩ => ⟨S_, .f32⟩
  | .hbm, ⟨6, _⟩ => ⟨S1x62x256, .f32⟩
  | .hbm, ⟨7, _⟩ => ⟨S1x62x256, .f32⟩
  | .hbm, ⟨8, _⟩ => ⟨S_, .f32⟩
  | .hbm, ⟨9, _⟩ => ⟨S1x62x256, .f32⟩
  | .hbm, ⟨10, _⟩ => ⟨S1x62x256, .f32⟩
  | .hbm, ⟨11, _⟩ => ⟨S1x62x256, .f32⟩
  | .hbm, ⟨12, _⟩ => ⟨S_, .f32⟩
  | .hbm, ⟨13, _⟩ => ⟨S1x62x256, .f32⟩
  | .hbm, ⟨14, _⟩ => ⟨S1x62x256, .f32⟩
  | .hbm, ⟨15, _⟩ => ⟨S1x62x256, .f32⟩
  | .hbm, ⟨16, _⟩ => ⟨S_, .f32⟩
  | .hbm, ⟨17, _⟩ => ⟨S1x62x256, .f32⟩
  | .hbm, ⟨18, _⟩ => ⟨S1x62x256, .f32⟩
  | .hbm, ⟨19, _⟩ => ⟨S1x62x256, .f32⟩
  | .hbm, ⟨20, _⟩ => ⟨S_, .f32⟩
  | .hbm, ⟨21, _⟩ => ⟨S1x62x256, .f32⟩
  | .hbm, ⟨22, _⟩ => ⟨S1x62x256, .f32⟩
  | .hbm, ⟨23, _⟩ => ⟨S_, .f32⟩
  | .hbm, ⟨24, _⟩ => ⟨S1x62x256, .f32⟩
  | .hbm, ⟨25, _⟩ => ⟨S1x62x256, .f32⟩
  | .hbm, ⟨26, _⟩ => ⟨S1x62x256, .f32⟩
  | .hbm, ⟨27, _⟩ => ⟨S_, .f32⟩
  | .hbm, ⟨28, _⟩ => ⟨S1x62x256, .f32⟩
  | .hbm, ⟨29, _⟩ => ⟨S1x62x256, .f32⟩
  | .hbm, ⟨30, _⟩ => ⟨S1x62x256, .f32⟩
  | .hbm, ⟨31, _⟩ => ⟨S_, .f32⟩
  | .hbm, ⟨32, _⟩ => ⟨S1x62x256, .f32⟩
  | .hbm, ⟨33, _⟩ => ⟨S1x62x256, .f32⟩
  | .hbm, ⟨34, _⟩ => ⟨S1x62x256, .f32⟩
  | .hbm, ⟨35, _⟩ => ⟨S_, .f32⟩
  | .hbm, ⟨36, _⟩ => ⟨S1x62x256, .f32⟩
  | .hbm, ⟨37, _⟩ => ⟨S1x62x256, .f32⟩
  | _, _ => ⟨S62x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamQkv.lean ====
abbrev S8x384x2048 : Shape := ⟨3, ![8, 384, 2048]⟩
abbrev S1x384x2048 : Shape := ⟨3, ![1, 384, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x384x2048, .bf16⟩
  | .hbm, ⟨1, _⟩ => ⟨S1x384x2048, .f32⟩
  | .hbm, ⟨2, _⟩ => ⟨S1x384x2048, .f32⟩
  | .hbm, ⟨3, _⟩ => ⟨S1x384x2048, .f32⟩
  | .hbm, ⟨4, _⟩ => ⟨S1x384x2048, .f32⟩
  | .hbm, ⟨5, _⟩ => ⟨S1x384x2048, .f32⟩
  | .hbm, ⟨6, _⟩ => ⟨S1x384x2048, .f32⟩
  | .hbm, ⟨7, _⟩ => ⟨S1x384x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQkvIdeal.lean ====
abbrev S8x384x2048 : Shape := ⟨3, ![8, 384, 2048]⟩
abbrev S1x384x2048 : Shape := ⟨3, ![1, 384, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x384x2048, .bf16⟩
  | .hbm, ⟨1, _⟩ => ⟨S1x384x2048, .f32⟩
  | .hbm, ⟨2, _⟩ => ⟨S1x384x2048, .f32⟩
  | .hbm, ⟨3, _⟩ => ⟨S1x384x2048, .f32⟩
  | .hbm, ⟨4, _⟩ => ⟨S1x384x2048, .f32⟩
  | .hbm, ⟨5, _⟩ => ⟨S1x384x2048, .f32⟩
  | .hbm, ⟨6, _⟩ => ⟨S1x384x2048, .f32⟩
  | .hbm, ⟨7, _⟩ => ⟨S1x384x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQkvRefIdeal.lean ====
abbrev S8x384x2048 : Shape := ⟨3, ![8, 384, 2048]⟩
abbrev S1x384x2048 : Shape := ⟨3, ![1, 384, 2048]⟩
abbrev S_ : Shape := ⟨0, ![]⟩
abbrev S384x2048 : Shape := ⟨2, ![384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x384x2048, .bf16⟩
  | .hbm, ⟨1, _⟩ => ⟨S1x384x2048, .f32⟩
  | .hbm, ⟨2, _⟩ => ⟨S1x384x2048, .f32⟩
  | .hbm, ⟨3, _⟩ => ⟨S1x384x2048, .f32⟩
  | .hbm, ⟨4, _⟩ => ⟨S8x384x2048, .f32⟩
  | .hbm, ⟨5, _⟩ => ⟨S_, .f32⟩
  | .hbm, ⟨6, _⟩ => ⟨S384x2048, .f32⟩
  | .hbm, ⟨7, _⟩ => ⟨S1x384x2048, .f32⟩
  | .hbm, ⟨8, _⟩ => ⟨S_, .f32⟩
  | .hbm, ⟨9, _⟩ => ⟨S1x384x2048, .f32⟩
  | .hbm, ⟨10, _⟩ => ⟨S1x384x2048, .f32⟩
  | .hbm, ⟨11, _⟩ => ⟨S_, .f32⟩
  | .hbm, ⟨12, _⟩ => ⟨S1x384x2048, .f32⟩
  | .hbm, ⟨13, _⟩ => ⟨S1x384x2048, .f32⟩
  | .hbm, ⟨14, _⟩ => ⟨S1x384x2048, .f32⟩
  | .hbm, ⟨15, _⟩ => ⟨S_, .f32⟩
  | .hbm, ⟨16, _⟩ => ⟨S1x384x2048, .f32⟩
  | .hbm, ⟨17, _⟩ => ⟨S1x384x2048, .f32⟩
  | .hbm, ⟨18, _⟩ => ⟨S1x384x2048, .f32⟩
  | .hbm, ⟨19, _⟩ => ⟨S_, .f32⟩
  | .hbm, ⟨20, _⟩ => ⟨S1x384x2048, .f32⟩
  | .hbm, ⟨21, _⟩ => ⟨S1x384x2048, .f32⟩
  | .hbm, ⟨22, _⟩ => ⟨S1x384x2048, .f32⟩
  | .hbm, ⟨23, _⟩ => ⟨S_, .f32⟩
  | .hbm, ⟨24, _⟩ => ⟨S1x384x2048, .f32⟩
  | .hbm, ⟨25, _⟩ => ⟨S1x384x2048, .f32⟩
  | .hbm, ⟨26, _⟩ => ⟨S_, .f32⟩
  | .hbm, ⟨27, _⟩ => ⟨S1x384x2048, .f32⟩
  | .hbm, ⟨28, _⟩ => ⟨S1x384x2048, .f32⟩
  | .hbm, ⟨29, _⟩ => ⟨S1x384x2048, .f32⟩
  | .hbm, ⟨30, _⟩ => ⟨S_, .f32⟩
  | .hbm, ⟨31, _⟩ => ⟨S1x384x2048, .f32⟩
  | .hbm, ⟨32, _⟩ => ⟨S1x384x2048, .f32⟩
  | .hbm, ⟨33, _⟩ => ⟨S1x384x2048, .f32⟩
  | .hbm, ⟨34, _⟩ => ⟨S_, .f32⟩
  | .hbm, ⟨35, _⟩ => ⟨S1x384x2048, .f32⟩
  | .hbm, ⟨36, _⟩ => ⟨S1x384x2048, .f32⟩
  | .hbm, ⟨37, _⟩ => ⟨S1x384x2048, .f32⟩
  | .hbm, ⟨38, _⟩ => ⟨S_, .f32⟩
  | .hbm, ⟨39, _⟩ => ⟨S1x384x2048, .f32⟩
  | .hbm, ⟨40, _⟩ => ⟨S1x384x2048, .f32⟩
  | _, _ => ⟨S8x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S8x256x2048 : Shape := ⟨3, ![8, 256, 2048]⟩
abbrev S1x256x2048 : Shape := ⟨3, ![1, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x2048 : Shape := ⟨3, ![8, 256, 2048]⟩
abbrev S1x256x2048 : Shape := ⟨3, ![1, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x256x2048 : Shape := ⟨3, ![8, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamPool.lean ====
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x256x512, .bf16⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .local _ .vmem, ⟨0, _⟩ => ⟨S8x256x512, .bf16⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamPoolRefIdeal.lean ====
abbrev S8x256x512 : Shape := ⟨3, ![8, 256, 512]⟩
abbrev S1x256x512 : Shape := ⟨3, ![1, 256, 512]⟩
abbrev S_ : Shape := ⟨0, ![]⟩
abbrev S256x512 : Shape := ⟨2, ![256, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S1x256x512, .f32⟩
  | .hbm, ⟨2, _⟩ => ⟨S1x256x512, .f32⟩
  | .hbm, ⟨3, _⟩ => ⟨S1x256x512, .f32⟩
  | .hbm, ⟨4, _⟩ => ⟨S8x256x512, .f32⟩
  | .hbm, ⟨5, _⟩ => ⟨S_, .f32⟩
  | .hbm, ⟨6, _⟩ => ⟨S256x512, .f32⟩
  | .hbm, ⟨7, _⟩ => ⟨S1x256x512, .f32⟩
  | .hbm, ⟨8, _⟩ => ⟨S_, .f32⟩
  | .hbm, ⟨9, _⟩ => ⟨S1x256x512, .f32⟩
  | .hbm, ⟨10, _⟩ => ⟨S1x256x512, .f32⟩
  | .hbm, ⟨11, _⟩ => ⟨S_, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S_, .f32⟩
  | .hbm, ⟨16, _⟩ => ⟨S1x256x512, .f32⟩
  | .hbm, ⟨17, _⟩ => ⟨S1x256x512, .f32⟩
  | .hbm, ⟨18, _⟩ => ⟨S1x256x512, .f32⟩
  | .hbm, ⟨19, _⟩ => ⟨S_, .f32⟩
  | .hbm, ⟨20, _⟩ => ⟨S1x256x512, .f32⟩
  | .hbm, ⟨21, _⟩ => ⟨S1x256x512, .f32⟩
  | .hbm, ⟨22, _⟩ => ⟨S1x256x512, .f32⟩
  | .hbm, ⟨23, _⟩ => ⟨S_, .f32⟩
  | .hbm, ⟨24, _⟩ => ⟨S1x256x512, .f32⟩
  | .hbm, ⟨25, _⟩ => ⟨S1x256x512, .f32⟩
  | .hbm, ⟨26, _⟩ => ⟨S_, .f32⟩
  | .hbm, ⟨27, _⟩ => ⟨S1x256x512, .f32⟩
  | .hbm, ⟨28, _⟩ => ⟨S1x256x512, .f32⟩
  | .hbm, ⟨29, _⟩ => ⟨S1x256x512, .f32⟩
  | .hbm, ⟨30, _⟩ => ⟨S_, .f32⟩
  | .hbm, ⟨31, _⟩ => ⟨S1x256x512, .f32⟩
  | .hbm, ⟨32, _⟩ => ⟨S1x256x512, .f32⟩
  | .hbm, ⟨33, _⟩ => ⟨S1x256x512, .f32⟩
  | .hbm, ⟨34, _⟩ => ⟨S_, .f32⟩
  | .hbm, ⟨35, _⟩ => ⟨S1x256x512, .f32⟩
  | .hbm, ⟨36, _⟩ => ⟨S1x256x512, .f32⟩
  | .hbm, ⟨37, _⟩ => ⟨S1x256x512, .f32⟩
  | .hbm, ⟨38, _⟩ => ⟨S_, .f32⟩
  | .hbm, ⟨39, _⟩ => ⟨S1x256x512, .f32⟩
  | .hbm, ⟨40, _⟩ => ⟨S1x256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamFfn.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S8x704x2048 : Shape := ⟨3, ![8, 704, 2048]⟩
abbrev S4x704x2048 : Shape := ⟨3, ![4, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .hbm, ⟨11, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩
abbrev S3x704x2048 : Shape := ⟨3, ![3, 704, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S8x704x2048, .f32⟩
  | .hbm, ⟨9, _⟩ => ⟨S_, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S3x704x2048, .f32⟩
  | .hbm, ⟨51, _⟩ => ⟨S1x704x2048, .f32⟩
  | .hbm, ⟨52, _⟩ => ⟨S4x704x2048, .f32⟩
  | .hbm, ⟨53, _⟩ => ⟨S3x704x2048, .f32⟩
  | .hbm, ⟨54, _⟩ => ⟨S1x704x2048, .f32⟩
  | .hbm, ⟨55, _⟩ => ⟨S4x704x2048, .f32⟩
  | .hbm, ⟨56, _⟩ => ⟨S3x704x2048, .f32⟩
  | .hbm, ⟨57, _⟩ => ⟨S1x704x2048, .f32⟩
  | .hbm, ⟨58, _⟩ => ⟨S4x704x2048, .f32⟩
  | .hbm, ⟨59, _⟩ => ⟨S3x704x2048, .f32⟩
  | .hbm, ⟨60, _⟩ => ⟨S1x704x2048, .f32⟩
  | .hbm, ⟨61, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamGate.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateIdeal.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S3x256x2048, .f32⟩
  | .hbm, ⟨51, _⟩ => ⟨S1x256x2048, .f32⟩
  | .hbm, ⟨52, _⟩ => ⟨S4x256x2048, .f32⟩
  | .hbm, ⟨53, _⟩ => ⟨S3x256x2048, .f32⟩
  | .hbm, ⟨54, _⟩ => ⟨S1x256x2048, .f32⟩
  | .hbm, ⟨55, _⟩ => ⟨S4x256x2048, .f32⟩
  | .hbm, ⟨56, _⟩ => ⟨S3x256x2048, .f32⟩
  | .hbm, ⟨57, _⟩ => ⟨S1x256x2048, .f32⟩
  | .hbm, ⟨58, _⟩ => ⟨S4x256x2048, .f32⟩
  | .hbm, ⟨59, _⟩ => ⟨S3x256x2048, .f32⟩
  | .hbm, ⟨60, _⟩ => ⟨S1x256x2048, .f32⟩
  | .hbm, ⟨61, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamProj.lean ====
abbrev S8x256x256 : Shape := ⟨3, ![8, 256, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .local _ .vmem, ⟨0, _⟩ => ⟨S8x256x256, .bf16⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamProjIdeal.lean ====
abbrev S8x256x256 : Shape := ⟨3, ![8, 256, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .local _ .vmem, ⟨0, _⟩ => ⟨S8x256x256, .bf16⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamProjRefIdeal.lean ====
abbrev S8x256x256 : Shape := ⟨3, ![8, 256, 256]⟩
abbrev S4x256x256 : Shape := ⟨3, ![4, 256, 256]⟩
abbrev S_ : Shape := ⟨0, ![]⟩
abbrev S256x256 : Shape := ⟨2, ![256, 256]⟩
abbrev S1x256x256 : Shape := ⟨3, ![1, 256, 256]⟩
abbrev S3x256x256 : Shape := ⟨3, ![3, 256, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S1x256x256, .f32⟩
  | .hbm, ⟨12, _⟩ => ⟨S256x256, .f32⟩
  | .hbm, ⟨13, _⟩ => ⟨S1x256x256, .f32⟩
  | .hbm, ⟨14, _⟩ => ⟨S256x256, .f32⟩
  | .hbm, ⟨15, _⟩ => ⟨S1x256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S3x256x256, .f32⟩
  | .hbm, ⟨51, _⟩ => ⟨S1x256x256, .f32⟩
  | .hbm, ⟨52, _⟩ => ⟨S4x256x256, .f32⟩
  | .hbm, ⟨53, _⟩ => ⟨S3x256x256, .f32⟩
  | .hbm, ⟨54, _⟩ => ⟨S1x256x256, .f32⟩
  | .hbm, ⟨55, _⟩ => ⟨S4x256x256, .f32⟩
  | .hbm, ⟨56, _⟩ => ⟨S3x256x256, .f32⟩
  | .hbm, ⟨57, _⟩ => ⟨S1x256x256, .f32⟩
  | .hbm, ⟨58, _⟩ => ⟨S4x256x256, .f32⟩
  | .hbm, ⟨59, _⟩ => ⟨S3x256x256, .f32⟩
  | .hbm, ⟨60, _⟩ => ⟨S1x256x256, .f32⟩
  | .hbm, ⟨61, _⟩ => ⟨S4x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamConvIn.lean ====
abbrev S8x512x2048 : Shape := ⟨3, ![8, 512, 2048]⟩
abbrev S2x512x2048 : Shape := ⟨3, ![2, 512, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvInIdeal.lean ====
abbrev S8x512x2048 : Shape := ⟨3, ![8, 512, 2048]⟩
abbrev S2x512x2048 : Shape := ⟨3, ![2, 512, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvInRefIdeal.lean ====
abbrev S8x512x2048 : Shape := ⟨3, ![8, 512, 2048]⟩
abbrev S2x512x2048 : Shape := ⟨3, ![2, 512, 2048]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S8x512x2048, .f32⟩
  | .hbm, ⟨9, _⟩ => ⟨S_, .f32⟩
  | .hbm, ⟨10, _⟩ => ⟨S512x2048, .f32⟩
  | .hbm, ⟨11, _⟩ => ⟨S1x512x2048, .f32⟩
  | .hbm, ⟨12, _⟩ => ⟨S512x2048, .f32⟩
  | .hbm, ⟨13, _⟩ => ⟨S1x512x2048, .f32⟩
  | .hbm, ⟨14, _⟩ => ⟨S512x2048, .f32⟩
  | .hbm, ⟨15, _⟩ => ⟨S1x512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S_, .f32⟩
  | .hbm, ⟨48, _⟩ => ⟨S512x2048, .f32⟩
  | .hbm, ⟨49, _⟩ => ⟨S512x2048, .f32⟩
  | .hbm, ⟨50, _⟩ => ⟨S1x512x2048, .f32⟩
  | .hbm, ⟨51, _⟩ => ⟨S1x512x2048, .f32⟩
  | .hbm, ⟨52, _⟩ => ⟨S2x512x2048, .f32⟩
  | .hbm, ⟨53, _⟩ => ⟨S1x512x2048, .f32⟩
  | .hbm, ⟨54, _⟩ => ⟨S1x512x2048, .f32⟩
  | .hbm, ⟨55, _⟩ => ⟨S2x512x2048, .f32⟩
  | .hbm, ⟨56, _⟩ => ⟨S1x512x2048, .f32⟩
  | .hbm, ⟨57, _⟩ => ⟨S1x512x2048, .f32⟩
  | .hbm, ⟨58, _⟩ => ⟨S2x512x2048, .f32⟩
  | .hbm, ⟨59, _⟩ => ⟨S1x512x2048, .f32⟩
  | .hbm, ⟨60, _⟩ => ⟨S1x512x2048, .f32⟩
  | .hbm, ⟨61, _⟩ => ⟨S2x512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamConvOut.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvOutIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamConvOutRefIdeal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S1x256x2048, .f32⟩
  | .hbm, ⟨52, _⟩ => ⟨S2x256x2048, .f32⟩
  | .hbm, ⟨53, _⟩ => ⟨S1x256x2048, .f32⟩
  | .hbm, ⟨54, _⟩ => ⟨S1x256x2048, .f32⟩
  | .hbm, ⟨55, _⟩ => ⟨S2x256x2048, .f32⟩
  | .hbm, ⟨56, _⟩ => ⟨S1x256x2048, .f32⟩
  | .hbm, ⟨57, _⟩ => ⟨S1x256x2048, .f32⟩
  | .hbm, ⟨58, _⟩ => ⟨S2x256x2048, .f32⟩
  | .hbm, ⟨59, _⟩ => ⟨S1x256x2048, .f32⟩
  | .hbm, ⟨60, _⟩ => ⟨S1x256x2048, .f32⟩
  | .hbm, ⟨61, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Finite.lean ====
/- Arrays of finite numbers: what a printed precondition says of its arguments, and sums and products of reals. -/
module

public import Idealize.ShloMosaic.Lib.ReduceAll
public import Idealize.ShloMosaic.Lib.IdealHost
public import Idealize.ShloMosaic.Lib.Pointwise

@[expose] public section

noncomputable section

namespace Cert.Finite

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, by norm_cast⟩

theorem isReal_one : IsReal 1 := ⟨1, by norm_cast⟩

theorem IsReal.add {x y : EReal} (hx : IsReal x) (hy : IsReal y) : IsReal (x + y) := by
  obtain ⟨a, rfl⟩ := hx; obtain ⟨b, rfl⟩ := hy; exact ⟨a + b, by norm_cast⟩

theorem IsReal.sub {x y : EReal} (hx : IsReal x) (hy : IsReal y) : IsReal (x - y) := by
  obtain ⟨a, rfl⟩ := hx; obtain ⟨b, rfl⟩ := hy; exact ⟨a - b, by norm_cast⟩

theorem IsReal.mul {x y : EReal} (hx : IsReal x) (hy : IsReal y) : IsReal (x * y) := by
  obtain ⟨a, rfl⟩ := hx; obtain ⟨b, rfl⟩ := hy; exact ⟨a * b, by norm_cast⟩

theorem IsReal.neg {x : EReal} (hx : IsReal x) : IsReal (-x) := by
  obtain ⟨a, rfl⟩ := hx; exact ⟨-a, by norm_cast⟩

theorem isReal_sum {ι : Type*} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

theorem isReal_of_abs_lt {x : EReal} (h : max x (-x) < ⊤) : IsReal x := by
  induction x with
  | bot => simp at h
  | top => simp at h
  | coe r => exact ⟨r, rfl⟩

/-- An array all of whose absolute values are below infinity, as a precondition prints it, holds real numbers. -/
theorem real_at {S T u : Shape} {φ : FTy} [Subsingleton T.Idx] {axes : List (Fin S.rank)} (x : FVec Ideal S φ) (y : FVec Ideal S φ)
    (hy : ∀ i, y i = ⊤) (init : u.Idx → BitVec 1) (h : S.ReducesTo axes T) (hu : 0 < u.numel) (j : T.Idx)
    (e : Host.reduce IntOp.andi (cmpf .olt (Host.absf x) y) init h hu j = 1#1) (i : S.Idx) : IsReal (x i) := by
  have h1 := Host.reduce_andi_all _ _ _ _ _ e i
  refine isReal_of_abs_lt ?_
  have h2 : Ideal.cmp .olt (max (x i) (-(x i))) (y i) = 1#1 := h1
  rw [hy i] at h2
  have hb : ∀ b : Bool, BitVec.ofBool b = 1#1 → b = true := by decide
  simpa using hb _ h2

theorem bf16_inf : Ideal.ofBits .bf16 0x7F80#16 = ⊤ := by simp [Ideal.ofBits, Ideal.ieee]

theorem f32_inf : Ideal.ofBits .f32 0x7F800000#32 = ⊤ := by simp [Ideal.ofBits, Ideal.ieee]

instance : Subsingleton (⟨0, ![]⟩ : Shape).Idx := ⟨fun a b => funext fun i => i.elim0⟩

end Cert.Finite

end
-- ==== Proof.Zero.lean ====
/- The starts of whole blocks are zero in each direction. -/
module

public import Idealize.ShloMosaic.Lib.Pointwise

@[expose] public section

namespace Cert

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

end Cert

end
-- ==== Proof.Hidden.lean ====
/- The backward of the gated product of the feed-forward: the gradients of the gate and of the up product, what the kernel's two arrays hold, and that they are the reference's. -/
module

public import proofs.«01_k».proof.Defs
public import proofs.«01_k».proof.Proof.Gen.HiddenIdeal.Value
public import proofs.«01_k».proof.Proof.Gen.HiddenRefIdeal.Read
public import proofs.«01_k».proof.Proof.Finite
public import proofs.«01_k».proof.Proof.Gen.Pre_finite_hidden
public import proofs.«01_k».proof.Proof.Zero

@[expose] public section

noncomputable section

namespace Cert.HiddenValue

open Cert.Finite Cert.HiddenIdeal Cert.HiddenIdeal.Gen Idealize.ShloMosaic Idealize.ShloMosaic.TcCoe Idealize.SL.Sem

/-- The gradient of the gated product at an index: a row of the output's gradient against a row of the weights, whose 5632 rows are stored as eight groups of 704. -/
def product (d : Vec Ideal S8192x2048 .bf16) (w : Vec Ideal S8x1x704x2048 .bf16) (i : S8192x5632.Idx) : EReal :=
  ∑ k : Fin 2048, d (ix2 (i 0) k) *
    w (ix4 ⟨(i 1).val / 704, by have : (i 1).val < 5632 := (i 1).isLt; omega⟩ (0 : Fin 1) ⟨(i 1).val % 704, by omega⟩ k)

/-- The sigmoid. -/
def sig1 (g : EReal) : EReal := Ideal.div 1 (1 + Ideal.exp (-g))

/-- The gate's gradient, from the gated product's. -/
def gateGrad (p g u : EReal) : EReal := p * u * sig1 g * (1 + g * (1 - sig1 g))

/-- The up product's gradient, from the gated product's. -/
def upGrad (p g : EReal) : EReal := p * g * sig1 g

/-- A block's product at an index. -/
def part (x : Vec Ideal S512x2048 .bf16) (w : Vec Ideal S2x1x704x2048 .bf16) (j : S512x1408.Idx) : EReal :=
  ∑ k : Fin 2048, x (ix2 (j 0) k) *
    w (ix4 ⟨(j 1).val / 704, by have : (j 1).val < 1408 := (j 1).isLt; omega⟩ (0 : Fin 1) ⟨(j 1).val % 704, by omega⟩ k)

/-- Half a block's product at an index. -/
def half (x : Vec Ideal S256x2048 .bf16) (w : Vec Ideal S2x1x704x2048 .bf16) (j : S256x1408.Idx) : EReal :=
  ∑ k : Fin 2048, x (ix2 (j 0) k) *
    w (ix4 ⟨(j 1).val / 704, by have : (j 1).val < 1408 := (j 1).isLt; omega⟩ (0 : Fin 1) ⟨(j 1).val % 704, by omega⟩ k)

theorem first_apply (w : Vec Ideal S2x1x704x2048 .bf16) (x : Vec Ideal S256x2048 .bf16) (j : S256x1408.Idx) :
    k0_pay6 (F := Ideal) w x j = half x w j := by
  pointwise [k0_pay6, k0_pay5, half]

theorem second_apply (w : Vec Ideal S2x1x704x2048 .bf16) (x : Vec Ideal S256x2048 .bf16) (j : S256x1408.Idx) :
    k0_pay11 (F := Ideal) w x j = half x w j := by
  pointwise [k0_pay11, k0_pay5, half]

theorem sig_apply (g : Vec Ideal S256x1408 .bf16) (j : S256x1408.Idx) : k0_pay8 (F := Ideal) g j = sig1 (g j) := by
  pointwise [k0_pay8, k0_pay7]
  rw [zero_sub]
  rfl

theorem gate1_apply (w : Vec Ideal S2x1x704x2048 .bf16) (x : Vec Ideal S256x2048 .bf16) (g u : Vec Ideal S256x1408 .bf16) (j : S256x1408.Idx) :
    k0_pay9 (F := Ideal) w x g u j = gateGrad (half x w j) (g j) (u j) := by
  pointwise [k0_pay9, k0_pay7]
  rw [first_apply, sig_apply]
  rfl

theorem up1_apply (w : Vec Ideal S2x1x704x2048 .bf16) (x : Vec Ideal S256x2048 .bf16) (g : Vec Ideal S256x1408 .bf16) (j : S256x1408.Idx) :
    k0_pay10 (F := Ideal) w x g j = upGrad (half x w j) (g j) := by
  pointwise [k0_pay10, k0_pay7]
  rw [first_apply, sig_apply]
  rfl

theorem gate2_apply (p : Vec Ideal S256x1408 .f32) (g u : Vec Ideal S256x1408 .bf16) (j : S256x1408.Idx) :
    k0_pay3 (F := Ideal) p g u j = gateGrad (p j) (g j) (u j) := by
  pointwise [k0_pay3, k0_pay2, k0_pay1]
  rw [zero_sub]
  rfl

theorem up2_apply (p : Vec Ideal S256x1408 .f32) (g : Vec Ideal S256x1408 .bf16) (j : S256x1408.Idx) :
    k0_pay4 (F := Ideal) p g j = upGrad (p j) (g j) := by
  pointwise [k0_pay4, k0_pay2, k0_pay1]
  rw [zero_sub]
  rfl

/-- The rows of a half block, read at an index. -/
theorem first_half (x : Vec Ideal S512x2048 .bf16) (w : Vec Ideal S2x1x704x2048 .bf16) (j : S256x1408.Idx) :
    half (View.ld x r0_1) (View.ld w r0_0) j = part x w (r0_2.emb j) := by
  rw [View.ld_unit_zero zero4]
  refine Finset.sum_congr rfl fun k _ => ?_
  refine congrArg₂ (fun a b => x a * w b) ?_ ?_
  · funext a; apply Fin.ext
    match a with
    | ⟨0, _⟩ => rfl
    | ⟨1, _⟩ => show 0 + 1 * k.val = k.val; omega
  · have e : (r0_2.emb j 1).val = (j 1).val := by show 0 + 1 * (j 1).val = _; omega
    funext a; apply Fin.ext
    match a with
    | ⟨0, _⟩ => show (j 1).val / 704 = (r0_2.emb j 1).val / 704; rw [e]
    | ⟨1, _⟩ => rfl
    | ⟨2, _⟩ => show (j 1).val % 704 = (r0_2.emb j 1).val % 704; rw [e]
    | ⟨3, _⟩ => rfl

theorem second_half (x : Vec Ideal S512x2048 .bf16) (w : Vec Ideal S2x1x704x2048 .bf16) (j : S256x1408.Idx) :
    half (View.ld x r0_3) (View.ld w r0_0) j = part x w (r0_4.emb j) := by
  rw [View.ld_unit_zero zero4]
  refine Finset.sum_congr rfl fun k _ => ?_
  refine congrArg₂ (fun a b => x a * w b) ?_ ?_
  · funext a; apply Fin.ext
    match a with
    | ⟨0, _⟩ => rfl
    | ⟨1, _⟩ => show 0 + 1 * k.val = k.val; omega
  · have e : (r0_4.emb j 1).val = (j 1).val := by show 0 + 1 * (j 1).val = _; omega
    funext a; apply Fin.ext
    match a with
    | ⟨0, _⟩ => show (j 1).val / 704 = (r0_4.emb j 1).val / 704; rw [e]
    | ⟨1, _⟩ => rfl
    | ⟨2, _⟩ => show (j 1).val % 704 = (r0_4.emb j 1).val % 704; rw [e]
    | ⟨3, _⟩ => rfl

theorem halves_cover (y : S512x1408.Idx) : y ∈ r0_4.set ∨ y ∈ r0_2.set := by
  have h0 : (y 0).val < 512 := (y 0).isLt
  have h1 : (y 1).val < 1408 := (y 1).isLt
  rw [Rect.mem_set_unit, Rect.mem_set_unit]
  by_cases h : (y 0).val < 256
  · right; intro a
    match a with
    | ⟨0, _⟩ => show 0 ≤ (y 0).val ∧ (y 0).val < 0 + 256; omega
    | ⟨1, _⟩ => show 0 ≤ (y 1).val ∧ (y 1).val < 0 + 1408; omega
  · left; intro a
    match a with
    | ⟨0, _⟩ => show 256 ≤ (y 0).val ∧ (y 0).val < 256 + 256; omega
    | ⟨1, _⟩ => show 0 ≤ (y 1).val ∧ (y 1).val < 0 + 1408; omega

theorem out4_eq (x : Vec Ideal S512x2048 .bf16) (w : Vec Ideal S2x1x704x2048 .bf16) (g u : Vec Ideal S512x1408 .bf16) :
    out0_4 x w g u = fun j => gateGrad (part x w j) (g j) (u j) := by
  funext y
  unfold out0_4 k0_pay12
  refine View.canon_apply_of_pieces (Val := Elt Ideal) (S := S512x1408) (e := .bf16) (fun j => gateGrad (part x w j) (g j) (u j)) _ ?_ y ?_
  · intro p hp j
    rcases List.mem_cons.mp hp with rfl | hp
    · refine (gate2_apply _ _ _ j).trans ?_
      rw [second_apply, second_half]
      rfl
    rcases List.mem_cons.mp hp with rfl | hp
    · refine (gate1_apply _ _ _ _ j).trans ?_
      rw [first_half]
      rfl
    nomatch hp
  · rcases halves_cover y with h | h
    · exact ⟨_, List.mem_cons_self, h⟩
    · exact ⟨_, List.mem_cons_of_mem _ List.mem_cons_self, h⟩

theorem out5_eq (x : Vec Ideal S512x2048 .bf16) (w : Vec Ideal S2x1x704x2048 .bf16) (g u : Vec Ideal S512x1408 .bf16) :
    out0_5 x w g u = fun j => upGrad (part x w j) (g j) := by
  funext y
  unfold out0_5 k0_pay12
  refine View.canon_apply_of_pieces (Val := Elt Ideal) (S := S512x1408) (e := .bf16) (fun j => upGrad (part x w j) (g j)) _ ?_ y ?_
  · intro p hp j
    rcases List.mem_cons.mp hp with rfl | hp
    · refine (up2_apply _ _ j).trans ?_
      rw [second_apply, second_half]
      rfl
    rcases List.mem_cons.mp hp with rfl | hp
    · refine (up1_apply _ _ _ j).trans ?_
      rw [first_half]
      rfl
    nomatch hp
  · rcases halves_cover y with h | h
    · exact ⟨_, List.mem_cons_self, h⟩
    · exact ⟨_, List.mem_cons_of_mem _ List.mem_cons_self, h⟩

theorem idx_facts4 : ∀ t : Fin cfg0.N, win0_0.index t (0 : Fin 2) = win0_4.index t (0 : Fin 2) ∧ win0_0.index t (1 : Fin 2) = 0
    ∧ win0_1.index t (0 : Fin 4) = win0_4.index t (1 : Fin 2) ∧ win0_1.index t (1 : Fin 4) = 0 ∧ win0_1.index t (2 : Fin 4) = 0
    ∧ win0_1.index t (3 : Fin 4) = 0
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2) :=
  (by decide +kernel : ∀ t : Fin grid0.N, _)

theorem onto4 : ∀ (p0 : Fin 16) (p1 : Fin 4), ∃ t : Fin cfg0.N, (cfg0.win 4).flush t = true ∧ win0_4.index t (0 : Fin 2) = p0.val ∧ win0_4.index t (1 : Fin 2) = p1.val :=
  fun p0 p1 => ⟨⟨p1.val * 16 + p0.val, by show _ < 64; omega⟩,
    (by decide +kernel : ∀ (p0 : Fin 16) (p1 : Fin 4), win0_4.flush (⟨p1.val * 16 + p0.val, by show _ < 64; omega⟩ : Fin grid0.N) = true
      ∧ win0_4.index (⟨p1.val * 16 + p0.val, by show _ < 64; omega⟩ : Fin grid0.N) (0 : Fin 2) = p0.val ∧ win0_4.index (⟨p1.val * 16 + p0.val, by show _ < 64; omega⟩ : Fin grid0.N) (1 : Fin 2) = p1.val) p0 p1⟩

theorem mem_blk4 (t : Fin cfg0.N) (i : S8192x5632.Idx) : i ∈ ((cfg0.win 4).blk t).view.set ↔
    ∀ a : Fin 2, win0_4.index t a * S512x1408.size a ≤ (i a).val ∧ (i a).val < win0_4.index t a * S512x1408.size a + S512x1408.size a := by
  show i ∈ ((View.whole main_v0_0).slice (win0_4.rect t)).set ↔ _
  rw [View.set_slice_whole, Rect.mem_set_unit]
  exact Iff.rfl

/-- Every index of the array lies in a block that is written back. -/
theorem covered4 (i : S8192x5632.Idx) : ∃ t : Fin cfg0.N, (cfg0.win 4).flush t = true ∧ i ∈ ((cfg0.win 4).blk t).view.set := by
  have h0 : (i 0).val < 8192 := (i 0).isLt
  have h1 : (i 1).val < 5632 := (i 1).isLt
  obtain ⟨t, ht, e0, e1⟩ := onto4 ⟨(i 0).val / 512, by omega⟩ ⟨(i 1).val / 1408, by omega⟩
  refine ⟨t, ht, ?_⟩
  rw [mem_blk4]
  intro a
  match a with
  | ⟨0, _⟩ => show win0_4.index t (0 : Fin 2) * 512 ≤ (i 0).val ∧ (i 0).val < win0_4.index t (0 : Fin 2) * 512 + 512; simp only at e0; omega
  | ⟨1, _⟩ => show win0_4.index t (1 : Fin 2) * 1408 ≤ (i 1).val ∧ (i 1).val < win0_4.index t (1 : Fin 2) * 1408 + 1408; simp only at e1; omega

/-- A block of an array at an index is the array at the index's place. -/
theorem read_blk4 (t : Fin cfg0.N) (G : S8192x5632.Idx → EReal) (y : ((cfg0.win 4).xblock (cfg0.grid.coords t)).Idx) :
    ((cfg0.win 4).blk t).view.read (Elt Ideal) G y = G (((cfg0.win 4).blk t).view.emb y) := rfl

/-- A block of an array at an index is the array at the index's place. -/
theorem read_blk5 (t : Fin cfg0.N) (G : S8192x5632.Idx → EReal) (y : ((cfg0.win 5).xblock (cfg0.grid.coords t)).Idx) :
    ((cfg0.win 5).blk t).view.read (Elt Ideal) G y = G (((cfg0.win 5).blk t).view.emb y) := rfl

variable (m : (ℓ : Loc nD τ sig) → Buf (Elt Ideal) ℓ)

theorem part4_eq (c : Dev nD) (t : Fin cfg0.N) (y : ((cfg0.win 4).xblock (cfg0.grid.coords t)).Idx) :
    part (iblk m c 0 t) (iblk m c 1 t) ((cfg0.win 4).xinj (grid0.coords t) y)
      = product (m (c.tc.loc main_arg0)) (m (c.tc.loc main_arg1)) (((cfg0.win 4).blk t).view.emb y) := by
  obtain ⟨f0, f1, f2, f3, f4, f5, -⟩ := idx_facts4 t
  have b0 : (((cfg0.win 4).blk t).view.emb y 0).val = win0_4.index t (0 : Fin 2) * 512 + 1 * (y 0).val := rfl
  have b1 : (((cfg0.win 4).blk t).view.emb y 1).val = win0_4.index t (1 : Fin 2) * 1408 + 1 * (y 1).val := rfl
  have hy : (y 1).val < 1408 := (y 1).isLt
  refine Finset.sum_congr rfl fun k _ => ?_
  congr 1
  · show m (c.tc.loc main_arg0) (((cfg0.win 0).blk t).view.emb _) = _
    congr 1
    funext a; apply Fin.ext
    match a with
    | ⟨0, _⟩ => show win0_0.index t (0 : Fin 2) * 512 + 1 * (y 0).val = _; rw [f0]; exact b0.symm
    | ⟨1, _⟩ => show win0_0.index t (1 : Fin 2) * 2048 + 1 * k.val = k.val; omega
  · show m (c.tc.loc main_arg1) (((cfg0.win 1).blk t).view.emb _) = _
    congr 1
    funext a; apply Fin.ext
    match a with
    | ⟨0, _⟩ => show win0_1.index t (0 : Fin 4) * 2 + 1 * ((y 1).val / 704) = (((cfg0.win 4).blk t).view.emb y 1).val / 704; rw [b1]; omega
    | ⟨1, _⟩ => show win0_1.index t (1 : Fin 4) * 1 + 1 * 0 = 0; omega
    | ⟨2, _⟩ => show win0_1.index t (2 : Fin 4) * 704 + 1 * ((y 1).val % 704) = (((cfg0.win 4).blk t).view.emb y 1).val % 704; rw [b1]; omega
    | ⟨3, _⟩ => show win0_1.index t (3 : Fin 4) * 2048 + 1 * k.val = k.val; omega

theorem in42_eq (c : Dev nD) (t : Fin cfg0.N) (y : ((cfg0.win 4).xblock (cfg0.grid.coords t)).Idx) :
    iblk m c 2 t ((cfg0.win 4).xinj (grid0.coords t) y) = (m (c.tc.loc main_arg2)) (((cfg0.win 4).blk t).view.emb y) := by
  obtain ⟨-, -, -, -, -, -, f6, f7, -⟩ := idx_facts4 t
  have b0 : (((cfg0.win 4).blk t).view.emb y 0).val = win0_4.index t (0 : Fin 2) * 512 + 1 * (y 0).val := rfl
  have b1 : (((cfg0.win 4).blk t).view.emb y 1).val = win0_4.index t (1 : Fin 2) * 1408 + 1 * (y 1).val := rfl
  show m (c.tc.loc main_arg2) (((cfg0.win 2).blk t).view.emb _) = _
  refine congrArg _ ?_
  funext a; apply Fin.ext
  match a with
  | ⟨0, _⟩ => show win0_2.index t (0 : Fin 2) * 512 + 1 * (y 0).val = _; rw [f6]; exact b0.symm
  | ⟨1, _⟩ => show win0_2.index t (1 : Fin 2) * 1408 + 1 * (y 1).val = _; rw [f7]; exact b1.symm

theorem in43_eq (c : Dev nD) (t : Fin cfg0.N) (y : ((cfg0.win 4).xblock (cfg0.grid.coords t)).Idx) :
    iblk m c 3 t ((cfg0.win 4).xinj (grid0.coords t) y) = (m (c.tc.loc main_arg3)) (((cfg0.win 4).blk t).view.emb y) := by
  obtain ⟨-, -, -, -, -, -, -, -, f8, f9⟩ := idx_facts4 t
  have b0 : (((cfg0.win 4).blk t).view.emb y 0).val = win0_4.index t (0 : Fin 2) * 512 + 1 * (y 0).val := rfl
  have b1 : (((cfg0.win 4).blk t).view.emb y 1).val = win0_4.index t (1 : Fin 2) * 1408 + 1 * (y 1).val := rfl
  show m (c.tc.loc main_arg3) (((cfg0.win 3).blk t).view.emb _) = _
  refine congrArg _ ?_
  funext a; apply Fin.ext
  match a with
  | ⟨0, _⟩ => show win0_3.index t (0 : Fin 2) * 512 + 1 * (y 0).val = _; rw [f8]; exact b0.symm
  | ⟨1, _⟩ => show win0_3.index t (1 : Fin 2) * 1408 + 1 * (y 1).val = _; rw [f9]; exact b1.symm

/-- The gate's gradient as an array. -/
def gateArray (d : Vec Ideal S8192x2048 .bf16) (w : Vec Ideal S8x1x704x2048 .bf16) (g u : Vec Ideal S8192x5632 .bf16) (i : S8192x5632.Idx) : EReal :=
  gateGrad (product d w i) (g i) (u i)

/-- The up product's gradient as an array. -/
def upArray (d : Vec Ideal S8192x2048 .bf16) (w : Vec Ideal S8x1x704x2048 .bf16) (g : Vec Ideal S8192x5632 .bf16) (i : S8192x5632.Idx) : EReal :=
  upGrad (product d w i) (g i)

theorem flushed4_eq (c : Dev nD) (t : Fin cfg0.N) : (dats m 0 c).flushed 4 t
    = ((cfg0.win 4).blk t).view.read (Elt Ideal) (gateArray (m (c.tc.loc main_arg0)) (m (c.tc.loc main_arg1)) (m (c.tc.loc main_arg2)) (m (c.tc.loc main_arg3))) := by
  rw [Value.flushed4, out4_eq]
  funext y
  refine Eq.trans ?_ (read_blk4 t _ y).symm
  have e1 := part4_eq m c t y
  have e2 := in42_eq m c t y
  have e3 := in43_eq m c t y
  exact (congr (congrArg₂ gateGrad e1 e2) e3)

theorem array4_eq (c : Dev nD) : (dats m 0 c).arrAt 4 cfg0.N = gateArray (m (c.tc.loc main_arg0)) (m (c.tc.loc main_arg1)) (m (c.tc.loc main_arg2)) (m (c.tc.loc main_arg3)) :=
  (dats m 0 c).arrAt_eq_of_cover 4 _ (fun t _ => flushed4_eq m c t) covered4

theorem flushed5_eq (c : Dev nD) (t : Fin cfg0.N) : (dats m 0 c).flushed 5 t
    = ((cfg0.win 5).blk t).view.read (Elt Ideal) (upArray (m (c.tc.loc main_arg0)) (m (c.tc.loc main_arg1)) (m (c.tc.loc main_arg2))) := by
  rw [Value.flushed5, out5_eq]
  funext y
  refine Eq.trans ?_ (read_blk5 t _ y).symm
  exact congrArg₂ upGrad (part4_eq m c t y) (in42_eq m c t y)

theorem array5_eq (c : Dev nD) : (dats m 0 c).arrAt 5 cfg0.N = upArray (m (c.tc.loc main_arg0)) (m (c.tc.loc main_arg1)) (m (c.tc.loc main_arg2)) :=
  (dats m 0 c).arrAt_eq_of_cover 5 _ (fun t _ => flushed5_eq m c t) covered4

theorem ref_product (d : Vec Ideal S8192x2048 .bf16) (w : Vec Ideal S8x1x704x2048 .bf16) (i : S8192x5632.Idx) :
    HiddenRefIdeal.Read.val_main_v8 (F := Ideal) d w i = product d w i := by
  pointwise [HiddenRefIdeal.Read.val_main_v8, HiddenRefIdeal.Read.val_main_v7, HiddenRefIdeal.Read.val_main_v1, HiddenRefIdeal.Read.val_main_v0, product]

theorem ref_sig (g : Vec Ideal S8192x5632 .bf16) (i : S8192x5632.Idx) : HiddenRefIdeal.Read.val_main_v4_2 (F := Ideal) g i = sig1 (g i) := by
  pointwise [HiddenRefIdeal.Read.val_main_v4_2, HiddenRefIdeal.Read.val_main_call0_v4, HiddenRefIdeal.Read.val_main_call0_cst_0, HiddenRefIdeal.Read.val_main_call0_v3, HiddenRefIdeal.Read.val_main_call0_v2, HiddenRefIdeal.Read.val_main_call0_v1, HiddenRefIdeal.Read.val_main_call0_v0, HiddenRefIdeal.Read.val_main_call0_cst, HiddenRefIdeal.Read.val_main_v2]
  rfl

theorem reference_up (d : Vec Ideal S8192x2048 .bf16) (w : Vec Ideal S8x1x704x2048 .bf16) (g : Vec Ideal S8192x5632 .bf16) :
    HiddenRefIdeal.Read.val_main_v13 (F := Ideal) d w g = upArray d w g := by
  funext i
  pointwise [HiddenRefIdeal.Read.val_main_v13, HiddenRefIdeal.Read.val_main_v9, HiddenRefIdeal.Read.val_main_v4_0, HiddenRefIdeal.Read.val_main_v2]
  rw [ref_product, ref_sig]
  unfold upArray upGrad
  rw [mul_comm, mul_assoc]

theorem isReal_sig {g : EReal} (h : IsReal g) : IsReal (sig1 g) := by
  obtain ⟨r, rfl⟩ := h
  have hp : (1 : ℝ) + Real.exp (-r) ≠ 0 := by positivity
  refine ⟨1 * (1 / (1 + Real.exp (-r))), ?_⟩
  have e : (1 : EReal) + Ideal.exp (-(r : EReal)) = ((1 + Real.exp (-r) : ℝ) : EReal) := by
    rw [← EReal.coe_neg, Ideal.exp_coe]; norm_cast
  unfold sig1
  rw [e, Ideal.div_coe hp]
  norm_cast

/-- Over the reals the derivative the kernel writes is the one of the rule for products. -/
theorem gate_rule {p g u s : EReal} (hp : IsReal p) (hg : IsReal g) (hu : IsReal u) (hs : IsReal s) :
    p * u * s + g * (p * u) * (s * (1 - s)) = p * u * s * (1 + g * (1 - s)) := by
  obtain ⟨p, rfl⟩ := hp; obtain ⟨g, rfl⟩ := hg; obtain ⟨u, rfl⟩ := hu; obtain ⟨s, rfl⟩ := hs
  norm_cast
  ring

theorem isReal_product {d : Vec Ideal S8192x2048 .bf16} {w : Vec Ideal S8x1x704x2048 .bf16} (hd : ∀ i, IsReal (d i)) (hw : ∀ i, IsReal (w i))
    (i : S8192x5632.Idx) : IsReal (product d w i) := isReal_sum _ _ fun _ _ => (hd _).mul (hw _)

theorem reference_gate {d : Vec Ideal S8192x2048 .bf16} {w : Vec Ideal S8x1x704x2048 .bf16} {g u : Vec Ideal S8192x5632 .bf16}
    (hd : ∀ i, IsReal (d i)) (hw : ∀ i, IsReal (w i)) (hg : ∀ i, IsReal (g i)) (hu : ∀ i, IsReal (u i)) :
    HiddenRefIdeal.Read.val_main_v12 (F := Ideal) d w g u = gateArray d w g u := by
  funext i
  pointwise [HiddenRefIdeal.Read.val_main_v12, HiddenRefIdeal.Read.val_main_v11, HiddenRefIdeal.Read.val_main_call1_v2, HiddenRefIdeal.Read.val_main_call1_v1, HiddenRefIdeal.Read.val_main_call1_v0, HiddenRefIdeal.Read.val_main_v10, HiddenRefIdeal.Read.val_main_v4_1, HiddenRefIdeal.Read.val_main_call0_v7, HiddenRefIdeal.Read.val_main_call0_v6, HiddenRefIdeal.Read.val_main_call0_cst_1, HiddenRefIdeal.Read.val_main_v3, HiddenRefIdeal.Read.val_main_v2]
  rw [ref_product, ref_sig]
  have h := gate_rule (isReal_product hd hw i) (hg i) (hu i) (isReal_sig (hg i))
  unfold gateArray gateGrad
  rw [← h]

/-- What the precondition says of the arguments. -/
theorem finite_of_pre [Cert.Pre_finite_hidden.Facts] (d : Vec Ideal S8192x2048 .bf16) (w : Vec Ideal S8x1x704x2048 .bf16) (g u : Vec Ideal S8192x5632 .bf16)
    (h : Cert.Pre_finite_hidden.fn (F := Ideal) d w g u = fun _ => 1#1) :
    (∀ i, IsReal (d i)) ∧ (∀ i, IsReal (w i)) ∧ (∀ i, IsReal (g i)) ∧ (∀ i, IsReal (u i)) := by
  have h0 := congrFun h (fun a => a.elim0)
  unfold Cert.Pre_finite_hidden.fn Cert.Pre_finite_hidden.fn_part1 at h0
  obtain ⟨h1, hu⟩ := IntOp.andi_eq_one.1 h0
  obtain ⟨h2, hg⟩ := IntOp.andi_eq_one.1 h1
  obtain ⟨hd, hw⟩ := IntOp.andi_eq_one.1 h2
  exact ⟨real_at _ _ (fun _ => bf16_inf) _ _ _ _ hd, real_at _ _ (fun _ => bf16_inf) _ _ _ _ hw,
    real_at _ _ (fun _ => bf16_inf) _ _ _ _ hg, real_at _ _ (fun _ => bf16_inf) _ _ _ _ hu⟩

/-- The kernel and the reference hold the same two arrays. -/
theorem algebraic : Cert.algebraic_HiddenIdeal_HiddenRefIdeal_pre_finite_hidden := by
  intro m g m' g' hpre hagree
  refine ⟨fun c => gateArray (m (c.tc.loc main_arg0)) (m (c.tc.loc main_arg1)) (m (c.tc.loc main_arg2)) (m (c.tc.loc main_arg3)), fun c => upArray (m (c.tc.loc main_arg0)) (m (c.tc.loc main_arg1)) (m (c.tc.loc main_arg2)),
    (θ_run _ _ _).mono (fun r h c => ⟨(h c).1.trans (array4_eq m c), (h c).2.1.trans (array5_eq m c), (h c).2.2⟩) (Value.run_blocks m g),
    (θ_run _ _ _).mono (fun r h c => ⟨((h c).1.trans (HiddenRefIdeal.Read.val_main_v12_eq ..)).trans ?_, ((h c).2.1.trans (HiddenRefIdeal.Read.val_main_v13_eq ..)).trans ?_,
      (h c).2.2⟩) (HiddenRefIdeal.Value.run m' g')⟩
  · rw [(hagree c).1, (hagree c).2.1, (hagree c).2.2.1, (hagree c).2.2.2]
    obtain ⟨hd, hw, hg, hu⟩ := finite_of_pre _ _ _ _ (hpre c)
    exact reference_gate hd hw hg hu
  · rw [(hagree c).1, (hagree c).2.1, (hagree c).2.2.1]
    exact reference_up _ _ _

end Cert.HiddenValue

end
-- ==== Proof.Rows.lean ====
/- The weight gradient of a feed-forward product, summed over four blocks of rows: what the kernel's array holds, and that it is the reference's gradient. -/
module

public import proofs.«01_k».proof.Defs
public import proofs.«01_k».proof.Proof.Gen.RowsIdeal.Value
public import proofs.«01_k».proof.Proof.Gen.RowsRefIdeal.Read
public import proofs.«01_k».proof.Proof.Zero

@[expose] public section

noncomputable section

namespace Cert.RowsValue

open Cert.RowsIdeal Cert.RowsIdeal.Gen Idealize.ShloMosaic Idealize.ShloMosaic.TcCoe Idealize.SL.Sem

/-- The gradient at an index: a column of the activations against a column of the gradient. -/
def gradient (a : Vec Ideal S8192x5632 .bf16) (d : Vec Ideal S8192x2048 .bf16) (i : S8x704x2048.Idx) : EReal :=
  ∑ k : Fin 8192, a (ix2 k ⟨(i 0).val * 704 + (i 1).val, by
      have : (i 0).val < 8 := (i 0).isLt; have : (i 1).val < 704 := (i 1).isLt; show _ < 5632; omega⟩) * d (ix2 k (i 2))

/-- The same over the rows of one block of 2048. -/
def part (a : Vec Ideal S8192x5632 .bf16) (d : Vec Ideal S8192x2048 .bf16) (s r q : ℕ) : EReal :=
  ∑ k : Fin 2048, a (ix2 ⟨(s * 2048 + k.val) % 8192, Nat.mod_lt _ (by decide)⟩ ⟨r % 5632, Nat.mod_lt _ (by decide)⟩)
    * d (ix2 ⟨(s * 2048 + k.val) % 8192, Nat.mod_lt _ (by decide)⟩ ⟨q % 2048, Nat.mod_lt _ (by decide)⟩)

/-- The four blocks' sums make the whole one. -/
theorem parts_sum (a : Vec Ideal S8192x5632 .bf16) (d : Vec Ideal S8192x2048 .bf16) (i : S8x704x2048.Idx) :
    ∑ s ∈ Finset.range 4, part a d s ((i 0).val * 704 + (i 1).val) (i 2).val = gradient a d i := by
  have h0 : (i 0).val < 8 := (i 0).isLt
  have h1 : (i 1).val < 704 := (i 1).isLt
  have h2 : (i 2).val < 2048 := (i 2).isLt
  unfold gradient
  rw [Fin.sum_univ_tiles 4 2048 (by decide), ← Fin.sum_univ_eq_sum_range (fun s => part a d s ((i 0).val * 704 + (i 1).val) (i 2).val) 4]
  refine Finset.sum_congr rfl fun s _ => Finset.sum_congr rfl fun k _ => ?_
  have e : (s.val * 2048 + k.val) % 8192 = s.val * 2048 + k.val := by omega
  have e1 : ((i 0).val * 704 + (i 1).val) % 5632 = (i 0).val * 704 + (i 1).val := by omega
  have e2 : (i 2).val % 2048 = (i 2).val := by omega
  simp only [e, e1, e2]
  rfl

theorem block_apply (x : Vec Ideal S2048x1408 .bf16) (d : Vec Ideal S2048x1024 .bf16) (j : S1408x1024.Idx) :
    k0_pay1 (F := Ideal) x d j = ∑ k : Fin 2048, x (ix2 k (j 0)) * d (ix2 k (j 1)) := by
  pointwise [k0_pay1]

/-- The first block of a run leaves its product. -/
theorem scratch_A (c : Dev nD) (i : grid0.Coords) (a3 : Memref sig .tc .vmem S2048x1408 .bf16) (h3 : a3.IsWhole) (a4 : Memref sig .tc .vmem S2048x1024 .bf16) (h4 : a4.IsWhole) (a5 : Memref sig .tc .vmem S2x704x1024 .bf16) (h5 : a5.IsWhole) (a6 : Memref sig .tc .vmem S1408x1024 .f32) (h6 : a6.IsWhole) (hc0 : cond0_0 i) (hc1 : ¬cond0_1 i) (hc2 : ¬cond0_2 i)
    (x : Vec Ideal S2048x1408 .bf16) (d : Vec Ideal S2048x1024 .bf16) :
    sout0_A_0 c i a3 h3 a4 h4 a5 h5 a6 h6 hc0 hc1 hc2 x d = k0_pay1 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2048x1408) zero2, View.ld_unit_zero (S := S2048x1024) zero2, shapeCast_self]

/-- A block in the middle of a run adds its product. -/
theorem scratch_B (c : Dev nD) (i : grid0.Coords) (a3 : Memref sig .tc .vmem S2048x1408 .bf16) (h3 : a3.IsWhole) (a4 : Memref sig .tc .vmem S2048x1024 .bf16) (h4 : a4.IsWhole) (a5 : Memref sig .tc .vmem S2x704x1024 .bf16) (h5 : a5.IsWhole) (a6 : Memref sig .tc .vmem S1408x1024 .f32) (h6 : a6.IsWhole) (hc0 : ¬cond0_0 i) (hc1 : cond0_1 i) (hc2 : ¬cond0_2 i)
    (x : Vec Ideal S2048x1408 .bf16) (d : Vec Ideal S2048x1024 .bf16) (s : Vec Ideal S1408x1024 .f32) :
    sout0_B_0 c i a3 h3 a4 h4 a5 h5 a6 h6 hc0 hc1 hc2 x d s = addf s (k0_pay1 x d) := by
  unfold sout0_B_0
  rw [View.read_writes_eq_canon _ _ _ (scover0_B_0 c i a3 h3 a4 h4 a5 h5 a6 h6 hc0 hc1 hc2 x d s)]
  unfold kernelRun0_B
  dsimp only
  sl_unfold_words
  rw [View.canon_unit_zero zero2]
  unfold k0_pay3
  simp only [View.readAt_eq_ld, h3.read_unread, h4.read_unread, h6.read_unread, View.ld_unit_zero (S := S2048x1408) zero2, View.ld_unit_zero (S := S2048x1024) zero2, View.ld_unit_zero (S := S1408x1024) zero2, shapeCast_self]

/-- The last block of a run adds its product too. -/
theorem scratch_C (c : Dev nD) (i : grid0.Coords) (a3 : Memref sig .tc .vmem S2048x1408 .bf16) (h3 : a3.IsWhole) (a4 : Memref sig .tc .vmem S2048x1024 .bf16) (h4 : a4.IsWhole) (a5 : Memref sig .tc .vmem S2x704x1024 .bf16) (h5 : a5.IsWhole) (a6 : Memref sig .tc .vmem S1408x1024 .f32) (h6 : a6.IsWhole) (hc0 : ¬cond0_0 i) (hc1 : cond0_1 i) (hc2 : cond0_2 i)
    (x : Vec Ideal S2048x1408 .bf16) (d : Vec Ideal S2048x1024 .bf16) (s : Vec Ideal S1408x1024 .f32) :
    sout0_C_0 c i a3 h3 a4 h4 a5 h5 a6 h6 hc0 hc1 hc2 x d s = addf s (k0_pay1 x d) := by
  unfold sout0_C_0
  rw [View.read_writes_eq_canon _ _ _ (scover0_C_0 c i a3 h3 a4 h4 a5 h5 a6 h6 hc0 hc1 hc2 x d s)]
  unfold kernelRun0_C
  dsimp only
  sl_unfold_words
  rw [View.canon_unit_zero zero2]
  unfold k0_pay3
  simp only [View.readAt_eq_ld, h3.read_unread, h4.read_unread, h6.read_unread, View.ld_unit_zero (S := S2048x1408) zero2, View.ld_unit_zero (S := S2048x1024) zero2, View.ld_unit_zero (S := S1408x1024) zero2, shapeCast_self]

/-- The last block of a run writes the sum out. -/
theorem out_C (c : Dev nD) (i : grid0.Coords) (a3 : Memref sig .tc .vmem S2048x1408 .bf16) (h3 : a3.IsWhole) (a4 : Memref sig .tc .vmem S2048x1024 .bf16) (h4 : a4.IsWhole) (a5 : Memref sig .tc .vmem S2x704x1024 .bf16) (h5 : a5.IsWhole) (a6 : Memref sig .tc .vmem S1408x1024 .f32) (h6 : a6.IsWhole) (hc0 : ¬cond0_0 i) (hc1 : cond0_1 i) (hc2 : cond0_2 i)
    (x : Vec Ideal S2048x1408 .bf16) (d : Vec Ideal S2048x1024 .bf16) (s : Vec Ideal S1408x1024 .f32) :
    out0_C_2 c i a3 h3 a4 h4 a5 h5 a6 h6 hc0 hc1 hc2 x d s = k0_pay4 (addf s (k0_pay1 x d)) := by
  unfold out0_C_2
  rw [View.read_writes_eq_canon _ _ _ (cover0_C_2 c i a3 h3 a4 h4 a5 h5 a6 h6 hc0 hc1 hc2 x d s)]
  unfold kernelRun0_C
  dsimp only
  sl_unfold_words
  rw [View.canon_unit_zero zero3, View.readCov_unit_zero (S := S1408x1024) _ zero2]
  unfold k0_pay3
  simp only [View.readAt_eq_ld, h3.read_unread, h4.read_unread, h6.read_unread, View.ld_unit_zero (S := S2048x1408) zero2, View.ld_unit_zero (S := S2048x1024) zero2, View.ld_unit_zero (S := S1408x1024) zero2, shapeCast_self]

theorem idx_facts : ∀ t : Fin cfg0.N, win0_0.index t (0 : Fin 2) = t.val % 4 ∧ win0_0.index t (1 : Fin 2) = t.val / 8
    ∧ win0_1.index t (0 : Fin 2) = t.val % 4 ∧ win0_1.index t (1 : Fin 2) = t.val / 4 % 2
    ∧ win0_2.index t (0 : Fin 3) = t.val / 8 ∧ win0_2.index t (1 : Fin 3) = 0 ∧ win0_2.index t (2 : Fin 3) = t.val / 4 % 2 :=
  (by decide +kernel : ∀ t : Fin grid0.N, _)

theorem onto2 : ∀ (p0 : Fin 4) (p1 : Fin 1) (p2 : Fin 2), ∃ t : Fin cfg0.N, (cfg0.win 2).flush t = true ∧ win0_2.index t (0 : Fin 3) = p0.val ∧ win0_2.index t (1 : Fin 3) = p1.val ∧ win0_2.index t (2 : Fin 3) = p2.val :=
  fun p0 p1 p2 => ⟨⟨4 * (2 * p0.val + 2 * p1.val + 1 * p2.val) + 3, by show _ < 32; omega⟩,
    (by decide +kernel : ∀ (p0 : Fin 4) (p1 : Fin 1) (p2 : Fin 2), win0_2.flush (⟨4 * (2 * p0.val + 2 * p1.val + 1 * p2.val) + 3, by show _ < 32; omega⟩ : Fin grid0.N) = true
      ∧ win0_2.index (⟨4 * (2 * p0.val + 2 * p1.val + 1 * p2.val) + 3, by show _ < 32; omega⟩ : Fin grid0.N) (0 : Fin 3) = p0.val ∧ win0_2.index (⟨4 * (2 * p0.val + 2 * p1.val + 1 * p2.val) + 3, by show _ < 32; omega⟩ : Fin grid0.N) (1 : Fin 3) = p1.val ∧ win0_2.index (⟨4 * (2 * p0.val + 2 * p1.val + 1 * p2.val) + 3, by show _ < 32; omega⟩ : Fin grid0.N) (2 : Fin 3) = p2.val) p0 p1 p2⟩

theorem mem_blk2 (t : Fin cfg0.N) (i : S8x704x2048.Idx) : i ∈ ((cfg0.win 2).blk t).view.set ↔
    ∀ a : Fin 3, win0_2.index t a * S2x704x1024.size a ≤ (i a).val ∧ (i a).val < win0_2.index t a * S2x704x1024.size a + S2x704x1024.size a := by
  show i ∈ ((View.whole main_v0).slice (win0_2.rect t)).set ↔ _
  rw [View.set_slice_whole, Rect.mem_set_unit]
  exact Iff.rfl

/-- Every index of the array lies in a block that is written back. -/
theorem covered2 (i : S8x704x2048.Idx) : ∃ t : Fin cfg0.N, (cfg0.win 2).flush t = true ∧ i ∈ ((cfg0.win 2).blk t).view.set := by
  have h0 : (i 0).val < 8 := (i 0).isLt
  have h1 : (i 1).val < 704 := (i 1).isLt
  have h2 : (i 2).val < 2048 := (i 2).isLt
  obtain ⟨t, ht, e0, e1, e2⟩ := onto2 ⟨(i 0).val / 2, by omega⟩ ⟨(i 1).val / 704, by omega⟩ ⟨(i 2).val / 1024, by omega⟩
  refine ⟨t, ht, ?_⟩
  rw [mem_blk2]
  intro a
  match a with
  | ⟨0, _⟩ => show win0_2.index t (0 : Fin 3) * 2 ≤ (i 0).val ∧ (i 0).val < win0_2.index t (0 : Fin 3) * 2 + 2; simp only at e0; omega
  | ⟨1, _⟩ => show win0_2.index t (1 : Fin 3) * 704 ≤ (i 1).val ∧ (i 1).val < win0_2.index t (1 : Fin 3) * 704 + 704; simp only at e1; omega
  | ⟨2, _⟩ => show win0_2.index t (2 : Fin 3) * 1024 ≤ (i 2).val ∧ (i 2).val < win0_2.index t (2 : Fin 3) * 1024 + 1024; simp only at e2; omega

/-- A block of an array at an index is the array at the index's place. -/
theorem read_blk2 (t : Fin cfg0.N) (G : S8x704x2048.Idx → EReal) (y : ((cfg0.win 2).xblock (cfg0.grid.coords t)).Idx) :
    ((cfg0.win 2).blk t).view.read (Elt Ideal) G y = G (((cfg0.win 2).blk t).view.emb y) := rfl

variable (m : (ℓ : Loc nD τ sig) → Buf (Elt Ideal) ℓ)

/-- A point's product is its block's part of the gradient. -/
theorem point_part (c : Dev nD) (t : Fin cfg0.N) (y : S1408x1024.Idx) : k0_pay1 (F := Ideal) (iblk m c 0 t) (iblk m c 1 t) y
    = part (m (c.tc.loc main_arg0)) (m (c.tc.loc main_arg1)) (t.val % 4) (t.val / 8 * 1408 + (y 0).val) (t.val / 4 % 2 * 1024 + (y 1).val) := by
  have F := idx_facts t
  have hN : t.val < 32 := t.isLt
  have h0 : (y 0).val < 1408 := (y 0).isLt
  have h1 : (y 1).val < 1024 := (y 1).isLt
  rw [block_apply]
  refine Finset.sum_congr rfl fun k _ => ?_
  congr 1
  · show m (c.tc.loc main_arg0) (((cfg0.win 0).blk t).view.emb _) = _
    congr 1
    funext a; apply Fin.ext
    match a with
    | ⟨0, _⟩ => show win0_0.index t (0 : Fin 2) * 2048 + 1 * k.val = (t.val % 4 * 2048 + k.val) % 8192; omega
    | ⟨1, _⟩ => show win0_0.index t (1 : Fin 2) * 1408 + 1 * (y 0).val = (t.val / 8 * 1408 + (y 0).val) % 5632; omega
  · show m (c.tc.loc main_arg1) (((cfg0.win 1).blk t).view.emb _) = _
    congr 1
    funext a; apply Fin.ext
    match a with
    | ⟨0, _⟩ => show win0_1.index t (0 : Fin 2) * 2048 + 1 * k.val = (t.val % 4 * 2048 + k.val) % 8192; omega
    | ⟨1, _⟩ => show win0_1.index t (1 : Fin 2) * 1024 + 1 * (y 1).val = (t.val / 4 % 2 * 1024 + (y 1).val) % 2048; omega

/-- After a point the scratch holds the sum of its run's parts so far. -/
theorem scratch_eq (c : Dev nD) : ∀ (n : ℕ) (h : n < cfg0.N) (y : S1408x1024.Idx), (outsAt0 m c n h).2 y
    = ∑ s ∈ Finset.range (n % 4 + 1), part (m (c.tc.loc main_arg0)) (m (c.tc.loc main_arg1)) s (n / 8 * 1408 + (y 0).val) (n / 4 % 2 * 1024 + (y 1).val) := by
  intro n
  induction n with
  | zero =>
    intro h y
    rw [outsAt0_A m c ⟨0, h⟩ rfl (by dsimp only; omega) (by dsimp only; omega)]
    dsimp only
    rw [scratch_A, point_part]
    simp only [Nat.zero_mod, Nat.zero_div, zero_add, Finset.sum_range_one]
  | succ n ih =>
    intro h y
    have hN : n + 1 < 32 := h
    by_cases h0 : (n + 1) % 4 = 0
    · rw [outsAt0_A m c ⟨n + 1, h⟩ h0 (by dsimp only; omega) (by dsimp only; omega)]
      dsimp only
      rw [scratch_A, point_part]
      dsimp only
      rw [h0, zero_add, Finset.sum_range_one]
    · have e4 : (n + 1) % 4 = n % 4 + 1 := by omega
      have e8 : (n + 1) / 8 = n / 8 := by omega
      have e2 : (n + 1) / 4 = n / 4 := by omega
      rw [e4, Finset.sum_range_succ, e8, e2, ← ih (by omega) y]
      by_cases h2 : (n + 1) % 4 = 3
      · rw [outsAt0_C m c ⟨n + 1, h⟩ h0 (by dsimp only; omega) h2]
        dsimp only
        rw [scratch_C]
        refine congrArg₂ (· + ·) rfl ?_
        rw [point_part]
        dsimp only
        rw [e4, e8, e2]
      · rw [outsAt0_B m c ⟨n + 1, h⟩ h0 (by dsimp only; omega) h2]
        dsimp only
        rw [scratch_B]
        refine congrArg₂ (· + ·) rfl ?_
        rw [point_part]
        dsimp only
        rw [e4, e8, e2]

theorem store_apply (s : Vec Ideal S1408x1024 .f32) (j : S2x704x1024.Idx) :
    k0_pay4 (F := Ideal) s j = s (ix2 ⟨(j 0).val * 704 + (j 1).val, by
      have : (j 0).val < 2 := (j 0).isLt; have : (j 1).val < 704 := (j 1).isLt; show _ < 1408; omega⟩ (j 2)) := by
  pointwise [k0_pay4]

/-- What a run's last point writes. -/
theorem after_eq (c : Dev nD) (t : Fin cfg0.N) (h3 : t.val % 4 = 3) (j : S2x704x1024.Idx) : (outsAt0 m c t.val t.isLt).1 j
    = ∑ s ∈ Finset.range 4, part (m (c.tc.loc main_arg0)) (m (c.tc.loc main_arg1)) s (t.val / 8 * 1408 + ((j 0).val * 704 + (j 1).val)) (t.val / 4 % 2 * 1024 + (j 2).val) := by
  have hs := scratch_eq m c t.val t.isLt
  rw [outsAt0_C m c t (by omega) (by omega) h3] at hs ⊢
  dsimp only at hs ⊢
  rw [scratch_C] at hs
  rw [out_C, store_apply, hs, h3]
  rfl

theorem flushed_eq (c : Dev nD) (t : Fin cfg0.N) (hf : (cfg0.win 2).flush t = true) : (dats m 0 c).flushed 2 t
    = ((cfg0.win 2).blk t).view.read (Elt Ideal) (gradient (m (c.tc.loc main_arg0)) (m (c.tc.loc main_arg1))) := by
  show (cfg0.win 2).cut (grid0.coords t) ((dats m 0 c).after 2 t) = _
  have h3 : t.val % 4 = 3 := (flush0_2 t).mp hf
  have hN : t.val < 32 := t.isLt
  obtain ⟨-, -, -, -, e0, e1, e2⟩ := idx_facts t
  rw [after0_2]
  funext y
  refine Eq.trans (b := (outsAt0 m c t.val t.isLt).1 ((cfg0.win 2).xinj (grid0.coords t) y)) rfl ?_
  refine Eq.trans ?_ (read_blk2 t _ y).symm
  rw [after_eq m c t h3]
  have b0 : (((cfg0.win 2).blk t).view.emb y 0).val = win0_2.index t (0 : Fin 3) * 2 + 1 * (y 0).val := rfl
  have b1 : (((cfg0.win 2).blk t).view.emb y 1).val = win0_2.index t (1 : Fin 3) * 704 + 1 * (y 1).val := rfl
  have b2 : (((cfg0.win 2).blk t).view.emb y 2).val = win0_2.index t (2 : Fin 3) * 1024 + 1 * (y 2).val := rfl
  have hy0 : (y 0).val < 2 := (y 0).isLt
  have hy1 : (y 1).val < 704 := (y 1).isLt
  rw [← parts_sum]
  refine Finset.sum_congr rfl fun s _ => ?_
  refine congrArg₂ (part _ _ s) ?_ ?_
  · rw [b0, b1]
    show t.val / 8 * 1408 + ((y 0).val * 704 + (y 1).val) = _
    rw [e0, e1]; omega
  · rw [b2, e2]
    show t.val / 4 % 2 * 1024 + (y 2).val = _
    omega

theorem array_eq (c : Dev nD) : (dats m 0 c).arrAt 2 cfg0.N = gradient (m (c.tc.loc main_arg0)) (m (c.tc.loc main_arg1)) :=
  (dats m 0 c).arrAt_eq_of_cover 2 _ (fun t hf => flushed_eq m c t hf) covered2

theorem reference_eq (a : Vec Ideal S8192x5632 .bf16) (d : Vec Ideal S8192x2048 .bf16) :
    RowsRefIdeal.Read.val_main_v7 (F := Ideal) a d = gradient a d := by
  funext i
  pointwise [RowsRefIdeal.Read.val_main_v7, RowsRefIdeal.Read.val_main_v6, RowsRefIdeal.Read.val_main_v5, RowsRefIdeal.Read.val_main_v4, RowsRefIdeal.Read.val_main_v3, RowsRefIdeal.Read.val_main_v1]
  exact Finset.sum_congr rfl fun k _ => mul_comm _ _

/-- The kernel and the reference hold the same gradient. -/
theorem algebraic : Cert.algebraic_RowsIdeal_RowsRefIdeal := by
  intro m g m' g' _ hagree
  refine ⟨fun c => gradient (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (RowsRefIdeal.Read.val_main_v7_eq ..)).trans ?_, (h c).2⟩) (RowsRefIdeal.Value.run m' g')⟩
  rw [reference_eq, (hagree c).1, (hagree c).2]

end Cert.RowsValue

end
-- ==== Proof.Mm.lean ====
/- The product `ffn_down` of one row block: what the kernel's array holds, and that it is the reference's product. -/
module

public import proofs.«01_k».proof.Defs
public import proofs.«01_k».proof.Proof.Gen.MmIdeal.Value
public import proofs.«01_k».proof.Proof.Gen.MmRefIdeal.Read
public import proofs.«01_k».proof.Proof.Zero

@[expose] public section

noncomputable section

namespace Cert.MmValue

open Cert.MmIdeal Cert.MmIdeal.Gen Idealize.ShloMosaic Idealize.ShloMosaic.TcCoe Idealize.SL.Sem

/-- The whole product at an index: a row of the activations against a column of the weights, whose 5632 rows are stored
    as eight groups of 704. -/
def product (a : Vec Ideal S8192x5632 .bf16) (w : Vec Ideal S8x1x704x2048 .bf16) (i : S8192x2048.Idx) : EReal :=
  ∑ k : Fin 5632, a (ix2 (i 0) k) * w (ix4 ⟨k.val / 704, by omega⟩ (0 : Fin 1) ⟨k.val % 704, by omega⟩ (i 1))

/-- What the body leaves in the output's buffer. -/
theorem out_apply (x : Vec Ideal S512x5632 .bf16) (w : Vec Ideal S8x1x704x1024 .bf16) (r : Fin 512) (l : Fin 1024) :
    out0_2 x w (ix2 r l) = ∑ k : Fin 5632, x (ix2 r k) * w (ix4 ⟨k.val / 704, by omega⟩ (0 : Fin 1) ⟨k.val % 704, by omega⟩ l) := by
  unfold out0_2
  rw [View.canon_unit_zero zero2, View.ld_unit_zero zero2, View.ld_unit_zero zero4]
  pointwise [k0_pay1]

theorem at_point : ∀ t : Fin cfg0.N, (win0_0.index t (0 : Fin 2) = t.val / 2 ∧ win0_0.index t (1 : Fin 2) = 0)
    ∧ (win0_1.index t (0 : Fin 4) = 0 ∧ win0_1.index t (1 : Fin 4) = 0 ∧ win0_1.index t (2 : Fin 4) = 0 ∧ win0_1.index t (3 : Fin 4) = t.val % 2)
    ∧ win0_2.index t (0 : Fin 2) = t.val / 2 ∧ win0_2.index t (1 : Fin 2) = t.val % 2 ∧ win0_2.flush t = true :=
  (by decide +kernel : ∀ t : Fin grid0.N, _)

/-- Row `k` and column `l` of the block of point `t`. -/
def row (t : Fin 32) (k : Fin 512) : Fin 8192 := ⟨t.val / 2 * 512 + k.val, by omega⟩
def col (t : Fin 32) (l : Fin 1024) : Fin 2048 := ⟨t.val % 2 * 1024 + l.val, by omega⟩

theorem places (i : S8192x2048.Idx) : ∃ (t : Fin cfg0.N) (k : Fin 512) (l : Fin 1024), i = ix2 (row t k) (col t l) := by
  have h0 : (i 0).val < 8192 := (i 0).isLt
  have h1 : (i 1).val < 2048 := (i 1).isLt
  refine ⟨⟨(i 0).val / 512 * 2 + (i 1).val / 1024, by show _ < 32; omega⟩, ⟨(i 0).val % 512, by omega⟩, ⟨(i 1).val % 1024, by omega⟩, ?_⟩
  funext a; apply Fin.ext
  match a with
  | ⟨0, _⟩ => show (i 0).val = ((i 0).val / 512 * 2 + (i 1).val / 1024) / 2 * 512 + (i 0).val % 512; omega
  | ⟨1, _⟩ => show (i 1).val = ((i 0).val / 512 * 2 + (i 1).val / 1024) % 2 * 1024 + (i 1).val % 1024; omega

theorem emb (t : Fin cfg0.N) (k : Fin 512) (l : Fin 1024) : ((cfg0.win 2).blk t).view.emb (ix2 k l) = (ix2 (row t k) (col t l) : S8192x2048.Idx) := by
  obtain ⟨-, -, f0, f1, -⟩ := at_point t
  funext a; apply Fin.ext
  match a with
  | ⟨0, _⟩ => show win0_2.index t (0 : Fin 2) * 512 + 1 * k.val = t.val / 2 * 512 + k.val; omega
  | ⟨1, _⟩ => show win0_2.index t (1 : Fin 2) * 1024 + 1 * l.val = t.val % 2 * 1024 + l.val; omega

variable (m : (ℓ : Loc nD τ sig) → Buf (Elt Ideal) ℓ)

theorem a_block (c : Dev nD) (t : Fin cfg0.N) (r : Fin 512) (k : Fin 5632) : iblk m c 0 t (ix2 r k) = (m (c.tc.loc main_arg0)) (ix2 (row t r) k) := by
  obtain ⟨⟨f0, f1⟩, -⟩ := at_point t
  refine congrArg (m (c.tc.loc main_arg0)) (?_ : ((cfg0.win 0).blk t).view.emb _ = _)
  funext a; apply Fin.ext
  match a with
  | ⟨0, _⟩ => show win0_0.index t (0 : Fin 2) * 512 + 1 * r.val = t.val / 2 * 512 + r.val; omega
  | ⟨1, _⟩ => show win0_0.index t (1 : Fin 2) * 5632 + 1 * k.val = k.val; omega

theorem w_block (c : Dev nD) (t : Fin cfg0.N) (p : Fin 8) (k : Fin 704) (l : Fin 1024) : iblk m c 1 t (ix4 p 0 k l) = (m (c.tc.loc main_arg1)) (ix4 p 0 k (col t l)) := by
  obtain ⟨-, ⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 8 + 1 * p.val = p.val; omega
  | ⟨1, _⟩ => show win0_1.index t (1 : Fin 4) * 1 + 1 * 0 = 0; omega
  | ⟨2, _⟩ => show win0_1.index t (2 : Fin 4) * 704 + 1 * k.val = k.val; omega
  | ⟨3, _⟩ => show win0_1.index t (3 : Fin 4) * 1024 + 1 * l.val = t.val % 2 * 1024 + l.val; omega

theorem array_eq (c : Dev nD) : (dats m 0 c).arrAt 2 cfg0.N = product (m (c.tc.loc main_arg0)) (m (c.tc.loc main_arg1)) := by
  funext i
  obtain ⟨t, r, l, rfl⟩ := places i
  refine Eq.trans (congrArg _ (emb t r l).symm) ((congrFun (Value.blocks2 m c t (at_point t).2.2.2.2) (ix2 r l)).trans ?_)
  rw [Value.flushed2]
  refine (out_apply _ _ r l).trans ?_
  refine Finset.sum_congr rfl fun k _ => ?_
  rw [a_block, w_block]
  rfl

/-- The reference's product at an index. -/
theorem reference_eq (a : Vec Ideal S8192x5632 .bf16) (w : Vec Ideal S8x1x704x2048 .bf16) :
    MmRefIdeal.Read.val_main_v3 (F := Ideal) a w = product a w := by
  funext i
  pointwise [MmRefIdeal.Read.val_main_v3, MmRefIdeal.Read.val_main_v2, MmRefIdeal.Read.val_main_v1, MmRefIdeal.Read.val_main_v0, product]

/-- The kernel and the reference hold the same product. -/
theorem algebraic : Cert.algebraic_MmIdeal_MmRefIdeal := by
  intro m g m' g' _ hagree
  refine ⟨fun c => product (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (MmRefIdeal.Read.val_main_v3_eq ..)).trans ?_, (h c).2⟩) (MmRefIdeal.Value.run m' g')⟩
  rw [reference_eq, (hagree c).1, (hagree c).2]

end Cert.MmValue

end
-- ==== Proof.MmAdd.lean ====
/- The product `d_h2` with what is added to it: what the kernel's array holds, and that it is the reference's gradient. -/
module

public import proofs.«01_k».proof.Defs
public import proofs.«01_k».proof.Proof.Gen.MmAddIdeal.Value
public import proofs.«01_k».proof.Proof.Gen.MmAddRefIdeal.Read
public import proofs.«01_k».proof.Proof.Zero

@[expose] public section

noncomputable section

namespace Cert.MmAddValue

open Cert.MmAddIdeal Cert.MmAddIdeal.Gen Idealize.ShloMosaic Idealize.ShloMosaic.TcCoe Idealize.SL.Sem

/-- The whole product at an index: a row of the activations against a column of the weights, whose 5632 rows are stored
    as eight groups of 704. -/
def product (a : Vec Ideal S8192x5632 .bf16) (w : Vec Ideal S8x1x704x2048 .bf16) (d : Vec Ideal S8192x2048 .f32) (i : S8192x2048.Idx) : EReal :=
  (∑ k : Fin 5632, a (ix2 (i 0) k) * w (ix4 ⟨k.val / 704, by omega⟩ (0 : Fin 1) ⟨k.val % 704, by omega⟩ (i 1))) + d i

/-- What the body leaves in the output's buffer. -/
theorem out_apply (x : Vec Ideal S512x5632 .bf16) (w : Vec Ideal S8x1x704x1024 .bf16) (d : Vec Ideal S512x1024 .f32) (r : Fin 512) (l : Fin 1024) :
    out0_3 x w d (ix2 r l) = (∑ k : Fin 5632, x (ix2 r k) * w (ix4 ⟨k.val / 704, by omega⟩ (0 : Fin 1) ⟨k.val % 704, by omega⟩ l)) + d (ix2 r l) := by
  unfold out0_3
  rw [View.canon_unit_zero zero2, View.ld_unit_zero zero2, View.ld_unit_zero zero4, View.ld_unit_zero zero2]
  pointwise [k0_pay1]

theorem at_point : ∀ t : Fin cfg0.N, (win0_0.index t (0 : Fin 2) = t.val / 2 ∧ win0_0.index t (1 : Fin 2) = 0)
    ∧ (win0_1.index t (0 : Fin 4) = 0 ∧ win0_1.index t (1 : Fin 4) = 0 ∧ win0_1.index t (2 : Fin 4) = 0 ∧ win0_1.index t (3 : Fin 4) = t.val % 2)
    ∧ win0_3.index t (0 : Fin 2) = t.val / 2 ∧ win0_3.index t (1 : Fin 2) = t.val % 2 ∧ win0_3.flush t = true :=
  (by decide +kernel : ∀ t : Fin grid0.N, _)

/-- Row `k` and column `l` of the block of point `t`. -/
def row (t : Fin 32) (k : Fin 512) : Fin 8192 := ⟨t.val / 2 * 512 + k.val, by omega⟩
def col (t : Fin 32) (l : Fin 1024) : Fin 2048 := ⟨t.val % 2 * 1024 + l.val, by omega⟩

theorem places (i : S8192x2048.Idx) : ∃ (t : Fin cfg0.N) (k : Fin 512) (l : Fin 1024), i = ix2 (row t k) (col t l) := by
  have h0 : (i 0).val < 8192 := (i 0).isLt
  have h1 : (i 1).val < 2048 := (i 1).isLt
  refine ⟨⟨(i 0).val / 512 * 2 + (i 1).val / 1024, by show _ < 32; omega⟩, ⟨(i 0).val % 512, by omega⟩, ⟨(i 1).val % 1024, by omega⟩, ?_⟩
  funext a; apply Fin.ext
  match a with
  | ⟨0, _⟩ => show (i 0).val = ((i 0).val / 512 * 2 + (i 1).val / 1024) / 2 * 512 + (i 0).val % 512; omega
  | ⟨1, _⟩ => show (i 1).val = ((i 0).val / 512 * 2 + (i 1).val / 1024) % 2 * 1024 + (i 1).val % 1024; omega

theorem emb (t : Fin cfg0.N) (k : Fin 512) (l : Fin 1024) : ((cfg0.win 3).blk t).view.emb (ix2 k l) = (ix2 (row t k) (col t l) : S8192x2048.Idx) := by
  obtain ⟨-, -, f0, f1, -⟩ := at_point t
  funext a; apply Fin.ext
  match a with
  | ⟨0, _⟩ => show win0_3.index t (0 : Fin 2) * 512 + 1 * k.val = t.val / 2 * 512 + k.val; omega
  | ⟨1, _⟩ => show win0_3.index t (1 : Fin 2) * 1024 + 1 * l.val = t.val % 2 * 1024 + l.val; omega

variable (m : (ℓ : Loc nD τ sig) → Buf (Elt Ideal) ℓ)

theorem a_block (c : Dev nD) (t : Fin cfg0.N) (r : Fin 512) (k : Fin 5632) : iblk m c 0 t (ix2 r k) = (m (c.tc.loc main_arg0)) (ix2 (row t r) k) := by
  obtain ⟨⟨f0, f1⟩, -⟩ := at_point t
  refine congrArg (m (c.tc.loc main_arg0)) (?_ : ((cfg0.win 0).blk t).view.emb _ = _)
  funext a; apply Fin.ext
  match a with
  | ⟨0, _⟩ => show win0_0.index t (0 : Fin 2) * 512 + 1 * r.val = t.val / 2 * 512 + r.val; omega
  | ⟨1, _⟩ => show win0_0.index t (1 : Fin 2) * 5632 + 1 * k.val = k.val; omega

theorem w_block (c : Dev nD) (t : Fin cfg0.N) (p : Fin 8) (k : Fin 704) (l : Fin 1024) : iblk m c 1 t (ix4 p 0 k l) = (m (c.tc.loc main_arg1)) (ix4 p 0 k (col t l)) := by
  obtain ⟨-, ⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 8 + 1 * p.val = p.val; omega
  | ⟨1, _⟩ => show win0_1.index t (1 : Fin 4) * 1 + 1 * 0 = 0; omega
  | ⟨2, _⟩ => show win0_1.index t (2 : Fin 4) * 704 + 1 * k.val = k.val; omega
  | ⟨3, _⟩ => show win0_1.index t (3 : Fin 4) * 1024 + 1 * l.val = t.val % 2 * 1024 + l.val; omega

theorem array_eq (c : Dev nD) : (dats m 0 c).arrAt 3 cfg0.N = product (m (c.tc.loc main_arg0)) (m (c.tc.loc main_arg1)) (m (c.tc.loc main_arg2)) := by
  funext i
  obtain ⟨t, r, l, rfl⟩ := places i
  refine Eq.trans (congrArg _ (emb t r l).symm) ((congrFun (Value.blocks3 m c t (at_point t).2.2.2.2) (ix2 r l)).trans ?_)
  rw [Value.flushed3]
  refine (out_apply _ _ _ r l).trans ?_
  refine congrArg₂ (HAdd.hAdd (α := EReal) (β := EReal)) (Finset.sum_congr rfl fun k _ => ?_) (congrArg (m (c.tc.loc main_arg2)) (emb t r l))
  rw [a_block, w_block]
  rfl

/-- The reference's product at an index. -/
theorem reference_eq (a : Vec Ideal S8192x5632 .bf16) (w : Vec Ideal S8x1x704x2048 .bf16) (d : Vec Ideal S8192x2048 .f32) :
    MmAddRefIdeal.Read.val_main_v7 (F := Ideal) a w d = product a w d := by
  funext i
  pointwise [MmAddRefIdeal.Read.val_main_v7, MmAddRefIdeal.Read.val_main_v6, MmAddRefIdeal.Read.val_main_v5, MmAddRefIdeal.Read.val_main_v2, MmAddRefIdeal.Read.val_main_v1, MmAddRefIdeal.Read.val_main_v0, product]

/-- The kernel and the reference hold the same product. -/
theorem algebraic : Cert.algebraic_MmAddIdeal_MmAddRefIdeal := by
  intro m g m' g' _ hagree
  refine ⟨fun c => product (m (c.tc.loc main_arg0)) (m (c.tc.loc main_arg1)) (m (c.tc.loc main_arg2)),
    (θ_run _ _ _).mono (fun r h c => ⟨(h c).1.trans (array_eq m c), (h c).2⟩) (Value.run_blocks m g),
    (θ_run _ _ _).mono (fun r h c => ⟨((h c).1.trans (MmAddRefIdeal.Read.val_main_v7_eq ..)).trans ?_, (h c).2⟩) (MmAddRefIdeal.Value.run m' g')⟩
  rw [reference_eq, (hagree c).1, (hagree c).2.1, (hagree c).2.2]

end Cert.MmAddValue

end
-- ==== Proof.Up.lean ====
/- The gate and up products of the feed-forward and their gated product: what the kernel's three arrays hold, and that they are the reference's. -/
module

public import proofs.«01_k».proof.Defs
public import proofs.«01_k».proof.Proof.Gen.UpIdeal.Value
public import proofs.«01_k».proof.Proof.Gen.UpRefIdeal.Read
public import proofs.«01_k».proof.Proof.Zero

@[expose] public section

noncomputable section

namespace Cert.UpValue

open Cert.UpIdeal Cert.UpIdeal.Gen Idealize.ShloMosaic Idealize.ShloMosaic.TcCoe Idealize.SL.Sem

/-- A row of the activations against a row of the weights, whose 5632 rows are stored as eight groups of 704. -/
def product (h : Vec Ideal S8192x2048 .bf16) (w : Vec Ideal S8x1x704x2048 .bf16) (i : S8192x5632.Idx) : EReal :=
  ∑ k : Fin 2048, h (ix2 (i 0) k) *
    w (ix4 ⟨(i 1).val / 704, by have : (i 1).val < 5632 := (i 1).isLt; omega⟩ (0 : Fin 1) ⟨(i 1).val % 704, by omega⟩ k)

/-- One element of the gated product. -/
def gated (g u : EReal) : EReal := g * Ideal.div 1 (1 + Ideal.exp (-g)) * u

/-- The whole gated product at an index. -/
def hidden (h : Vec Ideal S8192x2048 .bf16) (w v : Vec Ideal S8x1x704x2048 .bf16) (i : S8192x5632.Idx) : EReal :=
  gated (product h w i) (product h v i)

/-- A block's product at an index. -/
def part (x : Vec Ideal S512x2048 .bf16) (w : Vec Ideal S2x1x704x2048 .bf16) (j : S512x1408.Idx) : EReal :=
  ∑ k : Fin 2048, x (ix2 (j 0) k) *
    w (ix4 ⟨(j 1).val / 704, by have : (j 1).val < 1408 := (j 1).isLt; omega⟩ (0 : Fin 1) ⟨(j 1).val % 704, by omega⟩ k)

theorem gate_apply (x : Vec Ideal S512x2048 .bf16) (w : Vec Ideal S2x1x704x2048 .bf16) (j : S512x1408.Idx) :
    k0_pay1 (F := Ideal) x w j = part x w j := by
  pointwise [k0_pay1, part]

theorem up_apply (x : Vec Ideal S512x2048 .bf16) (w : Vec Ideal S2x1x704x2048 .bf16) (j : S512x1408.Idx) :
    k0_pay2 (F := Ideal) x w j = part x w j := by
  pointwise [k0_pay2, part]

theorem hidden_apply (x : Vec Ideal S512x2048 .bf16) (w v : Vec Ideal S2x1x704x2048 .bf16) (j : S512x1408.Idx) :
    k0_pay5 (F := Ideal) x w v j = gated (part x w j) (part x v j) := by
  pointwise [k0_pay5]
  rw [gate_apply, up_apply, zero_sub]
  rfl

theorem out3_eq (x : Vec Ideal S512x2048 .bf16) (w v : Vec Ideal S2x1x704x2048 .bf16) : out0_3 x w v = part x w := by
  unfold out0_3
  rw [View.canon_unit_zero zero2, View.ld_unit_zero zero2, View.ld_unit_zero zero4]
  exact funext fun j => gate_apply x w j

theorem out4_eq (x : Vec Ideal S512x2048 .bf16) (w v : Vec Ideal S2x1x704x2048 .bf16) : out0_4 x w v = part x v := by
  unfold out0_4
  rw [View.canon_unit_zero zero2, View.ld_unit_zero zero2, View.ld_unit_zero zero4]
  exact funext fun j => up_apply x v j

theorem out5_eq (x : Vec Ideal S512x2048 .bf16) (w v : Vec Ideal S2x1x704x2048 .bf16) :
    out0_5 x w v = fun j => gated (part x w j) (part x v j) := by
  unfold out0_5
  rw [View.canon_unit_zero zero2, View.ld_unit_zero zero2, View.ld_unit_zero zero4, View.ld_unit_zero zero4]
  exact funext fun j => hidden_apply x w v j

theorem idx_facts3 : ∀ t : Fin cfg0.N, win0_0.index t (0 : Fin 2) = win0_3.index t (0 : Fin 2) ∧ win0_0.index t (1 : Fin 2) = 0
    ∧ win0_1.index t (0 : Fin 4) = win0_3.index t (1 : Fin 2) ∧ win0_1.index t (1 : Fin 4) = 0 ∧ win0_1.index t (2 : Fin 4) = 0
    ∧ win0_1.index t (3 : Fin 4) = 0
    ∧ win0_2.index t (0 : Fin 4) = win0_3.index t (1 : Fin 2) ∧ win0_2.index t (1 : Fin 4) = 0 ∧ win0_2.index t (2 : Fin 4) = 0
    ∧ win0_2.index t (3 : Fin 4) = 0 :=
  (by decide +kernel : ∀ t : Fin grid0.N, _)

theorem onto3 : ∀ (p0 : Fin 16) (p1 : Fin 4), ∃ t : Fin cfg0.N, (cfg0.win 3).flush t = true ∧ win0_3.index t (0 : Fin 2) = p0.val ∧ win0_3.index t (1 : Fin 2) = p1.val :=
  fun p0 p1 => ⟨⟨p1.val * 16 + p0.val, by show _ < 64; omega⟩,
    (by decide +kernel : ∀ (p0 : Fin 16) (p1 : Fin 4), win0_3.flush (⟨p1.val * 16 + p0.val, by show _ < 64; omega⟩ : Fin grid0.N) = true
      ∧ win0_3.index (⟨p1.val * 16 + p0.val, by show _ < 64; omega⟩ : Fin grid0.N) (0 : Fin 2) = p0.val ∧ win0_3.index (⟨p1.val * 16 + p0.val, by show _ < 64; omega⟩ : Fin grid0.N) (1 : Fin 2) = p1.val) p0 p1⟩

theorem mem_blk3 (t : Fin cfg0.N) (i : S8192x5632.Idx) : i ∈ ((cfg0.win 3).blk t).view.set ↔
    ∀ a : Fin 2, win0_3.index t a * S512x1408.size a ≤ (i a).val ∧ (i a).val < win0_3.index t a * S512x1408.size a + S512x1408.size a := by
  show i ∈ ((View.whole main_v0_0).slice (win0_3.rect t)).set ↔ _
  rw [View.set_slice_whole, Rect.mem_set_unit]
  exact Iff.rfl

/-- Every index of the array lies in a block that is written back. -/
theorem covered3 (i : S8192x5632.Idx) : ∃ t : Fin cfg0.N, (cfg0.win 3).flush t = true ∧ i ∈ ((cfg0.win 3).blk t).view.set := by
  have h0 : (i 0).val < 8192 := (i 0).isLt
  have h1 : (i 1).val < 5632 := (i 1).isLt
  obtain ⟨t, ht, e0, e1⟩ := onto3 ⟨(i 0).val / 512, by omega⟩ ⟨(i 1).val / 1408, by omega⟩
  refine ⟨t, ht, ?_⟩
  rw [mem_blk3]
  intro a
  match a with
  | ⟨0, _⟩ => show win0_3.index t (0 : Fin 2) * 512 ≤ (i 0).val ∧ (i 0).val < win0_3.index t (0 : Fin 2) * 512 + 512; simp only at e0; omega
  | ⟨1, _⟩ => show win0_3.index t (1 : Fin 2) * 1408 ≤ (i 1).val ∧ (i 1).val < win0_3.index t (1 : Fin 2) * 1408 + 1408; simp only at e1; omega

/-- A block of an array at an index is the array at the index's place. -/
theorem read_blk3 (t : Fin cfg0.N) (G : S8192x5632.Idx → EReal) (y : ((cfg0.win 3).xblock (cfg0.grid.coords t)).Idx) :
    ((cfg0.win 3).blk t).view.read (Elt Ideal) G y = G (((cfg0.win 3).blk t).view.emb y) := rfl

/-- A block of an array at an index is the array at the index's place. -/
theorem read_blk4 (t : Fin cfg0.N) (G : S8192x5632.Idx → EReal) (y : ((cfg0.win 4).xblock (cfg0.grid.coords t)).Idx) :
    ((cfg0.win 4).blk t).view.read (Elt Ideal) G y = G (((cfg0.win 4).blk t).view.emb y) := rfl

/-- A block of an array at an index is the array at the index's place. -/
theorem read_blk5 (t : Fin cfg0.N) (G : S8192x5632.Idx → EReal) (y : ((cfg0.win 5).xblock (cfg0.grid.coords t)).Idx) :
    ((cfg0.win 5).blk t).view.read (Elt Ideal) G y = G (((cfg0.win 5).blk t).view.emb y) := rfl

variable (m : (ℓ : Loc nD τ sig) → Buf (Elt Ideal) ℓ)

theorem part31_eq (c : Dev nD) (t : Fin cfg0.N) (y : ((cfg0.win 3).xblock (cfg0.grid.coords t)).Idx) :
    part (iblk m c 0 t) (iblk m c 1 t) ((cfg0.win 3).xinj (grid0.coords t) y)
      = product (m (c.tc.loc main_arg0)) (m (c.tc.loc main_arg1)) (((cfg0.win 3).blk t).view.emb y) := by
  obtain ⟨f0, f1, f2, f3, f4, f5, f6, f7, f8, f9⟩ := idx_facts3 t
  have b0 : (((cfg0.win 3).blk t).view.emb y 0).val = win0_3.index t (0 : Fin 2) * 512 + 1 * (y 0).val := rfl
  have b1 : (((cfg0.win 3).blk t).view.emb y 1).val = win0_3.index t (1 : Fin 2) * 1408 + 1 * (y 1).val := rfl
  have hy : (y 1).val < 1408 := (y 1).isLt
  refine Finset.sum_congr rfl fun k _ => ?_
  congr 1
  · show m (c.tc.loc main_arg0) (((cfg0.win 0).blk t).view.emb _) = _
    congr 1
    funext a; apply Fin.ext
    match a with
    | ⟨0, _⟩ => show win0_0.index t (0 : Fin 2) * 512 + 1 * (y 0).val = _; rw [f0]; exact b0.symm
    | ⟨1, _⟩ => show win0_0.index t (1 : Fin 2) * 2048 + 1 * k.val = k.val; omega
  · show m (c.tc.loc main_arg1) (((cfg0.win 1).blk t).view.emb _) = _
    congr 1
    funext a; apply Fin.ext
    match a with
    | ⟨0, _⟩ => show win0_1.index t (0 : Fin 4) * 2 + 1 * ((y 1).val / 704) = (((cfg0.win 3).blk t).view.emb y 1).val / 704; rw [b1]; omega
    | ⟨1, _⟩ => show win0_1.index t (1 : Fin 4) * 1 + 1 * 0 = 0; omega
    | ⟨2, _⟩ => show win0_1.index t (2 : Fin 4) * 704 + 1 * ((y 1).val % 704) = (((cfg0.win 3).blk t).view.emb y 1).val % 704; rw [b1]; omega
    | ⟨3, _⟩ => show win0_1.index t (3 : Fin 4) * 2048 + 1 * k.val = k.val; omega

theorem part32_eq (c : Dev nD) (t : Fin cfg0.N) (y : ((cfg0.win 3).xblock (cfg0.grid.coords t)).Idx) :
    part (iblk m c 0 t) (iblk m c 2 t) ((cfg0.win 3).xinj (grid0.coords t) y)
      = product (m (c.tc.loc main_arg0)) (m (c.tc.loc main_arg2)) (((cfg0.win 3).blk t).view.emb y) := by
  obtain ⟨f0, f1, f2, f3, f4, f5, f6, f7, f8, f9⟩ := idx_facts3 t
  have b0 : (((cfg0.win 3).blk t).view.emb y 0).val = win0_3.index t (0 : Fin 2) * 512 + 1 * (y 0).val := rfl
  have b1 : (((cfg0.win 3).blk t).view.emb y 1).val = win0_3.index t (1 : Fin 2) * 1408 + 1 * (y 1).val := rfl
  have hy : (y 1).val < 1408 := (y 1).isLt
  refine Finset.sum_congr rfl fun k _ => ?_
  congr 1
  · show m (c.tc.loc main_arg0) (((cfg0.win 0).blk t).view.emb _) = _
    congr 1
    funext a; apply Fin.ext
    match a with
    | ⟨0, _⟩ => show win0_0.index t (0 : Fin 2) * 512 + 1 * (y 0).val = _; rw [f0]; exact b0.symm
    | ⟨1, _⟩ => show win0_0.index t (1 : Fin 2) * 2048 + 1 * k.val = k.val; omega
  · show m (c.tc.loc main_arg2) (((cfg0.win 2).blk t).view.emb _) = _
    congr 1
    funext a; apply Fin.ext
    match a with
    | ⟨0, _⟩ => show win0_2.index t (0 : Fin 4) * 2 + 1 * ((y 1).val / 704) = (((cfg0.win 3).blk t).view.emb y 1).val / 704; rw [b1]; omega
    | ⟨1, _⟩ => show win0_2.index t (1 : Fin 4) * 1 + 1 * 0 = 0; omega
    | ⟨2, _⟩ => show win0_2.index t (2 : Fin 4) * 704 + 1 * ((y 1).val % 704) = (((cfg0.win 3).blk t).view.emb y 1).val % 704; rw [b1]; omega
    | ⟨3, _⟩ => show win0_2.index t (3 : Fin 4) * 2048 + 1 * k.val = k.val; omega

theorem flushed3_eq (c : Dev nD) (t : Fin cfg0.N) : (dats m 0 c).flushed 3 t
    = ((cfg0.win 3).blk t).view.read (Elt Ideal) (product (m (c.tc.loc main_arg0)) (m (c.tc.loc main_arg1))) := by
  rw [Value.flushed3, out3_eq]
  funext y
  refine Eq.trans ?_ (read_blk3 t _ y).symm
  exact part31_eq m c t y

theorem array3_eq (c : Dev nD) : (dats m 0 c).arrAt 3 cfg0.N = product (m (c.tc.loc main_arg0)) (m (c.tc.loc main_arg1)) :=
  (dats m 0 c).arrAt_eq_of_cover 3 _ (fun t _ => flushed3_eq m c t) covered3

theorem flushed4_eq (c : Dev nD) (t : Fin cfg0.N) : (dats m 0 c).flushed 4 t
    = ((cfg0.win 4).blk t).view.read (Elt Ideal) (product (m (c.tc.loc main_arg0)) (m (c.tc.loc main_arg2))) := by
  rw [Value.flushed4, out4_eq]
  funext y
  refine Eq.trans ?_ (read_blk4 t _ y).symm
  exact part32_eq m c t y

theorem array4_eq (c : Dev nD) : (dats m 0 c).arrAt 4 cfg0.N = product (m (c.tc.loc main_arg0)) (m (c.tc.loc main_arg2)) :=
  (dats m 0 c).arrAt_eq_of_cover 4 _ (fun t _ => flushed4_eq m c t) covered3

theorem flushed5_eq (c : Dev nD) (t : Fin cfg0.N) : (dats m 0 c).flushed 5 t
    = ((cfg0.win 5).blk t).view.read (Elt Ideal) (hidden (m (c.tc.loc main_arg0)) (m (c.tc.loc main_arg1)) (m (c.tc.loc main_arg2))) := by
  rw [Value.flushed5, out5_eq]
  funext y
  refine Eq.trans ?_ (read_blk5 t _ y).symm
  exact congrArg₂ gated (part31_eq m c t y) (part32_eq m c t y)

theorem array5_eq (c : Dev nD) : (dats m 0 c).arrAt 5 cfg0.N = hidden (m (c.tc.loc main_arg0)) (m (c.tc.loc main_arg1)) (m (c.tc.loc main_arg2)) :=
  (dats m 0 c).arrAt_eq_of_cover 5 _ (fun t _ => flushed5_eq m c t) covered3

theorem reference_gate (h : Vec Ideal S8192x2048 .bf16) (w : Vec Ideal S8x1x704x2048 .bf16) :
    UpRefIdeal.Read.val_main_v4 (F := Ideal) h w = product h w := by
  funext i
  pointwise [UpRefIdeal.Read.val_main_v4, UpRefIdeal.Read.val_main_v3, UpRefIdeal.Read.val_main_v2, UpRefIdeal.Read.val_main_v1, UpRefIdeal.Read.val_main_v0, product]

theorem reference_up (h : Vec Ideal S8192x2048 .bf16) (w : Vec Ideal S8x1x704x2048 .bf16) :
    UpRefIdeal.Read.val_main_v8 (F := Ideal) h w = product h w := by
  funext i
  pointwise [UpRefIdeal.Read.val_main_v8, UpRefIdeal.Read.val_main_v7, UpRefIdeal.Read.val_main_v6, UpRefIdeal.Read.val_main_v5, UpRefIdeal.Read.val_main_v0, product]

theorem reference_hidden (h : Vec Ideal S8192x2048 .bf16) (w v : Vec Ideal S8x1x704x2048 .bf16) :
    UpRefIdeal.Read.val_main_v13 (F := Ideal) h w v = hidden h w v := by
  funext i
  pointwise [UpRefIdeal.Read.val_main_v13, UpRefIdeal.Read.val_main_v12, UpRefIdeal.Read.val_main_v11, UpRefIdeal.Read.val_main_call0_v5, UpRefIdeal.Read.val_main_call0_v4, UpRefIdeal.Read.val_main_call0_v3, UpRefIdeal.Read.val_main_call0_v2, UpRefIdeal.Read.val_main_call0_v1, UpRefIdeal.Read.val_main_call0_v0, UpRefIdeal.Read.val_main_call0_cst, UpRefIdeal.Read.val_main_call0_cst_0]
  rw [reference_gate, reference_up]
  rfl

/-- The kernel and the reference hold the same three arrays. -/
theorem algebraic : Cert.algebraic_UpIdeal_UpRefIdeal := by
  intro m g m' g' _ hagree
  refine ⟨fun c => product (m (c.tc.loc main_arg0)) (m (c.tc.loc main_arg1)), fun c => product (m (c.tc.loc main_arg0)) (m (c.tc.loc main_arg2)), fun c => hidden (m (c.tc.loc main_arg0)) (m (c.tc.loc main_arg1)) (m (c.tc.loc main_arg2)),
    (θ_run _ _ _).mono (fun r h c => ⟨(h c).1.trans (array3_eq m c), (h c).2.1.trans (array4_eq m c), (h c).2.2.1.trans (array5_eq m c), (h c).2.2.2⟩) (Value.run_blocks m g),
    (θ_run _ _ _).mono (fun r h c => ⟨((h c).1.trans (UpRefIdeal.Read.val_main_v9_eq ..)).trans ?_, ((h c).2.1.trans (UpRefIdeal.Read.val_main_v10_eq ..)).trans ?_,
      ((h c).2.2.1.trans (UpRefIdeal.Read.val_main_v13_eq ..)).trans ?_, (h c).2.2.2⟩) (UpRefIdeal.Value.run m' g')⟩
  · rw [(hagree c).1, (hagree c).2.1]
    exact reference_gate _ _
  · rw [(hagree c).1, (hagree c).2.2]
    exact reference_up _ _
  · rw [(hagree c).1, (hagree c).2.1, (hagree c).2.2]
    exact reference_hidden _ _ _

end Cert.UpValue

end
-- ==== Proof.Norm.lean ====
/- The gradient of the root-mean-square norm along one row: the kernel's form and the one that differentiating the norm gives are equal on finite numbers. -/
module

public import proofs.«01_k».proof.Proof.Finite

@[expose] public section

noncomputable section

namespace Cert.Norm

open Cert.Finite Idealize.ShloMosaic

theorem word_rows : Ideal.ofBits .f32 1157627904#32 = ((2048 : ℝ) : EReal) := by
  simp [Ideal.ofBits, Ideal.ieee]; norm_cast; norm_num

theorem word_half : Ideal.ofBits .f32 3204448256#32 = ((-(1 / 2) : ℝ) : EReal) := by
  simp [Ideal.ofBits, Ideal.ieee]; norm_cast; norm_num

/-- The small number under the root is a positive real. -/
theorem word_eps : ∃ e : ℝ, 0 < e ∧ Ideal.ofBits .f32 897988541#32 = (e : EReal) := by
  refine ⟨_, ?_, by simp [Ideal.ofBits, Ideal.ieee]; norm_cast⟩
  norm_num

/-- A sum of reals. -/
theorem coe_sum {ι : Type*} [Fintype ι] (f : ι → ℝ) : ∑ k, (f k : EReal) = ((∑ k, f k : ℝ) : EReal) := by
  classical
  suffices h : ∀ s : Finset ι, ∑ k ∈ s, (f k : EReal) = ((∑ k ∈ s, f k : ℝ) : EReal) from h _
  intro s
  induction s using Finset.induction_on with
  | empty => simp
  | insert a s ha ih => rw [Finset.sum_insert ha, Finset.sum_insert ha, ih, EReal.coe_add]

/-- One over the root of a row's mean square. -/
def inv (x : Fin 2048 → EReal) : EReal :=
  Ideal.rsqrt (Ideal.div (∑ k, x k * x k) (Ideal.ofBits .f32 1157627904#32) + Ideal.ofBits .f32 897988541#32)

/-- The norm's gradient along a row, as the kernels compute it. -/
def back (d x g : Fin 2048 → EReal) (l : Fin 2048) : EReal :=
  inv x * (d l * g l - x l * inv x * Ideal.div (∑ k, d k * g k * (x k * inv x)) (Ideal.ofBits .f32 1157627904#32))

/-- The coefficient of the row in the norm's gradient, as differentiating the norm gives it. -/
def coef (d x g : Fin 2048 → EReal) : EReal :=
  Ideal.div ((∑ k, x k * (d k * g k)) * (Ideal.ofBits .f32 3204448256#32 *
    Ideal.div (inv x) (Ideal.div (∑ k, x k * x k) (Ideal.ofBits .f32 1157627904#32) + Ideal.ofBits .f32 897988541#32)))
    (Ideal.ofBits .f32 1157627904#32)

/-- The mean square with the small number added is a positive real, and the inverse root is the reals'. -/
theorem inv_real (x : Fin 2048 → EReal) (hx : ∀ k, IsReal (x k)) : ∃ v : ℝ, 0 < v
    ∧ Ideal.div (∑ k, x k * x k) (Ideal.ofBits .f32 1157627904#32) + Ideal.ofBits .f32 897988541#32 = (v : EReal)
    ∧ inv x = (((Real.sqrt v)⁻¹ : ℝ) : EReal) := by
  choose f hf using hx
  obtain ⟨e, he, ee⟩ := word_eps
  have hs : ∑ k, x k * x k = ((∑ k, f k * f k : ℝ) : EReal) := by
    simp only [hf, ← EReal.coe_mul, coe_sum]
  have hv : Ideal.div (∑ k, x k * x k) (Ideal.ofBits .f32 1157627904#32) + Ideal.ofBits .f32 897988541#32
      = (((∑ k, f k * f k) * (1 / 2048) + e : ℝ) : EReal) := by
    rw [hs, word_rows, Ideal.div_coe (by norm_num), ee]; norm_cast
  have hp : 0 < (∑ k, f k * f k) * (1 / 2048) + e := by
    have : 0 ≤ ∑ k, f k * f k := Finset.sum_nonneg fun k _ => mul_self_nonneg _
    positivity
  refine ⟨_, hp, hv, ?_⟩
  unfold inv
  rw [hv, Ideal.rsqrt_coe, if_neg hp.le.not_gt, if_neg hp.ne']

theorem isReal_inv (x : Fin 2048 → EReal) (hx : ∀ k, IsReal (x k)) : IsReal (inv x) := by
  obtain ⟨v, _, _, h⟩ := inv_real x hx
  exact ⟨_, h⟩

/-- The two forms of the norm's gradient are equal on finite numbers. -/
theorem back_eq (d x g : Fin 2048 → EReal) (hd : ∀ k, IsReal (d k)) (hx : ∀ k, IsReal (x k)) (hg : ∀ k, IsReal (g k)) (l : Fin 2048) :
    d l * g l * inv x + x l * coef d x g + coef d x g * x l = back d x g l := by
  obtain ⟨v, hv, ev, ei⟩ := inv_real x hx
  unfold back coef
  rw [ev, ei]
  choose f hf using hx
  choose a ha using hd
  choose b hb using hg
  have h1 : ∑ k, x k * (d k * g k) = ((∑ k, f k * (a k * b k) : ℝ) : EReal) := by
    simp only [hf, ha, hb, ← EReal.coe_mul, coe_sum]
  have h2 : ∑ k, d k * g k * (x k * (((Real.sqrt v)⁻¹ : ℝ) : EReal)) = (((∑ k, f k * (a k * b k)) * (Real.sqrt v)⁻¹ : ℝ) : EReal) := by
    simp only [hf, ha, hb, ← EReal.coe_mul, coe_sum]
    rw [Finset.sum_mul]
    refine congrArg Real.toEReal (Finset.sum_congr rfl fun k _ => ?_)
    ring
  rw [h1, h2, word_rows, word_half, Ideal.div_coe hv.ne', Ideal.div_coe (by norm_num), Ideal.div_coe (by norm_num), hf l, ha l, hb l]
  norm_cast
  generalize (∑ k, f k * (a k * b k)) = s
  have hq : (Real.sqrt v)⁻¹ * (Real.sqrt v)⁻¹ = 1 / v := by
    rw [← mul_inv, Real.mul_self_sqrt hv.le, one_div]
  generalize (Real.sqrt v)⁻¹ = r at hq ⊢
  rw [← hq]
  ring

/-- Row `k` of block `s`. -/
def rowAt (s : ℕ) (k : Fin 256) : Fin 8192 := ⟨(s * 256 + k.val) % 8192, Nat.mod_lt _ (by decide)⟩

/-- The sum of one block of 256 rows. -/
def part (f : Fin 8192 → EReal) (s : ℕ) : EReal := ∑ k : Fin 256, f (rowAt s k)

/-- A row's contribution to the gradient of the norm's gain: the incoming gradient times the normed row. -/
def gain (d x : Fin 2048 → EReal) (l : Fin 2048) : EReal := d l * (x l * inv x)

/-- The blocks' sums make the whole one. -/
theorem parts_sum (f : Fin 8192 → EReal) : ∑ s ∈ Finset.range 32, part f s = ∑ r, f r := by
  rw [Fin.sum_univ_tiles 32 256 (by decide), ← Fin.sum_univ_eq_sum_range (fun s => part f s) 32]
  refine Finset.sum_congr rfl fun s _ => Finset.sum_congr rfl fun k _ => congrArg f (Fin.ext ?_)
  exact Nat.mod_eq_of_lt (by omega)

end Cert.Norm

end
-- ==== Proof.Dx.lean ====
/- The gradient of the gated state through its weight and its norm: the weight's product, the derivative of the norm, the gradient added, and the gain's gradient summed over the blocks of rows. -/
module

public import proofs.«01_k».proof.Defs
public import proofs.«01_k».proof.Proof.Gen.DxIdeal.Value
public import proofs.«01_k».proof.Proof.Gen.DxRefIdeal.Read
public import proofs.«01_k».proof.Proof.Norm
public import proofs.«01_k».proof.Proof.Gen.Pre_finite_dx
public import proofs.«01_k».proof.Proof.Zero

@[expose] public section

noncomputable section

namespace Cert.DxValue

open Cert.DxIdeal Cert.DxIdeal.Gen Idealize.ShloMosaic Idealize.ShloMosaic.TcCoe Idealize.SL.Sem
open Cert.Norm

open Cert.Finite

/-- The gradient that comes back through the weight, at a row and a column. -/
def ct (d : Vec Ideal S8192x2048 .bf16) (w : Vec Ideal S8x1x256x2048 .bf16) (r : Fin 8192) (l : Fin 2048) : EReal :=
  ∑ k : Fin 2048, d (ix2 r k) * w (ix4 ⟨l.val / 256, by omega⟩ (0 : Fin 1) ⟨l.val % 256, by omega⟩ k)

/-- The same in one block of rows. -/
def ctBlock (d : Vec Ideal S256x2048 .bf16) (w : Vec Ideal S8x1x256x2048 .bf16) (r : Fin 256) (l : Fin 2048) : EReal :=
  ∑ k : Fin 2048, d (ix2 r k) * w (ix4 ⟨l.val / 256, by omega⟩ (0 : Fin 1) ⟨l.val % 256, by omega⟩ k)

theorem rounded (d : Vec Ideal S256x2048 .bf16) (w : Vec Ideal S8x1x256x2048 .bf16) (x : Vec Ideal S256x2048 .f32) (g : Vec Ideal S1x2048 .f32) (res : Vec Ideal S256x2048 .f32) (j : S256x2048.Idx) :
    k0_pay7 (F := Ideal) d w x g res j = k0_pay6 (F := Ideal) d w x g res j := by
  pointwise [k0_pay7]

/-- The gradient along a row, with the gradient that arrives beside it added. -/
def total (d : Vec Ideal S8192x2048 .bf16) (w : Vec Ideal S8x1x256x2048 .bf16) (x : Vec Ideal S8192x2048 .f32) (g : Vec Ideal S1x2048 .f32) (res : Vec Ideal S8192x2048 .f32) (i : S8192x2048.Idx) : EReal :=
  res i + back (ct d w (i 0)) (fun l => x (ix2 (i 0) l)) (fun l => g (ix2 0 l)) (i 1)

/-- The gradient of the gain: a column's sum over all rows. -/
def gains (d : Vec Ideal S8192x2048 .bf16) (w : Vec Ideal S8x1x256x2048 .bf16) (x : Vec Ideal S8192x2048 .f32) (i : S1x2048.Idx) : EReal :=
  ∑ r : Fin 8192, gain (ct d w r) (fun l => x (ix2 r l)) (i 1)

theorem block_total (d : Vec Ideal S256x2048 .bf16) (w : Vec Ideal S8x1x256x2048 .bf16) (x : Vec Ideal S256x2048 .f32) (g : Vec Ideal S1x2048 .f32) (res : Vec Ideal S256x2048 .f32) (k : Fin 256) (l : Fin 2048) : k0_pay6 (F := Ideal) d w x g res (ix2 k l)
    = res (ix2 k l) + back (ctBlock d w k) (fun l => x (ix2 k l)) (fun l => g (ix2 0 l)) l := by
  pointwise [k0_pay6, k0_pay2, k0_pay3, k0_pay4, ctBlock, back, Cert.Norm.inv]

theorem block_gains (d : Vec Ideal S256x2048 .bf16) (w : Vec Ideal S8x1x256x2048 .bf16) (x : Vec Ideal S256x2048 .f32) (z : Fin 1) (l : Fin 2048) : k0_pay5 (F := Ideal) d w x (ix2 z l)
    = ∑ k : Fin 256, gain (ctBlock d w k) (fun l => x (ix2 k l)) l := by
  pointwise [k0_pay5, k0_pay2, k0_pay3, k0_pay4, ctBlock, gain, Cert.Norm.inv]

section
variable (c : Dev nD) (i : grid0.Coords) (a1 : Memref sig .tc .vmem S256x2048 .bf16) (h1 : a1.IsWhole) (a2 : Memref sig .tc .vmem S8x1x256x2048 .bf16) (h2 : a2.IsWhole) (a3 : Memref sig .tc .vmem S256x2048 .f32) (h3 : a3.IsWhole) (a4 : Memref sig .tc .vmem S1x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .bf16) (h7 : a7.IsWhole) (a8 : Memref sig .tc .vmem S1x2048 .f32) (h8 : a8.IsWhole)
  (d : Vec Ideal S256x2048 .bf16) (w : Vec Ideal S8x1x256x2048 .bf16) (x : Vec Ideal S256x2048 .f32) (g : Vec Ideal S1x2048 .f32) (res : Vec Ideal S256x2048 .f32)

theorem out_A0 (hc0 : cond0_0 i) (hc1 : ¬cond0_1 i) :
    out0_A_5 c i a1 h1 a2 h2 a3 h3 a4 h4 a5 h5 a6 h6 a7 h7 a8 h8 hc0 hc1 d w x g res = k0_pay6 (F := Ideal) d w x g res := by
  unfold out0_A_5
  rw [View.read_writes_eq_canon _ _ _ (cover0_A_5 c i a1 h1 a2 h2 a3 h3 a4 h4 a5 h5 a6 h6 a7 h7 a8 h8 hc0 hc1 d w x g res)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_A1 (hc0 : cond0_0 i) (hc1 : ¬cond0_1 i) :
    out0_A_6 c i a1 h1 a2 h2 a3 h3 a4 h4 a5 h5 a6 h6 a7 h7 a8 h8 hc0 hc1 d w x g res = k0_pay7 (F := Ideal) d w x g res := by
  unfold out0_A_6
  rw [View.read_writes_eq_canon _ _ _ (cover0_A_6 c i a1 h1 a2 h2 a3 h3 a4 h4 a5 h5 a6 h6 a7 h7 a8 h8 hc0 hc1 d w x g res)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_A2 (hc0 : cond0_0 i) (hc1 : ¬cond0_1 i) :
    out0_A_7 c i a1 h1 a2 h2 a3 h3 a4 h4 a5 h5 a6 h6 a7 h7 a8 h8 hc0 hc1 d w x g res = k0_pay5 (F := Ideal) d w x := by
  unfold out0_A_7
  rw [View.read_writes_eq_canon _ _ _ (cover0_A_7 c i a1 h1 a2 h2 a3 h3 a4 h4 a5 h5 a6 h6 a7 h7 a8 h8 hc0 hc1 d w x g res)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_B0 (hc0 : ¬cond0_0 i) (hc1 : cond0_1 i) (s0 : Vec Ideal S1x2048 .f32) :
    out0_B_5 c i a1 h1 a2 h2 a3 h3 a4 h4 a5 h5 a6 h6 a7 h7 a8 h8 hc0 hc1 d w x g res s0 = k0_pay6 (F := Ideal) d w x g res := by
  unfold out0_B_5
  rw [View.read_writes_eq_canon _ _ _ (cover0_B_5 c i a1 h1 a2 h2 a3 h3 a4 h4 a5 h5 a6 h6 a7 h7 a8 h8 hc0 hc1 d w x g res s0)]
  unfold kernelRun0_B
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_B1 (hc0 : ¬cond0_0 i) (hc1 : cond0_1 i) (s0 : Vec Ideal S1x2048 .f32) :
    out0_B_6 c i a1 h1 a2 h2 a3 h3 a4 h4 a5 h5 a6 h6 a7 h7 a8 h8 hc0 hc1 d w x g res s0 = k0_pay7 (F := Ideal) d w x g res := by
  unfold out0_B_6
  rw [View.read_writes_eq_canon _ _ _ (cover0_B_6 c i a1 h1 a2 h2 a3 h3 a4 h4 a5 h5 a6 h6 a7 h7 a8 h8 hc0 hc1 d w x g res s0)]
  unfold kernelRun0_B
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_B2 (hc0 : ¬cond0_0 i) (hc1 : cond0_1 i) (s0 : Vec Ideal S1x2048 .f32) :
    out0_B_7 c i a1 h1 a2 h2 a3 h3 a4 h4 a5 h5 a6 h6 a7 h7 a8 h8 hc0 hc1 d w x g res s0 = addf s0 (k0_pay5 (F := Ideal) d w x) := by
  unfold out0_B_7
  rw [View.read_writes_eq_canon _ _ _ (cover0_B_7 c i a1 h1 a2 h2 a3 h3 a4 h4 a5 h5 a6 h6 a7 h7 a8 h8 hc0 hc1 d w x g res s0)]
  unfold kernelRun0_B
  dsimp only
  sl_unfold_words
  rw [View.canon_unit_zero zero2]
  unfold k0_pay1
  simp only [View.readAt_eq_ld, h1.read_unread, h2.read_unread, h3.read_unread, h4.read_unread, h5.read_unread, h8.read_unread, View.ld_unit_zero (S := S1x2048) zero2, View.ld_unit_zero (S := S256x2048) zero2, View.ld_unit_zero (S := S8x1x256x2048) zero4, shapeCast_self] <;> rfl

end

theorem idx_facts : ∀ t : Fin cfg0.N, win0_0.index t (0 : Fin 2) = t.val ∧ win0_0.index t (1 : Fin 2) = 0 ∧ win0_2.index t (0 : Fin 2) = t.val ∧ win0_2.index t (1 : Fin 2) = 0 ∧ win0_4.index t (0 : Fin 2) = t.val ∧ win0_4.index t (1 : Fin 2) = 0 ∧ win0_5.index t (0 : Fin 2) = t.val ∧ win0_5.index t (1 : Fin 2) = 0 ∧ win0_6.index t (0 : Fin 2) = t.val ∧ win0_6.index t (1 : Fin 2) = 0 :=
  (by decide +kernel : ∀ t : Fin grid0.N, _)

/-- Every place of a whole array is at a row of some block. -/
theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem one_row (i : S1x2048.Idx) : ∃ l : Fin 2048, i = ix2 (0 : Fin 1) l :=
  ⟨i 1, funext fun a => Fin.ext (match a with | ⟨0, _⟩ => by have h : (i 0).val < 1 := (i 0).isLt; show (i 0).val = 0; omega | ⟨1, _⟩ => rfl)⟩

theorem emb0 (t : Fin cfg0.N) (k : Fin 256) (l : Fin 2048) : ((cfg0.win 0).blk t).view.emb (ix2 k l) = ix2 (rowAt t.val k) l := by
  have F := idx_facts t
  have hN : t.val < 32 := t.isLt
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem emb2 (t : Fin cfg0.N) (k : Fin 256) (l : Fin 2048) : ((cfg0.win 2).blk t).view.emb (ix2 k l) = ix2 (rowAt t.val k) l := by
  have F := idx_facts t
  have hN : t.val < 32 := t.isLt
  funext a; apply Fin.ext
  match a with
  | ⟨0, _⟩ => show win0_2.index t (0 : Fin 2) * 256 + 1 * k.val = (t.val * 256 + k.val) % 8192; omega
  | ⟨1, _⟩ => show win0_2.index t (1 : Fin 2) * 2048 + 1 * l.val = l.val; omega

theorem emb4 (t : Fin cfg0.N) (k : Fin 256) (l : Fin 2048) : ((cfg0.win 4).blk t).view.emb (ix2 k l) = ix2 (rowAt t.val k) l := by
  have F := idx_facts t
  have hN : t.val < 32 := t.isLt
  funext a; apply Fin.ext
  match a with
  | ⟨0, _⟩ => show win0_4.index t (0 : Fin 2) * 256 + 1 * k.val = (t.val * 256 + k.val) % 8192; omega
  | ⟨1, _⟩ => show win0_4.index t (1 : Fin 2) * 2048 + 1 * l.val = l.val; omega

theorem emb5 (t : Fin cfg0.N) (k : Fin 256) (l : Fin 2048) : ((cfg0.win 5).blk t).view.emb (ix2 k l) = ix2 (rowAt t.val k) l := by
  have F := idx_facts t
  have hN : t.val < 32 := t.isLt
  funext a; apply Fin.ext
  match a with
  | ⟨0, _⟩ => show win0_5.index t (0 : Fin 2) * 256 + 1 * k.val = (t.val * 256 + k.val) % 8192; omega
  | ⟨1, _⟩ => show win0_5.index t (1 : Fin 2) * 2048 + 1 * l.val = l.val; omega

theorem emb6 (t : Fin cfg0.N) (k : Fin 256) (l : Fin 2048) : ((cfg0.win 6).blk t).view.emb (ix2 k l) = ix2 (rowAt t.val k) l := by
  have F := idx_facts t
  have hN : t.val < 32 := t.isLt
  funext a; apply Fin.ext
  match a with
  | ⟨0, _⟩ => show win0_6.index t (0 : Fin 2) * 256 + 1 * k.val = (t.val * 256 + k.val) % 8192; omega
  | ⟨1, _⟩ => show win0_6.index t (1 : Fin 2) * 2048 + 1 * l.val = l.val; omega

theorem emb1 (t : Fin cfg0.N) (y : S8x1x256x2048.Idx) : ((cfg0.win 1).blk t).view.emb y = y := by
  have h : ∀ t : Fin cfg0.N, win0_1.index t (0 : Fin 4) = 0 ∧ win0_1.index t (1 : Fin 4) = 0 ∧ win0_1.index t (2 : Fin 4) = 0 ∧ win0_1.index t (3 : Fin 4) = 0 := (by decide +kernel : ∀ t : Fin grid0.N, _)
  have F := h t
  funext a; apply Fin.ext
  match a with
  | ⟨0, _⟩ => show win0_1.index t (0 : Fin 4) * 8 + 1 * (y 0).val = (y 0).val; omega
  | ⟨1, _⟩ => show win0_1.index t (1 : Fin 4) * 1 + 1 * (y 1).val = (y 1).val; omega
  | ⟨2, _⟩ => show win0_1.index t (2 : Fin 4) * 256 + 1 * (y 2).val = (y 2).val; omega
  | ⟨3, _⟩ => show win0_1.index t (3 : Fin 4) * 2048 + 1 * (y 3).val = (y 3).val; omega

theorem emb3 (t : Fin cfg0.N) (y : S1x2048.Idx) : ((cfg0.win 3).blk t).view.emb y = y := by
  have h : ∀ t : Fin cfg0.N, win0_3.index t (0 : Fin 2) = 0 ∧ win0_3.index t (1 : Fin 2) = 0 := (by decide +kernel : ∀ t : Fin grid0.N, _)
  obtain ⟨f0, f1⟩ := h t
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem emb7 (t : Fin cfg0.N) (y : S1x2048.Idx) : ((cfg0.win 7).blk t).view.emb y = y := by
  have h : ∀ t : Fin cfg0.N, win0_7.index t (0 : Fin 2) = 0 ∧ win0_7.index t (1 : Fin 2) = 0 := (by decide +kernel : ∀ t : Fin grid0.N, _)
  obtain ⟨f0, f1⟩ := h t
  funext a; apply Fin.ext
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem last : 31 < cfg0.N := by show 31 < 32; omega

variable (m : (ℓ : Loc nD τ sig) → Buf (Elt Ideal) ℓ)

abbrev dA (c : Dev nD) : Vec Ideal S8192x2048 .bf16 := m (c.tc.loc main_arg0)
abbrev wA (c : Dev nD) : Vec Ideal S8x1x256x2048 .bf16 := m (c.tc.loc main_arg1)
abbrev xA (c : Dev nD) : Vec Ideal S8192x2048 .f32 := m (c.tc.loc main_arg2)
abbrev gA (c : Dev nD) : Vec Ideal S1x2048 .f32 := m (c.tc.loc main_arg3)
abbrev resA (c : Dev nD) : Vec Ideal S8192x2048 .f32 := m (c.tc.loc main_arg4)

theorem block0 (c : Dev nD) (t : Fin cfg0.N) (k : Fin 256) (l : Fin 2048) : iblk m c 0 t (ix2 k l) = dA m c (ix2 (rowAt t.val k) l) :=
  congrArg (dA m c) (emb0 t k l)

theorem block1 (c : Dev nD) (t : Fin cfg0.N) : iblk m c 1 t = wA m c :=
  funext fun y => congrArg (wA m c) (emb1 t y)

theorem block2 (c : Dev nD) (t : Fin cfg0.N) (k : Fin 256) (l : Fin 2048) : iblk m c 2 t (ix2 k l) = xA m c (ix2 (rowAt t.val k) l) :=
  congrArg (xA m c) (emb2 t k l)

theorem block3 (c : Dev nD) (t : Fin cfg0.N) : iblk m c 3 t = gA m c :=
  funext fun y => congrArg (gA m c) (emb3 t y)

theorem block4 (c : Dev nD) (t : Fin cfg0.N) (k : Fin 256) (l : Fin 2048) : iblk m c 4 t (ix2 k l) = resA m c (ix2 (rowAt t.val k) l) :=
  congrArg (resA m c) (emb4 t k l)

theorem block_ct (c : Dev nD) (t : Fin cfg0.N) (k : Fin 256) : ctBlock (iblk m c 0 t) (iblk m c 1 t) k = ct (dA m c) (wA m c) (rowAt t.val k) := by
  funext l
  unfold ctBlock ct
  simp only [block0, block1]

theorem point0 (c : Dev nD) (t : Fin cfg0.N) (k : Fin 256) (l : Fin 2048) : (k0_pay6 (F := Ideal) (iblk m c 0 t) (iblk m c 1 t) (iblk m c 2 t) (iblk m c 3 t) (iblk m c 4 t)) (ix2 k l) = total (dA m c) (wA m c) (xA m c) (gA m c) (resA m c) (ix2 (rowAt t.val k) l) := by
  rw [block3, block_total, block_ct, block4]
  simp only [block2]
  rfl

theorem point1 (c : Dev nD) (t : Fin cfg0.N) (k : Fin 256) (l : Fin 2048) : (k0_pay7 (F := Ideal) (iblk m c 0 t) (iblk m c 1 t) (iblk m c 2 t) (iblk m c 3 t) (iblk m c 4 t)) (ix2 k l) = total (dA m c) (wA m c) (xA m c) (gA m c) (resA m c) (ix2 (rowAt t.val k) l) := by
  exact (rounded _ _ _ _ _ _).trans (point0 m c t k l)

theorem point2 (c : Dev nD) (t : Fin cfg0.N) (l : Fin 2048) : (k0_pay5 (F := Ideal) (iblk m c 0 t) (iblk m c 1 t) (iblk m c 2 t)) (ix2 0 l) = part (fun r => gain (ct (dA m c) (wA m c) r) (fun l => (xA m c) (ix2 r l)) l) t.val := by
  rw [block_gains]
  simp only [block_ct, block2]
  rfl

theorem after0 (c : Dev nD) (t : Fin cfg0.N) : (outsAt0 m c t.val t.isLt).1 = k0_pay6 (F := Ideal) (iblk m c 0 t) (iblk m c 1 t) (iblk m c 2 t) (iblk m c 3 t) (iblk m c 4 t) := by
  have hN : t.val < 32 := t.isLt
  by_cases h0 : t.val % 32 = 0
  · have h1 : ¬1 ≤ t.val := by omega
    rw [outsAt0_A m c t h0 h1]
    dsimp only
    rw [out_A0]
  · have h1 : 1 ≤ t.val := by omega
    rw [outsAt0_B m c t h0 h1]
    dsimp only
    rw [out_B0]

theorem array0 (c : Dev nD) : (dats m 0 c).arrAt 5 cfg0.N = total (dA m c) (wA m c) (xA m c) (gA m c) (resA m c) := by
  funext i
  obtain ⟨t, k, l, rfl⟩ := places i
  refine Eq.trans (congrArg _ (emb5 t k l).symm) ((congrFun (Value.blocks5 m c t (flush0_5 t)) (ix2 k l)).trans ?_)
  rw [Value.flushed5, after0]
  exact point0 m c t k l

theorem after1 (c : Dev nD) (t : Fin cfg0.N) : (outsAt0 m c t.val t.isLt).2.1 = k0_pay7 (F := Ideal) (iblk m c 0 t) (iblk m c 1 t) (iblk m c 2 t) (iblk m c 3 t) (iblk m c 4 t) := by
  have hN : t.val < 32 := t.isLt
  by_cases h0 : t.val % 32 = 0
  · have h1 : ¬1 ≤ t.val := by omega
    rw [outsAt0_A m c t h0 h1]
    dsimp only
    rw [out_A1]
  · have h1 : 1 ≤ t.val := by omega
    rw [outsAt0_B m c t h0 h1]
    dsimp only
    rw [out_B1]

theorem array1 (c : Dev nD) : (dats m 0 c).arrAt 6 cfg0.N = total (dA m c) (wA m c) (xA m c) (gA m c) (resA m c) := by
  funext i
  obtain ⟨t, k, l, rfl⟩ := places i
  refine Eq.trans (congrArg _ (emb6 t k l).symm) ((congrFun (Value.blocks6 m c t (flush0_6 t)) (ix2 k l)).trans ?_)
  rw [Value.flushed6, after1]
  exact point1 m c t k l

/-- After a point the row holds the sums of the blocks so far. -/
theorem sum2 (c : Dev nD) : ∀ (n : ℕ) (h : n < cfg0.N) (l : Fin 2048), (outsAt0 m c n h).2.2 (ix2 0 l) = ∑ s ∈ Finset.range (n + 1), part (fun r => gain (ct (dA m c) (wA m c) r) (fun l => (xA m c) (ix2 r l)) l) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1]
    dsimp only
    rw [out_A2, zero_add, Finset.sum_range_one]
    exact point2 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1]
    dsimp only
    rw [out_B2, Finset.sum_range_succ, ← ih (by omega) l]
    exact congrArg₂ (· + ·) rfl (point2 m c ⟨n + 1, h⟩ l)

theorem last7 (i : S1x2048.Idx) : i ∈ ((cfg0.win 7).blk ⟨31, last⟩).view.set :=
  Finset.mem_map.mpr ⟨i, Finset.mem_univ _, emb7 ⟨31, last⟩ i⟩

theorem read7 (t : Fin cfg0.N) (G : S1x2048.Idx → EReal) (y : ((cfg0.win 7).xblock (cfg0.grid.coords t)).Idx) :
    ((cfg0.win 7).blk t).view.read (Elt Ideal) G y = G y := congrArg G (emb7 t y)

theorem array2 (c : Dev nD) : (dats m 0 c).arrAt 7 cfg0.N = gains (dA m c) (wA m c) (xA m c) := by
  refine (dats m 0 c).arrAt_eq_of_cover 7 _ (fun t hf => ?_) fun i => ⟨⟨31, last⟩, (flush0_7 _).mpr rfl, last7 i⟩
  · have hN : t.val < 32 := t.isLt
    have h31 : t.val % 32 = 31 := (flush0_7 t).mp hf
    rw [Value.flushed7]
    funext y
    refine Eq.trans ?_ (read7 t _ y).symm
    obtain ⟨l, rfl⟩ := one_row y
    refine (sum2 m c t.val t.isLt l).trans ?_
    rw [show t.val + 1 = 32 by omega, parts_sum]
    rfl

/-- What the precondition says of the arguments. -/
theorem finite_of_pre [Cert.Pre_finite_dx.Facts] (d : Vec Ideal S8192x2048 .bf16) (w : Vec Ideal S8x1x256x2048 .bf16) (x : Vec Ideal S8192x2048 .f32) (g : Vec Ideal S1x2048 .f32) (res : Vec Ideal S8192x2048 .f32)
    (h : Cert.Pre_finite_dx.fn (F := Ideal) d w x g res = fun _ => 1#1) :
    (∀ i, IsReal (d i)) ∧ (∀ i, IsReal (w i)) ∧ (∀ i, IsReal (x i)) ∧ (∀ i, IsReal (g i)) ∧ (∀ i, IsReal (res i)) := by
  have h0 := congrFun h (fun a => a.elim0)
  unfold Cert.Pre_finite_dx.fn Cert.Pre_finite_dx.fn_part1 at h0
  obtain ⟨h1, p4⟩ := IntOp.andi_eq_one.1 h0
  obtain ⟨h2, p3⟩ := IntOp.andi_eq_one.1 h1
  obtain ⟨h3, p2⟩ := IntOp.andi_eq_one.1 h2
  obtain ⟨p0, p1⟩ := IntOp.andi_eq_one.1 h3
  exact ⟨real_at _ _ (fun _ => bf16_inf) _ _ _ _ p0, real_at _ _ (fun _ => bf16_inf) _ _ _ _ p1, real_at _ _ (fun _ => f32_inf) _ _ _ _ p2, real_at _ _ (fun _ => f32_inf) _ _ _ _ p3, real_at _ _ (fun _ => f32_inf) _ _ _ _ p4⟩

theorem real_ct (d : Vec Ideal S8192x2048 .bf16) (w : Vec Ideal S8x1x256x2048 .bf16) (hd : ∀ i, IsReal (d i)) (hw : ∀ i, IsReal (w i)) (r : Fin 8192) (l : Fin 2048) : IsReal (ct d w r l) := by
  unfold ct
  exact isReal_sum _ _ fun k _ => (hd _).mul (hw _)

open DxRefIdeal.Read in
/-- The reference's gradient is the kernel's: the derivative of the norm, put together. -/
theorem reference_total (d : Vec Ideal S8192x2048 .bf16) (w : Vec Ideal S8x1x256x2048 .bf16) (x : Vec Ideal S8192x2048 .f32) (g : Vec Ideal S1x2048 .f32) (res : Vec Ideal S8192x2048 .f32) (hd : ∀ r l, IsReal (ct d w r l)) (hx : ∀ i, IsReal (x i)) (hg : ∀ i, IsReal (g i)) :
    val_main_v43 (F := Ideal) d w x g res = total d w x g res := by
  funext j
  obtain ⟨r, l, rfl⟩ : ∃ (r : Fin 8192) (l : Fin 2048), j = ix2 r l := ⟨j 0, j 1, eq_ix2 j⟩
  refine Eq.trans (b := res (ix2 r l) + (ct d w r l * g (ix2 0 l) * inv (fun l => x (ix2 r l))
    + x (ix2 r l) * coef (ct d w r) (fun l => x (ix2 r l)) (fun l => g (ix2 0 l))
    + coef (ct d w r) (fun l => x (ix2 r l)) (fun l => g (ix2 0 l)) * x (ix2 r l))) ?_ ?_
  · pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v16, val_main_v20, val_main_v21, val_main_v25, val_main_v26, val_main_v28, val_main_cst_5, val_main_v29, val_main_v30, val_main_v31, val_main_v32, val_main_v33, val_main_cst_6, val_main_v34, val_main_v35, val_main_cst_7, val_main_v36, val_main_v37, val_main_v38, val_main_v39, val_main_v40, val_main_v41, val_main_v43, ct, Cert.Norm.inv, coef]
    simp only [Finset.univ_unique, Finset.sum_singleton]
  · exact congrArg (res (ix2 r l) + ·) (back_eq (ct d w r) (fun l => x (ix2 r l)) (fun l => g (ix2 0 l)) (hd r) (fun _ => hx _) (fun _ => hg _) l)

open DxRefIdeal.Read in
theorem reference_rounded (d : Vec Ideal S8192x2048 .bf16) (w : Vec Ideal S8x1x256x2048 .bf16) (x : Vec Ideal S8192x2048 .f32) (g : Vec Ideal S1x2048 .f32) (res : Vec Ideal S8192x2048 .f32) : val_main_v44 (F := Ideal) d w x g res = val_main_v43 (F := Ideal) d w x g res := by
  funext j
  pointwise [val_main_v44]

open DxRefIdeal.Read in
theorem reference_gains (d : Vec Ideal S8192x2048 .bf16) (w : Vec Ideal S8x1x256x2048 .bf16) (x : Vec Ideal S8192x2048 .f32) : val_main_v42 (F := Ideal) d w x = gains d w x := by
  funext j
  obtain ⟨z, l, rfl⟩ : ∃ (z : Fin 1) (l : Fin 2048), j = ix2 z l := ⟨j 0, j 1, eq_ix2 j⟩
  refine Eq.trans (b := ∑ r : Fin 8192, x (ix2 r l) * inv (fun l => x (ix2 r l)) * ct d w r l) ?_ ?_
  · pointwise [val_main_v0, val_main_v1, val_main_v3, val_main_cst, val_main_v4, val_main_v5, val_main_cst_0, val_main_v6, val_main_v7, val_main_cst_1, val_main_v8, val_main_v9, val_main_v10, val_main_v14, val_main_v15, val_main_v20, val_main_v21, val_main_v22, val_main_cst_3, val_main_v23, val_main_v24, val_main_cst_4, val_main_v27, val_main_v42, ct, Cert.Norm.inv]
    simp only [Finset.univ_unique, Finset.sum_singleton]
  · unfold gains
    refine Finset.sum_congr rfl fun r _ => ?_
    unfold gain
    exact mul_comm _ _

/-- The kernel and the reference hold the same arrays. -/
theorem algebraic : Cert.algebraic_DxIdeal_DxRefIdeal_pre_finite_dx := by
  intro m g m' g' hpre hagree
  refine ⟨fun c => total (dA m c) (wA m c) (xA m c) (gA m c) (resA m c), fun c => total (dA m c) (wA m c) (xA m c) (gA m c) (resA m c), fun c => gains (dA m c) (wA m c) (xA m c),
    (θ_run _ _ _).mono (fun r h c => ⟨(h c).1.trans (array0 m c), (h c).2.1.trans (array1 m c), (h c).2.2.1.trans (array2 m c), (h c).2.2.2⟩) (Value.run_blocks m g),
    (θ_run _ _ _).mono (fun r h c => ⟨((h c).1.trans (DxRefIdeal.Read.val_main_v43_eq ..)).trans ?_, ((h c).2.1.trans (DxRefIdeal.Read.val_main_v44_eq ..)).trans ?_, ((h c).2.2.1.trans (DxRefIdeal.Read.val_main_v42_eq ..)).trans ?_, (h c).2.2.2⟩) (DxRefIdeal.Value.run m' g')⟩
  · obtain ⟨p0, p1, p2, p3, p4⟩ := finite_of_pre _ _ _ _ _ (hpre c)
    rw [(hagree c).1, (hagree c).2.1, (hagree c).2.2.1, (hagree c).2.2.2.1, (hagree c).2.2.2.2]
    exact reference_total _ _ _ _ _ (real_ct _ _ p0 p1) p2 p3
  · obtain ⟨p0, p1, p2, p3, p4⟩ := finite_of_pre _ _ _ _ _ (hpre c)
    rw [(hagree c).1, (hagree c).2.1, (hagree c).2.2.1, (hagree c).2.2.2.1, (hagree c).2.2.2.2, reference_rounded]
    exact reference_total _ _ _ _ _ (real_ct _ _ p0 p1) p2 p3
  · obtain ⟨p0, p1, p2, p3, p4⟩ := finite_of_pre _ _ _ _ _ (hpre c)
    rw [(hagree c).1, (hagree c).2.1, (hagree c).2.2.1]
    exact reference_gains _ _ _

end Cert.DxValue

end
-- ==== Proof.Gate.lean ====
/- The gated state: the gate's product and its logistic function, the state with the gated projection added, and its norm; what the kernel's three arrays hold, and that they are the reference's. -/
module

public import proofs.«01_k».proof.Defs
public import proofs.«01_k».proof.Proof.Gen.GateIdeal.Value
public import proofs.«01_k».proof.Proof.Gen.GateRefIdeal.Read
public import proofs.«01_k».proof.Proof.Norm
public import proofs.«01_k».proof.Proof.Zero

@[expose] public section

noncomputable section

namespace Cert.GateValue

open Cert.GateIdeal Cert.GateIdeal.Gen Idealize.ShloMosaic Idealize.ShloMosaic.TcCoe Idealize.SL.Sem
open Cert.Norm

/-- The gate at a row and a column: the logistic function of a row against a column of the weights, whose 2048 rows are stored as eight groups of 256, plus the bias. -/
def gate (h : Vec Ideal S8192x2048 .bf16) (w : Vec Ideal S8x1x256x2048 .bf16) (b : Vec Ideal S1x2048 .f32) (r : Fin 8192) (l : Fin 2048) : EReal :=
  Ideal.div 1 (1 + Ideal.exp (-((∑ k : Fin 2048, h (ix2 r k) * w (ix4 ⟨k.val / 256, by omega⟩ (0 : Fin 1) ⟨k.val % 256, by omega⟩ l)) + b (ix2 0 l))))

/-- The next state at a row and a column. -/
def next (h : Vec Ideal S8192x2048 .bf16) (w : Vec Ideal S8x1x256x2048 .bf16) (x : Vec Ideal S8192x2048 .f32) (b : Vec Ideal S1x2048 .f32) (p : Vec Ideal S8192x2048 .bf16) (r : Fin 8192) (l : Fin 2048) : EReal :=
  x (ix2 r l) + gate h w b r l * p (ix2 r l)

/-- Its norm at a row and a column. -/
def normed (h : Vec Ideal S8192x2048 .bf16) (w : Vec Ideal S8x1x256x2048 .bf16) (x : Vec Ideal S8192x2048 .f32) (b : Vec Ideal S1x2048 .f32) (p : Vec Ideal S8192x2048 .bf16) (g : Vec Ideal S1x2048 .f32) (r : Fin 8192) (l : Fin 2048) : EReal :=
  next h w x b p r l * Cert.Norm.inv (next h w x b p r) * g (ix2 0 l)

/-- The gate in one block of rows: the logistic function of a row against a column of the weights, whose 2048 rows are stored as eight groups of 256, plus the bias. -/
def gateBlock (h : Vec Ideal S256x2048 .bf16) (w : Vec Ideal S8x1x256x2048 .bf16) (b : Vec Ideal S1x2048 .f32) (r : Fin 256) (l : Fin 2048) : EReal :=
  Ideal.div 1 (1 + Ideal.exp (-((∑ k : Fin 2048, h (ix2 r k) * w (ix4 ⟨k.val / 256, by omega⟩ (0 : Fin 1) ⟨k.val % 256, by omega⟩ l)) + b (ix2 0 l))))

/-- The next state in one block of rows. -/
def nextBlock (h : Vec Ideal S256x2048 .bf16) (w : Vec Ideal S8x1x256x2048 .bf16) (x : Vec Ideal S256x2048 .f32) (b : Vec Ideal S1x2048 .f32) (p : Vec Ideal S256x2048 .bf16) (r : Fin 256) (l : Fin 2048) : EReal :=
  x (ix2 r l) + gateBlock h w b r l * p (ix2 r l)

/-- Its norm in one block of rows. -/
def normedBlock (h : Vec Ideal S256x2048 .bf16) (w : Vec Ideal S8x1x256x2048 .bf16) (x : Vec Ideal S256x2048 .f32) (b : Vec Ideal S1x2048 .f32) (p : Vec Ideal S256x2048 .bf16) (g : Vec Ideal S1x2048 .f32) (r : Fin 256) (l : Fin 2048) : EReal :=
  nextBlock h w x b p r l * Cert.Norm.inv (nextBlock h w x b p r) * g (ix2 0 l)

theorem word_one : Ideal.ofBits .f32 1065353216#32 = 1 := by
  simp [Ideal.ofBits, Ideal.ieee]
  try norm_cast
  try norm_num

theorem gate_apply (h : Vec Ideal S256x2048 .bf16) (w : Vec Ideal S8x1x256x2048 .bf16) (b : Vec Ideal S1x2048 .f32) (r : Fin 256) (l : Fin 2048) : k0_pay2 (F := Ideal) h w b (ix2 r l) = gateBlock h w b r l := by
  pointwise [k0_pay2]
  try rw [zero_sub]
  try simp only [word_one]
  rfl

theorem gate_stored (h : Vec Ideal S256x2048 .bf16) (w : Vec Ideal S8x1x256x2048 .bf16) (b : Vec Ideal S1x2048 .f32) (r : Fin 256) (l : Fin 2048) : k0_pay4 (F := Ideal) h w b (ix2 r l) = gateBlock h w b r l := by
  rw [← gate_apply]
  pointwise [k0_pay4]

theorem next_apply (h : Vec Ideal S256x2048 .bf16) (w : Vec Ideal S8x1x256x2048 .bf16) (x : Vec Ideal S256x2048 .f32) (b : Vec Ideal S1x2048 .f32) (p : Vec Ideal S256x2048 .bf16) (r : Fin 256) (l : Fin 2048) : k0_pay3 (F := Ideal) h w b x p (ix2 r l) = nextBlock h w x b p r l := by
  unfold nextBlock
  rw [← gate_apply]
  pointwise [k0_pay3]

theorem inv_apply (h : Vec Ideal S256x2048 .bf16) (w : Vec Ideal S8x1x256x2048 .bf16) (x : Vec Ideal S256x2048 .f32) (b : Vec Ideal S1x2048 .f32) (p : Vec Ideal S256x2048 .bf16) (r : Fin 256) (z : Fin 1) : k0_pay5 (F := Ideal) h w b x p (ix2 r z) = Cert.Norm.inv (nextBlock h w x b p r) := by
  unfold Cert.Norm.inv
  simp only [← next_apply]
  pointwise [k0_pay5]

theorem normed_apply (h : Vec Ideal S256x2048 .bf16) (w : Vec Ideal S8x1x256x2048 .bf16) (x : Vec Ideal S256x2048 .f32) (b : Vec Ideal S1x2048 .f32) (p : Vec Ideal S256x2048 .bf16) (g : Vec Ideal S1x2048 .f32) (r : Fin 256) (l : Fin 2048) :
    k0_pay1 (F := Ideal) (k0_pay3 (F := Ideal) h w b x p) g (k0_pay5 (F := Ideal) h w b x p) (ix2 r l) = normedBlock h w x b p g r l := by
  unfold normedBlock
  rw [← next_apply, ← inv_apply h w x b p r 0]
  pointwise [k0_pay1]

theorem out6_eq (h : Vec Ideal S256x2048 .bf16) (w : Vec Ideal S8x1x256x2048 .bf16) (x : Vec Ideal S256x2048 .f32) (b : Vec Ideal S1x2048 .f32) (p : Vec Ideal S256x2048 .bf16) (g : Vec Ideal S1x2048 .f32) : out0_6 h w x b p g = k0_pay3 (F := Ideal) h w b x p := by
  unfold out0_6
  rw [View.canon_unit_zero zero2]
  simp only [View.ld_unit_zero (S := S256x2048) zero2, View.ld_unit_zero (S := S1x2048) zero2, View.ld_unit_zero (S := S8x1x256x2048) zero4]

theorem out7_eq (h : Vec Ideal S256x2048 .bf16) (w : Vec Ideal S8x1x256x2048 .bf16) (x : Vec Ideal S256x2048 .f32) (b : Vec Ideal S1x2048 .f32) (p : Vec Ideal S256x2048 .bf16) (g : Vec Ideal S1x2048 .f32) : out0_7 h w x b p g = k0_pay4 (F := Ideal) h w b := by
  unfold out0_7
  rw [View.canon_unit_zero zero2]
  simp only [View.ld_unit_zero (S := S256x2048) zero2, View.ld_unit_zero (S := S1x2048) zero2, View.ld_unit_zero (S := S8x1x256x2048) zero4]

theorem out8_eq (h : Vec Ideal S256x2048 .bf16) (w : Vec Ideal S8x1x256x2048 .bf16) (x : Vec Ideal S256x2048 .f32) (b : Vec Ideal S1x2048 .f32) (p : Vec Ideal S256x2048 .bf16) (g : Vec Ideal S1x2048 .f32) : out0_8 h w x b p g = k0_pay1 (F := Ideal) (k0_pay3 (F := Ideal) h w b x p) g (k0_pay5 (F := Ideal) h w b x p) := by
  unfold out0_8
  rw [View.canon_unit_zero zero2]
  simp only [View.ld_unit_zero (S := S256x2048) zero2, View.ld_unit_zero (S := S1x2048) zero2, View.ld_unit_zero (S := S8x1x256x2048) zero4]

theorem idx_facts : ∀ t : Fin cfg0.N, win0_0.index t (0 : Fin 2) = t.val
    ∧ win0_0.index t (1 : Fin 2) = 0
    ∧ win0_1.index t (0 : Fin 4) = 0
    ∧ win0_1.index t (1 : Fin 4) = 0
    ∧ win0_1.index t (2 : Fin 4) = 0
    ∧ win0_1.index t (3 : Fin 4) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

theorem flush : ∀ t : Fin cfg0.N, win0_6.flush t = true ∧ win0_7.flush t = true ∧ win0_8.flush t = true :=
  (by decide +kernel : ∀ t : Fin grid0.N, _)

theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem emb (t : Fin cfg0.N) (k : Fin 256) (l : Fin 2048) : ((cfg0.win 6).blk t).view.emb (ix2 k l) = (ix2 (rowAt t.val k) l : S8192x2048.Idx) := by
  have F := idx_facts t
  have hN : t.val < 32 := t.isLt
  funext a; apply Fin.ext
  match a with
  | ⟨0, _⟩ => show win0_6.index t (0 : Fin 2) * 256 + 1 * k.val = (t.val * 256 + k.val) % 8192; omega
  | ⟨1, _⟩ => show win0_6.index t (1 : Fin 2) * 2048 + 1 * l.val = l.val; omega

variable (m : (ℓ : Loc nD τ sig) → Buf (Elt Ideal) ℓ)

theorem h_block (c : Dev nD) (t : Fin cfg0.N) (k : Fin 256) (l : Fin 2048) : iblk m c 0 t (ix2 k l) = (m (c.tc.loc main_arg0)) (ix2 (rowAt t.val k) l) :=
  congrArg (m (c.tc.loc main_arg0)) (emb t k l)

theorem w_block (c : Dev nD) (t : Fin cfg0.N) (i : S8x1x256x2048.Idx) : iblk m c 1 t i = (m (c.tc.loc main_arg1)) i := by
  have F := idx_facts t
  show m (c.tc.loc main_arg1) (((cfg0.win 1).blk t).view.emb _) = _
  congr 1
  funext a; apply Fin.ext
  match a with
  | ⟨0, _⟩ => show win0_1.index t (0 : Fin 4) * 8 + 1 * (i 0).val = (i 0).val; omega
  | ⟨1, _⟩ => show win0_1.index t (1 : Fin 4) * 1 + 1 * (i 1).val = (i 1).val; omega
  | ⟨2, _⟩ => show win0_1.index t (2 : Fin 4) * 256 + 1 * (i 2).val = (i 2).val; omega
  | ⟨3, _⟩ => show win0_1.index t (3 : Fin 4) * 2048 + 1 * (i 3).val = (i 3).val; omega

theorem x_block (c : Dev nD) (t : Fin cfg0.N) (k : Fin 256) (l : Fin 2048) : iblk m c 2 t (ix2 k l) = (m (c.tc.loc main_arg2)) (ix2 (rowAt t.val k) l) :=
  congrArg (m (c.tc.loc main_arg2)) (emb t k l)

theorem b_block (c : Dev nD) (t : Fin cfg0.N) (z : Fin 1) (l : Fin 2048) : iblk m c 3 t (ix2 z l) = (m (c.tc.loc main_arg3)) (ix2 z l) := by
  have F := idx_facts t
  show m (c.tc.loc main_arg3) (((cfg0.win 3).blk t).view.emb _) = _
  congr 1
  funext a; apply Fin.ext
  match a with
  | ⟨0, _⟩ => show win0_3.index t (0 : Fin 2) * 1 + 1 * z.val = z.val; omega
  | ⟨1, _⟩ => show win0_3.index t (1 : Fin 2) * 2048 + 1 * l.val = l.val; omega

theorem p_block (c : Dev nD) (t : Fin cfg0.N) (k : Fin 256) (l : Fin 2048) : iblk m c 4 t (ix2 k l) = (m (c.tc.loc main_arg4)) (ix2 (rowAt t.val k) l) :=
  congrArg (m (c.tc.loc main_arg4)) (emb t k l)

theorem g_block (c : Dev nD) (t : Fin cfg0.N) (z : Fin 1) (l : Fin 2048) : iblk m c 5 t (ix2 z l) = (m (c.tc.loc main_arg5)) (ix2 z l) := by
  have F := idx_facts t
  show m (c.tc.loc main_arg5) (((cfg0.win 5).blk t).view.emb _) = _
  congr 1
  funext a; apply Fin.ext
  match a with
  | ⟨0, _⟩ => show win0_5.index t (0 : Fin 2) * 1 + 1 * z.val = z.val; omega
  | ⟨1, _⟩ => show win0_5.index t (1 : Fin 2) * 2048 + 1 * l.val = l.val; omega

theorem gate_point (c : Dev nD) (t : Fin cfg0.N) (r : Fin 256) : gateBlock (iblk m c 0 t) (iblk m c 1 t) (iblk m c 3 t) r = gate (m (c.tc.loc main_arg0)) (m (c.tc.loc main_arg1)) (m (c.tc.loc main_arg3)) (rowAt t.val r) := by
  funext l
  unfold gateBlock gate
  simp only [h_block, w_block, b_block]

theorem next_point (c : Dev nD) (t : Fin cfg0.N) (r : Fin 256) : nextBlock (iblk m c 0 t) (iblk m c 1 t) (iblk m c 2 t) (iblk m c 3 t) (iblk m c 4 t) r = next (m (c.tc.loc main_arg0)) (m (c.tc.loc main_arg1)) (m (c.tc.loc main_arg2)) (m (c.tc.loc main_arg3)) (m (c.tc.loc main_arg4)) (rowAt t.val r) := by
  funext l
  unfold nextBlock next
  rw [gate_point, x_block, p_block]

theorem normed_point (c : Dev nD) (t : Fin cfg0.N) (r : Fin 256) : normedBlock (iblk m c 0 t) (iblk m c 1 t) (iblk m c 2 t) (iblk m c 3 t) (iblk m c 4 t) (iblk m c 5 t) r = normed (m (c.tc.loc main_arg0)) (m (c.tc.loc main_arg1)) (m (c.tc.loc main_arg2)) (m (c.tc.loc main_arg3)) (m (c.tc.loc main_arg4)) (m (c.tc.loc main_arg5)) (rowAt t.val r) := by
  funext l
  unfold normedBlock normed
  rw [next_point, g_block]

theorem array6_eq (c : Dev nD) : (dats m 0 c).arrAt 6 cfg0.N = fun i : S8192x2048.Idx => next (m (c.tc.loc main_arg0)) (m (c.tc.loc main_arg1)) (m (c.tc.loc main_arg2)) (m (c.tc.loc main_arg3)) (m (c.tc.loc main_arg4)) (i 0) (i 1) := by
  funext i
  obtain ⟨t, r, l, rfl⟩ := places i
  refine Eq.trans (congrArg _ (emb t r l).symm) ((congrFun (Value.blocks6 m c t (flush t).1) (ix2 r l)).trans ?_)
  rw [Value.flushed6, out6_eq]
  refine (next_apply _ _ _ _ _ r l).trans ?_
  rw [next_point]
  rfl

theorem array7_eq (c : Dev nD) : (dats m 0 c).arrAt 7 cfg0.N = fun i : S8192x2048.Idx => gate (m (c.tc.loc main_arg0)) (m (c.tc.loc main_arg1)) (m (c.tc.loc main_arg3)) (i 0) (i 1) := by
  funext i
  obtain ⟨t, r, l, rfl⟩ := places i
  refine Eq.trans (congrArg _ (emb t r l).symm) ((congrFun (Value.blocks7 m c t (flush t).2.1) (ix2 r l)).trans ?_)
  rw [Value.flushed7, out7_eq]
  refine (gate_stored _ _ _ r l).trans ?_
  rw [gate_point]
  rfl

theorem array8_eq (c : Dev nD) : (dats m 0 c).arrAt 8 cfg0.N = fun i : S8192x2048.Idx => normed (m (c.tc.loc main_arg0)) (m (c.tc.loc main_arg1)) (m (c.tc.loc main_arg2)) (m (c.tc.loc main_arg3)) (m (c.tc.loc main_arg4)) (m (c.tc.loc main_arg5)) (i 0) (i 1) := by
  funext i
  obtain ⟨t, r, l, rfl⟩ := places i
  refine Eq.trans (congrArg _ (emb t r l).symm) ((congrFun (Value.blocks8 m c t (flush t).2.2) (ix2 r l)).trans ?_)
  rw [Value.flushed8, out8_eq]
  refine (normed_apply _ _ _ _ _ _ r l).trans ?_
  rw [normed_point]
  rfl

open GateRefIdeal.Read in
theorem reference_gate (h : Vec Ideal S8192x2048 .bf16) (w : Vec Ideal S8x1x256x2048 .bf16) (b : Vec Ideal S1x2048 .f32) (r : Fin 8192) (l : Fin 2048) : val_main_v11 (F := Ideal) h w b (ix2 r l) = gate h w b r l := by
  pointwise [val_main_v0, val_main_v1, val_main_v2, val_main_v3, val_main_v4, val_main_v5, val_main_v6, val_main_v7, val_main_v8, val_main_v9, val_main_v10, val_main_v11, val_main_cst, val_main_cst_0]
  try simp only [word_one]
  rfl

open GateRefIdeal.Read in
theorem reference_stored (h : Vec Ideal S8192x2048 .bf16) (w : Vec Ideal S8x1x256x2048 .bf16) (b : Vec Ideal S1x2048 .f32) (r : Fin 8192) (l : Fin 2048) : val_main_v15 (F := Ideal) h w b (ix2 r l) = gate h w b r l := by
  rw [← reference_gate]
  pointwise [val_main_v15]

open GateRefIdeal.Read in
theorem reference_next (h : Vec Ideal S8192x2048 .bf16) (w : Vec Ideal S8x1x256x2048 .bf16) (x : Vec Ideal S8192x2048 .f32) (b : Vec Ideal S1x2048 .f32) (p : Vec Ideal S8192x2048 .bf16) (r : Fin 8192) (l : Fin 2048) : val_main_v14 (F := Ideal) h w x b p (ix2 r l) = next h w x b p r l := by
  unfold next
  rw [← reference_gate]
  pointwise [val_main_v14, val_main_v13, val_main_v12]

open GateRefIdeal.Read in
theorem reference_normed (h : Vec Ideal S8192x2048 .bf16) (w : Vec Ideal S8x1x256x2048 .bf16) (x : Vec Ideal S8192x2048 .f32) (b : Vec Ideal S1x2048 .f32) (p : Vec Ideal S8192x2048 .bf16) (g : Vec Ideal S1x2048 .f32) (r : Fin 8192) (l : Fin 2048) : val_main_v30 (F := Ideal) h w x b p g (ix2 r l) = normed h w x b p g r l := by
  unfold normed Cert.Norm.inv
  simp only [← reference_next]
  pointwise [val_main_v16, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3]

/-- The kernel and the reference hold the same three arrays. -/
theorem algebraic : Cert.algebraic_GateIdeal_GateRefIdeal := by
  intro m g m' g' _ hagree
  refine ⟨fun c => fun i : S8192x2048.Idx => next (m (c.tc.loc main_arg0)) (m (c.tc.loc main_arg1)) (m (c.tc.loc main_arg2)) (m (c.tc.loc main_arg3)) (m (c.tc.loc main_arg4)) (i 0) (i 1), fun c => fun i : S8192x2048.Idx => gate (m (c.tc.loc main_arg0)) (m (c.tc.loc main_arg1)) (m (c.tc.loc main_arg3)) (i 0) (i 1), fun c => fun i : S8192x2048.Idx => normed (m (c.tc.loc main_arg0)) (m (c.tc.loc main_arg1)) (m (c.tc.loc main_arg2)) (m (c.tc.loc main_arg3)) (m (c.tc.loc main_arg4)) (m (c.tc.loc main_arg5)) (i 0) (i 1),
    (θ_run _ _ _).mono (fun r h c => ⟨(h c).1.trans (array6_eq m c), (h c).2.1.trans (array7_eq m c), (h c).2.2.1.trans (array8_eq m c), (h c).2.2.2⟩) (Value.run_blocks m g),
    (θ_run _ _ _).mono (fun r h c => ⟨((h c).1.trans (GateRefIdeal.Read.val_main_v14_eq ..)).trans ?_, ((h c).2.1.trans (GateRefIdeal.Read.val_main_v15_eq ..)).trans ?_,
      ((h c).2.2.1.trans (GateRefIdeal.Read.val_main_v30_eq ..)).trans ?_, (h c).2.2.2⟩) (GateRefIdeal.Value.run m' g')⟩
  · rw [(hagree c).1, (hagree c).2.1, (hagree c).2.2.1, (hagree c).2.2.2.1, (hagree c).2.2.2.2.1]
    funext i
    obtain ⟨r, l, rfl⟩ : ∃ (r : Fin 8192) (l : Fin 2048), i = ix2 r l := ⟨i 0, i 1, eq_ix2 i⟩
    exact reference_next _ _ _ _ _ r l
  · rw [(hagree c).1, (hagree c).2.1, (hagree c).2.2.2.1]
    funext i
    obtain ⟨r, l, rfl⟩ : ∃ (r : Fin 8192) (l : Fin 2048), i = ix2 r l := ⟨i 0, i 1, eq_ix2 i⟩
    exact reference_stored _ _ _ r l
  · rw [(hagree c).1, (hagree c).2.1, (hagree c).2.2.1, (hagree c).2.2.2.1, (hagree c).2.2.2.2.1, (hagree c).2.2.2.2.2]
    funext i
    obtain ⟨r, l, rfl⟩ : ∃ (r : Fin 8192) (l : Fin 2048), i = ix2 r l := ⟨i 0, i 1, eq_ix2 i⟩
    exact reference_normed _ _ _ _ _ _ r l

end Cert.GateValue

end
-- ==== Proof.GradW.lean ====
/- The weight gradient of the gate's product, summed over four blocks of rows: what the kernel's array holds, and that it is the reference's gradient. -/
module

public import proofs.«01_k».proof.Defs
public import proofs.«01_k».proof.Proof.Gen.GradWIdeal.Value
public import proofs.«01_k».proof.Proof.Gen.GradWRefIdeal.Read
public import proofs.«01_k».proof.Proof.Zero

@[expose] public section

noncomputable section

namespace Cert.GradWValue

open Cert.GradWIdeal Cert.GradWIdeal.Gen Idealize.ShloMosaic Idealize.ShloMosaic.TcCoe Idealize.SL.Sem

/-- The gradient at an index: a column of the activations against a column of the gradient. -/
def gradient (a : Vec Ideal S8192x2048 .bf16) (d : Vec Ideal S8192x2048 .bf16) (i : S8x256x2048.Idx) : EReal :=
  ∑ k : Fin 8192, a (ix2 k ⟨(i 0).val * 256 + (i 1).val, by
      have : (i 0).val < 8 := (i 0).isLt; have : (i 1).val < 256 := (i 1).isLt; show _ < 2048; omega⟩) * d (ix2 k (i 2))

/-- The same over the rows of one block of 2048. -/
def part (a : Vec Ideal S8192x2048 .bf16) (d : Vec Ideal S8192x2048 .bf16) (s r q : ℕ) : EReal :=
  ∑ k : Fin 2048, a (ix2 ⟨(s * 2048 + k.val) % 8192, Nat.mod_lt _ (by decide)⟩ ⟨r % 2048, Nat.mod_lt _ (by decide)⟩)
    * d (ix2 ⟨(s * 2048 + k.val) % 8192, Nat.mod_lt _ (by decide)⟩ ⟨q % 2048, Nat.mod_lt _ (by decide)⟩)

/-- The four blocks' sums make the whole one. -/
theorem parts_sum (a : Vec Ideal S8192x2048 .bf16) (d : Vec Ideal S8192x2048 .bf16) (i : S8x256x2048.Idx) :
    ∑ s ∈ Finset.range 4, part a d s ((i 0).val * 256 + (i 1).val) (i 2).val = gradient a d i := by
  have h0 : (i 0).val < 8 := (i 0).isLt
  have h1 : (i 1).val < 256 := (i 1).isLt
  have h2 : (i 2).val < 2048 := (i 2).isLt
  unfold gradient
  rw [Fin.sum_univ_tiles 4 2048 (by decide), ← Fin.sum_univ_eq_sum_range (fun s => part a d s ((i 0).val * 256 + (i 1).val) (i 2).val) 4]
  refine Finset.sum_congr rfl fun s _ => Finset.sum_congr rfl fun k _ => ?_
  have e : (s.val * 2048 + k.val) % 8192 = s.val * 2048 + k.val := by omega
  have e1 : ((i 0).val * 256 + (i 1).val) % 2048 = (i 0).val * 256 + (i 1).val := by omega
  have e2 : (i 2).val % 2048 = (i 2).val := by omega
  simp only [e, e1, e2]
  rfl

theorem block_apply (x : Vec Ideal S2048x256 .bf16) (d : Vec Ideal S2048x2048 .bf16) (j : S256x2048.Idx) :
    k0_pay1 (F := Ideal) x d j = ∑ k : Fin 2048, x (ix2 k (j 0)) * d (ix2 k (j 1)) := by
  pointwise [k0_pay1]

/-- The first block of a run leaves its product. -/
theorem scratch_A (c : Dev nD) (i : grid0.Coords) (b3 : Memref sig .tc .vmem S2048x256 .bf16) (h3 : b3.IsWhole) (b4 : Memref sig .tc .vmem S2048x2048 .bf16) (h4 : b4.IsWhole) (b5 : Memref sig .tc .vmem S1x256x2048 .bf16) (h5 : b5.IsWhole) (b6 : Memref sig .tc .vmem S256x2048 .f32) (h6 : b6.IsWhole) (hc0 : cond0_0 i) (hc1 : ¬cond0_1 i) (hc2 : ¬cond0_2 i)
    (x : Vec Ideal S2048x256 .bf16) (d : Vec Ideal S2048x2048 .bf16) :
    sout0_A_0 c i b3 h3 b4 h4 b5 h5 b6 h6 hc0 hc1 hc2 x d = k0_pay1 x d := by
  unfold sout0_A_0
  rw [View.read_writes_eq_canon _ _ _ (scover0_A_0 c i b3 h3 b4 h4 b5 h5 b6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2048x256) zero2, View.ld_unit_zero (S := S2048x2048) zero2, shapeCast_self]

/-- A block in the middle of a run adds its product. -/
theorem scratch_B (c : Dev nD) (i : grid0.Coords) (b3 : Memref sig .tc .vmem S2048x256 .bf16) (h3 : b3.IsWhole) (b4 : Memref sig .tc .vmem S2048x2048 .bf16) (h4 : b4.IsWhole) (b5 : Memref sig .tc .vmem S1x256x2048 .bf16) (h5 : b5.IsWhole) (b6 : Memref sig .tc .vmem S256x2048 .f32) (h6 : b6.IsWhole) (hc0 : ¬cond0_0 i) (hc1 : cond0_1 i) (hc2 : ¬cond0_2 i)
    (x : Vec Ideal S2048x256 .bf16) (d : Vec Ideal S2048x2048 .bf16) (s : Vec Ideal S256x2048 .f32) :
    sout0_B_0 c i b3 h3 b4 h4 b5 h5 b6 h6 hc0 hc1 hc2 x d s = addf s (k0_pay1 x d) := by
  unfold sout0_B_0
  rw [View.read_writes_eq_canon _ _ _ (scover0_B_0 c i b3 h3 b4 h4 b5 h5 b6 h6 hc0 hc1 hc2 x d s)]
  unfold kernelRun0_B
  dsimp only
  sl_unfold_words
  rw [View.canon_unit_zero zero2]
  unfold k0_pay3
  simp only [View.readAt_eq_ld, h3.read_unread, h4.read_unread, h6.read_unread, View.ld_unit_zero (S := S2048x256) zero2, View.ld_unit_zero (S := S2048x2048) zero2, View.ld_unit_zero (S := S256x2048) zero2, shapeCast_self]

/-- The last block of a run adds its product too. -/
theorem scratch_C (c : Dev nD) (i : grid0.Coords) (b3 : Memref sig .tc .vmem S2048x256 .bf16) (h3 : b3.IsWhole) (b4 : Memref sig .tc .vmem S2048x2048 .bf16) (h4 : b4.IsWhole) (b5 : Memref sig .tc .vmem S1x256x2048 .bf16) (h5 : b5.IsWhole) (b6 : Memref sig .tc .vmem S256x2048 .f32) (h6 : b6.IsWhole) (hc0 : ¬cond0_0 i) (hc1 : cond0_1 i) (hc2 : cond0_2 i)
    (x : Vec Ideal S2048x256 .bf16) (d : Vec Ideal S2048x2048 .bf16) (s : Vec Ideal S256x2048 .f32) :
    sout0_C_0 c i b3 h3 b4 h4 b5 h5 b6 h6 hc0 hc1 hc2 x d s = addf s (k0_pay1 x d) := by
  unfold sout0_C_0
  rw [View.read_writes_eq_canon _ _ _ (scover0_C_0 c i b3 h3 b4 h4 b5 h5 b6 h6 hc0 hc1 hc2 x d s)]
  unfold kernelRun0_C
  dsimp only
  sl_unfold_words
  rw [View.canon_unit_zero zero2]
  unfold k0_pay3
  simp only [View.readAt_eq_ld, h3.read_unread, h4.read_unread, h6.read_unread, View.ld_unit_zero (S := S2048x256) zero2, View.ld_unit_zero (S := S2048x2048) zero2, View.ld_unit_zero (S := S256x2048) zero2, shapeCast_self]

/-- The last block of a run writes the sum out. -/
theorem out_C (c : Dev nD) (i : grid0.Coords) (b3 : Memref sig .tc .vmem S2048x256 .bf16) (h3 : b3.IsWhole) (b4 : Memref sig .tc .vmem S2048x2048 .bf16) (h4 : b4.IsWhole) (b5 : Memref sig .tc .vmem S1x256x2048 .bf16) (h5 : b5.IsWhole) (b6 : Memref sig .tc .vmem S256x2048 .f32) (h6 : b6.IsWhole) (hc0 : ¬cond0_0 i) (hc1 : cond0_1 i) (hc2 : cond0_2 i)
    (x : Vec Ideal S2048x256 .bf16) (d : Vec Ideal S2048x2048 .bf16) (s : Vec Ideal S256x2048 .f32) :
    out0_C_2 c i b3 h3 b4 h4 b5 h5 b6 h6 hc0 hc1 hc2 x d s = k0_pay4 (addf s (k0_pay1 x d)) := by
  unfold out0_C_2
  rw [View.read_writes_eq_canon _ _ _ (cover0_C_2 c i b3 h3 b4 h4 b5 h5 b6 h6 hc0 hc1 hc2 x d s)]
  unfold kernelRun0_C
  dsimp only
  sl_unfold_words
  rw [View.canon_unit_zero zero3, View.readCov_unit_zero (S := S256x2048) _ zero2]
  unfold k0_pay3
  simp only [View.readAt_eq_ld, h3.read_unread, h4.read_unread, h6.read_unread, View.ld_unit_zero (S := S2048x256) zero2, View.ld_unit_zero (S := S2048x2048) zero2, View.ld_unit_zero (S := S256x2048) zero2, shapeCast_self]

theorem idx_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

theorem onto2 : ∀ (p0 : Fin 8) (p1 : Fin 1) (p2 : Fin 1), ∃ t : Fin cfg0.N, (cfg0.win 2).flush t = true ∧ win0_2.index t (0 : Fin 3) = p0.val ∧ win0_2.index t (1 : Fin 3) = p1.val ∧ win0_2.index t (2 : Fin 3) = p2.val :=
  fun p0 p1 p2 => ⟨⟨4 * (p0.val + p1.val + p2.val) + 3, by show _ < 32; omega⟩,
    (by decide +kernel : ∀ (p0 : Fin 8) (p1 : Fin 1) (p2 : Fin 1), win0_2.flush (⟨4 * (p0.val + p1.val + p2.val) + 3, by show _ < 32; omega⟩ : Fin grid0.N) = true
      ∧ win0_2.index (⟨4 * (p0.val + p1.val + p2.val) + 3, by show _ < 32; omega⟩ : Fin grid0.N) (0 : Fin 3) = p0.val ∧ win0_2.index (⟨4 * (p0.val + p1.val + p2.val) + 3, by show _ < 32; omega⟩ : Fin grid0.N) (1 : Fin 3) = p1.val ∧ win0_2.index (⟨4 * (p0.val + p1.val + p2.val) + 3, by show _ < 32; omega⟩ : Fin grid0.N) (2 : Fin 3) = p2.val) p0 p1 p2⟩

theorem mem_blk2 (t : Fin cfg0.N) (i : S8x256x2048.Idx) : i ∈ ((cfg0.win 2).blk t).view.set ↔
    ∀ a : Fin 3, win0_2.index t a * S1x256x2048.size a ≤ (i a).val ∧ (i a).val < win0_2.index t a * S1x256x2048.size a + S1x256x2048.size a := by
  show i ∈ ((View.whole main_v0).slice (win0_2.rect t)).set ↔ _
  rw [View.set_slice_whole, Rect.mem_set_unit]
  exact Iff.rfl

/-- Every index of the array lies in a block that is written back. -/
theorem covered2 (i : S8x256x2048.Idx) : ∃ t : Fin cfg0.N, (cfg0.win 2).flush t = true ∧ i ∈ ((cfg0.win 2).blk t).view.set := by
  have h0 : (i 0).val < 8 := (i 0).isLt
  have h1 : (i 1).val < 256 := (i 1).isLt
  have h2 : (i 2).val < 2048 := (i 2).isLt
  obtain ⟨t, ht, e0, e1, e2⟩ := onto2 ⟨(i 0).val / 1, by omega⟩ ⟨(i 1).val / 256, by omega⟩ ⟨(i 2).val / 2048, by omega⟩
  refine ⟨t, ht, ?_⟩
  rw [mem_blk2]
  intro a
  match a with
  | ⟨0, _⟩ => show win0_2.index t (0 : Fin 3) * 1 ≤ (i 0).val ∧ (i 0).val < win0_2.index t (0 : Fin 3) * 1 + 1; simp only at e0; omega
  | ⟨1, _⟩ => show win0_2.index t (1 : Fin 3) * 256 ≤ (i 1).val ∧ (i 1).val < win0_2.index t (1 : Fin 3) * 256 + 256; simp only at e1; omega
  | ⟨2, _⟩ => show win0_2.index t (2 : Fin 3) * 2048 ≤ (i 2).val ∧ (i 2).val < win0_2.index t (2 : Fin 3) * 2048 + 2048; simp only at e2; omega

/-- A block of an array at an index is the array at the index's place. -/
theorem read_blk2 (t : Fin cfg0.N) (G : S8x256x2048.Idx → EReal) (y : ((cfg0.win 2).xblock (cfg0.grid.coords t)).Idx) :
    ((cfg0.win 2).blk t).view.read (Elt Ideal) G y = G (((cfg0.win 2).blk t).view.emb y) := rfl

variable (m : (ℓ : Loc nD τ sig) → Buf (Elt Ideal) ℓ)

/-- A point's product is its block's part of the gradient. -/
theorem point_part (c : Dev nD) (t : Fin cfg0.N) (y : S256x2048.Idx) : k0_pay1 (F := Ideal) (iblk m c 0 t) (iblk m c 1 t) y
    = part (m (c.tc.loc main_arg0)) (m (c.tc.loc main_arg1)) (t.val % 4) (t.val / 4 * 256 + (y 0).val) (y 1).val := by
  have F := idx_facts t
  have hN : t.val < 32 := t.isLt
  have h0 : (y 0).val < 256 := (y 0).isLt
  have h1 : (y 1).val < 2048 := (y 1).isLt
  rw [block_apply]
  refine Finset.sum_congr rfl fun k _ => ?_
  congr 1
  · show m (c.tc.loc main_arg0) (((cfg0.win 0).blk t).view.emb _) = _
    congr 1
    funext a; apply Fin.ext
    match a with
    | ⟨0, _⟩ => show win0_0.index t (0 : Fin 2) * 2048 + 1 * k.val = (t.val % 4 * 2048 + k.val) % 8192; omega
    | ⟨1, _⟩ => show win0_0.index t (1 : Fin 2) * 256 + 1 * (y 0).val = (t.val / 4 * 256 + (y 0).val) % 2048; omega
  · show m (c.tc.loc main_arg1) (((cfg0.win 1).blk t).view.emb _) = _
    congr 1
    funext a; apply Fin.ext
    match a with
    | ⟨0, _⟩ => show win0_1.index t (0 : Fin 2) * 2048 + 1 * k.val = (t.val % 4 * 2048 + k.val) % 8192; omega
    | ⟨1, _⟩ => show win0_1.index t (1 : Fin 2) * 2048 + 1 * (y 1).val = (y 1).val % 2048; omega

/-- After a point the scratch holds the sum of its run's parts so far. -/
theorem scratch_eq (c : Dev nD) : ∀ (n : ℕ) (h : n < cfg0.N) (y : S256x2048.Idx), (outsAt0 m c n h).2 y
    = ∑ s ∈ Finset.range (n % 4 + 1), part (m (c.tc.loc main_arg0)) (m (c.tc.loc main_arg1)) s (n / 4 * 256 + (y 0).val) (y 1).val := by
  intro n
  induction n with
  | zero =>
    intro h y
    rw [outsAt0_A m c ⟨0, h⟩ rfl (by dsimp only; omega) (by dsimp only; omega)]
    dsimp only
    rw [scratch_A, point_part]
    simp only [Nat.zero_mod, Nat.zero_div, zero_add, Finset.sum_range_one]
  | succ n ih =>
    intro h y
    have hN : n + 1 < 32 := h
    by_cases h0 : (n + 1) % 4 = 0
    · rw [outsAt0_A m c ⟨n + 1, h⟩ h0 (by dsimp only; omega) (by dsimp only; omega)]
      dsimp only
      rw [scratch_A, point_part]
      dsimp only
      rw [h0, zero_add, Finset.sum_range_one]
    · have e4 : (n + 1) % 4 = n % 4 + 1 := by omega
      have e2 : (n + 1) / 4 = n / 4 := by omega
      rw [e4, Finset.sum_range_succ, e2, ← ih (by omega) y]
      by_cases h2 : (n + 1) % 4 = 3
      · rw [outsAt0_C m c ⟨n + 1, h⟩ h0 (by dsimp only; omega) h2]
        dsimp only
        rw [scratch_C]
        refine congrArg₂ (· + ·) rfl ?_
        rw [point_part]
        dsimp only
        rw [e4, e2]
      · rw [outsAt0_B m c ⟨n + 1, h⟩ h0 (by dsimp only; omega) h2]
        dsimp only
        rw [scratch_B]
        refine congrArg₂ (· + ·) rfl ?_
        rw [point_part]
        dsimp only
        rw [e4, e2]

theorem store_apply (s : Vec Ideal S256x2048 .f32) (j : S1x256x2048.Idx) :
    k0_pay4 (F := Ideal) s j = s (ix2 ⟨(j 0).val * 256 + (j 1).val, by
      have : (j 0).val < 1 := (j 0).isLt; have : (j 1).val < 256 := (j 1).isLt; show _ < 256; omega⟩ (j 2)) := by
  pointwise [k0_pay4]

/-- What a run's last point writes. -/
theorem after_eq (c : Dev nD) (t : Fin cfg0.N) (h3 : t.val % 4 = 3) (j : S1x256x2048.Idx) : (outsAt0 m c t.val t.isLt).1 j
    = ∑ s ∈ Finset.range 4, part (m (c.tc.loc main_arg0)) (m (c.tc.loc main_arg1)) s (t.val / 4 * 256 + ((j 0).val * 256 + (j 1).val)) (j 2).val := by
  have hs := scratch_eq m c t.val t.isLt
  rw [outsAt0_C m c t (by omega) (by omega) h3] at hs ⊢
  dsimp only at hs ⊢
  rw [scratch_C] at hs
  rw [out_C, store_apply, hs, h3]
  rfl

theorem flushed_eq (c : Dev nD) (t : Fin cfg0.N) (hf : (cfg0.win 2).flush t = true) : (dats m 0 c).flushed 2 t
    = ((cfg0.win 2).blk t).view.read (Elt Ideal) (gradient (m (c.tc.loc main_arg0)) (m (c.tc.loc main_arg1))) := by
  show (cfg0.win 2).cut (grid0.coords t) ((dats m 0 c).after 2 t) = _
  have h3 : t.val % 4 = 3 := (flush0_2 t).mp hf
  have hN : t.val < 32 := t.isLt
  obtain ⟨-, -, -, -, e0, e1, e2⟩ := idx_facts t
  rw [after0_2]
  funext y
  refine Eq.trans (b := (outsAt0 m c t.val t.isLt).1 ((cfg0.win 2).xinj (grid0.coords t) y)) rfl ?_
  refine Eq.trans ?_ (read_blk2 t _ y).symm
  rw [after_eq m c t h3]
  have b0 : (((cfg0.win 2).blk t).view.emb y 0).val = win0_2.index t (0 : Fin 3) * 1 + 1 * (y 0).val := rfl
  have b1 : (((cfg0.win 2).blk t).view.emb y 1).val = win0_2.index t (1 : Fin 3) * 256 + 1 * (y 1).val := rfl
  have b2 : (((cfg0.win 2).blk t).view.emb y 2).val = win0_2.index t (2 : Fin 3) * 2048 + 1 * (y 2).val := rfl
  have hy0 : (y 0).val < 1 := (y 0).isLt
  have hy1 : (y 1).val < 256 := (y 1).isLt
  rw [← parts_sum]
  refine Finset.sum_congr rfl fun s _ => ?_
  refine congrArg₂ (part _ _ s) ?_ ?_
  · rw [b0, b1]
    show t.val / 4 * 256 + ((y 0).val * 256 + (y 1).val) = _
    rw [e0, e1]; omega
  · rw [b2, e2]
    show (y 2).val = _
    omega

theorem array_eq (c : Dev nD) : (dats m 0 c).arrAt 2 cfg0.N = gradient (m (c.tc.loc main_arg0)) (m (c.tc.loc main_arg1)) :=
  (dats m 0 c).arrAt_eq_of_cover 2 _ (fun t hf => flushed_eq m c t hf) covered2

theorem reference_eq (a : Vec Ideal S8192x2048 .bf16) (d : Vec Ideal S8192x2048 .bf16) :
    GradWRefIdeal.Read.val_main_v7 (F := Ideal) a d = gradient a d := by
  funext i
  pointwise [GradWRefIdeal.Read.val_main_v7, GradWRefIdeal.Read.val_main_v6, GradWRefIdeal.Read.val_main_v5, GradWRefIdeal.Read.val_main_v4, GradWRefIdeal.Read.val_main_v3, GradWRefIdeal.Read.val_main_v1]
  exact Finset.sum_congr rfl fun k _ => mul_comm _ _

/-- The kernel and the reference hold the same gradient. -/
theorem algebraic : Cert.algebraic_GradWIdeal_GradWRefIdeal := by
  intro m g m' g' _ hagree
  refine ⟨fun c => gradient (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (GradWRefIdeal.Read.val_main_v7_eq ..)).trans ?_, (h c).2⟩) (GradWRefIdeal.Value.run m' g')⟩
  rw [reference_eq, (hagree c).1, (hagree c).2]

end Cert.GradWValue

end
-- ==== Proof.Res.lean ====
/- The derivative of the norm over rows, with the gradient beside it added, the gain's gradient and the column sums of the result, both summed over the blocks of rows. -/
module

public import proofs.«01_k».proof.Defs
public import proofs.«01_k».proof.Proof.Gen.ResIdeal.Value
public import proofs.«01_k».proof.Proof.Gen.ResRefIdeal.Read
public import proofs.«01_k».proof.Proof.Norm
public import proofs.«01_k».proof.Proof.Gen.Pre_finite_res
public import proofs.«01_k».proof.Proof.Zero

@[expose] public section

noncomputable section

namespace Cert.ResValue

open Cert.ResIdeal Cert.ResIdeal.Gen Idealize.ShloMosaic Idealize.ShloMosaic.TcCoe Idealize.SL.Sem
open Cert.Norm

open Cert.Finite

/-- The incoming gradient, at a row and a column. -/
def ct (d : Vec Ideal S8192x2048 .f32) (r : Fin 8192) (l : Fin 2048) : EReal := d (ix2 r l)

/-- The same in one block of rows. -/
def ctBlock (d : Vec Ideal S256x2048 .f32) (r : Fin 256) (l : Fin 2048) : EReal := d (ix2 r l)

theorem rounded (d : Vec Ideal S256x2048 .f32) (x : Vec Ideal S256x2048 .f32) (g : Vec Ideal S1x2048 .f32) (res : Vec Ideal S256x2048 .f32) (j : S256x2048.Idx) :
    k0_pay8 (F := Ideal) d x g res j = k0_pay7 (F := Ideal) d x g res j := by
  pointwise [k0_pay8]

theorem column (v : Vec Ideal S256x2048 .f32) (j : S1x2048.Idx) : k0_pay2 (F := Ideal) v j = ∑ k : Fin 256, v (ix2 k (j 1)) := by
  pointwise [k0_pay2]

theorem column_add (v : Vec Ideal S256x2048 .f32) (s : Vec Ideal S1x2048 .f32) : k0_pay3 (F := Ideal) v s = addf s (k0_pay2 (F := Ideal) v) := by
  unfold k0_pay3 k0_pay2
  first
    | rfl
    | (simp only [shapeCast_self] <;> rfl)

/-- The gradient along a row, with the gradient that arrives beside it added. -/
def total (d : Vec Ideal S8192x2048 .f32) (x : Vec Ideal S8192x2048 .f32) (g : Vec Ideal S1x2048 .f32) (res : Vec Ideal S8192x2048 .f32) (i : S8192x2048.Idx) : EReal :=
  res i + back (ct d (i 0)) (fun l => x (ix2 (i 0) l)) (fun l => g (ix2 0 l)) (i 1)

/-- The gradient of the gain: a column's sum over all rows. -/
def gains (d : Vec Ideal S8192x2048 .f32) (x : Vec Ideal S8192x2048 .f32) (i : S1x2048.Idx) : EReal :=
  ∑ r : Fin 8192, gain (ct d r) (fun l => x (ix2 r l)) (i 1)

/-- A column's sum of the whole gradient. -/
def columns (d : Vec Ideal S8192x2048 .f32) (x : Vec Ideal S8192x2048 .f32) (g : Vec Ideal S1x2048 .f32) (res : Vec Ideal S8192x2048 .f32) (i : S1x2048.Idx) : EReal :=
  ∑ r : Fin 8192, total d x g res (ix2 r (i 1))

theorem block_total (d : Vec Ideal S256x2048 .f32) (x : Vec Ideal S256x2048 .f32) (g : Vec Ideal S1x2048 .f32) (res : Vec Ideal S256x2048 .f32) (k : Fin 256) (l : Fin 2048) : k0_pay7 (F := Ideal) d x g res (ix2 k l)
    = res (ix2 k l) + back (ctBlock d k) (fun l => x (ix2 k l)) (fun l => g (ix2 0 l)) l := by
  pointwise [k0_pay7, k0_pay4, k0_pay5, ctBlock, back, Cert.Norm.inv]

theorem block_gains (d : Vec Ideal S256x2048 .f32) (x : Vec Ideal S256x2048 .f32) (z : Fin 1) (l : Fin 2048) : k0_pay6 (F := Ideal) d x (ix2 z l)
    = ∑ k : Fin 256, gain (ctBlock d k) (fun l => x (ix2 k l)) l := by
  pointwise [k0_pay6, k0_pay4, k0_pay5, ctBlock, gain, Cert.Norm.inv]

section
variable (c : Dev nD) (i : grid0.Coords) (a1 : Memref sig .tc .vmem S256x2048 .f32) (h1 : a1.IsWhole) (a2 : Memref sig .tc .vmem S256x2048 .f32) (h2 : a2.IsWhole) (a3 : Memref sig .tc .vmem S1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (a8 : Memref sig .tc .vmem S1x2048 .f32) (h8 : a8.IsWhole)
  (d : Vec Ideal S256x2048 .f32) (x : Vec Ideal S256x2048 .f32) (g : Vec Ideal S1x2048 .f32) (res : Vec Ideal S256x2048 .f32)

theorem out_A0 (hc0 : cond0_0 i) (hc1 : ¬cond0_1 i) (hc2 : cond0_2 i) (hc3 : ¬cond0_3 i) :
    out0_A_4 c i a1 h1 a2 h2 a3 h3 a4 h4 a5 h5 a6 h6 a7 h7 a8 h8 hc0 hc1 hc2 hc3 d x g res = k0_pay7 (F := Ideal) d x g res := by
  unfold out0_A_4
  rw [View.read_writes_eq_canon _ _ _ (cover0_A_4 c i a1 h1 a2 h2 a3 h3 a4 h4 a5 h5 a6 h6 a7 h7 a8 h8 hc0 hc1 hc2 hc3 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_A1 (hc0 : cond0_0 i) (hc1 : ¬cond0_1 i) (hc2 : cond0_2 i) (hc3 : ¬cond0_3 i) :
    out0_A_5 c i a1 h1 a2 h2 a3 h3 a4 h4 a5 h5 a6 h6 a7 h7 a8 h8 hc0 hc1 hc2 hc3 d x g res = k0_pay8 (F := Ideal) d x g res := by
  unfold out0_A_5
  rw [View.read_writes_eq_canon _ _ _ (cover0_A_5 c i a1 h1 a2 h2 a3 h3 a4 h4 a5 h5 a6 h6 a7 h7 a8 h8 hc0 hc1 hc2 hc3 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_A2 (hc0 : cond0_0 i) (hc1 : ¬cond0_1 i) (hc2 : cond0_2 i) (hc3 : ¬cond0_3 i) :
    out0_A_6 c i a1 h1 a2 h2 a3 h3 a4 h4 a5 h5 a6 h6 a7 h7 a8 h8 hc0 hc1 hc2 hc3 d x g res = k0_pay6 (F := Ideal) d x := by
  unfold out0_A_6
  rw [View.read_writes_eq_canon _ _ _ (cover0_A_6 c i a1 h1 a2 h2 a3 h3 a4 h4 a5 h5 a6 h6 a7 h7 a8 h8 hc0 hc1 hc2 hc3 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_A3 (hc0 : cond0_0 i) (hc1 : ¬cond0_1 i) (hc2 : cond0_2 i) (hc3 : ¬cond0_3 i) :
    out0_A_7 c i a1 h1 a2 h2 a3 h3 a4 h4 a5 h5 a6 h6 a7 h7 a8 h8 hc0 hc1 hc2 hc3 d x g res = k0_pay2 (F := Ideal) (k0_pay7 (F := Ideal) d x g res) := by
  unfold out0_A_7
  rw [View.read_writes_eq_canon _ _ _ (cover0_A_7 c i a1 h1 a2 h2 a3 h3 a4 h4 a5 h5 a6 h6 a7 h7 a8 h8 hc0 hc1 hc2 hc3 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_B0 (hc0 : ¬cond0_0 i) (hc1 : cond0_1 i) (hc2 : ¬cond0_2 i) (hc3 : cond0_3 i) (s0 : Vec Ideal S1x2048 .f32) (s1 : Vec Ideal S1x2048 .f32) :
    out0_B_4 c i a1 h1 a2 h2 a3 h3 a4 h4 a5 h5 a6 h6 a7 h7 a8 h8 hc0 hc1 hc2 hc3 d x g res s0 s1 = k0_pay7 (F := Ideal) d x g res := by
  unfold out0_B_4
  rw [View.read_writes_eq_canon _ _ _ (cover0_B_4 c i a1 h1 a2 h2 a3 h3 a4 h4 a5 h5 a6 h6 a7 h7 a8 h8 hc0 hc1 hc2 hc3 d x g res s0 s1)]
  unfold kernelRun0_B
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_B1 (hc0 : ¬cond0_0 i) (hc1 : cond0_1 i) (hc2 : ¬cond0_2 i) (hc3 : cond0_3 i) (s0 : Vec Ideal S1x2048 .f32) (s1 : Vec Ideal S1x2048 .f32) :
    out0_B_5 c i a1 h1 a2 h2 a3 h3 a4 h4 a5 h5 a6 h6 a7 h7 a8 h8 hc0 hc1 hc2 hc3 d x g res s0 s1 = k0_pay8 (F := Ideal) d x g res := by
  unfold out0_B_5
  rw [View.read_writes_eq_canon _ _ _ (cover0_B_5 c i a1 h1 a2 h2 a3 h3 a4 h4 a5 h5 a6 h6 a7 h7 a8 h8 hc0 hc1 hc2 hc3 d x g res s0 s1)]
  unfold kernelRun0_B
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_B2 (hc0 : ¬cond0_0 i) (hc1 : cond0_1 i) (hc2 : ¬cond0_2 i) (hc3 : cond0_3 i) (s0 : Vec Ideal S1x2048 .f32) (s1 : Vec Ideal S1x2048 .f32) :
    out0_B_6 c i a1 h1 a2 h2 a3 h3 a4 h4 a5 h5 a6 h6 a7 h7 a8 h8 hc0 hc1 hc2 hc3 d x g res s0 s1 = addf s0 (k0_pay6 (F := Ideal) d x) := by
  unfold out0_B_6
  rw [View.read_writes_eq_canon _ _ _ (cover0_B_6 c i a1 h1 a2 h2 a3 h3 a4 h4 a5 h5 a6 h6 a7 h7 a8 h8 hc0 hc1 hc2 hc3 d x g res s0 s1)]
  unfold kernelRun0_B
  dsimp only
  sl_unfold_words
  rw [View.canon_unit_zero zero2]
  unfold k0_pay1
  simp only [View.readAt_eq_ld, h1.read_unread, h2.read_unread, h3.read_unread, h4.read_unread, h7.read_unread, View.ld_unit_zero (S := S1x2048) zero2, View.ld_unit_zero (S := S256x2048) zero2, shapeCast_self] <;> rfl

theorem out_B3 (hc0 : ¬cond0_0 i) (hc1 : cond0_1 i) (hc2 : ¬cond0_2 i) (hc3 : cond0_3 i) (s0 : Vec Ideal S1x2048 .f32) (s1 : Vec Ideal S1x2048 .f32) :
    out0_B_7 c i a1 h1 a2 h2 a3 h3 a4 h4 a5 h5 a6 h6 a7 h7 a8 h8 hc0 hc1 hc2 hc3 d x g res s0 s1 = addf s1 (k0_pay2 (F := Ideal) (k0_pay7 (F := Ideal) d x g res)) := by
  unfold out0_B_7
  rw [View.read_writes_eq_canon _ _ _ (cover0_B_7 c i a1 h1 a2 h2 a3 h3 a4 h4 a5 h5 a6 h6 a7 h7 a8 h8 hc0 hc1 hc2 hc3 d x g res s0 s1)]
  unfold kernelRun0_B
  dsimp only
  sl_unfold_words
  rw [View.canon_unit_zero zero2]
  unfold k0_pay3 k0_pay2
  simp only [View.readAt_eq_ld, h1.read_unread, h2.read_unread, h3.read_unread, h4.read_unread, h8.read_unread, View.ld_unit_zero (S := S1x2048) zero2, View.ld_unit_zero (S := S256x2048) zero2, shapeCast_self] <;> rfl

end

theorem idx_facts : ∀ t : Fin cfg0.N, win0_0.index t (0 : Fin 2) = t.val ∧ win0_0.index t (1 : Fin 2) = 0 ∧ win0_1.index t (0 : Fin 2) = t.val ∧ win0_1.index t (1 : Fin 2) = 0 ∧ win0_3.index t (0 : Fin 2) = t.val ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)

/-- Every place of a whole array is at a row of some block. -/
theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem one_row (i : S1x2048.Idx) : ∃ l : Fin 2048, i = ix2 (0 : Fin 1) l :=
  ⟨i 1, funext fun a => Fin.ext (match a with | ⟨0, _⟩ => by have h : (i 0).val < 1 := (i 0).isLt; show (i 0).val = 0; omega | ⟨1, _⟩ => rfl)⟩

theorem emb0 (t : Fin cfg0.N) (k : Fin 256) (l : Fin 2048) : ((cfg0.win 0).blk t).view.emb (ix2 k l) = ix2 (rowAt t.val k) l := by
  have F := idx_facts t
  have hN : t.val < 32 := t.isLt
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem emb1 (t : Fin cfg0.N) (k : Fin 256) (l : Fin 2048) : ((cfg0.win 1).blk t).view.emb (ix2 k l) = ix2 (rowAt t.val k) l := by
  have F := idx_facts t
  have hN : t.val < 32 := t.isLt
  funext a; apply Fin.ext
  match a with
  | ⟨0, _⟩ => show win0_1.index t (0 : Fin 2) * 256 + 1 * k.val = (t.val * 256 + k.val) % 8192; omega
  | ⟨1, _⟩ => show win0_1.index t (1 : Fin 2) * 2048 + 1 * l.val = l.val; omega

theorem emb3 (t : Fin cfg0.N) (k : Fin 256) (l : Fin 2048) : ((cfg0.win 3).blk t).view.emb (ix2 k l) = ix2 (rowAt t.val k) l := by
  have F := idx_facts t
  have hN : t.val < 32 := t.isLt
  funext a; apply Fin.ext
  match a with
  | ⟨0, _⟩ => show win0_3.index t (0 : Fin 2) * 256 + 1 * k.val = (t.val * 256 + k.val) % 8192; omega
  | ⟨1, _⟩ => show win0_3.index t (1 : Fin 2) * 2048 + 1 * l.val = l.val; omega

theorem emb4 (t : Fin cfg0.N) (k : Fin 256) (l : Fin 2048) : ((cfg0.win 4).blk t).view.emb (ix2 k l) = ix2 (rowAt t.val k) l := by
  have F := idx_facts t
  have hN : t.val < 32 := t.isLt
  funext a; apply Fin.ext
  match a with
  | ⟨0, _⟩ => show win0_4.index t (0 : Fin 2) * 256 + 1 * k.val = (t.val * 256 + k.val) % 8192; omega
  | ⟨1, _⟩ => show win0_4.index t (1 : Fin 2) * 2048 + 1 * l.val = l.val; omega

theorem emb5 (t : Fin cfg0.N) (k : Fin 256) (l : Fin 2048) : ((cfg0.win 5).blk t).view.emb (ix2 k l) = ix2 (rowAt t.val k) l := by
  have F := idx_facts t
  have hN : t.val < 32 := t.isLt
  funext a; apply Fin.ext
  match a with
  | ⟨0, _⟩ => show win0_5.index t (0 : Fin 2) * 256 + 1 * k.val = (t.val * 256 + k.val) % 8192; omega
  | ⟨1, _⟩ => show win0_5.index t (1 : Fin 2) * 2048 + 1 * l.val = l.val; omega

theorem emb2 (t : Fin cfg0.N) (y : S1x2048.Idx) : ((cfg0.win 2).blk t).view.emb y = y := by
  have h : ∀ t : Fin cfg0.N, win0_2.index t (0 : Fin 2) = 0 ∧ win0_2.index t (1 : Fin 2) = 0 := (by decide +kernel : ∀ t : Fin grid0.N, _)
  obtain ⟨f0, f1⟩ := h t
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem emb6 (t : Fin cfg0.N) (y : S1x2048.Idx) : ((cfg0.win 6).blk t).view.emb y = y := by
  have h : ∀ t : Fin cfg0.N, win0_6.index t (0 : Fin 2) = 0 ∧ win0_6.index t (1 : Fin 2) = 0 := (by decide +kernel : ∀ t : Fin grid0.N, _)
  obtain ⟨f0, f1⟩ := h t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem emb7 (t : Fin cfg0.N) (y : S1x2048.Idx) : ((cfg0.win 7).blk t).view.emb y = y := by
  have h : ∀ t : Fin cfg0.N, win0_7.index t (0 : Fin 2) = 0 ∧ win0_7.index t (1 : Fin 2) = 0 := (by decide +kernel : ∀ t : Fin grid0.N, _)
  obtain ⟨f0, f1⟩ := h t
  funext a; apply Fin.ext
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem last : 31 < cfg0.N := by show 31 < 32; omega

variable (m : (ℓ : Loc nD τ sig) → Buf (Elt Ideal) ℓ)

abbrev dA (c : Dev nD) : Vec Ideal S8192x2048 .f32 := m (c.tc.loc main_arg0)
abbrev xA (c : Dev nD) : Vec Ideal S8192x2048 .f32 := m (c.tc.loc main_arg1)
abbrev gA (c : Dev nD) : Vec Ideal S1x2048 .f32 := m (c.tc.loc main_arg2)
abbrev resA (c : Dev nD) : Vec Ideal S8192x2048 .f32 := m (c.tc.loc main_arg3)

theorem block0 (c : Dev nD) (t : Fin cfg0.N) (k : Fin 256) (l : Fin 2048) : iblk m c 0 t (ix2 k l) = dA m c (ix2 (rowAt t.val k) l) :=
  congrArg (dA m c) (emb0 t k l)

theorem block1 (c : Dev nD) (t : Fin cfg0.N) (k : Fin 256) (l : Fin 2048) : iblk m c 1 t (ix2 k l) = xA m c (ix2 (rowAt t.val k) l) :=
  congrArg (xA m c) (emb1 t k l)

theorem block2 (c : Dev nD) (t : Fin cfg0.N) : iblk m c 2 t = gA m c :=
  funext fun y => congrArg (gA m c) (emb2 t y)

theorem block3 (c : Dev nD) (t : Fin cfg0.N) (k : Fin 256) (l : Fin 2048) : iblk m c 3 t (ix2 k l) = resA m c (ix2 (rowAt t.val k) l) :=
  congrArg (resA m c) (emb3 t k l)

theorem block_ct (c : Dev nD) (t : Fin cfg0.N) (k : Fin 256) : ctBlock (iblk m c 0 t) k = ct (dA m c) (rowAt t.val k) := by
  funext l
  unfold ctBlock ct
  rw [block0]

theorem point0 (c : Dev nD) (t : Fin cfg0.N) (k : Fin 256) (l : Fin 2048) : (k0_pay7 (F := Ideal) (iblk m c 0 t) (iblk m c 1 t) (iblk m c 2 t) (iblk m c 3 t)) (ix2 k l) = total (dA m c) (xA m c) (gA m c) (resA m c) (ix2 (rowAt t.val k) l) := by
  rw [block2, block_total, block_ct, block3]
  simp only [block1]
  rfl

theorem point1 (c : Dev nD) (t : Fin cfg0.N) (k : Fin 256) (l : Fin 2048) : (k0_pay8 (F := Ideal) (iblk m c 0 t) (iblk m c 1 t) (iblk m c 2 t) (iblk m c 3 t)) (ix2 k l) = total (dA m c) (xA m c) (gA m c) (resA m c) (ix2 (rowAt t.val k) l) := by
  exact (rounded _ _ _ _ _).trans (point0 m c t k l)

theorem point2 (c : Dev nD) (t : Fin cfg0.N) (l : Fin 2048) : (k0_pay6 (F := Ideal) (iblk m c 0 t) (iblk m c 1 t)) (ix2 0 l) = part (fun r => gain (ct (dA m c) r) (fun l => (xA m c) (ix2 r l)) l) t.val := by
  rw [block_gains]
  simp only [block_ct, block1]
  rfl

theorem point3 (c : Dev nD) (t : Fin cfg0.N) (l : Fin 2048) : (k0_pay2 (F := Ideal) (k0_pay7 (F := Ideal) (iblk m c 0 t) (iblk m c 1 t) (iblk m c 2 t) (iblk m c 3 t))) (ix2 0 l) = part (fun r => total (dA m c) (xA m c) (gA m c) (resA m c) (ix2 r l)) t.val := by
  rw [column]
  exact Finset.sum_congr rfl fun k _ => point0 m c t k l

theorem after0 (c : Dev nD) (t : Fin cfg0.N) : (outsAt0 m c t.val t.isLt).1 = k0_pay7 (F := Ideal) (iblk m c 0 t) (iblk m c 1 t) (iblk m c 2 t) (iblk m c 3 t) := by
  have hN : t.val < 32 := t.isLt
  by_cases h0 : t.val % 32 = 0
  · have h1 : ¬1 ≤ t.val := by omega
    rw [outsAt0_A m c t h0 h1 h0 h1]
    dsimp only
    rw [out_A0]
  · have h1 : 1 ≤ t.val := by omega
    rw [outsAt0_B m c t h0 h1 h0 h1]
    dsimp only
    rw [out_B0]

theorem array0 (c : Dev nD) : (dats m 0 c).arrAt 4 cfg0.N = total (dA m c) (xA m c) (gA m c) (resA m c) := by
  funext i
  obtain ⟨t, k, l, rfl⟩ := places i
  refine Eq.trans (congrArg _ (emb4 t k l).symm) ((congrFun (Value.blocks4 m c t (flush0_4 t)) (ix2 k l)).trans ?_)
  rw [Value.flushed4, after0]
  exact point0 m c t k l

theorem after1 (c : Dev nD) (t : Fin cfg0.N) : (outsAt0 m c t.val t.isLt).2.1 = k0_pay8 (F := Ideal) (iblk m c 0 t) (iblk m c 1 t) (iblk m c 2 t) (iblk m c 3 t) := by
  have hN : t.val < 32 := t.isLt
  by_cases h0 : t.val % 32 = 0
  · have h1 : ¬1 ≤ t.val := by omega
    rw [outsAt0_A m c t h0 h1 h0 h1]
    dsimp only
    rw [out_A1]
  · have h1 : 1 ≤ t.val := by omega
    rw [outsAt0_B m c t h0 h1 h0 h1]
    dsimp only
    rw [out_B1]

theorem array1 (c : Dev nD) : (dats m 0 c).arrAt 5 cfg0.N = total (dA m c) (xA m c) (gA m c) (resA m c) := by
  funext i
  obtain ⟨t, k, l, rfl⟩ := places i
  refine Eq.trans (congrArg _ (emb5 t k l).symm) ((congrFun (Value.blocks5 m c t (flush0_5 t)) (ix2 k l)).trans ?_)
  rw [Value.flushed5, after1]
  exact point1 m c t k l

/-- After a point the row holds the sums of the blocks so far. -/
theorem sum2 (c : Dev nD) : ∀ (n : ℕ) (h : n < cfg0.N) (l : Fin 2048), (outsAt0 m c n h).2.2.1 (ix2 0 l) = ∑ s ∈ Finset.range (n + 1), part (fun r => gain (ct (dA m c) r) (fun l => (xA m c) (ix2 r l)) l) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1 h0 h1]
    dsimp only
    rw [out_A2, zero_add, Finset.sum_range_one]
    exact point2 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1 h0 h1]
    dsimp only
    rw [out_B2, Finset.sum_range_succ, ← ih (by omega) l]
    exact congrArg₂ (· + ·) rfl (point2 m c ⟨n + 1, h⟩ l)

theorem last6 (i : S1x2048.Idx) : i ∈ ((cfg0.win 6).blk ⟨31, last⟩).view.set :=
  Finset.mem_map.mpr ⟨i, Finset.mem_univ _, emb6 ⟨31, last⟩ i⟩

theorem read6 (t : Fin cfg0.N) (G : S1x2048.Idx → EReal) (y : ((cfg0.win 6).xblock (cfg0.grid.coords t)).Idx) :
    ((cfg0.win 6).blk t).view.read (Elt Ideal) G y = G y := congrArg G (emb6 t y)

theorem array2 (c : Dev nD) : (dats m 0 c).arrAt 6 cfg0.N = gains (dA m c) (xA m c) := by
  refine (dats m 0 c).arrAt_eq_of_cover 6 _ (fun t hf => ?_) fun i => ⟨⟨31, last⟩, (flush0_6 _).mpr rfl, last6 i⟩
  · have hN : t.val < 32 := t.isLt
    have h31 : t.val % 32 = 31 := (flush0_6 t).mp hf
    rw [Value.flushed6]
    funext y
    refine Eq.trans ?_ (read6 t _ y).symm
    obtain ⟨l, rfl⟩ := one_row y
    refine (sum2 m c t.val t.isLt l).trans ?_
    rw [show t.val + 1 = 32 by omega, parts_sum]
    rfl

/-- After a point the row holds the sums of the blocks so far. -/
theorem sum3 (c : Dev nD) : ∀ (n : ℕ) (h : n < cfg0.N) (l : Fin 2048), (outsAt0 m c n h).2.2.2 (ix2 0 l) = ∑ s ∈ Finset.range (n + 1), part (fun r => total (dA m c) (xA m c) (gA m c) (resA m c) (ix2 r l)) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1 h0 h1]
    dsimp only
    rw [out_A3, zero_add, Finset.sum_range_one]
    exact point3 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1 h0 h1]
    dsimp only
    rw [out_B3, Finset.sum_range_succ, ← ih (by omega) l]
    exact congrArg₂ (· + ·) rfl (point3 m c ⟨n + 1, h⟩ l)

theorem last7 (i : S1x2048.Idx) : i ∈ ((cfg0.win 7).blk ⟨31, last⟩).view.set :=
  Finset.mem_map.mpr ⟨i, Finset.mem_univ _, emb7 ⟨31, last⟩ i⟩

theorem read7 (t : Fin cfg0.N) (G : S1x2048.Idx → EReal) (y : ((cfg0.win 7).xblock (cfg0.grid.coords t)).Idx) :
    ((cfg0.win 7).blk t).view.read (Elt Ideal) G y = G y := congrArg G (emb7 t y)

theorem array3 (c : Dev nD) : (dats m 0 c).arrAt 7 cfg0.N = columns (dA m c) (xA m c) (gA m c) (resA m c) := by
  refine (dats m 0 c).arrAt_eq_of_cover 7 _ (fun t hf => ?_) fun i => ⟨⟨31, last⟩, (flush0_7 _).mpr rfl, last7 i⟩
  · have hN : t.val < 32 := t.isLt
    have h31 : t.val % 32 = 31 := (flush0_7 t).mp hf
    rw [Value.flushed7]
    funext y
    refine Eq.trans ?_ (read7 t _ y).symm
    obtain ⟨l, rfl⟩ := one_row y
    refine (sum3 m c t.val t.isLt l).trans ?_
    rw [show t.val + 1 = 32 by omega, parts_sum]
    rfl

/-- What the precondition says of the arguments. -/
theorem finite_of_pre [Cert.Pre_finite_res.Facts] (d : Vec Ideal S8192x2048 .f32) (x : Vec Ideal S8192x2048 .f32) (g : Vec Ideal S1x2048 .f32) (res : Vec Ideal S8192x2048 .f32)
    (h : Cert.Pre_finite_res.fn (F := Ideal) d x g res = fun _ => 1#1) :
    (∀ i, IsReal (d i)) ∧ (∀ i, IsReal (x i)) ∧ (∀ i, IsReal (g i)) ∧ (∀ i, IsReal (res i)) := by
  have h0 := congrFun h (fun a => a.elim0)
  unfold Cert.Pre_finite_res.fn Cert.Pre_finite_res.fn_part1 at h0
  obtain ⟨h1, p3⟩ := IntOp.andi_eq_one.1 h0
  obtain ⟨h2, p2⟩ := IntOp.andi_eq_one.1 h1
  obtain ⟨p0, p1⟩ := IntOp.andi_eq_one.1 h2
  exact ⟨real_at _ _ (fun _ => f32_inf) _ _ _ _ p0, real_at _ _ (fun _ => f32_inf) _ _ _ _ p1, real_at _ _ (fun _ => f32_inf) _ _ _ _ p2, real_at _ _ (fun _ => f32_inf) _ _ _ _ p3⟩

open ResRefIdeal.Read in
/-- The reference's gradient is the kernel's: the derivative of the norm, put together. -/
theorem reference_total (d : Vec Ideal S8192x2048 .f32) (x : Vec Ideal S8192x2048 .f32) (g : Vec Ideal S1x2048 .f32) (res : Vec Ideal S8192x2048 .f32) (hd : ∀ r l, IsReal (ct d r l)) (hx : ∀ i, IsReal (x i)) (hg : ∀ i, IsReal (g i)) :
    val_main_v38 (F := Ideal) d x g res = total d x g res := by
  funext j
  obtain ⟨r, l, rfl⟩ : ∃ (r : Fin 8192) (l : Fin 2048), j = ix2 r l := ⟨j 0, j 1, eq_ix2 j⟩
  refine Eq.trans (b := res (ix2 r l) + (ct d r l * g (ix2 0 l) * inv (fun l => x (ix2 r l))
    + x (ix2 r l) * coef (ct d r) (fun l => x (ix2 r l)) (fun l => g (ix2 0 l))
    + coef (ct d r) (fun l => x (ix2 r l)) (fun l => g (ix2 0 l)) * x (ix2 r l))) ?_ ?_
  · pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v14, val_main_v20, val_main_v21, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v38, ct, Cert.Norm.inv, coef]
    simp only [Finset.univ_unique, Finset.sum_singleton]
  · exact congrArg (res (ix2 r l) + ·) (back_eq (ct d r) (fun l => x (ix2 r l)) (fun l => g (ix2 0 l)) (hd r) (fun _ => hx _) (fun _ => hg _) l)

open ResRefIdeal.Read in
theorem reference_rounded (d : Vec Ideal S8192x2048 .f32) (x : Vec Ideal S8192x2048 .f32) (g : Vec Ideal S1x2048 .f32) (res : Vec Ideal S8192x2048 .f32) : val_main_v39 (F := Ideal) d x g res = val_main_v38 (F := Ideal) d x g res := by
  funext j
  pointwise [val_main_v39]

open ResRefIdeal.Read in
theorem reference_gains (d : Vec Ideal S8192x2048 .f32) (x : Vec Ideal S8192x2048 .f32) : val_main_v37 (F := Ideal) d x = gains d x := by
  funext j
  obtain ⟨z, l, rfl⟩ : ∃ (z : Fin 1) (l : Fin 2048), j = ix2 z l := ⟨j 0, j 1, eq_ix2 j⟩
  refine Eq.trans (b := ∑ r : Fin 8192, x (ix2 r l) * inv (fun l => x (ix2 r l)) * ct d r l) ?_ ?_
  · pointwise [val_main_v1, val_main_cst, val_main_v2, val_main_v3, val_main_cst_0, val_main_v4, val_main_v5, val_main_cst_1, val_main_v6, val_main_v7, val_main_v8, val_main_v12, val_main_v13, val_main_v17, val_main_cst_3, val_main_v18, val_main_v19, val_main_cst_4, val_main_v22, val_main_v37, ct, Cert.Norm.inv]
    simp only [Finset.univ_unique, Finset.sum_singleton]
  · unfold gains
    refine Finset.sum_congr rfl fun r _ => ?_
    unfold gain
    exact mul_comm _ _

open ResRefIdeal.Read in
theorem reference_columns (d : Vec Ideal S8192x2048 .f32) (x : Vec Ideal S8192x2048 .f32) (g : Vec Ideal S1x2048 .f32) (res : Vec Ideal S8192x2048 .f32) (h : val_main_v38 (F := Ideal) d x g res = total d x g res) : val_main_v41 (F := Ideal) d x g res = columns d x g res := by
  funext j
  refine Eq.trans (b := ∑ r : Fin 8192, val_main_v38 (F := Ideal) d x g res (ix2 r (j 1))) ?_ ?_
  · pointwise [val_main_v41, val_main_v40, val_main_cst_8]
  · rw [h]
    rfl

/-- The kernel and the reference hold the same arrays. -/
theorem algebraic : Cert.algebraic_ResIdeal_ResRefIdeal_pre_finite_res := by
  intro m g m' g' hpre hagree
  refine ⟨fun c => total (dA m c) (xA m c) (gA m c) (resA m c), fun c => total (dA m c) (xA m c) (gA m c) (resA m c), fun c => gains (dA m c) (xA m c), fun c => columns (dA m c) (xA m c) (gA m c) (resA m c),
    (θ_run _ _ _).mono (fun r h c => ⟨(h c).1.trans (array0 m c), (h c).2.1.trans (array1 m c), (h c).2.2.1.trans (array2 m c), (h c).2.2.2.1.trans (array3 m c), (h c).2.2.2.2⟩) (Value.run_blocks m g),
    (θ_run _ _ _).mono (fun r h c => ⟨((h c).1.trans (ResRefIdeal.Read.val_main_v38_eq ..)).trans ?_, ((h c).2.1.trans (ResRefIdeal.Read.val_main_v39_eq ..)).trans ?_, ((h c).2.2.1.trans (ResRefIdeal.Read.val_main_v37_eq ..)).trans ?_, ((h c).2.2.2.1.trans (ResRefIdeal.Read.val_main_v41_eq ..)).trans ?_, (h c).2.2.2.2⟩) (ResRefIdeal.Value.run m' g')⟩
  · obtain ⟨p0, p1, p2, p3⟩ := finite_of_pre _ _ _ _ (hpre c)
    rw [(hagree c).1, (hagree c).2.1, (hagree c).2.2.1, (hagree c).2.2.2]
    exact reference_total _ _ _ _ (fun r l => p0 (ix2 r l)) p1 p2
  · obtain ⟨p0, p1, p2, p3⟩ := finite_of_pre _ _ _ _ (hpre c)
    rw [(hagree c).1, (hagree c).2.1, (hagree c).2.2.1, (hagree c).2.2.2, reference_rounded]
    exact reference_total _ _ _ _ (fun r l => p0 (ix2 r l)) p1 p2
  · obtain ⟨p0, p1, p2, p3⟩ := finite_of_pre _ _ _ _ (hpre c)
    rw [(hagree c).1, (hagree c).2.1]
    exact reference_gains _ _
  · obtain ⟨p0, p1, p2, p3⟩ := finite_of_pre _ _ _ _ (hpre c)
    rw [(hagree c).1, (hagree c).2.1, (hagree c).2.2.1, (hagree c).2.2.2]
    exact reference_columns _ _ _ _ (reference_total _ _ _ _ (fun r l => p0 (ix2 r l)) p1 p2)

end Cert.ResValue

end
-- ==== Proof.ResIn.lean ====
/- The derivative of the norm over rows, with the gradient beside it added and the gain's gradient summed over the blocks of rows: the last call of the backward pass. -/
module

public import proofs.«01_k».proof.Defs
public import proofs.«01_k».proof.Proof.Gen.ResInIdeal.Value
public import proofs.«01_k».proof.Proof.Gen.ResInRefIdeal.Read
public import proofs.«01_k».proof.Proof.Norm
public import proofs.«01_k».proof.Proof.Gen.Pre_finite_res
public import proofs.«01_k».proof.Proof.Zero

@[expose] public section

noncomputable section

namespace Cert.ResInValue

open Cert.ResInIdeal Cert.ResInIdeal.Gen Idealize.ShloMosaic Idealize.ShloMosaic.TcCoe Idealize.SL.Sem
open Cert.Norm

open Cert.Finite

/-- The incoming gradient, at a row and a column. -/
def ct (d : Vec Ideal S8192x2048 .f32) (r : Fin 8192) (l : Fin 2048) : EReal := d (ix2 r l)

/-- The same in one block of rows. -/
def ctBlock (d : Vec Ideal S256x2048 .f32) (r : Fin 256) (l : Fin 2048) : EReal := d (ix2 r l)

theorem rounded (d : Vec Ideal S256x2048 .f32) (x : Vec Ideal S256x2048 .f32) (g : Vec Ideal S1x2048 .f32) (res : Vec Ideal S256x2048 .f32) (j : S256x2048.Idx) :
    k0_pay6 (F := Ideal) d x g res j = k0_pay5 (F := Ideal) d x g res j := by
  pointwise [k0_pay6]

/-- The gradient along a row, with the gradient that arrives beside it added. -/
def total (d : Vec Ideal S8192x2048 .f32) (x : Vec Ideal S8192x2048 .f32) (g : Vec Ideal S1x2048 .f32) (res : Vec Ideal S8192x2048 .f32) (i : S8192x2048.Idx) : EReal :=
  res i + back (ct d (i 0)) (fun l => x (ix2 (i 0) l)) (fun l => g (ix2 0 l)) (i 1)

/-- The gradient of the gain: a column's sum over all rows. -/
def gains (d : Vec Ideal S8192x2048 .f32) (x : Vec Ideal S8192x2048 .f32) (i : S1x2048.Idx) : EReal :=
  ∑ r : Fin 8192, gain (ct d r) (fun l => x (ix2 r l)) (i 1)

theorem block_total (d : Vec Ideal S256x2048 .f32) (x : Vec Ideal S256x2048 .f32) (g : Vec Ideal S1x2048 .f32) (res : Vec Ideal S256x2048 .f32) (k : Fin 256) (l : Fin 2048) : k0_pay5 (F := Ideal) d x g res (ix2 k l)
    = res (ix2 k l) + back (ctBlock d k) (fun l => x (ix2 k l)) (fun l => g (ix2 0 l)) l := by
  pointwise [k0_pay5, k0_pay2, k0_pay3, ctBlock, back, Cert.Norm.inv]

theorem block_gains (d : Vec Ideal S256x2048 .f32) (x : Vec Ideal S256x2048 .f32) (z : Fin 1) (l : Fin 2048) : k0_pay4 (F := Ideal) d x (ix2 z l)
    = ∑ k : Fin 256, gain (ctBlock d k) (fun l => x (ix2 k l)) l := by
  pointwise [k0_pay4, k0_pay2, k0_pay3, ctBlock, gain, Cert.Norm.inv]

section
variable (c : Dev nD) (i : grid0.Coords) (a1 : Memref sig .tc .vmem S256x2048 .f32) (h1 : a1.IsWhole) (a2 : Memref sig .tc .vmem S256x2048 .f32) (h2 : a2.IsWhole) (a3 : Memref sig .tc .vmem S1x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
  (d : Vec Ideal S256x2048 .f32) (x : Vec Ideal S256x2048 .f32) (g : Vec Ideal S1x2048 .f32) (res : Vec Ideal S256x2048 .f32)

theorem out_A0 (hc0 : cond0_0 i) (hc1 : ¬cond0_1 i) :
    out0_A_4 c i a1 h1 a2 h2 a3 h3 a4 h4 a5 h5 a6 h6 a7 h7 hc0 hc1 d x g res = k0_pay5 (F := Ideal) d x g res := by
  unfold out0_A_4
  rw [View.read_writes_eq_canon _ _ _ (cover0_A_4 c i a1 h1 a2 h2 a3 h3 a4 h4 a5 h5 a6 h6 a7 h7 hc0 hc1 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_A1 (hc0 : cond0_0 i) (hc1 : ¬cond0_1 i) :
    out0_A_5 c i a1 h1 a2 h2 a3 h3 a4 h4 a5 h5 a6 h6 a7 h7 hc0 hc1 d x g res = k0_pay6 (F := Ideal) d x g res := by
  unfold out0_A_5
  rw [View.read_writes_eq_canon _ _ _ (cover0_A_5 c i a1 h1 a2 h2 a3 h3 a4 h4 a5 h5 a6 h6 a7 h7 hc0 hc1 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_A2 (hc0 : cond0_0 i) (hc1 : ¬cond0_1 i) :
    out0_A_6 c i a1 h1 a2 h2 a3 h3 a4 h4 a5 h5 a6 h6 a7 h7 hc0 hc1 d x g res = k0_pay4 (F := Ideal) d x := by
  unfold out0_A_6
  rw [View.read_writes_eq_canon _ _ _ (cover0_A_6 c i a1 h1 a2 h2 a3 h3 a4 h4 a5 h5 a6 h6 a7 h7 hc0 hc1 d x g res)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_B0 (hc0 : ¬cond0_0 i) (hc1 : cond0_1 i) (s0 : Vec Ideal S1x2048 .f32) :
    out0_B_4 c i a1 h1 a2 h2 a3 h3 a4 h4 a5 h5 a6 h6 a7 h7 hc0 hc1 d x g res s0 = k0_pay5 (F := Ideal) d x g res := by
  unfold out0_B_4
  rw [View.read_writes_eq_canon _ _ _ (cover0_B_4 c i a1 h1 a2 h2 a3 h3 a4 h4 a5 h5 a6 h6 a7 h7 hc0 hc1 d x g res s0)]
  unfold kernelRun0_B
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_B1 (hc0 : ¬cond0_0 i) (hc1 : cond0_1 i) (s0 : Vec Ideal S1x2048 .f32) :
    out0_B_5 c i a1 h1 a2 h2 a3 h3 a4 h4 a5 h5 a6 h6 a7 h7 hc0 hc1 d x g res s0 = k0_pay6 (F := Ideal) d x g res := by
  unfold out0_B_5
  rw [View.read_writes_eq_canon _ _ _ (cover0_B_5 c i a1 h1 a2 h2 a3 h3 a4 h4 a5 h5 a6 h6 a7 h7 hc0 hc1 d x g res s0)]
  unfold kernelRun0_B
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, shapeCast_self] <;> rfl

theorem out_B2 (hc0 : ¬cond0_0 i) (hc1 : cond0_1 i) (s0 : Vec Ideal S1x2048 .f32) :
    out0_B_6 c i a1 h1 a2 h2 a3 h3 a4 h4 a5 h5 a6 h6 a7 h7 hc0 hc1 d x g res s0 = addf s0 (k0_pay4 (F := Ideal) d x) := by
  unfold out0_B_6
  rw [View.read_writes_eq_canon _ _ _ (cover0_B_6 c i a1 h1 a2 h2 a3 h3 a4 h4 a5 h5 a6 h6 a7 h7 hc0 hc1 d x g res s0)]
  unfold kernelRun0_B
  dsimp only
  sl_unfold_words
  rw [View.canon_unit_zero zero2]
  unfold k0_pay1
  simp only [View.readAt_eq_ld, h1.read_unread, h2.read_unread, h3.read_unread, h4.read_unread, h7.read_unread, View.ld_unit_zero (S := S1x2048) zero2, View.ld_unit_zero (S := S256x2048) zero2, shapeCast_self] <;> rfl

end

theorem idx_facts : ∀ t : Fin cfg0.N, win0_0.index t (0 : Fin 2) = t.val ∧ win0_0.index t (1 : Fin 2) = 0 ∧ win0_1.index t (0 : Fin 2) = t.val ∧ win0_1.index t (1 : Fin 2) = 0 ∧ win0_3.index t (0 : Fin 2) = t.val ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)

/-- Every place of a whole array is at a row of some block. -/
theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem one_row (i : S1x2048.Idx) : ∃ l : Fin 2048, i = ix2 (0 : Fin 1) l :=
  ⟨i 1, funext fun a => Fin.ext (match a with | ⟨0, _⟩ => by have h : (i 0).val < 1 := (i 0).isLt; show (i 0).val = 0; omega | ⟨1, _⟩ => rfl)⟩

theorem emb0 (t : Fin cfg0.N) (k : Fin 256) (l : Fin 2048) : ((cfg0.win 0).blk t).view.emb (ix2 k l) = ix2 (rowAt t.val k) l := by
  have F := idx_facts t
  have hN : t.val < 32 := t.isLt
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem emb1 (t : Fin cfg0.N) (k : Fin 256) (l : Fin 2048) : ((cfg0.win 1).blk t).view.emb (ix2 k l) = ix2 (rowAt t.val k) l := by
  have F := idx_facts t
  have hN : t.val < 32 := t.isLt
  funext a; apply Fin.ext
  match a with
  | ⟨0, _⟩ => show win0_1.index t (0 : Fin 2) * 256 + 1 * k.val = (t.val * 256 + k.val) % 8192; omega
  | ⟨1, _⟩ => show win0_1.index t (1 : Fin 2) * 2048 + 1 * l.val = l.val; omega

theorem emb3 (t : Fin cfg0.N) (k : Fin 256) (l : Fin 2048) : ((cfg0.win 3).blk t).view.emb (ix2 k l) = ix2 (rowAt t.val k) l := by
  have F := idx_facts t
  have hN : t.val < 32 := t.isLt
  funext a; apply Fin.ext
  match a with
  | ⟨0, _⟩ => show win0_3.index t (0 : Fin 2) * 256 + 1 * k.val = (t.val * 256 + k.val) % 8192; omega
  | ⟨1, _⟩ => show win0_3.index t (1 : Fin 2) * 2048 + 1 * l.val = l.val; omega

theorem emb4 (t : Fin cfg0.N) (k : Fin 256) (l : Fin 2048) : ((cfg0.win 4).blk t).view.emb (ix2 k l) = ix2 (rowAt t.val k) l := by
  have F := idx_facts t
  have hN : t.val < 32 := t.isLt
  funext a; apply Fin.ext
  match a with
  | ⟨0, _⟩ => show win0_4.index t (0 : Fin 2) * 256 + 1 * k.val = (t.val * 256 + k.val) % 8192; omega
  | ⟨1, _⟩ => show win0_4.index t (1 : Fin 2) * 2048 + 1 * l.val = l.val; omega

theorem emb5 (t : Fin cfg0.N) (k : Fin 256) (l : Fin 2048) : ((cfg0.win 5).blk t).view.emb (ix2 k l) = ix2 (rowAt t.val k) l := by
  have F := idx_facts t
  have hN : t.val < 32 := t.isLt
  funext a; apply Fin.ext
  match a with
  | ⟨0, _⟩ => show win0_5.index t (0 : Fin 2) * 256 + 1 * k.val = (t.val * 256 + k.val) % 8192; omega
  | ⟨1, _⟩ => show win0_5.index t (1 : Fin 2) * 2048 + 1 * l.val = l.val; omega

theorem emb2 (t : Fin cfg0.N) (y : S1x2048.Idx) : ((cfg0.win 2).blk t).view.emb y = y := by
  have h : ∀ t : Fin cfg0.N, win0_2.index t (0 : Fin 2) = 0 ∧ win0_2.index t (1 : Fin 2) = 0 := (by decide +kernel : ∀ t : Fin grid0.N, _)
  obtain ⟨f0, f1⟩ := h t
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem emb6 (t : Fin cfg0.N) (y : S1x2048.Idx) : ((cfg0.win 6).blk t).view.emb y = y := by
  have h : ∀ t : Fin cfg0.N, win0_6.index t (0 : Fin 2) = 0 ∧ win0_6.index t (1 : Fin 2) = 0 := (by decide +kernel : ∀ t : Fin grid0.N, _)
  obtain ⟨f0, f1⟩ := h t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem last : 31 < cfg0.N := by show 31 < 32; omega

variable (m : (ℓ : Loc nD τ sig) → Buf (Elt Ideal) ℓ)

abbrev dA (c : Dev nD) : Vec Ideal S8192x2048 .f32 := m (c.tc.loc main_arg0)
abbrev xA (c : Dev nD) : Vec Ideal S8192x2048 .f32 := m (c.tc.loc main_arg1)
abbrev gA (c : Dev nD) : Vec Ideal S1x2048 .f32 := m (c.tc.loc main_arg2)
abbrev resA (c : Dev nD) : Vec Ideal S8192x2048 .f32 := m (c.tc.loc main_arg3)

theorem block0 (c : Dev nD) (t : Fin cfg0.N) (k : Fin 256) (l : Fin 2048) : iblk m c 0 t (ix2 k l) = dA m c (ix2 (rowAt t.val k) l) :=
  congrArg (dA m c) (emb0 t k l)

theorem block1 (c : Dev nD) (t : Fin cfg0.N) (k : Fin 256) (l : Fin 2048) : iblk m c 1 t (ix2 k l) = xA m c (ix2 (rowAt t.val k) l) :=
  congrArg (xA m c) (emb1 t k l)

theorem block2 (c : Dev nD) (t : Fin cfg0.N) : iblk m c 2 t = gA m c :=
  funext fun y => congrArg (gA m c) (emb2 t y)

theorem block3 (c : Dev nD) (t : Fin cfg0.N) (k : Fin 256) (l : Fin 2048) : iblk m c 3 t (ix2 k l) = resA m c (ix2 (rowAt t.val k) l) :=
  congrArg (resA m c) (emb3 t k l)

theorem block_ct (c : Dev nD) (t : Fin cfg0.N) (k : Fin 256) : ctBlock (iblk m c 0 t) k = ct (dA m c) (rowAt t.val k) := by
  funext l
  unfold ctBlock ct
  rw [block0]

theorem point0 (c : Dev nD) (t : Fin cfg0.N) (k : Fin 256) (l : Fin 2048) : (k0_pay5 (F := Ideal) (iblk m c 0 t) (iblk m c 1 t) (iblk m c 2 t) (iblk m c 3 t)) (ix2 k l) = total (dA m c) (xA m c) (gA m c) (resA m c) (ix2 (rowAt t.val k) l) := by
  rw [block2, block_total, block_ct, block3]
  simp only [block1]
  rfl

theorem point1 (c : Dev nD) (t : Fin cfg0.N) (k : Fin 256) (l : Fin 2048) : (k0_pay6 (F := Ideal) (iblk m c 0 t) (iblk m c 1 t) (iblk m c 2 t) (iblk m c 3 t)) (ix2 k l) = total (dA m c) (xA m c) (gA m c) (resA m c) (ix2 (rowAt t.val k) l) := by
  exact (rounded _ _ _ _ _).trans (point0 m c t k l)

theorem point2 (c : Dev nD) (t : Fin cfg0.N) (l : Fin 2048) : (k0_pay4 (F := Ideal) (iblk m c 0 t) (iblk m c 1 t)) (ix2 0 l) = part (fun r => gain (ct (dA m c) r) (fun l => (xA m c) (ix2 r l)) l) t.val := by
  rw [block_gains]
  simp only [block_ct, block1]
  rfl

theorem after0 (c : Dev nD) (t : Fin cfg0.N) : (outsAt0 m c t.val t.isLt).1 = k0_pay5 (F := Ideal) (iblk m c 0 t) (iblk m c 1 t) (iblk m c 2 t) (iblk m c 3 t) := by
  have hN : t.val < 32 := t.isLt
  by_cases h0 : t.val % 32 = 0
  · have h1 : ¬1 ≤ t.val := by omega
    rw [outsAt0_A m c t h0 h1]
    dsimp only
    rw [out_A0]
  · have h1 : 1 ≤ t.val := by omega
    rw [outsAt0_B m c t h0 h1]
    dsimp only
    rw [out_B0]

theorem array0 (c : Dev nD) : (dats m 0 c).arrAt 4 cfg0.N = total (dA m c) (xA m c) (gA m c) (resA m c) := by
  funext i
  obtain ⟨t, k, l, rfl⟩ := places i
  refine Eq.trans (congrArg _ (emb4 t k l).symm) ((congrFun (Value.blocks4 m c t (flush0_4 t)) (ix2 k l)).trans ?_)
  rw [Value.flushed4, after0]
  exact point0 m c t k l

theorem after1 (c : Dev nD) (t : Fin cfg0.N) : (outsAt0 m c t.val t.isLt).2.1 = k0_pay6 (F := Ideal) (iblk m c 0 t) (iblk m c 1 t) (iblk m c 2 t) (iblk m c 3 t) := by
  have hN : t.val < 32 := t.isLt
  by_cases h0 : t.val % 32 = 0
  · have h1 : ¬1 ≤ t.val := by omega
    rw [outsAt0_A m c t h0 h1]
    dsimp only
    rw [out_A1]
  · have h1 : 1 ≤ t.val := by omega
    rw [outsAt0_B m c t h0 h1]
    dsimp only
    rw [out_B1]

theorem array1 (c : Dev nD) : (dats m 0 c).arrAt 5 cfg0.N = total (dA m c) (xA m c) (gA m c) (resA m c) := by
  funext i
  obtain ⟨t, k, l, rfl⟩ := places i
  refine Eq.trans (congrArg _ (emb5 t k l).symm) ((congrFun (Value.blocks5 m c t (flush0_5 t)) (ix2 k l)).trans ?_)
  rw [Value.flushed5, after1]
  exact point1 m c t k l

/-- After a point the row holds the sums of the blocks so far. -/
theorem sum2 (c : Dev nD) : ∀ (n : ℕ) (h : n < cfg0.N) (l : Fin 2048), (outsAt0 m c n h).2.2 (ix2 0 l) = ∑ s ∈ Finset.range (n + 1), part (fun r => gain (ct (dA m c) r) (fun l => (xA m c) (ix2 r l)) l) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1]
    dsimp only
    rw [out_A2, zero_add, Finset.sum_range_one]
    exact point2 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1]
    dsimp only
    rw [out_B2, Finset.sum_range_succ, ← ih (by omega) l]
    exact congrArg₂ (· + ·) rfl (point2 m c ⟨n + 1, h⟩ l)

theorem last6 (i : S1x2048.Idx) : i ∈ ((cfg0.win 6).blk ⟨31, last⟩).view.set :=
  Finset.mem_map.mpr ⟨i, Finset.mem_univ _, emb6 ⟨31, last⟩ i⟩

theorem read6 (t : Fin cfg0.N) (G : S1x2048.Idx → EReal) (y : ((cfg0.win 6).xblock (cfg0.grid.coords t)).Idx) :
    ((cfg0.win 6).blk t).view.read (Elt Ideal) G y = G y := congrArg G (emb6 t y)

theorem array2 (c : Dev nD) : (dats m 0 c).arrAt 6 cfg0.N = gains (dA m c) (xA m c) := by
  refine (dats m 0 c).arrAt_eq_of_cover 6 _ (fun t hf => ?_) fun i => ⟨⟨31, last⟩, (flush0_6 _).mpr rfl, last6 i⟩
  · have hN : t.val < 32 := t.isLt
    have h31 : t.val % 32 = 31 := (flush0_6 t).mp hf
    rw [Value.flushed6]
    funext y
    refine Eq.trans ?_ (read6 t _ y).symm
    obtain ⟨l, rfl⟩ := one_row y
    refine (sum2 m c t.val t.isLt l).trans ?_
    rw [show t.val + 1 = 32 by omega, parts_sum]
    rfl

/-- What the precondition says of the arguments. -/
theorem finite_of_pre [Cert.Pre_finite_res.Facts] (d : Vec Ideal S8192x2048 .f32) (x : Vec Ideal S8192x2048 .f32) (g : Vec Ideal S1x2048 .f32) (res : Vec Ideal S8192x2048 .f32)
    (h : Cert.Pre_finite_res.fn (F := Ideal) d x g res = fun _ => 1#1) :
    (∀ i, IsReal (d i)) ∧ (∀ i, IsReal (x i)) ∧ (∀ i, IsReal (g i)) ∧ (∀ i, IsReal (res i)) := by
  have h0 := congrFun h (fun a => a.elim0)
  unfold Cert.Pre_finite_res.fn Cert.Pre_finite_res.fn_part1 at h0
  obtain ⟨h1, p3⟩ := IntOp.andi_eq_one.1 h0
  obtain ⟨h2, p2⟩ := IntOp.andi_eq_one.1 h1
  obtain ⟨p0, p1⟩ := IntOp.andi_eq_one.1 h2
  exact ⟨real_at _ _ (fun _ => f32_inf) _ _ _ _ p0, real_at _ _ (fun _ => f32_inf) _ _ _ _ p1, real_at _ _ (fun _ => f32_inf) _ _ _ _ p2, real_at _ _ (fun _ => f32_inf) _ _ _ _ p3⟩

open ResInRefIdeal.Read in
/-- The reference's gradient is the kernel's: the derivative of the norm, put together. -/
theorem reference_total (d : Vec Ideal S8192x2048 .f32) (x : Vec Ideal S8192x2048 .f32) (g : Vec Ideal S1x2048 .f32) (res : Vec Ideal S8192x2048 .f32) (hd : ∀ r l, IsReal (ct d r l)) (hx : ∀ i, IsReal (x i)) (hg : ∀ i, IsReal (g i)) :
    val_main_v38 (F := Ideal) d x g res = total d x g res := by
  funext j
  obtain ⟨r, l, rfl⟩ : ∃ (r : Fin 8192) (l : Fin 2048), j = ix2 r l := ⟨j 0, j 1, eq_ix2 j⟩
  refine Eq.trans (b := res (ix2 r l) + (ct d r l * g (ix2 0 l) * inv (fun l => x (ix2 r l))
    + x (ix2 r l) * coef (ct d r) (fun l => x (ix2 r l)) (fun l => g (ix2 0 l))
    + coef (ct d r) (fun l => x (ix2 r l)) (fun l => g (ix2 0 l)) * x (ix2 r l))) ?_ ?_
  · pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v14, val_main_v20, val_main_v21, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v38, ct, Cert.Norm.inv, coef]
    simp only [Finset.univ_unique, Finset.sum_singleton]
  · exact congrArg (res (ix2 r l) + ·) (back_eq (ct d r) (fun l => x (ix2 r l)) (fun l => g (ix2 0 l)) (hd r) (fun _ => hx _) (fun _ => hg _) l)

open ResInRefIdeal.Read in
theorem reference_rounded (d : Vec Ideal S8192x2048 .f32) (x : Vec Ideal S8192x2048 .f32) (g : Vec Ideal S1x2048 .f32) (res : Vec Ideal S8192x2048 .f32) : val_main_v39 (F := Ideal) d x g res = val_main_v38 (F := Ideal) d x g res := by
  funext j
  pointwise [val_main_v39]

open ResInRefIdeal.Read in
theorem reference_gains (d : Vec Ideal S8192x2048 .f32) (x : Vec Ideal S8192x2048 .f32) : val_main_v37 (F := Ideal) d x = gains d x := by
  funext j
  obtain ⟨z, l, rfl⟩ : ∃ (z : Fin 1) (l : Fin 2048), j = ix2 z l := ⟨j 0, j 1, eq_ix2 j⟩
  refine Eq.trans (b := ∑ r : Fin 8192, x (ix2 r l) * inv (fun l => x (ix2 r l)) * ct d r l) ?_ ?_
  · pointwise [val_main_v1, val_main_cst, val_main_v2, val_main_v3, val_main_cst_0, val_main_v4, val_main_v5, val_main_cst_1, val_main_v6, val_main_v7, val_main_v8, val_main_v12, val_main_v13, val_main_v17, val_main_cst_3, val_main_v18, val_main_v19, val_main_cst_4, val_main_v22, val_main_v37, ct, Cert.Norm.inv]
    simp only [Finset.univ_unique, Finset.sum_singleton]
  · unfold gains
    refine Finset.sum_congr rfl fun r _ => ?_
    unfold gain
    exact mul_comm _ _

/-- The kernel and the reference hold the same arrays. -/
theorem algebraic : Cert.algebraic_ResInIdeal_ResInRefIdeal_pre_finite_res := by
  intro m g m' g' hpre hagree
  refine ⟨fun c => total (dA m c) (xA m c) (gA m c) (resA m c), fun c => total (dA m c) (xA m c) (gA m c) (resA m c), fun c => gains (dA m c) (xA m c),
    (θ_run _ _ _).mono (fun r h c => ⟨(h c).1.trans (array0 m c), (h c).2.1.trans (array1 m c), (h c).2.2.1.trans (array2 m c), (h c).2.2.2⟩) (Value.run_blocks m g),
    (θ_run _ _ _).mono (fun r h c => ⟨((h c).1.trans (ResInRefIdeal.Read.val_main_v38_eq ..)).trans ?_, ((h c).2.1.trans (ResInRefIdeal.Read.val_main_v39_eq ..)).trans ?_, ((h c).2.2.1.trans (ResInRefIdeal.Read.val_main_v37_eq ..)).trans ?_, (h c).2.2.2⟩) (ResInRefIdeal.Value.run m' g')⟩
  · obtain ⟨p0, p1, p2, p3⟩ := finite_of_pre _ _ _ _ (hpre c)
    rw [(hagree c).1, (hagree c).2.1, (hagree c).2.2.1, (hagree c).2.2.2]
    exact reference_total _ _ _ _ (fun r l => p0 (ix2 r l)) p1 p2
  · obtain ⟨p0, p1, p2, p3⟩ := finite_of_pre _ _ _ _ (hpre c)
    rw [(hagree c).1, (hagree c).2.1, (hagree c).2.2.1, (hagree c).2.2.2, reference_rounded]
    exact reference_total _ _ _ _ (fun r l => p0 (ix2 r l)) p1 p2
  · obtain ⟨p0, p1, p2, p3⟩ := finite_of_pre _ _ _ _ (hpre c)
    rw [(hagree c).1, (hagree c).2.1]
    exact reference_gains _ _

end Cert.ResInValue

end
-- ==== Proof.Loss.lean ====
/- The loss head: the gradient of the loss in the output, and half the sum over rows of the mean squared error, summed over the blocks of rows. -/
module

public import proofs.«01_k».proof.Defs
public import proofs.«01_k».proof.Proof.Gen.LossIdeal.Value
public import proofs.«01_k».proof.Proof.Gen.LossRefIdeal.Read
public import proofs.«01_k».proof.Proof.Norm
public import proofs.«01_k».proof.Proof.Zero

@[expose] public section

noncomputable section

namespace Cert.LossValue

open Cert.LossIdeal Cert.LossIdeal.Gen Idealize.ShloMosaic Idealize.ShloMosaic.TcCoe Idealize.SL.Sem
open Cert.Norm

theorem word_rows_inv : Ideal.ofBits .f32 0x3A000000#32 = ((1 / 2048 : ℝ) : EReal) := by
  simp [Ideal.ofBits, Ideal.ieee, -EReal.coe_mul]; norm_num

theorem word_half' : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_unit : Ideal.ofBits .f32 0x3F800000#32 = ((1 : ℝ) : EReal) := by
  simp [Ideal.ofBits, Ideal.ieee, -EReal.coe_mul]; norm_num

theorem square_nonneg (e : EReal) : 0 ≤ e * e := by
  induction e with
  | bot => simp
  | top => simp
  | coe r => rw [← EReal.coe_mul]; exact_mod_cast mul_self_nonneg r

/-- A factor moves out of a sum of terms that are not negative. -/
theorem mul_sum_nonneg {ι : Type*} (c : EReal) (s : Finset ι) (f : ι → EReal) (hf : ∀ k, 0 ≤ f k) : ∑ k ∈ s, c * f k = c * ∑ k ∈ s, f k := by
  classical
  induction s using Finset.induction_on with
  | empty => simp
  | insert a s ha ih => rw [Finset.sum_insert ha, Finset.sum_insert ha, ih, EReal.left_distrib_of_nonneg (hf a) (Finset.sum_nonneg fun k _ => hf k)]

/-- A row's squared error. -/
def sq (y t : Vec Ideal S8192x2048 .f32) (r : Fin 8192) : EReal :=
  ∑ l : Fin 2048, (y (ix2 r l) - t (ix2 r l)) * (y (ix2 r l) - t (ix2 r l))

theorem sq_nonneg (y t : Vec Ideal S8192x2048 .f32) (r : Fin 8192) : 0 ≤ sq y t r :=
  Finset.sum_nonneg fun _ _ => square_nonneg _

/-- The gradient of the loss in the output. -/
def slope (y t : Vec Ideal S8192x2048 .f32) (i : S8192x2048.Idx) : EReal := (y i - t i) * ((1 / 2048 : ℝ) : EReal)

/-- The loss, at every place of the tile that holds it. -/
def loss (y t : Vec Ideal S8192x2048 .f32) (_ : S8x128.Idx) : EReal := ((1 / 4096 : ℝ) : EReal) * ∑ r, sq y t r

theorem block_slope (y t : Vec Ideal S256x2048 .f32) (i : S256x2048.Idx) : k0_pay2 (F := Ideal) y t i = (y i - t i) * ((1 / 2048 : ℝ) : EReal) := by
  rw [← word_rows_inv]
  pointwise [k0_pay2, k0_pay1]

theorem rounded (y t : Vec Ideal S256x2048 .f32) (i : S256x2048.Idx) : k0_pay3 (F := Ideal) y t i = k0_pay2 (F := Ideal) y t i := by
  pointwise [k0_pay3]

theorem block_loss (y t : Vec Ideal S256x2048 .f32) (i : S8x128.Idx) : k0_pay4 (F := Ideal) y t i
    = ((1 / 4096 : ℝ) : EReal) * ∑ k : Fin 256, ∑ l : Fin 2048, (y (ix2 k l) - t (ix2 k l)) * (y (ix2 k l) - t (ix2 k l)) := by
  refine Eq.trans (b := Ideal.ofBits .f32 0x3F000000#32 * (∑ k : Fin 256, ∑ l : Fin 2048, (y (ix2 k l) - t (ix2 k l)) * (y (ix2 k l) - t (ix2 k l))) * Ideal.ofBits .f32 0x3A000000#32) ?_ ?_
  · pointwise [k0_pay4, k0_pay1]
  · rw [word_half', word_rows_inv, mul_right_comm, ← EReal.coe_mul]
    norm_num

theorem out_A0 (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x128 .f32) (h5 : a5.IsWhole) (hc0 : cond0_0 i) (hc1 : ¬cond0_1 i) (y t : Vec Ideal S256x2048 .f32) :
    out0_A_2 c i a1 h1 a2 h2 a3 h3 a4 h4 a5 h5 hc0 hc1 y t = k0_pay2 (F := Ideal) y t := by
  unfold out0_A_2
  rw [View.read_writes_eq_canon _ _ _ (cover0_A_2 c i a1 h1 a2 h2 a3 h3 a4 h4 a5 h5 hc0 hc1 y t)]
  unfold kernelRun0_A
  dsimp only
  sl_unfold_words
  rw [View.canon_unit_zero zero2]
  simp only [View.readAt_eq_ld, h1.read_unread, h2.read_unread, View.ld_unit_zero (S := S256x2048) zero2, View.ld_unit_zero (S := S8x128) zero2, shapeCast_self] <;> rfl

theorem out_A1 (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x128 .f32) (h5 : a5.IsWhole) (hc0 : cond0_0 i) (hc1 : ¬cond0_1 i) (y t : Vec Ideal S256x2048 .f32) :
    out0_A_3 c i a1 h1 a2 h2 a3 h3 a4 h4 a5 h5 hc0 hc1 y t = k0_pay3 (F := Ideal) y t := by
  unfold out0_A_3
  rw [View.read_writes_eq_canon _ _ _ (cover0_A_3 c i a1 h1 a2 h2 a3 h3 a4 h4 a5 h5 hc0 hc1 y t)]
  unfold kernelRun0_A
  dsimp only
  sl_unfold_words
  rw [View.canon_unit_zero zero2]
  simp only [View.readAt_eq_ld, h1.read_unread, h2.read_unread, View.ld_unit_zero (S := S256x2048) zero2, View.ld_unit_zero (S := S8x128) zero2, shapeCast_self] <;> rfl

theorem out_A2 (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x128 .f32) (h5 : a5.IsWhole) (hc0 : cond0_0 i) (hc1 : ¬cond0_1 i) (y t : Vec Ideal S256x2048 .f32) :
    out0_A_4 c i a1 h1 a2 h2 a3 h3 a4 h4 a5 h5 hc0 hc1 y t = k0_pay4 (F := Ideal) y t := by
  unfold out0_A_4
  rw [View.read_writes_eq_canon _ _ _ (cover0_A_4 c i a1 h1 a2 h2 a3 h3 a4 h4 a5 h5 hc0 hc1 y t)]
  unfold kernelRun0_A
  dsimp only
  sl_unfold_words
  rw [View.canon_unit_zero zero2]
  simp only [View.readAt_eq_ld, h1.read_unread, h2.read_unread, View.ld_unit_zero (S := S256x2048) zero2, View.ld_unit_zero (S := S8x128) zero2, shapeCast_self] <;> rfl

theorem out_B0 (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x128 .f32) (h5 : a5.IsWhole) (hc0 : ¬cond0_0 i) (hc1 : cond0_1 i) (y t : Vec Ideal S256x2048 .f32) (s : Vec Ideal S8x128 .f32) :
    out0_B_2 c i a1 h1 a2 h2 a3 h3 a4 h4 a5 h5 hc0 hc1 y t s = k0_pay2 (F := Ideal) y t := by
  unfold out0_B_2
  rw [View.read_writes_eq_canon _ _ _ (cover0_B_2 c i a1 h1 a2 h2 a3 h3 a4 h4 a5 h5 hc0 hc1 y t s)]
  unfold kernelRun0_B
  dsimp only
  sl_unfold_words
  rw [View.canon_unit_zero zero2]
  simp only [View.readAt_eq_ld, h1.read_unread, h2.read_unread, h5.read_unread, View.ld_unit_zero (S := S256x2048) zero2, View.ld_unit_zero (S := S8x128) zero2, shapeCast_self] <;> rfl

theorem out_B1 (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x128 .f32) (h5 : a5.IsWhole) (hc0 : ¬cond0_0 i) (hc1 : cond0_1 i) (y t : Vec Ideal S256x2048 .f32) (s : Vec Ideal S8x128 .f32) :
    out0_B_3 c i a1 h1 a2 h2 a3 h3 a4 h4 a5 h5 hc0 hc1 y t s = k0_pay3 (F := Ideal) y t := by
  unfold out0_B_3
  rw [View.read_writes_eq_canon _ _ _ (cover0_B_3 c i a1 h1 a2 h2 a3 h3 a4 h4 a5 h5 hc0 hc1 y t s)]
  unfold kernelRun0_B
  dsimp only
  sl_unfold_words
  rw [View.canon_unit_zero zero2]
  simp only [View.readAt_eq_ld, h1.read_unread, h2.read_unread, h5.read_unread, View.ld_unit_zero (S := S256x2048) zero2, View.ld_unit_zero (S := S8x128) zero2, shapeCast_self] <;> rfl

theorem out_B2 (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x128 .f32) (h5 : a5.IsWhole) (hc0 : ¬cond0_0 i) (hc1 : cond0_1 i) (y t : Vec Ideal S256x2048 .f32) (s : Vec Ideal S8x128 .f32) :
    out0_B_4 c i a1 h1 a2 h2 a3 h3 a4 h4 a5 h5 hc0 hc1 y t s = addf s (k0_pay4 (F := Ideal) y t) := by
  unfold out0_B_4
  rw [View.read_writes_eq_canon _ _ _ (cover0_B_4 c i a1 h1 a2 h2 a3 h3 a4 h4 a5 h5 hc0 hc1 y t s)]
  unfold kernelRun0_B
  dsimp only
  sl_unfold_words
  rw [View.canon_unit_zero zero2]
  unfold k0_pay5
  simp only [View.readAt_eq_ld, h1.read_unread, h2.read_unread, h5.read_unread, View.ld_unit_zero (S := S256x2048) zero2, View.ld_unit_zero (S := S8x128) zero2, shapeCast_self] <;> rfl

theorem idx_facts : ∀ t : Fin cfg0.N, win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0 :=
  (by decide +kernel : ∀ t : Fin grid0.N, _)

theorem onto2 : ∀ (p0 : Fin 32) (p1 : Fin 1), ∃ t : Fin cfg0.N, (cfg0.win 2).flush t = true ∧ win0_2.index t (0 : Fin 2) = p0.val ∧ win0_2.index t (1 : Fin 2) = p1.val :=
  fun p0 p1 => ⟨⟨p0.val + p1.val, by show _ < 32; omega⟩,
    (by decide +kernel : ∀ (p0 : Fin 32) (p1 : Fin 1), win0_2.flush (⟨p0.val + p1.val, by show _ < 32; omega⟩ : Fin grid0.N) = true
      ∧ win0_2.index (⟨p0.val + p1.val, by show _ < 32; omega⟩ : Fin grid0.N) (0 : Fin 2) = p0.val ∧ win0_2.index (⟨p0.val + p1.val, by show _ < 32; omega⟩ : Fin grid0.N) (1 : Fin 2) = p1.val) p0 p1⟩

theorem mem_blk2 (t : Fin cfg0.N) (i : S8192x2048.Idx) : i ∈ ((cfg0.win 2).blk t).view.set ↔
    ∀ a : Fin 2, win0_2.index t a * S256x2048.size a ≤ (i a).val ∧ (i a).val < win0_2.index t a * S256x2048.size a + S256x2048.size a := by
  show i ∈ ((View.whole main_v0_0).slice (win0_2.rect t)).set ↔ _
  rw [View.set_slice_whole, Rect.mem_set_unit]
  exact Iff.rfl

/-- Every index of the array lies in a block that is written back. -/
theorem covered2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  obtain ⟨t, ht, e0, e1⟩ := onto2 ⟨(i 0).val / 256, by omega⟩ ⟨(i 1).val / 2048, by omega⟩
  refine ⟨t, ht, ?_⟩
  rw [mem_blk2]
  intro a
  match a with
  | ⟨0, _⟩ => show win0_2.index t (0 : Fin 2) * 256 ≤ (i 0).val ∧ (i 0).val < win0_2.index t (0 : Fin 2) * 256 + 256; simp only at e0; omega
  | ⟨1, _⟩ => show win0_2.index t (1 : Fin 2) * 2048 ≤ (i 1).val ∧ (i 1).val < win0_2.index t (1 : Fin 2) * 2048 + 2048; simp only at e1; omega

/-- A block of an array at an index is the array at the index's place. -/
theorem read_blk2 (t : Fin cfg0.N) (G : S8192x2048.Idx → EReal) (y : ((cfg0.win 2).xblock (cfg0.grid.coords t)).Idx) :
    ((cfg0.win 2).blk t).view.read (Elt Ideal) G y = G (((cfg0.win 2).blk t).view.emb y) := rfl

theorem onto3 : ∀ (p0 : Fin 32) (p1 : Fin 1), ∃ t : Fin cfg0.N, (cfg0.win 3).flush t = true ∧ win0_3.index t (0 : Fin 2) = p0.val ∧ win0_3.index t (1 : Fin 2) = p1.val :=
  fun p0 p1 => ⟨⟨p0.val + p1.val, by show _ < 32; omega⟩,
    (by decide +kernel : ∀ (p0 : Fin 32) (p1 : Fin 1), win0_3.flush (⟨p0.val + p1.val, by show _ < 32; omega⟩ : Fin grid0.N) = true
      ∧ win0_3.index (⟨p0.val + p1.val, by show _ < 32; omega⟩ : Fin grid0.N) (0 : Fin 2) = p0.val ∧ win0_3.index (⟨p0.val + p1.val, by show _ < 32; omega⟩ : Fin grid0.N) (1 : Fin 2) = p1.val) p0 p1⟩

theorem mem_blk3 (t : Fin cfg0.N) (i : S8192x2048.Idx) : i ∈ ((cfg0.win 3).blk t).view.set ↔
    ∀ a : Fin 2, win0_3.index t a * S256x2048.size a ≤ (i a).val ∧ (i a).val < win0_3.index t a * S256x2048.size a + S256x2048.size a := by
  show i ∈ ((View.whole main_v0_1).slice (win0_3.rect t)).set ↔ _
  rw [View.set_slice_whole, Rect.mem_set_unit]
  exact Iff.rfl

/-- Every index of the array lies in a block that is written back. -/
theorem covered3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  obtain ⟨t, ht, e0, e1⟩ := onto3 ⟨(i 0).val / 256, by omega⟩ ⟨(i 1).val / 2048, by omega⟩
  refine ⟨t, ht, ?_⟩
  rw [mem_blk3]
  intro a
  match a with
  | ⟨0, _⟩ => show win0_3.index t (0 : Fin 2) * 256 ≤ (i 0).val ∧ (i 0).val < win0_3.index t (0 : Fin 2) * 256 + 256; simp only at e0; omega
  | ⟨1, _⟩ => show win0_3.index t (1 : Fin 2) * 2048 ≤ (i 1).val ∧ (i 1).val < win0_3.index t (1 : Fin 2) * 2048 + 2048; simp only at e1; omega

/-- A block of an array at an index is the array at the index's place. -/
theorem read_blk3 (t : Fin cfg0.N) (G : S8192x2048.Idx → EReal) (y : ((cfg0.win 3).xblock (cfg0.grid.coords t)).Idx) :
    ((cfg0.win 3).blk t).view.read (Elt Ideal) G y = G (((cfg0.win 3).blk t).view.emb y) := rfl

theorem onto4 : ∀ (p0 : Fin 1) (p1 : Fin 1), ∃ t : Fin cfg0.N, (cfg0.win 4).flush t = true ∧ win0_4.index t (0 : Fin 2) = p0.val ∧ win0_4.index t (1 : Fin 2) = p1.val :=
  fun p0 p1 => ⟨⟨31 + p0.val + p1.val, by show _ < 32; omega⟩,
    (by decide +kernel : ∀ (p0 : Fin 1) (p1 : Fin 1), win0_4.flush (⟨31 + p0.val + p1.val, by show _ < 32; omega⟩ : Fin grid0.N) = true
      ∧ win0_4.index (⟨31 + p0.val + p1.val, by show _ < 32; omega⟩ : Fin grid0.N) (0 : Fin 2) = p0.val ∧ win0_4.index (⟨31 + p0.val + p1.val, by show _ < 32; omega⟩ : Fin grid0.N) (1 : Fin 2) = p1.val) p0 p1⟩

theorem mem_blk4 (t : Fin cfg0.N) (i : S8x128.Idx) : i ∈ ((cfg0.win 4).blk t).view.set ↔
    ∀ a : Fin 2, win0_4.index t a * S8x128.size a ≤ (i a).val ∧ (i a).val < win0_4.index t a * S8x128.size a + S8x128.size a := by
  show i ∈ ((View.whole main_v0_2).slice (win0_4.rect t)).set ↔ _
  rw [View.set_slice_whole, Rect.mem_set_unit]
  exact Iff.rfl

/-- Every index of the array lies in a block that is written back. -/
theorem covered4 (i : S8x128.Idx) : ∃ t : Fin cfg0.N, (cfg0.win 4).flush t = true ∧ i ∈ ((cfg0.win 4).blk t).view.set := by
  have h0 : (i 0).val < 8 := (i 0).isLt
  have h1 : (i 1).val < 128 := (i 1).isLt
  obtain ⟨t, ht, e0, e1⟩ := onto4 ⟨(i 0).val / 8, by omega⟩ ⟨(i 1).val / 128, by omega⟩
  refine ⟨t, ht, ?_⟩
  rw [mem_blk4]
  intro a
  match a with
  | ⟨0, _⟩ => show win0_4.index t (0 : Fin 2) * 8 ≤ (i 0).val ∧ (i 0).val < win0_4.index t (0 : Fin 2) * 8 + 8; simp only at e0; omega
  | ⟨1, _⟩ => show win0_4.index t (1 : Fin 2) * 128 ≤ (i 1).val ∧ (i 1).val < win0_4.index t (1 : Fin 2) * 128 + 128; simp only at e1; omega

/-- A block of an array at an index is the array at the index's place. -/
theorem read_blk4 (t : Fin cfg0.N) (G : S8x128.Idx → EReal) (y : ((cfg0.win 4).xblock (cfg0.grid.coords t)).Idx) :
    ((cfg0.win 4).blk t).view.read (Elt Ideal) G y = G (((cfg0.win 4).blk t).view.emb y) := rfl

variable (m : (ℓ : Loc nD τ sig) → Buf (Elt Ideal) ℓ)

theorem block0 (c : Dev nD) (t : Fin cfg0.N) (k : Fin 256) (l : Fin 2048) : iblk m c 0 t (ix2 k l) = (m (c.tc.loc main_arg0)) (ix2 (rowAt t.val k) l) := by
  have F := idx_facts t
  have hN : t.val < 32 := t.isLt
  show m (c.tc.loc main_arg0) (((cfg0.win 0).blk t).view.emb _) = _
  congr 1
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem block1 (c : Dev nD) (t : Fin cfg0.N) (k : Fin 256) (l : Fin 2048) : iblk m c 1 t (ix2 k l) = (m (c.tc.loc main_arg1)) (ix2 (rowAt t.val k) l) := by
  have F := idx_facts t
  have hN : t.val < 32 := t.isLt
  show m (c.tc.loc main_arg1) (((cfg0.win 1).blk t).view.emb _) = _
  congr 1
  funext a; apply Fin.ext
  match a with
  | ⟨0, _⟩ => show win0_1.index t (0 : Fin 2) * 256 + 1 * k.val = (t.val * 256 + k.val) % 8192; omega
  | ⟨1, _⟩ => show win0_1.index t (1 : Fin 2) * 2048 + 1 * l.val = l.val; omega

theorem point_slope (c : Dev nD) (t : Fin cfg0.N) (k : Fin 256) (l : Fin 2048) : k0_pay2 (F := Ideal) (iblk m c 0 t) (iblk m c 1 t) (ix2 k l)
    = slope (m (c.tc.loc main_arg0)) (m (c.tc.loc main_arg1)) (ix2 (rowAt t.val k) l) := by
  rw [block_slope, block0, block1]
  rfl

theorem point_loss (c : Dev nD) (t : Fin cfg0.N) (i : S8x128.Idx) : k0_pay4 (F := Ideal) (iblk m c 0 t) (iblk m c 1 t) i
    = ((1 / 4096 : ℝ) : EReal) * part (sq (m (c.tc.loc main_arg0)) (m (c.tc.loc main_arg1))) t.val := by
  rw [block_loss]
  simp only [block0, block1]
  rfl

theorem after0 (c : Dev nD) (t : Fin cfg0.N) : (outsAt0 m c t.val t.isLt).1 = k0_pay2 (F := Ideal) (iblk m c 0 t) (iblk m c 1 t) := by
  have hN : t.val < 32 := t.isLt
  by_cases h0 : t.val % 32 = 0
  · have h1 : ¬1 ≤ t.val := by omega
    rw [outsAt0_A m c t h0 h1]
    dsimp only
    rw [out_A0]
  · have h1 : 1 ≤ t.val := by omega
    rw [outsAt0_B m c t h0 h1]
    dsimp only
    rw [out_B0]

theorem flushed0 (c : Dev nD) (t : Fin cfg0.N) : (dats m 0 c).flushed 2 t = ((cfg0.win 2).blk t).view.read (Elt Ideal) (slope (m (c.tc.loc main_arg0)) (m (c.tc.loc main_arg1))) := by
  have F := idx_facts t
  have hN : t.val < 32 := t.isLt
  rw [Value.flushed2, after0]
  funext y
  refine Eq.trans ?_ (read_blk2 t _ y).symm
  have hy0 : (y 0).val < 256 := (y 0).isLt
  have b0 : (((cfg0.win 2).blk t).view.emb y 0).val = win0_2.index t (0 : Fin 2) * 256 + 1 * (y 0).val := rfl
  have b1 : (((cfg0.win 2).blk t).view.emb y 1).val = win0_2.index t (1 : Fin 2) * 2048 + 1 * (y 1).val := rfl
  refine Eq.trans (b := slope (m (c.tc.loc main_arg0)) (m (c.tc.loc main_arg1)) (ix2 (rowAt t.val ⟨(y 0).val, hy0⟩) ⟨(y 1).val, (y 1).isLt⟩)) ?_ ?_
  · rw [← point_slope]
    refine congrArg _ ?_
    funext a
    match a with
    | ⟨0, _⟩ => rfl
    | ⟨1, _⟩ => rfl
  · refine congrArg _ ?_
    funext a; apply Fin.ext
    match a with
    | ⟨0, _⟩ => show (t.val * 256 + (y 0).val) % 8192 = (((cfg0.win 2).blk t).view.emb y 0).val; rw [b0]; omega
    | ⟨1, _⟩ => show (y 1).val = (((cfg0.win 2).blk t).view.emb y 1).val; rw [b1]; omega

theorem array0 (c : Dev nD) : (dats m 0 c).arrAt 2 cfg0.N = slope (m (c.tc.loc main_arg0)) (m (c.tc.loc main_arg1)) :=
  (dats m 0 c).arrAt_eq_of_cover 2 _ (fun t _ => flushed0 m c t) covered2

theorem after1 (c : Dev nD) (t : Fin cfg0.N) : (outsAt0 m c t.val t.isLt).2.1 = k0_pay3 (F := Ideal) (iblk m c 0 t) (iblk m c 1 t) := by
  have hN : t.val < 32 := t.isLt
  by_cases h0 : t.val % 32 = 0
  · have h1 : ¬1 ≤ t.val := by omega
    rw [outsAt0_A m c t h0 h1]
    dsimp only
    rw [out_A1]
  · have h1 : 1 ≤ t.val := by omega
    rw [outsAt0_B m c t h0 h1]
    dsimp only
    rw [out_B1]

theorem flushed1 (c : Dev nD) (t : Fin cfg0.N) : (dats m 0 c).flushed 3 t = ((cfg0.win 3).blk t).view.read (Elt Ideal) (slope (m (c.tc.loc main_arg0)) (m (c.tc.loc main_arg1))) := by
  have F := idx_facts t
  have hN : t.val < 32 := t.isLt
  rw [Value.flushed3, after1]
  funext y
  refine Eq.trans ?_ (read_blk3 t _ y).symm
  have hy0 : (y 0).val < 256 := (y 0).isLt
  have b0 : (((cfg0.win 3).blk t).view.emb y 0).val = win0_3.index t (0 : Fin 2) * 256 + 1 * (y 0).val := rfl
  have b1 : (((cfg0.win 3).blk t).view.emb y 1).val = win0_3.index t (1 : Fin 2) * 2048 + 1 * (y 1).val := rfl
  refine Eq.trans (b := slope (m (c.tc.loc main_arg0)) (m (c.tc.loc main_arg1)) (ix2 (rowAt t.val ⟨(y 0).val, hy0⟩) ⟨(y 1).val, (y 1).isLt⟩)) ?_ ?_
  · rw [← point_slope]
    refine Eq.trans (rounded _ _ _) ?_
    refine congrArg _ ?_
    funext a
    match a with
    | ⟨0, _⟩ => rfl
    | ⟨1, _⟩ => rfl
  · refine congrArg _ ?_
    funext a; apply Fin.ext
    match a with
    | ⟨0, _⟩ => show (t.val * 256 + (y 0).val) % 8192 = (((cfg0.win 3).blk t).view.emb y 0).val; rw [b0]; omega
    | ⟨1, _⟩ => show (y 1).val = (((cfg0.win 3).blk t).view.emb y 1).val; rw [b1]; omega

theorem array1 (c : Dev nD) : (dats m 0 c).arrAt 3 cfg0.N = slope (m (c.tc.loc main_arg0)) (m (c.tc.loc main_arg1)) :=
  (dats m 0 c).arrAt_eq_of_cover 3 _ (fun t _ => flushed1 m c t) covered3

/-- After a point the tile holds the loss of the blocks so far. -/
theorem sum2 (c : Dev nD) : ∀ (n : ℕ) (h : n < cfg0.N) (y : S8x128.Idx), (outsAt0 m c n h).2.2 y
    = ∑ s ∈ Finset.range (n + 1), ((1 / 4096 : ℝ) : EReal) * part (sq (m (c.tc.loc main_arg0)) (m (c.tc.loc main_arg1))) s := by
  intro n
  induction n with
  | zero =>
    intro h y
    have h0 : (⟨0, h⟩ : Fin cfg0.N).val % 32 = 0 := rfl
    have h1 : ¬1 ≤ (⟨0, h⟩ : Fin cfg0.N).val := by dsimp only; omega
    rw [outsAt0_A m c ⟨0, h⟩ h0 h1]
    dsimp only
    rw [out_A2, point_loss]
    simp only [zero_add, Finset.sum_range_one]
  | succ n ih =>
    intro h y
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1]
    dsimp only
    rw [out_B2, Finset.sum_range_succ, ← ih (by omega) y]
    exact congrArg₂ (· + ·) rfl (point_loss m c ⟨n + 1, h⟩ y)

theorem flushed2 (c : Dev nD) (t : Fin cfg0.N) (hf : (cfg0.win 4).flush t = true) : (dats m 0 c).flushed 4 t
    = ((cfg0.win 4).blk t).view.read (Elt Ideal) (loss (m (c.tc.loc main_arg0)) (m (c.tc.loc main_arg1))) := by
  have hN : t.val < 32 := t.isLt
  have h31 : t.val % 32 = 31 := (flush0_4 t).mp hf
  have e : t.val + 1 = 32 := by omega
  rw [Value.flushed4]
  funext y
  refine Eq.trans ?_ (read_blk4 t _ y).symm
  refine Eq.trans (sum2 m c t.val t.isLt ((cfg0.win 4).xinj (grid0.coords t) y)) ?_
  rw [e, mul_sum_nonneg _ _ (part (sq (m (c.tc.loc main_arg0)) (m (c.tc.loc main_arg1)))) fun s => Finset.sum_nonneg fun k _ => sq_nonneg _ _ _, parts_sum]
  rfl

theorem array2 (c : Dev nD) : (dats m 0 c).arrAt 4 cfg0.N = loss (m (c.tc.loc main_arg0)) (m (c.tc.loc main_arg1)) :=
  (dats m 0 c).arrAt_eq_of_cover 4 _ (fun t hf => flushed2 m c t hf) covered4

open LossRefIdeal.Read in
theorem reference_slope (y t : Vec Ideal S8192x2048 .f32) : val_main_v14 (F := Ideal) y t = slope y t := by
  funext j
  refine Eq.trans (b := Ideal.div (Ideal.ofBits .f32 0x3F000000#32 * Ideal.ofBits .f32 0x3F800000#32) (Ideal.ofBits .f32 0x45000000#32)
    * (Ideal.ofBits .f32 0x40000000#32 * (y j - t j))) ?_ ?_
  · pointwise [val_main_v14, val_main_v13, val_main_v12, val_main_v11, val_main_v10, val_main_v9, val_main_v3, val_main_v2, val_main_v0, val_main_cst, val_main_cst_4, val_main_cst_5, val_main_cst_6]
  · rw [word_half', word_unit, word_rows, word_two, ← EReal.coe_mul, Ideal.div_coe (by norm_num), ← EReal.coe_mul, ← mul_assoc, ← EReal.coe_mul]
    unfold slope
    rw [mul_comm]
    norm_num

open LossRefIdeal.Read in
theorem reference_rounded (y t : Vec Ideal S8192x2048 .f32) : val_main_v15 (F := Ideal) y t = val_main_v14 (F := Ideal) y t := by
  funext j
  pointwise [val_main_v15]

open LossRefIdeal.Read in
theorem reference_loss (y t : Vec Ideal S8192x2048 .f32) : val_main_v16 (F := Ideal) y t = loss y t := by
  funext j
  refine Eq.trans (b := Ideal.ofBits .f32 0x3F000000#32 * ∑ r : Fin 8192, Ideal.div (sq y t r) (Ideal.ofBits .f32 0x45000000#32)) ?_ ?_
  · pointwise [val_main_v16, val_main_v8, val_main_v7, val_main_v6, val_main_v5, val_main_v4, val_main_v1, val_main_v0, val_main_cst_0, val_main_cst_1, val_main_cst_2, val_main_cst_3, sq]
  · have hd : ∀ r, Ideal.div (sq y t r) (Ideal.ofBits .f32 0x45000000#32) = ((1 / 2048 : ℝ) : EReal) * sq y t r := fun r => by
      rw [word_rows, mul_comm, Ideal.div_coe (by norm_num)]
    simp only [hd]
    rw [mul_sum_nonneg _ _ _ (sq_nonneg y t), word_half', ← mul_assoc, ← EReal.coe_mul]
    unfold loss
    norm_num

/-- The kernel and the reference hold the same arrays. -/
theorem algebraic : Cert.algebraic_LossIdeal_LossRefIdeal := by
  intro m g m' g' _ hagree
  refine ⟨fun c => slope (m (c.tc.loc main_arg0)) (m (c.tc.loc main_arg1)), fun c => slope (m (c.tc.loc main_arg0)) (m (c.tc.loc main_arg1)), fun c => loss (m (c.tc.loc main_arg0)) (m (c.tc.loc main_arg1)),
    (θ_run _ _ _).mono (fun r h c => ⟨(h c).1.trans (array0 m c), (h c).2.1.trans (array1 m c), (h c).2.2.1.trans (array2 m c), (h c).2.2.2⟩) (Value.run_blocks m g),
    (θ_run _ _ _).mono (fun r h c => ⟨((h c).1.trans (LossRefIdeal.Read.val_main_v14_eq ..)).trans ?_, ((h c).2.1.trans (LossRefIdeal.Read.val_main_v15_eq ..)).trans ?_, ((h c).2.2.1.trans (LossRefIdeal.Read.val_main_v16_eq ..)).trans ?_, (h c).2.2.2⟩) (LossRefIdeal.Value.run m' g')⟩
  · rw [(hagree c).1, (hagree c).2]
    exact reference_slope _ _
  · rw [(hagree c).1, (hagree c).2, reference_rounded]
    exact reference_slope _ _
  · rw [(hagree c).1, (hagree c).2]
    exact reference_loss _ _

end Cert.LossValue

end
-- ==== Proof.PoolOut.lean ====
/- The pooling layer's backward step through the grouped product and the scale: the gradient at the pooled rows, the scaled gradient rounded, and the scale's gradient summed over the blocks of rows. -/
module

public import proofs.«01_k».proof.Defs
public import proofs.«01_k».proof.Proof.Gen.PoolOutIdeal.Value
public import proofs.«01_k».proof.Proof.Gen.PoolOutRefIdeal.Read
public import proofs.«01_k».proof.Proof.Norm
public import proofs.«01_k».proof.Proof.Zero

@[expose] public section

noncomputable section

namespace Cert.PoolOutValue

open Cert.PoolOutIdeal Cert.PoolOutIdeal.Gen Idealize.ShloMosaic Idealize.ShloMosaic.TcCoe Idealize.SL.Sem
open Cert.Norm

/-- The column of the same group of 512. -/
def col (l : Fin 2048) (j : Fin 512) : Fin 2048 := ⟨l.val / 512 * 512 + j.val, by omega⟩

/-- The gradient scaled. -/
def scaled (d : Vec Ideal S8192x2048 .f32) (s : Vec Ideal S1x2048 .f32) (i : S8192x2048.Idx) : EReal := d i * s (ix2 0 (i 1))

/-- The gradient at the pooled rows: the scaled gradient of a group against the group's weights. -/
def mixed (d : Vec Ideal S8192x2048 .f32) (s : Vec Ideal S1x2048 .f32) (w : Vec Ideal S4x512x512 .bf16) (i : S8192x2048.Idx) : EReal :=
  ∑ j : Fin 512, d (ix2 (i 0) (col (i 1) j)) * s (ix2 0 (col (i 1) j))
    * w (ix3 ⟨(i 1).val / 512, by have h : (i 1).val < 2048 := (i 1).isLt; omega⟩ ⟨(i 1).val % 512, by omega⟩ j)

/-- The gradient of the scale: a column's sum. -/
def sums (d : Vec Ideal S8192x2048 .f32) (y : Vec Ideal S8192x2048 .bf16) (i : S1x2048.Idx) : EReal :=
  ∑ r : Fin 8192, d (ix2 r (i 1)) * y (ix2 r (i 1))

/-- What a point writes of the gradient at the pooled rows. -/
abbrev blockMix (d : Vec Ideal S256x2048 .f32) (s : Vec Ideal S1x2048 .f32) (w : Vec Ideal S4x512x512 .bf16) : Vec Ideal S256x2048 .f32 :=
  k0_pay1 (F := Ideal) (k0_pay5 d s (View.ld w (Rect.unit (s := S4x512x512) ![0, 0, 0] S1x512x512.size inb_S4x512x512_S1x512x512_0_0_0))) (k0_pay6 d s (View.ld w (Rect.unit (s := S4x512x512) ![1, 0, 0] S1x512x512.size inb_S4x512x512_S1x512x512_1_0_0)))
    (k0_pay7 d s (View.ld w (Rect.unit (s := S4x512x512) ![2, 0, 0] S1x512x512.size inb_S4x512x512_S1x512x512_2_0_0))) (k0_pay8 d s) (View.ld w (Rect.unit (s := S4x512x512) ![3, 0, 0] S1x512x512.size inb_S4x512x512_S1x512x512_3_0_0))

theorem piece0 (d : Vec Ideal S256x2048 .f32) (s : Vec Ideal S1x2048 .f32) (v : Vec Ideal S1x512x512 .bf16) (k : Fin 256) (l : Fin 512) :
    k0_pay5 (F := Ideal) d s v (ix2 k l) = ∑ j : Fin 512, d (ix2 k ⟨j.val, by omega⟩) * s (ix2 0 ⟨j.val, by omega⟩) * v (ix3 0 l j) := by
  pointwise [k0_pay5, k0_pay4]

theorem piece1 (d : Vec Ideal S256x2048 .f32) (s : Vec Ideal S1x2048 .f32) (v : Vec Ideal S1x512x512 .bf16) (k : Fin 256) (l : Fin 512) :
    k0_pay6 (F := Ideal) d s v (ix2 k l) = ∑ j : Fin 512, d (ix2 k ⟨512 + j.val, by omega⟩) * s (ix2 0 ⟨512 + j.val, by omega⟩) * v (ix3 0 l j) := by
  pointwise [k0_pay6, k0_pay4]

theorem piece2 (d : Vec Ideal S256x2048 .f32) (s : Vec Ideal S1x2048 .f32) (v : Vec Ideal S1x512x512 .bf16) (k : Fin 256) (l : Fin 512) :
    k0_pay7 (F := Ideal) d s v (ix2 k l) = ∑ j : Fin 512, d (ix2 k ⟨1024 + j.val, by omega⟩) * s (ix2 0 ⟨1024 + j.val, by omega⟩) * v (ix3 0 l j) := by
  pointwise [k0_pay7, k0_pay4]

theorem piece3 (d : Vec Ideal S256x2048 .f32) (s : Vec Ideal S1x2048 .f32) (k : Fin 256) (j : Fin 512) :
    k0_pay8 (F := Ideal) d s (ix2 k j) = d (ix2 k ⟨1536 + j.val, by omega⟩) * s (ix2 0 ⟨1536 + j.val, by omega⟩) := by
  pointwise [k0_pay8, k0_pay4]

theorem slab (q : Fin 4) (h : ∀ a : Fin 3, (![q.val, 0, 0] : Fin 3 → Nat) a + S1x512x512.size a ≤ S4x512x512.size a) (w : Vec Ideal S4x512x512 .bf16) (l j : Fin 512) :
    View.ld (Val := Elt Ideal) (e' := .bf16) w (Rect.unit (s := S4x512x512) ![q.val, 0, 0] S1x512x512.size h) (ix3 0 l j) = w (ix3 q l j) := by
  show w _ = w _
  congr 1
  funext a; apply Fin.ext
  match a with
  | ⟨0, _⟩ => show q.val + 1 * 0 = q.val; omega
  | ⟨1, _⟩ => show 0 + 1 * l.val = l.val; omega
  | ⟨2, _⟩ => show 0 + 1 * j.val = j.val; omega

theorem joined (a b e : FVec Ideal S256x512 .f32) (f : FVec Ideal S256x512 .bf16) (v : Vec Ideal S1x512x512 .bf16) (k : Fin 256) (l : Fin 2048) :
    k0_pay1 (F := Ideal) a b e f v (ix2 k l) = if h : l.val < 512 then a (ix2 k ⟨l.val, h⟩)
      else if h : l.val - 512 < 512 then b (ix2 k ⟨l.val - 512, h⟩)
      else if h : l.val - 512 - 512 < 512 then e (ix2 k ⟨l.val - 512 - 512, h⟩)
      else ∑ j, f (ix2 k j) * v (ix3 0 ⟨l.val - 512 - 512 - 512, by omega⟩ j) := by
  pointwise [k0_pay1]

theorem term (d : Vec Ideal S256x2048 .f32) (s : Vec Ideal S1x2048 .f32) (w : Vec Ideal S4x512x512 .bf16) (k : Fin 256) (l : Fin 2048) (j : Fin 512)
    (q : Fin 4) (o : Fin 2048) (n : Fin 512) (e : EReal) (hq : l.val / 512 = q.val) (ho : o.val = q.val * 512 + j.val) (hn : n.val = l.val % 512) (he : e = w (ix3 q n j)) :
    d (ix2 k o) * s (ix2 0 o) * e = d (ix2 k (col l j)) * s (ix2 0 (col l j)) * w (ix3 ⟨l.val / 512, by omega⟩ ⟨l.val % 512, by omega⟩ j) := by
  obtain rfl : o = col l j := Fin.ext (by show o.val = l.val / 512 * 512 + j.val; omega)
  rw [he, show (⟨l.val / 512, by omega⟩ : Fin 4) = q from Fin.ext hq, show (⟨l.val % 512, by omega⟩ : Fin 512) = n from Fin.ext hn.symm]

theorem block_mixed (d : Vec Ideal S256x2048 .f32) (s : Vec Ideal S1x2048 .f32) (w : Vec Ideal S4x512x512 .bf16) (k : Fin 256) (l : Fin 2048) :
    blockMix d s w (ix2 k l) = ∑ j : Fin 512, d (ix2 k (col l j)) * s (ix2 0 (col l j)) * w (ix3 ⟨l.val / 512, by omega⟩ ⟨l.val % 512, by omega⟩ j) := by
  refine (joined _ _ _ _ _ k l).trans ?_
  split_ifs with h h' h''
  · rw [piece0]
    exact Finset.sum_congr rfl fun j _ => term d s w k l j 0 _ _ _ (by show _ = 0; omega) (by show j.val = 0 * 512 + j.val; omega) (by show l.val = _; omega) (slab 0 _ w _ _)
  · rw [piece1]
    exact Finset.sum_congr rfl fun j _ => term d s w k l j 1 _ _ _ (by show _ = 1; omega) (by show 512 + j.val = 1 * 512 + j.val; omega) (by show l.val - 512 = _; omega) (slab 1 _ w _ _)
  · rw [piece2]
    exact Finset.sum_congr rfl fun j _ => term d s w k l j 2 _ _ _ (by show _ = 2; omega) (by show 1024 + j.val = 2 * 512 + j.val; omega) (by show l.val - 512 - 512 = _; omega) (slab 2 _ w _ _)
  · simp only [piece3]
    exact Finset.sum_congr rfl fun j _ => term d s w k l j 3 _ _ _ (by show _ = 3; omega) (by show 1536 + j.val = 3 * 512 + j.val; omega) (by show l.val - 512 - 512 - 512 = _; omega) (slab 3 _ w _ _)

theorem block_scaled (d : Vec Ideal S256x2048 .f32) (s : Vec Ideal S1x2048 .f32) (k : Fin 256) (l : Fin 2048) :
    k0_pay4 (F := Ideal) d s (ix2 k l) = d (ix2 k l) * s (ix2 0 l) := by
  pointwise [k0_pay4]

theorem block_sums (d : Vec Ideal S256x2048 .f32) (y : Vec Ideal S256x2048 .bf16) (l : Fin 2048) :
    k0_pay2 (F := Ideal) d y (ix2 0 l) = ∑ k : Fin 256, d (ix2 k l) * y (ix2 k l) := by
  pointwise [k0_pay2]

section
variable (c : Dev nD) (i : grid0.Coords) (a1 : Memref sig .tc .vmem S256x2048 .f32) (h1 : a1.IsWhole) (a2 : Memref sig .tc .vmem S256x2048 .bf16) (h2 : a2.IsWhole) (a3 : Memref sig .tc .vmem S1x2048 .f32) (h3 : a3.IsWhole) (a4 : Memref sig .tc .vmem S4x512x512 .bf16) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole)
  (d : Vec Ideal S256x2048 .f32) (y : Vec Ideal S256x2048 .bf16) (s : Vec Ideal S1x2048 .f32) (w : Vec Ideal S4x512x512 .bf16)

theorem out_A0 (hc0 : cond0_0 i) (hc1 : ¬cond0_1 i) :
    out0_A_4 c i a1 h1 a2 h2 a3 h3 a4 h4 a5 h5 a6 h6 a7 h7 hc0 hc1 d y s w = blockMix d s w := by
  unfold out0_A_4
  rw [View.read_writes_eq_canon _ _ _ (cover0_A_4 c i a1 h1 a2 h2 a3 h3 a4 h4 a5 h5 a6 h6 a7 h7 hc0 hc1 d y s w)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, View.ld_unit_zero (S := S4x512x512) zero3, shapeCast_self] <;> rfl

theorem out_A1 (hc0 : cond0_0 i) (hc1 : ¬cond0_1 i) :
    out0_A_5 c i a1 h1 a2 h2 a3 h3 a4 h4 a5 h5 a6 h6 a7 h7 hc0 hc1 d y s w = k0_pay4 (F := Ideal) d s := by
  unfold out0_A_5
  rw [View.read_writes_eq_canon _ _ _ (cover0_A_5 c i a1 h1 a2 h2 a3 h3 a4 h4 a5 h5 a6 h6 a7 h7 hc0 hc1 d y s w)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, View.ld_unit_zero (S := S4x512x512) zero3, shapeCast_self] <;> rfl

theorem out_A2 (hc0 : cond0_0 i) (hc1 : ¬cond0_1 i) :
    out0_A_6 c i a1 h1 a2 h2 a3 h3 a4 h4 a5 h5 a6 h6 a7 h7 hc0 hc1 d y s w = k0_pay2 (F := Ideal) d y := by
  unfold out0_A_6
  rw [View.read_writes_eq_canon _ _ _ (cover0_A_6 c i a1 h1 a2 h2 a3 h3 a4 h4 a5 h5 a6 h6 a7 h7 hc0 hc1 d y s w)]
  unfold kernelRun0_A
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, View.ld_unit_zero (S := S4x512x512) zero3, shapeCast_self] <;> rfl

theorem out_B0 (hc0 : ¬cond0_0 i) (hc1 : cond0_1 i) (s0 : Vec Ideal S1x2048 .f32) :
    out0_B_4 c i a1 h1 a2 h2 a3 h3 a4 h4 a5 h5 a6 h6 a7 h7 hc0 hc1 d y s w s0 = blockMix d s w := by
  unfold out0_B_4
  rw [View.read_writes_eq_canon _ _ _ (cover0_B_4 c i a1 h1 a2 h2 a3 h3 a4 h4 a5 h5 a6 h6 a7 h7 hc0 hc1 d y s w s0)]
  unfold kernelRun0_B
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, View.ld_unit_zero (S := S4x512x512) zero3, shapeCast_self] <;> rfl

theorem out_B1 (hc0 : ¬cond0_0 i) (hc1 : cond0_1 i) (s0 : Vec Ideal S1x2048 .f32) :
    out0_B_5 c i a1 h1 a2 h2 a3 h3 a4 h4 a5 h5 a6 h6 a7 h7 hc0 hc1 d y s w s0 = k0_pay4 (F := Ideal) d s := by
  unfold out0_B_5
  rw [View.read_writes_eq_canon _ _ _ (cover0_B_5 c i a1 h1 a2 h2 a3 h3 a4 h4 a5 h5 a6 h6 a7 h7 hc0 hc1 d y s w s0)]
  unfold kernelRun0_B
  dsimp only
  sl_unfold_words
  rw [View.canon_unit_zero zero2]
  simp only [View.readAt_eq_ld, h1.read_unread, h2.read_unread, h3.read_unread, h4.read_unread, View.ld_unit_zero (S := S1x2048) zero2, View.ld_unit_zero (S := S256x2048) zero2, View.ld_unit_zero (S := S4x512x512) zero3, shapeCast_self] <;> rfl

theorem out_B2 (hc0 : ¬cond0_0 i) (hc1 : cond0_1 i) (s0 : Vec Ideal S1x2048 .f32) :
    out0_B_6 c i a1 h1 a2 h2 a3 h3 a4 h4 a5 h5 a6 h6 a7 h7 hc0 hc1 d y s w s0 = addf s0 (k0_pay2 (F := Ideal) d y) := by
  unfold out0_B_6
  rw [View.read_writes_eq_canon _ _ _ (cover0_B_6 c i a1 h1 a2 h2 a3 h3 a4 h4 a5 h5 a6 h6 a7 h7 hc0 hc1 d y s w s0)]
  unfold kernelRun0_B
  dsimp only
  sl_unfold_words
  rw [View.canon_unit_zero zero2]
  unfold k0_pay3
  simp only [View.readAt_eq_ld, h1.read_unread, h2.read_unread, h3.read_unread, h4.read_unread, h7.read_unread, View.ld_unit_zero (S := S1x2048) zero2, View.ld_unit_zero (S := S256x2048) zero2, View.ld_unit_zero (S := S4x512x512) zero3, shapeCast_self] <;> rfl

end

theorem idx_facts : ∀ t : Fin cfg0.N, win0_0.index t (0 : Fin 2) = t.val ∧ win0_0.index t (1 : Fin 2) = 0 ∧ win0_1.index t (0 : Fin 2) = t.val ∧ win0_1.index t (1 : Fin 2) = 0 ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)

/-- Every place of a whole array is at a row of some block. -/
theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem one_row (i : S1x2048.Idx) : ∃ l : Fin 2048, i = ix2 (0 : Fin 1) l :=
  ⟨i 1, funext fun a => Fin.ext (match a with | ⟨0, _⟩ => by have h : (i 0).val < 1 := (i 0).isLt; show (i 0).val = 0; omega | ⟨1, _⟩ => rfl)⟩

theorem emb0 (t : Fin cfg0.N) (k : Fin 256) (l : Fin 2048) : ((cfg0.win 0).blk t).view.emb (ix2 k l) = ix2 (rowAt t.val k) l := by
  have F := idx_facts t
  have hN : t.val < 32 := t.isLt
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem emb1 (t : Fin cfg0.N) (k : Fin 256) (l : Fin 2048) : ((cfg0.win 1).blk t).view.emb (ix2 k l) = ix2 (rowAt t.val k) l := by
  have F := idx_facts t
  have hN : t.val < 32 := t.isLt
  funext a; apply Fin.ext
  match a with
  | ⟨0, _⟩ => show win0_1.index t (0 : Fin 2) * 256 + 1 * k.val = (t.val * 256 + k.val) % 8192; omega
  | ⟨1, _⟩ => show win0_1.index t (1 : Fin 2) * 2048 + 1 * l.val = l.val; omega

theorem emb4 (t : Fin cfg0.N) (k : Fin 256) (l : Fin 2048) : ((cfg0.win 4).blk t).view.emb (ix2 k l) = ix2 (rowAt t.val k) l := by
  have F := idx_facts t
  have hN : t.val < 32 := t.isLt
  funext a; apply Fin.ext
  match a with
  | ⟨0, _⟩ => show win0_4.index t (0 : Fin 2) * 256 + 1 * k.val = (t.val * 256 + k.val) % 8192; omega
  | ⟨1, _⟩ => show win0_4.index t (1 : Fin 2) * 2048 + 1 * l.val = l.val; omega

theorem emb5 (t : Fin cfg0.N) (k : Fin 256) (l : Fin 2048) : ((cfg0.win 5).blk t).view.emb (ix2 k l) = ix2 (rowAt t.val k) l := by
  have F := idx_facts t
  have hN : t.val < 32 := t.isLt
  funext a; apply Fin.ext
  match a with
  | ⟨0, _⟩ => show win0_5.index t (0 : Fin 2) * 256 + 1 * k.val = (t.val * 256 + k.val) % 8192; omega
  | ⟨1, _⟩ => show win0_5.index t (1 : Fin 2) * 2048 + 1 * l.val = l.val; omega

theorem emb2 (t : Fin cfg0.N) (y : S1x2048.Idx) : ((cfg0.win 2).blk t).view.emb y = y := by
  have h : ∀ t : Fin cfg0.N, win0_2.index t (0 : Fin 2) = 0 ∧ win0_2.index t (1 : Fin 2) = 0 := (by decide +kernel : ∀ t : Fin grid0.N, _)
  obtain ⟨f0, f1⟩ := h t
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem emb3 (t : Fin cfg0.N) (y : S4x512x512.Idx) : ((cfg0.win 3).blk t).view.emb y = y := by
  have h : ∀ t : Fin cfg0.N, win0_3.index t (0 : Fin 3) = 0 ∧ win0_3.index t (1 : Fin 3) = 0 ∧ win0_3.index t (2 : Fin 3) = 0 := (by decide +kernel : ∀ t : Fin grid0.N, _)
  have F := h t
  funext a; apply Fin.ext
  match a with
  | ⟨0, _⟩ => show win0_3.index t (0 : Fin 3) * 4 + 1 * (y 0).val = (y 0).val; omega
  | ⟨1, _⟩ => show win0_3.index t (1 : Fin 3) * 512 + 1 * (y 1).val = (y 1).val; omega
  | ⟨2, _⟩ => show win0_3.index t (2 : Fin 3) * 512 + 1 * (y 2).val = (y 2).val; omega

theorem emb6 (t : Fin cfg0.N) (y : S1x2048.Idx) : ((cfg0.win 6).blk t).view.emb y = y := by
  have h : ∀ t : Fin cfg0.N, win0_6.index t (0 : Fin 2) = 0 ∧ win0_6.index t (1 : Fin 2) = 0 := (by decide +kernel : ∀ t : Fin grid0.N, _)
  obtain ⟨f0, f1⟩ := h t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem last : 31 < cfg0.N := by show 31 < 32; omega

variable (m : (ℓ : Loc nD τ sig) → Buf (Elt Ideal) ℓ)

abbrev dA (c : Dev nD) : Vec Ideal S8192x2048 .f32 := m (c.tc.loc main_arg0)
abbrev yA (c : Dev nD) : Vec Ideal S8192x2048 .bf16 := m (c.tc.loc main_arg1)
abbrev sA (c : Dev nD) : Vec Ideal S1x2048 .f32 := m (c.tc.loc main_arg2)
abbrev wA (c : Dev nD) : Vec Ideal S4x512x512 .bf16 := m (c.tc.loc main_arg3)

theorem block0 (c : Dev nD) (t : Fin cfg0.N) (k : Fin 256) (l : Fin 2048) : iblk m c 0 t (ix2 k l) = dA m c (ix2 (rowAt t.val k) l) :=
  congrArg (dA m c) (emb0 t k l)

theorem block1 (c : Dev nD) (t : Fin cfg0.N) (k : Fin 256) (l : Fin 2048) : iblk m c 1 t (ix2 k l) = yA m c (ix2 (rowAt t.val k) l) :=
  congrArg (yA m c) (emb1 t k l)

theorem block2 (c : Dev nD) (t : Fin cfg0.N) : iblk m c 2 t = sA m c :=
  funext fun y => congrArg (sA m c) (emb2 t y)

theorem block3 (c : Dev nD) (t : Fin cfg0.N) : iblk m c 3 t = wA m c :=
  funext fun y => congrArg (wA m c) (emb3 t y)

theorem point0 (c : Dev nD) (t : Fin cfg0.N) (k : Fin 256) (l : Fin 2048) : (blockMix (iblk m c 0 t) (iblk m c 2 t) (iblk m c 3 t)) (ix2 k l) = mixed (dA m c) (sA m c) (wA m c) (ix2 (rowAt t.val k) l) := by
  rw [block2, block3, block_mixed]
  simp only [block0]
  rfl

theorem point1 (c : Dev nD) (t : Fin cfg0.N) (k : Fin 256) (l : Fin 2048) : (k0_pay4 (F := Ideal) (iblk m c 0 t) (iblk m c 2 t)) (ix2 k l) = scaled (dA m c) (sA m c) (ix2 (rowAt t.val k) l) := by
  rw [block2, block_scaled, block0]
  rfl

theorem point2 (c : Dev nD) (t : Fin cfg0.N) (l : Fin 2048) : (k0_pay2 (F := Ideal) (iblk m c 0 t) (iblk m c 1 t)) (ix2 0 l) = part (fun r => (dA m c) (ix2 r l) * (yA m c) (ix2 r l)) t.val := by
  rw [block_sums]
  simp only [block0, block1]
  rfl

theorem after0 (c : Dev nD) (t : Fin cfg0.N) : (outsAt0 m c t.val t.isLt).1 = blockMix (iblk m c 0 t) (iblk m c 2 t) (iblk m c 3 t) := by
  have hN : t.val < 32 := t.isLt
  by_cases h0 : t.val % 32 = 0
  · have h1 : ¬1 ≤ t.val := by omega
    rw [outsAt0_A m c t h0 h1]
    dsimp only
    rw [out_A0]
  · have h1 : 1 ≤ t.val := by omega
    rw [outsAt0_B m c t h0 h1]
    dsimp only
    rw [out_B0]

theorem array0 (c : Dev nD) : (dats m 0 c).arrAt 4 cfg0.N = mixed (dA m c) (sA m c) (wA m c) := by
  funext i
  obtain ⟨t, k, l, rfl⟩ := places i
  refine Eq.trans (congrArg _ (emb4 t k l).symm) ((congrFun (Value.blocks4 m c t (flush0_4 t)) (ix2 k l)).trans ?_)
  rw [Value.flushed4, after0]
  exact point0 m c t k l

theorem after1 (c : Dev nD) (t : Fin cfg0.N) : (outsAt0 m c t.val t.isLt).2.1 = k0_pay4 (F := Ideal) (iblk m c 0 t) (iblk m c 2 t) := by
  have hN : t.val < 32 := t.isLt
  by_cases h0 : t.val % 32 = 0
  · have h1 : ¬1 ≤ t.val := by omega
    rw [outsAt0_A m c t h0 h1]
    dsimp only
    rw [out_A1]
  · have h1 : 1 ≤ t.val := by omega
    rw [outsAt0_B m c t h0 h1]
    dsimp only
    rw [out_B1]

theorem array1 (c : Dev nD) : (dats m 0 c).arrAt 5 cfg0.N = scaled (dA m c) (sA m c) := by
  funext i
  obtain ⟨t, k, l, rfl⟩ := places i
  refine Eq.trans (congrArg _ (emb5 t k l).symm) ((congrFun (Value.blocks5 m c t (flush0_5 t)) (ix2 k l)).trans ?_)
  rw [Value.flushed5, after1]
  exact point1 m c t k l

/-- After a point the row holds the sums of the blocks so far. -/
theorem sum2 (c : Dev nD) : ∀ (n : ℕ) (h : n < cfg0.N) (l : Fin 2048), (outsAt0 m c n h).2.2 (ix2 0 l) = ∑ s ∈ Finset.range (n + 1), part (fun r => (dA m c) (ix2 r l) * (yA m c) (ix2 r l)) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1]
    dsimp only
    rw [out_A2, zero_add, Finset.sum_range_one]
    exact point2 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1]
    dsimp only
    rw [out_B2, Finset.sum_range_succ, ← ih (by omega) l]
    exact congrArg₂ (· + ·) rfl (point2 m c ⟨n + 1, h⟩ l)

theorem last6 (i : S1x2048.Idx) : i ∈ ((cfg0.win 6).blk ⟨31, last⟩).view.set :=
  Finset.mem_map.mpr ⟨i, Finset.mem_univ _, emb6 ⟨31, last⟩ i⟩

theorem read6 (t : Fin cfg0.N) (G : S1x2048.Idx → EReal) (y : ((cfg0.win 6).xblock (cfg0.grid.coords t)).Idx) :
    ((cfg0.win 6).blk t).view.read (Elt Ideal) G y = G y := congrArg G (emb6 t y)

theorem array2 (c : Dev nD) : (dats m 0 c).arrAt 6 cfg0.N = sums (dA m c) (yA m c) := by
  refine (dats m 0 c).arrAt_eq_of_cover 6 _ (fun t hf => ?_) fun i => ⟨⟨31, last⟩, (flush0_6 _).mpr rfl, last6 i⟩
  · have hN : t.val < 32 := t.isLt
    have h31 : t.val % 32 = 31 := (flush0_6 t).mp hf
    rw [Value.flushed6]
    funext y
    refine Eq.trans ?_ (read6 t _ y).symm
    obtain ⟨l, rfl⟩ := one_row y
    refine (sum2 m c t.val t.isLt l).trans ?_
    rw [show t.val + 1 = 32 by omega, parts_sum]
    rfl

open PoolOutRefIdeal.Read in
theorem reference_scaled (d : Vec Ideal S8192x2048 .f32) (s : Vec Ideal S1x2048 .f32) : val_main_v12 (F := Ideal) d s = scaled d s := by
  funext i
  pointwise [val_main_v12, val_main_v9, val_main_v8, val_main_v2, val_main_v1, scaled]

open PoolOutRefIdeal.Read in
theorem reference_group (d : Vec Ideal S8192x2048 .f32) (s : Vec Ideal S1x2048 .f32) (w : Vec Ideal S4x512x512 .bf16) (r : Fin 8192) (q : Fin 4) (l : Fin 512) :
    val_main_v24 (F := Ideal) d s w (ix2 r ⟨q.val * 512 + l.val, by omega⟩) = ∑ j : Fin 512, val_main_v12 (F := Ideal) d s (ix2 r ⟨q.val * 512 + j.val, by omega⟩) * w (ix3 q l j) := by
  pointwise [val_main_v24, val_main_v23, val_main_v22, val_main_v21, val_main_v20, val_main_v19, val_main_v15]

open PoolOutRefIdeal.Read in
theorem reference_mixed (d : Vec Ideal S8192x2048 .f32) (s : Vec Ideal S1x2048 .f32) (w : Vec Ideal S4x512x512 .bf16) : val_main_v24 (F := Ideal) d s w = mixed d s w := by
  funext i
  have h : (i 1).val < 2048 := (i 1).isLt
  have e : i = ix2 (i 0) ⟨(⟨(i 1).val / 512, by omega⟩ : Fin 4).val * 512 + (⟨(i 1).val % 512, by omega⟩ : Fin 512).val, by dsimp only; omega⟩ := by
    funext a; apply Fin.ext
    match a with
    | ⟨0, _⟩ => rfl
    | ⟨1, _⟩ => show (i 1).val = (i 1).val / 512 * 512 + (i 1).val % 512; omega
  refine (congrArg _ e).trans ((reference_group d s w (i 0) _ _).trans ?_)
  rw [reference_scaled]
  rfl

open PoolOutRefIdeal.Read in
theorem reference_sums (d : Vec Ideal S8192x2048 .f32) (y : Vec Ideal S8192x2048 .bf16) : val_main_v11 (F := Ideal) d y = sums d y := by
  funext i
  refine Eq.trans (b := ∑ _ : Fin 1, ∑ r : Fin 8192, y (ix2 r (i 1)) * d (ix2 r (i 1))) ?_ ?_
  · pointwise [val_main_v11, val_main_v10, val_main_v7, val_main_v6, val_main_v5, val_main_v0, val_main_cst, val_main_cst_0]
  · simp only [Finset.univ_unique, Finset.sum_singleton]
    exact Finset.sum_congr rfl fun r _ => mul_comm _ _

/-- The kernel and the reference hold the same arrays. -/
theorem algebraic : Cert.algebraic_PoolOutIdeal_PoolOutRefIdeal := by
  intro m g m' g' _ hagree
  refine ⟨fun c => mixed (dA m c) (sA m c) (wA m c), fun c => scaled (dA m c) (sA m c), fun c => sums (dA m c) (yA m c),
    (θ_run _ _ _).mono (fun r h c => ⟨(h c).1.trans (array0 m c), (h c).2.1.trans (array1 m c), (h c).2.2.1.trans (array2 m c), (h c).2.2.2⟩) (Value.run_blocks m g),
    (θ_run _ _ _).mono (fun r h c => ⟨((h c).1.trans (PoolOutRefIdeal.Read.val_main_v24_eq ..)).trans ?_, ((h c).2.1.trans (PoolOutRefIdeal.Read.val_main_v12_eq ..)).trans ?_, ((h c).2.2.1.trans (PoolOutRefIdeal.Read.val_main_v11_eq ..)).trans ?_, (h c).2.2.2⟩) (PoolOutRefIdeal.Value.run m' g')⟩
  · rw [(hagree c).1, (hagree c).2.2.1, (hagree c).2.2.2]
    exact reference_mixed _ _ _
  · rw [(hagree c).1, (hagree c).2.2.1]
    exact reference_scaled _ _
  · rw [(hagree c).1, (hagree c).2.1]
    exact reference_sums _ _

end Cert.PoolOutValue

end
-- ==== Proof.GateBwd.lean ====
/- The gate's backward step, element by element: the gradients at the gate's argument and at the projected input, and the first summed over the blocks of rows. -/
module

public import proofs.«01_k».proof.Defs
public import proofs.«01_k».proof.Proof.Gen.GateBwdIdeal.Value
public import proofs.«01_k».proof.Proof.Gen.GateBwdRefIdeal.Read
public import proofs.«01_k».proof.Proof.Norm
public import proofs.«01_k».proof.Proof.Zero

@[expose] public section

noncomputable section

namespace Cert.GateBwdValue

open Cert.GateBwdIdeal Cert.GateBwdIdeal.Gen Idealize.ShloMosaic Idealize.ShloMosaic.TcCoe Idealize.SL.Sem
open Cert.Norm

/-- The gradient at the gate's argument: the logistic's derivative from its value. -/
def slope (d : Vec Ideal S8192x2048 .f32) (q p : Vec Ideal S8192x2048 .bf16) (i : S8192x2048.Idx) : EReal :=
  d i * p i * q i * (Ideal.ofBits .f32 0x3F800000#32 - q i)

/-- The gradient at the projected input. -/
def proj (d : Vec Ideal S8192x2048 .f32) (q : Vec Ideal S8192x2048 .bf16) (i : S8192x2048.Idx) : EReal := d i * q i

/-- The gradient of the gate's bias: a column's sum. -/
def bias (d : Vec Ideal S8192x2048 .f32) (q p : Vec Ideal S8192x2048 .bf16) (i : S1x2048.Idx) : EReal :=
  ∑ r : Fin 8192, slope d q p (ix2 r (i 1))

theorem block_slope (d : Vec Ideal S256x2048 .f32) (q p : Vec Ideal S256x2048 .bf16) (i : S256x2048.Idx) :
    k0_pay3 (F := Ideal) d q p i = d i * p i * q i * (Ideal.ofBits .f32 0x3F800000#32 - q i) := by
  pointwise [k0_pay3, k0_pay2, k0_pay1]

theorem block_proj (d : Vec Ideal S256x2048 .f32) (q : Vec Ideal S256x2048 .bf16) (i : S256x2048.Idx) :
    k0_pay4 (F := Ideal) d q i = d i * q i := by
  pointwise [k0_pay4, k0_pay1]

theorem block_bias (d : Vec Ideal S256x2048 .f32) (q p : Vec Ideal S256x2048 .bf16) (l : Fin 2048) :
    k0_pay5 (F := Ideal) d q p (ix2 0 l) = ∑ k : Fin 256, d (ix2 k l) * p (ix2 k l) * q (ix2 k l) * (Ideal.ofBits .f32 0x3F800000#32 - q (ix2 k l)) := by
  pointwise [k0_pay5, k0_pay2, k0_pay1]

section
variable (c : Dev nD) (i : grid0.Coords) (a1 : Memref sig .tc .vmem S256x2048 .f32) (h1 : a1.IsWhole) (a2 : Memref sig .tc .vmem S256x2048 .bf16) (h2 : a2.IsWhole) (a3 : Memref sig .tc .vmem S256x2048 .bf16) (h3 : a3.IsWhole) (a4 : Memref sig .tc .vmem S256x2048 .bf16) (h4 : a4.IsWhole) (a5 : Memref sig .tc .vmem S256x2048 .bf16) (h5 : a5.IsWhole) (a6 : Memref sig .tc .vmem S1x2048 .f32) (h6 : a6.IsWhole)
  (d : Vec Ideal S256x2048 .f32) (q : Vec Ideal S256x2048 .bf16) (p : Vec Ideal S256x2048 .bf16)

theorem out_A0 (hc0 : cond0_0 i) (hc1 : ¬cond0_1 i) :
    out0_A_3 c i a1 h1 a2 h2 a3 h3 a4 h4 a5 h5 a6 h6 hc0 hc1 d q p = k0_pay3 (F := Ideal) d q p := by
  unfold out0_A_3
  rw [View.read_writes_eq_canon _ _ _ (cover0_A_3 c i a1 h1 a2 h2 a3 h3 a4 h4 a5 h5 a6 h6 hc0 hc1 d q p)]
  unfold kernelRun0_A
  dsimp only
  sl_unfold_words
  rw [View.canon_unit_zero zero2]
  simp only [View.readAt_eq_ld, h1.read_unread, h2.read_unread, h3.read_unread, View.ld_unit_zero (S := S1x2048) zero2, View.ld_unit_zero (S := S256x2048) zero2, shapeCast_self] <;> rfl

theorem out_A1 (hc0 : cond0_0 i) (hc1 : ¬cond0_1 i) :
    out0_A_4 c i a1 h1 a2 h2 a3 h3 a4 h4 a5 h5 a6 h6 hc0 hc1 d q p = k0_pay4 (F := Ideal) d q := by
  unfold out0_A_4
  rw [View.read_writes_eq_canon _ _ _ (cover0_A_4 c i a1 h1 a2 h2 a3 h3 a4 h4 a5 h5 a6 h6 hc0 hc1 d q p)]
  unfold kernelRun0_A
  dsimp only
  sl_unfold_words
  rw [View.canon_unit_zero zero2]
  simp only [View.readAt_eq_ld, h1.read_unread, h2.read_unread, h3.read_unread, View.ld_unit_zero (S := S1x2048) zero2, View.ld_unit_zero (S := S256x2048) zero2, shapeCast_self] <;> rfl

theorem out_A2 (hc0 : cond0_0 i) (hc1 : ¬cond0_1 i) :
    out0_A_5 c i a1 h1 a2 h2 a3 h3 a4 h4 a5 h5 a6 h6 hc0 hc1 d q p = k0_pay5 (F := Ideal) d q p := by
  unfold out0_A_5
  rw [View.read_writes_eq_canon _ _ _ (cover0_A_5 c i a1 h1 a2 h2 a3 h3 a4 h4 a5 h5 a6 h6 hc0 hc1 d q p)]
  unfold kernelRun0_A
  dsimp only
  sl_unfold_words
  rw [View.canon_unit_zero zero2]
  simp only [View.readAt_eq_ld, h1.read_unread, h2.read_unread, h3.read_unread, View.ld_unit_zero (S := S1x2048) zero2, View.ld_unit_zero (S := S256x2048) zero2, shapeCast_self] <;> rfl

theorem out_B0 (hc0 : ¬cond0_0 i) (hc1 : cond0_1 i) (s0 : Vec Ideal S1x2048 .f32) :
    out0_B_3 c i a1 h1 a2 h2 a3 h3 a4 h4 a5 h5 a6 h6 hc0 hc1 d q p s0 = k0_pay3 (F := Ideal) d q p := by
  unfold out0_B_3
  rw [View.read_writes_eq_canon _ _ _ (cover0_B_3 c i a1 h1 a2 h2 a3 h3 a4 h4 a5 h5 a6 h6 hc0 hc1 d q p s0)]
  unfold kernelRun0_B
  dsimp only
  sl_unfold_words
  rw [View.canon_unit_zero zero2]
  simp only [View.readAt_eq_ld, h1.read_unread, h2.read_unread, h3.read_unread, View.ld_unit_zero (S := S1x2048) zero2, View.ld_unit_zero (S := S256x2048) zero2, shapeCast_self] <;> rfl

theorem out_B1 (hc0 : ¬cond0_0 i) (hc1 : cond0_1 i) (s0 : Vec Ideal S1x2048 .f32) :
    out0_B_4 c i a1 h1 a2 h2 a3 h3 a4 h4 a5 h5 a6 h6 hc0 hc1 d q p s0 = k0_pay4 (F := Ideal) d q := by
  unfold out0_B_4
  rw [View.read_writes_eq_canon _ _ _ (cover0_B_4 c i a1 h1 a2 h2 a3 h3 a4 h4 a5 h5 a6 h6 hc0 hc1 d q p s0)]
  unfold kernelRun0_B
  dsimp only
  sl_unfold_words
  rw [View.canon_unit_zero zero2]
  simp only [View.readAt_eq_ld, h1.read_unread, h2.read_unread, h3.read_unread, View.ld_unit_zero (S := S1x2048) zero2, View.ld_unit_zero (S := S256x2048) zero2, shapeCast_self] <;> rfl

theorem out_B2 (hc0 : ¬cond0_0 i) (hc1 : cond0_1 i) (s0 : Vec Ideal S1x2048 .f32) :
    out0_B_5 c i a1 h1 a2 h2 a3 h3 a4 h4 a5 h5 a6 h6 hc0 hc1 d q p s0 = addf s0 (k0_pay5 (F := Ideal) d q p) := by
  unfold out0_B_5
  rw [View.read_writes_eq_canon _ _ _ (cover0_B_5 c i a1 h1 a2 h2 a3 h3 a4 h4 a5 h5 a6 h6 hc0 hc1 d q p s0)]
  unfold kernelRun0_B
  dsimp only
  sl_unfold_words
  rw [View.canon_unit_zero zero2]
  unfold k0_pay6
  simp only [View.readAt_eq_ld, h1.read_unread, h2.read_unread, h3.read_unread, h6.read_unread, View.ld_unit_zero (S := S1x2048) zero2, View.ld_unit_zero (S := S256x2048) zero2, shapeCast_self] <;> rfl

end

theorem idx_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, _)

/-- Every place of a whole array is at a row of some block. -/
theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem one_row (i : S1x2048.Idx) : ∃ l : Fin 2048, i = ix2 (0 : Fin 1) l :=
  ⟨i 1, funext fun a => Fin.ext (match a with | ⟨0, _⟩ => by have h : (i 0).val < 1 := (i 0).isLt; show (i 0).val = 0; omega | ⟨1, _⟩ => rfl)⟩

theorem emb0 (t : Fin cfg0.N) (k : Fin 256) (l : Fin 2048) : ((cfg0.win 0).blk t).view.emb (ix2 k l) = ix2 (rowAt t.val k) l := by
  have F := idx_facts t
  have hN : t.val < 32 := t.isLt
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem emb1 (t : Fin cfg0.N) (k : Fin 256) (l : Fin 2048) : ((cfg0.win 1).blk t).view.emb (ix2 k l) = ix2 (rowAt t.val k) l := by
  have F := idx_facts t
  have hN : t.val < 32 := t.isLt
  funext a; apply Fin.ext
  match a with
  | ⟨0, _⟩ => show win0_1.index t (0 : Fin 2) * 256 + 1 * k.val = (t.val * 256 + k.val) % 8192; omega
  | ⟨1, _⟩ => show win0_1.index t (1 : Fin 2) * 2048 + 1 * l.val = l.val; omega

theorem emb2 (t : Fin cfg0.N) (k : Fin 256) (l : Fin 2048) : ((cfg0.win 2).blk t).view.emb (ix2 k l) = ix2 (rowAt t.val k) l := by
  have F := idx_facts t
  have hN : t.val < 32 := t.isLt
  funext a; apply Fin.ext
  match a with
  | ⟨0, _⟩ => show win0_2.index t (0 : Fin 2) * 256 + 1 * k.val = (t.val * 256 + k.val) % 8192; omega
  | ⟨1, _⟩ => show win0_2.index t (1 : Fin 2) * 2048 + 1 * l.val = l.val; omega

theorem emb3 (t : Fin cfg0.N) (k : Fin 256) (l : Fin 2048) : ((cfg0.win 3).blk t).view.emb (ix2 k l) = ix2 (rowAt t.val k) l := by
  have F := idx_facts t
  have hN : t.val < 32 := t.isLt
  funext a; apply Fin.ext
  match a with
  | ⟨0, _⟩ => show win0_3.index t (0 : Fin 2) * 256 + 1 * k.val = (t.val * 256 + k.val) % 8192; omega
  | ⟨1, _⟩ => show win0_3.index t (1 : Fin 2) * 2048 + 1 * l.val = l.val; omega

theorem emb4 (t : Fin cfg0.N) (k : Fin 256) (l : Fin 2048) : ((cfg0.win 4).blk t).view.emb (ix2 k l) = ix2 (rowAt t.val k) l := by
  have F := idx_facts t
  have hN : t.val < 32 := t.isLt
  funext a; apply Fin.ext
  match a with
  | ⟨0, _⟩ => show win0_4.index t (0 : Fin 2) * 256 + 1 * k.val = (t.val * 256 + k.val) % 8192; omega
  | ⟨1, _⟩ => show win0_4.index t (1 : Fin 2) * 2048 + 1 * l.val = l.val; omega

theorem emb5 (t : Fin cfg0.N) (y : S1x2048.Idx) : ((cfg0.win 5).blk t).view.emb y = y := by
  have h : ∀ t : Fin cfg0.N, win0_5.index t (0 : Fin 2) = 0 ∧ win0_5.index t (1 : Fin 2) = 0 := (by decide +kernel : ∀ t : Fin grid0.N, _)
  obtain ⟨f0, f1⟩ := h t
  funext a; apply Fin.ext
  match a with
  | ⟨0, _⟩ => show win0_5.index t (0 : Fin 2) * 1 + 1 * (y 0).val = (y 0).val; omega
  | ⟨1, _⟩ => show win0_5.index t (1 : Fin 2) * 2048 + 1 * (y 1).val = (y 1).val; omega

theorem last : 31 < cfg0.N := by show 31 < 32; omega

variable (m : (ℓ : Loc nD τ sig) → Buf (Elt Ideal) ℓ)

abbrev dA (c : Dev nD) : Vec Ideal S8192x2048 .f32 := m (c.tc.loc main_arg0)
abbrev qA (c : Dev nD) : Vec Ideal S8192x2048 .bf16 := m (c.tc.loc main_arg1)
abbrev pA (c : Dev nD) : Vec Ideal S8192x2048 .bf16 := m (c.tc.loc main_arg2)

theorem block0 (c : Dev nD) (t : Fin cfg0.N) (k : Fin 256) (l : Fin 2048) : iblk m c 0 t (ix2 k l) = dA m c (ix2 (rowAt t.val k) l) :=
  congrArg (dA m c) (emb0 t k l)

theorem block1 (c : Dev nD) (t : Fin cfg0.N) (k : Fin 256) (l : Fin 2048) : iblk m c 1 t (ix2 k l) = qA m c (ix2 (rowAt t.val k) l) :=
  congrArg (qA m c) (emb1 t k l)

theorem block2 (c : Dev nD) (t : Fin cfg0.N) (k : Fin 256) (l : Fin 2048) : iblk m c 2 t (ix2 k l) = pA m c (ix2 (rowAt t.val k) l) :=
  congrArg (pA m c) (emb2 t k l)

theorem point0 (c : Dev nD) (t : Fin cfg0.N) (k : Fin 256) (l : Fin 2048) : (k0_pay3 (F := Ideal) (iblk m c 0 t) (iblk m c 1 t) (iblk m c 2 t)) (ix2 k l) = slope (dA m c) (qA m c) (pA m c) (ix2 (rowAt t.val k) l) := by
  rw [block_slope, block0, block1, block2]
  rfl

theorem point1 (c : Dev nD) (t : Fin cfg0.N) (k : Fin 256) (l : Fin 2048) : (k0_pay4 (F := Ideal) (iblk m c 0 t) (iblk m c 1 t)) (ix2 k l) = proj (dA m c) (qA m c) (ix2 (rowAt t.val k) l) := by
  rw [block_proj, block0, block1]
  rfl

theorem point2 (c : Dev nD) (t : Fin cfg0.N) (l : Fin 2048) : (k0_pay5 (F := Ideal) (iblk m c 0 t) (iblk m c 1 t) (iblk m c 2 t)) (ix2 0 l) = part (fun r => slope (dA m c) (qA m c) (pA m c) (ix2 r l)) t.val := by
  rw [block_bias]
  simp only [block0, block1, block2]
  rfl

theorem after0 (c : Dev nD) (t : Fin cfg0.N) : (outsAt0 m c t.val t.isLt).1 = k0_pay3 (F := Ideal) (iblk m c 0 t) (iblk m c 1 t) (iblk m c 2 t) := by
  have hN : t.val < 32 := t.isLt
  by_cases h0 : t.val % 32 = 0
  · have h1 : ¬1 ≤ t.val := by omega
    rw [outsAt0_A m c t h0 h1]
    dsimp only
    rw [out_A0]
  · have h1 : 1 ≤ t.val := by omega
    rw [outsAt0_B m c t h0 h1]
    dsimp only
    rw [out_B0]

theorem array0 (c : Dev nD) : (dats m 0 c).arrAt 3 cfg0.N = slope (dA m c) (qA m c) (pA m c) := by
  funext i
  obtain ⟨t, k, l, rfl⟩ := places i
  refine Eq.trans (congrArg _ (emb3 t k l).symm) ((congrFun (Value.blocks3 m c t (flush0_3 t)) (ix2 k l)).trans ?_)
  rw [Value.flushed3, after0]
  exact point0 m c t k l

theorem after1 (c : Dev nD) (t : Fin cfg0.N) : (outsAt0 m c t.val t.isLt).2.1 = k0_pay4 (F := Ideal) (iblk m c 0 t) (iblk m c 1 t) := by
  have hN : t.val < 32 := t.isLt
  by_cases h0 : t.val % 32 = 0
  · have h1 : ¬1 ≤ t.val := by omega
    rw [outsAt0_A m c t h0 h1]
    dsimp only
    rw [out_A1]
  · have h1 : 1 ≤ t.val := by omega
    rw [outsAt0_B m c t h0 h1]
    dsimp only
    rw [out_B1]

theorem array1 (c : Dev nD) : (dats m 0 c).arrAt 4 cfg0.N = proj (dA m c) (qA m c) := by
  funext i
  obtain ⟨t, k, l, rfl⟩ := places i
  refine Eq.trans (congrArg _ (emb4 t k l).symm) ((congrFun (Value.blocks4 m c t (flush0_4 t)) (ix2 k l)).trans ?_)
  rw [Value.flushed4, after1]
  exact point1 m c t k l

/-- After a point the row holds the sums of the blocks so far. -/
theorem sum2 (c : Dev nD) : ∀ (n : ℕ) (h : n < cfg0.N) (l : Fin 2048), (outsAt0 m c n h).2.2 (ix2 0 l) = ∑ s ∈ Finset.range (n + 1), part (fun r => slope (dA m c) (qA m c) (pA m c) (ix2 r l)) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1]
    dsimp only
    rw [out_A2, zero_add, Finset.sum_range_one]
    exact point2 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1]
    dsimp only
    rw [out_B2, Finset.sum_range_succ, ← ih (by omega) l]
    exact congrArg₂ (· + ·) rfl (point2 m c ⟨n + 1, h⟩ l)

theorem last5 (i : S1x2048.Idx) : i ∈ ((cfg0.win 5).blk ⟨31, last⟩).view.set :=
  Finset.mem_map.mpr ⟨i, Finset.mem_univ _, emb5 ⟨31, last⟩ i⟩

theorem read5 (t : Fin cfg0.N) (G : S1x2048.Idx → EReal) (y : ((cfg0.win 5).xblock (cfg0.grid.coords t)).Idx) :
    ((cfg0.win 5).blk t).view.read (Elt Ideal) G y = G y := congrArg G (emb5 t y)

theorem array2 (c : Dev nD) : (dats m 0 c).arrAt 5 cfg0.N = bias (dA m c) (qA m c) (pA m c) := by
  refine (dats m 0 c).arrAt_eq_of_cover 5 _ (fun t hf => ?_) fun i => ⟨⟨31, last⟩, (flush0_5 _).mpr rfl, last5 i⟩
  · have hN : t.val < 32 := t.isLt
    have h31 : t.val % 32 = 31 := (flush0_5 t).mp hf
    rw [Value.flushed5]
    funext y
    refine Eq.trans ?_ (read5 t _ y).symm
    obtain ⟨l, rfl⟩ := one_row y
    refine (sum2 m c t.val t.isLt l).trans ?_
    rw [show t.val + 1 = 32 by omega, parts_sum]
    rfl

open GateBwdRefIdeal.Read in
theorem reference_slope (d : Vec Ideal S8192x2048 .f32) (q p : Vec Ideal S8192x2048 .bf16) : val_main_v9 (F := Ideal) d q p = slope d q p := by
  funext i
  refine Eq.trans (b := d i * p i * (q i * (Ideal.ofBits .f32 0x3F800000#32 - q i))) ?_ (mul_assoc _ _ _).symm
  pointwise [val_main_v9, val_main_v8, val_main_v7, val_main_v6, val_main_v5, val_main_v4, val_main_v1, val_main_v0, val_main_cst]

open GateBwdRefIdeal.Read in
theorem reference_proj (d : Vec Ideal S8192x2048 .f32) (q : Vec Ideal S8192x2048 .bf16) : val_main_v10 (F := Ideal) d q = proj d q := by
  funext i
  refine Eq.trans (b := q i * d i) ?_ (mul_comm _ _)
  pointwise [val_main_v10, val_main_v3, val_main_v0]

open GateBwdRefIdeal.Read in
theorem reference_bias (d : Vec Ideal S8192x2048 .f32) (q p : Vec Ideal S8192x2048 .bf16) : val_main_v12 (F := Ideal) d q p = bias d q p := by
  funext i
  refine Eq.trans (b := ∑ r : Fin 8192, val_main_v9 (F := Ideal) d q p (ix2 r (i 1))) ?_ ?_
  · pointwise [val_main_v12, val_main_v11, val_main_v9, val_main_cst_0]
  · rw [reference_slope]
    rfl

/-- The kernel and the reference hold the same arrays. -/
theorem algebraic : Cert.algebraic_GateBwdIdeal_GateBwdRefIdeal := by
  intro m g m' g' _ hagree
  refine ⟨fun c => slope (dA m c) (qA m c) (pA m c), fun c => proj (dA m c) (qA m c), fun c => bias (dA m c) (qA m c) (pA m c),
    (θ_run _ _ _).mono (fun r h c => ⟨(h c).1.trans (array0 m c), (h c).2.1.trans (array1 m c), (h c).2.2.1.trans (array2 m c), (h c).2.2.2⟩) (Value.run_blocks m g),
    (θ_run _ _ _).mono (fun r h c => ⟨((h c).1.trans (GateBwdRefIdeal.Read.val_main_v9_eq ..)).trans ?_, ((h c).2.1.trans (GateBwdRefIdeal.Read.val_main_v10_eq ..)).trans ?_, ((h c).2.2.1.trans (GateBwdRefIdeal.Read.val_main_v12_eq ..)).trans ?_, (h c).2.2.2⟩) (GateBwdRefIdeal.Value.run m' g')⟩
  · rw [(hagree c).1, (hagree c).2.1, (hagree c).2.2]
    exact reference_slope _ _ _
  · rw [(hagree c).1, (hagree c).2.1]
    exact reference_proj _ _
  · rw [(hagree c).1, (hagree c).2.1, (hagree c).2.2]
    exact reference_bias _ _ _

end Cert.GateBwdValue

end
-- ==== Proof.LayerNorm.lean ====
/- The gradient of the layer norm and of x times its logistic along one row: the kernel's form and the one that differentiating gives are equal on finite numbers. -/
module

public import proofs.«01_k».proof.Proof.Norm

@[expose] public section

noncomputable section

namespace Cert.LayerNorm

open Cert.Finite Cert.Norm Idealize.ShloMosaic

theorem word_one : Ideal.ofBits .f32 1065353216#32 = ((1 : ℝ) : EReal) := by
  simp [Ideal.ofBits, Ideal.ieee, -EReal.coe_mul]; norm_num

/-- A row less its mean. -/
def cen (x : Fin 2048 → EReal) (l : Fin 2048) : EReal := x l - Ideal.div (∑ k, x k) (Ideal.ofBits .f32 1157627904#32)

/-- The normed row with its gain and bias. -/
def act (x g b : Fin 2048 → EReal) (l : Fin 2048) : EReal := cen x l * Cert.Norm.inv (cen x) * g l + b l

/-- The logistic function. -/
def sig (u : EReal) : EReal := Ideal.div (Ideal.ofBits .f32 1065353216#32) (Ideal.ofBits .f32 1065353216#32 + Ideal.exp (-u))

/-- The gradient past x times its logistic, as the kernel computes it. -/
def step (d x g b : Fin 2048 → EReal) (l : Fin 2048) : EReal :=
  d l * sig (act x g b l) * (Ideal.ofBits .f32 1065353216#32 + act x g b l * (Ideal.ofBits .f32 1065353216#32 - sig (act x g b l)))

/-- The layer norm's gradient along a row, as the kernel computes it. -/
def under (d x g : Fin 2048 → EReal) (l : Fin 2048) : EReal :=
  Cert.Norm.inv (cen x) * (d l * g l - Ideal.div (∑ k, d k * g k) (Ideal.ofBits .f32 1157627904#32)
    - cen x l * Cert.Norm.inv (cen x) * Ideal.div (∑ k, d k * g k * (cen x k * Cert.Norm.inv (cen x))) (Ideal.ofBits .f32 1157627904#32))

theorem cen_real (x : Fin 2048 → EReal) (hx : ∀ k, IsReal (x k)) : ∃ f : Fin 2048 → ℝ, (∀ k, cen x k = (f k : EReal)) ∧ ∑ k, f k = 0 := by
  choose p hp using hx
  refine ⟨fun k => p k - (∑ j, p j) * (1 / 2048), fun k => ?_, ?_⟩
  · unfold cen
    simp only [hp, coe_sum]
    rw [word_rows, Ideal.div_coe (by norm_num)]
    norm_cast
  · rw [Finset.sum_sub_distrib, Finset.sum_const, Finset.card_univ, Fintype.card_fin, nsmul_eq_mul]
    push_cast
    ring

theorem isReal_cen (x : Fin 2048 → EReal) (hx : ∀ k, IsReal (x k)) (l : Fin 2048) : IsReal (cen x l) := by
  obtain ⟨f, hf, _⟩ := cen_real x hx
  exact ⟨_, hf l⟩

theorem isReal_act (x g b : Fin 2048 → EReal) (hx : ∀ k, IsReal (x k)) (hg : ∀ k, IsReal (g k)) (hb : ∀ k, IsReal (b k)) (l : Fin 2048) : IsReal (act x g b l) :=
  (((isReal_cen x hx l).mul (isReal_inv _ (isReal_cen x hx))).mul (hg l)).add (hb l)

theorem isReal_sig (u : EReal) (hu : IsReal u) : IsReal (sig u) := by
  obtain ⟨r, rfl⟩ := hu
  unfold sig
  have e : Ideal.ofBits .f32 1065353216#32 + Ideal.exp (-(r : EReal)) = ((1 + Real.exp (-r) : ℝ) : EReal) := by
    rw [word_one, ← EReal.coe_neg, Ideal.exp_coe]; norm_cast
  have h : 0 < 1 + Real.exp (-r) := by positivity
  rw [e, word_one, Ideal.div_coe h.ne']
  exact ⟨_, (EReal.coe_mul _ _).symm⟩

/-- The derivative of x times its logistic, put together. -/
theorem step_eq (d x g b : Fin 2048 → EReal) (hd : ∀ k, IsReal (d k)) (hx : ∀ k, IsReal (x k)) (hg : ∀ k, IsReal (g k)) (hb : ∀ k, IsReal (b k)) (l : Fin 2048) :
    d l * sig (act x g b l) + act x g b l * d l * (sig (act x g b l) * (Ideal.ofBits .f32 1065353216#32 - sig (act x g b l))) = step d x g b l := by
  unfold step
  obtain ⟨a, ha⟩ := hd l
  obtain ⟨s, hs⟩ := isReal_sig _ (isReal_act x g b hx hg hb l)
  obtain ⟨u, hu⟩ := isReal_act x g b hx hg hb l
  rw [hs, hu, ha, word_one]
  norm_cast
  ring

theorem isReal_step (d x g b : Fin 2048 → EReal) (hd : ∀ k, IsReal (d k)) (hx : ∀ k, IsReal (x k)) (hg : ∀ k, IsReal (g k)) (hb : ∀ k, IsReal (b k)) (l : Fin 2048) :
    IsReal (step d x g b l) := by
  have hu := isReal_act x g b hx hg hb l
  have h1 : IsReal (Ideal.ofBits .f32 1065353216#32) := ⟨_, word_one⟩
  exact ((hd l).mul (isReal_sig _ hu)).mul (h1.add (hu.mul (h1.sub (isReal_sig _ hu))))

/-- The derivative of the layer norm, put together: the centred row's gradient less its mean. -/
theorem under_eq (d x g : Fin 2048 → EReal) (hd : ∀ k, IsReal (d k)) (hx : ∀ k, IsReal (x k)) (hg : ∀ k, IsReal (g k)) (l : Fin 2048) :
    back d (cen x) g l + Ideal.div (∑ k, -(back d (cen x) g k)) (Ideal.ofBits .f32 1157627904#32) = under d x g l := by
  obtain ⟨v, hv, ev, ei⟩ := inv_real (cen x) (isReal_cen x hx)
  obtain ⟨f, hf, h0⟩ := cen_real x hx
  unfold back under
  rw [ei]
  choose a ha using hd
  choose b hb using hg
  generalize (Real.sqrt v)⁻¹ = r
  have h1 : ∑ k, d k * g k * (cen x k * (r : EReal)) = ((∑ k, a k * b k * (f k * r) : ℝ) : EReal) := by
    simp only [hf, ha, hb, ← EReal.coe_mul, coe_sum]
  have h2 : ∑ k, d k * g k = ((∑ k, a k * b k : ℝ) : EReal) := by
    simp only [ha, hb, ← EReal.coe_mul, coe_sum]
  rw [h1, h2, word_rows]
  generalize (∑ k, a k * b k * (f k * r)) = p
  have h3 : ∑ k, -((r : EReal) * (d k * g k - cen x k * (r : EReal) * Ideal.div (p : EReal) ((2048 : ℝ) : EReal))) = ((-(r * ∑ k, a k * b k) : ℝ) : EReal) := by
    rw [Ideal.div_coe (by norm_num)]
    simp only [hf, ha, hb, ← EReal.coe_mul, ← EReal.coe_sub, ← EReal.coe_neg, coe_sum]
    refine congrArg Real.toEReal ?_
    have e : ∀ k, -(r * (a k * b k - f k * r * (p * (1 / 2048)))) = -r * (a k * b k) + r * r * (p * (1 / 2048)) * f k := fun k => by ring
    simp only [e, Finset.sum_add_distrib, ← Finset.mul_sum, h0]
    ring
  rw [h3, Ideal.div_coe (by norm_num), Ideal.div_coe (by norm_num), Ideal.div_coe (by norm_num), hf l, ha l, hb l]
  norm_cast
  ring

end Cert.LayerNorm

end
-- ==== Proof.ConvOut.lean ====
/- The convolution layer's backward step through the output product, the logistic and the layer norm: the gradient at the layer norm's input, and the gradients of its gain, its bias and the bias under it, summed over the blocks of rows. -/
module

public import proofs.«01_k».proof.Defs
public import proofs.«01_k».proof.Proof.Gen.ConvOutIdeal.Value
public import proofs.«01_k».proof.Proof.Gen.ConvOutRefIdeal.Read
public import proofs.«01_k».proof.Proof.Norm
public import proofs.«01_k».proof.Proof.LayerNorm
public import proofs.«01_k».proof.Proof.Gen.Pre_finite_conv
public import proofs.«01_k».proof.Proof.Zero

@[expose] public section

noncomputable section

namespace Cert.ConvOutValue

open Cert.ConvOutIdeal Cert.ConvOutIdeal.Gen Idealize.ShloMosaic Idealize.ShloMosaic.TcCoe Idealize.SL.Sem
open Cert.Norm

open Cert.Finite Cert.LayerNorm

/-- The gradient past the output product, at a row and a column. -/
def ct (d : Vec Ideal S8192x2048 .bf16) (w : Vec Ideal S8x1x256x2048 .bf16) (r : Fin 8192) (l : Fin 2048) : EReal :=
  ∑ k : Fin 2048, d (ix2 r k) * w (ix4 ⟨l.val / 256, by omega⟩ (0 : Fin 1) ⟨l.val % 256, by omega⟩ k)

/-- The same in one block of rows. -/
def ctBlock (d : Vec Ideal S256x2048 .bf16) (w : Vec Ideal S8x1x256x2048 .bf16) (r : Fin 256) (l : Fin 2048) : EReal :=
  ∑ k : Fin 2048, d (ix2 r k) * w (ix4 ⟨l.val / 256, by omega⟩ (0 : Fin 1) ⟨l.val % 256, by omega⟩ k)

/-- The gradient at the layer norm's output. -/
def outer (d : Vec Ideal S8192x2048 .bf16) (w : Vec Ideal S8x1x256x2048 .bf16) (u : Vec Ideal S8192x2048 .f32) (g b : Vec Ideal S1x2048 .f32) (r : Fin 8192) (l : Fin 2048) : EReal :=
  step (ct d w r) (fun l => u (ix2 r l)) (fun l => g (ix2 0 l)) (fun l => b (ix2 0 l)) l

/-- The gradient at the layer norm's input. -/
def inner (d : Vec Ideal S8192x2048 .bf16) (w : Vec Ideal S8x1x256x2048 .bf16) (u : Vec Ideal S8192x2048 .f32) (g b : Vec Ideal S1x2048 .f32) (i : S8192x2048.Idx) : EReal :=
  under (outer d w u g b (i 0)) (fun l => u (ix2 (i 0) l)) (fun l => g (ix2 0 l)) (i 1)

/-- The gradient of the layer norm's gain: a column's sum. -/
def gains (d : Vec Ideal S8192x2048 .bf16) (w : Vec Ideal S8x1x256x2048 .bf16) (u : Vec Ideal S8192x2048 .f32) (g b : Vec Ideal S1x2048 .f32) (i : S1x2048.Idx) : EReal :=
  ∑ r : Fin 8192, outer d w u g b r (i 1) * (cen (fun l => u (ix2 r l)) (i 1) * Cert.Norm.inv (cen fun l => u (ix2 r l)))

/-- The gradient of the layer norm's bias. -/
def biases (d : Vec Ideal S8192x2048 .bf16) (w : Vec Ideal S8x1x256x2048 .bf16) (u : Vec Ideal S8192x2048 .f32) (g b : Vec Ideal S1x2048 .f32) (i : S1x2048.Idx) : EReal := ∑ r : Fin 8192, outer d w u g b r (i 1)

/-- The gradient of the bias under the layer norm. -/
def sums (d : Vec Ideal S8192x2048 .bf16) (w : Vec Ideal S8x1x256x2048 .bf16) (u : Vec Ideal S8192x2048 .f32) (g b : Vec Ideal S1x2048 .f32) (i : S1x2048.Idx) : EReal := ∑ r : Fin 8192, inner d w u g b (ix2 r (i 1))

/-- The words of one point. -/
abbrev blockS (d : Vec Ideal S256x2048 .bf16) (w : Vec Ideal S8x1x256x2048 .bf16) (u : Vec Ideal S256x2048 .f32) (g b : Vec Ideal S1x2048 .f32) : FVec Ideal S256x2048 .f32 :=
  k0_pay15 (F := Ideal) d (k0_pay3 d (View.ld w (Rect.unit (s := S8x1x256x2048) ![0, 0, 0, 0] S1x1x256x2048.size inb_S8x1x256x2048_S1x1x256x2048_0_0_0_0))) (k0_pay4 d (View.ld w (Rect.unit (s := S8x1x256x2048) ![1, 0, 0, 0] S1x1x256x2048.size inb_S8x1x256x2048_S1x1x256x2048_1_0_0_0))) (k0_pay5 d (View.ld w (Rect.unit (s := S8x1x256x2048) ![2, 0, 0, 0] S1x1x256x2048.size inb_S8x1x256x2048_S1x1x256x2048_2_0_0_0))) (k0_pay6 d (View.ld w (Rect.unit (s := S8x1x256x2048) ![3, 0, 0, 0] S1x1x256x2048.size inb_S8x1x256x2048_S1x1x256x2048_3_0_0_0))) (k0_pay7 d (View.ld w (Rect.unit (s := S8x1x256x2048) ![4, 0, 0, 0] S1x1x256x2048.size inb_S8x1x256x2048_S1x1x256x2048_4_0_0_0))) (k0_pay8 d (View.ld w (Rect.unit (s := S8x1x256x2048) ![5, 0, 0, 0] S1x1x256x2048.size inb_S8x1x256x2048_S1x1x256x2048_5_0_0_0))) (k0_pay9 d (View.ld w (Rect.unit (s := S8x1x256x2048) ![6, 0, 0, 0] S1x1x256x2048.size inb_S8x1x256x2048_S1x1x256x2048_6_0_0_0))) (View.ld w (Rect.unit (s := S8x1x256x2048) ![7, 0, 0, 0] S1x1x256x2048.size inb_S8x1x256x2048_S1x1x256x2048_7_0_0_0)) u g b

abbrev blockDu (d : Vec Ideal S256x2048 .bf16) (w : Vec Ideal S8x1x256x2048 .bf16) (u : Vec Ideal S256x2048 .f32) (g b : Vec Ideal S1x2048 .f32) : FVec Ideal S256x2048 .f32 :=
  k0_pay19 (F := Ideal) (k0_pay11 u) (k0_pay12 u) g (blockS d w u g b) (k0_pay16 u g b) k0_pay17

theorem piece3 (d : Vec Ideal S256x2048 .bf16) (v : Vec Ideal S1x1x256x2048 .bf16) (k : Fin 256) (l : Fin 256) : k0_pay3 (F := Ideal) d v (ix2 k l) = ∑ j : Fin 2048, d (ix2 k j) * v (ix4 0 0 l j) := by
  pointwise [k0_pay3]

theorem piece4 (d : Vec Ideal S256x2048 .bf16) (v : Vec Ideal S1x1x256x2048 .bf16) (k : Fin 256) (l : Fin 256) : k0_pay4 (F := Ideal) d v (ix2 k l) = ∑ j : Fin 2048, d (ix2 k j) * v (ix4 0 0 l j) := by
  pointwise [k0_pay4]

theorem piece5 (d : Vec Ideal S256x2048 .bf16) (v : Vec Ideal S1x1x256x2048 .bf16) (k : Fin 256) (l : Fin 256) : k0_pay5 (F := Ideal) d v (ix2 k l) = ∑ j : Fin 2048, d (ix2 k j) * v (ix4 0 0 l j) := by
  pointwise [k0_pay5]

theorem piece6 (d : Vec Ideal S256x2048 .bf16) (v : Vec Ideal S1x1x256x2048 .bf16) (k : Fin 256) (l : Fin 256) : k0_pay6 (F := Ideal) d v (ix2 k l) = ∑ j : Fin 2048, d (ix2 k j) * v (ix4 0 0 l j) := by
  pointwise [k0_pay6]

theorem piece7 (d : Vec Ideal S256x2048 .bf16) (v : Vec Ideal S1x1x256x2048 .bf16) (k : Fin 256) (l : Fin 256) : k0_pay7 (F := Ideal) d v (ix2 k l) = ∑ j : Fin 2048, d (ix2 k j) * v (ix4 0 0 l j) := by
  pointwise [k0_pay7]

theorem piece8 (d : Vec Ideal S256x2048 .bf16) (v : Vec Ideal S1x1x256x2048 .bf16) (k : Fin 256) (l : Fin 256) : k0_pay8 (F := Ideal) d v (ix2 k l) = ∑ j : Fin 2048, d (ix2 k j) * v (ix4 0 0 l j) := by
  pointwise [k0_pay8]

theorem piece9 (d : Vec Ideal S256x2048 .bf16) (v : Vec Ideal S1x1x256x2048 .bf16) (k : Fin 256) (l : Fin 256) : k0_pay9 (F := Ideal) d v (ix2 k l) = ∑ j : Fin 2048, d (ix2 k j) * v (ix4 0 0 l j) := by
  pointwise [k0_pay9]

theorem slab0 (w : Vec Ideal S8x1x256x2048 .bf16) (l : Fin 256) (j : Fin 2048) : View.ld (Val := Elt Ideal) (e' := .bf16) w (Rect.unit (s := S8x1x256x2048) ![0, 0, 0, 0] S1x1x256x2048.size inb_S8x1x256x2048_S1x1x256x2048_0_0_0_0) (ix4 0 0 l j) = w (ix4 0 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab1 (w : Vec Ideal S8x1x256x2048 .bf16) (l : Fin 256) (j : Fin 2048) : View.ld (Val := Elt Ideal) (e' := .bf16) w (Rect.unit (s := S8x1x256x2048) ![1, 0, 0, 0] S1x1x256x2048.size inb_S8x1x256x2048_S1x1x256x2048_1_0_0_0) (ix4 0 0 l j) = w (ix4 1 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab2 (w : Vec Ideal S8x1x256x2048 .bf16) (l : Fin 256) (j : Fin 2048) : View.ld (Val := Elt Ideal) (e' := .bf16) w (Rect.unit (s := S8x1x256x2048) ![2, 0, 0, 0] S1x1x256x2048.size inb_S8x1x256x2048_S1x1x256x2048_2_0_0_0) (ix4 0 0 l j) = w (ix4 2 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab3 (w : Vec Ideal S8x1x256x2048 .bf16) (l : Fin 256) (j : Fin 2048) : View.ld (Val := Elt Ideal) (e' := .bf16) w (Rect.unit (s := S8x1x256x2048) ![3, 0, 0, 0] S1x1x256x2048.size inb_S8x1x256x2048_S1x1x256x2048_3_0_0_0) (ix4 0 0 l j) = w (ix4 3 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab4 (w : Vec Ideal S8x1x256x2048 .bf16) (l : Fin 256) (j : Fin 2048) : View.ld (Val := Elt Ideal) (e' := .bf16) w (Rect.unit (s := S8x1x256x2048) ![4, 0, 0, 0] S1x1x256x2048.size inb_S8x1x256x2048_S1x1x256x2048_4_0_0_0) (ix4 0 0 l j) = w (ix4 4 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab5 (w : Vec Ideal S8x1x256x2048 .bf16) (l : Fin 256) (j : Fin 2048) : View.ld (Val := Elt Ideal) (e' := .bf16) w (Rect.unit (s := S8x1x256x2048) ![5, 0, 0, 0] S1x1x256x2048.size inb_S8x1x256x2048_S1x1x256x2048_5_0_0_0) (ix4 0 0 l j) = w (ix4 5 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab6 (w : Vec Ideal S8x1x256x2048 .bf16) (l : Fin 256) (j : Fin 2048) : View.ld (Val := Elt Ideal) (e' := .bf16) w (Rect.unit (s := S8x1x256x2048) ![6, 0, 0, 0] S1x1x256x2048.size inb_S8x1x256x2048_S1x1x256x2048_6_0_0_0) (ix4 0 0 l j) = w (ix4 6 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem slab7 (w : Vec Ideal S8x1x256x2048 .bf16) (l : Fin 256) (j : Fin 2048) : View.ld (Val := Elt Ideal) (e' := .bf16) w (Rect.unit (s := S8x1x256x2048) ![7, 0, 0, 0] S1x1x256x2048.size inb_S8x1x256x2048_S1x1x256x2048_7_0_0_0) (ix4 0 0 l j) = w (ix4 7 0 l j) := by
  show w _ = w _
  congr 1
  funext a; apply Fin.ext
  match a with
  | ⟨0, _⟩ => rfl
  | ⟨1, _⟩ => rfl
  | ⟨2, _⟩ => show 0 + 1 * l.val = l.val; omega
  | ⟨3, _⟩ => show 0 + 1 * j.val = j.val; omega

theorem joined (d : Vec Ideal S256x2048 .bf16) (p0 p1 p2 p3 p4 p5 p6 : FVec Ideal S256x256 .f32) (v : Vec Ideal S1x1x256x2048 .bf16) (u : Vec Ideal S256x2048 .f32) (g b : Vec Ideal S1x2048 .f32) (k : Fin 256) (l : Fin 2048) :
    k0_pay15 (F := Ideal) d p0 p1 p2 p3 p4 p5 p6 v u g b (ix2 k l) = ((if h : l.val < 256 then p0 (ix2 k ⟨l.val, h⟩)
      else if h : l.val - 256 < 256 then p1 (ix2 k ⟨l.val - 256, h⟩)
      else if h : l.val - 256 - 256 < 256 then p2 (ix2 k ⟨l.val - 256 - 256, h⟩)
      else if h : l.val - 256 - 256 - 256 < 256 then p3 (ix2 k ⟨l.val - 256 - 256 - 256, h⟩)
      else if h : l.val - 256 - 256 - 256 - 256 < 256 then p4 (ix2 k ⟨l.val - 256 - 256 - 256 - 256, h⟩)
      else if h : l.val - 256 - 256 - 256 - 256 - 256 < 256 then p5 (ix2 k ⟨l.val - 256 - 256 - 256 - 256 - 256, h⟩)
      else if h : l.val - 256 - 256 - 256 - 256 - 256 - 256 < 256 then p6 (ix2 k ⟨l.val - 256 - 256 - 256 - 256 - 256 - 256, h⟩)
      else ∑ j, d (ix2 k j) * v (ix4 0 0 ⟨l.val - 256 - 256 - 256 - 256 - 256 - 256 - 256, by omega⟩ j) : EReal)) * k0_pay14 (F := Ideal) u g b (ix2 k l) := by
  pointwise [k0_pay15]

theorem term (d : Vec Ideal S256x2048 .bf16) (w : Vec Ideal S8x1x256x2048 .bf16) (k : Fin 256) (l j : Fin 2048) (q : Fin 8) (n : Fin 256) (e : EReal)
    (hq : l.val / 256 = q.val) (hn : n.val = l.val % 256) (he : e = w (ix4 q 0 n j)) :
    d (ix2 k j) * e = d (ix2 k j) * w (ix4 ⟨l.val / 256, by omega⟩ (0 : Fin 1) ⟨l.val % 256, by omega⟩ j) := by
  rw [he, show (⟨l.val / 256, by omega⟩ : Fin 8) = q from Fin.ext hq, show (⟨l.val % 256, by omega⟩ : Fin 256) = n from Fin.ext hn.symm]

theorem block_act (u : Vec Ideal S256x2048 .f32) (g b : Vec Ideal S1x2048 .f32) (k : Fin 256) (l : Fin 2048) :
    k0_pay13 (F := Ideal) u g b (ix2 k l) = act (fun l => u (ix2 k l)) (fun l => g (ix2 0 l)) (fun l => b (ix2 0 l)) l := by
  pointwise [k0_pay13, k0_pay12, k0_pay11, k0_pay10, act, cen, Cert.Norm.inv]

theorem block_hat (u : Vec Ideal S256x2048 .f32) (k : Fin 256) (l : Fin 2048) :
    k0_pay12 (F := Ideal) u (ix2 k l) = cen (fun l => u (ix2 k l)) l * Cert.Norm.inv (cen fun l => u (ix2 k l)) := by
  pointwise [k0_pay12, k0_pay11, k0_pay10, cen, Cert.Norm.inv]

theorem block_inv (u : Vec Ideal S256x2048 .f32) (k : Fin 256) :
    k0_pay11 (F := Ideal) u (ix2 k 0) = Cert.Norm.inv (cen fun l => u (ix2 k l)) := by
  pointwise [k0_pay11, k0_pay10, cen, Cert.Norm.inv]

theorem block_sig (u : Vec Ideal S256x2048 .f32) (g b : Vec Ideal S1x2048 .f32) (k : Fin 256) (l : Fin 2048) :
    k0_pay14 (F := Ideal) u g b (ix2 k l) = Cert.LayerNorm.sig (k0_pay13 (F := Ideal) u g b (ix2 k l)) := by
  unfold Cert.LayerNorm.sig
  rw [← zero_sub]
  pointwise [k0_pay14]

theorem block_s (d : Vec Ideal S256x2048 .bf16) (w : Vec Ideal S8x1x256x2048 .bf16) (u : Vec Ideal S256x2048 .f32) (g b : Vec Ideal S1x2048 .f32) (k : Fin 256) (l : Fin 2048) :
    blockS d w u g b (ix2 k l) = ctBlock d w k l * Cert.LayerNorm.sig (act (fun l => u (ix2 k l)) (fun l => g (ix2 0 l)) (fun l => b (ix2 0 l)) l) := by
  refine (joined _ _ _ _ _ _ _ _ _ _ _ _ k l).trans ?_
  rw [block_sig, block_act]
  refine congrArg (· * _) ?_
  unfold ctBlock
  split_ifs with h0 h1 h2 h3 h4 h5 h6
  · rw [piece3]
    exact Finset.sum_congr rfl fun j _ => term d w k l j 0 _ _ (by show _ = 0; omega) (by show l.val = _; omega) (slab0 w _ _)
  · rw [piece4]
    exact Finset.sum_congr rfl fun j _ => term d w k l j 1 _ _ (by show _ = 1; omega) (by show l.val - 256 = _; omega) (slab1 w _ _)
  · rw [piece5]
    exact Finset.sum_congr rfl fun j _ => term d w k l j 2 _ _ (by show _ = 2; omega) (by show l.val - 256 - 256 = _; omega) (slab2 w _ _)
  · rw [piece6]
    exact Finset.sum_congr rfl fun j _ => term d w k l j 3 _ _ (by show _ = 3; omega) (by show l.val - 256 - 256 - 256 = _; omega) (slab3 w _ _)
  · rw [piece7]
    exact Finset.sum_congr rfl fun j _ => term d w k l j 4 _ _ (by show _ = 4; omega) (by show l.val - 256 - 256 - 256 - 256 = _; omega) (slab4 w _ _)
  · rw [piece8]
    exact Finset.sum_congr rfl fun j _ => term d w k l j 5 _ _ (by show _ = 5; omega) (by show l.val - 256 - 256 - 256 - 256 - 256 = _; omega) (slab5 w _ _)
  · rw [piece9]
    exact Finset.sum_congr rfl fun j _ => term d w k l j 6 _ _ (by show _ = 6; omega) (by show l.val - 256 - 256 - 256 - 256 - 256 - 256 = _; omega) (slab6 w _ _)
  · skip
    exact Finset.sum_congr rfl fun j _ => term d w k l j 7 _ _ (by show _ = 7; omega) (by show l.val - 256 - 256 - 256 - 256 - 256 - 256 - 256 = _; omega) (slab7 w _ _)

theorem block_step (s : FVec Ideal S256x2048 .f32) (u : Vec Ideal S256x2048 .f32) (g b : Vec Ideal S1x2048 .f32) (k : Fin 256) (l : Fin 2048) :
    k0_pay18 (F := Ideal) s (k0_pay16 u g b) k0_pay17 (ix2 k l) = s (ix2 k l) * (Ideal.ofBits .f32 1065353216#32
      + k0_pay13 (F := Ideal) u g b (ix2 k l) * (Ideal.ofBits .f32 1065353216#32 - k0_pay14 (F := Ideal) u g b (ix2 k l))) := by
  pointwise [k0_pay18, k0_pay16, k0_pay17]

theorem block_outer (d : Vec Ideal S256x2048 .bf16) (w : Vec Ideal S8x1x256x2048 .bf16) (u : Vec Ideal S256x2048 .f32) (g b : Vec Ideal S1x2048 .f32) (k : Fin 256) (l : Fin 2048) : k0_pay18 (F := Ideal) (blockS d w u g b) (k0_pay16 u g b) k0_pay17 (ix2 k l)
    = step (ctBlock d w k) (fun l => u (ix2 k l)) (fun l => g (ix2 0 l)) (fun l => b (ix2 0 l)) l := by
  rw [block_step, block_s, block_sig, block_act]
  rfl

theorem block_under (r : FVec Ideal S256x1 .f32) (h s p o : FVec Ideal S256x2048 .f32) (g : Vec Ideal S1x2048 .f32) (k : Fin 256) (l : Fin 2048) :
    k0_pay19 (F := Ideal) r h g s p o (ix2 k l) = r (ix2 k 0) * (k0_pay18 (F := Ideal) s p o (ix2 k l) * g (ix2 0 l)
      - Ideal.div (∑ j, k0_pay18 (F := Ideal) s p o (ix2 k j) * g (ix2 0 j)) (Ideal.ofBits .f32 1157627904#32)
      - h (ix2 k l) * Ideal.div (∑ j, k0_pay18 (F := Ideal) s p o (ix2 k j) * g (ix2 0 j) * h (ix2 k j)) (Ideal.ofBits .f32 1157627904#32)) := by
  pointwise [k0_pay19]

theorem block_inner (d : Vec Ideal S256x2048 .bf16) (w : Vec Ideal S8x1x256x2048 .bf16) (u : Vec Ideal S256x2048 .f32) (g b : Vec Ideal S1x2048 .f32) (k : Fin 256) (l : Fin 2048) : blockDu d w u g b (ix2 k l)
    = under (step (ctBlock d w k) (fun l => u (ix2 k l)) (fun l => g (ix2 0 l)) (fun l => b (ix2 0 l))) (fun l => u (ix2 k l)) (fun l => g (ix2 0 l)) l := by
  refine (block_under _ _ _ _ _ _ k l).trans ?_
  simp only [block_outer, block_hat, block_inv]
  rfl

theorem block_gains (h s p o : FVec Ideal S256x2048 .f32) (l : Fin 2048) :
    k0_pay20 (F := Ideal) h s p o (ix2 0 l) = ∑ k : Fin 256, k0_pay18 (F := Ideal) s p o (ix2 k l) * h (ix2 k l) := by
  pointwise [k0_pay20]

theorem block_biases (s p o : FVec Ideal S256x2048 .f32) (l : Fin 2048) :
    k0_pay22 (F := Ideal) s p o (ix2 0 l) = ∑ k : Fin 256, k0_pay18 (F := Ideal) s p o (ix2 k l) := by
  pointwise [k0_pay22]

theorem block_sums (s : FVec Ideal S256x2048 .f32) (l : Fin 2048) :
    k0_pay1 (F := Ideal) s (ix2 0 l) = ∑ k : Fin 256, s (ix2 k l) := by
  pointwise [k0_pay1]

section
variable (c : Dev nD) (i : grid0.Coords) (a1 : Memref sig .tc .vmem S256x2048 .bf16) (h1 : a1.IsWhole) (a2 : Memref sig .tc .vmem S8x1x256x2048 .bf16) (h2 : a2.IsWhole) (a3 : Memref sig .tc .vmem S256x2048 .f32) (h3 : a3.IsWhole) (a4 : Memref sig .tc .vmem S1x2048 .f32) (h4 : a4.IsWhole) (a5 : Memref sig .tc .vmem S1x2048 .f32) (h5 : a5.IsWhole) (a6 : Memref sig .tc .vmem S256x2048 .f32) (h6 : a6.IsWhole) (a7 : Memref sig .tc .vmem S1x2048 .f32) (h7 : a7.IsWhole) (a8 : Memref sig .tc .vmem S1x2048 .f32) (h8 : a8.IsWhole) (a9 : Memref sig .tc .vmem S1x2048 .f32) (h9 : a9.IsWhole)
  (d : Vec Ideal S256x2048 .bf16) (w : Vec Ideal S8x1x256x2048 .bf16) (u : Vec Ideal S256x2048 .f32) (g : Vec Ideal S1x2048 .f32) (b : Vec Ideal S1x2048 .f32)

theorem out_A0 (hc0 : cond0_0 i) (hc1 : ¬cond0_1 i) (hc2 : cond0_2 i) (hc3 : ¬cond0_3 i) (hc4 : cond0_4 i) (hc5 : ¬cond0_5 i) :
    out0_A_5 c i a1 h1 a2 h2 a3 h3 a4 h4 a5 h5 a6 h6 a7 h7 a8 h8 a9 h9 hc0 hc1 hc2 hc3 hc4 hc5 d w u g b = blockDu d w u g b := by
  unfold out0_A_5
  rw [View.read_writes_eq_canon _ _ _ (cover0_A_5 c i a1 h1 a2 h2 a3 h3 a4 h4 a5 h5 a6 h6 a7 h7 a8 h8 a9 h9 hc0 hc1 hc2 hc3 hc4 hc5 d w u g b)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_A1 (hc0 : cond0_0 i) (hc1 : ¬cond0_1 i) (hc2 : cond0_2 i) (hc3 : ¬cond0_3 i) (hc4 : cond0_4 i) (hc5 : ¬cond0_5 i) :
    out0_A_6 c i a1 h1 a2 h2 a3 h3 a4 h4 a5 h5 a6 h6 a7 h7 a8 h8 a9 h9 hc0 hc1 hc2 hc3 hc4 hc5 d w u g b = k0_pay20 (F := Ideal) (k0_pay12 u) (blockS d w u g b) (k0_pay16 u g b) k0_pay17 := by
  unfold out0_A_6
  rw [View.read_writes_eq_canon _ _ _ (cover0_A_6 c i a1 h1 a2 h2 a3 h3 a4 h4 a5 h5 a6 h6 a7 h7 a8 h8 a9 h9 hc0 hc1 hc2 hc3 hc4 hc5 d w u g b)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_A2 (hc0 : cond0_0 i) (hc1 : ¬cond0_1 i) (hc2 : cond0_2 i) (hc3 : ¬cond0_3 i) (hc4 : cond0_4 i) (hc5 : ¬cond0_5 i) :
    out0_A_7 c i a1 h1 a2 h2 a3 h3 a4 h4 a5 h5 a6 h6 a7 h7 a8 h8 a9 h9 hc0 hc1 hc2 hc3 hc4 hc5 d w u g b = k0_pay22 (F := Ideal) (blockS d w u g b) (k0_pay16 u g b) k0_pay17 := by
  unfold out0_A_7
  rw [View.read_writes_eq_canon _ _ _ (cover0_A_7 c i a1 h1 a2 h2 a3 h3 a4 h4 a5 h5 a6 h6 a7 h7 a8 h8 a9 h9 hc0 hc1 hc2 hc3 hc4 hc5 d w u g b)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_A3 (hc0 : cond0_0 i) (hc1 : ¬cond0_1 i) (hc2 : cond0_2 i) (hc3 : ¬cond0_3 i) (hc4 : cond0_4 i) (hc5 : ¬cond0_5 i) :
    out0_A_8 c i a1 h1 a2 h2 a3 h3 a4 h4 a5 h5 a6 h6 a7 h7 a8 h8 a9 h9 hc0 hc1 hc2 hc3 hc4 hc5 d w u g b = k0_pay1 (F := Ideal) (blockDu d w u g b) := by
  unfold out0_A_8
  rw [View.read_writes_eq_canon _ _ _ (cover0_A_8 c i a1 h1 a2 h2 a3 h3 a4 h4 a5 h5 a6 h6 a7 h7 a8 h8 a9 h9 hc0 hc1 hc2 hc3 hc4 hc5 d w u g b)]
  unfold kernelRun0_A
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_B0 (hc0 : ¬cond0_0 i) (hc1 : cond0_1 i) (hc2 : ¬cond0_2 i) (hc3 : cond0_3 i) (hc4 : ¬cond0_4 i) (hc5 : cond0_5 i) (s0 : Vec Ideal S1x2048 .f32) (s1 : Vec Ideal S1x2048 .f32) (s2 : Vec Ideal S1x2048 .f32) :
    out0_B_5 c i a1 h1 a2 h2 a3 h3 a4 h4 a5 h5 a6 h6 a7 h7 a8 h8 a9 h9 hc0 hc1 hc2 hc3 hc4 hc5 d w u g b s0 s1 s2 = blockDu d w u g b := by
  unfold out0_B_5
  rw [View.read_writes_eq_canon _ _ _ (cover0_B_5 c i a1 h1 a2 h2 a3 h3 a4 h4 a5 h5 a6 h6 a7 h7 a8 h8 a9 h9 hc0 hc1 hc2 hc3 hc4 hc5 d w u g b s0 s1 s2)]
  unfold kernelRun0_B
  dsimp only
  sl_unfold_words
  rw [View.canon_unit_zero zero2]
  simp only [View.readAt_eq_ld, h1.read_unread, h2.read_unread, h3.read_unread, h4.read_unread, h5.read_unread, View.ld_unit_zero (S := S1x2048) zero2, View.ld_unit_zero (S := S256x2048) zero2, View.ld_unit_zero (S := S8x1x256x2048) zero4, shapeCast_self] <;> rfl

theorem out_B1 (hc0 : ¬cond0_0 i) (hc1 : cond0_1 i) (hc2 : ¬cond0_2 i) (hc3 : cond0_3 i) (hc4 : ¬cond0_4 i) (hc5 : cond0_5 i) (s0 : Vec Ideal S1x2048 .f32) (s1 : Vec Ideal S1x2048 .f32) (s2 : Vec Ideal S1x2048 .f32) :
    out0_B_6 c i a1 h1 a2 h2 a3 h3 a4 h4 a5 h5 a6 h6 a7 h7 a8 h8 a9 h9 hc0 hc1 hc2 hc3 hc4 hc5 d w u g b s0 s1 s2 = addf s0 (k0_pay20 (F := Ideal) (k0_pay12 u) (blockS d w u g b) (k0_pay16 u g b) k0_pay17) := by
  unfold out0_B_6
  rw [View.read_writes_eq_canon _ _ _ (cover0_B_6 c i a1 h1 a2 h2 a3 h3 a4 h4 a5 h5 a6 h6 a7 h7 a8 h8 a9 h9 hc0 hc1 hc2 hc3 hc4 hc5 d w u g b s0 s1 s2)]
  unfold kernelRun0_B
  dsimp only
  sl_unfold_words
  rw [View.canon_unit_zero zero2]
  unfold k0_pay21
  simp only [View.readAt_eq_ld, h1.read_unread, h2.read_unread, h3.read_unread, h4.read_unread, h5.read_unread, h7.read_unread, View.ld_unit_zero (S := S1x2048) zero2, View.ld_unit_zero (S := S256x2048) zero2, View.ld_unit_zero (S := S8x1x256x2048) zero4, shapeCast_self] <;> rfl

theorem out_B2 (hc0 : ¬cond0_0 i) (hc1 : cond0_1 i) (hc2 : ¬cond0_2 i) (hc3 : cond0_3 i) (hc4 : ¬cond0_4 i) (hc5 : cond0_5 i) (s0 : Vec Ideal S1x2048 .f32) (s1 : Vec Ideal S1x2048 .f32) (s2 : Vec Ideal S1x2048 .f32) :
    out0_B_7 c i a1 h1 a2 h2 a3 h3 a4 h4 a5 h5 a6 h6 a7 h7 a8 h8 a9 h9 hc0 hc1 hc2 hc3 hc4 hc5 d w u g b s0 s1 s2 = addf s1 (k0_pay22 (F := Ideal) (blockS d w u g b) (k0_pay16 u g b) k0_pay17) := by
  unfold out0_B_7
  rw [View.read_writes_eq_canon _ _ _ (cover0_B_7 c i a1 h1 a2 h2 a3 h3 a4 h4 a5 h5 a6 h6 a7 h7 a8 h8 a9 h9 hc0 hc1 hc2 hc3 hc4 hc5 d w u g b s0 s1 s2)]
  unfold kernelRun0_B
  dsimp only
  sl_unfold_words
  rw [View.canon_unit_zero zero2]
  unfold k0_pay23
  simp only [View.readAt_eq_ld, h1.read_unread, h2.read_unread, h3.read_unread, h4.read_unread, h5.read_unread, h8.read_unread, View.ld_unit_zero (S := S1x2048) zero2, View.ld_unit_zero (S := S256x2048) zero2, View.ld_unit_zero (S := S8x1x256x2048) zero4, shapeCast_self] <;> rfl

theorem out_B3 (hc0 : ¬cond0_0 i) (hc1 : cond0_1 i) (hc2 : ¬cond0_2 i) (hc3 : cond0_3 i) (hc4 : ¬cond0_4 i) (hc5 : cond0_5 i) (s0 : Vec Ideal S1x2048 .f32) (s1 : Vec Ideal S1x2048 .f32) (s2 : Vec Ideal S1x2048 .f32) :
    out0_B_8 c i a1 h1 a2 h2 a3 h3 a4 h4 a5 h5 a6 h6 a7 h7 a8 h8 a9 h9 hc0 hc1 hc2 hc3 hc4 hc5 d w u g b s0 s1 s2 = addf s2 (k0_pay1 (F := Ideal) (blockDu d w u g b)) := by
  unfold out0_B_8
  rw [View.read_writes_eq_canon _ _ _ (cover0_B_8 c i a1 h1 a2 h2 a3 h3 a4 h4 a5 h5 a6 h6 a7 h7 a8 h8 a9 h9 hc0 hc1 hc2 hc3 hc4 hc5 d w u g b s0 s1 s2)]
  unfold kernelRun0_B
  dsimp only
  sl_unfold_words
  rw [View.canon_unit_zero zero2]
  unfold k0_pay2
  simp only [View.readAt_eq_ld, h1.read_unread, h2.read_unread, h3.read_unread, h4.read_unread, h5.read_unread, h9.read_unread, View.ld_unit_zero (S := S1x2048) zero2, View.ld_unit_zero (S := S256x2048) zero2, View.ld_unit_zero (S := S8x1x256x2048) zero4, shapeCast_self] <;> rfl

end

theorem idx_facts : ∀ t : Fin cfg0.N, win0_0.index t (0 : Fin 2) = t.val ∧ win0_0.index t (1 : Fin 2) = 0 ∧ win0_2.index t (0 : Fin 2) = t.val ∧ win0_2.index t (1 : Fin 2) = 0 ∧ win0_5.index t (0 : Fin 2) = t.val ∧ win0_5.index t (1 : Fin 2) = 0 :=
  (by decide +kernel : ∀ t : Fin grid0.N, _)

/-- Every place of a whole array is at a row of some block. -/
theorem places (i : S8192x2048.Idx) : ∃ (t : Fin cfg0.N) (k : Fin 256) (l : Fin 2048), i = ix2 (rowAt t.val k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = ((i 0).val / 256 * 256 + (i 0).val % 256) % 8192; omega
  | ⟨1, _⟩ => rfl

theorem one_row (i : S1x2048.Idx) : ∃ l : Fin 2048, i = ix2 (0 : Fin 1) l :=
  ⟨i 1, funext fun a => Fin.ext (match a with | ⟨0, _⟩ => by have h : (i 0).val < 1 := (i 0).isLt; show (i 0).val = 0; omega | ⟨1, _⟩ => rfl)⟩

theorem emb0 (t : Fin cfg0.N) (k : Fin 256) (l : Fin 2048) : ((cfg0.win 0).blk t).view.emb (ix2 k l) = ix2 (rowAt t.val k) l := by
  obtain ⟨f0, f1, f2, f3, f4, f5⟩ := idx_facts t
  have hN : t.val < 32 := t.isLt
  funext a; apply Fin.ext
  match a with
  | ⟨0, _⟩ => show win0_0.index t (0 : Fin 2) * 256 + 1 * k.val = (t.val * 256 + k.val) % 8192; omega
  | ⟨1, _⟩ => show win0_0.index t (1 : Fin 2) * 2048 + 1 * l.val = l.val; omega

theorem emb2 (t : Fin cfg0.N) (k : Fin 256) (l : Fin 2048) : ((cfg0.win 2).blk t).view.emb (ix2 k l) = ix2 (rowAt t.val k) l := by
  obtain ⟨f0, f1, f2, f3, f4, f5⟩ := idx_facts t
  have hN : t.val < 32 := t.isLt
  funext a; apply Fin.ext
  match a with
  | ⟨0, _⟩ => show win0_2.index t (0 : Fin 2) * 256 + 1 * k.val = (t.val * 256 + k.val) % 8192; omega
  | ⟨1, _⟩ => show win0_2.index t (1 : Fin 2) * 2048 + 1 * l.val = l.val; omega

theorem emb5 (t : Fin cfg0.N) (k : Fin 256) (l : Fin 2048) : ((cfg0.win 5).blk t).view.emb (ix2 k l) = ix2 (rowAt t.val k) l := by
  obtain ⟨f0, f1, f2, f3, f4, f5⟩ := idx_facts t
  have hN : t.val < 32 := t.isLt
  funext a; apply Fin.ext
  match a with
  | ⟨0, _⟩ => show win0_5.index t (0 : Fin 2) * 256 + 1 * k.val = (t.val * 256 + k.val) % 8192; omega
  | ⟨1, _⟩ => show win0_5.index t (1 : Fin 2) * 2048 + 1 * l.val = l.val; omega

theorem emb1 (t : Fin cfg0.N) (y : S8x1x256x2048.Idx) : ((cfg0.win 1).blk t).view.emb y = y := by
  have h : ∀ t : Fin cfg0.N, win0_1.index t (0 : Fin 4) = 0 ∧ win0_1.index t (1 : Fin 4) = 0 ∧ win0_1.index t (2 : Fin 4) = 0 ∧ win0_1.index t (3 : Fin 4) = 0 := (by decide +kernel : ∀ t : Fin grid0.N, _)
  obtain ⟨f0, f1, f2, f3⟩ := h t
  funext a; apply Fin.ext
  match a with
  | ⟨0, _⟩ => show win0_1.index t (0 : Fin 4) * 8 + 1 * (y 0).val = (y 0).val; omega
  | ⟨1, _⟩ => show win0_1.index t (1 : Fin 4) * 1 + 1 * (y 1).val = (y 1).val; omega
  | ⟨2, _⟩ => show win0_1.index t (2 : Fin 4) * 256 + 1 * (y 2).val = (y 2).val; omega
  | ⟨3, _⟩ => show win0_1.index t (3 : Fin 4) * 2048 + 1 * (y 3).val = (y 3).val; omega

theorem emb3 (t : Fin cfg0.N) (y : S1x2048.Idx) : ((cfg0.win 3).blk t).view.emb y = y := by
  have h : ∀ t : Fin cfg0.N, win0_3.index t (0 : Fin 2) = 0 ∧ win0_3.index t (1 : Fin 2) = 0 := (by decide +kernel : ∀ t : Fin grid0.N, _)
  obtain ⟨f0, f1⟩ := h t
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem emb4 (t : Fin cfg0.N) (y : S1x2048.Idx) : ((cfg0.win 4).blk t).view.emb y = y := by
  have h : ∀ t : Fin cfg0.N, win0_4.index t (0 : Fin 2) = 0 ∧ win0_4.index t (1 : Fin 2) = 0 := (by decide +kernel : ∀ t : Fin grid0.N, _)
  obtain ⟨f0, f1⟩ := h t
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem emb6 (t : Fin cfg0.N) (y : S1x2048.Idx) : ((cfg0.win 6).blk t).view.emb y = y := by
  have h : ∀ t : Fin cfg0.N, win0_6.index t (0 : Fin 2) = 0 ∧ win0_6.index t (1 : Fin 2) = 0 := (by decide +kernel : ∀ t : Fin grid0.N, _)
  obtain ⟨f0, f1⟩ := h t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem emb7 (t : Fin cfg0.N) (y : S1x2048.Idx) : ((cfg0.win 7).blk t).view.emb y = y := by
  have h : ∀ t : Fin cfg0.N, win0_7.index t (0 : Fin 2) = 0 ∧ win0_7.index t (1 : Fin 2) = 0 := (by decide +kernel : ∀ t : Fin grid0.N, _)
  obtain ⟨f0, f1⟩ := h t
  funext a; apply Fin.ext
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem emb8 (t : Fin cfg0.N) (y : S1x2048.Idx) : ((cfg0.win 8).blk t).view.emb y = y := by
  have h : ∀ t : Fin cfg0.N, win0_8.index t (0 : Fin 2) = 0 ∧ win0_8.index t (1 : Fin 2) = 0 := (by decide +kernel : ∀ t : Fin grid0.N, _)
  obtain ⟨f0, f1⟩ := h t
  funext a; apply Fin.ext
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem last : 31 < cfg0.N := by show 31 < 32; omega

variable (m : (ℓ : Loc nD τ sig) → Buf (Elt Ideal) ℓ)

abbrev dA (c : Dev nD) : Vec Ideal S8192x2048 .bf16 := m (c.tc.loc main_arg0)
abbrev wA (c : Dev nD) : Vec Ideal S8x1x256x2048 .bf16 := m (c.tc.loc main_arg1)
abbrev uA (c : Dev nD) : Vec Ideal S8192x2048 .f32 := m (c.tc.loc main_arg2)
abbrev gA (c : Dev nD) : Vec Ideal S1x2048 .f32 := m (c.tc.loc main_arg3)
abbrev bA (c : Dev nD) : Vec Ideal S1x2048 .f32 := m (c.tc.loc main_arg4)

theorem block0 (c : Dev nD) (t : Fin cfg0.N) (k : Fin 256) (l : Fin 2048) : iblk m c 0 t (ix2 k l) = dA m c (ix2 (rowAt t.val k) l) :=
  congrArg (dA m c) (emb0 t k l)

theorem block1 (c : Dev nD) (t : Fin cfg0.N) : iblk m c 1 t = wA m c :=
  funext fun y => congrArg (wA m c) (emb1 t y)

theorem block2 (c : Dev nD) (t : Fin cfg0.N) (k : Fin 256) (l : Fin 2048) : iblk m c 2 t (ix2 k l) = uA m c (ix2 (rowAt t.val k) l) :=
  congrArg (uA m c) (emb2 t k l)

theorem block3 (c : Dev nD) (t : Fin cfg0.N) : iblk m c 3 t = gA m c :=
  funext fun y => congrArg (gA m c) (emb3 t y)

theorem block4 (c : Dev nD) (t : Fin cfg0.N) : iblk m c 4 t = bA m c :=
  funext fun y => congrArg (bA m c) (emb4 t y)

theorem block_ct (c : Dev nD) (t : Fin cfg0.N) (k : Fin 256) : ctBlock (iblk m c 0 t) (wA m c) k = ct (dA m c) (wA m c) (rowAt t.val k) := by
  funext l
  unfold ctBlock ct
  simp only [block0]

theorem point0 (c : Dev nD) (t : Fin cfg0.N) (k : Fin 256) (l : Fin 2048) : (blockDu (iblk m c 0 t) (iblk m c 1 t) (iblk m c 2 t) (iblk m c 3 t) (iblk m c 4 t)) (ix2 k l) = inner (dA m c) (wA m c) (uA m c) (gA m c) (bA m c) (ix2 (rowAt t.val k) l) := by
  rw [block1, block3, block4, block_inner, block_ct]
  simp only [block2]
  rfl

theorem point1 (c : Dev nD) (t : Fin cfg0.N) (l : Fin 2048) : (k0_pay20 (F := Ideal) (k0_pay12 (iblk m c 2 t)) (blockS (iblk m c 0 t) (iblk m c 1 t) (iblk m c 2 t) (iblk m c 3 t) (iblk m c 4 t)) (k0_pay16 (iblk m c 2 t) (iblk m c 3 t) (iblk m c 4 t)) k0_pay17) (ix2 0 l) = part (fun r => outer (dA m c) (wA m c) (uA m c) (gA m c) (bA m c) r l * (cen (fun l => (uA m c) (ix2 r l)) l * Cert.Norm.inv (cen fun l => (uA m c) (ix2 r l)))) t.val := by
  rw [block1, block3, block4, block_gains]
  simp only [block_outer, block_hat, block_ct, block2]
  rfl

theorem point2 (c : Dev nD) (t : Fin cfg0.N) (l : Fin 2048) : (k0_pay22 (F := Ideal) (blockS (iblk m c 0 t) (iblk m c 1 t) (iblk m c 2 t) (iblk m c 3 t) (iblk m c 4 t)) (k0_pay16 (iblk m c 2 t) (iblk m c 3 t) (iblk m c 4 t)) k0_pay17) (ix2 0 l) = part (fun r => outer (dA m c) (wA m c) (uA m c) (gA m c) (bA m c) r l) t.val := by
  rw [block1, block3, block4, block_biases]
  simp only [block_outer, block_ct, block2]
  rfl

theorem point3 (c : Dev nD) (t : Fin cfg0.N) (l : Fin 2048) : (k0_pay1 (F := Ideal) (blockDu (iblk m c 0 t) (iblk m c 1 t) (iblk m c 2 t) (iblk m c 3 t) (iblk m c 4 t))) (ix2 0 l) = part (fun r => inner (dA m c) (wA m c) (uA m c) (gA m c) (bA m c) (ix2 r l)) t.val := by
  rw [block_sums]
  simp only [point0]
  rfl

theorem after0 (c : Dev nD) (t : Fin cfg0.N) : (outsAt0 m c t.val t.isLt).1 = blockDu (iblk m c 0 t) (iblk m c 1 t) (iblk m c 2 t) (iblk m c 3 t) (iblk m c 4 t) := by
  have hN : t.val < 32 := t.isLt
  by_cases h0 : t.val % 32 = 0
  · have h1 : ¬1 ≤ t.val := by omega
    rw [outsAt0_A m c t h0 h1 h0 h1 h0 h1]
    dsimp only
    rw [out_A0]
  · have h1 : 1 ≤ t.val := by omega
    rw [outsAt0_B m c t h0 h1 h0 h1 h0 h1]
    dsimp only
    rw [out_B0]

theorem array0 (c : Dev nD) : (dats m 0 c).arrAt 5 cfg0.N = inner (dA m c) (wA m c) (uA m c) (gA m c) (bA m c) := by
  funext i
  obtain ⟨t, k, l, rfl⟩ := places i
  refine Eq.trans (congrArg _ (emb5 t k l).symm) ((congrFun (Value.blocks5 m c t (flush0_5 t)) (ix2 k l)).trans ?_)
  rw [Value.flushed5, after0]
  exact point0 m c t k l

/-- After a point the row holds the sums of the blocks so far. -/
theorem sum1 (c : Dev nD) : ∀ (n : ℕ) (h : n < cfg0.N) (l : Fin 2048), (outsAt0 m c n h).2.1 (ix2 0 l) = ∑ s ∈ Finset.range (n + 1), part (fun r => outer (dA m c) (wA m c) (uA m c) (gA m c) (bA m c) r l * (cen (fun l => (uA m c) (ix2 r l)) l * Cert.Norm.inv (cen fun l => (uA m c) (ix2 r l)))) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1 h0 h1 h0 h1]
    dsimp only
    rw [out_A1, zero_add, Finset.sum_range_one]
    exact point1 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1 h0 h1 h0 h1]
    dsimp only
    rw [out_B1, Finset.sum_range_succ, ← ih (by omega) l]
    exact congrArg₂ (· + ·) rfl (point1 m c ⟨n + 1, h⟩ l)

theorem last6 (i : S1x2048.Idx) : i ∈ ((cfg0.win 6).blk ⟨31, last⟩).view.set :=
  Finset.mem_map.mpr ⟨i, Finset.mem_univ _, emb6 ⟨31, last⟩ i⟩

theorem read6 (t : Fin cfg0.N) (G : S1x2048.Idx → EReal) (y : ((cfg0.win 6).xblock (cfg0.grid.coords t)).Idx) :
    ((cfg0.win 6).blk t).view.read (Elt Ideal) G y = G y := congrArg G (emb6 t y)

theorem array1 (c : Dev nD) : (dats m 0 c).arrAt 6 cfg0.N = gains (dA m c) (wA m c) (uA m c) (gA m c) (bA m c) := by
  refine (dats m 0 c).arrAt_eq_of_cover 6 _ (fun t hf => ?_) fun i => ⟨⟨31, last⟩, (flush0_6 _).mpr rfl, last6 i⟩
  · have hN : t.val < 32 := t.isLt
    have h31 : t.val % 32 = 31 := (flush0_6 t).mp hf
    rw [Value.flushed6]
    funext y
    refine Eq.trans ?_ (read6 t _ y).symm
    obtain ⟨l, rfl⟩ := one_row y
    refine (sum1 m c t.val t.isLt l).trans ?_
    rw [show t.val + 1 = 32 by omega, parts_sum]
    rfl

/-- After a point the row holds the sums of the blocks so far. -/
theorem sum2 (c : Dev nD) : ∀ (n : ℕ) (h : n < cfg0.N) (l : Fin 2048), (outsAt0 m c n h).2.2.1 (ix2 0 l) = ∑ s ∈ Finset.range (n + 1), part (fun r => outer (dA m c) (wA m c) (uA m c) (gA m c) (bA m c) r l) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1 h0 h1 h0 h1]
    dsimp only
    rw [out_A2, zero_add, Finset.sum_range_one]
    exact point2 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1 h0 h1 h0 h1]
    dsimp only
    rw [out_B2, Finset.sum_range_succ, ← ih (by omega) l]
    exact congrArg₂ (· + ·) rfl (point2 m c ⟨n + 1, h⟩ l)

theorem last7 (i : S1x2048.Idx) : i ∈ ((cfg0.win 7).blk ⟨31, last⟩).view.set :=
  Finset.mem_map.mpr ⟨i, Finset.mem_univ _, emb7 ⟨31, last⟩ i⟩

theorem read7 (t : Fin cfg0.N) (G : S1x2048.Idx → EReal) (y : ((cfg0.win 7).xblock (cfg0.grid.coords t)).Idx) :
    ((cfg0.win 7).blk t).view.read (Elt Ideal) G y = G y := congrArg G (emb7 t y)

theorem array2 (c : Dev nD) : (dats m 0 c).arrAt 7 cfg0.N = biases (dA m c) (wA m c) (uA m c) (gA m c) (bA m c) := by
  refine (dats m 0 c).arrAt_eq_of_cover 7 _ (fun t hf => ?_) fun i => ⟨⟨31, last⟩, (flush0_7 _).mpr rfl, last7 i⟩
  · have hN : t.val < 32 := t.isLt
    have h31 : t.val % 32 = 31 := (flush0_7 t).mp hf
    rw [Value.flushed7]
    funext y
    refine Eq.trans ?_ (read7 t _ y).symm
    obtain ⟨l, rfl⟩ := one_row y
    refine (sum2 m c t.val t.isLt l).trans ?_
    rw [show t.val + 1 = 32 by omega, parts_sum]
    rfl

/-- After a point the row holds the sums of the blocks so far. -/
theorem sum3 (c : Dev nD) : ∀ (n : ℕ) (h : n < cfg0.N) (l : Fin 2048), (outsAt0 m c n h).2.2.2 (ix2 0 l) = ∑ s ∈ Finset.range (n + 1), part (fun r => inner (dA m c) (wA m c) (uA m c) (gA m c) (bA m c) (ix2 r l)) s := by
  intro n
  induction n with
  | zero =>
    intro h l
    have h0 : (⟨0, h⟩ : Fin cfg0.N).val % 32 = 0 := rfl
    have h1 : ¬1 ≤ (⟨0, h⟩ : Fin cfg0.N).val := by dsimp only; omega
    rw [outsAt0_A m c ⟨0, h⟩ h0 h1 h0 h1 h0 h1]
    dsimp only
    rw [out_A3, zero_add, Finset.sum_range_one]
    exact point3 m c ⟨0, h⟩ l
  | succ n ih =>
    intro h l
    have hN : n + 1 < 32 := h
    have h0 : ¬(⟨n + 1, h⟩ : Fin cfg0.N).val % 32 = 0 := by dsimp only; omega
    have h1 : 1 ≤ (⟨n + 1, h⟩ : Fin cfg0.N).val := by dsimp only; omega
    rw [outsAt0_B m c ⟨n + 1, h⟩ h0 h1 h0 h1 h0 h1]
    dsimp only
    rw [out_B3, Finset.sum_range_succ, ← ih (by omega) l]
    exact congrArg₂ (· + ·) rfl (point3 m c ⟨n + 1, h⟩ l)

theorem last8 (i : S1x2048.Idx) : i ∈ ((cfg0.win 8).blk ⟨31, last⟩).view.set :=
  Finset.mem_map.mpr ⟨i, Finset.mem_univ _, emb8 ⟨31, last⟩ i⟩

theorem read8 (t : Fin cfg0.N) (G : S1x2048.Idx → EReal) (y : ((cfg0.win 8).xblock (cfg0.grid.coords t)).Idx) :
    ((cfg0.win 8).blk t).view.read (Elt Ideal) G y = G y := congrArg G (emb8 t y)

theorem array3 (c : Dev nD) : (dats m 0 c).arrAt 8 cfg0.N = sums (dA m c) (wA m c) (uA m c) (gA m c) (bA m c) := by
  refine (dats m 0 c).arrAt_eq_of_cover 8 _ (fun t hf => ?_) fun i => ⟨⟨31, last⟩, (flush0_8 _).mpr rfl, last8 i⟩
  · have hN : t.val < 32 := t.isLt
    have h31 : t.val % 32 = 31 := (flush0_8 t).mp hf
    rw [Value.flushed8]
    funext y
    refine Eq.trans ?_ (read8 t _ y).symm
    obtain ⟨l, rfl⟩ := one_row y
    refine (sum3 m c t.val t.isLt l).trans ?_
    rw [show t.val + 1 = 32 by omega, parts_sum]
    rfl

theorem finite_of_pre [Cert.Pre_finite_conv.Facts] (d : Vec Ideal S8192x2048 .bf16) (w : Vec Ideal S8x1x256x2048 .bf16) (u : Vec Ideal S8192x2048 .f32) (g b : Vec Ideal S1x2048 .f32)
    (h : Cert.Pre_finite_conv.fn (F := Ideal) d w u g b = fun _ => 1#1) :
    (∀ i, IsReal (d i)) ∧ (∀ i, IsReal (w i)) ∧ (∀ i, IsReal (u i)) ∧ (∀ i, IsReal (g i)) ∧ (∀ i, IsReal (b i)) := by
  have h0 := congrFun h (fun a => a.elim0)
  unfold Cert.Pre_finite_conv.fn Cert.Pre_finite_conv.fn_part1 at h0
  obtain ⟨h1, p4⟩ := IntOp.andi_eq_one.1 h0
  obtain ⟨h2, p3⟩ := IntOp.andi_eq_one.1 h1
  obtain ⟨h3, p2⟩ := IntOp.andi_eq_one.1 h2
  obtain ⟨p0, p1⟩ := IntOp.andi_eq_one.1 h3
  exact ⟨real_at _ _ (fun _ => bf16_inf) _ _ _ _ p0, real_at _ _ (fun _ => bf16_inf) _ _ _ _ p1, real_at _ _ (fun _ => f32_inf) _ _ _ _ p2, real_at _ _ (fun _ => f32_inf) _ _ _ _ p3, real_at _ _ (fun _ => f32_inf) _ _ _ _ p4⟩

theorem real_ct (d : Vec Ideal S8192x2048 .bf16) (w : Vec Ideal S8x1x256x2048 .bf16) (hd : ∀ i, IsReal (d i)) (hw : ∀ i, IsReal (w i)) (r : Fin 8192) (l : Fin 2048) : IsReal (ct d w r l) :=
  isReal_sum _ _ fun k _ => (hd _).mul (hw _)

open ConvOutRefIdeal.Read in
theorem reference_ct (d : Vec Ideal S8192x2048 .bf16) (w : Vec Ideal S8x1x256x2048 .bf16) (r : Fin 8192) (l : Fin 2048) : val_main_v32 (F := Ideal) d w (ix2 r l) = ct d w r l := by
  pointwise [val_main_v32, val_main_v31, val_main_v1, val_main_v0, ct]

open ConvOutRefIdeal.Read in
theorem reference_hat (u : Vec Ideal S8192x2048 .f32) (r : Fin 8192) (l : Fin 2048) : val_main_v22 (F := Ideal) u (ix2 r l) = cen (fun l => u (ix2 r l)) l * Cert.Norm.inv (cen fun l => u (ix2 r l)) := by
  pointwise [val_main_v22, val_main_v21, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, cen, Cert.Norm.inv]

open ConvOutRefIdeal.Read in
theorem reference_act (u : Vec Ideal S8192x2048 .f32) (g b : Vec Ideal S1x2048 .f32) (r : Fin 8192) (l : Fin 2048) : val_main_v28 (F := Ideal) u g b (ix2 r l) = act (fun l => u (ix2 r l)) (fun l => g (ix2 0 l)) (fun l => b (ix2 0 l)) l := by
  refine Eq.trans (b := val_main_v22 (F := Ideal) u (ix2 r l) * g (ix2 0 l) + b (ix2 0 l)) ?_ ?_
  · pointwise [val_main_v28, val_main_v27, val_main_v26, val_main_v25, val_main_v24, val_main_v23, val_main_v3, val_main_v2]
  · rw [reference_hat]
    rfl

open ConvOutRefIdeal.Read in
theorem reference_sig (u : Vec Ideal S8192x2048 .f32) (g b : Vec Ideal S1x2048 .f32) (r : Fin 8192) (l : Fin 2048) : val_main_v29_2 (F := Ideal) u g b (ix2 r l) = Cert.LayerNorm.sig (val_main_v28 (F := Ideal) u g b (ix2 r l)) := by
  pointwise [val_main_v29_2, val_main_call0_v4, val_main_call0_v3, val_main_call0_v2, val_main_call0_v1, val_main_call0_v0, val_main_call0_cst, val_main_call0_cst_0, Cert.LayerNorm.sig]

open ConvOutRefIdeal.Read in
theorem reference_outer (d : Vec Ideal S8192x2048 .bf16) (w : Vec Ideal S8x1x256x2048 .bf16) (u : Vec Ideal S8192x2048 .f32) (g b : Vec Ideal S1x2048 .f32) (hd : ∀ r l, IsReal (ct d w r l)) (hu : ∀ i, IsReal (u i)) (hg : ∀ i, IsReal (g i)) (hb : ∀ i, IsReal (b i)) (r : Fin 8192) (l : Fin 2048) :
    val_main_v33 (F := Ideal) d w u g b (ix2 r l) = outer d w u g b r l := by
  refine Eq.trans (b := val_main_v32 (F := Ideal) d w (ix2 r l) * val_main_v29_2 (F := Ideal) u g b (ix2 r l)
    + val_main_v28 (F := Ideal) u g b (ix2 r l) * val_main_v32 (F := Ideal) d w (ix2 r l) * (val_main_v29_2 (F := Ideal) u g b (ix2 r l) * (Ideal.ofBits .f32 1065353216#32 - val_main_v29_2 (F := Ideal) u g b (ix2 r l)))) ?_ ?_
  · pointwise [val_main_v33, val_main_call1_v2, val_main_call1_v1, val_main_call1_v0, val_main_v29_1, val_main_call0_v7, val_main_call0_v6, val_main_call0_cst_1]
  · rw [reference_sig, reference_act, reference_ct]
    exact step_eq _ _ _ _ (hd r) (fun _ => hu _) (fun _ => hg _) (fun _ => hb _) l

open ConvOutRefIdeal.Read in
theorem reference_inner (d : Vec Ideal S8192x2048 .bf16) (w : Vec Ideal S8x1x256x2048 .bf16) (u : Vec Ideal S8192x2048 .f32) (g b : Vec Ideal S1x2048 .f32) (hd : ∀ r l, IsReal (ct d w r l)) (hu : ∀ i, IsReal (u i)) (hg : ∀ i, IsReal (g i)) (hb : ∀ i, IsReal (b i)) : val_main_v64 (F := Ideal) d w u g b = inner d w u g b := by
  have ho := reference_outer d w u g b hd hu hg hb
  have h56 : ∀ r l, val_main_v56 (F := Ideal) d w u g b (ix2 r l) = back (outer d w u g b r) (cen fun l => u (ix2 r l)) (fun l => g (ix2 0 l)) l := fun r l => by
    refine Eq.trans ?_ (back_eq _ _ _ (isReal_step _ _ _ _ (hd r) (fun _ => hu _) (fun _ => hg _) fun _ => hb _) (isReal_cen _ fun _ => hu _) (fun _ => hg _) l)
    refine Eq.trans (b := val_main_v33 (F := Ideal) d w u g b (ix2 r l) * g (ix2 0 l) * Cert.Norm.inv (cen fun l => u (ix2 r l))
      + cen (fun l => u (ix2 r l)) l * (∑ _ : Fin 1, coef (fun l => val_main_v33 (F := Ideal) d w u g b (ix2 r l)) (cen fun l => u (ix2 r l)) (fun l => g (ix2 0 l)))
      + (∑ _ : Fin 1, coef (fun l => val_main_v33 (F := Ideal) d w u g b (ix2 r l)) (cen fun l => u (ix2 r l)) (fun l => g (ix2 0 l))) * cen (fun l => u (ix2 r l)) l) ?_ ?_
    · pointwise [val_main_v56, val_main_v55, val_main_v54, val_main_v53, val_main_v52, val_main_v51, val_main_v50, val_main_v49, val_main_v48, val_main_v47, val_main_v46, val_main_v45, val_main_v44, val_main_v43, val_main_v41, val_main_v40, val_main_v23, val_main_v2, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_9, val_main_cst_10, val_main_cst_11, coef, cen, Cert.Norm.inv]
    · simp only [Finset.univ_unique, Finset.sum_singleton, ho]
      rfl
  funext j
  obtain ⟨r, l, rfl⟩ : ∃ (r : Fin 8192) (l : Fin 2048), j = ix2 r l := ⟨j 0, j 1, eq_ix2 j⟩
  refine Eq.trans (b := val_main_v56 (F := Ideal) d w u g b (ix2 r l) + ∑ _ : Fin 1, Ideal.div (∑ k : Fin 2048, -(val_main_v56 (F := Ideal) d w u g b (ix2 r k))) (Ideal.ofBits .f32 1157627904#32)) ?_ ?_
  · pointwise [val_main_v64, val_main_v63, val_main_v62, val_main_v61, val_main_v60, val_main_v59, val_main_v58, val_main_v57, val_main_cst_12, val_main_cst_13, val_main_cst_14]
  · simp only [Finset.univ_unique, Finset.sum_singleton, h56]
    exact under_eq _ _ _ (isReal_step _ _ _ _ (hd r) (fun _ => hu _) (fun _ => hg _) fun _ => hb _) (fun _ => hu _) (fun _ => hg _) l

open ConvOutRefIdeal.Read in
theorem reference_gains (d : Vec Ideal S8192x2048 .bf16) (w : Vec Ideal S8x1x256x2048 .bf16) (u : Vec Ideal S8192x2048 .f32) (g b : Vec Ideal S1x2048 .f32) (hd : ∀ r l, IsReal (ct d w r l)) (hu : ∀ i, IsReal (u i)) (hg : ∀ i, IsReal (g i)) (hb : ∀ i, IsReal (b i)) : val_main_v66 (F := Ideal) d w u g b = gains d w u g b := by
  have this (l : Fin 2048) : ∑ r : Fin 8192, val_main_v22 (F := Ideal) u (ix2 r l) * val_main_v33 (F := Ideal) d w u g b (ix2 r l)
      = ∑ r : Fin 8192, outer d w u g b r l * (cen (fun l => u (ix2 r l)) l * Cert.Norm.inv (cen fun l => u (ix2 r l))) :=
    Finset.sum_congr rfl fun r _ => by rw [reference_hat, reference_outer d w u g b hd hu hg hb r l, mul_comm]
  funext i
  refine Eq.trans (b := ∑ _ : Fin 1, ∑ r : Fin 8192, val_main_v22 (F := Ideal) u (ix2 r (i 1)) * val_main_v33 (F := Ideal) d w u g b (ix2 r (i 1))) ?_ ?_
  · pointwise [val_main_v66, val_main_v42, val_main_v39, val_main_v38, val_main_v37, val_main_cst_7, val_main_cst_8]
  · simp only [Finset.univ_unique, Finset.sum_singleton]
    exact this (i 1)

open ConvOutRefIdeal.Read in
theorem reference_biases (d : Vec Ideal S8192x2048 .bf16) (w : Vec Ideal S8x1x256x2048 .bf16) (u : Vec Ideal S8192x2048 .f32) (g b : Vec Ideal S1x2048 .f32) (hd : ∀ r l, IsReal (ct d w r l)) (hu : ∀ i, IsReal (u i)) (hg : ∀ i, IsReal (g i)) (hb : ∀ i, IsReal (b i)) : val_main_v65 (F := Ideal) d w u g b = biases d w u g b := by
  funext i
  refine Eq.trans (b := ∑ _ : Fin 1, ∑ r : Fin 8192, val_main_v33 (F := Ideal) d w u g b (ix2 r (i 1))) ?_ ?_
  · pointwise [val_main_v65, val_main_v36, val_main_v35, val_main_v34, val_main_cst_5, val_main_cst_6]
  · simp only [Finset.univ_unique, Finset.sum_singleton]
    exact Finset.sum_congr rfl fun r _ => reference_outer d w u g b hd hu hg hb r (i 1)

open ConvOutRefIdeal.Read in
theorem reference_sums (d : Vec Ideal S8192x2048 .bf16) (w : Vec Ideal S8x1x256x2048 .bf16) (u : Vec Ideal S8192x2048 .f32) (g b : Vec Ideal S1x2048 .f32) (hd : ∀ r l, IsReal (ct d w r l)) (hu : ∀ i, IsReal (u i)) (hg : ∀ i, IsReal (g i)) (hb : ∀ i, IsReal (b i)) : val_main_v68 (F := Ideal) d w u g b = sums d w u g b := by
  funext i
  refine Eq.trans (b := ∑ r : Fin 8192, val_main_v64 (F := Ideal) d w u g b (ix2 r (i 1))) ?_ ?_
  · pointwise [val_main_v68, val_main_v67, val_main_cst_15]
  · rw [reference_inner d w u g b hd hu hg hb]
    rfl

/-- The kernel and the reference hold the same arrays. -/
theorem algebraic : Cert.algebraic_ConvOutIdeal_ConvOutRefIdeal_pre_finite_conv := by
  intro m g m' g' hpre hagree
  refine ⟨fun c => inner (dA m c) (wA m c) (uA m c) (gA m c) (bA m c), fun c => gains (dA m c) (wA m c) (uA m c) (gA m c) (bA m c), fun c => biases (dA m c) (wA m c) (uA m c) (gA m c) (bA m c), fun c => sums (dA m c) (wA m c) (uA m c) (gA m c) (bA m c),
    (θ_run _ _ _).mono (fun r h c => ⟨(h c).1.trans (array0 m c), (h c).2.1.trans (array1 m c), (h c).2.2.1.trans (array2 m c), (h c).2.2.2.1.trans (array3 m c), (h c).2.2.2.2⟩) (Value.run_blocks m g),
    (θ_run _ _ _).mono (fun r h c => ⟨((h c).1.trans (ConvOutRefIdeal.Read.val_main_v64_eq ..)).trans ?_, ((h c).2.1.trans (ConvOutRefIdeal.Read.val_main_v66_eq ..)).trans ?_, ((h c).2.2.1.trans (ConvOutRefIdeal.Read.val_main_v65_eq ..)).trans ?_, ((h c).2.2.2.1.trans (ConvOutRefIdeal.Read.val_main_v68_eq ..)).trans ?_, (h c).2.2.2.2⟩) (ConvOutRefIdeal.Value.run m' g')⟩
  · obtain ⟨p0, p1, p2, p3, p4⟩ := finite_of_pre _ _ _ _ _ (hpre c)
    rw [(hagree c).1, (hagree c).2.1, (hagree c).2.2.1, (hagree c).2.2.2.1, (hagree c).2.2.2.2]
    exact reference_inner _ _ _ _ _ (real_ct _ _ p0 p1) p2 p3 p4
  · obtain ⟨p0, p1, p2, p3, p4⟩ := finite_of_pre _ _ _ _ _ (hpre c)
    rw [(hagree c).1, (hagree c).2.1, (hagree c).2.2.1, (hagree c).2.2.2.1, (hagree c).2.2.2.2]
    exact reference_gains _ _ _ _ _ (real_ct _ _ p0 p1) p2 p3 p4
  · obtain ⟨p0, p1, p2, p3, p4⟩ := finite_of_pre _ _ _ _ _ (hpre c)
    rw [(hagree c).1, (hagree c).2.1, (hagree c).2.2.1, (hagree c).2.2.2.1, (hagree c).2.2.2.2]
    exact reference_biases _ _ _ _ _ (real_ct _ _ p0 p1) p2 p3 p4
  · obtain ⟨p0, p1, p2, p3, p4⟩ := finite_of_pre _ _ _ _ _ (hpre c)
    rw [(hagree c).1, (hagree c).2.1, (hagree c).2.2.1, (hagree c).2.2.2.1, (hagree c).2.2.2.2]
    exact reference_sums _ _ _ _ _ (real_ct _ _ p0 p1) p2 p3 p4

end Cert.ConvOutValue

end
-- ==== Proof.PoolFwd.lean ====
/- The pooling layer's grouped product, the state with the scaled product added, and its norm: what the kernel's three arrays hold, and that they are the reference's. -/
module

public import proofs.«01_k».proof.Defs
public import proofs.«01_k».proof.Proof.Gen.PoolFwdIdeal.Value
public import proofs.«01_k».proof.Proof.Gen.PoolFwdRefIdeal.Read
public import proofs.«01_k».proof.Proof.Norm
public import proofs.«01_k».proof.Proof.Zero

@[expose] public section

noncomputable section

namespace Cert.PoolFwdValue

open Cert.PoolFwdIdeal Cert.PoolFwdIdeal.Gen Idealize.ShloMosaic Idealize.ShloMosaic.TcCoe Idealize.SL.Sem

/-- Column `j` of the group of 512 that holds column `l`. -/
def col (l : Fin 2048) (j : Fin 512) : Fin 2048 := ⟨l.val / 512 * 512 + j.val, by omega⟩

/-- The grouped product at a row and a column. -/
def product {R : Nat} (a : Vec Ideal ⟨2, ![R, 2048]⟩ .bf16) (w : Vec Ideal S4x512x512 .bf16) (r : Fin R) (l : Fin 2048) : EReal :=
  ∑ j : Fin 512, a (ix2 r (col l j)) * w (ix3 ⟨l.val / 512, by omega⟩ j ⟨l.val % 512, by omega⟩)

/-- The next state. -/
def next {R : Nat} (a : Vec Ideal ⟨2, ![R, 2048]⟩ .bf16) (w : Vec Ideal S4x512x512 .bf16) (s : Vec Ideal S1x2048 .f32) (x : Vec Ideal ⟨2, ![R, 2048]⟩ .f32) (r : Fin R) (l : Fin 2048) : EReal :=
  x (ix2 r l) + product a w r l * s (ix2 0 l)

/-- The norm of a row of a state. -/
def normed (y : Fin 2048 → EReal) (g : Vec Ideal S1x2048 .f32) (l : Fin 2048) : EReal :=
  y l * Norm.inv y * g (ix2 0 l)

theorem joined (a0 : Vec Ideal S256x512 .bf16) (w0 : Vec Ideal S1x512x512 .bf16) (a1 : Vec Ideal S256x512 .bf16) (w1 : Vec Ideal S1x512x512 .bf16) (a2 : Vec Ideal S256x512 .bf16) (w2 : Vec Ideal S1x512x512 .bf16) (a3 : Vec Ideal S256x512 .bf16) (w3 : Vec Ideal S1x512x512 .bf16) (k : Fin 256) (l : Fin 2048) :
    k0_pay2 (F := Ideal) a0 w0 a1 w1 a2 w2 a3 w3 (ix2 k l) = if h : l.val < 512 then ∑ j, a0 (ix2 k j) * w0 (ix3 0 j ⟨l.val, h⟩)
      else if h : l.val - 512 < 512 then ∑ j, a1 (ix2 k j) * w1 (ix3 0 j ⟨l.val - 512, h⟩)
      else if h : l.val - 512 - 512 < 512 then ∑ j, a2 (ix2 k j) * w2 (ix3 0 j ⟨l.val - 512 - 512, h⟩)
      else ∑ j, a3 (ix2 k j) * w3 (ix3 0 j ⟨l.val - 512 - 512 - 512, by omega⟩) := by
  pointwise [k0_pay2]

theorem piece (a : Vec Ideal S256x2048 .bf16) (w : Vec Ideal S4x512x512 .bf16) (k : Fin 256) (l : Fin 2048) (q : Fin 4) (n : Fin 512) (hq : l.val / 512 = q.val) (hn : n.val = l.val % 512)
    (ha : ∀ i : Fin 2, (![0, q.val * 512] : Fin 2 → Nat) i + S256x512.size i ≤ S256x2048.size i) (hw : ∀ i : Fin 3, (![q.val, 0, 0] : Fin 3 → Nat) i + S1x512x512.size i ≤ S4x512x512.size i) :
    ∑ j : Fin 512, (View.ld a (Rect.unit (s := S256x2048) ![0, q.val * 512] S256x512.size ha) (ix2 k j) : EReal) * View.ld w (Rect.unit (s := S4x512x512) ![q.val, 0, 0] S1x512x512.size hw) (ix3 0 j n) = product a w k l := by
  refine Finset.sum_congr rfl fun j _ => congrArg₂ (HMul.hMul (α := EReal) (β := EReal)) ?_ ?_
  · refine congrArg a (?_ : (Rect.unit (s := S256x2048) ![0, q.val * 512] S256x512.size ha).idx (ix2 k j) = _)
    funext i; apply Fin.ext
    match i with
    | ⟨0, _⟩ => show 0 + 1 * k.val = k.val; omega
    | ⟨1, _⟩ => show q.val * 512 + 1 * j.val = l.val / 512 * 512 + j.val; omega
  · refine congrArg w (?_ : (Rect.unit (s := S4x512x512) ![q.val, 0, 0] S1x512x512.size hw).idx (ix3 0 j n) = _)
    funext i; apply Fin.ext
    match i with
    | ⟨0, _⟩ => show q.val + 1 * 0 = l.val / 512; omega
    | ⟨1, _⟩ => show 0 + 1 * j.val = j.val; omega
    | ⟨2, _⟩ => show 0 + 1 * n.val = l.val % 512; omega

theorem grouped (a : Vec Ideal S256x2048 .bf16) (w : Vec Ideal S4x512x512 .bf16) (k : Fin 256) (l : Fin 2048) : k0_pay2 (F := Ideal) (View.ld a r0_0) (View.ld w r0_1) (View.ld a r0_2) (View.ld w r0_3) (View.ld a r0_4) (View.ld w r0_5) (View.ld a r0_6) (View.ld w r0_7) (ix2 k l) = product a w k l := by
  refine (joined ..).trans ?_
  split_ifs with h h' h''
  · exact piece a w k l 0 _ (by show _ = 0; omega) (by show l.val = _; omega) _ _
  · exact piece a w k l 1 _ (by show _ = 1; omega) (by show l.val - 512 = _; omega) _ _
  · exact piece a w k l 2 _ (by show _ = 2; omega) (by show l.val - 512 - 512 = _; omega) _ _
  · exact piece a w k l 3 _ (by show _ = 3; omega) (by show l.val - 512 - 512 - 512 = _; omega) _ _

theorem next_apply (a0 : Vec Ideal S256x512 .bf16) (w0 : Vec Ideal S1x512x512 .bf16) (a1 : Vec Ideal S256x512 .bf16) (w1 : Vec Ideal S1x512x512 .bf16) (a2 : Vec Ideal S256x512 .bf16) (w2 : Vec Ideal S1x512x512 .bf16) (a3 : Vec Ideal S256x512 .bf16) (w3 : Vec Ideal S1x512x512 .bf16) (x : Vec Ideal S256x2048 .f32) (s : Vec Ideal S1x2048 .f32) (r : Fin 256) (l : Fin 2048) :
    k0_pay4 (F := Ideal) a0 w0 a1 w1 a2 w2 a3 w3 x s (ix2 r l) = x (ix2 r l) + k0_pay2 (F := Ideal) a0 w0 a1 w1 a2 w2 a3 w3 (ix2 r l) * s (ix2 0 l) := by
  pointwise [k0_pay4]

theorem normed_apply (y : Vec Ideal S256x2048 .f32) (g : Vec Ideal S1x2048 .f32) (r : Fin 256) (l : Fin 2048) : k0_pay1 (F := Ideal) y g (ix2 r l) = normed (fun k => y (ix2 r k)) g l := by
  unfold normed Norm.inv
  pointwise [k0_pay1]

theorem out5_apply (a : Vec Ideal S256x2048 .bf16) (w : Vec Ideal S4x512x512 .bf16) (s : Vec Ideal S1x2048 .f32) (x : Vec Ideal S256x2048 .f32) (g : Vec Ideal S1x2048 .f32) (r : Fin 256) (l : Fin 2048) : out0_5 a w s x g (ix2 r l) = next a w s x r l := by
  unfold out0_5
  rw [View.canon_unit_zero zero2, next_apply, grouped, View.ld_unit_zero zero2, View.ld_unit_zero zero2]
  rfl

theorem out6_apply (a : Vec Ideal S256x2048 .bf16) (w : Vec Ideal S4x512x512 .bf16) (s : Vec Ideal S1x2048 .f32) (x : Vec Ideal S256x2048 .f32) (g : Vec Ideal S1x2048 .f32) (r : Fin 256) (l : Fin 2048) : out0_6 a w s x g (ix2 r l) = product a w r l := by
  unfold out0_6
  rw [View.canon_unit_zero zero2, ← grouped]
  rfl

theorem out7_apply (a : Vec Ideal S256x2048 .bf16) (w : Vec Ideal S4x512x512 .bf16) (s : Vec Ideal S1x2048 .f32) (x : Vec Ideal S256x2048 .f32) (g : Vec Ideal S1x2048 .f32) (r : Fin 256) (l : Fin 2048) : out0_7 a w s x g (ix2 r l) = normed (next a w s x r) g l := by
  unfold out0_7
  rw [View.canon_unit_zero zero2, normed_apply]
  simp only [next_apply, grouped, View.ld_unit_zero (S := S256x2048) zero2, View.ld_unit_zero (S := S1x2048) zero2]
  rfl

theorem at_point : ∀ t : Fin cfg0.N, (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_5.index t (0 : Fin 2) = t.val ∧ win0_5.index t (1 : Fin 2) = 0) ∧ win0_5.flush t = true ∧ win0_6.flush t = true ∧ win0_7.flush t = true :=
  (by decide +kernel : ∀ t : Fin grid0.N, _)

/-- Row `k` of block `t`. -/
def row (t : Fin 32) (k : Fin 256) : Fin 8192 := ⟨t.val * 256 + k.val, by omega⟩

theorem places (i : S8192x2048.Idx) : ∃ (t : Fin cfg0.N) (k : Fin 256) (l : Fin 2048), i = ix2 (row t k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = (i 0).val / 256 * 256 + (i 0).val % 256; omega
  | ⟨1, _⟩ => rfl

theorem emb (t : Fin cfg0.N) (k : Fin 256) (l : Fin 2048) : ((cfg0.win 5).blk t).view.emb (ix2 k l) = (ix2 (row t k) l : S8192x2048.Idx) := by
  have F := at_point t
  funext a; apply Fin.ext
  match a with
  | ⟨0, _⟩ => show win0_5.index t (0 : Fin 2) * 256 + 1 * k.val = t.val * 256 + k.val; omega
  | ⟨1, _⟩ => show win0_5.index t (1 : Fin 2) * 2048 + 1 * l.val = l.val; omega

theorem emb_vec (t : Fin cfg0.N) (l : Fin 2048) : ((cfg0.win 2).blk t).view.emb (ix2 0 l) = (ix2 0 l : S1x2048.Idx) := by
  have F := at_point t
  funext a; apply Fin.ext
  match a with
  | ⟨0, _⟩ => show win0_2.index t (0 : Fin 2) * 1 + 1 * 0 = 0; omega
  | ⟨1, _⟩ => show win0_2.index t (1 : Fin 2) * 2048 + 1 * l.val = l.val; omega

variable (m : (ℓ : Loc nD τ sig) → Buf (Elt Ideal) ℓ)

theorem a_block (c : Dev nD) (t : Fin cfg0.N) (r : Fin 256) (k : Fin 2048) : iblk m c 0 t (ix2 r k) = (m (c.tc.loc main_arg0)) (ix2 (row t r) k) :=
  congrArg (m (c.tc.loc main_arg0)) (emb t r k)

theorem x_block (c : Dev nD) (t : Fin cfg0.N) (r : Fin 256) (k : Fin 2048) : iblk m c 3 t (ix2 r k) = (m (c.tc.loc main_arg3)) (ix2 (row t r) k) :=
  congrArg (m (c.tc.loc main_arg3)) (emb t r k)

theorem s_block (c : Dev nD) (t : Fin cfg0.N) (l : Fin 2048) : iblk m c 2 t (ix2 0 l) = (m (c.tc.loc main_arg2)) (ix2 0 l) :=
  congrArg (m (c.tc.loc main_arg2)) (emb_vec t l)

theorem g_block (c : Dev nD) (t : Fin cfg0.N) (l : Fin 2048) : iblk m c 4 t (ix2 0 l) = (m (c.tc.loc main_arg4)) (ix2 0 l) :=
  congrArg (m (c.tc.loc main_arg4)) (emb_vec t l)

theorem w_block (c : Dev nD) (t : Fin cfg0.N) (i : S4x512x512.Idx) : iblk m c 1 t i = (m (c.tc.loc main_arg1)) i := by
  have F := at_point t
  refine congrArg (m (c.tc.loc main_arg1)) (?_ : ((cfg0.win 1).blk t).view.emb _ = _)
  funext a; apply Fin.ext
  match a with
  | ⟨0, _⟩ => show win0_1.index t (0 : Fin 3) * 4 + 1 * (i 0).val = (i 0).val; omega
  | ⟨1, _⟩ => show win0_1.index t (1 : Fin 3) * 512 + 1 * (i 1).val = (i 1).val; omega
  | ⟨2, _⟩ => show win0_1.index t (2 : Fin 3) * 512 + 1 * (i 2).val = (i 2).val; omega

theorem product_point (c : Dev nD) (t : Fin cfg0.N) (r : Fin 256) (l : Fin 2048) : product (R := 256) (iblk m c 0 t) (iblk m c 1 t) r l = product (R := 8192) (m (c.tc.loc main_arg0)) (m (c.tc.loc main_arg1)) (row t r) l := by
  unfold product
  simp only [a_block, w_block]

theorem next_point (c : Dev nD) (t : Fin cfg0.N) (r : Fin 256) : next (R := 256) (iblk m c 0 t) (iblk m c 1 t) (iblk m c 2 t) (iblk m c 3 t) r = next (R := 8192) (m (c.tc.loc main_arg0)) (m (c.tc.loc main_arg1)) (m (c.tc.loc main_arg2)) (m (c.tc.loc main_arg3)) (row t r) := by
  funext l
  unfold next
  rw [product_point, x_block, s_block]

theorem array5_eq (c : Dev nD) : (dats m 0 c).arrAt 5 cfg0.N = fun i : S8192x2048.Idx => next (R := 8192) (m (c.tc.loc main_arg0)) (m (c.tc.loc main_arg1)) (m (c.tc.loc main_arg2)) (m (c.tc.loc main_arg3)) (i 0) (i 1) := by
  funext i
  obtain ⟨t, r, l, rfl⟩ := places i
  refine Eq.trans (congrArg _ (emb t r l).symm) ((congrFun (Value.blocks5 m c t (at_point t).2.2.2.1) (ix2 r l)).trans ?_)
  rw [Value.flushed5]
  refine (out5_apply _ _ _ _ _ r l).trans ?_
  rw [next_point]
  rfl

theorem array6_eq (c : Dev nD) : (dats m 0 c).arrAt 6 cfg0.N = fun i : S8192x2048.Idx => product (R := 8192) (m (c.tc.loc main_arg0)) (m (c.tc.loc main_arg1)) (i 0) (i 1) := by
  funext i
  obtain ⟨t, r, l, rfl⟩ := places i
  refine Eq.trans (congrArg _ (emb t r l).symm) ((congrFun (Value.blocks6 m c t (at_point t).2.2.2.2.1) (ix2 r l)).trans ?_)
  rw [Value.flushed6]
  refine (out6_apply _ _ _ _ _ r l).trans ?_
  rw [product_point]
  rfl

theorem array7_eq (c : Dev nD) : (dats m 0 c).arrAt 7 cfg0.N = fun i : S8192x2048.Idx => normed (next (R := 8192) (m (c.tc.loc main_arg0)) (m (c.tc.loc main_arg1)) (m (c.tc.loc main_arg2)) (m (c.tc.loc main_arg3)) (i 0)) (m (c.tc.loc main_arg4)) (i 1) := by
  funext i
  obtain ⟨t, r, l, rfl⟩ := places i
  refine Eq.trans (congrArg _ (emb t r l).symm) ((congrFun (Value.blocks7 m c t (at_point t).2.2.2.2.2) (ix2 r l)).trans ?_)
  rw [Value.flushed7]
  refine (out7_apply _ _ _ _ _ r l).trans ?_
  unfold normed
  rw [next_point, g_block]
  rfl

open PoolFwdRefIdeal.Read

theorem reference_product (a : Vec Ideal S8192x2048 .bf16) (w : Vec Ideal S4x512x512 .bf16) (r : Fin 8192) (l : Fin 2048) : val_main_v5 (F := Ideal) a w (ix2 r l) = product (R := 8192) a w r l := by
  pointwise [val_main_v0, val_main_v1, val_main_v2, val_main_v3, val_main_v4, val_main_v5, product, col]
  exact Finset.sum_congr rfl fun _ _ => mul_comm _ _

theorem reference_next (a : Vec Ideal S8192x2048 .bf16) (w : Vec Ideal S4x512x512 .bf16) (s : Vec Ideal S1x2048 .f32) (x : Vec Ideal S8192x2048 .f32) (r : Fin 8192) (l : Fin 2048) : val_main_v8 (F := Ideal) a w s x (ix2 r l) = next (R := 8192) a w s x r l := by
  unfold next
  rw [← reference_product]
  pointwise [val_main_v6, val_main_v7, val_main_v8]

theorem reference_normed (a : Vec Ideal S8192x2048 .bf16) (w : Vec Ideal S4x512x512 .bf16) (s : Vec Ideal S1x2048 .f32) (x : Vec Ideal S8192x2048 .f32) (g : Vec Ideal S1x2048 .f32) (r : Fin 8192) (l : Fin 2048) : val_main_v24 (F := Ideal) a w s x g (ix2 r l) = normed (next (R := 8192) a w s x r) g l := by
  unfold normed Norm.inv
  simp only [← reference_next]
  pointwise [val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1]

/-- The kernel and the reference hold the same three arrays. -/
theorem algebraic : Cert.algebraic_PoolFwdIdeal_PoolFwdRefIdeal := by
  intro m g m' g' _ hagree
  refine ⟨fun c => fun i : S8192x2048.Idx => next (R := 8192) (m (c.tc.loc main_arg0)) (m (c.tc.loc main_arg1)) (m (c.tc.loc main_arg2)) (m (c.tc.loc main_arg3)) (i 0) (i 1), fun c => fun i : S8192x2048.Idx => product (R := 8192) (m (c.tc.loc main_arg0)) (m (c.tc.loc main_arg1)) (i 0) (i 1), fun c => fun i : S8192x2048.Idx => normed (next (R := 8192) (m (c.tc.loc main_arg0)) (m (c.tc.loc main_arg1)) (m (c.tc.loc main_arg2)) (m (c.tc.loc main_arg3)) (i 0)) (m (c.tc.loc main_arg4)) (i 1),
    (θ_run _ _ _).mono (fun r h c => ⟨(h c).1.trans (array5_eq m c), (h c).2.1.trans (array6_eq m c), (h c).2.2.1.trans (array7_eq m c), (h c).2.2.2⟩) (Value.run_blocks m g),
    (θ_run _ _ _).mono (fun r h c => ⟨((h c).1.trans (val_main_v8_eq ..)).trans ?_, ((h c).2.1.trans (val_main_v9_eq ..)).trans ?_, ((h c).2.2.1.trans (val_main_v24_eq ..)).trans ?_, (h c).2.2.2⟩) (PoolFwdRefIdeal.Value.run m' g')⟩
  all_goals
    funext i
    obtain ⟨r, l, rfl⟩ : ∃ (r : Fin 8192) (l : Fin 2048), i = ix2 r l := ⟨i 0, i 1, eq_ix2 i⟩
  · rw [(hagree c).1, (hagree c).2.1, (hagree c).2.2.1, (hagree c).2.2.2.1]
    exact reference_next _ _ _ _ r l
  · rw [(hagree c).1, (hagree c).2.1]
    exact reference_product _ _ r l
  · rw [(hagree c).1, (hagree c).2.1, (hagree c).2.2.1, (hagree c).2.2.2.1, (hagree c).2.2.2.2]
    exact reference_normed _ _ _ _ _ r l

end Cert.PoolFwdValue

end
-- ==== Proof.FfnRes.lean ====
/- The state with the feed-forward output added, and its norm: what the kernel's two arrays hold, and that they are the reference's. -/
module

public import proofs.«01_k».proof.Defs
public import proofs.«01_k».proof.Proof.Gen.FfnResIdeal.Value
public import proofs.«01_k».proof.Proof.Gen.FfnResRefIdeal.Read
public import proofs.«01_k».proof.Proof.Norm
public import proofs.«01_k».proof.Proof.Zero

@[expose] public section

noncomputable section

namespace Cert.FfnResValue

open Cert.FfnResIdeal Cert.FfnResIdeal.Gen Idealize.ShloMosaic Idealize.ShloMosaic.TcCoe Idealize.SL.Sem

/-- The next state at an index. -/
def next (y : Vec Ideal S8192x2048 .f32) (x : Vec Ideal S8192x2048 .f32) (i : S8192x2048.Idx) : EReal :=
  x i + y i

/-- The norm of a state at an index. -/
def normed (y : Vec Ideal S8192x2048 .f32) (g : Vec Ideal S1x2048 .f32) (i : S8192x2048.Idx) : EReal :=
  y i * Norm.inv (fun k => y (ix2 (i 0) k)) * g (ix2 0 (i 1))

/-- The next state in one block of rows, in the kernel's order. -/
def block (y : Vec Ideal S256x2048 .f32) (x : Vec Ideal S256x2048 .f32) (r : Fin 256) (l : Fin 2048) : EReal :=
  x (ix2 r l) + y (ix2 r l)

theorem next_apply (y : Vec Ideal S256x2048 .f32) (x : Vec Ideal S256x2048 .f32) (r : Fin 256) (l : Fin 2048) : k0_pay1 (F := Ideal) x y (ix2 r l) = block y x r l := by
  pointwise [k0_pay1]
  try rfl

theorem normed_apply (y : Vec Ideal S256x2048 .f32) (x : Vec Ideal S256x2048 .f32) (g : Vec Ideal S1x2048 .f32) (r : Fin 256) (l : Fin 2048) :
    k0_pay2 (F := Ideal) x y g (ix2 r l) = block y x r l * Norm.inv (block y x r) * g (ix2 0 l) := by
  unfold Norm.inv
  simp only [← next_apply]
  pointwise [k0_pay2]

theorem out3_eq (y : Vec Ideal S256x2048 .f32) (x : Vec Ideal S256x2048 .f32) (g : Vec Ideal S1x2048 .f32) : out0_3 y x g = k0_pay1 (F := Ideal) x y := by
  unfold out0_3
  rw [View.canon_unit_zero zero2]
  simp only [View.ld_unit_zero (S := S256x2048) zero2, View.ld_unit_zero (S := S1x2048) zero2]

theorem out4_eq (y : Vec Ideal S256x2048 .f32) (x : Vec Ideal S256x2048 .f32) (g : Vec Ideal S1x2048 .f32) : out0_4 y x g = k0_pay2 (F := Ideal) x y g := by
  unfold out0_4
  rw [View.canon_unit_zero zero2]
  simp only [View.ld_unit_zero (S := S256x2048) zero2, View.ld_unit_zero (S := S1x2048) zero2]

theorem at_point : ∀ t : Fin cfg0.N, (win0_2.index t (0 : Fin 2) = 0 ∧ win0_2.index t (1 : Fin 2) = 0)
    ∧ win0_3.index t (0 : Fin 2) = t.val ∧ win0_3.index t (1 : Fin 2) = 0 ∧ win0_3.flush t = true ∧ win0_4.flush t = true :=
  (by decide +kernel : ∀ t : Fin grid0.N, _)

/-- Row `k` of block `t`. -/
def row (t : Fin 32) (k : Fin 256) : Fin 8192 := ⟨t.val * 256 + k.val, by omega⟩

theorem places (i : S8192x2048.Idx) : ∃ (t : Fin cfg0.N) (k : Fin 256) (l : Fin 2048), i = ix2 (row t k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = (i 0).val / 256 * 256 + (i 0).val % 256; omega
  | ⟨1, _⟩ => rfl

theorem emb (t : Fin cfg0.N) (k : Fin 256) (l : Fin 2048) : ((cfg0.win 3).blk t).view.emb (ix2 k l) = (ix2 (row t k) l : S8192x2048.Idx) := by
  obtain ⟨-, f0, f1, -⟩ := at_point t
  funext a; apply Fin.ext
  match a with
  | ⟨0, _⟩ => show win0_3.index t (0 : Fin 2) * 256 + 1 * k.val = t.val * 256 + k.val; omega
  | ⟨1, _⟩ => show win0_3.index t (1 : Fin 2) * 2048 + 1 * l.val = l.val; omega

variable (m : (ℓ : Loc nD τ sig) → Buf (Elt Ideal) ℓ)

theorem y_block (c : Dev nD) (t : Fin cfg0.N) (r : Fin 256) (k : Fin 2048) : iblk m c 0 t (ix2 r k) = (m (c.tc.loc main_arg0)) (ix2 (row t r) k) :=
  congrArg (m (c.tc.loc main_arg0)) (emb t r k)

theorem x_block (c : Dev nD) (t : Fin cfg0.N) (r : Fin 256) (k : Fin 2048) : iblk m c 1 t (ix2 r k) = (m (c.tc.loc main_arg1)) (ix2 (row t r) k) :=
  congrArg (m (c.tc.loc main_arg1)) (emb t r k)

theorem g_block (c : Dev nD) (t : Fin cfg0.N) (l : Fin 2048) : iblk m c 2 t (ix2 0 l) = (m (c.tc.loc main_arg2)) (ix2 0 l) := by
  obtain ⟨⟨f0, f1⟩, -⟩ := at_point t
  refine congrArg (m (c.tc.loc main_arg2)) (?_ : ((cfg0.win 2).blk t).view.emb _ = _)
  funext a; apply Fin.ext
  match a with
  | ⟨0, _⟩ => show win0_2.index t (0 : Fin 2) * 1 + 1 * 0 = 0; omega
  | ⟨1, _⟩ => show win0_2.index t (1 : Fin 2) * 2048 + 1 * l.val = l.val; omega

theorem next_point (c : Dev nD) (t : Fin cfg0.N) (r : Fin 256) : block (iblk m c 0 t) (iblk m c 1 t) r = fun l => next (m (c.tc.loc main_arg0)) (m (c.tc.loc main_arg1)) (ix2 (row t r) l) := by
  funext l
  unfold block next
  simp only [y_block, x_block]
  try rfl

theorem next_eq (c : Dev nD) : (dats m 0 c).arrAt 3 cfg0.N = next (m (c.tc.loc main_arg0)) (m (c.tc.loc main_arg1)) := by
  funext i
  obtain ⟨t, r, l, rfl⟩ := places i
  refine Eq.trans (congrArg _ (emb t r l).symm) ((congrFun (Value.blocks3 m c t (at_point t).2.2.2.1) (ix2 r l)).trans ?_)
  rw [Value.flushed3, out3_eq]
  refine (next_apply _ _ r l).trans ?_
  rw [next_point]

theorem normed_eq (c : Dev nD) : (dats m 0 c).arrAt 4 cfg0.N = normed (next (m (c.tc.loc main_arg0)) (m (c.tc.loc main_arg1))) (m (c.tc.loc main_arg2)) := by
  funext i
  obtain ⟨t, r, l, rfl⟩ := places i
  refine Eq.trans (congrArg _ (emb t r l).symm) ((congrFun (Value.blocks4 m c t (at_point t).2.2.2.2) (ix2 r l)).trans ?_)
  rw [Value.flushed4, out4_eq]
  refine (normed_apply _ _ _ r l).trans ?_
  rw [next_point, g_block]
  rfl

open FfnResRefIdeal.Read in
theorem reference_next (y : Vec Ideal S8192x2048 .f32) (x : Vec Ideal S8192x2048 .f32) : val_main_v0 (F := Ideal) y x = next y x := by
  funext i
  unfold next
  pointwise [val_main_v0]
  try rfl

open FfnResRefIdeal.Read in
theorem reference_normed (y : Vec Ideal S8192x2048 .f32) (x : Vec Ideal S8192x2048 .f32) (g : Vec Ideal S1x2048 .f32) : val_main_v15 (F := Ideal) y x g = normed (next y x) g := by
  funext i
  unfold normed Norm.inv
  simp only [← reference_next]
  pointwise [val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]

/-- The kernel and the reference hold the same two arrays. -/
theorem algebraic : Cert.algebraic_FfnResIdeal_FfnResRefIdeal := by
  intro m g m' g' _ hagree
  refine ⟨fun c => next (m (c.tc.loc main_arg0)) (m (c.tc.loc main_arg1)), fun c => normed (next (m (c.tc.loc main_arg0)) (m (c.tc.loc main_arg1))) (m (c.tc.loc main_arg2)),
    (θ_run _ _ _).mono (fun r h c => ⟨(h c).1.trans (next_eq m c), (h c).2.1.trans (normed_eq m c), (h c).2.2⟩) (Value.run_blocks m g),
    (θ_run _ _ _).mono (fun r h c => ⟨((h c).1.trans (FfnResRefIdeal.Read.val_main_v0_eq ..)).trans ?_, ((h c).2.1.trans (FfnResRefIdeal.Read.val_main_v15_eq ..)).trans ?_, (h c).2.2⟩) (FfnResRefIdeal.Value.run m' g')⟩
  · rw [reference_next, (hagree c).1, (hagree c).2.1]
  · rw [reference_normed, (hagree c).1, (hagree c).2.1, (hagree c).2.2]

end Cert.FfnResValue

end
-- ==== Proof.AttnRes.lean ====
/- The state with the attention's output product added, and its norm: what the kernel's two arrays hold, and that they are the reference's. -/
module

public import proofs.«01_k».proof.Defs
public import proofs.«01_k».proof.Proof.Gen.AttnResIdeal.Value
public import proofs.«01_k».proof.Proof.Gen.AttnResRefIdeal.Read
public import proofs.«01_k».proof.Proof.Norm
public import proofs.«01_k».proof.Proof.Zero

@[expose] public section

noncomputable section

namespace Cert.AttnResValue

open Cert.AttnResIdeal Cert.AttnResIdeal.Gen Idealize.ShloMosaic Idealize.ShloMosaic.TcCoe Idealize.SL.Sem

/-- The next state at an index: the state plus a row against a column of the weights, whose 2048 rows are stored as eight groups of 256. -/
def next (a : Vec Ideal S8192x2048 .bf16) (w : Vec Ideal S8x1x256x2048 .bf16) (x : Vec Ideal S8192x2048 .f32) (i : S8192x2048.Idx) : EReal :=
  x i + ∑ k : Fin 2048, a (ix2 (i 0) k) * w (ix4 ⟨k.val / 256, by omega⟩ (0 : Fin 1) ⟨k.val % 256, by omega⟩ (i 1))

/-- The norm of a state at an index. -/
def normed (y : Vec Ideal S8192x2048 .f32) (g : Vec Ideal S1x2048 .f32) (i : S8192x2048.Idx) : EReal :=
  y i * Norm.inv (fun k => y (ix2 (i 0) k)) * g (ix2 0 (i 1))

/-- The next state in one block of rows, in the kernel's order. -/
def block (a : Vec Ideal S256x2048 .bf16) (w : Vec Ideal S8x1x256x2048 .bf16) (x : Vec Ideal S256x2048 .f32) (r : Fin 256) (l : Fin 2048) : EReal :=
  x (ix2 r l) + ∑ k : Fin 2048, a (ix2 r k) * w (ix4 ⟨k.val / 256, by omega⟩ (0 : Fin 1) ⟨k.val % 256, by omega⟩ l)

theorem next_apply (a : Vec Ideal S256x2048 .bf16) (w : Vec Ideal S8x1x256x2048 .bf16) (x : Vec Ideal S256x2048 .f32) (r : Fin 256) (l : Fin 2048) : k0_pay1 (F := Ideal) x a w (ix2 r l) = block a w x r l := by
  pointwise [k0_pay1]
  try rfl

theorem normed_apply (a : Vec Ideal S256x2048 .bf16) (w : Vec Ideal S8x1x256x2048 .bf16) (x : Vec Ideal S256x2048 .f32) (g : Vec Ideal S1x2048 .f32) (r : Fin 256) (l : Fin 2048) :
    k0_pay2 (F := Ideal) x a w g (ix2 r l) = block a w x r l * Norm.inv (block a w x r) * g (ix2 0 l) := by
  unfold Norm.inv
  simp only [← next_apply]
  pointwise [k0_pay2]

theorem out4_eq (a : Vec Ideal S256x2048 .bf16) (w : Vec Ideal S8x1x256x2048 .bf16) (x : Vec Ideal S256x2048 .f32) (g : Vec Ideal S1x2048 .f32) : out0_4 a w x g = k0_pay1 (F := Ideal) x a w := by
  unfold out0_4
  rw [View.canon_unit_zero zero2]
  simp only [View.ld_unit_zero (S := S256x2048) zero2, View.ld_unit_zero (S := S1x2048) zero2, View.ld_unit_zero (S := S8x1x256x2048) zero4]

theorem out5_eq (a : Vec Ideal S256x2048 .bf16) (w : Vec Ideal S8x1x256x2048 .bf16) (x : Vec Ideal S256x2048 .f32) (g : Vec Ideal S1x2048 .f32) : out0_5 a w x g = k0_pay2 (F := Ideal) x a w g := by
  unfold out0_5
  rw [View.canon_unit_zero zero2]
  simp only [View.ld_unit_zero (S := S256x2048) zero2, View.ld_unit_zero (S := S1x2048) zero2, View.ld_unit_zero (S := S8x1x256x2048) zero4]

theorem at_point : ∀ t : Fin cfg0.N, (win0_1.index t (0 : Fin 4) = 0 ∧ win0_1.index t (1 : Fin 4) = 0 ∧ win0_1.index t (2 : Fin 4) = 0 ∧ win0_1.index t (3 : Fin 4) = 0) ∧ (win0_3.index t (0 : Fin 2) = 0 ∧ win0_3.index t (1 : Fin 2) = 0)
    ∧ win0_4.index t (0 : Fin 2) = t.val ∧ win0_4.index t (1 : Fin 2) = 0 ∧ win0_4.flush t = true ∧ win0_5.flush t = true :=
  (by decide +kernel : ∀ t : Fin grid0.N, _)

/-- Row `k` of block `t`. -/
def row (t : Fin 32) (k : Fin 256) : Fin 8192 := ⟨t.val * 256 + k.val, by omega⟩

theorem places (i : S8192x2048.Idx) : ∃ (t : Fin cfg0.N) (k : Fin 256) (l : Fin 2048), i = ix2 (row t k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = (i 0).val / 256 * 256 + (i 0).val % 256; omega
  | ⟨1, _⟩ => rfl

theorem emb (t : Fin cfg0.N) (k : Fin 256) (l : Fin 2048) : ((cfg0.win 4).blk t).view.emb (ix2 k l) = (ix2 (row t k) l : S8192x2048.Idx) := by
  obtain ⟨-, -, f0, f1, -⟩ := at_point t
  funext a; apply Fin.ext
  match a with
  | ⟨0, _⟩ => show win0_4.index t (0 : Fin 2) * 256 + 1 * k.val = t.val * 256 + k.val; omega
  | ⟨1, _⟩ => show win0_4.index t (1 : Fin 2) * 2048 + 1 * l.val = l.val; omega

variable (m : (ℓ : Loc nD τ sig) → Buf (Elt Ideal) ℓ)

theorem a_block (c : Dev nD) (t : Fin cfg0.N) (r : Fin 256) (k : Fin 2048) : iblk m c 0 t (ix2 r k) = (m (c.tc.loc main_arg0)) (ix2 (row t r) k) :=
  congrArg (m (c.tc.loc main_arg0)) (emb t r k)

theorem x_block (c : Dev nD) (t : Fin cfg0.N) (r : Fin 256) (k : Fin 2048) : iblk m c 2 t (ix2 r k) = (m (c.tc.loc main_arg2)) (ix2 (row t r) k) :=
  congrArg (m (c.tc.loc main_arg2)) (emb t r k)

theorem w_block (c : Dev nD) (t : Fin cfg0.N) (i : S8x1x256x2048.Idx) : iblk m c 1 t i = (m (c.tc.loc main_arg1)) i := by
  obtain ⟨⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 8 + 1 * (i 0).val = (i 0).val; omega
  | ⟨1, _⟩ => show win0_1.index t (1 : Fin 4) * 1 + 1 * (i 1).val = (i 1).val; omega
  | ⟨2, _⟩ => show win0_1.index t (2 : Fin 4) * 256 + 1 * (i 2).val = (i 2).val; omega
  | ⟨3, _⟩ => show win0_1.index t (3 : Fin 4) * 2048 + 1 * (i 3).val = (i 3).val; omega

theorem g_block (c : Dev nD) (t : Fin cfg0.N) (l : Fin 2048) : iblk m c 3 t (ix2 0 l) = (m (c.tc.loc main_arg3)) (ix2 0 l) := by
  obtain ⟨-, ⟨f0, f1⟩, -⟩ := at_point t
  refine congrArg (m (c.tc.loc main_arg3)) (?_ : ((cfg0.win 3).blk t).view.emb _ = _)
  funext a; apply Fin.ext
  match a with
  | ⟨0, _⟩ => show win0_3.index t (0 : Fin 2) * 1 + 1 * 0 = 0; omega
  | ⟨1, _⟩ => show win0_3.index t (1 : Fin 2) * 2048 + 1 * l.val = l.val; omega

theorem next_point (c : Dev nD) (t : Fin cfg0.N) (r : Fin 256) : block (iblk m c 0 t) (iblk m c 1 t) (iblk m c 2 t) r = fun l => next (m (c.tc.loc main_arg0)) (m (c.tc.loc main_arg1)) (m (c.tc.loc main_arg2)) (ix2 (row t r) l) := by
  funext l
  unfold block next
  simp only [a_block, x_block, w_block]
  try rfl

theorem next_eq (c : Dev nD) : (dats m 0 c).arrAt 4 cfg0.N = next (m (c.tc.loc main_arg0)) (m (c.tc.loc main_arg1)) (m (c.tc.loc main_arg2)) := by
  funext i
  obtain ⟨t, r, l, rfl⟩ := places i
  refine Eq.trans (congrArg _ (emb t r l).symm) ((congrFun (Value.blocks4 m c t (at_point t).2.2.2.2.1) (ix2 r l)).trans ?_)
  rw [Value.flushed4, out4_eq]
  refine (next_apply _ _ _ r l).trans ?_
  rw [next_point]

theorem normed_eq (c : Dev nD) : (dats m 0 c).arrAt 5 cfg0.N = normed (next (m (c.tc.loc main_arg0)) (m (c.tc.loc main_arg1)) (m (c.tc.loc main_arg2))) (m (c.tc.loc main_arg3)) := by
  funext i
  obtain ⟨t, r, l, rfl⟩ := places i
  refine Eq.trans (congrArg _ (emb t r l).symm) ((congrFun (Value.blocks5 m c t (at_point t).2.2.2.2.2) (ix2 r l)).trans ?_)
  rw [Value.flushed5, out5_eq]
  refine (normed_apply _ _ _ _ r l).trans ?_
  rw [next_point, g_block]
  rfl

open AttnResRefIdeal.Read in
theorem reference_next (a : Vec Ideal S8192x2048 .bf16) (w : Vec Ideal S8x1x256x2048 .bf16) (x : Vec Ideal S8192x2048 .f32) : val_main_v4 (F := Ideal) a w x = next a w x := by
  funext i
  unfold next
  pointwise [val_main_v0, val_main_v1, val_main_v2, val_main_v3, val_main_v4]
  try rfl

open AttnResRefIdeal.Read in
theorem reference_normed (a : Vec Ideal S8192x2048 .bf16) (w : Vec Ideal S8x1x256x2048 .bf16) (x : Vec Ideal S8192x2048 .f32) (g : Vec Ideal S1x2048 .f32) : val_main_v19 (F := Ideal) a w x g = normed (next a w x) g := by
  funext i
  unfold normed Norm.inv
  simp only [← reference_next]
  pointwise [val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1]

/-- The kernel and the reference hold the same two arrays. -/
theorem algebraic : Cert.algebraic_AttnResIdeal_AttnResRefIdeal := by
  intro m g m' g' _ hagree
  refine ⟨fun c => next (m (c.tc.loc main_arg0)) (m (c.tc.loc main_arg1)) (m (c.tc.loc main_arg2)), fun c => normed (next (m (c.tc.loc main_arg0)) (m (c.tc.loc main_arg1)) (m (c.tc.loc main_arg2))) (m (c.tc.loc main_arg3)),
    (θ_run _ _ _).mono (fun r h c => ⟨(h c).1.trans (next_eq m c), (h c).2.1.trans (normed_eq m c), (h c).2.2⟩) (Value.run_blocks m g),
    (θ_run _ _ _).mono (fun r h c => ⟨((h c).1.trans (AttnResRefIdeal.Read.val_main_v4_eq ..)).trans ?_, ((h c).2.1.trans (AttnResRefIdeal.Read.val_main_v19_eq ..)).trans ?_, (h c).2.2⟩) (AttnResRefIdeal.Value.run m' g')⟩
  · rw [reference_next, (hagree c).1, (hagree c).2.1, (hagree c).2.2.1]
  · rw [reference_normed, (hagree c).1, (hagree c).2.1, (hagree c).2.2.1, (hagree c).2.2.2]

end Cert.AttnResValue

end
-- ==== Proof.ConvRes.lean ====
/- The state with the convolution layer's output product and its bias added, and its norm: what the kernel's two arrays hold, and that they are the reference's. -/
module

public import proofs.«01_k».proof.Defs
public import proofs.«01_k».proof.Proof.Gen.ConvResIdeal.Value
public import proofs.«01_k».proof.Proof.Gen.ConvResRefIdeal.Read
public import proofs.«01_k».proof.Proof.Norm
public import proofs.«01_k».proof.Proof.Zero

@[expose] public section

noncomputable section

namespace Cert.ConvResValue

open Cert.ConvResIdeal Cert.ConvResIdeal.Gen Idealize.ShloMosaic Idealize.ShloMosaic.TcCoe Idealize.SL.Sem

/-- The next state at an index: the state plus a row against a column of the weights, whose 2048 rows are stored as eight groups of 256, and the bias. -/
def next (a : Vec Ideal S8192x2048 .bf16) (w : Vec Ideal S8x1x256x2048 .bf16) (x : Vec Ideal S8192x2048 .f32) (b : Vec Ideal S1x2048 .f32) (i : S8192x2048.Idx) : EReal :=
  x i + ((∑ k : Fin 2048, a (ix2 (i 0) k) * w (ix4 ⟨k.val / 256, by omega⟩ (0 : Fin 1) ⟨k.val % 256, by omega⟩ (i 1))) + b (ix2 0 (i 1)))

/-- The norm of a state at an index. -/
def normed (y : Vec Ideal S8192x2048 .f32) (g : Vec Ideal S1x2048 .f32) (i : S8192x2048.Idx) : EReal :=
  y i * Norm.inv (fun k => y (ix2 (i 0) k)) * g (ix2 0 (i 1))

/-- The next state in one block of rows, in the kernel's order. -/
def block (a : Vec Ideal S256x2048 .bf16) (w : Vec Ideal S8x1x256x2048 .bf16) (x : Vec Ideal S256x2048 .f32) (b : Vec Ideal S1x2048 .f32) (r : Fin 256) (l : Fin 2048) : EReal :=
  x (ix2 r l) + (∑ k : Fin 2048, a (ix2 r k) * w (ix4 ⟨k.val / 256, by omega⟩ (0 : Fin 1) ⟨k.val % 256, by omega⟩ l)) + b (ix2 0 l)

theorem next_apply (a : Vec Ideal S256x2048 .bf16) (w : Vec Ideal S8x1x256x2048 .bf16) (x : Vec Ideal S256x2048 .f32) (b : Vec Ideal S1x2048 .f32) (r : Fin 256) (l : Fin 2048) : k0_pay1 (F := Ideal) x a w b (ix2 r l) = block a w x b r l := by
  pointwise [k0_pay1]
  try rfl

theorem normed_apply (a : Vec Ideal S256x2048 .bf16) (w : Vec Ideal S8x1x256x2048 .bf16) (x : Vec Ideal S256x2048 .f32) (b : Vec Ideal S1x2048 .f32) (g : Vec Ideal S1x2048 .f32) (r : Fin 256) (l : Fin 2048) :
    k0_pay2 (F := Ideal) x a w b g (ix2 r l) = block a w x b r l * Norm.inv (block a w x b r) * g (ix2 0 l) := by
  unfold Norm.inv
  simp only [← next_apply]
  pointwise [k0_pay2]

theorem out5_eq (a : Vec Ideal S256x2048 .bf16) (w : Vec Ideal S8x1x256x2048 .bf16) (x : Vec Ideal S256x2048 .f32) (b : Vec Ideal S1x2048 .f32) (g : Vec Ideal S1x2048 .f32) : out0_5 a w x b g = k0_pay1 (F := Ideal) x a w b := by
  unfold out0_5
  rw [View.canon_unit_zero zero2]
  simp only [View.ld_unit_zero (S := S256x2048) zero2, View.ld_unit_zero (S := S1x2048) zero2, View.ld_unit_zero (S := S8x1x256x2048) zero4]

theorem out6_eq (a : Vec Ideal S256x2048 .bf16) (w : Vec Ideal S8x1x256x2048 .bf16) (x : Vec Ideal S256x2048 .f32) (b : Vec Ideal S1x2048 .f32) (g : Vec Ideal S1x2048 .f32) : out0_6 a w x b g = k0_pay2 (F := Ideal) x a w b g := by
  unfold out0_6
  rw [View.canon_unit_zero zero2]
  simp only [View.ld_unit_zero (S := S256x2048) zero2, View.ld_unit_zero (S := S1x2048) zero2, View.ld_unit_zero (S := S8x1x256x2048) zero4]

theorem at_point : ∀ t : Fin cfg0.N, (win0_1.index t (0 : Fin 4) = 0 ∧ win0_1.index t (1 : Fin 4) = 0 ∧ win0_1.index t (2 : Fin 4) = 0 ∧ win0_1.index t (3 : Fin 4) = 0) ∧ (win0_3.index t (0 : Fin 2) = 0 ∧ win0_3.index t (1 : Fin 2) = 0) ∧ (win0_4.index t (0 : Fin 2) = 0 ∧ win0_4.index t (1 : Fin 2) = 0)
    ∧ win0_5.index t (0 : Fin 2) = t.val ∧ win0_5.index t (1 : Fin 2) = 0 ∧ win0_5.flush t = true ∧ win0_6.flush t = true :=
  (by decide +kernel : ∀ t : Fin grid0.N, _)

/-- Row `k` of block `t`. -/
def row (t : Fin 32) (k : Fin 256) : Fin 8192 := ⟨t.val * 256 + k.val, by omega⟩

theorem places (i : S8192x2048.Idx) : ∃ (t : Fin cfg0.N) (k : Fin 256) (l : Fin 2048), i = ix2 (row t k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = (i 0).val / 256 * 256 + (i 0).val % 256; omega
  | ⟨1, _⟩ => rfl

theorem emb (t : Fin cfg0.N) (k : Fin 256) (l : Fin 2048) : ((cfg0.win 5).blk t).view.emb (ix2 k l) = (ix2 (row t k) l : S8192x2048.Idx) := by
  obtain ⟨-, -, -, f0, f1, -⟩ := at_point t
  funext a; apply Fin.ext
  match a with
  | ⟨0, _⟩ => show win0_5.index t (0 : Fin 2) * 256 + 1 * k.val = t.val * 256 + k.val; omega
  | ⟨1, _⟩ => show win0_5.index t (1 : Fin 2) * 2048 + 1 * l.val = l.val; omega

variable (m : (ℓ : Loc nD τ sig) → Buf (Elt Ideal) ℓ)

theorem a_block (c : Dev nD) (t : Fin cfg0.N) (r : Fin 256) (k : Fin 2048) : iblk m c 0 t (ix2 r k) = (m (c.tc.loc main_arg0)) (ix2 (row t r) k) :=
  congrArg (m (c.tc.loc main_arg0)) (emb t r k)

theorem x_block (c : Dev nD) (t : Fin cfg0.N) (r : Fin 256) (k : Fin 2048) : iblk m c 2 t (ix2 r k) = (m (c.tc.loc main_arg2)) (ix2 (row t r) k) :=
  congrArg (m (c.tc.loc main_arg2)) (emb t r k)

theorem w_block (c : Dev nD) (t : Fin cfg0.N) (i : S8x1x256x2048.Idx) : iblk m c 1 t i = (m (c.tc.loc main_arg1)) i := by
  obtain ⟨⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 8 + 1 * (i 0).val = (i 0).val; omega
  | ⟨1, _⟩ => show win0_1.index t (1 : Fin 4) * 1 + 1 * (i 1).val = (i 1).val; omega
  | ⟨2, _⟩ => show win0_1.index t (2 : Fin 4) * 256 + 1 * (i 2).val = (i 2).val; omega
  | ⟨3, _⟩ => show win0_1.index t (3 : Fin 4) * 2048 + 1 * (i 3).val = (i 3).val; omega

theorem b_block (c : Dev nD) (t : Fin cfg0.N) (l : Fin 2048) : iblk m c 3 t (ix2 0 l) = (m (c.tc.loc main_arg3)) (ix2 0 l) := by
  obtain ⟨-, ⟨f0, f1⟩, -⟩ := at_point t
  refine congrArg (m (c.tc.loc main_arg3)) (?_ : ((cfg0.win 3).blk t).view.emb _ = _)
  funext a; apply Fin.ext
  match a with
  | ⟨0, _⟩ => show win0_3.index t (0 : Fin 2) * 1 + 1 * 0 = 0; omega
  | ⟨1, _⟩ => show win0_3.index t (1 : Fin 2) * 2048 + 1 * l.val = l.val; omega

theorem g_block (c : Dev nD) (t : Fin cfg0.N) (l : Fin 2048) : iblk m c 4 t (ix2 0 l) = (m (c.tc.loc main_arg4)) (ix2 0 l) := by
  obtain ⟨-, -, ⟨f0, f1⟩, -⟩ := at_point t
  refine congrArg (m (c.tc.loc main_arg4)) (?_ : ((cfg0.win 4).blk t).view.emb _ = _)
  funext a; apply Fin.ext
  match a with
  | ⟨0, _⟩ => show win0_4.index t (0 : Fin 2) * 1 + 1 * 0 = 0; omega
  | ⟨1, _⟩ => show win0_4.index t (1 : Fin 2) * 2048 + 1 * l.val = l.val; omega

theorem next_point (c : Dev nD) (t : Fin cfg0.N) (r : Fin 256) : block (iblk m c 0 t) (iblk m c 1 t) (iblk m c 2 t) (iblk m c 3 t) r = fun l => next (m (c.tc.loc main_arg0)) (m (c.tc.loc main_arg1)) (m (c.tc.loc main_arg2)) (m (c.tc.loc main_arg3)) (ix2 (row t r) l) := by
  funext l
  unfold block next
  simp only [a_block, x_block, w_block, b_block, add_assoc]
  try rfl

theorem next_eq (c : Dev nD) : (dats m 0 c).arrAt 5 cfg0.N = next (m (c.tc.loc main_arg0)) (m (c.tc.loc main_arg1)) (m (c.tc.loc main_arg2)) (m (c.tc.loc main_arg3)) := by
  funext i
  obtain ⟨t, r, l, rfl⟩ := places i
  refine Eq.trans (congrArg _ (emb t r l).symm) ((congrFun (Value.blocks5 m c t (at_point t).2.2.2.2.2.1) (ix2 r l)).trans ?_)
  rw [Value.flushed5, out5_eq]
  refine (next_apply _ _ _ _ r l).trans ?_
  rw [next_point]

theorem normed_eq (c : Dev nD) : (dats m 0 c).arrAt 6 cfg0.N = normed (next (m (c.tc.loc main_arg0)) (m (c.tc.loc main_arg1)) (m (c.tc.loc main_arg2)) (m (c.tc.loc main_arg3))) (m (c.tc.loc main_arg4)) := by
  funext i
  obtain ⟨t, r, l, rfl⟩ := places i
  refine Eq.trans (congrArg _ (emb t r l).symm) ((congrFun (Value.blocks6 m c t (at_point t).2.2.2.2.2.2) (ix2 r l)).trans ?_)
  rw [Value.flushed6, out6_eq]
  refine (normed_apply _ _ _ _ _ r l).trans ?_
  rw [next_point, g_block]
  rfl

open ConvResRefIdeal.Read in
theorem reference_next (a : Vec Ideal S8192x2048 .bf16) (w : Vec Ideal S8x1x256x2048 .bf16) (x : Vec Ideal S8192x2048 .f32) (b : Vec Ideal S1x2048 .f32) : val_main_v6 (F := Ideal) a w x b = next a w x b := by
  funext i
  unfold next
  pointwise [val_main_v0, val_main_v1, val_main_v2, val_main_v3, val_main_v4, val_main_v5, val_main_v6]
  try rfl

open ConvResRefIdeal.Read in
theorem reference_normed (a : Vec Ideal S8192x2048 .bf16) (w : Vec Ideal S8x1x256x2048 .bf16) (x : Vec Ideal S8192x2048 .f32) (b : Vec Ideal S1x2048 .f32) (g : Vec Ideal S1x2048 .f32) : val_main_v21 (F := Ideal) a w x b g = normed (next a w x b) g := by
  funext i
  unfold normed Norm.inv
  simp only [← reference_next]
  pointwise [val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1]

/-- The kernel and the reference hold the same two arrays. -/
theorem algebraic : Cert.algebraic_ConvResIdeal_ConvResRefIdeal := by
  intro m g m' g' _ hagree
  refine ⟨fun c => next (m (c.tc.loc main_arg0)) (m (c.tc.loc main_arg1)) (m (c.tc.loc main_arg2)) (m (c.tc.loc main_arg3)), fun c => normed (next (m (c.tc.loc main_arg0)) (m (c.tc.loc main_arg1)) (m (c.tc.loc main_arg2)) (m (c.tc.loc main_arg3))) (m (c.tc.loc main_arg4)),
    (θ_run _ _ _).mono (fun r h c => ⟨(h c).1.trans (next_eq m c), (h c).2.1.trans (normed_eq m c), (h c).2.2⟩) (Value.run_blocks m g),
    (θ_run _ _ _).mono (fun r h c => ⟨((h c).1.trans (ConvResRefIdeal.Read.val_main_v6_eq ..)).trans ?_, ((h c).2.1.trans (ConvResRefIdeal.Read.val_main_v21_eq ..)).trans ?_, (h c).2.2⟩) (ConvResRefIdeal.Value.run m' g')⟩
  · rw [reference_next, (hagree c).1, (hagree c).2.1, (hagree c).2.2.1, (hagree c).2.2.2.1]
  · rw [reference_normed, (hagree c).1, (hagree c).2.1, (hagree c).2.2.1, (hagree c).2.2.2.1, (hagree c).2.2.2.2]

end Cert.ConvResValue

end
-- ==== Proof.ConvIn.lean ====
/- The convolution layer's first product with its bias: both halves, and the first half gated by the second; what the kernel's three arrays hold, and that they are the reference's. -/
module

public import proofs.«01_k».proof.Defs
public import proofs.«01_k».proof.Proof.Gen.ConvInIdeal.Value
public import proofs.«01_k».proof.Proof.Gen.ConvInRefIdeal.Read
public import proofs.«01_k».proof.Proof.Zero

@[expose] public section

noncomputable section

namespace Cert.ConvInValue

open Cert.ConvInIdeal Cert.ConvInIdeal.Gen Idealize.ShloMosaic Idealize.ShloMosaic.TcCoe Idealize.SL.Sem

/-- The product and the bias at a row and a column: the 4096 columns of the weights are stored as eight groups of 512. -/
def pre (h : Vec Ideal S8192x2048 .bf16) (w : Vec Ideal S8x1x512x2048 .bf16) (b : Vec Ideal S1x4096 .f32) (r : Fin 8192) (c : Fin 4096) : EReal :=
  (∑ k : Fin 2048, h (ix2 r k) * w (ix4 ⟨c.val / 512, by omega⟩ (0 : Fin 1) ⟨c.val % 512, by omega⟩ k)) + b (ix2 0 c)

/-- Column `l` of the first half and of the second. -/
def fst (l : Fin 2048) : Fin 4096 := ⟨l.val, by omega⟩
def snd (l : Fin 2048) : Fin 4096 := ⟨2048 + l.val, by omega⟩

/-- A value gated by the logistic function of another. -/
def gated (u v : EReal) : EReal := u * Ideal.div 1 (1 + Ideal.exp (-v))

/-- The product and the bias in one block. -/
def block (x : Vec Ideal S512x2048 .bf16) (w : Vec Ideal S1x1x512x2048 .bf16) (b : Vec Ideal S1x512 .f32) (r : Fin 512) (l : Fin 512) : EReal :=
  (∑ k : Fin 2048, x (ix2 r k) * w (ix4 (0 : Fin 1) (0 : Fin 1) l k)) + b (ix2 0 l)

theorem block_eq (h : Vec Ideal S8192x2048 .bf16) (w : Vec Ideal S8x1x512x2048 .bf16) (b : Vec Ideal S1x4096 .f32) (x : Vec Ideal S512x2048 .bf16) (u : Vec Ideal S1x1x512x2048 .bf16) (d : Vec Ideal S1x512 .f32) (r l : Fin 512) (R : Fin 8192) (G : Fin 8) (C : Fin 4096)
    (hC : C.val = G.val * 512 + l.val) (hx : ∀ k, x (ix2 r k) = h (ix2 R k)) (hu : ∀ k, u (ix4 0 0 l k) = w (ix4 G 0 l k)) (hd : d (ix2 0 l) = b (ix2 0 C)) :
    block x u d r l = pre h w b R C := by
  have e0 : (⟨C.val / 512, by omega⟩ : Fin 8) = G := Fin.ext (by show C.val / 512 = G.val; omega)
  have e1 : (⟨C.val % 512, by omega⟩ : Fin 512) = l := Fin.ext (by show C.val % 512 = l.val; omega)
  unfold block pre
  rw [e0, e1]
  simp only [hx, hu, hd]

theorem word_one : Ideal.ofBits .f32 1065353216#32 = 1 := by
  simp [Ideal.ofBits, Ideal.ieee]
  try norm_cast
  try norm_num

theorem sum_apply (x : Vec Ideal S512x2048 .bf16) (w : Vec Ideal S1x1x512x2048 .bf16) (b : Vec Ideal S1x512 .f32) (r l : Fin 512) : k0_pay1 (F := Ideal) x w b (ix2 r l) = block x w b r l := by
  pointwise [k0_pay1]
  try rfl

theorem out5_apply (x : Vec Ideal S512x2048 .bf16) (w v : Vec Ideal S1x1x512x2048 .bf16) (b d : Vec Ideal S1x512 .f32) (r l : Fin 512) : out0_5 x w v b d (ix2 r l) = block x w b r l := by
  unfold out0_5
  rw [View.canon_unit_zero zero2, ← sum_apply]
  simp only [View.ld_unit_zero (S := S512x2048) zero2, View.ld_unit_zero (S := S1x512) zero2, View.ld_unit_zero (S := S1x1x512x2048) zero4]
  pointwise [k0_pay3]

theorem out6_apply (x : Vec Ideal S512x2048 .bf16) (w v : Vec Ideal S1x1x512x2048 .bf16) (b d : Vec Ideal S1x512 .f32) (r l : Fin 512) : out0_6 x w v b d (ix2 r l) = block x v d r l := by
  unfold out0_6
  rw [View.canon_unit_zero zero2, ← sum_apply]
  simp only [View.ld_unit_zero (S := S512x2048) zero2, View.ld_unit_zero (S := S1x512) zero2, View.ld_unit_zero (S := S1x1x512x2048) zero4]
  show k0_pay2 (F := Ideal) x v d (ix2 r l) = _
  rfl

theorem out7_apply (x : Vec Ideal S512x2048 .bf16) (w v : Vec Ideal S1x1x512x2048 .bf16) (b d : Vec Ideal S1x512 .f32) (r l : Fin 512) : out0_7 x w v b d (ix2 r l) = gated (block x w b r l) (block x v d r l) := by
  unfold out0_7 gated
  rw [View.canon_unit_zero zero2, ← sum_apply, ← sum_apply, show k0_pay1 (F := Ideal) x v d = k0_pay2 (F := Ideal) x v d from rfl]
  simp only [View.ld_unit_zero (S := S512x2048) zero2, View.ld_unit_zero (S := S1x512) zero2, View.ld_unit_zero (S := S1x1x512x2048) zero4]
  pointwise [k0_pay5]
  try rw [zero_sub]
  try simp only [word_one]

theorem at_point : ∀ t : Fin cfg0.N, (win0_0.index t (0 : Fin 2) = t.val % 16 ∧ win0_0.index t (1 : Fin 2) = 0)
    ∧ (win0_1.index t (0 : Fin 4) = t.val / 16 ∧ win0_1.index t (1 : Fin 4) = 0 ∧ win0_1.index t (2 : Fin 4) = 0 ∧ win0_1.index t (3 : Fin 4) = 0)
    ∧ (win0_2.index t (0 : Fin 4) = t.val / 16 + 4 ∧ win0_2.index t (1 : Fin 4) = 0 ∧ win0_2.index t (2 : Fin 4) = 0 ∧ win0_2.index t (3 : Fin 4) = 0)
    ∧ (win0_3.index t (0 : Fin 2) = 0 ∧ win0_3.index t (1 : Fin 2) = t.val / 16)
    ∧ (win0_4.index t (0 : Fin 2) = 0 ∧ win0_4.index t (1 : Fin 2) = t.val / 16 + 4)
    ∧ (win0_5.index t (0 : Fin 2) = t.val % 16 ∧ win0_5.index t (1 : Fin 2) = t.val / 16)
    ∧ win0_5.flush t = true ∧ win0_6.flush t = true ∧ win0_7.flush t = true :=
  (by decide +kernel : ∀ t : Fin grid0.N, _)

/-- Row `k` and column `l` of the block of point `t`. -/
def row (t : Fin 64) (k : Fin 512) : Fin 8192 := ⟨t.val % 16 * 512 + k.val, by omega⟩
def col (t : Fin 64) (l : Fin 512) : Fin 2048 := ⟨t.val / 16 * 512 + l.val, by omega⟩

theorem places (i : S8192x2048.Idx) : ∃ (t : Fin cfg0.N) (k : Fin 512) (l : Fin 512), i = ix2 (row t k) (col t l) := by
  have h0 : (i 0).val < 8192 := (i 0).isLt
  have h1 : (i 1).val < 2048 := (i 1).isLt
  refine ⟨⟨(i 1).val / 512 * 16 + (i 0).val / 512, by show _ < 64; omega⟩, ⟨(i 0).val % 512, by omega⟩, ⟨(i 1).val % 512, by omega⟩, ?_⟩
  funext a; apply Fin.ext
  match a with
  | ⟨0, _⟩ => show (i 0).val = ((i 1).val / 512 * 16 + (i 0).val / 512) % 16 * 512 + (i 0).val % 512; omega
  | ⟨1, _⟩ => show (i 1).val = ((i 1).val / 512 * 16 + (i 0).val / 512) / 16 * 512 + (i 1).val % 512; omega

theorem emb (t : Fin cfg0.N) (k : Fin 512) (l : Fin 512) : ((cfg0.win 5).blk t).view.emb (ix2 k l) = (ix2 (row t k) (col t l) : S8192x2048.Idx) := by
  obtain ⟨-, -, -, -, -, ⟨f0, f1⟩, -⟩ := at_point t
  funext a; apply Fin.ext
  match a with
  | ⟨0, _⟩ => show win0_5.index t (0 : Fin 2) * 512 + 1 * k.val = t.val % 16 * 512 + k.val; omega
  | ⟨1, _⟩ => show win0_5.index t (1 : Fin 2) * 512 + 1 * l.val = t.val / 16 * 512 + l.val; omega

variable (m : (ℓ : Loc nD τ sig) → Buf (Elt Ideal) ℓ)

theorem h_block (c : Dev nD) (t : Fin cfg0.N) (r : Fin 512) (k : Fin 2048) : iblk m c 0 t (ix2 r k) = (m (c.tc.loc main_arg0)) (ix2 (row t r) k) := by
  obtain ⟨⟨f0, f1⟩, -⟩ := at_point t
  refine congrArg (m (c.tc.loc main_arg0)) (?_ : ((cfg0.win 0).blk t).view.emb _ = _)
  funext a; apply Fin.ext
  match a with
  | ⟨0, _⟩ => show win0_0.index t (0 : Fin 2) * 512 + 1 * r.val = t.val % 16 * 512 + r.val; omega
  | ⟨1, _⟩ => show win0_0.index t (1 : Fin 2) * 2048 + 1 * k.val = k.val; omega

theorem fst_point (c : Dev nD) (t : Fin cfg0.N) (r l : Fin 512) : block (iblk m c 0 t) (iblk m c 1 t) (iblk m c 3 t) r l = pre (m (c.tc.loc main_arg0)) (m (c.tc.loc main_arg1)) (m (c.tc.loc main_arg2)) (row t r) (fst (col t l)) := by
  obtain ⟨-, ⟨f0, f1, f2, f3⟩, -, ⟨b0, b1⟩, -⟩ := at_point t
  have hN : t.val < 64 := t.isLt
  refine block_eq _ _ _ _ _ _ r l _ ⟨t.val / 16, by omega⟩ _ (by show t.val / 16 * 512 + l.val = (t.val / 16) * 512 + l.val; omega) (h_block m c t r) (fun k => ?_) ?_
  · refine congrArg (m (c.tc.loc main_arg1)) (?_ : ((cfg0.win 1).blk t).view.emb _ = _)
    funext a; apply Fin.ext
    match a with
    | ⟨0, _⟩ => show win0_1.index t (0 : Fin 4) * 1 + 1 * 0 = t.val / 16; omega
    | ⟨1, _⟩ => show win0_1.index t (1 : Fin 4) * 1 + 1 * 0 = 0; omega
    | ⟨2, _⟩ => show win0_1.index t (2 : Fin 4) * 512 + 1 * l.val = l.val; omega
    | ⟨3, _⟩ => show win0_1.index t (3 : Fin 4) * 2048 + 1 * k.val = k.val; omega
  · refine congrArg (m (c.tc.loc main_arg2)) (?_ : ((cfg0.win 3).blk t).view.emb _ = _)
    funext a; apply Fin.ext
    match a with
    | ⟨0, _⟩ => show win0_3.index t (0 : Fin 2) * 1 + 1 * 0 = 0; omega
    | ⟨1, _⟩ => show win0_3.index t (1 : Fin 2) * 512 + 1 * l.val = t.val / 16 * 512 + l.val; omega

theorem snd_point (c : Dev nD) (t : Fin cfg0.N) (r l : Fin 512) : block (iblk m c 0 t) (iblk m c 2 t) (iblk m c 4 t) r l = pre (m (c.tc.loc main_arg0)) (m (c.tc.loc main_arg1)) (m (c.tc.loc main_arg2)) (row t r) (snd (col t l)) := by
  obtain ⟨-, -, ⟨f0, f1, f2, f3⟩, -, ⟨b0, b1⟩, -⟩ := at_point t
  have hN : t.val < 64 := t.isLt
  refine block_eq _ _ _ _ _ _ r l _ ⟨t.val / 16 + 4, by omega⟩ _ (by show 2048 + (t.val / 16 * 512 + l.val) = (t.val / 16 + 4) * 512 + l.val; omega) (h_block m c t r) (fun k => ?_) ?_
  · refine congrArg (m (c.tc.loc main_arg1)) (?_ : ((cfg0.win 2).blk t).view.emb _ = _)
    funext a; apply Fin.ext
    match a with
    | ⟨0, _⟩ => show win0_2.index t (0 : Fin 4) * 1 + 1 * 0 = t.val / 16 + 4; omega
    | ⟨1, _⟩ => show win0_2.index t (1 : Fin 4) * 1 + 1 * 0 = 0; omega
    | ⟨2, _⟩ => show win0_2.index t (2 : Fin 4) * 512 + 1 * l.val = l.val; omega
    | ⟨3, _⟩ => show win0_2.index t (3 : Fin 4) * 2048 + 1 * k.val = k.val; omega
  · refine congrArg (m (c.tc.loc main_arg2)) (?_ : ((cfg0.win 4).blk t).view.emb _ = _)
    funext a; apply Fin.ext
    match a with
    | ⟨0, _⟩ => show win0_4.index t (0 : Fin 2) * 1 + 1 * 0 = 0; omega
    | ⟨1, _⟩ => show win0_4.index t (1 : Fin 2) * 512 + 1 * l.val = 2048 + (t.val / 16 * 512 + l.val); omega

/-- The three arrays. -/
def first (h : Vec Ideal S8192x2048 .bf16) (w : Vec Ideal S8x1x512x2048 .bf16) (b : Vec Ideal S1x4096 .f32) (i : S8192x2048.Idx) : EReal := pre h w b (i 0) (fst (i 1))
def second (h : Vec Ideal S8192x2048 .bf16) (w : Vec Ideal S8x1x512x2048 .bf16) (b : Vec Ideal S1x4096 .f32) (i : S8192x2048.Idx) : EReal := pre h w b (i 0) (snd (i 1))
def both (h : Vec Ideal S8192x2048 .bf16) (w : Vec Ideal S8x1x512x2048 .bf16) (b : Vec Ideal S1x4096 .f32) (i : S8192x2048.Idx) : EReal := gated (pre h w b (i 0) (fst (i 1))) (pre h w b (i 0) (snd (i 1)))

theorem array5_eq (c : Dev nD) : (dats m 0 c).arrAt 5 cfg0.N = first (m (c.tc.loc main_arg0)) (m (c.tc.loc main_arg1)) (m (c.tc.loc main_arg2)) := by
  funext i
  obtain ⟨t, r, l, rfl⟩ := places i
  refine Eq.trans (congrArg _ (emb t r l).symm) ((congrFun (Value.blocks5 m c t (at_point t).2.2.2.2.2.2.1) (ix2 r l)).trans ?_)
  rw [Value.flushed5]
  refine (out5_apply _ _ _ _ _ r l).trans ?_
  rw [fst_point]
  rfl

theorem array6_eq (c : Dev nD) : (dats m 0 c).arrAt 6 cfg0.N = second (m (c.tc.loc main_arg0)) (m (c.tc.loc main_arg1)) (m (c.tc.loc main_arg2)) := by
  funext i
  obtain ⟨t, r, l, rfl⟩ := places i
  refine Eq.trans (congrArg _ (emb t r l).symm) ((congrFun (Value.blocks6 m c t (at_point t).2.2.2.2.2.2.2.1) (ix2 r l)).trans ?_)
  rw [Value.flushed6]
  refine (out6_apply _ _ _ _ _ r l).trans ?_
  rw [snd_point]
  rfl

theorem array7_eq (c : Dev nD) : (dats m 0 c).arrAt 7 cfg0.N = both (m (c.tc.loc main_arg0)) (m (c.tc.loc main_arg1)) (m (c.tc.loc main_arg2)) := by
  funext i
  obtain ⟨t, r, l, rfl⟩ := places i
  refine Eq.trans (congrArg _ (emb t r l).symm) ((congrFun (Value.blocks7 m c t (at_point t).2.2.2.2.2.2.2.2) (ix2 r l)).trans ?_)
  rw [Value.flushed7]
  refine (out7_apply _ _ _ _ _ r l).trans ?_
  rw [fst_point, snd_point]
  rfl

open ConvInRefIdeal.Read

theorem reference_pre (h : Vec Ideal S8192x2048 .bf16) (w : Vec Ideal S8x1x512x2048 .bf16) (b : Vec Ideal S1x4096 .f32) (r : Fin 8192) (c : Fin 4096) : val_main_v6 (F := Ideal) h w b (ix2 r c) = pre h w b r c := by
  pointwise [val_main_v0, val_main_v1, val_main_v2, val_main_v3, val_main_v4, val_main_v5, val_main_v6, pre]

theorem reference_first (h : Vec Ideal S8192x2048 .bf16) (w : Vec Ideal S8x1x512x2048 .bf16) (b : Vec Ideal S1x4096 .f32) : val_main_v9 (F := Ideal) h w b = first h w b := by
  funext i
  obtain ⟨r, l, rfl⟩ : ∃ (r : Fin 8192) (l : Fin 2048), i = ix2 r l := ⟨i 0, i 1, eq_ix2 i⟩
  show val_main_v9 (F := Ideal) h w b (ix2 r l) = pre h w b r (fst l)
  rw [← reference_pre]
  pointwise [val_main_v9, val_main_v7, fst]

theorem reference_second (h : Vec Ideal S8192x2048 .bf16) (w : Vec Ideal S8x1x512x2048 .bf16) (b : Vec Ideal S1x4096 .f32) : val_main_v10 (F := Ideal) h w b = second h w b := by
  funext i
  obtain ⟨r, l, rfl⟩ : ∃ (r : Fin 8192) (l : Fin 2048), i = ix2 r l := ⟨i 0, i 1, eq_ix2 i⟩
  show val_main_v10 (F := Ideal) h w b (ix2 r l) = pre h w b r (snd l)
  rw [← reference_pre]
  pointwise [val_main_v10, val_main_v8, snd]

theorem reference_both (h : Vec Ideal S8192x2048 .bf16) (w : Vec Ideal S8x1x512x2048 .bf16) (b : Vec Ideal S1x4096 .f32) : val_main_v17 (F := Ideal) h w b = both h w b := by
  funext i
  obtain ⟨r, l, rfl⟩ : ∃ (r : Fin 8192) (l : Fin 2048), i = ix2 r l := ⟨i 0, i 1, eq_ix2 i⟩
  show val_main_v17 (F := Ideal) h w b (ix2 r l) = gated (pre h w b r (fst l)) (pre h w b r (snd l))
  unfold gated
  rw [← reference_pre, ← reference_pre]
  pointwise [val_main_v7, val_main_v8, val_main_v11, val_main_v12, val_main_v13, val_main_v14, val_main_v15, val_main_v16, val_main_v17, val_main_cst, val_main_cst_0, fst, snd]
  try simp only [word_one]

/-- The kernel and the reference hold the same three arrays. -/
theorem algebraic : Cert.algebraic_ConvInIdeal_ConvInRefIdeal := by
  intro m g m' g' _ hagree
  refine ⟨fun c => first (m (c.tc.loc main_arg0)) (m (c.tc.loc main_arg1)) (m (c.tc.loc main_arg2)), fun c => second (m (c.tc.loc main_arg0)) (m (c.tc.loc main_arg1)) (m (c.tc.loc main_arg2)), fun c => both (m (c.tc.loc main_arg0)) (m (c.tc.loc main_arg1)) (m (c.tc.loc main_arg2)),
    (θ_run _ _ _).mono (fun r h c => ⟨(h c).1.trans (array5_eq m c), (h c).2.1.trans (array6_eq m c), (h c).2.2.1.trans (array7_eq m c), (h c).2.2.2⟩) (Value.run_blocks m g),
    (θ_run _ _ _).mono (fun r h c => ⟨((h c).1.trans (val_main_v9_eq ..)).trans ?_, ((h c).2.1.trans (val_main_v10_eq ..)).trans ?_, ((h c).2.2.1.trans (val_main_v17_eq ..)).trans ?_, (h c).2.2.2⟩) (ConvInRefIdeal.Value.run m' g')⟩
  · rw [reference_first, (hagree c).1, (hagree c).2.1, (hagree c).2.2]
  · rw [reference_second, (hagree c).1, (hagree c).2.1, (hagree c).2.2]
  · rw [reference_both, (hagree c).1, (hagree c).2.1, (hagree c).2.2]

end Cert.ConvInValue

end
-- ==== Proof.AttnDx.lean ====
/- The gradient that goes into the attention, through its second weight: what the kernel's array holds, and that it is the reference's gradient. -/
module

public import proofs.«01_k».proof.Defs
public import proofs.«01_k».proof.Proof.Gen.AttnDxIdeal.Value
public import proofs.«01_k».proof.Proof.Gen.AttnDxRefIdeal.Read
public import proofs.«01_k».proof.Proof.Zero

@[expose] public section

noncomputable section

namespace Cert.AttnDxValue

open Cert.AttnDxIdeal Cert.AttnDxIdeal.Gen Idealize.ShloMosaic Idealize.ShloMosaic.TcCoe Idealize.SL.Sem

/-- The gradient at an index: a row of the gradient against a row of the weight, whose 2048 rows are stored as eight groups of 256. -/
def product (d : Vec Ideal S8192x2048 .bf16) (w : Vec Ideal S8x1x256x2048 .bf16) (i : S8192x2048.Idx) : EReal :=
  ∑ k : Fin 2048, d (ix2 (i 0) k) * w (ix4 ⟨(i 1).val / 256, by have : (i 1).val < 2048 := (i 1).isLt; omega⟩ (0 : Fin 1) ⟨(i 1).val % 256, by omega⟩ k)

/-- What the body leaves in the output's buffer. -/
theorem out_apply (x : Vec Ideal S512x2048 .bf16) (w : Vec Ideal S8x1x256x2048 .bf16) (r : Fin 512) (l : Fin 2048) :
    out0_2 x w (ix2 r l) = ∑ k : Fin 2048, x (ix2 r k) * w (ix4 ⟨l.val / 256, by omega⟩ (0 : Fin 1) ⟨l.val % 256, by omega⟩ k) := by
  unfold out0_2
  rw [View.canon_unit_zero zero2, View.ld_unit_zero zero2, View.ld_unit_zero zero4]
  pointwise [k0_pay1]

theorem at_point : ∀ t : Fin cfg0.N, (win0_1.index t (0 : Fin 4) = 0 ∧ win0_1.index t (1 : Fin 4) = 0 ∧ win0_1.index t (2 : Fin 4) = 0 ∧ win0_1.index t (3 : Fin 4) = 0)
    ∧ win0_2.index t (0 : Fin 2) = t.val ∧ win0_2.index t (1 : Fin 2) = 0 ∧ win0_2.flush t = true :=
  (by decide +kernel : ∀ t : Fin grid0.N, _)

/-- Row `k` of block `t`. -/
def row (t : Fin 16) (k : Fin 512) : Fin 8192 := ⟨t.val * 512 + k.val, by omega⟩

theorem places (i : S8192x2048.Idx) : ∃ (t : Fin cfg0.N) (k : Fin 512) (l : Fin 2048), i = ix2 (row t k) l := by
  have h0 : (i 0).val < 8192 := (i 0).isLt
  refine ⟨⟨(i 0).val / 512, by show _ < 16; omega⟩, ⟨(i 0).val % 512, by omega⟩, i 1, ?_⟩
  funext a; apply Fin.ext
  match a with
  | ⟨0, _⟩ => show (i 0).val = (i 0).val / 512 * 512 + (i 0).val % 512; omega
  | ⟨1, _⟩ => rfl

theorem emb (t : Fin cfg0.N) (k : Fin 512) (l : Fin 2048) : ((cfg0.win 2).blk t).view.emb (ix2 k l) = (ix2 (row t k) l : S8192x2048.Idx) := by
  obtain ⟨-, f0, f1, -⟩ := at_point t
  funext a; apply Fin.ext
  match a with
  | ⟨0, _⟩ => show win0_2.index t (0 : Fin 2) * 512 + 1 * k.val = t.val * 512 + k.val; omega
  | ⟨1, _⟩ => show win0_2.index t (1 : Fin 2) * 2048 + 1 * l.val = l.val; omega

variable (m : (ℓ : Loc nD τ sig) → Buf (Elt Ideal) ℓ)

theorem d_block (c : Dev nD) (t : Fin cfg0.N) (r : Fin 512) (k : Fin 2048) : iblk m c 0 t (ix2 r k) = (m (c.tc.loc main_arg0)) (ix2 (row t r) k) :=
  congrArg (m (c.tc.loc main_arg0)) (emb t r k)

theorem w_block (c : Dev nD) (t : Fin cfg0.N) (p : Fin 8) (k : Fin 256) (l : Fin 2048) : iblk m c 1 t (ix4 p 0 k l) = (m (c.tc.loc main_arg1)) (ix4 p 0 k l) := by
  obtain ⟨⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 8 + 1 * p.val = p.val; omega
  | ⟨1, _⟩ => show win0_1.index t (1 : Fin 4) * 1 + 1 * 0 = 0; omega
  | ⟨2, _⟩ => show win0_1.index t (2 : Fin 4) * 256 + 1 * k.val = k.val; omega
  | ⟨3, _⟩ => show win0_1.index t (3 : Fin 4) * 2048 + 1 * l.val = l.val; omega

theorem array_eq (c : Dev nD) : (dats m 0 c).arrAt 2 cfg0.N = product (m (c.tc.loc main_arg0)) (m (c.tc.loc main_arg1)) := by
  funext i
  obtain ⟨t, r, l, rfl⟩ := places i
  refine Eq.trans (congrArg _ (emb t r l).symm) ((congrFun (Value.blocks2 m c t (at_point t).2.2.2) (ix2 r l)).trans ?_)
  rw [Value.flushed2]
  refine (out_apply _ _ r l).trans ?_
  refine Finset.sum_congr rfl fun k _ => ?_
  rw [d_block, w_block]
  rfl

/-- The reference's gradient at an index. -/
theorem reference_eq (d : Vec Ideal S8192x2048 .bf16) (w : Vec Ideal S8x1x256x2048 .bf16) :
    AttnDxRefIdeal.Read.val_main_v5 (F := Ideal) d w = product d w := by
  funext i
  pointwise [AttnDxRefIdeal.Read.val_main_v0, AttnDxRefIdeal.Read.val_main_v1, AttnDxRefIdeal.Read.val_main_v4, AttnDxRefIdeal.Read.val_main_v5, product]

/-- The kernel and the reference hold the same array. -/
theorem algebraic : Cert.algebraic_AttnDxIdeal_AttnDxRefIdeal := by
  intro m g m' g' _ hagree
  refine ⟨fun c => product (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (AttnDxRefIdeal.Read.val_main_v5_eq ..)).trans ?_, (h c).2⟩) (AttnDxRefIdeal.Value.run m' g')⟩
  rw [reference_eq, (hagree c).1, (hagree c).2]

end Cert.AttnDxValue

end
-- ==== Proof.Qkv.lean ====
/- The attention's first product: what the kernel's array holds, and that it is the reference's. -/
module

public import proofs.«01_k».proof.Defs
public import proofs.«01_k».proof.Proof.Gen.QkvIdeal.Value
public import proofs.«01_k».proof.Proof.Gen.QkvRefIdeal.Read
public import proofs.«01_k».proof.Proof.Zero

@[expose] public section

noncomputable section

namespace Cert.QkvValue

open Cert.QkvIdeal Cert.QkvIdeal.Gen Idealize.ShloMosaic Idealize.ShloMosaic.TcCoe Idealize.SL.Sem

/-- The product at an index: a row of the activations against a column of the weights, which are stored as eight groups of 384 columns. -/
def product (a : Vec Ideal S8192x2048 .bf16) (w : Vec Ideal S8x1x384x2048 .bf16) (i : S8192x3072.Idx) : EReal :=
  ∑ k : Fin 2048, a (ix2 (i 0) k) * w (ix4 ⟨(i 1).val / 384, by have : (i 1).val < 3072 := (i 1).isLt; omega⟩ (0 : Fin 1) ⟨(i 1).val % 384, by omega⟩ k)

/-- What the body leaves in the output's buffer. -/
theorem out_apply (x : Vec Ideal S512x2048 .bf16) (w : Vec Ideal S1x1x384x2048 .bf16) (r : Fin 512) (l : Fin 384) :
    out0_2 x w (ix2 r l) = ∑ k : Fin 2048, x (ix2 r k) * w (ix4 (0 : Fin 1) (0 : Fin 1) l k) := by
  unfold out0_2
  rw [View.canon_unit_zero zero2, View.ld_unit_zero zero2, View.ld_unit_zero zero4]
  pointwise [k0_pay1]

theorem at_point : ∀ t : Fin cfg0.N, (win0_0.index t (0 : Fin 2) = t.val % 16 ∧ win0_0.index t (1 : Fin 2) = 0)
    ∧ (win0_1.index t (0 : Fin 4) = t.val / 16 ∧ win0_1.index t (1 : Fin 4) = 0 ∧ win0_1.index t (2 : Fin 4) = 0 ∧ win0_1.index t (3 : Fin 4) = 0)
    ∧ win0_2.index t (0 : Fin 2) = t.val % 16 ∧ win0_2.index t (1 : Fin 2) = t.val / 16 ∧ win0_2.flush t = true :=
  (by decide +kernel : ∀ t : Fin grid0.N, _)

/-- Row `k` of the block of point `t`, its group of columns, and column `l` of the group. -/
def row (t : Fin 128) (k : Fin 512) : Fin 8192 := ⟨t.val % 16 * 512 + k.val, by omega⟩
def group (t : Fin 128) : Fin 8 := ⟨t.val / 16, by omega⟩
def col (t : Fin 128) (l : Fin 384) : Fin 3072 := ⟨t.val / 16 * 384 + l.val, by omega⟩

theorem places (i : S8192x3072.Idx) : ∃ (t : Fin cfg0.N) (k : Fin 512) (l : Fin 384), i = ix2 (row t k) (col t l) := by
  have h0 : (i 0).val < 8192 := (i 0).isLt
  have h1 : (i 1).val < 3072 := (i 1).isLt
  refine ⟨⟨(i 1).val / 384 * 16 + (i 0).val / 512, by show _ < 128; omega⟩, ⟨(i 0).val % 512, by omega⟩, ⟨(i 1).val % 384, by omega⟩, ?_⟩
  funext a; apply Fin.ext
  match a with
  | ⟨0, _⟩ => show (i 0).val = ((i 1).val / 384 * 16 + (i 0).val / 512) % 16 * 512 + (i 0).val % 512; omega
  | ⟨1, _⟩ => show (i 1).val = ((i 1).val / 384 * 16 + (i 0).val / 512) / 16 * 384 + (i 1).val % 384; omega

theorem emb (t : Fin cfg0.N) (k : Fin 512) (l : Fin 384) : ((cfg0.win 2).blk t).view.emb (ix2 k l) = (ix2 (row t k) (col t l) : S8192x3072.Idx) := by
  obtain ⟨-, -, f0, f1, -⟩ := at_point t
  funext a; apply Fin.ext
  match a with
  | ⟨0, _⟩ => show win0_2.index t (0 : Fin 2) * 512 + 1 * k.val = t.val % 16 * 512 + k.val; omega
  | ⟨1, _⟩ => show win0_2.index t (1 : Fin 2) * 384 + 1 * l.val = t.val / 16 * 384 + l.val; omega

variable (m : (ℓ : Loc nD τ sig) → Buf (Elt Ideal) ℓ)

theorem a_block (c : Dev nD) (t : Fin cfg0.N) (r : Fin 512) (k : Fin 2048) : iblk m c 0 t (ix2 r k) = (m (c.tc.loc main_arg0)) (ix2 (row t r) k) := by
  obtain ⟨⟨f0, f1⟩, -⟩ := at_point t
  refine congrArg (m (c.tc.loc main_arg0)) (?_ : ((cfg0.win 0).blk t).view.emb _ = _)
  funext a; apply Fin.ext
  match a with
  | ⟨0, _⟩ => show win0_0.index t (0 : Fin 2) * 512 + 1 * r.val = t.val % 16 * 512 + r.val; omega
  | ⟨1, _⟩ => show win0_0.index t (1 : Fin 2) * 2048 + 1 * k.val = k.val; omega

theorem w_block (c : Dev nD) (t : Fin cfg0.N) (k : Fin 2048) (l : Fin 384) : iblk m c 1 t (ix4 0 0 l k) = (m (c.tc.loc main_arg1)) (ix4 (group t) 0 l k) := by
  obtain ⟨-, ⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 1 + 1 * 0 = t.val / 16; omega
  | ⟨1, _⟩ => show win0_1.index t (1 : Fin 4) * 1 + 1 * 0 = 0; omega
  | ⟨2, _⟩ => show win0_1.index t (2 : Fin 4) * 384 + 1 * l.val = l.val; omega
  | ⟨3, _⟩ => show win0_1.index t (3 : Fin 4) * 2048 + 1 * k.val = k.val; omega

theorem array_eq (c : Dev nD) : (dats m 0 c).arrAt 2 cfg0.N = product (m (c.tc.loc main_arg0)) (m (c.tc.loc main_arg1)) := by
  funext i
  obtain ⟨t, r, l, rfl⟩ := places i
  refine Eq.trans (congrArg _ (emb t r l).symm) ((congrFun (Value.blocks2 m c t (at_point t).2.2.2.2) (ix2 r l)).trans ?_)
  rw [Value.flushed2]
  refine (out_apply _ _ r l).trans ?_
  have e0 : (⟨(col t l).val / 384, by omega⟩ : Fin 8) = group t := Fin.ext (by show (t.val / 16 * 384 + l.val) / 384 = t.val / 16; omega)
  have e1 : (⟨(col t l).val % 384, by omega⟩ : Fin 384) = l := Fin.ext (by show (t.val / 16 * 384 + l.val) % 384 = l.val; omega)
  refine Finset.sum_congr rfl fun k _ => ?_
  rw [a_block, w_block]
  exact congrArg (HMul.hMul (α := EReal) (β := EReal) _) (congrArg₂ (fun y z => (m (c.tc.loc main_arg1)) (ix4 y 0 z k)) e0 e1).symm

/-- The reference's product at an index. -/
theorem reference_eq (a : Vec Ideal S8192x2048 .bf16) (w : Vec Ideal S8x1x384x2048 .bf16) :
    QkvRefIdeal.Read.val_main_v4 (F := Ideal) a w = product a w := by
  funext i
  pointwise [QkvRefIdeal.Read.val_main_v0, QkvRefIdeal.Read.val_main_v1, QkvRefIdeal.Read.val_main_v2, QkvRefIdeal.Read.val_main_v3, QkvRefIdeal.Read.val_main_v4, product]

/-- The kernel and the reference hold the same array. -/
theorem algebraic : Cert.algebraic_QkvIdeal_QkvRefIdeal := by
  intro m g m' g' _ hagree
  refine ⟨fun c => product (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (QkvRefIdeal.Read.val_main_v4_eq ..)).trans ?_, (h c).2⟩) (QkvRefIdeal.Value.run m' g')⟩
  rw [reference_eq, (hagree c).1, (hagree c).2]

end Cert.QkvValue

end
-- ==== Proof.PleProj.lean ====
/- The projection of the per-layer input: what the kernel's array holds, and that it is the reference's. -/
module

public import proofs.«01_k».proof.Defs
public import proofs.«01_k».proof.Proof.Gen.PleProjIdeal.Value
public import proofs.«01_k».proof.Proof.Gen.PleProjRefIdeal.Read
public import proofs.«01_k».proof.Proof.Zero

@[expose] public section

noncomputable section

namespace Cert.PleProjValue

open Cert.PleProjIdeal Cert.PleProjIdeal.Gen Idealize.ShloMosaic Idealize.ShloMosaic.TcCoe Idealize.SL.Sem

/-- The product at an index: a row of the activations against a column of the weights, which are stored as eight groups of 256 columns. -/
def product (a : Vec Ideal S8192x256 .bf16) (w : Vec Ideal S8x1x256x256 .bf16) (i : S8192x2048.Idx) : EReal :=
  ∑ k : Fin 256, a (ix2 (i 0) k) * w (ix4 ⟨(i 1).val / 256, by have : (i 1).val < 2048 := (i 1).isLt; omega⟩ (0 : Fin 1) k ⟨(i 1).val % 256, by omega⟩)

/-- What the body leaves in the output's buffer. -/
theorem out_apply (x : Vec Ideal S512x256 .bf16) (w : Vec Ideal S1x1x256x256 .bf16) (r : Fin 512) (l : Fin 256) :
    out0_2 x w (ix2 r l) = ∑ k : Fin 256, x (ix2 r k) * w (ix4 (0 : Fin 1) (0 : Fin 1) k l) := by
  unfold out0_2
  rw [View.canon_unit_zero zero2, View.ld_unit_zero zero2, View.ld_unit_zero zero4]
  pointwise [k0_pay1]

theorem at_point : ∀ t : Fin cfg0.N, (win0_0.index t (0 : Fin 2) = t.val % 16 ∧ win0_0.index t (1 : Fin 2) = 0)
    ∧ (win0_1.index t (0 : Fin 4) = t.val / 16 ∧ win0_1.index t (1 : Fin 4) = 0 ∧ win0_1.index t (2 : Fin 4) = 0 ∧ win0_1.index t (3 : Fin 4) = 0)
    ∧ win0_2.index t (0 : Fin 2) = t.val % 16 ∧ win0_2.index t (1 : Fin 2) = t.val / 16 ∧ win0_2.flush t = true :=
  (by decide +kernel : ∀ t : Fin grid0.N, _)

/-- Row `k` of the block of point `t`, its group of columns, and column `l` of the group. -/
def row (t : Fin 128) (k : Fin 512) : Fin 8192 := ⟨t.val % 16 * 512 + k.val, by omega⟩
def group (t : Fin 128) : Fin 8 := ⟨t.val / 16, by omega⟩
def col (t : Fin 128) (l : Fin 256) : Fin 2048 := ⟨t.val / 16 * 256 + l.val, by omega⟩

theorem places (i : S8192x2048.Idx) : ∃ (t : Fin cfg0.N) (k : Fin 512) (l : Fin 256), i = ix2 (row t k) (col t l) := by
  have h0 : (i 0).val < 8192 := (i 0).isLt
  have h1 : (i 1).val < 2048 := (i 1).isLt
  refine ⟨⟨(i 1).val / 256 * 16 + (i 0).val / 512, by show _ < 128; omega⟩, ⟨(i 0).val % 512, by omega⟩, ⟨(i 1).val % 256, by omega⟩, ?_⟩
  funext a; apply Fin.ext
  match a with
  | ⟨0, _⟩ => show (i 0).val = ((i 1).val / 256 * 16 + (i 0).val / 512) % 16 * 512 + (i 0).val % 512; omega
  | ⟨1, _⟩ => show (i 1).val = ((i 1).val / 256 * 16 + (i 0).val / 512) / 16 * 256 + (i 1).val % 256; omega

theorem emb (t : Fin cfg0.N) (k : Fin 512) (l : Fin 256) : ((cfg0.win 2).blk t).view.emb (ix2 k l) = (ix2 (row t k) (col t l) : S8192x2048.Idx) := by
  obtain ⟨-, -, f0, f1, -⟩ := at_point t
  funext a; apply Fin.ext
  match a with
  | ⟨0, _⟩ => show win0_2.index t (0 : Fin 2) * 512 + 1 * k.val = t.val % 16 * 512 + k.val; omega
  | ⟨1, _⟩ => show win0_2.index t (1 : Fin 2) * 256 + 1 * l.val = t.val / 16 * 256 + l.val; omega

variable (m : (ℓ : Loc nD τ sig) → Buf (Elt Ideal) ℓ)

theorem a_block (c : Dev nD) (t : Fin cfg0.N) (r : Fin 512) (k : Fin 256) : iblk m c 0 t (ix2 r k) = (m (c.tc.loc main_arg0)) (ix2 (row t r) k) := by
  obtain ⟨⟨f0, f1⟩, -⟩ := at_point t
  refine congrArg (m (c.tc.loc main_arg0)) (?_ : ((cfg0.win 0).blk t).view.emb _ = _)
  funext a; apply Fin.ext
  match a with
  | ⟨0, _⟩ => show win0_0.index t (0 : Fin 2) * 512 + 1 * r.val = t.val % 16 * 512 + r.val; omega
  | ⟨1, _⟩ => show win0_0.index t (1 : Fin 2) * 256 + 1 * k.val = k.val; omega

theorem w_block (c : Dev nD) (t : Fin cfg0.N) (k : Fin 256) (l : Fin 256) : iblk m c 1 t (ix4 0 0 k l) = (m (c.tc.loc main_arg1)) (ix4 (group t) 0 k l) := by
  obtain ⟨-, ⟨f0, f1, f2, f3⟩, -⟩ := at_point t
  refine congrArg (m (c.tc.loc main_arg1)) (?_ : ((cfg0.win 1).blk t).view.emb _ = _)
  funext a; apply Fin.ext
  match a with
  | ⟨0, _⟩ => show win0_1.index t (0 : Fin 4) * 1 + 1 * 0 = t.val / 16; omega
  | ⟨1, _⟩ => show win0_1.index t (1 : Fin 4) * 1 + 1 * 0 = 0; omega
  | ⟨2, _⟩ => show win0_1.index t (2 : Fin 4) * 256 + 1 * k.val = k.val; omega
  | ⟨3, _⟩ => show win0_1.index t (3 : Fin 4) * 256 + 1 * l.val = l.val; omega

theorem array_eq (c : Dev nD) : (dats m 0 c).arrAt 2 cfg0.N = product (m (c.tc.loc main_arg0)) (m (c.tc.loc main_arg1)) := by
  funext i
  obtain ⟨t, r, l, rfl⟩ := places i
  refine Eq.trans (congrArg _ (emb t r l).symm) ((congrFun (Value.blocks2 m c t (at_point t).2.2.2.2) (ix2 r l)).trans ?_)
  rw [Value.flushed2]
  refine (out_apply _ _ r l).trans ?_
  have e0 : (⟨(col t l).val / 256, by omega⟩ : Fin 8) = group t := Fin.ext (by show (t.val / 16 * 256 + l.val) / 256 = t.val / 16; omega)
  have e1 : (⟨(col t l).val % 256, by omega⟩ : Fin 256) = l := Fin.ext (by show (t.val / 16 * 256 + l.val) % 256 = l.val; omega)
  refine Finset.sum_congr rfl fun k _ => ?_
  rw [a_block, w_block]
  exact congrArg (HMul.hMul (α := EReal) (β := EReal) _) (congrArg₂ (fun y z => (m (c.tc.loc main_arg1)) (ix4 y 0 k z)) e0 e1).symm

/-- The reference's product at an index. -/
theorem reference_eq (a : Vec Ideal S8192x256 .bf16) (w : Vec Ideal S8x1x256x256 .bf16) :
    PleProjRefIdeal.Read.val_main_v6 (F := Ideal) a w = product a w := by
  funext i
  pointwise [PleProjRefIdeal.Read.val_main_v0, PleProjRefIdeal.Read.val_main_v1, PleProjRefIdeal.Read.val_main_v2, PleProjRefIdeal.Read.val_main_v3, PleProjRefIdeal.Read.val_main_v4, PleProjRefIdeal.Read.val_main_v5, PleProjRefIdeal.Read.val_main_v6, product]

/-- The kernel and the reference hold the same array. -/
theorem algebraic : Cert.algebraic_PleProjIdeal_PleProjRefIdeal := by
  intro m g m' g' _ hagree
  refine ⟨fun c => product (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (PleProjRefIdeal.Read.val_main_v6_eq ..)).trans ?_, (h c).2⟩) (PleProjRefIdeal.Value.run m' g')⟩
  rw [reference_eq, (hagree c).1, (hagree c).2]

end Cert.PleProjValue

end
-- ==== Proof.RmsIn.lean ====
/- The norm of the step's input: what the kernel's array holds, and that it is the reference's. -/
module

public import proofs.«01_k».proof.Defs
public import proofs.«01_k».proof.Proof.Gen.RmsInIdeal.Value
public import proofs.«01_k».proof.Proof.Gen.RmsInRefIdeal.Read
public import proofs.«01_k».proof.Proof.Norm
public import proofs.«01_k».proof.Proof.Zero

@[expose] public section

noncomputable section

namespace Cert.RmsInValue

open Cert.RmsInIdeal Cert.RmsInIdeal.Gen Idealize.ShloMosaic Idealize.ShloMosaic.TcCoe Idealize.SL.Sem

/-- The norm at an index. -/
def normed (x : Vec Ideal S8192x2048 .f32) (g : Vec Ideal S1x2048 .f32) (i : S8192x2048.Idx) : EReal :=
  x i * Norm.inv (fun k => x (ix2 (i 0) k)) * g (ix2 0 (i 1))

/-- What the body leaves in the output's buffer. -/
theorem out_apply (x : Vec Ideal S256x2048 .f32) (g : Vec Ideal S1x2048 .f32) (r : Fin 256) (l : Fin 2048) :
    out0_2 x g (ix2 r l) = x (ix2 r l) * Norm.inv (fun k => x (ix2 r k)) * g (ix2 0 l) := by
  unfold out0_2 Norm.inv
  rw [View.canon_unit_zero zero2, View.ld_unit_zero zero2, View.ld_unit_zero zero2]
  pointwise [k0_pay1]

theorem at_point : ∀ t : Fin cfg0.N, (win0_1.index t (0 : Fin 2) = 0 ∧ win0_1.index t (1 : Fin 2) = 0)
    ∧ win0_2.index t (0 : Fin 2) = t.val ∧ win0_2.index t (1 : Fin 2) = 0 ∧ win0_2.flush t = true :=
  (by decide +kernel : ∀ t : Fin grid0.N, _)

/-- Row `k` of block `t`. -/
def row (t : Fin 32) (k : Fin 256) : Fin 8192 := ⟨t.val * 256 + k.val, by omega⟩

theorem places (i : S8192x2048.Idx) : ∃ (t : Fin cfg0.N) (k : Fin 256) (l : Fin 2048), i = ix2 (row t k) l := by
  have h0 : (i 0).val < 8192 := (i 0).isLt
  refine ⟨⟨(i 0).val / 256, by show _ < 32; omega⟩, ⟨(i 0).val % 256, by omega⟩, i 1, ?_⟩
  funext a; apply Fin.ext
  match a with
  | ⟨0, _⟩ => show (i 0).val = (i 0).val / 256 * 256 + (i 0).val % 256; omega
  | ⟨1, _⟩ => rfl

theorem emb (t : Fin cfg0.N) (k : Fin 256) (l : Fin 2048) : ((cfg0.win 2).blk t).view.emb (ix2 k l) = (ix2 (row t k) l : S8192x2048.Idx) := by
  obtain ⟨-, f0, f1, -⟩ := at_point t
  funext a; apply Fin.ext
  match a with
  | ⟨0, _⟩ => show win0_2.index t (0 : Fin 2) * 256 + 1 * k.val = t.val * 256 + k.val; omega
  | ⟨1, _⟩ => show win0_2.index t (1 : Fin 2) * 2048 + 1 * l.val = l.val; omega

variable (m : (ℓ : Loc nD τ sig) → Buf (Elt Ideal) ℓ)

theorem x_block (c : Dev nD) (t : Fin cfg0.N) (r : Fin 256) (k : Fin 2048) : iblk m c 0 t (ix2 r k) = (m (c.tc.loc main_arg0)) (ix2 (row t r) k) :=
  congrArg (m (c.tc.loc main_arg0)) (emb t r k)

theorem g_block (c : Dev nD) (t : Fin cfg0.N) (l : Fin 2048) : iblk m c 1 t (ix2 0 l) = (m (c.tc.loc main_arg1)) (ix2 0 l) := by
  obtain ⟨⟨f0, f1⟩, -⟩ := at_point t
  refine congrArg (m (c.tc.loc main_arg1)) (?_ : ((cfg0.win 1).blk t).view.emb _ = _)
  funext a; apply Fin.ext
  match a with
  | ⟨0, _⟩ => show win0_1.index t (0 : Fin 2) * 1 + 1 * 0 = 0; omega
  | ⟨1, _⟩ => show win0_1.index t (1 : Fin 2) * 2048 + 1 * l.val = l.val; omega

theorem array_eq (c : Dev nD) : (dats m 0 c).arrAt 2 cfg0.N = normed (m (c.tc.loc main_arg0)) (m (c.tc.loc main_arg1)) := by
  funext i
  obtain ⟨t, r, l, rfl⟩ := places i
  refine Eq.trans (congrArg _ (emb t r l).symm) ((congrFun (Value.blocks2 m c t (at_point t).2.2.2) (ix2 r l)).trans ?_)
  rw [Value.flushed2]
  refine (out_apply _ _ r l).trans ?_
  simp only [x_block, g_block]
  rfl

/-- The reference's norm at an index. -/
theorem reference_eq (x : Vec Ideal S8192x2048 .f32) (g : Vec Ideal S1x2048 .f32) :
    RmsInRefIdeal.Read.val_main_v14 (F := Ideal) x g = normed x g := by
  funext i
  unfold normed Norm.inv
  pointwise [RmsInRefIdeal.Read.val_main_v0, RmsInRefIdeal.Read.val_main_v1, RmsInRefIdeal.Read.val_main_v2, RmsInRefIdeal.Read.val_main_v3, RmsInRefIdeal.Read.val_main_v4, RmsInRefIdeal.Read.val_main_v5, RmsInRefIdeal.Read.val_main_v6, RmsInRefIdeal.Read.val_main_v7, RmsInRefIdeal.Read.val_main_v8, RmsInRefIdeal.Read.val_main_v9, RmsInRefIdeal.Read.val_main_v10, RmsInRefIdeal.Read.val_main_v11, RmsInRefIdeal.Read.val_main_v12, RmsInRefIdeal.Read.val_main_v13, RmsInRefIdeal.Read.val_main_v14, RmsInRefIdeal.Read.val_main_cst, RmsInRefIdeal.Read.val_main_cst_0, RmsInRefIdeal.Read.val_main_cst_1]

/-- The kernel and the reference hold the same array. -/
theorem algebraic : Cert.algebraic_RmsInIdeal_RmsInRefIdeal := by
  intro m g m' g' _ hagree
  refine ⟨fun c => normed (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (RmsInRefIdeal.Read.val_main_v14_eq ..)).trans ?_, (h c).2⟩) (RmsInRefIdeal.Value.run m' g')⟩
  rw [reference_eq, (hagree c).1, (hagree c).2]

end Cert.RmsInValue

end
-- ==== Proof.Bucket.lean ====
/- Buckets of relative positions, one word each: the one-hot rows that select them, and what a non-negative word reads as. -/
module

public import Idealize.ShloMosaic.Lib.ReduceAll
public import Idealize.ShloMosaic.Lib.IdealHost
public import Idealize.ShloMosaic.Lib.Pointwise

@[expose] public section

noncomputable section

namespace Cert.Bucket

open Idealize.ShloMosaic

/-- A comparison of two words for equality, read as a number. -/
theorem hot (x y : BitVec 32) : FloatOps.uitofp (F := Ideal) .f32 (IntOp.cmpi .eq x y) = if x = y then 1 else 0 := by
  show (((IntOp.cmpi .eq x y).toNat : ℝ) : EReal) = _
  show (((BitVec.ofBool (x == y)).toNat : ℝ) : EReal) = _
  by_cases h : x = y
  · simp [h]
  · simp [h, beq_eq_false_iff_ne.2 h]

/-- A word that is not negative is not shifted by the table's length. -/
theorem not_wrapped (x y : BitVec 32) (h : IntOp.cmpi .sge x 0#32 = 1#1) : Scalar.select (IntOp.cmpi .slt x 0#32) y x = x := by
  have hb : ∀ b : Bool, BitVec.ofBool b = 1#1 → b = true := by decide
  have h1 : (0#32).sle x = true := hb _ h
  have h2 : x.slt 0#32 = false := by
    rw [BitVec.sle_eq_decide, decide_eq_true_eq] at h1
    rw [BitVec.slt_eq_decide, decide_eq_false_iff_not]
    omega
  show (if BitVec.ofBool (x.slt 0#32) = 1#1 then y else x) = x
  rw [h2]
  rfl

/-- A word that is a table's row, read signed. -/
theorem word_eq (x : BitVec 32) (r : Fin 32) : x.toInt = (r.val : Int) ↔ x = BitVec.ofNat 32 r.val := by
  have hr : ∀ r : Fin 32, (BitVec.ofNat 32 r.val).toInt = (r.val : Int) := by
    decide
  constructor
  · intro h; exact BitVec.eq_of_toInt_eq (h.trans (hr r).symm)
  · rintro rfl; exact hr r

/-- A word between zero and the table's length is one of its rows. -/
theorem word_lt (x : BitVec 32) (h : IntOp.cmpi .sge x 0#32 = 1#1) (h' : IntOp.cmpi .slt x 32#32 = 1#1) : ∃ q : Fin 32, x = BitVec.ofNat 32 q.val := by
  have hb : ∀ b : Bool, BitVec.ofBool b = 1#1 → b = true := by decide
  have h1 : (0#32).sle x = true := hb _ h
  have h2 : x.slt 32#32 = true := hb _ h'
  rw [BitVec.sle_eq_decide, decide_eq_true_eq] at h1
  rw [BitVec.slt_eq_decide, decide_eq_true_eq] at h2
  have e0 : (0#32).toInt = 0 := by decide
  have e1 : (32#32).toInt = 32 := by decide
  rw [e0] at h1
  rw [e1] at h2
  exact ⟨⟨x.toInt.toNat, by omega⟩, (word_eq x ⟨x.toInt.toNat, by omega⟩).1 (by show x.toInt = (x.toInt.toNat : Int); omega)⟩

end Cert.Bucket

end
-- ==== Proof.BiasGrad.lean ====
/- The gradient of the table of relative positions: a sum over the positions of a bucket, as a product with one-hot rows and as a scatter. -/
module

public import proofs.«01_k».proof.Defs
public import proofs.«01_k».proof.Proof.Bucket
public import proofs.«01_k».proof.Proof.Gen.BiasGradIdeal.Value
public import proofs.«01_k».proof.Proof.Gen.BiasGradRefIdeal.Read
public import proofs.«01_k».proof.Proof.Gen.Pre_bucketed
public import proofs.«01_k».proof.Proof.Zero
public import Idealize.ShloMosaic.Lib.Routing.OpsPair

@[expose] public section

noncomputable section

namespace Cert.BiasGradValue

open Cert.BiasGradIdeal Cert.BiasGradIdeal.Gen Idealize.ShloMosaic Idealize.ShloMosaic.TcCoe Idealize.SL.Sem

/-- The sum over the positions whose bucket is the row, for a head. -/
def bucketSum (b : IVec S128x256 32) (d : Vec Ideal S32x128x256 .f32) (i : S32x32.Idx) : EReal :=
  ∑ n : Fin 32768, if b (ix2 ⟨n.val / 256, by omega⟩ ⟨n.val % 256, by omega⟩) = BitVec.ofNat 32 (i 0).val
    then d (ix3 (i 1) ⟨n.val / 256, by omega⟩ ⟨n.val % 256, by omega⟩) else 0

/-- The block's product at an index. -/
theorem payload_apply (x w : Vec Ideal S32x32768 .f32) (j : S32x32.Idx) :
    k0_pay1 (F := Ideal) x w j = ∑ k : Fin 32768, x (ix2 (j 0) k) * w (ix2 (j 1) k) := by
  pointwise [k0_pay1]

/-- What the body leaves in the output's buffer. -/
theorem out_eq (x w : Vec Ideal S32x32768 .f32) : out0_2 x w = k0_pay1 x w := by
  unfold out0_2
  rw [View.canon_unit_zero zero2, View.ld_unit_zero zero2, View.ld_unit_zero zero2]

variable (m : (ℓ : Loc nD τ sig) → Buf (Elt Ideal) ℓ)

/-- The one-hot rows that the host forms. -/
theorem rows_eq (c : Dev nD) (r : Fin 32) (n : Fin 32768) : V m c main_v6 (ix2 r n)
    = if (m (c.tc.loc main_arg0)) (ix2 ⟨n.val / 256, by omega⟩ ⟨n.val % 256, by omega⟩) = BitVec.ofNat 32 r.val then (1 : EReal) else 0 := by
  have e : @Eq (Vec Ideal S32x32768 .f32) (V m c main_v6) <| uitofp (F := Ideal) .f32 (cmpi .eq (broadcastInDim S32x32768 ![0, 1] bcast_S1x32768_S32x32768_0_1 (shapeCast S1x32768 (m (c.tc.loc main_arg0)) shapeCasts_S128x256_S1x32768))
      (broadcastInDim S32x32768 ![0, 1] bcast_S32x1_S32x32768_0_1 (broadcastInDim S32x1 ![0] bcast_S32_S32x1_0 (iotaInDim S32 32 0)))) := by
    show StableHlo.after hostOps0 _ _ = _
    after_results <;> rfl
  rw [e]
  refine (Bucket.hot _ _).trans ?_
  have hb : broadcastInDim S32x32768 ![0, 1] bcast_S1x32768_S32x32768_0_1 (shapeCast S1x32768 (m (c.tc.loc main_arg0) : IVec S128x256 32) shapeCasts_S128x256_S1x32768) (ix2 r n)
      = (m (c.tc.loc main_arg0)) (ix2 ⟨n.val / 256, by omega⟩ ⟨n.val % 256, by omega⟩) := by
    refine (broadcastInDim_apply _ _ _ _ (ix2 (0 : Fin 1) n) (fun a => by match a with | ⟨0, _⟩ => rfl | ⟨1, _⟩ => rfl)).trans ?_
    refine shapeCast_apply (s := S128x256) _ _ _ _ ?_
    rw [Shape.rowMajor_val_two, Shape.rowMajor_val_two]
    show n.val / 256 * 256 + n.val % 256 = 0 * 32768 + n.val
    omega
  have hr : broadcastInDim S32x32768 ![0, 1] bcast_S32x1_S32x32768_0_1 (broadcastInDim S32x1 ![0] bcast_S32_S32x1_0 (iotaInDim S32 32 0)) (ix2 r n) = BitVec.ofNat 32 r.val := by
    refine (broadcastInDim_apply _ _ _ _ (ix2 r (0 : Fin 1)) (fun a => by match a with | ⟨0, _⟩ => rfl | ⟨1, _⟩ => rfl)).trans ?_
    refine (broadcastInDim_apply _ _ _ _ (ix1 r) (fun a => by match a with | ⟨0, _⟩ => rfl)).trans ?_
    rfl
  rw [hb, hr]

/-- The gradient's array that the host lays out in rows. -/
theorem flat_eq (c : Dev nD) (r : Fin 32) (n : Fin 32768) : V m c main_v7 (ix2 r n)
    = (m (c.tc.loc main_arg1)) (ix3 r ⟨n.val / 256, by omega⟩ ⟨n.val % 256, by omega⟩) := by
  have e : @Eq (Vec Ideal S32x32768 .f32) (V m c main_v7) <| shapeCast S32x32768 (m (c.tc.loc main_arg1)) shapeCasts_S32x128x256_S32x32768 := by
    show StableHlo.after hostOps0 _ _ = _
    after_results <;> rfl
  rw [e]
  refine shapeCast_apply (s := S32x128x256) _ _ _ _ ?_
  rw [Shape.rowMajor_val_three, Shape.rowMajor_val_two]
  show (r.val * 128 + n.val / 256) * 256 + n.val % 256 = r.val * 32768 + n.val
  omega

theorem idx_facts : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

theorem mem_blk (t : Fin cfg0.N) (i : S32x32.Idx) : i ∈ ((cfg0.win 2).blk t).view.set ↔
    ∀ a : Fin 2, win0_2.index t a * S32x32.size a ≤ (i a).val ∧ (i a).val < win0_2.index t a * S32x32.size a + S32x32.size a := by
  show i ∈ ((View.whole main_v8).slice (win0_2.rect t)).set ↔ _
  rw [View.set_slice_whole, Rect.mem_set_unit]
  exact Iff.rfl

theorem covered (i : S32x32.Idx) : ∃ t : Fin cfg0.N, (cfg0.win 2).flush t = true ∧ i ∈ ((cfg0.win 2).blk t).view.set := by
  have h0 : (i 0).val < 32 := (i 0).isLt
  have h1 : (i 1).val < 32 := (i 1).isLt
  have t : Fin cfg0.N := ⟨0, by show 0 < 1; omega⟩
  obtain ⟨_, _, _, _, f4, f5⟩ := idx_facts t
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 32 ≤ (i 1).val ∧ (i 1).val < win0_2.index t (1 : Fin 2) * 32 + 32; omega

/-- A block of an array at an index is the array at the index's place. -/
theorem read_blk (t : Fin cfg0.N) (G : S32x32.Idx → EReal) (y : ((cfg0.win 2).xblock (cfg0.grid.coords t)).Idx) :
    ((cfg0.win 2).blk t).view.read (Elt Ideal) G y = G (((cfg0.win 2).blk t).view.emb y) := rfl

theorem flushed_eq (c : Dev nD) (t : Fin cfg0.N) : (dats m 0 c).flushed 2 t
    = ((cfg0.win 2).blk t).view.read (Elt Ideal) (bucketSum (m (c.tc.loc main_arg0)) (m (c.tc.loc main_arg1))) := by
  obtain ⟨f0, f1, f2, f3, f4, f5⟩ := idx_facts t
  rw [Value.flushed2, out_eq]
  funext y
  have b0 : (((cfg0.win 2).blk t).view.emb y 0).val = win0_2.index t (0 : Fin 2) * 32 + 1 * (y 0).val := rfl
  have b1 : (((cfg0.win 2).blk t).view.emb y 1).val = win0_2.index t (1 : Fin 2) * 32 + 1 * (y 1).val := rfl
  refine Eq.trans (b := k0_pay1 (F := Ideal) (iblk m c 0 t) (iblk m c 1 t) ((cfg0.win 2).xinj (grid0.coords t) y)) rfl ?_
  refine Eq.trans ?_ (read_blk t _ y).symm
  rw [payload_apply]
  unfold bucketSum
  refine Finset.sum_congr rfl fun k _ => ?_
  refine Eq.trans (congrArg₂ (· * ·) (?_ : _ = V m c main_v6 (ix2 (((cfg0.win 2).blk t).view.emb y 0) k)) (?_ : _ = V m c main_v7 (ix2 (((cfg0.win 2).blk t).view.emb y 1) k))) ?_
  · show V m c main_v6 (((cfg0.win 0).blk t).view.emb _) = _
    congr 1
    funext a; apply Fin.ext
    match a with
    | ⟨0, _⟩ => show win0_0.index t (0 : Fin 2) * 32 + 1 * (y 0).val = _; rw [f0]; rw [f4] at b0; exact b0.symm
    | ⟨1, _⟩ => show win0_0.index t (1 : Fin 2) * 32768 + 1 * k.val = k.val; omega
  · show V m c main_v7 (((cfg0.win 1).blk t).view.emb _) = _
    congr 1
    funext a; apply Fin.ext
    match a with
    | ⟨0, _⟩ => show win0_1.index t (0 : Fin 2) * 32 + 1 * (y 1).val = _; rw [f2]; rw [f5] at b1; exact b1.symm
    | ⟨1, _⟩ => show win0_1.index t (1 : Fin 2) * 32768 + 1 * k.val = k.val; omega
  · refine Eq.trans (congrArg₂ (fun a b : EReal => a * b) (rows_eq m c _ k) (flat_eq m c _ k)) ?_
    simp only [ite_mul, one_mul, zero_mul]

theorem array_eq (c : Dev nD) : (dats m 0 c).arrAt 2 cfg0.N
    = bucketSum (m (c.tc.loc main_arg0)) (m (c.tc.loc main_arg1)) :=
  (dats m 0 c).arrAt_eq_of_cover 2 _ (fun t _ => flushed_eq m c t) covered

/-- Where an update lands: its bucket's row, its head's column. -/
theorem lands (idx : IVec BiasGradRefIdeal.S128x256x1 32) (p : Fin 128) (q : Fin 256) (h r k : Fin 32) :
    BiasGradRefIdeal.scatter_S32x32_S128x256x1_S128x256x32_2_0_0_2.resultIdx? (ix3 p q h) idx = some (ix2 r k)
      ↔ (idx (ix3 p q 0)).toInt = (r.val : Int) ∧ h = k := by
  refine (Routing.resultIdx?_ix2 (R := 32) (C := 32) _ _ _ r k).trans ?_
  have hs0 : BiasGradRefIdeal.scatter_S32x32_S128x256x1_S128x256x32_2_0_0_2.start (ix3 p q h) idx (0 : Fin 2) = (idx (ix3 p q 0)).toInt := by
    unfold ScatterDims.start
    rw [dif_pos (by decide)]
    refine congrArg (fun z => (idx z).toInt) ?_
    funext a
    match a with
    | ⟨0, _⟩ => rfl
    | ⟨1, _⟩ => rfl
    | ⟨2, _⟩ => rfl
  have hs1 : BiasGradRefIdeal.scatter_S32x32_S128x256x1_S128x256x32_2_0_0_2.start (ix3 p q h) idx (1 : Fin 2) = 0 := by
    unfold ScatterDims.start
    rw [dif_neg (by decide)]
  have hw0 : BiasGradRefIdeal.scatter_S32x32_S128x256x1_S128x256x32_2_0_0_2.window (ix3 p q h) (0 : Fin 2) = 0 := rfl
  have hw1 : BiasGradRefIdeal.scatter_S32x32_S128x256x1_S128x256x32_2_0_0_2.window (ix3 p q h) (1 : Fin 2) = h.val := rfl
  rw [hs0, hs1, hw0, hw1, Fin.ext_iff]
  omega

/-- The reference's scatter is the sum over the positions of the bucket. -/
theorem reference_eq (b : IVec S128x256 32) (d : Vec Ideal S32x128x256 .f32) (hb : ∀ j, IntOp.cmpi .sge (b j) 0#32 = 1#1) :
    BiasGradRefIdeal.Read.val_main_v11 (F := Ideal) b d = bucketSum b d := by
  funext i
  unfold BiasGradRefIdeal.Read.val_main_v11
  show BiasGradRefIdeal.Read.val_main_v10 (F := Ideal) i + ∑ j ∈ Finset.univ.filter (fun j => BiasGradRefIdeal.scatter_S32x32_S128x256x1_S128x256x32_2_0_0_2.resultIdx? j (BiasGradRefIdeal.Read.val_main_v6 (F := Ideal) b) = some i), BiasGradRefIdeal.Read.val_main_v9 (F := Ideal) d j = _
  have hz : BiasGradRefIdeal.Read.val_main_v10 (F := Ideal) i = 0 := by
    pointwise [BiasGradRefIdeal.Read.val_main_v10, BiasGradRefIdeal.Read.val_main_cst_1]
  have hw : ∀ p q, BiasGradRefIdeal.Read.val_main_v6 (F := Ideal) b (ix3 p q 0) = b (ix2 p q) := fun p q => by
    rw [BiasGradRefIdeal.Read.val_main_v6_apply, BiasGradRefIdeal.Read.val_main_v5_apply, BiasGradRefIdeal.Read.val_main_v2_apply, BiasGradRefIdeal.Read.val_main_v1_apply, BiasGradRefIdeal.Read.val_main_c_apply]
    refine Eq.trans (Bucket.not_wrapped _ _ (hb _)) ?_
    congr 1
    funext a; match a with | ⟨0, _⟩ => rfl | ⟨1, _⟩ => rfl
  rw [hz, zero_add]
  unfold bucketSum
  rw [← Finset.sum_filter]
  symm
  refine Finset.sum_nbij' (fun n : Fin 32768 => (ix3 ⟨n.val / 256, by omega⟩ ⟨n.val % 256, by omega⟩ (i 1) : BiasGradRefIdeal.S128x256x32.Idx))
    (fun j : BiasGradRefIdeal.S128x256x32.Idx => (⟨(j 0).val * 256 + (j 1).val, by have h0 : (j 0).val < 128 := (j 0).isLt; have h1 : (j 1).val < 256 := (j 1).isLt; omega⟩ : Fin 32768)) ?_ ?_ ?_ ?_ ?_
  · intro n hn
    rw [Finset.mem_filter] at hn ⊢
    refine ⟨Finset.mem_univ _, ?_⟩
    rw [eq_ix2 i]
    refine (lands _ _ _ _ _ _).2 ⟨?_, rfl⟩
    rw [hw]
    exact (Bucket.word_eq _ _).2 hn.2
  · intro j hj
    rw [Finset.mem_filter] at hj ⊢
    refine ⟨Finset.mem_univ _, ?_⟩
    have h0 : (j 0).val < 128 := (j 0).isLt; have h1 : (j 1).val < 256 := (j 1).isLt
    have hl := hj.2
    rw [eq_ix2 i, eq_ix3 j] at hl
    have hl := ((lands _ _ _ _ _ _).1 hl).1
    refine Eq.trans (congrArg b ?_) ((Bucket.word_eq _ (i 0)).1 ((congrArg BitVec.toInt (hw (j 0) (j 1))).symm.trans hl))
    funext a; apply Fin.ext
    match a with
    | ⟨0, _⟩ => show ((j 0).val * 256 + (j 1).val) / 256 = (j 0).val; omega
    | ⟨1, _⟩ => show ((j 0).val * 256 + (j 1).val) % 256 = (j 1).val; omega
  · intro n _
    apply Fin.ext
    show n.val / 256 * 256 + n.val % 256 = n.val
    omega
  · intro j hj
    rw [Finset.mem_filter] at hj
    have h0 : (j 0).val < 128 := (j 0).isLt; have h1 : (j 1).val < 256 := (j 1).isLt
    have hl := hj.2
    rw [eq_ix2 i, eq_ix3 j] at hl
    have hl := ((lands _ _ _ _ _ _).1 hl).2
    funext a; apply Fin.ext
    match a with
    | ⟨0, _⟩ => show ((j 0).val * 256 + (j 1).val) / 256 = (j 0).val; omega
    | ⟨1, _⟩ => show ((j 0).val * 256 + (j 1).val) % 256 = (j 1).val; omega
    | ⟨2, _⟩ => exact (congrArg Fin.val hl).symm
  · intro n _
    rw [BiasGradRefIdeal.Read.val_main_v9_apply]
    congr 1
    funext a; match a with | ⟨0, _⟩ => rfl | ⟨1, _⟩ => rfl | ⟨2, _⟩ => rfl

/-- What the precondition says of the buckets. -/
theorem bucketed_of_pre [Cert.Pre_bucketed.Facts] (b : IVec S128x256 32) (d : Vec Ideal S32x128x256 .f32)
    (h : Cert.Pre_bucketed.fn (F := Ideal) b d = fun _ => 1#1) (j : S128x256.Idx) : IntOp.cmpi .sge (b j) 0#32 = 1#1 := by
  have h0 := congrFun h (fun a => a.elim0)
  unfold Cert.Pre_bucketed.fn at h0
  exact Host.reduce_andi_all _ _ _ _ _ h0 j

/-- The kernel and the reference hold the same sums. -/
theorem algebraic : Cert.algebraic_BiasGradIdeal_BiasGradRefIdeal_pre_bucketed := by
  intro m g m' g' hpre hagree
  refine ⟨fun c => bucketSum (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (BiasGradRefIdeal.Read.val_main_v11_eq ..)).trans ?_, (h c).2⟩) (BiasGradRefIdeal.Value.run m' g')⟩
  rw [(hagree c).1, (hagree c).2]
  exact reference_eq _ _ (bucketed_of_pre _ _ (hpre c))

end Cert.BiasGradValue

end
-- ==== Proof.Bias.lean ====
/- The table of relative positions read at each position: a product with one-hot rows, and a gather. -/
module

public import proofs.«01_k».proof.Defs
public import proofs.«01_k».proof.Proof.Bucket
public import proofs.«01_k».proof.Proof.Gen.BiasIdeal.Value
public import proofs.«01_k».proof.Proof.Gen.BiasRefIdeal.Read
public import proofs.«01_k».proof.Proof.Gen.Pre_bucketed_table
public import proofs.«01_k».proof.Proof.Zero

@[expose] public section

noncomputable section

namespace Cert.BiasValue

open Cert.BiasIdeal Cert.BiasIdeal.Gen Idealize.ShloMosaic Idealize.ShloMosaic.TcCoe Idealize.SL.Sem

/-- The table's row for a position. -/
def row (b : IVec S128x256 32) (n : Fin 32768) : Fin 32 :=
  ⟨min (b (ix2 ⟨n.val / 256, by omega⟩ ⟨n.val % 256, by omega⟩)).toInt.toNat 31, by omega⟩

/-- The table at each position's row, for a head. -/
def table (b : IVec S128x256 32) (r : Vec Ideal S32x32 .f32) (i : S32x32768.Idx) : EReal := r (ix2 (row b (i 1)) (i 0))

/-- Every bucket is a row of the table. -/
abbrev Rows (b : IVec S128x256 32) : Prop := ∀ j, ∃ q : Fin 32, b j = BitVec.ofNat 32 q.val

theorem row_eq {b : IVec S128x256 32} (n : Fin 32768) (q : Fin 32)
    (h : b (ix2 ⟨n.val / 256, by omega⟩ ⟨n.val % 256, by omega⟩) = BitVec.ofNat 32 q.val) : row b n = q := by
  apply Fin.ext
  show min (b (ix2 ⟨n.val / 256, by omega⟩ ⟨n.val % 256, by omega⟩)).toInt.toNat 31 = q.val
  rw [(Bucket.word_eq _ q).2 h]
  have := q.isLt
  omega

/-- The block's product at an index. -/
theorem payload_apply (x : Vec Ideal S32x32 .f32) (w : Vec Ideal S32x32768 .f32) (j : S32x32768.Idx) :
    k0_pay1 (F := Ideal) x w j = ∑ k : Fin 32, x (ix2 k (j 0)) * w (ix2 k (j 1)) := by
  pointwise [k0_pay1]

/-- What the body leaves in the output's buffer. -/
theorem out_eq (x : Vec Ideal S32x32 .f32) (w : Vec Ideal S32x32768 .f32) : out0_2 x w = k0_pay1 x w := by
  unfold out0_2
  rw [View.canon_unit_zero zero2, View.ld_unit_zero zero2, View.ld_unit_zero zero2]

variable (m : (ℓ : Loc nD τ sig) → Buf (Elt Ideal) ℓ)

/-- The one-hot rows that the host forms. -/
theorem rows_eq (c : Dev nD) (r : Fin 32) (n : Fin 32768) : V m c main_v6 (ix2 r n)
    = if (m (c.tc.loc main_arg0)) (ix2 ⟨n.val / 256, by omega⟩ ⟨n.val % 256, by omega⟩) = BitVec.ofNat 32 r.val then (1 : EReal) else 0 := by
  have e : @Eq (Vec Ideal S32x32768 .f32) (V m c main_v6) <| uitofp (F := Ideal) .f32 (cmpi .eq (broadcastInDim S32x32768 ![0, 1] bcast_S1x32768_S32x32768_0_1 (shapeCast S1x32768 (m (c.tc.loc main_arg0)) shapeCasts_S128x256_S1x32768))
      (broadcastInDim S32x32768 ![0, 1] bcast_S32x1_S32x32768_0_1 (broadcastInDim S32x1 ![0] bcast_S32_S32x1_0 (iotaInDim S32 32 0)))) := by
    show StableHlo.after hostOps0 _ _ = _
    after_results <;> rfl
  rw [e]
  refine (Bucket.hot _ _).trans ?_
  have hb : broadcastInDim S32x32768 ![0, 1] bcast_S1x32768_S32x32768_0_1 (shapeCast S1x32768 (m (c.tc.loc main_arg0) : IVec S128x256 32) shapeCasts_S128x256_S1x32768) (ix2 r n)
      = (m (c.tc.loc main_arg0)) (ix2 ⟨n.val / 256, by omega⟩ ⟨n.val % 256, by omega⟩) := by
    refine (broadcastInDim_apply _ _ _ _ (ix2 (0 : Fin 1) n) (fun a => by match a with | ⟨0, _⟩ => rfl | ⟨1, _⟩ => rfl)).trans ?_
    refine shapeCast_apply (s := S128x256) _ _ _ _ ?_
    rw [Shape.rowMajor_val_two, Shape.rowMajor_val_two]
    show n.val / 256 * 256 + n.val % 256 = 0 * 32768 + n.val
    omega
  have hr : broadcastInDim S32x32768 ![0, 1] bcast_S32x1_S32x32768_0_1 (broadcastInDim S32x1 ![0] bcast_S32_S32x1_0 (iotaInDim S32 32 0)) (ix2 r n) = BitVec.ofNat 32 r.val := by
    refine (broadcastInDim_apply _ _ _ _ (ix2 r (0 : Fin 1)) (fun a => by match a with | ⟨0, _⟩ => rfl | ⟨1, _⟩ => rfl)).trans ?_
    refine (broadcastInDim_apply _ _ _ _ (ix1 r) (fun a => by match a with | ⟨0, _⟩ => rfl)).trans ?_
    rfl
  rw [hb, hr]

theorem idx_facts : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

theorem mem_blk (t : Fin cfg0.N) (i : S32x32768.Idx) : i ∈ ((cfg0.win 2).blk t).view.set ↔
    ∀ a : Fin 2, win0_2.index t a * S32x32768.size a ≤ (i a).val ∧ (i a).val < win0_2.index t a * S32x32768.size a + S32x32768.size a := by
  show i ∈ ((View.whole main_v7).slice (win0_2.rect t)).set ↔ _
  rw [View.set_slice_whole, Rect.mem_set_unit]
  exact Iff.rfl

theorem covered (i : S32x32768.Idx) : ∃ t : Fin cfg0.N, (cfg0.win 2).flush t = true ∧ i ∈ ((cfg0.win 2).blk t).view.set := by
  have h0 : (i 0).val < 32 := (i 0).isLt
  have h1 : (i 1).val < 32768 := (i 1).isLt
  have t : Fin cfg0.N := ⟨0, by show 0 < 1; omega⟩
  obtain ⟨_, _, _, _, f4, f5⟩ := idx_facts t
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 32768 ≤ (i 1).val ∧ (i 1).val < win0_2.index t (1 : Fin 2) * 32768 + 32768; omega

/-- A block of an array at an index is the array at the index's place. -/
theorem read_blk (t : Fin cfg0.N) (G : S32x32768.Idx → EReal) (y : ((cfg0.win 2).xblock (cfg0.grid.coords t)).Idx) :
    ((cfg0.win 2).blk t).view.read (Elt Ideal) G y = G (((cfg0.win 2).blk t).view.emb y) := rfl

theorem flushed_eq (c : Dev nD) (hb : Rows (m (c.tc.loc main_arg0))) (t : Fin cfg0.N) : (dats m 0 c).flushed 2 t
    = ((cfg0.win 2).blk t).view.read (Elt Ideal) (table (m (c.tc.loc main_arg0)) (m (c.tc.loc main_arg1))) := by
  obtain ⟨f0, f1, f2, f3, f4, f5⟩ := idx_facts t
  rw [Value.flushed2, out_eq]
  funext y
  have b0 : (((cfg0.win 2).blk t).view.emb y 0).val = win0_2.index t (0 : Fin 2) * 32 + 1 * (y 0).val := rfl
  have b1 : (((cfg0.win 2).blk t).view.emb y 1).val = win0_2.index t (1 : Fin 2) * 32768 + 1 * (y 1).val := rfl
  refine Eq.trans (b := k0_pay1 (F := Ideal) (iblk m c 0 t) (iblk m c 1 t) ((cfg0.win 2).xinj (grid0.coords t) y)) rfl ?_
  refine Eq.trans ?_ (read_blk t _ y).symm
  rw [payload_apply]
  refine Eq.trans (Finset.sum_congr rfl fun k _ => congrArg₂ (fun a b : EReal => a * b)
    (?_ : _ = (m (c.tc.loc main_arg1)) (ix2 k (((cfg0.win 2).blk t).view.emb y 0)))
    ((?_ : _ = V m c main_v6 (ix2 k (((cfg0.win 2).blk t).view.emb y 1))).trans (rows_eq m c k _))) ?_
  · refine Eq.trans (b := V m c main_arg1 (((cfg0.win 0).blk t).view.emb (ix2 k (y 0)))) rfl ?_
    rw [V_main_arg1]
    congr 1
    funext a; apply Fin.ext
    match a with
    | ⟨0, _⟩ => show win0_0.index t (0 : Fin 2) * 32 + 1 * k.val = k.val; omega
    | ⟨1, _⟩ => show win0_0.index t (1 : Fin 2) * 32 + 1 * (y 0).val = _; rw [f1]; rw [f4] at b0; exact b0.symm
  · show V m c main_v6 (((cfg0.win 1).blk t).view.emb _) = _
    congr 1
    funext a; apply Fin.ext
    match a with
    | ⟨0, _⟩ => show win0_1.index t (0 : Fin 2) * 32 + 1 * k.val = k.val; omega
    | ⟨1, _⟩ => show win0_1.index t (1 : Fin 2) * 32768 + 1 * (y 1).val = _; rw [f3]; rw [f5] at b1; exact b1.symm
  · obtain ⟨q, hq⟩ := hb (ix2 ⟨(((cfg0.win 2).blk t).view.emb y 1).val / 256, by have : (((cfg0.win 2).blk t).view.emb y 1).val < 32768 := (((cfg0.win 2).blk t).view.emb y 1).isLt; omega⟩ ⟨(((cfg0.win 2).blk t).view.emb y 1).val % 256, by omega⟩)
    refine (Finset.sum_eq_single q (fun k _ hk => ?_) (fun h => absurd (Finset.mem_univ q) h)).trans ?_
    · rw [if_neg, mul_zero]
      intro h
      exact hk ((row_eq _ _ h).symm.trans (row_eq _ _ hq))
    · show _ * (if _ then (1 : EReal) else 0) = _
      rw [if_pos hq, mul_one]
      unfold table
      rw [row_eq _ _ hq]

theorem array_eq (c : Dev nD) (hb : Rows (m (c.tc.loc main_arg0))) : (dats m 0 c).arrAt 2 cfg0.N
    = table (m (c.tc.loc main_arg0)) (m (c.tc.loc main_arg1)) :=
  (dats m 0 c).arrAt_eq_of_cover 2 _ (fun t _ => flushed_eq m c hb t) covered

/-- Where the gather reads: the bucket's row, the head's column. -/
theorem reads (x : Vec Ideal S32x32 .f32) (idx : IVec BiasRefIdeal.S128x256x1 32) (p : Fin 128) (q : Fin 256) (h : Fin 32) :
    Host.gather BiasRefIdeal.gather_S32x32_S128x256x1_S128x256x32_2_0_n_n_0_2_132 x idx (ix3 p q h)
      = x (ix2 ⟨min (idx (ix3 p q 0)).toInt.toNat 31, by omega⟩ h) := by
  unfold Host.gather
  congr 1
  funext a; apply Fin.ext
  match a with
  | ⟨0, _⟩ =>
    show min (idx (BiasRefIdeal.gather_S32x32_S128x256x1_S128x256x32_2_0_n_n_0_2_132.siIdx (ix3 p q h) _)).toInt.toNat 31 = min (idx (ix3 p q 0)).toInt.toNat 31
    refine congrArg (fun z => min (idx z).toInt.toNat 31) ?_
    funext a
    match a with
    | ⟨0, _⟩ => rfl
    | ⟨1, _⟩ => rfl
    | ⟨2, _⟩ => rfl
  | ⟨1, _⟩ => show 0 + 0 + h.val = h.val; omega

/-- The reference's gather is the table at each position's row. -/
theorem reference_eq (b : IVec S128x256 32) (r : Vec Ideal S32x32 .f32) (hb : ∀ j, IntOp.cmpi .sge (b j) 0#32 = 1#1) :
    BiasRefIdeal.Read.val_main_v8 (F := Ideal) b r = table b r := by
  funext i
  have h0 : (i 0).val < 32 := (i 0).isLt
  have h1 : (i 1).val < 32768 := (i 1).isLt
  have hw : ∀ p q, BiasRefIdeal.Read.val_main_v5 (F := Ideal) b (ix3 p q 0) = b (ix2 p q) := fun p q => by
    rw [BiasRefIdeal.Read.val_main_v5_apply, BiasRefIdeal.Read.val_main_v4_apply, BiasRefIdeal.Read.val_main_v1_apply, BiasRefIdeal.Read.val_main_v0_apply, BiasRefIdeal.Read.val_main_c_apply]
    refine Eq.trans (Bucket.not_wrapped _ _ (hb _)) ?_
    congr 1
    funext a; match a with | ⟨0, _⟩ => rfl | ⟨1, _⟩ => rfl
  rw [BiasRefIdeal.Read.val_main_v8_apply, BiasRefIdeal.Read.val_main_v7_apply]
  unfold BiasRefIdeal.Read.val_main_v6
  refine Eq.trans (congrArg _ (eq_ix3 _)) ((reads _ _ _ _ _).trans ?_)
  unfold table row
  congr 1
  funext a; apply Fin.ext
  match a with
  | ⟨0, _⟩ =>
    refine congrArg (fun z : BitVec 32 => min z.toInt.toNat 31) ((hw _ _).trans (congrArg b ?_))
    funext a; apply Fin.ext
    match a with
    | ⟨0, _⟩ => show ((i 0).val * 32768 + (i 1).val) / 256 % 128 = (i 1).val / 256; omega
    | ⟨1, _⟩ => show ((i 0).val * 32768 + (i 1).val) % 256 = (i 1).val % 256; omega
  | ⟨1, _⟩ => show ((i 0).val * 32768 + (i 1).val) / 32768 = (i 0).val; omega

/-- What the precondition says of the buckets. -/
theorem rows_of_pre [Cert.Pre_bucketed_table.Facts] (b : IVec S128x256 32) (r : Vec Ideal S32x32 .f32)
    (h : Cert.Pre_bucketed_table.fn (F := Ideal) b r = fun _ => 1#1) :
    Rows b ∧ ∀ j, IntOp.cmpi .sge (b j) 0#32 = 1#1 := by
  have h0 := congrFun h (fun a => a.elim0)
  unfold Cert.Pre_bucketed_table.fn at h0
  have h1 : ∀ j, IntOp.andi (IntOp.cmpi .sge (b j) 0#32) (IntOp.cmpi .slt (b j) 32#32) = 1#1 := fun j => Host.reduce_andi_all _ _ _ _ _ h0 j
  exact ⟨fun j => Bucket.word_lt _ (IntOp.andi_eq_one.1 (h1 j)).1 (IntOp.andi_eq_one.1 (h1 j)).2, fun j => (IntOp.andi_eq_one.1 (h1 j)).1⟩

/-- The kernel and the reference hold the same table. -/
theorem algebraic : Cert.algebraic_BiasIdeal_BiasRefIdeal_pre_bucketed_table := by
  intro m g m' g' hpre hagree
  refine ⟨fun c => table (m (c.tc.loc main_arg0)) (m (c.tc.loc main_arg1)),
    (θ_run _ _ _).mono (fun r h c => ⟨(h c).1.trans (array_eq m c (rows_of_pre _ _ (hpre c)).1), (h c).2⟩) (Value.run_blocks m g),
    (θ_run _ _ _).mono (fun r h c => ⟨((h c).1.trans (BiasRefIdeal.Read.val_main_v8_eq ..)).trans ?_, (h c).2⟩) (BiasRefIdeal.Value.run m' g')⟩
  rw [(hagree c).1, (hagree c).2]
  exact reference_eq _ _ (rows_of_pre _ _ (hpre c)).2

end Cert.BiasValue

end
-- ==== Proof.PoolW.lean ====
/- The pooling layer's weight gradient, group by group, summed over four blocks of rows: what the kernel's array holds, and that it is the reference's gradient. -/
module

public import proofs.«01_k».proof.Defs
public import proofs.«01_k».proof.Proof.Gen.PoolWIdeal.Value
public import proofs.«01_k».proof.Proof.Gen.PoolWRefIdeal.Read
public import proofs.«01_k».proof.Proof.Zero

@[expose] public section

noncomputable section

namespace Cert.PoolWValue

open Cert.PoolWIdeal Cert.PoolWIdeal.Gen Idealize.ShloMosaic Idealize.ShloMosaic.TcCoe Idealize.SL.Sem

/-- The gradient at an index: a column of the activations against a column of the gradient. -/
def gradient (a : Vec Ideal S8192x2048 .bf16) (d : Vec Ideal S8192x2048 .bf16) (i : S4x512x512.Idx) : EReal :=
  ∑ k : Fin 8192, a (ix2 k ⟨(i 0).val * 512 + (i 1).val, by
      have : (i 0).val < 4 := (i 0).isLt; have : (i 1).val < 512 := (i 1).isLt; show _ < 2048; omega⟩) * d (ix2 k ⟨(i 0).val * 512 + (i 2).val, by
      have : (i 0).val < 4 := (i 0).isLt; have : (i 2).val < 512 := (i 2).isLt; show _ < 2048; omega⟩)

/-- The same over the rows of one block of 2048. -/
def part (a : Vec Ideal S8192x2048 .bf16) (d : Vec Ideal S8192x2048 .bf16) (s r q : ℕ) : EReal :=
  ∑ k : Fin 2048, a (ix2 ⟨(s * 2048 + k.val) % 8192, Nat.mod_lt _ (by decide)⟩ ⟨r % 2048, Nat.mod_lt _ (by decide)⟩)
    * d (ix2 ⟨(s * 2048 + k.val) % 8192, Nat.mod_lt _ (by decide)⟩ ⟨q % 2048, Nat.mod_lt _ (by decide)⟩)

/-- The four blocks' sums make the whole one. -/
theorem parts_sum (a : Vec Ideal S8192x2048 .bf16) (d : Vec Ideal S8192x2048 .bf16) (i : S4x512x512.Idx) :
    ∑ s ∈ Finset.range 4, part a d s ((i 0).val * 512 + (i 1).val) ((i 0).val * 512 + (i 2).val) = gradient a d i := by
  have h0 : (i 0).val < 4 := (i 0).isLt
  have h1 : (i 1).val < 512 := (i 1).isLt
  have h2 : (i 2).val < 512 := (i 2).isLt
  unfold gradient
  rw [Fin.sum_univ_tiles 4 2048 (by decide), ← Fin.sum_univ_eq_sum_range (fun s => part a d s ((i 0).val * 512 + (i 1).val) ((i 0).val * 512 + (i 2).val)) 4]
  refine Finset.sum_congr rfl fun s _ => Finset.sum_congr rfl fun k _ => ?_
  have e : (s.val * 2048 + k.val) % 8192 = s.val * 2048 + k.val := by omega
  have e1 : ((i 0).val * 512 + (i 1).val) % 2048 = (i 0).val * 512 + (i 1).val := by omega
  have e2 : ((i 0).val * 512 + (i 2).val) % 2048 = (i 0).val * 512 + (i 2).val := by omega
  simp only [e, e1, e2]

theorem block_apply (x : Vec Ideal S2048x512 .bf16) (d : Vec Ideal S2048x512 .bf16) (j : S512x512.Idx) :
    k0_pay1 (F := Ideal) x d j = ∑ k : Fin 2048, x (ix2 k (j 0)) * d (ix2 k (j 1)) := by
  pointwise [k0_pay1]

/-- The first block of a run leaves its product. -/
theorem scratch_A (c : Dev nD) (i : grid0.Coords) (b3 : Memref sig .tc .vmem S2048x512 .bf16) (h3 : b3.IsWhole) (b4 : Memref sig .tc .vmem S2048x512 .bf16) (h4 : b4.IsWhole) (b5 : Memref sig .tc .vmem S1x512x512 .f32) (h5 : b5.IsWhole) (b6 : Memref sig .tc .vmem S512x512 .f32) (h6 : b6.IsWhole) (hc0 : cond0_0 i) (hc1 : ¬cond0_1 i) (hc2 : ¬cond0_2 i)
    (x : Vec Ideal S2048x512 .bf16) (d : Vec Ideal S2048x512 .bf16) :
    sout0_A_0 c i b3 h3 b4 h4 b5 h5 b6 h6 hc0 hc1 hc2 x d = k0_pay1 x d := by
  unfold sout0_A_0
  rw [View.read_writes_eq_canon _ _ _ (scover0_A_0 c i b3 h3 b4 h4 b5 h5 b6 h6 hc0 hc1 hc2 x d)]
  unfold kernelRun0_A
  dsimp only
  sl_unfold_words
  rw [View.canon_unit_zero zero2]
  unfold k0_pay2
  simp only [View.readAt_eq_ld, h3.read_unread, h4.read_unread, View.ld_unit_zero (S := S2048x512) zero2, View.ld_unit_zero (S := S2048x512) zero2, shapeCast_self]

/-- A block in the middle of a run adds its product. -/
theorem scratch_B (c : Dev nD) (i : grid0.Coords) (b3 : Memref sig .tc .vmem S2048x512 .bf16) (h3 : b3.IsWhole) (b4 : Memref sig .tc .vmem S2048x512 .bf16) (h4 : b4.IsWhole) (b5 : Memref sig .tc .vmem S1x512x512 .f32) (h5 : b5.IsWhole) (b6 : Memref sig .tc .vmem S512x512 .f32) (h6 : b6.IsWhole) (hc0 : ¬cond0_0 i) (hc1 : cond0_1 i) (hc2 : ¬cond0_2 i)
    (x : Vec Ideal S2048x512 .bf16) (d : Vec Ideal S2048x512 .bf16) (s : Vec Ideal S512x512 .f32) :
    sout0_B_0 c i b3 h3 b4 h4 b5 h5 b6 h6 hc0 hc1 hc2 x d s = addf s (k0_pay1 x d) := by
  unfold sout0_B_0
  rw [View.read_writes_eq_canon _ _ _ (scover0_B_0 c i b3 h3 b4 h4 b5 h5 b6 h6 hc0 hc1 hc2 x d s)]
  unfold kernelRun0_B
  dsimp only
  sl_unfold_words
  rw [View.canon_unit_zero zero2]
  unfold k0_pay3
  simp only [View.readAt_eq_ld, h3.read_unread, h4.read_unread, h6.read_unread, View.ld_unit_zero (S := S2048x512) zero2, View.ld_unit_zero (S := S2048x512) zero2, View.ld_unit_zero (S := S512x512) zero2, shapeCast_self]

/-- The last block of a run adds its product too. -/
theorem scratch_C (c : Dev nD) (i : grid0.Coords) (b3 : Memref sig .tc .vmem S2048x512 .bf16) (h3 : b3.IsWhole) (b4 : Memref sig .tc .vmem S2048x512 .bf16) (h4 : b4.IsWhole) (b5 : Memref sig .tc .vmem S1x512x512 .f32) (h5 : b5.IsWhole) (b6 : Memref sig .tc .vmem S512x512 .f32) (h6 : b6.IsWhole) (hc0 : ¬cond0_0 i) (hc1 : cond0_1 i) (hc2 : cond0_2 i)
    (x : Vec Ideal S2048x512 .bf16) (d : Vec Ideal S2048x512 .bf16) (s : Vec Ideal S512x512 .f32) :
    sout0_C_0 c i b3 h3 b4 h4 b5 h5 b6 h6 hc0 hc1 hc2 x d s = addf s (k0_pay1 x d) := by
  unfold sout0_C_0
  rw [View.read_writes_eq_canon _ _ _ (scover0_C_0 c i b3 h3 b4 h4 b5 h5 b6 h6 hc0 hc1 hc2 x d s)]
  unfold kernelRun0_C
  dsimp only
  sl_unfold_words
  rw [View.canon_unit_zero zero2]
  unfold k0_pay3
  simp only [View.readAt_eq_ld, h3.read_unread, h4.read_unread, h6.read_unread, View.ld_unit_zero (S := S2048x512) zero2, View.ld_unit_zero (S := S2048x512) zero2, View.ld_unit_zero (S := S512x512) zero2, shapeCast_self]

/-- The last block of a run writes the sum out. -/
theorem out_C (c : Dev nD) (i : grid0.Coords) (b3 : Memref sig .tc .vmem S2048x512 .bf16) (h3 : b3.IsWhole) (b4 : Memref sig .tc .vmem S2048x512 .bf16) (h4 : b4.IsWhole) (b5 : Memref sig .tc .vmem S1x512x512 .f32) (h5 : b5.IsWhole) (b6 : Memref sig .tc .vmem S512x512 .f32) (h6 : b6.IsWhole) (hc0 : ¬cond0_0 i) (hc1 : cond0_1 i) (hc2 : cond0_2 i)
    (x : Vec Ideal S2048x512 .bf16) (d : Vec Ideal S2048x512 .bf16) (s : Vec Ideal S512x512 .f32) :
    out0_C_2 c i b3 h3 b4 h4 b5 h5 b6 h6 hc0 hc1 hc2 x d s = k0_pay4 (addf s (k0_pay1 x d)) := by
  unfold out0_C_2
  rw [View.read_writes_eq_canon _ _ _ (cover0_C_2 c i b3 h3 b4 h4 b5 h5 b6 h6 hc0 hc1 hc2 x d s)]
  unfold kernelRun0_C
  dsimp only
  sl_unfold_words
  rw [View.canon_unit_zero zero3, View.readCov_unit_zero (S := S512x512) _ zero2]
  unfold k0_pay3
  simp only [View.readAt_eq_ld, h3.read_unread, h4.read_unread, h6.read_unread, View.ld_unit_zero (S := S2048x512) zero2, View.ld_unit_zero (S := S2048x512) zero2, View.ld_unit_zero (S := S512x512) zero2, shapeCast_self]

theorem idx_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = t.val / 4
    ∧ win0_2.index t (0 : Fin 3) = t.val / 4 ∧ win0_2.index t (1 : Fin 3) = 0 ∧ win0_2.index t (2 : Fin 3) = 0 :=
  (by decide +kernel : ∀ t : Fin grid0.N, _)

theorem onto2 : ∀ (p0 : Fin 4) (p1 : Fin 1) (p2 : Fin 1), ∃ t : Fin cfg0.N, (cfg0.win 2).flush t = true ∧ win0_2.index t (0 : Fin 3) = p0.val ∧ win0_2.index t (1 : Fin 3) = p1.val ∧ win0_2.index t (2 : Fin 3) = p2.val :=
  fun p0 p1 p2 => ⟨⟨4 * (p0.val + p1.val + p2.val) + 3, by show _ < 16; omega⟩,
    (by decide +kernel : ∀ (p0 : Fin 4) (p1 : Fin 1) (p2 : Fin 1), win0_2.flush (⟨4 * (p0.val + p1.val + p2.val) + 3, by show _ < 16; omega⟩ : Fin grid0.N) = true
      ∧ win0_2.index (⟨4 * (p0.val + p1.val + p2.val) + 3, by show _ < 16; omega⟩ : Fin grid0.N) (0 : Fin 3) = p0.val ∧ win0_2.index (⟨4 * (p0.val + p1.val + p2.val) + 3, by show _ < 16; omega⟩ : Fin grid0.N) (1 : Fin 3) = p1.val ∧ win0_2.index (⟨4 * (p0.val + p1.val + p2.val) + 3, by show _ < 16; omega⟩ : Fin grid0.N) (2 : Fin 3) = p2.val) p0 p1 p2⟩

theorem mem_blk2 (t : Fin cfg0.N) (i : S4x512x512.Idx) : i ∈ ((cfg0.win 2).blk t).view.set ↔
    ∀ a : Fin 3, win0_2.index t a * S1x512x512.size a ≤ (i a).val ∧ (i a).val < win0_2.index t a * S1x512x512.size a + S1x512x512.size a := by
  show i ∈ ((View.whole main_v0).slice (win0_2.rect t)).set ↔ _
  rw [View.set_slice_whole, Rect.mem_set_unit]
  exact Iff.rfl

/-- Every index of the array lies in a block that is written back. -/
theorem covered2 (i : S4x512x512.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 512 := (i 2).isLt
  obtain ⟨t, ht, e0, e1, e2⟩ := onto2 ⟨(i 0).val / 1, by omega⟩ ⟨(i 1).val / 512, by omega⟩ ⟨(i 2).val / 512, by omega⟩
  refine ⟨t, ht, ?_⟩
  rw [mem_blk2]
  intro a
  match a with
  | ⟨0, _⟩ => show win0_2.index t (0 : Fin 3) * 1 ≤ (i 0).val ∧ (i 0).val < win0_2.index t (0 : Fin 3) * 1 + 1; simp only at e0; omega
  | ⟨1, _⟩ => show win0_2.index t (1 : Fin 3) * 512 ≤ (i 1).val ∧ (i 1).val < win0_2.index t (1 : Fin 3) * 512 + 512; simp only at e1; omega
  | ⟨2, _⟩ => show win0_2.index t (2 : Fin 3) * 512 ≤ (i 2).val ∧ (i 2).val < win0_2.index t (2 : Fin 3) * 512 + 512; simp only at e2; omega

/-- A block of an array at an index is the array at the index's place. -/
theorem read_blk2 (t : Fin cfg0.N) (G : S4x512x512.Idx → EReal) (y : ((cfg0.win 2).xblock (cfg0.grid.coords t)).Idx) :
    ((cfg0.win 2).blk t).view.read (Elt Ideal) G y = G (((cfg0.win 2).blk t).view.emb y) := rfl

variable (m : (ℓ : Loc nD τ sig) → Buf (Elt Ideal) ℓ)

/-- A point's product is its block's part of the gradient. -/
theorem point_part (c : Dev nD) (t : Fin cfg0.N) (y : S512x512.Idx) : k0_pay1 (F := Ideal) (iblk m c 0 t) (iblk m c 1 t) y
    = part (m (c.tc.loc main_arg0)) (m (c.tc.loc main_arg1)) (t.val % 4) (t.val / 4 * 512 + (y 0).val) (t.val / 4 * 512 + (y 1).val) := by
  have F := idx_facts t
  have hN : t.val < 16 := t.isLt
  have h0 : (y 0).val < 512 := (y 0).isLt
  have h1 : (y 1).val < 512 := (y 1).isLt
  rw [block_apply]
  refine Finset.sum_congr rfl fun k _ => ?_
  congr 1
  · show m (c.tc.loc main_arg0) (((cfg0.win 0).blk t).view.emb _) = _
    congr 1
    funext a; apply Fin.ext
    match a with
    | ⟨0, _⟩ => show win0_0.index t (0 : Fin 2) * 2048 + 1 * k.val = (t.val % 4 * 2048 + k.val) % 8192; omega
    | ⟨1, _⟩ => show win0_0.index t (1 : Fin 2) * 512 + 1 * (y 0).val = (t.val / 4 * 512 + (y 0).val) % 2048; omega
  · show m (c.tc.loc main_arg1) (((cfg0.win 1).blk t).view.emb _) = _
    congr 1
    funext a; apply Fin.ext
    match a with
    | ⟨0, _⟩ => show win0_1.index t (0 : Fin 2) * 2048 + 1 * k.val = (t.val % 4 * 2048 + k.val) % 8192; omega
    | ⟨1, _⟩ => show win0_1.index t (1 : Fin 2) * 512 + 1 * (y 1).val = (t.val / 4 * 512 + (y 1).val) % 2048; omega

/-- After a point the scratch holds the sum of its run's parts so far. -/
theorem scratch_eq (c : Dev nD) : ∀ (n : ℕ) (h : n < cfg0.N) (y : S512x512.Idx), (outsAt0 m c n h).2 y
    = ∑ s ∈ Finset.range (n % 4 + 1), part (m (c.tc.loc main_arg0)) (m (c.tc.loc main_arg1)) s (n / 4 * 512 + (y 0).val) (n / 4 * 512 + (y 1).val) := by
  intro n
  induction n with
  | zero =>
    intro h y
    rw [outsAt0_A m c ⟨0, h⟩ rfl (by dsimp only; omega) (by dsimp only; omega)]
    dsimp only
    rw [scratch_A, point_part]
    simp only [Nat.zero_mod, Nat.zero_div, zero_add, Finset.sum_range_one]
  | succ n ih =>
    intro h y
    have hN : n + 1 < 16 := h
    by_cases h0 : (n + 1) % 4 = 0
    · rw [outsAt0_A m c ⟨n + 1, h⟩ h0 (by dsimp only; omega) (by dsimp only; omega)]
      dsimp only
      rw [scratch_A, point_part]
      dsimp only
      rw [h0, zero_add, Finset.sum_range_one]
    · have e4 : (n + 1) % 4 = n % 4 + 1 := by omega
      have e2 : (n + 1) / 4 = n / 4 := by omega
      rw [e4, Finset.sum_range_succ, e2, ← ih (by omega) y]
      by_cases h2 : (n + 1) % 4 = 3
      · rw [outsAt0_C m c ⟨n + 1, h⟩ h0 (by dsimp only; omega) h2]
        dsimp only
        rw [scratch_C]
        refine congrArg₂ (· + ·) rfl ?_
        rw [point_part]
        dsimp only
        rw [e4, e2]
      · rw [outsAt0_B m c ⟨n + 1, h⟩ h0 (by dsimp only; omega) h2]
        dsimp only
        rw [scratch_B]
        refine congrArg₂ (· + ·) rfl ?_
        rw [point_part]
        dsimp only
        rw [e4, e2]

theorem store_apply (s : Vec Ideal S512x512 .f32) (j : S1x512x512.Idx) :
    k0_pay4 (F := Ideal) s j = s (ix2 ⟨(j 0).val * 512 + (j 1).val, by
      have : (j 0).val < 1 := (j 0).isLt; have : (j 1).val < 512 := (j 1).isLt; show _ < 512; omega⟩ (j 2)) := by
  pointwise [k0_pay4]

/-- What a run's last point writes. -/
theorem after_eq (c : Dev nD) (t : Fin cfg0.N) (h3 : t.val % 4 = 3) (j : S1x512x512.Idx) : (outsAt0 m c t.val t.isLt).1 j
    = ∑ s ∈ Finset.range 4, part (m (c.tc.loc main_arg0)) (m (c.tc.loc main_arg1)) s (t.val / 4 * 512 + ((j 0).val * 512 + (j 1).val)) (t.val / 4 * 512 + (j 2).val) := by
  have hs := scratch_eq m c t.val t.isLt
  rw [outsAt0_C m c t (by omega) (by omega) h3] at hs ⊢
  dsimp only at hs ⊢
  rw [scratch_C] at hs
  rw [out_C, store_apply, hs, h3]
  rfl

theorem flushed_eq (c : Dev nD) (t : Fin cfg0.N) (hf : (cfg0.win 2).flush t = true) : (dats m 0 c).flushed 2 t
    = ((cfg0.win 2).blk t).view.read (Elt Ideal) (gradient (m (c.tc.loc main_arg0)) (m (c.tc.loc main_arg1))) := by
  show (cfg0.win 2).cut (grid0.coords t) ((dats m 0 c).after 2 t) = _
  have h3 : t.val % 4 = 3 := (flush0_2 t).mp hf
  have hN : t.val < 16 := t.isLt
  obtain ⟨-, -, -, -, e0, e1, e2⟩ := idx_facts t
  rw [after0_2]
  funext y
  refine Eq.trans (b := (outsAt0 m c t.val t.isLt).1 ((cfg0.win 2).xinj (grid0.coords t) y)) rfl ?_
  refine Eq.trans ?_ (read_blk2 t _ y).symm
  rw [after_eq m c t h3]
  have b0 : (((cfg0.win 2).blk t).view.emb y 0).val = win0_2.index t (0 : Fin 3) * 1 + 1 * (y 0).val := rfl
  have b1 : (((cfg0.win 2).blk t).view.emb y 1).val = win0_2.index t (1 : Fin 3) * 512 + 1 * (y 1).val := rfl
  have b2 : (((cfg0.win 2).blk t).view.emb y 2).val = win0_2.index t (2 : Fin 3) * 512 + 1 * (y 2).val := rfl
  have hy0 : (y 0).val < 1 := (y 0).isLt
  have hy1 : (y 1).val < 512 := (y 1).isLt
  rw [← parts_sum]
  refine Finset.sum_congr rfl fun s _ => ?_
  refine congrArg₂ (part _ _ s) ?_ ?_
  · rw [b0, b1]
    show t.val / 4 * 512 + ((y 0).val * 512 + (y 1).val) = _
    rw [e0, e1]; omega
  · rw [b0, b2]
    show t.val / 4 * 512 + (y 2).val = _
    rw [e0, e2]; omega

theorem array_eq (c : Dev nD) : (dats m 0 c).arrAt 2 cfg0.N = gradient (m (c.tc.loc main_arg0)) (m (c.tc.loc main_arg1)) :=
  (dats m 0 c).arrAt_eq_of_cover 2 _ (fun t hf => flushed_eq m c t hf) covered2

theorem reference_eq (a : Vec Ideal S8192x2048 .bf16) (d : Vec Ideal S8192x2048 .bf16) :
    PoolWRefIdeal.Read.val_main_v10 (F := Ideal) a d = gradient a d := by
  funext i
  pointwise [PoolWRefIdeal.Read.val_main_v10, PoolWRefIdeal.Read.val_main_v9, PoolWRefIdeal.Read.val_main_v8, PoolWRefIdeal.Read.val_main_v7, PoolWRefIdeal.Read.val_main_v6, PoolWRefIdeal.Read.val_main_v2, PoolWRefIdeal.Read.val_main_v1]
  exact Finset.sum_congr rfl fun k _ => mul_comm _ _

/-- The kernel and the reference hold the same gradient. -/
theorem algebraic : Cert.algebraic_PoolWIdeal_PoolWRefIdeal := by
  intro m g m' g' _ hagree
  refine ⟨fun c => gradient (m (c.tc.loc main_arg0)) (m (c.tc.loc main_arg1)),
    (θ_run _ _ _).mono (fun r h c => ⟨(h c).1.trans (array_eq m c), (h c).2⟩) (Value.run_blocks m g),
    (θ_run _ _ _).mono (fun r h c => ⟨((h c).1.trans (PoolWRefIdeal.Read.val_main_v10_eq ..)).trans ?_, (h c).2⟩) (PoolWRefIdeal.Value.run m' g')⟩
  rw [reference_eq, (hagree c).1, (hagree c).2]

end Cert.PoolWValue

end
-- ==== Proof.Adam.lean ====
/- One entry of the optimiser's step: the two moments, and the change of the weight they give. -/
module

public import proofs.«01_k».proof.Proof.Norm
public import Idealize.ShloMosaic.Lib.Pointwise

@[expose] public section

noncomputable section

namespace Cert.Adam

open Idealize.ShloMosaic

/-- The first moment of a weight whose gradient is `g`. -/
def first (m g : EReal) : EReal :=
  Ideal.ofBits .f32 0x3F666666#32 * m + Ideal.ofBits .f32 0x3DCCCCCD#32 * g

/-- The second moment. -/
def second (v g : EReal) : EReal :=
  Ideal.ofBits .f32 0x3F7FBE77#32 * v + Ideal.ofBits .f32 0x3A83126F#32 * (g * g)

/-- The change of a weight `w` whose moments after the step are `a` and `b`: both are freed of their start at zero by a quotient. -/
def change (w a b : EReal) : EReal :=
  Ideal.ofBits .f32 0xBA83126F#32
    * (Ideal.div (Ideal.div a (Ideal.ofBits .f32 0x3F26BD02#32))
        (Ideal.sqrt (Ideal.div b (Ideal.ofBits .f32 0x3C231ACC#32)) + Ideal.ofBits .f32 0x322BCC77#32)
      + Ideal.ofBits .f32 0x3C23D70A#32 * w)

theorem word_q1 : Ideal.ofBits .f32 0x3F26BD02#32 = ((5463681 / 8388608 : ℝ) : EReal) := by
  simp [Ideal.ofBits, Ideal.ieee, -EReal.coe_mul]
  norm_num

theorem word_q2 : Ideal.ofBits .f32 0x3C231ACC#32 = ((2672307 / 268435456 : ℝ) : EReal) := by
  simp [Ideal.ofBits, Ideal.ieee, -EReal.coe_mul]
  norm_num

/-- The product with the named reciprocal is the quotient, for the first moment and for the second. -/
theorem mul_c1 (x : EReal) : x * ((8388608 / 5463681 : ℝ) : EReal) = Ideal.div x (Ideal.ofBits .f32 0x3F26BD02#32) := by
  rw [word_q1, Ideal.div_coe (by norm_num)]
  norm_num

theorem mul_c2 (x : EReal) : x * ((268435456 / 2672307 : ℝ) : EReal) = Ideal.div x (Ideal.ofBits .f32 0x3C231ACC#32) := by
  rw [word_q2, Ideal.div_coe (by norm_num)]
  norm_num

/-- One device's part of a gradient, read out of the eight. -/
theorem slab {R C : Nat} (k : Fin 8) (h : ∀ a : Fin 3, (![k.val, 0, 0] : Fin 3 → Nat) a + (⟨3, ![1, R, C]⟩ : Shape).size a ≤ (⟨3, ![8, R, C]⟩ : Shape).size a) (g : Vec Ideal ⟨3, ![8, R, C]⟩ .bf16) (r : Fin R) (l : Fin C) :
    View.ld g (Rect.unit (s := ⟨3, ![8, R, C]⟩) ![k.val, 0, 0] (⟨3, ![1, R, C]⟩ : Shape).size h) (ix3 0 r l) = g (ix3 k r l) := by
  show g ((Rect.unit (s := ⟨3, ![8, R, C]⟩) ![k.val, 0, 0] (⟨3, ![1, R, C]⟩ : Shape).size h).idx (ix3 0 r l)) = _
  refine congrArg g ?_
  funext a; apply Fin.ext
  match a with
  | ⟨0, _⟩ => show k.val + 1 * 0 = k.val; omega
  | ⟨1, _⟩ => show 0 + 1 * r.val = r.val; omega
  | ⟨2, _⟩ => show 0 + 1 * l.val = l.val; omega

end Cert.Adam

end
-- ==== Proof.AdamNorm.lean ====
/- The optimiser's step for the norms' gains and the gate's bias, four layers of them: what the kernel's four arrays hold is what the reference's hold. -/
module

public import proofs.«01_k».proof.Defs
public import proofs.«01_k».proof.Proof.Gen.AdamNormIdeal.Value
public import proofs.«01_k».proof.Proof.Gen.AdamNormRefIdeal.Read
public import proofs.«01_k».proof.Proof.Adam
public import proofs.«01_k».proof.Proof.Zero

@[expose] public section

noncomputable section

namespace Cert.AdamNormValue

open Cert.AdamNormIdeal Cert.AdamNormIdeal.Gen Idealize.ShloMosaic Idealize.ShloMosaic.TcCoe Idealize.SL.Sem
open AdamNormRefIdeal.Read

theorem eq_ix3 (y : S1x4x2048.Idx) : ∃ (r : Fin 4) (l : Fin 2048), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S4x2048 .f32) (w m v : Vec Ideal S1x4x2048 .f32) (r : Fin 4) (l : Fin 2048) : out0_4 g w m v (ix3 0 r l) = g (ix2 r l) := by
  unfold out0_4
  rw [View.canon_unit_zero zero3]
  try simp only [View.ld_unit_zero (S := S1x4x2048) zero3, View.ld_unit_zero (S := S4x2048) zero2]
  pointwise [k0_pay1, k0_pay2, k0_pay3, k0_pay4, k0_pay5, k0_pay6, k0_pay7, k0_pay8]

/-- The gradient: the reference's. -/
theorem gradient_eq (g : Vec Ideal S4x2048 .f32) (w m v : Vec Ideal S1x4x2048 .f32) : val_main_v0 (F := Ideal) g = out0_4 (F := Ideal) g w m v := by
  funext i
  obtain ⟨r, l, rfl⟩ := eq_ix3 i
  rw [gradient_apply]
  pointwise [val_main_v0]

theorem change_apply (g : Vec Ideal S4x2048 .f32) (w m v : Vec Ideal S1x4x2048 .f32) (r : Fin 4) (l : Fin 2048) : out0_5 g w m v (ix3 0 r l) = Adam.change (w (ix3 0 r l)) (Adam.first (m (ix3 0 r l)) (g (ix2 r l))) (Adam.second (v (ix3 0 r l)) (g (ix2 r l))) := by
  unfold out0_5
  rw [View.canon_unit_zero zero3]
  try simp only [View.ld_unit_zero (S := S1x4x2048) zero3, View.ld_unit_zero (S := S4x2048) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S4x2048 .f32) (w m v : Vec Ideal S1x4x2048 .f32) : val_main_v24 (F := Ideal) g w m v = out0_5 (F := Ideal) g w m v := by
  funext i
  obtain ⟨r, l, rfl⟩ := eq_ix3 i
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S4x2048 .f32) (w m v : Vec Ideal S1x4x2048 .f32) (r : Fin 4) (l : Fin 2048) : out0_6 g w m v (ix3 0 r l) = Adam.first (m (ix3 0 r l)) (g (ix2 r l)) := by
  unfold out0_6
  rw [View.canon_unit_zero zero3]
  try simp only [View.ld_unit_zero (S := S1x4x2048) zero3, View.ld_unit_zero (S := S4x2048) zero2]
  unfold Adam.first
  pointwise [k0_pay1, k0_pay2, k0_pay3, k0_pay4, k0_pay5, k0_pay6, k0_pay7, k0_pay8]

/-- The first moment: the reference's. -/
theorem first_eq (g : Vec Ideal S4x2048 .f32) (w m v : Vec Ideal S1x4x2048 .f32) : val_main_v5 (F := Ideal) g m = out0_6 (F := Ideal) g w m v := by
  funext i
  obtain ⟨r, l, rfl⟩ := eq_ix3 i
  rw [first_apply]
  unfold Adam.first
  pointwise [val_main_v0, val_main_cst, val_main_v1, val_main_v2, val_main_cst_0, val_main_v3, val_main_v4, val_main_v5]

theorem second_apply (g : Vec Ideal S4x2048 .f32) (w m v : Vec Ideal S1x4x2048 .f32) (r : Fin 4) (l : Fin 2048) : out0_7 g w m v (ix3 0 r l) = Adam.second (v (ix3 0 r l)) (g (ix2 r l)) := by
  unfold out0_7
  rw [View.canon_unit_zero zero3]
  try simp only [View.ld_unit_zero (S := S1x4x2048) zero3, View.ld_unit_zero (S := S4x2048) zero2]
  unfold Adam.second
  pointwise [k0_pay1, k0_pay2, k0_pay3, k0_pay4, k0_pay5, k0_pay6, k0_pay7, k0_pay8]

/-- The second moment: the reference's. -/
theorem second_eq (g : Vec Ideal S4x2048 .f32) (w m v : Vec Ideal S1x4x2048 .f32) : val_main_v11 (F := Ideal) g v = out0_7 (F := Ideal) g w m v := by
  funext i
  obtain ⟨r, l, rfl⟩ := eq_ix3 i
  rw [second_apply]
  unfold Adam.second
  pointwise [val_main_v0, val_main_cst_1, val_main_v6, val_main_v7, val_main_v8, val_main_cst_2, val_main_v9, val_main_v10, val_main_v11]

theorem preserves : Cert.preserves_AdamNorm_AdamNormIdeal :=
  ⟨IdealRules.named_const.statement Cert.AdamNormIdeal.κ "c1" .f32 0x3FC48605#32 ((8388608 / 5463681 : ℝ) : EReal) rfl,
    IdealRules.named_const.statement Cert.AdamNormIdeal.κ "c2" .f32 0x42C8E6D3#32 ((268435456 / 2672307 : ℝ) : EReal) rfl⟩

/-- The kernel and the reference hold the same four arrays. -/
theorem algebraic : Cert.algebraic_AdamNormIdeal_AdamNormRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamNormRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamNormValue

end
-- ==== Proof.AdamVec.lean ====
/- The optimiser's step for the convolution's small rows: what the kernel's four arrays hold is what the reference's hold. -/
module

public import proofs.«01_k».proof.Defs
public import proofs.«01_k».proof.Proof.Gen.AdamVecIdeal.Value
public import proofs.«01_k».proof.Proof.Gen.AdamVecRefIdeal.Read
public import proofs.«01_k».proof.Proof.Adam
public import proofs.«01_k».proof.Proof.Zero

@[expose] public section

noncomputable section

namespace Cert.AdamVecValue

open Cert.AdamVecIdeal Cert.AdamVecIdeal.Gen Idealize.ShloMosaic Idealize.ShloMosaic.TcCoe Idealize.SL.Sem
open AdamVecRefIdeal.Read

theorem eq_ix3 (y : S1x2x256.Idx) : ∃ (r : Fin 2) (l : Fin 256), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S2x256 .f32) (w m v : Vec Ideal S1x2x256 .f32) (r : Fin 2) (l : Fin 256) : out0_4 g w m v (ix3 0 r l) = g (ix2 r l) := by
  unfold out0_4
  rw [View.canon_unit_zero zero3]
  try simp only [View.ld_unit_zero (S := S1x2x256) zero3, View.ld_unit_zero (S := S2x256) zero2]
  pointwise [k0_pay1, k0_pay2, k0_pay3, k0_pay4, k0_pay5, k0_pay6, k0_pay7, k0_pay8]

/-- The gradient: the reference's. -/
theorem gradient_eq (g : Vec Ideal S2x256 .f32) (w m v : Vec Ideal S1x2x256 .f32) : val_main_v0 (F := Ideal) g = out0_4 (F := Ideal) g w m v := by
  funext i
  obtain ⟨r, l, rfl⟩ := eq_ix3 i
  rw [gradient_apply]
  pointwise [val_main_v0]

theorem change_apply (g : Vec Ideal S2x256 .f32) (w m v : Vec Ideal S1x2x256 .f32) (r : Fin 2) (l : Fin 256) : out0_5 g w m v (ix3 0 r l) = Adam.change (w (ix3 0 r l)) (Adam.first (m (ix3 0 r l)) (g (ix2 r l))) (Adam.second (v (ix3 0 r l)) (g (ix2 r l))) := by
  unfold out0_5
  rw [View.canon_unit_zero zero3]
  try simp only [View.ld_unit_zero (S := S1x2x256) zero3, View.ld_unit_zero (S := S2x256) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S2x256 .f32) (w m v : Vec Ideal S1x2x256 .f32) : val_main_v24 (F := Ideal) g w m v = out0_5 (F := Ideal) g w m v := by
  funext i
  obtain ⟨r, l, rfl⟩ := eq_ix3 i
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S2x256 .f32) (w m v : Vec Ideal S1x2x256 .f32) (r : Fin 2) (l : Fin 256) : out0_6 g w m v (ix3 0 r l) = Adam.first (m (ix3 0 r l)) (g (ix2 r l)) := by
  unfold out0_6
  rw [View.canon_unit_zero zero3]
  try simp only [View.ld_unit_zero (S := S1x2x256) zero3, View.ld_unit_zero (S := S2x256) zero2]
  unfold Adam.first
  pointwise [k0_pay1, k0_pay2, k0_pay3, k0_pay4, k0_pay5, k0_pay6, k0_pay7, k0_pay8]

/-- The first moment: the reference's. -/
theorem first_eq (g : Vec Ideal S2x256 .f32) (w m v : Vec Ideal S1x2x256 .f32) : val_main_v5 (F := Ideal) g m = out0_6 (F := Ideal) g w m v := by
  funext i
  obtain ⟨r, l, rfl⟩ := eq_ix3 i
  rw [first_apply]
  unfold Adam.first
  pointwise [val_main_v0, val_main_cst, val_main_v1, val_main_v2, val_main_cst_0, val_main_v3, val_main_v4, val_main_v5]

theorem second_apply (g : Vec Ideal S2x256 .f32) (w m v : Vec Ideal S1x2x256 .f32) (r : Fin 2) (l : Fin 256) : out0_7 g w m v (ix3 0 r l) = Adam.second (v (ix3 0 r l)) (g (ix2 r l)) := by
  unfold out0_7
  rw [View.canon_unit_zero zero3]
  try simp only [View.ld_unit_zero (S := S1x2x256) zero3, View.ld_unit_zero (S := S2x256) zero2]
  unfold Adam.second
  pointwise [k0_pay1, k0_pay2, k0_pay3, k0_pay4, k0_pay5, k0_pay6, k0_pay7, k0_pay8]

/-- The second moment: the reference's. -/
theorem second_eq (g : Vec Ideal S2x256 .f32) (w m v : Vec Ideal S1x2x256 .f32) : val_main_v11 (F := Ideal) g v = out0_7 (F := Ideal) g w m v := by
  funext i
  obtain ⟨r, l, rfl⟩ := eq_ix3 i
  rw [second_apply]
  unfold Adam.second
  pointwise [val_main_v0, val_main_cst_1, val_main_v6, val_main_v7, val_main_v8, val_main_cst_2, val_main_v9, val_main_v10, val_main_v11]

theorem preserves : Cert.preserves_AdamVec_AdamVecIdeal :=
  ⟨IdealRules.named_const.statement Cert.AdamVecIdeal.κ "c1" .f32 0x3FC48605#32 ((8388608 / 5463681 : ℝ) : EReal) rfl,
    IdealRules.named_const.statement Cert.AdamVecIdeal.κ "c2" .f32 0x42C8E6D3#32 ((268435456 / 2672307 : ℝ) : EReal) rfl⟩

/-- The kernel and the reference hold the same four arrays. -/
theorem algebraic : Cert.algebraic_AdamVecIdeal_AdamVecRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamVecRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamVecValue

end
-- ==== Proof.AdamHead.lean ====
/- The optimiser's step for the query's and the key's gain: what the kernel's four arrays hold is what the reference's hold. -/
module

public import proofs.«01_k».proof.Defs
public import proofs.«01_k».proof.Proof.Gen.AdamHeadIdeal.Value
public import proofs.«01_k».proof.Proof.Gen.AdamHeadRefIdeal.Read
public import proofs.«01_k».proof.Proof.Adam
public import proofs.«01_k».proof.Proof.Zero

@[expose] public section

noncomputable section

namespace Cert.AdamHeadValue

open Cert.AdamHeadIdeal Cert.AdamHeadIdeal.Gen Idealize.ShloMosaic Idealize.ShloMosaic.TcCoe Idealize.SL.Sem
open AdamHeadRefIdeal.Read

theorem eq_ix3 (y : S1x1x64.Idx) : ∃ (r : Fin 1) (l : Fin 64), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S1x64 .f32) (w m v : Vec Ideal S1x1x64 .f32) (r : Fin 1) (l : Fin 64) : out0_4 g w m v (ix3 0 r l) = g (ix2 r l) := by
  obtain rfl : r = 0 := Subsingleton.elim _ _
  unfold out0_4
  rw [View.canon_unit_zero zero3]
  try simp only [View.ld_unit_zero (S := S1x1x64) zero3, View.ld_unit_zero (S := S1x64) zero2]
  pointwise [k0_pay1, k0_pay2, k0_pay3, k0_pay4, k0_pay5, k0_pay6, k0_pay7, k0_pay8]

/-- The gradient: the reference's. -/
theorem gradient_eq (g : Vec Ideal S1x64 .f32) (w m v : Vec Ideal S1x1x64 .f32) : val_main_v0 (F := Ideal) g = out0_4 (F := Ideal) g w m v := by
  funext i
  obtain ⟨r, l, rfl⟩ := eq_ix3 i
  obtain rfl : r = 0 := Subsingleton.elim _ _
  rw [gradient_apply]
  pointwise [val_main_v0]

theorem change_apply (g : Vec Ideal S1x64 .f32) (w m v : Vec Ideal S1x1x64 .f32) (r : Fin 1) (l : Fin 64) : out0_5 g w m v (ix3 0 r l) = Adam.change (w (ix3 0 r l)) (Adam.first (m (ix3 0 r l)) (g (ix2 r l))) (Adam.second (v (ix3 0 r l)) (g (ix2 r l))) := by
  obtain rfl : r = 0 := Subsingleton.elim _ _
  unfold out0_5
  rw [View.canon_unit_zero zero3]
  try simp only [View.ld_unit_zero (S := S1x1x64) zero3, View.ld_unit_zero (S := S1x64) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S1x64 .f32) (w m v : Vec Ideal S1x1x64 .f32) : val_main_v24 (F := Ideal) g w m v = out0_5 (F := Ideal) g w m v := by
  funext i
  obtain ⟨r, l, rfl⟩ := eq_ix3 i
  obtain rfl : r = 0 := Subsingleton.elim _ _
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S1x64 .f32) (w m v : Vec Ideal S1x1x64 .f32) (r : Fin 1) (l : Fin 64) : out0_6 g w m v (ix3 0 r l) = Adam.first (m (ix3 0 r l)) (g (ix2 r l)) := by
  obtain rfl : r = 0 := Subsingleton.elim _ _
  unfold out0_6
  rw [View.canon_unit_zero zero3]
  try simp only [View.ld_unit_zero (S := S1x1x64) zero3, View.ld_unit_zero (S := S1x64) zero2]
  unfold Adam.first
  pointwise [k0_pay1, k0_pay2, k0_pay3, k0_pay4, k0_pay5, k0_pay6, k0_pay7, k0_pay8]

/-- The first moment: the reference's. -/
theorem first_eq (g : Vec Ideal S1x64 .f32) (w m v : Vec Ideal S1x1x64 .f32) : val_main_v5 (F := Ideal) g m = out0_6 (F := Ideal) g w m v := by
  funext i
  obtain ⟨r, l, rfl⟩ := eq_ix3 i
  obtain rfl : r = 0 := Subsingleton.elim _ _
  rw [first_apply]
  unfold Adam.first
  pointwise [val_main_v0, val_main_cst, val_main_v1, val_main_v2, val_main_cst_0, val_main_v3, val_main_v4, val_main_v5]

theorem second_apply (g : Vec Ideal S1x64 .f32) (w m v : Vec Ideal S1x1x64 .f32) (r : Fin 1) (l : Fin 64) : out0_7 g w m v (ix3 0 r l) = Adam.second (v (ix3 0 r l)) (g (ix2 r l)) := by
  obtain rfl : r = 0 := Subsingleton.elim _ _
  unfold out0_7
  rw [View.canon_unit_zero zero3]
  try simp only [View.ld_unit_zero (S := S1x1x64) zero3, View.ld_unit_zero (S := S1x64) zero2]
  unfold Adam.second
  pointwise [k0_pay1, k0_pay2, k0_pay3, k0_pay4, k0_pay5, k0_pay6, k0_pay7, k0_pay8]

/-- The second moment: the reference's. -/
theorem second_eq (g : Vec Ideal S1x64 .f32) (w m v : Vec Ideal S1x1x64 .f32) : val_main_v11 (F := Ideal) g v = out0_7 (F := Ideal) g w m v := by
  funext i
  obtain ⟨r, l, rfl⟩ := eq_ix3 i
  obtain rfl : r = 0 := Subsingleton.elim _ _
  rw [second_apply]
  unfold Adam.second
  pointwise [val_main_v0, val_main_cst_1, val_main_v6, val_main_v7, val_main_v8, val_main_cst_2, val_main_v9, val_main_v10, val_main_v11]

theorem preserves : Cert.preserves_AdamHead_AdamHeadIdeal :=
  ⟨IdealRules.named_const.statement Cert.AdamHeadIdeal.κ "c1" .f32 0x3FC48605#32 ((8388608 / 5463681 : ℝ) : EReal) rfl,
    IdealRules.named_const.statement Cert.AdamHeadIdeal.κ "c2" .f32 0x42C8E6D3#32 ((268435456 / 2672307 : ℝ) : EReal) rfl⟩

/-- The kernel and the reference hold the same four arrays. -/
theorem algebraic : Cert.algebraic_AdamHeadIdeal_AdamHeadRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamHeadRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamHeadValue

end
-- ==== Proof.AdamScale.lean ====
/- The optimiser's step for the pooling mixer's scale: what the kernel's four arrays hold is what the reference's hold. -/
module

public import proofs.«01_k».proof.Defs
public import proofs.«01_k».proof.Proof.Gen.AdamScaleIdeal.Value
public import proofs.«01_k».proof.Proof.Gen.AdamScaleRefIdeal.Read
public import proofs.«01_k».proof.Proof.Adam
public import proofs.«01_k».proof.Proof.Zero

@[expose] public section

noncomputable section

namespace Cert.AdamScaleValue

open Cert.AdamScaleIdeal Cert.AdamScaleIdeal.Gen Idealize.ShloMosaic Idealize.ShloMosaic.TcCoe Idealize.SL.Sem
open AdamScaleRefIdeal.Read

theorem eq_ix3 (y : S1x1x2048.Idx) : ∃ (r : Fin 1) (l : Fin 2048), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S1x2048 .f32) (w m v : Vec Ideal S1x1x2048 .f32) (r : Fin 1) (l : Fin 2048) : out0_4 g w m v (ix3 0 r l) = g (ix2 r l) := by
  obtain rfl : r = 0 := Subsingleton.elim _ _
  unfold out0_4
  rw [View.canon_unit_zero zero3]
  try simp only [View.ld_unit_zero (S := S1x1x2048) zero3, View.ld_unit_zero (S := S1x2048) zero2]
  pointwise [k0_pay1, k0_pay2, k0_pay3, k0_pay4, k0_pay5, k0_pay6, k0_pay7, k0_pay8]

/-- The gradient: the reference's. -/
theorem gradient_eq (g : Vec Ideal S1x2048 .f32) (w m v : Vec Ideal S1x1x2048 .f32) : val_main_v0 (F := Ideal) g = out0_4 (F := Ideal) g w m v := by
  funext i
  obtain ⟨r, l, rfl⟩ := eq_ix3 i
  obtain rfl : r = 0 := Subsingleton.elim _ _
  rw [gradient_apply]
  pointwise [val_main_v0]

theorem change_apply (g : Vec Ideal S1x2048 .f32) (w m v : Vec Ideal S1x1x2048 .f32) (r : Fin 1) (l : Fin 2048) : out0_5 g w m v (ix3 0 r l) = Adam.change (w (ix3 0 r l)) (Adam.first (m (ix3 0 r l)) (g (ix2 r l))) (Adam.second (v (ix3 0 r l)) (g (ix2 r l))) := by
  obtain rfl : r = 0 := Subsingleton.elim _ _
  unfold out0_5
  rw [View.canon_unit_zero zero3]
  try simp only [View.ld_unit_zero (S := S1x1x2048) zero3, View.ld_unit_zero (S := S1x2048) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S1x2048 .f32) (w m v : Vec Ideal S1x1x2048 .f32) : val_main_v24 (F := Ideal) g w m v = out0_5 (F := Ideal) g w m v := by
  funext i
  obtain ⟨r, l, rfl⟩ := eq_ix3 i
  obtain rfl : r = 0 := Subsingleton.elim _ _
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S1x2048 .f32) (w m v : Vec Ideal S1x1x2048 .f32) (r : Fin 1) (l : Fin 2048) : out0_6 g w m v (ix3 0 r l) = Adam.first (m (ix3 0 r l)) (g (ix2 r l)) := by
  obtain rfl : r = 0 := Subsingleton.elim _ _
  unfold out0_6
  rw [View.canon_unit_zero zero3]
  try simp only [View.ld_unit_zero (S := S1x1x2048) zero3, View.ld_unit_zero (S := S1x2048) zero2]
  unfold Adam.first
  pointwise [k0_pay1, k0_pay2, k0_pay3, k0_pay4, k0_pay5, k0_pay6, k0_pay7, k0_pay8]

/-- The first moment: the reference's. -/
theorem first_eq (g : Vec Ideal S1x2048 .f32) (w m v : Vec Ideal S1x1x2048 .f32) : val_main_v5 (F := Ideal) g m = out0_6 (F := Ideal) g w m v := by
  funext i
  obtain ⟨r, l, rfl⟩ := eq_ix3 i
  obtain rfl : r = 0 := Subsingleton.elim _ _
  rw [first_apply]
  unfold Adam.first
  pointwise [val_main_v0, val_main_cst, val_main_v1, val_main_v2, val_main_cst_0, val_main_v3, val_main_v4, val_main_v5]

theorem second_apply (g : Vec Ideal S1x2048 .f32) (w m v : Vec Ideal S1x1x2048 .f32) (r : Fin 1) (l : Fin 2048) : out0_7 g w m v (ix3 0 r l) = Adam.second (v (ix3 0 r l)) (g (ix2 r l)) := by
  obtain rfl : r = 0 := Subsingleton.elim _ _
  unfold out0_7
  rw [View.canon_unit_zero zero3]
  try simp only [View.ld_unit_zero (S := S1x1x2048) zero3, View.ld_unit_zero (S := S1x2048) zero2]
  unfold Adam.second
  pointwise [k0_pay1, k0_pay2, k0_pay3, k0_pay4, k0_pay5, k0_pay6, k0_pay7, k0_pay8]

/-- The second moment: the reference's. -/
theorem second_eq (g : Vec Ideal S1x2048 .f32) (w m v : Vec Ideal S1x1x2048 .f32) : val_main_v11 (F := Ideal) g v = out0_7 (F := Ideal) g w m v := by
  funext i
  obtain ⟨r, l, rfl⟩ := eq_ix3 i
  obtain rfl : r = 0 := Subsingleton.elim _ _
  rw [second_apply]
  unfold Adam.second
  pointwise [val_main_v0, val_main_cst_1, val_main_v6, val_main_v7, val_main_v8, val_main_cst_2, val_main_v9, val_main_v10, val_main_v11]

theorem preserves : Cert.preserves_AdamScale_AdamScaleIdeal :=
  ⟨IdealRules.named_const.statement Cert.AdamScaleIdeal.κ "c1" .f32 0x3FC48605#32 ((8388608 / 5463681 : ℝ) : EReal) rfl,
    IdealRules.named_const.statement Cert.AdamScaleIdeal.κ "c2" .f32 0x42C8E6D3#32 ((268435456 / 2672307 : ℝ) : EReal) rfl⟩

/-- The kernel and the reference hold the same four arrays. -/
theorem algebraic : Cert.algebraic_AdamScaleIdeal_AdamScaleRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamScaleRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamScaleValue

end
-- ==== Proof.AdamSink.lean ====
/- The optimiser's step for the sinks of the attention: what the kernel's four arrays hold is what the reference's hold. -/
module

public import proofs.«01_k».proof.Defs
public import proofs.«01_k».proof.Proof.Gen.AdamSinkIdeal.Value
public import proofs.«01_k».proof.Proof.Gen.AdamSinkRefIdeal.Read
public import proofs.«01_k».proof.Proof.Adam
public import proofs.«01_k».proof.Proof.Zero

@[expose] public section

noncomputable section

namespace Cert.AdamSinkValue

open Cert.AdamSinkIdeal Cert.AdamSinkIdeal.Gen Idealize.ShloMosaic Idealize.ShloMosaic.TcCoe Idealize.SL.Sem
open AdamSinkRefIdeal.Read

theorem eq_ix3 (y : S1x1x32.Idx) : ∃ (r : Fin 1) (l : Fin 32), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S1x32 .f32) (w m v : Vec Ideal S1x1x32 .f32) (r : Fin 1) (l : Fin 32) : out0_4 g w m v (ix3 0 r l) = g (ix2 r l) := by
  obtain rfl : r = 0 := Subsingleton.elim _ _
  unfold out0_4
  rw [View.canon_unit_zero zero3]
  try simp only [View.ld_unit_zero (S := S1x1x32) zero3, View.ld_unit_zero (S := S1x32) zero2]
  pointwise [k0_pay1, k0_pay2, k0_pay3, k0_pay4, k0_pay5, k0_pay6, k0_pay7, k0_pay8]

/-- The gradient: the reference's. -/
theorem gradient_eq (g : Vec Ideal S1x32 .f32) (w m v : Vec Ideal S1x1x32 .f32) : val_main_v0 (F := Ideal) g = out0_4 (F := Ideal) g w m v := by
  funext i
  obtain ⟨r, l, rfl⟩ := eq_ix3 i
  obtain rfl : r = 0 := Subsingleton.elim _ _
  rw [gradient_apply]
  pointwise [val_main_v0]

theorem change_apply (g : Vec Ideal S1x32 .f32) (w m v : Vec Ideal S1x1x32 .f32) (r : Fin 1) (l : Fin 32) : out0_5 g w m v (ix3 0 r l) = Adam.change (w (ix3 0 r l)) (Adam.first (m (ix3 0 r l)) (g (ix2 r l))) (Adam.second (v (ix3 0 r l)) (g (ix2 r l))) := by
  obtain rfl : r = 0 := Subsingleton.elim _ _
  unfold out0_5
  rw [View.canon_unit_zero zero3]
  try simp only [View.ld_unit_zero (S := S1x1x32) zero3, View.ld_unit_zero (S := S1x32) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S1x32 .f32) (w m v : Vec Ideal S1x1x32 .f32) : val_main_v24 (F := Ideal) g w m v = out0_5 (F := Ideal) g w m v := by
  funext i
  obtain ⟨r, l, rfl⟩ := eq_ix3 i
  obtain rfl : r = 0 := Subsingleton.elim _ _
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S1x32 .f32) (w m v : Vec Ideal S1x1x32 .f32) (r : Fin 1) (l : Fin 32) : out0_6 g w m v (ix3 0 r l) = Adam.first (m (ix3 0 r l)) (g (ix2 r l)) := by
  obtain rfl : r = 0 := Subsingleton.elim _ _
  unfold out0_6
  rw [View.canon_unit_zero zero3]
  try simp only [View.ld_unit_zero (S := S1x1x32) zero3, View.ld_unit_zero (S := S1x32) zero2]
  unfold Adam.first
  pointwise [k0_pay1, k0_pay2, k0_pay3, k0_pay4, k0_pay5, k0_pay6, k0_pay7, k0_pay8]

/-- The first moment: the reference's. -/
theorem first_eq (g : Vec Ideal S1x32 .f32) (w m v : Vec Ideal S1x1x32 .f32) : val_main_v5 (F := Ideal) g m = out0_6 (F := Ideal) g w m v := by
  funext i
  obtain ⟨r, l, rfl⟩ := eq_ix3 i
  obtain rfl : r = 0 := Subsingleton.elim _ _
  rw [first_apply]
  unfold Adam.first
  pointwise [val_main_v0, val_main_cst, val_main_v1, val_main_v2, val_main_cst_0, val_main_v3, val_main_v4, val_main_v5]

theorem second_apply (g : Vec Ideal S1x32 .f32) (w m v : Vec Ideal S1x1x32 .f32) (r : Fin 1) (l : Fin 32) : out0_7 g w m v (ix3 0 r l) = Adam.second (v (ix3 0 r l)) (g (ix2 r l)) := by
  obtain rfl : r = 0 := Subsingleton.elim _ _
  unfold out0_7
  rw [View.canon_unit_zero zero3]
  try simp only [View.ld_unit_zero (S := S1x1x32) zero3, View.ld_unit_zero (S := S1x32) zero2]
  unfold Adam.second
  pointwise [k0_pay1, k0_pay2, k0_pay3, k0_pay4, k0_pay5, k0_pay6, k0_pay7, k0_pay8]

/-- The second moment: the reference's. -/
theorem second_eq (g : Vec Ideal S1x32 .f32) (w m v : Vec Ideal S1x1x32 .f32) : val_main_v11 (F := Ideal) g v = out0_7 (F := Ideal) g w m v := by
  funext i
  obtain ⟨r, l, rfl⟩ := eq_ix3 i
  obtain rfl : r = 0 := Subsingleton.elim _ _
  rw [second_apply]
  unfold Adam.second
  pointwise [val_main_v0, val_main_cst_1, val_main_v6, val_main_v7, val_main_v8, val_main_cst_2, val_main_v9, val_main_v10, val_main_v11]

theorem preserves : Cert.preserves_AdamSink_AdamSinkIdeal :=
  ⟨IdealRules.named_const.statement Cert.AdamSinkIdeal.κ "c1" .f32 0x3FC48605#32 ((8388608 / 5463681 : ℝ) : EReal) rfl,
    IdealRules.named_const.statement Cert.AdamSinkIdeal.κ "c2" .f32 0x42C8E6D3#32 ((268435456 / 2672307 : ℝ) : EReal) rfl⟩

/-- The kernel and the reference hold the same four arrays. -/
theorem algebraic : Cert.algebraic_AdamSinkIdeal_AdamSinkRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamSinkRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamSinkValue

end
-- ==== Proof.AdamBias.lean ====
/- The optimiser's step for the table of relative biases: what the kernel's four arrays hold is what the reference's hold. -/
module

public import proofs.«01_k».proof.Defs
public import proofs.«01_k».proof.Proof.Gen.AdamBiasIdeal.Value
public import proofs.«01_k».proof.Proof.Gen.AdamBiasRefIdeal.Read
public import proofs.«01_k».proof.Proof.Adam
public import proofs.«01_k».proof.Proof.Zero

@[expose] public section

noncomputable section

namespace Cert.AdamBiasValue

open Cert.AdamBiasIdeal Cert.AdamBiasIdeal.Gen Idealize.ShloMosaic Idealize.ShloMosaic.TcCoe Idealize.SL.Sem
open AdamBiasRefIdeal.Read

theorem eq_ix3 (y : S1x32x32.Idx) : ∃ (r : Fin 32) (l : Fin 32), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S32x32 .f32) (w m v : Vec Ideal S1x32x32 .f32) (r : Fin 32) (l : Fin 32) : out0_4 g w m v (ix3 0 r l) = g (ix2 r l) := by
  unfold out0_4
  rw [View.canon_unit_zero zero3]
  try simp only [View.ld_unit_zero (S := S1x32x32) zero3, View.ld_unit_zero (S := S32x32) zero2]
  pointwise [k0_pay1, k0_pay2, k0_pay3, k0_pay4, k0_pay5, k0_pay6, k0_pay7, k0_pay8]

/-- The gradient: the reference's. -/
theorem gradient_eq (g : Vec Ideal S32x32 .f32) (w m v : Vec Ideal S1x32x32 .f32) : val_main_v0 (F := Ideal) g = out0_4 (F := Ideal) g w m v := by
  funext i
  obtain ⟨r, l, rfl⟩ := eq_ix3 i
  rw [gradient_apply]
  pointwise [val_main_v0]

theorem change_apply (g : Vec Ideal S32x32 .f32) (w m v : Vec Ideal S1x32x32 .f32) (r : Fin 32) (l : Fin 32) : out0_5 g w m v (ix3 0 r l) = Adam.change (w (ix3 0 r l)) (Adam.first (m (ix3 0 r l)) (g (ix2 r l))) (Adam.second (v (ix3 0 r l)) (g (ix2 r l))) := by
  unfold out0_5
  rw [View.canon_unit_zero zero3]
  try simp only [View.ld_unit_zero (S := S1x32x32) zero3, View.ld_unit_zero (S := S32x32) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S32x32 .f32) (w m v : Vec Ideal S1x32x32 .f32) : val_main_v24 (F := Ideal) g w m v = out0_5 (F := Ideal) g w m v := by
  funext i
  obtain ⟨r, l, rfl⟩ := eq_ix3 i
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S32x32 .f32) (w m v : Vec Ideal S1x32x32 .f32) (r : Fin 32) (l : Fin 32) : out0_6 g w m v (ix3 0 r l) = Adam.first (m (ix3 0 r l)) (g (ix2 r l)) := by
  unfold out0_6
  rw [View.canon_unit_zero zero3]
  try simp only [View.ld_unit_zero (S := S1x32x32) zero3, View.ld_unit_zero (S := S32x32) zero2]
  unfold Adam.first
  pointwise [k0_pay1, k0_pay2, k0_pay3, k0_pay4, k0_pay5, k0_pay6, k0_pay7, k0_pay8]

/-- The first moment: the reference's. -/
theorem first_eq (g : Vec Ideal S32x32 .f32) (w m v : Vec Ideal S1x32x32 .f32) : val_main_v5 (F := Ideal) g m = out0_6 (F := Ideal) g w m v := by
  funext i
  obtain ⟨r, l, rfl⟩ := eq_ix3 i
  rw [first_apply]
  unfold Adam.first
  pointwise [val_main_v0, val_main_cst, val_main_v1, val_main_v2, val_main_cst_0, val_main_v3, val_main_v4, val_main_v5]

theorem second_apply (g : Vec Ideal S32x32 .f32) (w m v : Vec Ideal S1x32x32 .f32) (r : Fin 32) (l : Fin 32) : out0_7 g w m v (ix3 0 r l) = Adam.second (v (ix3 0 r l)) (g (ix2 r l)) := by
  unfold out0_7
  rw [View.canon_unit_zero zero3]
  try simp only [View.ld_unit_zero (S := S1x32x32) zero3, View.ld_unit_zero (S := S32x32) zero2]
  unfold Adam.second
  pointwise [k0_pay1, k0_pay2, k0_pay3, k0_pay4, k0_pay5, k0_pay6, k0_pay7, k0_pay8]

/-- The second moment: the reference's. -/
theorem second_eq (g : Vec Ideal S32x32 .f32) (w m v : Vec Ideal S1x32x32 .f32) : val_main_v11 (F := Ideal) g v = out0_7 (F := Ideal) g w m v := by
  funext i
  obtain ⟨r, l, rfl⟩ := eq_ix3 i
  rw [second_apply]
  unfold Adam.second
  pointwise [val_main_v0, val_main_cst_1, val_main_v6, val_main_v7, val_main_v8, val_main_cst_2, val_main_v9, val_main_v10, val_main_v11]

theorem preserves : Cert.preserves_AdamBias_AdamBiasIdeal :=
  ⟨IdealRules.named_const.statement Cert.AdamBiasIdeal.κ "c1" .f32 0x3FC48605#32 ((8388608 / 5463681 : ℝ) : EReal) rfl,
    IdealRules.named_const.statement Cert.AdamBiasIdeal.κ "c2" .f32 0x42C8E6D3#32 ((268435456 / 2672307 : ℝ) : EReal) rfl⟩

/-- The kernel and the reference hold the same four arrays. -/
theorem algebraic : Cert.algebraic_AdamBiasIdeal_AdamBiasRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamBiasRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamBiasValue

end
-- ==== Proof.AdamConvB.lean ====
/- The optimiser's step for the convolution's first bias: what the kernel's four arrays hold is what the reference's hold. -/
module

public import proofs.«01_k».proof.Defs
public import proofs.«01_k».proof.Proof.Gen.AdamConvBIdeal.Value
public import proofs.«01_k».proof.Proof.Gen.AdamConvBRefIdeal.Read
public import proofs.«01_k».proof.Proof.Adam
public import proofs.«01_k».proof.Proof.Zero

@[expose] public section

noncomputable section

namespace Cert.AdamConvBValue

open Cert.AdamConvBIdeal Cert.AdamConvBIdeal.Gen Idealize.ShloMosaic Idealize.ShloMosaic.TcCoe Idealize.SL.Sem
open AdamConvBRefIdeal.Read

theorem eq_ix3 (y : S1x2x512.Idx) : ∃ (r : Fin 2) (l : Fin 512), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S2x512 .f32) (w m v : Vec Ideal S1x2x512 .f32) (r : Fin 2) (l : Fin 512) : out0_4 g w m v (ix3 0 r l) = g (ix2 r l) := by
  unfold out0_4
  rw [View.canon_unit_zero zero3]
  try simp only [View.ld_unit_zero (S := S1x2x512) zero3, View.ld_unit_zero (S := S2x512) zero2]
  pointwise [k0_pay1, k0_pay2, k0_pay3, k0_pay4, k0_pay5, k0_pay6, k0_pay7, k0_pay8]

/-- The gradient: the reference's. -/
theorem gradient_eq (g : Vec Ideal S2x512 .f32) (w m v : Vec Ideal S1x2x512 .f32) : val_main_v0 (F := Ideal) g = out0_4 (F := Ideal) g w m v := by
  funext i
  obtain ⟨r, l, rfl⟩ := eq_ix3 i
  rw [gradient_apply]
  pointwise [val_main_v0]

theorem change_apply (g : Vec Ideal S2x512 .f32) (w m v : Vec Ideal S1x2x512 .f32) (r : Fin 2) (l : Fin 512) : out0_5 g w m v (ix3 0 r l) = Adam.change (w (ix3 0 r l)) (Adam.first (m (ix3 0 r l)) (g (ix2 r l))) (Adam.second (v (ix3 0 r l)) (g (ix2 r l))) := by
  unfold out0_5
  rw [View.canon_unit_zero zero3]
  try simp only [View.ld_unit_zero (S := S1x2x512) zero3, View.ld_unit_zero (S := S2x512) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S2x512 .f32) (w m v : Vec Ideal S1x2x512 .f32) : val_main_v24 (F := Ideal) g w m v = out0_5 (F := Ideal) g w m v := by
  funext i
  obtain ⟨r, l, rfl⟩ := eq_ix3 i
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S2x512 .f32) (w m v : Vec Ideal S1x2x512 .f32) (r : Fin 2) (l : Fin 512) : out0_6 g w m v (ix3 0 r l) = Adam.first (m (ix3 0 r l)) (g (ix2 r l)) := by
  unfold out0_6
  rw [View.canon_unit_zero zero3]
  try simp only [View.ld_unit_zero (S := S1x2x512) zero3, View.ld_unit_zero (S := S2x512) zero2]
  unfold Adam.first
  pointwise [k0_pay1, k0_pay2, k0_pay3, k0_pay4, k0_pay5, k0_pay6, k0_pay7, k0_pay8]

/-- The first moment: the reference's. -/
theorem first_eq (g : Vec Ideal S2x512 .f32) (w m v : Vec Ideal S1x2x512 .f32) : val_main_v5 (F := Ideal) g m = out0_6 (F := Ideal) g w m v := by
  funext i
  obtain ⟨r, l, rfl⟩ := eq_ix3 i
  rw [first_apply]
  unfold Adam.first
  pointwise [val_main_v0, val_main_cst, val_main_v1, val_main_v2, val_main_cst_0, val_main_v3, val_main_v4, val_main_v5]

theorem second_apply (g : Vec Ideal S2x512 .f32) (w m v : Vec Ideal S1x2x512 .f32) (r : Fin 2) (l : Fin 512) : out0_7 g w m v (ix3 0 r l) = Adam.second (v (ix3 0 r l)) (g (ix2 r l)) := by
  unfold out0_7
  rw [View.canon_unit_zero zero3]
  try simp only [View.ld_unit_zero (S := S1x2x512) zero3, View.ld_unit_zero (S := S2x512) zero2]
  unfold Adam.second
  pointwise [k0_pay1, k0_pay2, k0_pay3, k0_pay4, k0_pay5, k0_pay6, k0_pay7, k0_pay8]

/-- The second moment: the reference's. -/
theorem second_eq (g : Vec Ideal S2x512 .f32) (w m v : Vec Ideal S1x2x512 .f32) : val_main_v11 (F := Ideal) g v = out0_7 (F := Ideal) g w m v := by
  funext i
  obtain ⟨r, l, rfl⟩ := eq_ix3 i
  rw [second_apply]
  unfold Adam.second
  pointwise [val_main_v0, val_main_cst_1, val_main_v6, val_main_v7, val_main_v8, val_main_cst_2, val_main_v9, val_main_v10, val_main_v11]

theorem preserves : Cert.preserves_AdamConvB_AdamConvBIdeal :=
  ⟨IdealRules.named_const.statement Cert.AdamConvBIdeal.κ "c1" .f32 0x3FC48605#32 ((8388608 / 5463681 : ℝ) : EReal) rfl,
    IdealRules.named_const.statement Cert.AdamConvBIdeal.κ "c2" .f32 0x42C8E6D3#32 ((268435456 / 2672307 : ℝ) : EReal) rfl⟩

/-- The kernel and the reference hold the same four arrays. -/
theorem algebraic : Cert.algebraic_AdamConvBIdeal_AdamConvBRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamConvBRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamConvBValue

end
-- ==== Proof.AdamConvW.lean ====
/- The optimiser's step for the taps of the convolution: what the kernel's four arrays hold is what the reference's hold. -/
module

public import proofs.«01_k».proof.Defs
public import proofs.«01_k».proof.Proof.Gen.AdamConvWIdeal.Value
public import proofs.«01_k».proof.Proof.Gen.AdamConvWRefIdeal.Read
public import proofs.«01_k».proof.Proof.Adam
public import proofs.«01_k».proof.Proof.Zero

@[expose] public section

noncomputable section

namespace Cert.AdamConvWValue

open Cert.AdamConvWIdeal Cert.AdamConvWIdeal.Gen Idealize.ShloMosaic Idealize.ShloMosaic.TcCoe Idealize.SL.Sem
open AdamConvWRefIdeal.Read

theorem eq_ix3 (y : S1x62x256.Idx) : ∃ (r : Fin 62) (l : Fin 256), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem gradient_apply (g : Vec Ideal S62x256 .f32) (w m v : Vec Ideal S1x62x256 .f32) (r : Fin 62) (l : Fin 256) : out0_4 g w m v (ix3 0 r l) = g (ix2 r l) := by
  unfold out0_4
  rw [View.canon_unit_zero zero3]
  try simp only [View.ld_unit_zero (S := S1x62x256) zero3, View.ld_unit_zero (S := S62x256) zero2]
  pointwise [k0_pay1, k0_pay2, k0_pay3, k0_pay4, k0_pay5, k0_pay6, k0_pay7, k0_pay8]

/-- The gradient: the reference's. -/
theorem gradient_eq (g : Vec Ideal S62x256 .f32) (w m v : Vec Ideal S1x62x256 .f32) : val_main_v0 (F := Ideal) g = out0_4 (F := Ideal) g w m v := by
  funext i
  obtain ⟨r, l, rfl⟩ := eq_ix3 i
  rw [gradient_apply]
  pointwise [val_main_v0]

theorem change_apply (g : Vec Ideal S62x256 .f32) (w m v : Vec Ideal S1x62x256 .f32) (r : Fin 62) (l : Fin 256) : out0_5 g w m v (ix3 0 r l) = Adam.change (w (ix3 0 r l)) (Adam.first (m (ix3 0 r l)) (g (ix2 r l))) (Adam.second (v (ix3 0 r l)) (g (ix2 r l))) := by
  unfold out0_5
  rw [View.canon_unit_zero zero3]
  try simp only [View.ld_unit_zero (S := S1x62x256) zero3, View.ld_unit_zero (S := S62x256) zero2]
  unfold Adam.change Adam.first Adam.second
  simp only [← Adam.mul_c1, ← Adam.mul_c2, ← name_c1, ← name_c2]
  pointwise [k0_pay1, k0_pay2, k0_pay3, k0_pay4, k0_pay5, k0_pay6, k0_pay7, k0_pay8]

/-- The change of the weight: the reference's. -/
theorem change_eq (g : Vec Ideal S62x256 .f32) (w m v : Vec Ideal S1x62x256 .f32) : val_main_v24 (F := Ideal) g w m v = out0_5 (F := Ideal) g w m v := by
  funext i
  obtain ⟨r, l, rfl⟩ := eq_ix3 i
  rw [change_apply]
  unfold Adam.change Adam.first Adam.second
  pointwise [val_main_v0, val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24]

theorem first_apply (g : Vec Ideal S62x256 .f32) (w m v : Vec Ideal S1x62x256 .f32) (r : Fin 62) (l : Fin 256) : out0_6 g w m v (ix3 0 r l) = Adam.first (m (ix3 0 r l)) (g (ix2 r l)) := by
  unfold out0_6
  rw [View.canon_unit_zero zero3]
  try simp only [View.ld_unit_zero (S := S1x62x256) zero3, View.ld_unit_zero (S := S62x256) zero2]
  unfold Adam.first
  pointwise [k0_pay1, k0_pay2, k0_pay3, k0_pay4, k0_pay5, k0_pay6, k0_pay7, k0_pay8]

/-- The first moment: the reference's. -/
theorem first_eq (g : Vec Ideal S62x256 .f32) (w m v : Vec Ideal S1x62x256 .f32) : val_main_v5 (F := Ideal) g m = out0_6 (F := Ideal) g w m v := by
  funext i
  obtain ⟨r, l, rfl⟩ := eq_ix3 i
  rw [first_apply]
  unfold Adam.first
  pointwise [val_main_v0, val_main_cst, val_main_v1, val_main_v2, val_main_cst_0, val_main_v3, val_main_v4, val_main_v5]

theorem second_apply (g : Vec Ideal S62x256 .f32) (w m v : Vec Ideal S1x62x256 .f32) (r : Fin 62) (l : Fin 256) : out0_7 g w m v (ix3 0 r l) = Adam.second (v (ix3 0 r l)) (g (ix2 r l)) := by
  unfold out0_7
  rw [View.canon_unit_zero zero3]
  try simp only [View.ld_unit_zero (S := S1x62x256) zero3, View.ld_unit_zero (S := S62x256) zero2]
  unfold Adam.second
  pointwise [k0_pay1, k0_pay2, k0_pay3, k0_pay4, k0_pay5, k0_pay6, k0_pay7, k0_pay8]

/-- The second moment: the reference's. -/
theorem second_eq (g : Vec Ideal S62x256 .f32) (w m v : Vec Ideal S1x62x256 .f32) : val_main_v11 (F := Ideal) g v = out0_7 (F := Ideal) g w m v := by
  funext i
  obtain ⟨r, l, rfl⟩ := eq_ix3 i
  rw [second_apply]
  unfold Adam.second
  pointwise [val_main_v0, val_main_cst_1, val_main_v6, val_main_v7, val_main_v8, val_main_cst_2, val_main_v9, val_main_v10, val_main_v11]

theorem preserves : Cert.preserves_AdamConvW_AdamConvWIdeal :=
  ⟨IdealRules.named_const.statement Cert.AdamConvWIdeal.κ "c1" .f32 0x3FC48605#32 ((8388608 / 5463681 : ℝ) : EReal) rfl,
    IdealRules.named_const.statement Cert.AdamConvWIdeal.κ "c2" .f32 0x42C8E6D3#32 ((268435456 / 2672307 : ℝ) : EReal) rfl⟩

/-- The kernel and the reference hold the same four arrays. -/
theorem algebraic : Cert.algebraic_AdamConvWIdeal_AdamConvWRefIdeal := by
  intro m g m' g' _ hagree
  refine ⟨_, _, _, _, Value.run (F := Ideal) m g,
    (θ_run _ _ _).mono (fun r h c => ⟨((h c).1.trans (val_main_v0_eq ..)).trans ?_, ((h c).2.1.trans (val_main_v24_eq ..)).trans ?_,
      ((h c).2.2.1.trans (val_main_v5_eq ..)).trans ?_, ((h c).2.2.2.1.trans (val_main_v11_eq ..)).trans ?_, (h c).2.2.2.2⟩) (AdamConvWRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamConvWValue

end
-- ==== Proof.AdamQkv.lean ====
/- The optimiser's step for the attention's first weight: what the kernel's four arrays hold, and that they are the reference's. -/
module

public import proofs.«01_k».proof.Defs
public import proofs.«01_k».proof.Proof.Gen.AdamQkvIdeal.Value
public import proofs.«01_k».proof.Proof.Gen.AdamQkvRefIdeal.Read
public import proofs.«01_k».proof.Proof.Adam
public import proofs.«01_k».proof.Proof.Zero

@[expose] public section

noncomputable section

namespace Cert.AdamQkvValue

open Cert.AdamQkvIdeal Cert.AdamQkvIdeal.Gen Idealize.ShloMosaic Idealize.ShloMosaic.TcCoe Idealize.SL.Sem

/-- The gradient at a row and a column: the sum of the eight devices' parts. -/
def grad (g : Vec Ideal S8x384x2048 .bf16) (r : Fin 384) (l : Fin 2048) : EReal :=
  ∑ d : Fin 8, g (ix3 d r l)

/-- The first moment. -/
def first (g : Vec Ideal S8x384x2048 .bf16) (m : Vec Ideal S1x384x2048 .f32) (r : Fin 384) (l : Fin 2048) : EReal :=
  Adam.first (m (ix3 0 r l)) (grad g r l)

/-- The second moment. -/
def second (g : Vec Ideal S8x384x2048 .bf16) (v : Vec Ideal S1x384x2048 .f32) (r : Fin 384) (l : Fin 2048) : EReal :=
  Adam.second (v (ix3 0 r l)) (grad g r l)

/-- The weight's change. -/
def change (g : Vec Ideal S8x384x2048 .bf16) (w : Vec Ideal S1x384x2048 .f32) (m : Vec Ideal S1x384x2048 .f32) (v : Vec Ideal S1x384x2048 .f32) (r : Fin 384) (l : Fin 2048) : EReal :=
  Adam.change (w (ix3 0 r l)) (first g m r l) (second g v r l)

/-- The gradient at a row and a column in one block of rows: the sum of the eight devices' parts. -/
def gradBlock (g : Vec Ideal S8x128x2048 .bf16) (r : Fin 128) (l : Fin 2048) : EReal :=
  ∑ d : Fin 8, g (ix3 d r l)

/-- The first moment in one block of rows. -/
def firstBlock (g : Vec Ideal S8x128x2048 .bf16) (m : Vec Ideal S1x128x2048 .f32) (r : Fin 128) (l : Fin 2048) : EReal :=
  Adam.first (m (ix3 0 r l)) (gradBlock g r l)

/-- The second moment in one block of rows. -/
def secondBlock (g : Vec Ideal S8x128x2048 .bf16) (v : Vec Ideal S1x128x2048 .f32) (r : Fin 128) (l : Fin 2048) : EReal :=
  Adam.second (v (ix3 0 r l)) (gradBlock g r l)

/-- The weight's change in one block of rows. -/
def changeBlock (g : Vec Ideal S8x128x2048 .bf16) (w : Vec Ideal S1x128x2048 .f32) (m : Vec Ideal S1x128x2048 .f32) (v : Vec Ideal S1x128x2048 .f32) (r : Fin 128) (l : Fin 2048) : EReal :=
  Adam.change (w (ix3 0 r l)) (firstBlock g m r l) (secondBlock g v r l)

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3_array (y : S1x384x2048.Idx) : ∃ (r : Fin 384) (l : Fin 2048), y = ix3 0 r l := by
  refine ⟨y 1, y 2, funext fun a => ?_⟩
  match a with
  | ⟨0, _⟩ => exact Subsingleton.elim (α := Fin 1) _ _
  | ⟨1, _⟩ => rfl
  | ⟨2, _⟩ => rfl

section
variable (g : Vec Ideal S8x128x2048 .bf16) (r : Fin 128) (l : Fin 2048)
theorem slab0 : View.ld g r0_0 (ix3 0 r l) = g (ix3 0 r l) := Adam.slab 0 _ g r l
theorem slab1 : View.ld g r0_1 (ix3 0 r l) = g (ix3 1 r l) := Adam.slab 1 _ g r l
theorem slab2 : View.ld g r0_2 (ix3 0 r l) = g (ix3 2 r l) := Adam.slab 2 _ g r l
theorem slab3 : View.ld g r0_3 (ix3 0 r l) = g (ix3 3 r l) := Adam.slab 3 _ g r l
theorem slab4 : View.ld g r0_4 (ix3 0 r l) = g (ix3 4 r l) := Adam.slab 4 _ g r l
theorem slab5 : View.ld g r0_5 (ix3 0 r l) = g (ix3 5 r l) := Adam.slab 5 _ g r l
theorem slab6 : View.ld g r0_6 (ix3 0 r l) = g (ix3 6 r l) := Adam.slab 6 _ g r l
theorem slab7 : View.ld g r0_7 (ix3 0 r l) = g (ix3 7 r l) := Adam.slab 7 _ g r l
end

theorem outs_apply (g : Vec Ideal S8x128x2048 .bf16) (w : Vec Ideal S1x128x2048 .f32) (m : Vec Ideal S1x128x2048 .f32) (v : Vec Ideal S1x128x2048 .f32) (r : Fin 128) (l : Fin 2048) :
    out0_4 g w m v (ix3 0 r l) = gradBlock g r l
    ∧ out0_5 g w m v (ix3 0 r l) = changeBlock g w m v r l
    ∧ out0_6 g w m v (ix3 0 r l) = firstBlock g m r l
    ∧ out0_7 g w m v (ix3 0 r l) = secondBlock g v r l := by
  unfold out0_4 out0_5 out0_6 out0_7
  rw [View.canon_unit_zero zero3, View.canon_unit_zero zero3, View.canon_unit_zero zero3, View.canon_unit_zero zero3]
  try simp only [View.ld_unit_zero (S := S1x128x2048) zero3]
  unfold changeBlock firstBlock secondBlock gradBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  refine ⟨?_, ?_, ?_, ?_⟩ <;> pointwise [k0_pay1, k0_pay2, k0_pay3, k0_pay4, k0_pay5, k0_pay6, k0_pay7, k0_pay8, k0_pay9, k0_pay10, k0_pay11]

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 0 ∧ win0_1.index t (1 : Fin 3) = t.val ∧ win0_1.index t (2 : Fin 3) = 0 :=
  (by decide +kernel : ∀ t : Fin grid0.N, _)

theorem at4 : ∀ t : Fin cfg0.N, win0_4.index t (0 : Fin 3) = 0 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 128) : Fin 384 := ⟨(t * 128 + k.val) % 384, by omega⟩

theorem places (r : Fin 384) : ∃ (t : Fin cfg0.N) (k : Fin 128), rowOf t.val k = r :=
  ⟨⟨r.val / 128, by show _ < 3; omega⟩, ⟨r.val % 128, by omega⟩, Fin.ext (by show (r.val / 128 * 128 + r.val % 128) % 384 = r.val; omega)⟩

theorem emb1 (t : Fin cfg0.N) (k : Fin 128) (l : Fin 2048) : ((cfg0.win 1).blk t).view.emb (ix3 0 k l) = (ix3 0 (rowOf t.val k) l : S1x384x2048.Idx) := by
  have F := at1 t
  have hN : t.val < 3 := t.isLt
  funext a; apply Fin.ext
  match a with
  | ⟨0, _⟩ => show win0_1.index t (0 : Fin 3) * 1 + 1 * 0 = 0; omega
  | ⟨1, _⟩ => show win0_1.index t (1 : Fin 3) * 128 + 1 * k.val = (t.val * 128 + k.val) % 384; omega
  | ⟨2, _⟩ => show win0_1.index t (2 : Fin 3) * 2048 + 1 * l.val = l.val; omega

variable (m : (ℓ : Loc nD τ sig) → Buf (Elt Ideal) ℓ)

theorem g_block (c : Dev nD) (t : Fin cfg0.N) (d : Fin 8) (k : Fin 128) (l : Fin 2048) : iblk m c 0 t (ix3 d k l) = (m (c.tc.loc main_arg0)) (ix3 d (rowOf t.val k) l) := by
  have F := at0 t
  have hN : t.val < 3 := t.isLt
  show m (c.tc.loc main_arg0) (((cfg0.win 0).blk t).view.emb _) = _
  congr 1
  funext a; apply Fin.ext
  match a with
  | ⟨0, _⟩ => show win0_0.index t (0 : Fin 3) * 8 + 1 * d.val = d.val; omega
  | ⟨1, _⟩ => show win0_0.index t (1 : Fin 3) * 128 + 1 * k.val = (t.val * 128 + k.val) % 384; omega
  | ⟨2, _⟩ => show win0_0.index t (2 : Fin 3) * 2048 + 1 * l.val = l.val; omega

theorem w_block (c : Dev nD) (t : Fin cfg0.N) (k : Fin 128) (l : Fin 2048) : iblk m c 1 t (ix3 0 k l) = (m (c.tc.loc main_arg1)) (ix3 0 (rowOf t.val k) l) :=
  congrArg (m (c.tc.loc main_arg1)) (emb1 t k l)

theorem m_block (c : Dev nD) (t : Fin cfg0.N) (k : Fin 128) (l : Fin 2048) : iblk m c 2 t (ix3 0 k l) = (m (c.tc.loc main_arg2)) (ix3 0 (rowOf t.val k) l) :=
  congrArg (m (c.tc.loc main_arg2)) (emb1 t k l)

theorem v_block (c : Dev nD) (t : Fin cfg0.N) (k : Fin 128) (l : Fin 2048) : iblk m c 3 t (ix3 0 k l) = (m (c.tc.loc main_arg3)) (ix3 0 (rowOf t.val k) l) :=
  congrArg (m (c.tc.loc main_arg3)) (emb1 t k l)

theorem grad_point (c : Dev nD) (t : Fin cfg0.N) (r : Fin 128) (l : Fin 2048) : gradBlock (iblk m c 0 t) r l = grad (m (c.tc.loc main_arg0)) (rowOf t.val r) l := by
  unfold gradBlock grad
  simp only [g_block]

theorem first_point (c : Dev nD) (t : Fin cfg0.N) (r : Fin 128) (l : Fin 2048) : firstBlock (iblk m c 0 t) (iblk m c 2 t) r l = first (m (c.tc.loc main_arg0)) (m (c.tc.loc main_arg2)) (rowOf t.val r) l := by
  unfold firstBlock first
  rw [grad_point, m_block]

theorem second_point (c : Dev nD) (t : Fin cfg0.N) (r : Fin 128) (l : Fin 2048) : secondBlock (iblk m c 0 t) (iblk m c 3 t) r l = second (m (c.tc.loc main_arg0)) (m (c.tc.loc main_arg3)) (rowOf t.val r) l := by
  unfold secondBlock second
  rw [grad_point, v_block]

theorem change_point (c : Dev nD) (t : Fin cfg0.N) (r : Fin 128) (l : Fin 2048) : changeBlock (iblk m c 0 t) (iblk m c 1 t) (iblk m c 2 t) (iblk m c 3 t) r l = change (m (c.tc.loc main_arg0)) (m (c.tc.loc main_arg1)) (m (c.tc.loc main_arg2)) (m (c.tc.loc main_arg3)) (rowOf t.val r) l := by
  unfold changeBlock change
  rw [first_point, second_point, w_block]

theorem array4_eq (c : Dev nD) : (dats m 0 c).arrAt 4 cfg0.N = fun i : S1x384x2048.Idx => grad (m (c.tc.loc main_arg0)) (i 1) (i 2) := by
  funext i
  obtain ⟨r, l, rfl⟩ := eq_ix3_array i
  obtain ⟨t, j, rfl⟩ := places r
  refine Eq.trans (congrArg _ (emb1 t j l).symm) ((congrFun (Value.blocks4 m c t (at4 t).2.2.2) (ix3 0 j l)).trans ?_)
  rw [Value.flushed4]
  exact (outs_apply _ _ _ _ j l).1.trans (grad_point m c t j l)

theorem array5_eq (c : Dev nD) : (dats m 0 c).arrAt 5 cfg0.N = fun i : S1x384x2048.Idx => change (m (c.tc.loc main_arg0)) (m (c.tc.loc main_arg1)) (m (c.tc.loc main_arg2)) (m (c.tc.loc main_arg3)) (i 1) (i 2) := by
  funext i
  obtain ⟨r, l, rfl⟩ := eq_ix3_array i
  obtain ⟨t, j, rfl⟩ := places r
  refine Eq.trans (congrArg _ (emb1 t j l).symm) ((congrFun (Value.blocks5 m c t (at4 t).2.2.2) (ix3 0 j l)).trans ?_)
  rw [Value.flushed5]
  exact (outs_apply _ _ _ _ j l).2.1.trans (change_point m c t j l)

theorem array6_eq (c : Dev nD) : (dats m 0 c).arrAt 6 cfg0.N = fun i : S1x384x2048.Idx => first (m (c.tc.loc main_arg0)) (m (c.tc.loc main_arg2)) (i 1) (i 2) := by
  funext i
  obtain ⟨r, l, rfl⟩ := eq_ix3_array i
  obtain ⟨t, j, rfl⟩ := places r
  refine Eq.trans (congrArg _ (emb1 t j l).symm) ((congrFun (Value.blocks6 m c t (at4 t).2.2.2) (ix3 0 j l)).trans ?_)
  rw [Value.flushed6]
  exact (outs_apply _ _ _ _ j l).2.2.1.trans (first_point m c t j l)

theorem array7_eq (c : Dev nD) : (dats m 0 c).arrAt 7 cfg0.N = fun i : S1x384x2048.Idx => second (m (c.tc.loc main_arg0)) (m (c.tc.loc main_arg3)) (i 1) (i 2) := by
  funext i
  obtain ⟨r, l, rfl⟩ := eq_ix3_array i
  obtain ⟨t, j, rfl⟩ := places r
  refine Eq.trans (congrArg _ (emb1 t j l).symm) ((congrFun (Value.blocks7 m c t (at4 t).2.2.2) (ix3 0 j l)).trans ?_)
  rw [Value.flushed7]
  exact (outs_apply _ _ _ _ j l).2.2.2.trans (second_point m c t j l)

open AdamQkvRefIdeal.Read in
theorem reference_grad (g : Vec Ideal S8x384x2048 .bf16)  (r : Fin 384) (l : Fin 2048) : val_main_v2 (F := Ideal) g  (ix3 0 r l) = grad g  r l := by
  unfold grad
  pointwise [val_main_v0, val_main_cst, val_main_v1, val_main_v2]

open AdamQkvRefIdeal.Read in
theorem reference_change (g : Vec Ideal S8x384x2048 .bf16) (w : Vec Ideal S1x384x2048 .f32) (m : Vec Ideal S1x384x2048 .f32) (v : Vec Ideal S1x384x2048 .f32) (r : Fin 384) (l : Fin 2048) : val_main_v26 (F := Ideal) g w m v (ix3 0 r l) = change g w m v r l := by
  unfold change first second grad Adam.change Adam.first Adam.second
  pointwise [val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]

open AdamQkvRefIdeal.Read in
theorem reference_first (g : Vec Ideal S8x384x2048 .bf16) (m : Vec Ideal S1x384x2048 .f32) (r : Fin 384) (l : Fin 2048) : val_main_v7 (F := Ideal) g m (ix3 0 r l) = first g m r l := by
  unfold first grad Adam.first
  pointwise [val_main_v0, val_main_cst, val_main_v1, val_main_v2, val_main_cst_0, val_main_v3, val_main_v4, val_main_cst_1, val_main_v5, val_main_v6, val_main_v7]

open AdamQkvRefIdeal.Read in
theorem reference_second (g : Vec Ideal S8x384x2048 .bf16) (v : Vec Ideal S1x384x2048 .f32) (r : Fin 384) (l : Fin 2048) : val_main_v13 (F := Ideal) g v (ix3 0 r l) = second g v r l := by
  unfold second grad Adam.second
  pointwise [val_main_v0, val_main_cst, val_main_v1, val_main_v2, val_main_cst_2, val_main_v8, val_main_v9, val_main_v10, val_main_cst_3, val_main_v11, val_main_v12, val_main_v13]

theorem preserves : Cert.preserves_AdamQkv_AdamQkvIdeal :=
  ⟨IdealRules.named_const.statement Cert.AdamQkvIdeal.κ "c1" .f32 0x3FC48605#32 ((8388608 / 5463681 : ℝ) : EReal) rfl,
    IdealRules.named_const.statement Cert.AdamQkvIdeal.κ "c2" .f32 0x42C8E6D3#32 ((268435456 / 2672307 : ℝ) : EReal) rfl⟩

/-- The kernel and the reference hold the same four arrays. -/
theorem algebraic : Cert.algebraic_AdamQkvIdeal_AdamQkvRefIdeal := by
  intro m g m' g' _ hagree
  refine ⟨fun c => fun i : S1x384x2048.Idx => grad (m (c.tc.loc main_arg0)) (i 1) (i 2), fun c => fun i : S1x384x2048.Idx => change (m (c.tc.loc main_arg0)) (m (c.tc.loc main_arg1)) (m (c.tc.loc main_arg2)) (m (c.tc.loc main_arg3)) (i 1) (i 2), fun c => fun i : S1x384x2048.Idx => first (m (c.tc.loc main_arg0)) (m (c.tc.loc main_arg2)) (i 1) (i 2), fun c => fun i : S1x384x2048.Idx => second (m (c.tc.loc main_arg0)) (m (c.tc.loc main_arg3)) (i 1) (i 2),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (AdamQkvRefIdeal.Read.val_main_v2_eq ..)).trans ?_, ((h c).2.1.trans (AdamQkvRefIdeal.Read.val_main_v26_eq ..)).trans ?_,
      ((h c).2.2.1.trans (AdamQkvRefIdeal.Read.val_main_v7_eq ..)).trans ?_, ((h c).2.2.2.1.trans (AdamQkvRefIdeal.Read.val_main_v13_eq ..)).trans ?_, (h c).2.2.2.2⟩) (AdamQkvRefIdeal.Value.run m' g')⟩
  · rw [(hagree c).1]
    funext i
    obtain ⟨r, l, rfl⟩ := eq_ix3_array i
    exact reference_grad _ r l
  · rw [(hagree c).1, (hagree c).2.1, (hagree c).2.2.1, (hagree c).2.2.2]
    funext i
    obtain ⟨r, l, rfl⟩ := eq_ix3_array i
    exact reference_change _ _ _ _ r l
  · rw [(hagree c).1, (hagree c).2.2.1]
    funext i
    obtain ⟨r, l, rfl⟩ := eq_ix3_array i
    exact reference_first _ _ r l
  · rw [(hagree c).1, (hagree c).2.2.2]
    funext i
    obtain ⟨r, l, rfl⟩ := eq_ix3_array i
    exact reference_second _ _ r l

end Cert.AdamQkvValue

end
-- ==== Proof.AdamOut.lean ====
/- The optimiser's step for the attention's second weight: what the kernel's four arrays hold, and that they are the reference's. -/
module

public import proofs.«01_k».proof.Defs
public import proofs.«01_k».proof.Proof.Gen.AdamOutIdeal.Value
public import proofs.«01_k».proof.Proof.Gen.AdamOutRefIdeal.Read
public import proofs.«01_k».proof.Proof.Adam
public import proofs.«01_k».proof.Proof.Zero

@[expose] public section

noncomputable section

namespace Cert.AdamOutValue

open Cert.AdamOutIdeal Cert.AdamOutIdeal.Gen Idealize.ShloMosaic Idealize.ShloMosaic.TcCoe Idealize.SL.Sem

/-- The gradient at a row and a column: the sum of the eight devices' parts. -/
def grad (g : Vec Ideal S8x256x2048 .bf16) (r : Fin 256) (l : Fin 2048) : EReal :=
  ∑ d : Fin 8, g (ix3 d r l)

/-- The first moment. -/
def first (g : Vec Ideal S8x256x2048 .bf16) (m : Vec Ideal S1x256x2048 .f32) (r : Fin 256) (l : Fin 2048) : EReal :=
  Adam.first (m (ix3 0 r l)) (grad g r l)

/-- The second moment. -/
def second (g : Vec Ideal S8x256x2048 .bf16) (v : Vec Ideal S1x256x2048 .f32) (r : Fin 256) (l : Fin 2048) : EReal :=
  Adam.second (v (ix3 0 r l)) (grad g r l)

/-- The weight's change. -/
def change (g : Vec Ideal S8x256x2048 .bf16) (w : Vec Ideal S1x256x2048 .f32) (m : Vec Ideal S1x256x2048 .f32) (v : Vec Ideal S1x256x2048 .f32) (r : Fin 256) (l : Fin 2048) : EReal :=
  Adam.change (w (ix3 0 r l)) (first g m r l) (second g v r l)

/-- The gradient at a row and a column in one block of rows: the sum of the eight devices' parts. -/
def gradBlock (g : Vec Ideal S8x128x2048 .bf16) (r : Fin 128) (l : Fin 2048) : EReal :=
  ∑ d : Fin 8, g (ix3 d r l)

/-- The first moment in one block of rows. -/
def firstBlock (g : Vec Ideal S8x128x2048 .bf16) (m : Vec Ideal S1x128x2048 .f32) (r : Fin 128) (l : Fin 2048) : EReal :=
  Adam.first (m (ix3 0 r l)) (gradBlock g r l)

/-- The second moment in one block of rows. -/
def secondBlock (g : Vec Ideal S8x128x2048 .bf16) (v : Vec Ideal S1x128x2048 .f32) (r : Fin 128) (l : Fin 2048) : EReal :=
  Adam.second (v (ix3 0 r l)) (gradBlock g r l)

/-- The weight's change in one block of rows. -/
def changeBlock (g : Vec Ideal S8x128x2048 .bf16) (w : Vec Ideal S1x128x2048 .f32) (m : Vec Ideal S1x128x2048 .f32) (v : Vec Ideal S1x128x2048 .f32) (r : Fin 128) (l : Fin 2048) : EReal :=
  Adam.change (w (ix3 0 r l)) (firstBlock g m r l) (secondBlock g v r l)

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3_array (y : S1x256x2048.Idx) : ∃ (r : Fin 256) (l : Fin 2048), y = ix3 0 r l := by
  refine ⟨y 1, y 2, funext fun a => ?_⟩
  match a with
  | ⟨0, _⟩ => exact Subsingleton.elim (α := Fin 1) _ _
  | ⟨1, _⟩ => rfl
  | ⟨2, _⟩ => rfl

section
variable (g : Vec Ideal S8x128x2048 .bf16) (r : Fin 128) (l : Fin 2048)
theorem slab0 : View.ld g r0_0 (ix3 0 r l) = g (ix3 0 r l) := Adam.slab 0 _ g r l
theorem slab1 : View.ld g r0_1 (ix3 0 r l) = g (ix3 1 r l) := Adam.slab 1 _ g r l
theorem slab2 : View.ld g r0_2 (ix3 0 r l) = g (ix3 2 r l) := Adam.slab 2 _ g r l
theorem slab3 : View.ld g r0_3 (ix3 0 r l) = g (ix3 3 r l) := Adam.slab 3 _ g r l
theorem slab4 : View.ld g r0_4 (ix3 0 r l) = g (ix3 4 r l) := Adam.slab 4 _ g r l
theorem slab5 : View.ld g r0_5 (ix3 0 r l) = g (ix3 5 r l) := Adam.slab 5 _ g r l
theorem slab6 : View.ld g r0_6 (ix3 0 r l) = g (ix3 6 r l) := Adam.slab 6 _ g r l
theorem slab7 : View.ld g r0_7 (ix3 0 r l) = g (ix3 7 r l) := Adam.slab 7 _ g r l
end

theorem outs_apply (g : Vec Ideal S8x128x2048 .bf16) (w : Vec Ideal S1x128x2048 .f32) (m : Vec Ideal S1x128x2048 .f32) (v : Vec Ideal S1x128x2048 .f32) (r : Fin 128) (l : Fin 2048) :
    out0_4 g w m v (ix3 0 r l) = gradBlock g r l
    ∧ out0_5 g w m v (ix3 0 r l) = changeBlock g w m v r l
    ∧ out0_6 g w m v (ix3 0 r l) = firstBlock g m r l
    ∧ out0_7 g w m v (ix3 0 r l) = secondBlock g v r l := by
  unfold out0_4 out0_5 out0_6 out0_7
  rw [View.canon_unit_zero zero3, View.canon_unit_zero zero3, View.canon_unit_zero zero3, View.canon_unit_zero zero3]
  try simp only [View.ld_unit_zero (S := S1x128x2048) zero3]
  unfold changeBlock firstBlock secondBlock gradBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  refine ⟨?_, ?_, ?_, ?_⟩ <;> pointwise [k0_pay1, k0_pay2, k0_pay3, k0_pay4, k0_pay5, k0_pay6, k0_pay7, k0_pay8, k0_pay9, k0_pay10, k0_pay11]

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 0 ∧ win0_1.index t (1 : Fin 3) = t.val ∧ win0_1.index t (2 : Fin 3) = 0 :=
  (by decide +kernel : ∀ t : Fin grid0.N, _)

theorem at4 : ∀ t : Fin cfg0.N, win0_4.index t (0 : Fin 3) = 0 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 128) : Fin 256 := ⟨(t * 128 + k.val) % 256, by omega⟩

theorem places (r : Fin 256) : ∃ (t : Fin cfg0.N) (k : Fin 128), rowOf t.val k = r :=
  ⟨⟨r.val / 128, by show _ < 2; omega⟩, ⟨r.val % 128, by omega⟩, Fin.ext (by show (r.val / 128 * 128 + r.val % 128) % 256 = r.val; omega)⟩

theorem emb1 (t : Fin cfg0.N) (k : Fin 128) (l : Fin 2048) : ((cfg0.win 1).blk t).view.emb (ix3 0 k l) = (ix3 0 (rowOf t.val k) l : S1x256x2048.Idx) := by
  have F := at1 t
  have hN : t.val < 2 := t.isLt
  funext a; apply Fin.ext
  match a with
  | ⟨0, _⟩ => show win0_1.index t (0 : Fin 3) * 1 + 1 * 0 = 0; omega
  | ⟨1, _⟩ => show win0_1.index t (1 : Fin 3) * 128 + 1 * k.val = (t.val * 128 + k.val) % 256; omega
  | ⟨2, _⟩ => show win0_1.index t (2 : Fin 3) * 2048 + 1 * l.val = l.val; omega

variable (m : (ℓ : Loc nD τ sig) → Buf (Elt Ideal) ℓ)

theorem g_block (c : Dev nD) (t : Fin cfg0.N) (d : Fin 8) (k : Fin 128) (l : Fin 2048) : iblk m c 0 t (ix3 d k l) = (m (c.tc.loc main_arg0)) (ix3 d (rowOf t.val k) l) := by
  have F := at0 t
  have hN : t.val < 2 := t.isLt
  show m (c.tc.loc main_arg0) (((cfg0.win 0).blk t).view.emb _) = _
  congr 1
  funext a; apply Fin.ext
  match a with
  | ⟨0, _⟩ => show win0_0.index t (0 : Fin 3) * 8 + 1 * d.val = d.val; omega
  | ⟨1, _⟩ => show win0_0.index t (1 : Fin 3) * 128 + 1 * k.val = (t.val * 128 + k.val) % 256; omega
  | ⟨2, _⟩ => show win0_0.index t (2 : Fin 3) * 2048 + 1 * l.val = l.val; omega

theorem w_block (c : Dev nD) (t : Fin cfg0.N) (k : Fin 128) (l : Fin 2048) : iblk m c 1 t (ix3 0 k l) = (m (c.tc.loc main_arg1)) (ix3 0 (rowOf t.val k) l) :=
  congrArg (m (c.tc.loc main_arg1)) (emb1 t k l)

theorem m_block (c : Dev nD) (t : Fin cfg0.N) (k : Fin 128) (l : Fin 2048) : iblk m c 2 t (ix3 0 k l) = (m (c.tc.loc main_arg2)) (ix3 0 (rowOf t.val k) l) :=
  congrArg (m (c.tc.loc main_arg2)) (emb1 t k l)

theorem v_block (c : Dev nD) (t : Fin cfg0.N) (k : Fin 128) (l : Fin 2048) : iblk m c 3 t (ix3 0 k l) = (m (c.tc.loc main_arg3)) (ix3 0 (rowOf t.val k) l) :=
  congrArg (m (c.tc.loc main_arg3)) (emb1 t k l)

theorem grad_point (c : Dev nD) (t : Fin cfg0.N) (r : Fin 128) (l : Fin 2048) : gradBlock (iblk m c 0 t) r l = grad (m (c.tc.loc main_arg0)) (rowOf t.val r) l := by
  unfold gradBlock grad
  simp only [g_block]

theorem first_point (c : Dev nD) (t : Fin cfg0.N) (r : Fin 128) (l : Fin 2048) : firstBlock (iblk m c 0 t) (iblk m c 2 t) r l = first (m (c.tc.loc main_arg0)) (m (c.tc.loc main_arg2)) (rowOf t.val r) l := by
  unfold firstBlock first
  rw [grad_point, m_block]

theorem second_point (c : Dev nD) (t : Fin cfg0.N) (r : Fin 128) (l : Fin 2048) : secondBlock (iblk m c 0 t) (iblk m c 3 t) r l = second (m (c.tc.loc main_arg0)) (m (c.tc.loc main_arg3)) (rowOf t.val r) l := by
  unfold secondBlock second
  rw [grad_point, v_block]

theorem change_point (c : Dev nD) (t : Fin cfg0.N) (r : Fin 128) (l : Fin 2048) : changeBlock (iblk m c 0 t) (iblk m c 1 t) (iblk m c 2 t) (iblk m c 3 t) r l = change (m (c.tc.loc main_arg0)) (m (c.tc.loc main_arg1)) (m (c.tc.loc main_arg2)) (m (c.tc.loc main_arg3)) (rowOf t.val r) l := by
  unfold changeBlock change
  rw [first_point, second_point, w_block]

theorem array4_eq (c : Dev nD) : (dats m 0 c).arrAt 4 cfg0.N = fun i : S1x256x2048.Idx => grad (m (c.tc.loc main_arg0)) (i 1) (i 2) := by
  funext i
  obtain ⟨r, l, rfl⟩ := eq_ix3_array i
  obtain ⟨t, j, rfl⟩ := places r
  refine Eq.trans (congrArg _ (emb1 t j l).symm) ((congrFun (Value.blocks4 m c t (at4 t).2.2.2) (ix3 0 j l)).trans ?_)
  rw [Value.flushed4]
  exact (outs_apply _ _ _ _ j l).1.trans (grad_point m c t j l)

theorem array5_eq (c : Dev nD) : (dats m 0 c).arrAt 5 cfg0.N = fun i : S1x256x2048.Idx => change (m (c.tc.loc main_arg0)) (m (c.tc.loc main_arg1)) (m (c.tc.loc main_arg2)) (m (c.tc.loc main_arg3)) (i 1) (i 2) := by
  funext i
  obtain ⟨r, l, rfl⟩ := eq_ix3_array i
  obtain ⟨t, j, rfl⟩ := places r
  refine Eq.trans (congrArg _ (emb1 t j l).symm) ((congrFun (Value.blocks5 m c t (at4 t).2.2.2) (ix3 0 j l)).trans ?_)
  rw [Value.flushed5]
  exact (outs_apply _ _ _ _ j l).2.1.trans (change_point m c t j l)

theorem array6_eq (c : Dev nD) : (dats m 0 c).arrAt 6 cfg0.N = fun i : S1x256x2048.Idx => first (m (c.tc.loc main_arg0)) (m (c.tc.loc main_arg2)) (i 1) (i 2) := by
  funext i
  obtain ⟨r, l, rfl⟩ := eq_ix3_array i
  obtain ⟨t, j, rfl⟩ := places r
  refine Eq.trans (congrArg _ (emb1 t j l).symm) ((congrFun (Value.blocks6 m c t (at4 t).2.2.2) (ix3 0 j l)).trans ?_)
  rw [Value.flushed6]
  exact (outs_apply _ _ _ _ j l).2.2.1.trans (first_point m c t j l)

theorem array7_eq (c : Dev nD) : (dats m 0 c).arrAt 7 cfg0.N = fun i : S1x256x2048.Idx => second (m (c.tc.loc main_arg0)) (m (c.tc.loc main_arg3)) (i 1) (i 2) := by
  funext i
  obtain ⟨r, l, rfl⟩ := eq_ix3_array i
  obtain ⟨t, j, rfl⟩ := places r
  refine Eq.trans (congrArg _ (emb1 t j l).symm) ((congrFun (Value.blocks7 m c t (at4 t).2.2.2) (ix3 0 j l)).trans ?_)
  rw [Value.flushed7]
  exact (outs_apply _ _ _ _ j l).2.2.2.trans (second_point m c t j l)

open AdamOutRefIdeal.Read in
theorem reference_grad (g : Vec Ideal S8x256x2048 .bf16)  (r : Fin 256) (l : Fin 2048) : val_main_v2 (F := Ideal) g  (ix3 0 r l) = grad g  r l := by
  unfold grad
  pointwise [val_main_v0, val_main_cst, val_main_v1, val_main_v2]

open AdamOutRefIdeal.Read in
theorem reference_change (g : Vec Ideal S8x256x2048 .bf16) (w : Vec Ideal S1x256x2048 .f32) (m : Vec Ideal S1x256x2048 .f32) (v : Vec Ideal S1x256x2048 .f32) (r : Fin 256) (l : Fin 2048) : val_main_v26 (F := Ideal) g w m v (ix3 0 r l) = change g w m v r l := by
  unfold change first second grad Adam.change Adam.first Adam.second
  pointwise [val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]

open AdamOutRefIdeal.Read in
theorem reference_first (g : Vec Ideal S8x256x2048 .bf16) (m : Vec Ideal S1x256x2048 .f32) (r : Fin 256) (l : Fin 2048) : val_main_v7 (F := Ideal) g m (ix3 0 r l) = first g m r l := by
  unfold first grad Adam.first
  pointwise [val_main_v0, val_main_cst, val_main_v1, val_main_v2, val_main_cst_0, val_main_v3, val_main_v4, val_main_cst_1, val_main_v5, val_main_v6, val_main_v7]

open AdamOutRefIdeal.Read in
theorem reference_second (g : Vec Ideal S8x256x2048 .bf16) (v : Vec Ideal S1x256x2048 .f32) (r : Fin 256) (l : Fin 2048) : val_main_v13 (F := Ideal) g v (ix3 0 r l) = second g v r l := by
  unfold second grad Adam.second
  pointwise [val_main_v0, val_main_cst, val_main_v1, val_main_v2, val_main_cst_2, val_main_v8, val_main_v9, val_main_v10, val_main_cst_3, val_main_v11, val_main_v12, val_main_v13]

theorem preserves : Cert.preserves_AdamOut_AdamOutIdeal :=
  ⟨IdealRules.named_const.statement Cert.AdamOutIdeal.κ "c1" .f32 0x3FC48605#32 ((8388608 / 5463681 : ℝ) : EReal) rfl,
    IdealRules.named_const.statement Cert.AdamOutIdeal.κ "c2" .f32 0x42C8E6D3#32 ((268435456 / 2672307 : ℝ) : EReal) rfl⟩

/-- The kernel and the reference hold the same four arrays. -/
theorem algebraic : Cert.algebraic_AdamOutIdeal_AdamOutRefIdeal := by
  intro m g m' g' _ hagree
  refine ⟨fun c => fun i : S1x256x2048.Idx => grad (m (c.tc.loc main_arg0)) (i 1) (i 2), fun c => fun i : S1x256x2048.Idx => change (m (c.tc.loc main_arg0)) (m (c.tc.loc main_arg1)) (m (c.tc.loc main_arg2)) (m (c.tc.loc main_arg3)) (i 1) (i 2), fun c => fun i : S1x256x2048.Idx => first (m (c.tc.loc main_arg0)) (m (c.tc.loc main_arg2)) (i 1) (i 2), fun c => fun i : S1x256x2048.Idx => second (m (c.tc.loc main_arg0)) (m (c.tc.loc main_arg3)) (i 1) (i 2),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (AdamOutRefIdeal.Read.val_main_v2_eq ..)).trans ?_, ((h c).2.1.trans (AdamOutRefIdeal.Read.val_main_v26_eq ..)).trans ?_,
      ((h c).2.2.1.trans (AdamOutRefIdeal.Read.val_main_v7_eq ..)).trans ?_, ((h c).2.2.2.1.trans (AdamOutRefIdeal.Read.val_main_v13_eq ..)).trans ?_, (h c).2.2.2.2⟩) (AdamOutRefIdeal.Value.run m' g')⟩
  · rw [(hagree c).1]
    funext i
    obtain ⟨r, l, rfl⟩ := eq_ix3_array i
    exact reference_grad _ r l
  · rw [(hagree c).1, (hagree c).2.1, (hagree c).2.2.1, (hagree c).2.2.2]
    funext i
    obtain ⟨r, l, rfl⟩ := eq_ix3_array i
    exact reference_change _ _ _ _ r l
  · rw [(hagree c).1, (hagree c).2.2.1]
    funext i
    obtain ⟨r, l, rfl⟩ := eq_ix3_array i
    exact reference_first _ _ r l
  · rw [(hagree c).1, (hagree c).2.2.2]
    funext i
    obtain ⟨r, l, rfl⟩ := eq_ix3_array i
    exact reference_second _ _ r l

end Cert.AdamOutValue

end
-- ==== Proof.AdamPool.lean ====
/- The optimiser's step for the pooling mixer's weight: what the kernel's four arrays hold is what the reference's hold. -/
module

public import proofs.«01_k».proof.Defs
public import proofs.«01_k».proof.Proof.Gen.AdamPoolIdeal.Value
public import proofs.«01_k».proof.Proof.Gen.AdamPoolRefIdeal.Read
public import proofs.«01_k».proof.Proof.Adam
public import proofs.«01_k».proof.Proof.Zero

@[expose] public section

noncomputable section

namespace Cert.AdamPoolValue

open Cert.AdamPoolIdeal Cert.AdamPoolIdeal.Gen Idealize.ShloMosaic Idealize.ShloMosaic.TcCoe Idealize.SL.Sem
open AdamPoolRefIdeal.Read

theorem eq_ix3 (y : S1x256x512.Idx) : ∃ (r : Fin 256) (l : Fin 512), y = ix3 0 r l := by
  refine ⟨y 1, y 2, funext fun a => ?_⟩
  match a with
  | ⟨0, _⟩ => exact Subsingleton.elim (α := Fin 1) _ _
  | ⟨1, _⟩ => rfl
  | ⟨2, _⟩ => rfl

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

section
variable (g : Vec Ideal S8x256x512 .bf16) (r : Fin 256) (l : Fin 512)
theorem slab0 : View.ld g r0_0 (ix3 0 r l) = g (ix3 0 r l) := Adam.slab 0 _ g r l
theorem slab1 : View.ld g r0_1 (ix3 0 r l) = g (ix3 1 r l) := Adam.slab 1 _ g r l
theorem slab2 : View.ld g r0_2 (ix3 0 r l) = g (ix3 2 r l) := Adam.slab 2 _ g r l
theorem slab3 : View.ld g r0_3 (ix3 0 r l) = g (ix3 3 r l) := Adam.slab 3 _ g r l
theorem slab4 : View.ld g r0_4 (ix3 0 r l) = g (ix3 4 r l) := Adam.slab 4 _ g r l
theorem slab5 : View.ld g r0_5 (ix3 0 r l) = g (ix3 5 r l) := Adam.slab 5 _ g r l
theorem slab6 : View.ld g r0_6 (ix3 0 r l) = g (ix3 6 r l) := Adam.slab 6 _ g r l
theorem slab7 : View.ld g r0_7 (ix3 0 r l) = g (ix3 7 r l) := Adam.slab 7 _ g r l
end

/-- The gradient at a row and a column: the sum of the eight devices' parts. -/
def total (g : Vec Ideal S8x256x512 .bf16) (r : Fin 256) (l : Fin 512) : EReal :=
  ∑ d : Fin 8, g (ix3 d r l)

theorem gradient_apply (g : Vec Ideal S8x256x512 .bf16) (w m v : Vec Ideal S1x256x512 .f32) (r : Fin 256) (l : Fin 512) : out0_4 g w m v (ix3 0 r l) = total g r l := by
  unfold out0_4
  rw [View.canon_unit_zero zero3]
  try simp only [View.ld_unit_zero (S := S1x256x512) zero3]
  unfold total
  rw [Fin.sum_univ_eight]
  simp only [← slab0, ← slab1, ← slab2, ← slab3, ← slab4, ← slab5, ← slab6, ← slab7]
  pointwise [k0_pay1, k0_pay2, k0_pay3, k0_pay4, k0_pay5, k0_pay6, k0_pay7, k0_pay8, k0_pay9, k0_pay10, k0_pay11]

/-- The gradient: the reference's. -/
theorem gradient_eq (g : Vec Ideal S8x256x512 .bf16) (w m v : Vec Ideal S1x256x512 .f32) : val_main_v2 (F := Ideal) g = out0_4 (F := Ideal) g w m v := by
  funext i
  obtain ⟨r, l, rfl⟩ := eq_ix3 i
  rw [gradient_apply]
  unfold total
  pointwise [val_main_v0, val_main_cst, val_main_v1, val_main_v2]

theorem change_apply (g : Vec Ideal S8x256x512 .bf16) (w m v : Vec Ideal S1x256x512 .f32) (r : Fin 256) (l : Fin 512) : out0_5 g w m v (ix3 0 r l) = Adam.change (w (ix3 0 r l)) (Adam.first (m (ix3 0 r l)) (total g r l)) (Adam.second (v (ix3 0 r l)) (total g r l)) := by
  unfold out0_5
  rw [View.canon_unit_zero zero3]
  try simp only [View.ld_unit_zero (S := S1x256x512) zero3]
  unfold Adam.change Adam.first Adam.second total
  rw [Fin.sum_univ_eight]
  simp only [← Adam.mul_c1, ← Adam.mul_c2, ← name_c1, ← name_c2]
  simp only [← slab0, ← slab1, ← slab2, ← slab3, ← slab4, ← slab5, ← slab6, ← slab7]
  pointwise [k0_pay1, k0_pay2, k0_pay3, k0_pay4, k0_pay5, k0_pay6, k0_pay7, k0_pay8, k0_pay9, k0_pay10, k0_pay11]

/-- The change of the weight: the reference's. -/
theorem change_eq (g : Vec Ideal S8x256x512 .bf16) (w m v : Vec Ideal S1x256x512 .f32) : val_main_v26 (F := Ideal) g w m v = out0_5 (F := Ideal) g w m v := by
  funext i
  obtain ⟨r, l, rfl⟩ := eq_ix3 i
  rw [change_apply]
  unfold Adam.change Adam.first Adam.second total
  pointwise [val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]

theorem first_apply (g : Vec Ideal S8x256x512 .bf16) (w m v : Vec Ideal S1x256x512 .f32) (r : Fin 256) (l : Fin 512) : out0_6 g w m v (ix3 0 r l) = Adam.first (m (ix3 0 r l)) (total g r l) := by
  unfold out0_6
  rw [View.canon_unit_zero zero3]
  try simp only [View.ld_unit_zero (S := S1x256x512) zero3]
  unfold Adam.first total
  rw [Fin.sum_univ_eight]
  simp only [← slab0, ← slab1, ← slab2, ← slab3, ← slab4, ← slab5, ← slab6, ← slab7]
  pointwise [k0_pay1, k0_pay2, k0_pay3, k0_pay4, k0_pay5, k0_pay6, k0_pay7, k0_pay8, k0_pay9, k0_pay10, k0_pay11]

/-- The first moment: the reference's. -/
theorem first_eq (g : Vec Ideal S8x256x512 .bf16) (w m v : Vec Ideal S1x256x512 .f32) : val_main_v7 (F := Ideal) g m = out0_6 (F := Ideal) g w m v := by
  funext i
  obtain ⟨r, l, rfl⟩ := eq_ix3 i
  rw [first_apply]
  unfold Adam.first total
  pointwise [val_main_v0, val_main_cst, val_main_v1, val_main_v2, val_main_cst_0, val_main_v3, val_main_v4, val_main_cst_1, val_main_v5, val_main_v6, val_main_v7]

theorem second_apply (g : Vec Ideal S8x256x512 .bf16) (w m v : Vec Ideal S1x256x512 .f32) (r : Fin 256) (l : Fin 512) : out0_7 g w m v (ix3 0 r l) = Adam.second (v (ix3 0 r l)) (total g r l) := by
  unfold out0_7
  rw [View.canon_unit_zero zero3]
  try simp only [View.ld_unit_zero (S := S1x256x512) zero3]
  unfold Adam.second total
  rw [Fin.sum_univ_eight]
  simp only [← slab0, ← slab1, ← slab2, ← slab3, ← slab4, ← slab5, ← slab6, ← slab7]
  pointwise [k0_pay1, k0_pay2, k0_pay3, k0_pay4, k0_pay5, k0_pay6, k0_pay7, k0_pay8, k0_pay9, k0_pay10, k0_pay11]

/-- The second moment: the reference's. -/
theorem second_eq (g : Vec Ideal S8x256x512 .bf16) (w m v : Vec Ideal S1x256x512 .f32) : val_main_v13 (F := Ideal) g v = out0_7 (F := Ideal) g w m v := by
  funext i
  obtain ⟨r, l, rfl⟩ := eq_ix3 i
  rw [second_apply]
  unfold Adam.second total
  pointwise [val_main_v0, val_main_cst, val_main_v1, val_main_v2, val_main_cst_2, val_main_v8, val_main_v9, val_main_v10, val_main_cst_3, val_main_v11, val_main_v12, val_main_v13]

theorem preserves : Cert.preserves_AdamPool_AdamPoolIdeal :=
  ⟨IdealRules.named_const.statement Cert.AdamPoolIdeal.κ "c1" .f32 0x3FC48605#32 ((8388608 / 5463681 : ℝ) : EReal) rfl,
    IdealRules.named_const.statement Cert.AdamPoolIdeal.κ "c2" .f32 0x42C8E6D3#32 ((268435456 / 2672307 : ℝ) : EReal) rfl⟩

/-- The kernel and the reference hold the same four arrays. -/
theorem algebraic : Cert.algebraic_AdamPoolIdeal_AdamPoolRefIdeal := by
  intro m g m' g' _ hagree
  refine ⟨_, _, _, _, Value.run (F := Ideal) m g,
    (θ_run _ _ _).mono (fun r h c => ⟨((h c).1.trans (val_main_v2_eq ..)).trans ?_, ((h c).2.1.trans (val_main_v26_eq ..)).trans ?_,
      ((h c).2.2.1.trans (val_main_v7_eq ..)).trans ?_, ((h c).2.2.2.1.trans (val_main_v13_eq ..)).trans ?_, (h c).2.2.2.2⟩) (AdamPoolRefIdeal.Value.run m' g')⟩
  · rw [(hagree c).1]
    exact (gradient_eq _ _ _ _).trans (Value.out4_eq _ _ _ _)
  · rw [(hagree c).1, (hagree c).2.1, (hagree c).2.2.1, (hagree c).2.2.2]
    exact (change_eq _ _ _ _).trans (Value.out5_eq _ _ _ _)
  · rw [(hagree c).1, (hagree c).2.2.1]
    exact (first_eq _ _ _ _).trans (Value.out6_eq _ _ _ _)
  · rw [(hagree c).1, (hagree c).2.2.2]
    exact (second_eq _ _ _ _).trans (Value.out7_eq _ _ _ _)

end Cert.AdamPoolValue

end
-- ==== Proof.AdamFfn.lean ====
/- The optimiser's step for a feed-forward weight, at the last of its four layers: the layer's four blocks are the reference's, and the layers before it stay as they were. -/
module

public import proofs.«01_k».proof.Defs
public import proofs.«01_k».proof.Proof.Gen.AdamFfnIdeal.Value
public import proofs.«01_k».proof.Proof.Gen.AdamFfnRefIdeal.Read
public import proofs.«01_k».proof.Proof.Adam
public import proofs.«01_k».proof.Proof.Zero

@[expose] public section

noncomputable section

namespace Cert.AdamFfnValue

open Cert.AdamFfnIdeal Cert.AdamFfnIdeal.Gen Idealize.ShloMosaic Idealize.ShloMosaic.TcCoe Idealize.SL.Sem
open AdamFfnRefIdeal.Read

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3 (y : S4x704x2048.Idx) : ∃ (s : Fin 4) (r : Fin 704) (l : Fin 2048), y = ix3 s r l :=
  ⟨y 0, y 1, y 2, funext fun a => by match a with | ⟨0, _⟩ => rfl | ⟨1, _⟩ => rfl | ⟨2, _⟩ => rfl⟩

section
variable (g : Vec Ideal S8x64x2048 .bf16) (r : Fin 64) (l : Fin 2048)
theorem slab0 : View.ld g (Rect.unit (s := S8x64x2048) ![0, 0, 0] S1x64x2048.size inb_S8x64x2048_S1x64x2048_0_0_0) (ix3 0 r l) = g (ix3 0 r l) := Adam.slab 0 _ g r l
theorem slab1 : View.ld g (Rect.unit (s := S8x64x2048) ![1, 0, 0] S1x64x2048.size inb_S8x64x2048_S1x64x2048_1_0_0) (ix3 0 r l) = g (ix3 1 r l) := Adam.slab 1 _ g r l
theorem slab2 : View.ld g (Rect.unit (s := S8x64x2048) ![2, 0, 0] S1x64x2048.size inb_S8x64x2048_S1x64x2048_2_0_0) (ix3 0 r l) = g (ix3 2 r l) := Adam.slab 2 _ g r l
theorem slab3 : View.ld g (Rect.unit (s := S8x64x2048) ![3, 0, 0] S1x64x2048.size inb_S8x64x2048_S1x64x2048_3_0_0) (ix3 0 r l) = g (ix3 3 r l) := Adam.slab 3 _ g r l
theorem slab4 : View.ld g (Rect.unit (s := S8x64x2048) ![4, 0, 0] S1x64x2048.size inb_S8x64x2048_S1x64x2048_4_0_0) (ix3 0 r l) = g (ix3 4 r l) := Adam.slab 4 _ g r l
theorem slab5 : View.ld g (Rect.unit (s := S8x64x2048) ![5, 0, 0] S1x64x2048.size inb_S8x64x2048_S1x64x2048_5_0_0) (ix3 0 r l) = g (ix3 5 r l) := Adam.slab 5 _ g r l
theorem slab6 : View.ld g (Rect.unit (s := S8x64x2048) ![6, 0, 0] S1x64x2048.size inb_S8x64x2048_S1x64x2048_6_0_0) (ix3 0 r l) = g (ix3 6 r l) := Adam.slab 6 _ g r l
theorem slab7 : View.ld g (Rect.unit (s := S8x64x2048) ![7, 0, 0] S1x64x2048.size inb_S8x64x2048_S1x64x2048_7_0_0) (ix3 0 r l) = g (ix3 7 r l) := Adam.slab 7 _ g r l
end

/-- The gradient: the sum of the eight devices' parts. -/
def total (g : Vec Ideal S8x704x2048 .bf16) (r : Fin 704) (l : Fin 2048) : EReal :=
  ∑ d : Fin 8, g (ix3 d r l)

/-- The same in one block of rows. -/
def totalBlock (g : Vec Ideal S8x64x2048 .bf16) (r : Fin 64) (l : Fin 2048) : EReal :=
  ∑ d : Fin 8, g (ix3 d r l)

section
variable (c : Dev nD) (i : grid0.Coords) (b1 : Memref sig .tc .vmem S8x64x2048 .bf16) (h1 : b1.IsWhole) (b2 : Memref sig .tc .vmem S1x64x2048 .f32) (h2 : b2.IsWhole) (b3 : Memref sig .tc .vmem S1x64x2048 .f32) (h3 : b3.IsWhole) (b4 : Memref sig .tc .vmem S1x64x2048 .f32) (h4 : b4.IsWhole) (b9 : Memref sig .tc .vmem S1x64x2048 .f32) (h9 : b9.IsWhole) (b10 : Memref sig .tc .vmem S1x64x2048 .f32) (h10 : b10.IsWhole) (b11 : Memref sig .tc .vmem S1x64x2048 .f32) (h11 : b11.IsWhole) (b12 : Memref sig .tc .vmem S1x64x2048 .f32) (h12 : b12.IsWhole) (x0 : Vec Ideal S8x64x2048 .bf16) (x1 : Vec Ideal S1x64x2048 .f32) (x2 : Vec Ideal S1x64x2048 .f32) (x3 : Vec Ideal S1x64x2048 .f32) (r : Fin 64) (l : Fin 2048)

set_option maxHeartbeats 800000 in
theorem outs_apply :
    out0_A_4 c i b1 h1 b2 h2 b3 h3 b4 h4 b9 h9 b10 h10 b11 h11 b12 h12 x0 x1 x2 x3 (ix3 0 r l) = totalBlock x0 r l
    ∧ out0_A_5 c i b1 h1 b2 h2 b3 h3 b4 h4 b9 h9 b10 h10 b11 h11 b12 h12 x0 x1 x2 x3 (ix3 0 r l) = Adam.change (x1 (ix3 0 r l)) (Adam.first (x2 (ix3 0 r l)) (totalBlock x0 r l)) (Adam.second (x3 (ix3 0 r l)) (totalBlock x0 r l))
    ∧ out0_A_6 c i b1 h1 b2 h2 b3 h3 b4 h4 b9 h9 b10 h10 b11 h11 b12 h12 x0 x1 x2 x3 (ix3 0 r l) = Adam.first (x2 (ix3 0 r l)) (totalBlock x0 r l)
    ∧ out0_A_7 c i b1 h1 b2 h2 b3 h3 b4 h4 b9 h9 b10 h10 b11 h11 b12 h12 x0 x1 x2 x3 (ix3 0 r l) = Adam.second (x3 (ix3 0 r l)) (totalBlock x0 r l) := by
  unfold out0_A_4 out0_A_5 out0_A_6 out0_A_7
  rw [View.read_writes_eq_canon _ _ _ (cover0_A_4 c i b1 h1 b2 h2 b3 h3 b4 h4 b9 h9 b10 h10 b11 h11 b12 h12 x0 x1 x2 x3), View.read_writes_eq_canon _ _ _ (cover0_A_5 c i b1 h1 b2 h2 b3 h3 b4 h4 b9 h9 b10 h10 b11 h11 b12 h12 x0 x1 x2 x3), View.read_writes_eq_canon _ _ _ (cover0_A_6 c i b1 h1 b2 h2 b3 h3 b4 h4 b9 h9 b10 h10 b11 h11 b12 h12 x0 x1 x2 x3), View.read_writes_eq_canon _ _ _ (cover0_A_7 c i b1 h1 b2 h2 b3 h3 b4 h4 b9 h9 b10 h10 b11 h11 b12 h12 x0 x1 x2 x3)]
  unfold kernelRun0_A
  dsimp only
  sl_unfold_words
  rw [View.canon_unit_zero zero3, View.canon_unit_zero zero3, View.canon_unit_zero zero3, View.canon_unit_zero zero3]
  unfold totalBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  simp only [View.readAt_eq_ld, h1.read_unread, h2.read_unread, h3.read_unread, h4.read_unread, View.ld_unit_zero (S := S1x64x2048) zero3]
  refine ⟨?_, ?_, ?_, ?_⟩ <;> pointwise [k0_pay1, k0_pay2, k0_pay3, k0_pay4, k0_pay5, k0_pay6, k0_pay7, k0_pay8, k0_pay9, k0_pay10]

end

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 3 ∧ win0_1.index t (1 : Fin 3) = t.val ∧ win0_1.index t (2 : Fin 3) = 0 :=
  (by decide +kernel : ∀ t : Fin grid0.N, _)

theorem at4 : ∀ t : Fin cfg0.N, win0_4.index t (0 : Fin 3) = 3 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 64) : Fin 704 := ⟨(t * 64 + k.val) % 704, by omega⟩

theorem places (r : Fin 704) : ∃ (t : Fin cfg0.N) (k : Fin 64), rowOf t.val k = r :=
  ⟨⟨r.val / 64, by show _ < 11; omega⟩, ⟨r.val % 64, by omega⟩, Fin.ext (by show (r.val / 64 * 64 + r.val % 64) % 704 = r.val; omega)⟩

theorem emb1 (t : Fin cfg0.N) (k : Fin 64) (l : Fin 2048) : ((cfg0.win 1).blk t).view.emb (ix3 0 k l) = (ix3 3 (rowOf t.val k) l : S4x704x2048.Idx) := by
  have F := at1 t
  have hN : t.val < 11 := t.isLt
  funext a; apply Fin.ext
  match a with
  | ⟨0, _⟩ => show win0_1.index t (0 : Fin 3) * 1 + 1 * 0 = 3; omega
  | ⟨1, _⟩ => show win0_1.index t (1 : Fin 3) * 64 + 1 * k.val = (t.val * 64 + k.val) % 704; omega
  | ⟨2, _⟩ => show win0_1.index t (2 : Fin 3) * 2048 + 1 * l.val = l.val; omega

variable (m : (ℓ : Loc nD τ sig) → Buf (Elt Ideal) ℓ)

/-- An argument on core `c`. -/
abbrev parts (c : Dev nD) : Vec Ideal S8x704x2048 .bf16 := m (c.tc.loc main_arg0)
abbrev wt (c : Dev nD) : Vec Ideal S4x704x2048 .f32 := m (c.tc.loc main_arg1)
abbrev mo (c : Dev nD) : Vec Ideal S4x704x2048 .f32 := m (c.tc.loc main_arg2)
abbrev ve (c : Dev nD) : Vec Ideal S4x704x2048 .f32 := m (c.tc.loc main_arg3)
abbrev old0 (c : Dev nD) : Vec Ideal S4x704x2048 .f32 := m (c.tc.loc main_arg4)
abbrev old1 (c : Dev nD) : Vec Ideal S4x704x2048 .f32 := m (c.tc.loc main_arg5)
abbrev old2 (c : Dev nD) : Vec Ideal S4x704x2048 .f32 := m (c.tc.loc main_arg6)
abbrev old3 (c : Dev nD) : Vec Ideal S4x704x2048 .f32 := m (c.tc.loc main_arg7)

theorem parts_block (c : Dev nD) (t : Fin cfg0.N) (k : Fin 64) (l : Fin 2048) : totalBlock (iblk m c 0 t) k l = total (parts m c) (rowOf t.val k) l := by
  have F := at0 t
  have hN : t.val < 11 := t.isLt
  unfold totalBlock total
  refine Finset.sum_congr rfl fun d _ => ?_
  show V m c main_arg0 (((cfg0.win 0).blk t).view.emb _) = _
  rw [V_main_arg0]
  refine congrArg (parts m c) ?_
  funext a; apply Fin.ext
  match a with
  | ⟨0, _⟩ => show win0_0.index t (0 : Fin 3) * 8 + 1 * d.val = d.val; omega
  | ⟨1, _⟩ => show win0_0.index t (1 : Fin 3) * 64 + 1 * k.val = (t.val * 64 + k.val) % 704; omega
  | ⟨2, _⟩ => show win0_0.index t (2 : Fin 3) * 2048 + 1 * l.val = l.val; omega

theorem wt_block (c : Dev nD) (t : Fin cfg0.N) (k : Fin 64) (l : Fin 2048) : iblk m c 1 t (ix3 0 k l) = wt m c (ix3 3 (rowOf t.val k) l) := by
  show V m c main_arg1 _ = _
  rw [V_main_arg1]
  exact congrArg (wt m c) (emb1 t k l)

theorem mo_block (c : Dev nD) (t : Fin cfg0.N) (k : Fin 64) (l : Fin 2048) : iblk m c 2 t (ix3 0 k l) = mo m c (ix3 3 (rowOf t.val k) l) := by
  show V m c main_arg2 _ = _
  rw [V_main_arg2]
  exact congrArg (mo m c) (emb1 t k l)

theorem ve_block (c : Dev nD) (t : Fin cfg0.N) (k : Fin 64) (l : Fin 2048) : iblk m c 3 t (ix3 0 k l) = ve m c (ix3 3 (rowOf t.val k) l) := by
  show V m c main_arg3 _ = _
  rw [V_main_arg3]
  exact congrArg (ve m c) (emb1 t k l)

/-- An array with `f` in its last layer and `old` in the layers before. -/
def lay (f : Fin 704 → Fin 2048 → EReal) (old : Vec Ideal S4x704x2048 .f32) : Vec Ideal S4x704x2048 .f32 :=
  fun i => if (i 0).val = 3 then f (i 1) (i 2) else old i

theorem lay_last (f : Fin 704 → Fin 2048 → EReal) (old : Vec Ideal S4x704x2048 .f32) (r : Fin 704) (l : Fin 2048) : lay f old (ix3 3 r l) = f r l := if_pos rfl

theorem lay_rest (f : Fin 704 → Fin 2048 → EReal) (old : Vec Ideal S4x704x2048 .f32) (s : Fin 4) (r : Fin 704) (l : Fin 2048) (h : s.val ≠ 3) : lay f old (ix3 s r l) = old (ix3 s r l) := if_neg h

theorem inside (t : Fin cfg0.N) {s : Fin 4} {r : Fin 704} {l : Fin 2048} (hm : ix3 s r l ∈ ((View.whole main_v0_0).slice (win0_4.rect t)).set) : s.val = 3 := by
  have F := at4 t
  rw [View.set_slice_whole, Rect.mem_set_unit] at hm
  have h0 : win0_4.index t (0 : Fin 3) * 1 ≤ s.val ∧ s.val < win0_4.index t (0 : Fin 3) * 1 + 1 := hm 0
  omega

theorem lay_of {f : Fin 704 → Fin 2048 → EReal} {old A : Vec Ideal S4x704x2048 .f32} (hl : ∀ (t : Fin cfg0.N) (j : Fin 64) (l : Fin 2048), A (ix3 3 (rowOf t.val j) l) = f (rowOf t.val j) l)
    (hr : ∀ (s : Fin 4) (r : Fin 704) (l : Fin 2048), s.val ≠ 3 → A (ix3 s r l) = old (ix3 s r l)) : A = lay f old := by
  funext i
  obtain ⟨s, r, l, rfl⟩ := eq_ix3 i
  by_cases h : s.val = 3
  · obtain rfl : s = 3 := Fin.ext h
    obtain ⟨t, j, rfl⟩ := places r
    exact (hl t j l).trans (lay_last ..).symm
  · exact (hr s r l h).trans (lay_rest _ _ s r l h).symm

theorem array4_eq (c : Dev nD) : (dats m 0 c).arrAt 4 cfg0.N = lay (fun r l => total (parts m c) r l) (old0 m c) :=
  lay_of (fun t j l => by
    refine (congrArg _ (emb1 t j l).symm).trans ((congrFun (Value.blocks4 m c t (at4 t).2.2.2) (ix3 0 j l)).trans ?_)
    rw [Value.flushed4_A]
    refine (outs_apply ..).1.trans ?_
    rw [parts_block]) fun s r l h => Value.entry4 m c (ix3 s r l) fun t _ hm => h (inside t hm)

theorem array5_eq (c : Dev nD) : (dats m 0 c).arrAt 5 cfg0.N = lay (fun r l => Adam.change (wt m c (ix3 3 r l)) (Adam.first (mo m c (ix3 3 r l)) (total (parts m c) r l)) (Adam.second (ve m c (ix3 3 r l)) (total (parts m c) r l))) (old1 m c) :=
  lay_of (fun t j l => by
    refine (congrArg _ (emb1 t j l).symm).trans ((congrFun (Value.blocks5 m c t (at4 t).2.2.2) (ix3 0 j l)).trans ?_)
    rw [Value.flushed5_A]
    refine (outs_apply ..).2.1.trans ?_
    rw [parts_block, wt_block, mo_block, ve_block]) fun s r l h => Value.entry5 m c (ix3 s r l) fun t _ hm => h (inside t hm)

theorem array6_eq (c : Dev nD) : (dats m 0 c).arrAt 6 cfg0.N = lay (fun r l => Adam.first (mo m c (ix3 3 r l)) (total (parts m c) r l)) (old2 m c) :=
  lay_of (fun t j l => by
    refine (congrArg _ (emb1 t j l).symm).trans ((congrFun (Value.blocks6 m c t (at4 t).2.2.2) (ix3 0 j l)).trans ?_)
    rw [Value.flushed6_A]
    refine (outs_apply ..).2.2.1.trans ?_
    rw [parts_block, mo_block]) fun s r l h => Value.entry6 m c (ix3 s r l) fun t _ hm => h (inside t hm)

theorem array7_eq (c : Dev nD) : (dats m 0 c).arrAt 7 cfg0.N = lay (fun r l => Adam.second (ve m c (ix3 3 r l)) (total (parts m c) r l)) (old3 m c) :=
  lay_of (fun t j l => by
    refine (congrArg _ (emb1 t j l).symm).trans ((congrFun (Value.blocks7 m c t (at4 t).2.2.2) (ix3 0 j l)).trans ?_)
    rw [Value.flushed7_A]
    refine (outs_apply ..).2.2.2.trans ?_
    rw [parts_block, ve_block]) fun s r l h => Value.entry7 m c (ix3 s r l) fun t _ hm => h (inside t hm)

/-- The gradient: the reference's. -/
theorem gradient_eq (g : Vec Ideal S8x704x2048 .bf16) (u : Vec Ideal S4x704x2048 .f32) : val_main_v34 (F := Ideal) g u = lay (fun r l => total g r l) u := by
  funext i
  obtain ⟨s, r, l, rfl⟩ := eq_ix3 i
  unfold lay total
  fin_cases s <;> pointwise [val_main_v0, val_main_cst, val_main_v1, val_main_v32, val_main_v33, val_main_v34]

/-- The change of the weight: the reference's. -/
theorem change_eq (g : Vec Ideal S8x704x2048 .bf16) (w m v u : Vec Ideal S4x704x2048 .f32) : val_main_v37 (F := Ideal) g w m v u = lay (fun r l => Adam.change (w (ix3 3 r l)) (Adam.first (m (ix3 3 r l)) (total g r l)) (Adam.second (v (ix3 3 r l)) (total g r l))) u := by
  funext i
  obtain ⟨s, r, l, rfl⟩ := eq_ix3 i
  unfold lay Adam.change Adam.first Adam.second total
  fin_cases s <;> pointwise [val_main_v0, val_main_cst, val_main_v1, val_main_v2, val_main_v3, val_main_v4, val_main_v5, val_main_v6, val_main_v7, val_main_cst_0, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31, val_main_v35, val_main_v36, val_main_v37]

/-- The first moment: the reference's. -/
theorem first_eq (g : Vec Ideal S8x704x2048 .bf16) (m u : Vec Ideal S4x704x2048 .f32) : val_main_v40 (F := Ideal) g m u = lay (fun r l => Adam.first (m (ix3 3 r l)) (total g r l)) u := by
  funext i
  obtain ⟨s, r, l, rfl⟩ := eq_ix3 i
  unfold lay Adam.first total
  fin_cases s <;> pointwise [val_main_v0, val_main_cst, val_main_v1, val_main_v4, val_main_v5, val_main_cst_0, val_main_v8, val_main_v9, val_main_cst_1, val_main_v10, val_main_v11, val_main_v12, val_main_v38, val_main_v39, val_main_v40]

/-- The second moment: the reference's. -/
theorem second_eq (g : Vec Ideal S8x704x2048 .bf16) (v u : Vec Ideal S4x704x2048 .f32) : val_main_v43 (F := Ideal) g v u = lay (fun r l => Adam.second (v (ix3 3 r l)) (total g r l)) u := by
  funext i
  obtain ⟨s, r, l, rfl⟩ := eq_ix3 i
  unfold lay Adam.second total
  fin_cases s <;> pointwise [val_main_v0, val_main_cst, val_main_v1, val_main_v6, val_main_v7, val_main_cst_2, val_main_v13, val_main_v14, val_main_v15, val_main_cst_3, val_main_v16, val_main_v17, val_main_v18, val_main_v41, val_main_v42, val_main_v43]

theorem preserves : Cert.preserves_AdamFfn_AdamFfnIdeal :=
  ⟨IdealRules.named_const.statement Cert.AdamFfnIdeal.κ "c1" .f32 0x3FC48605#32 ((8388608 / 5463681 : ℝ) : EReal) rfl,
    IdealRules.named_const.statement Cert.AdamFfnIdeal.κ "c2" .f32 0x42C8E6D3#32 ((268435456 / 2672307 : ℝ) : EReal) rfl⟩

/-- The kernel and the reference hold the same four arrays. -/
theorem algebraic : Cert.algebraic_AdamFfnIdeal_AdamFfnRefIdeal := by
  intro m g m' g' _ hagree
  refine ⟨fun c => lay (fun r l => total (parts m c) r l) (old0 m c), fun c => lay (fun r l => Adam.change (wt m c (ix3 3 r l)) (Adam.first (mo m c (ix3 3 r l)) (total (parts m c) r l)) (Adam.second (ve m c (ix3 3 r l)) (total (parts m c) r l))) (old1 m c), fun c => lay (fun r l => Adam.first (mo m c (ix3 3 r l)) (total (parts m c) r l)) (old2 m c), fun c => lay (fun r l => Adam.second (ve m c (ix3 3 r l)) (total (parts m c) r l)) (old3 m c),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (val_main_v34_eq ..)).trans ?_, ((h c).2.1.trans (val_main_v37_eq ..)).trans ?_,
      ((h c).2.2.1.trans (val_main_v40_eq ..)).trans ?_, ((h c).2.2.2.1.trans (val_main_v43_eq ..)).trans ?_, (h c).2.2.2.2⟩) (AdamFfnRefIdeal.Value.run m' g')⟩
  · rw [(hagree c).1, (hagree c).2.2.2.2.1]
    exact gradient_eq _ _
  · rw [(hagree c).1, (hagree c).2.1, (hagree c).2.2.1, (hagree c).2.2.2.1, (hagree c).2.2.2.2.2.1]
    exact change_eq _ _ _ _ _
  · rw [(hagree c).1, (hagree c).2.2.1, (hagree c).2.2.2.2.2.2.1]
    exact first_eq _ _ _
  · rw [(hagree c).1, (hagree c).2.2.2.1, (hagree c).2.2.2.2.2.2.2]
    exact second_eq _ _ _

end Cert.AdamFfnValue

end
-- ==== Proof.AdamGate.lean ====
/- The optimiser's step for the gate's weight, at the last of its four layers: the layer's four blocks are the reference's, and the layers before it stay as they were. -/
module

public import proofs.«01_k».proof.Defs
public import proofs.«01_k».proof.Proof.Gen.AdamGateIdeal.Value
public import proofs.«01_k».proof.Proof.Gen.AdamGateRefIdeal.Read
public import proofs.«01_k».proof.Proof.Adam
public import proofs.«01_k».proof.Proof.Zero

@[expose] public section

noncomputable section

namespace Cert.AdamGateValue

open Cert.AdamGateIdeal Cert.AdamGateIdeal.Gen Idealize.ShloMosaic Idealize.ShloMosaic.TcCoe Idealize.SL.Sem
open AdamGateRefIdeal.Read

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3 (y : S4x256x2048.Idx) : ∃ (s : Fin 4) (r : Fin 256) (l : Fin 2048), y = ix3 s r l :=
  ⟨y 0, y 1, y 2, funext fun a => by match a with | ⟨0, _⟩ => rfl | ⟨1, _⟩ => rfl | ⟨2, _⟩ => rfl⟩

section
variable (g : Vec Ideal S8x128x2048 .bf16) (r : Fin 128) (l : Fin 2048)
theorem slab0 : View.ld g (Rect.unit (s := S8x128x2048) ![0, 0, 0] S1x128x2048.size inb_S8x128x2048_S1x128x2048_0_0_0) (ix3 0 r l) = g (ix3 0 r l) := Adam.slab 0 _ g r l
theorem slab1 : View.ld g (Rect.unit (s := S8x128x2048) ![1, 0, 0] S1x128x2048.size inb_S8x128x2048_S1x128x2048_1_0_0) (ix3 0 r l) = g (ix3 1 r l) := Adam.slab 1 _ g r l
theorem slab2 : View.ld g (Rect.unit (s := S8x128x2048) ![2, 0, 0] S1x128x2048.size inb_S8x128x2048_S1x128x2048_2_0_0) (ix3 0 r l) = g (ix3 2 r l) := Adam.slab 2 _ g r l
theorem slab3 : View.ld g (Rect.unit (s := S8x128x2048) ![3, 0, 0] S1x128x2048.size inb_S8x128x2048_S1x128x2048_3_0_0) (ix3 0 r l) = g (ix3 3 r l) := Adam.slab 3 _ g r l
theorem slab4 : View.ld g (Rect.unit (s := S8x128x2048) ![4, 0, 0] S1x128x2048.size inb_S8x128x2048_S1x128x2048_4_0_0) (ix3 0 r l) = g (ix3 4 r l) := Adam.slab 4 _ g r l
theorem slab5 : View.ld g (Rect.unit (s := S8x128x2048) ![5, 0, 0] S1x128x2048.size inb_S8x128x2048_S1x128x2048_5_0_0) (ix3 0 r l) = g (ix3 5 r l) := Adam.slab 5 _ g r l
theorem slab6 : View.ld g (Rect.unit (s := S8x128x2048) ![6, 0, 0] S1x128x2048.size inb_S8x128x2048_S1x128x2048_6_0_0) (ix3 0 r l) = g (ix3 6 r l) := Adam.slab 6 _ g r l
theorem slab7 : View.ld g (Rect.unit (s := S8x128x2048) ![7, 0, 0] S1x128x2048.size inb_S8x128x2048_S1x128x2048_7_0_0) (ix3 0 r l) = g (ix3 7 r l) := Adam.slab 7 _ g r l
end

/-- The gradient: the sum of the eight devices' parts. -/
def total (g : Vec Ideal S8x256x2048 .bf16) (r : Fin 256) (l : Fin 2048) : EReal :=
  ∑ d : Fin 8, g (ix3 d r l)

/-- The same in one block of rows. -/
def totalBlock (g : Vec Ideal S8x128x2048 .bf16) (r : Fin 128) (l : Fin 2048) : EReal :=
  ∑ d : Fin 8, g (ix3 d r l)

section
variable (c : Dev nD) (i : grid0.Coords) (b1 : Memref sig .tc .vmem S8x128x2048 .bf16) (h1 : b1.IsWhole) (b2 : Memref sig .tc .vmem S1x128x2048 .f32) (h2 : b2.IsWhole) (b3 : Memref sig .tc .vmem S1x128x2048 .f32) (h3 : b3.IsWhole) (b4 : Memref sig .tc .vmem S1x128x2048 .f32) (h4 : b4.IsWhole) (b9 : Memref sig .tc .vmem S1x128x2048 .f32) (h9 : b9.IsWhole) (b10 : Memref sig .tc .vmem S1x128x2048 .f32) (h10 : b10.IsWhole) (b11 : Memref sig .tc .vmem S1x128x2048 .f32) (h11 : b11.IsWhole) (b12 : Memref sig .tc .vmem S1x128x2048 .f32) (h12 : b12.IsWhole) (x0 : Vec Ideal S8x128x2048 .bf16) (x1 : Vec Ideal S1x128x2048 .f32) (x2 : Vec Ideal S1x128x2048 .f32) (x3 : Vec Ideal S1x128x2048 .f32) (r : Fin 128) (l : Fin 2048)

set_option maxHeartbeats 800000 in
theorem outs_apply :
    out0_A_4 c i b1 h1 b2 h2 b3 h3 b4 h4 b9 h9 b10 h10 b11 h11 b12 h12 x0 x1 x2 x3 (ix3 0 r l) = totalBlock x0 r l
    ∧ out0_A_5 c i b1 h1 b2 h2 b3 h3 b4 h4 b9 h9 b10 h10 b11 h11 b12 h12 x0 x1 x2 x3 (ix3 0 r l) = Adam.change (x1 (ix3 0 r l)) (Adam.first (x2 (ix3 0 r l)) (totalBlock x0 r l)) (Adam.second (x3 (ix3 0 r l)) (totalBlock x0 r l))
    ∧ out0_A_6 c i b1 h1 b2 h2 b3 h3 b4 h4 b9 h9 b10 h10 b11 h11 b12 h12 x0 x1 x2 x3 (ix3 0 r l) = Adam.first (x2 (ix3 0 r l)) (totalBlock x0 r l)
    ∧ out0_A_7 c i b1 h1 b2 h2 b3 h3 b4 h4 b9 h9 b10 h10 b11 h11 b12 h12 x0 x1 x2 x3 (ix3 0 r l) = Adam.second (x3 (ix3 0 r l)) (totalBlock x0 r l) := by
  unfold out0_A_4 out0_A_5 out0_A_6 out0_A_7
  rw [View.read_writes_eq_canon _ _ _ (cover0_A_4 c i b1 h1 b2 h2 b3 h3 b4 h4 b9 h9 b10 h10 b11 h11 b12 h12 x0 x1 x2 x3), View.read_writes_eq_canon _ _ _ (cover0_A_5 c i b1 h1 b2 h2 b3 h3 b4 h4 b9 h9 b10 h10 b11 h11 b12 h12 x0 x1 x2 x3), View.read_writes_eq_canon _ _ _ (cover0_A_6 c i b1 h1 b2 h2 b3 h3 b4 h4 b9 h9 b10 h10 b11 h11 b12 h12 x0 x1 x2 x3), View.read_writes_eq_canon _ _ _ (cover0_A_7 c i b1 h1 b2 h2 b3 h3 b4 h4 b9 h9 b10 h10 b11 h11 b12 h12 x0 x1 x2 x3)]
  unfold kernelRun0_A
  dsimp only
  sl_unfold_words
  rw [View.canon_unit_zero zero3, View.canon_unit_zero zero3, View.canon_unit_zero zero3, View.canon_unit_zero zero3]
  unfold totalBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  simp only [View.readAt_eq_ld, h1.read_unread, h2.read_unread, h3.read_unread, h4.read_unread, View.ld_unit_zero (S := S1x128x2048) zero3]
  refine ⟨?_, ?_, ?_, ?_⟩ <;> pointwise [k0_pay1, k0_pay2, k0_pay3, k0_pay4, k0_pay5, k0_pay6, k0_pay7, k0_pay8, k0_pay9, k0_pay10]

end

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 3 ∧ win0_1.index t (1 : Fin 3) = t.val ∧ win0_1.index t (2 : Fin 3) = 0 :=
  (by decide +kernel : ∀ t : Fin grid0.N, _)

theorem at4 : ∀ t : Fin cfg0.N, win0_4.index t (0 : Fin 3) = 3 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 128) : Fin 256 := ⟨(t * 128 + k.val) % 256, by omega⟩

theorem places (r : Fin 256) : ∃ (t : Fin cfg0.N) (k : Fin 128), rowOf t.val k = r :=
  ⟨⟨r.val / 128, by show _ < 2; omega⟩, ⟨r.val % 128, by omega⟩, Fin.ext (by show (r.val / 128 * 128 + r.val % 128) % 256 = r.val; omega)⟩

theorem emb1 (t : Fin cfg0.N) (k : Fin 128) (l : Fin 2048) : ((cfg0.win 1).blk t).view.emb (ix3 0 k l) = (ix3 3 (rowOf t.val k) l : S4x256x2048.Idx) := by
  have F := at1 t
  have hN : t.val < 2 := t.isLt
  funext a; apply Fin.ext
  match a with
  | ⟨0, _⟩ => show win0_1.index t (0 : Fin 3) * 1 + 1 * 0 = 3; omega
  | ⟨1, _⟩ => show win0_1.index t (1 : Fin 3) * 128 + 1 * k.val = (t.val * 128 + k.val) % 256; omega
  | ⟨2, _⟩ => show win0_1.index t (2 : Fin 3) * 2048 + 1 * l.val = l.val; omega

variable (m : (ℓ : Loc nD τ sig) → Buf (Elt Ideal) ℓ)

/-- An argument on core `c`. -/
abbrev parts (c : Dev nD) : Vec Ideal S8x256x2048 .bf16 := m (c.tc.loc main_arg0)
abbrev wt (c : Dev nD) : Vec Ideal S4x256x2048 .f32 := m (c.tc.loc main_arg1)
abbrev mo (c : Dev nD) : Vec Ideal S4x256x2048 .f32 := m (c.tc.loc main_arg2)
abbrev ve (c : Dev nD) : Vec Ideal S4x256x2048 .f32 := m (c.tc.loc main_arg3)
abbrev old0 (c : Dev nD) : Vec Ideal S4x256x2048 .f32 := m (c.tc.loc main_arg4)
abbrev old1 (c : Dev nD) : Vec Ideal S4x256x2048 .f32 := m (c.tc.loc main_arg5)
abbrev old2 (c : Dev nD) : Vec Ideal S4x256x2048 .f32 := m (c.tc.loc main_arg6)
abbrev old3 (c : Dev nD) : Vec Ideal S4x256x2048 .f32 := m (c.tc.loc main_arg7)

theorem parts_block (c : Dev nD) (t : Fin cfg0.N) (k : Fin 128) (l : Fin 2048) : totalBlock (iblk m c 0 t) k l = total (parts m c) (rowOf t.val k) l := by
  have F := at0 t
  have hN : t.val < 2 := t.isLt
  unfold totalBlock total
  refine Finset.sum_congr rfl fun d _ => ?_
  show V m c main_arg0 (((cfg0.win 0).blk t).view.emb _) = _
  rw [V_main_arg0]
  refine congrArg (parts m c) ?_
  funext a; apply Fin.ext
  match a with
  | ⟨0, _⟩ => show win0_0.index t (0 : Fin 3) * 8 + 1 * d.val = d.val; omega
  | ⟨1, _⟩ => show win0_0.index t (1 : Fin 3) * 128 + 1 * k.val = (t.val * 128 + k.val) % 256; omega
  | ⟨2, _⟩ => show win0_0.index t (2 : Fin 3) * 2048 + 1 * l.val = l.val; omega

theorem wt_block (c : Dev nD) (t : Fin cfg0.N) (k : Fin 128) (l : Fin 2048) : iblk m c 1 t (ix3 0 k l) = wt m c (ix3 3 (rowOf t.val k) l) := by
  show V m c main_arg1 _ = _
  rw [V_main_arg1]
  exact congrArg (wt m c) (emb1 t k l)

theorem mo_block (c : Dev nD) (t : Fin cfg0.N) (k : Fin 128) (l : Fin 2048) : iblk m c 2 t (ix3 0 k l) = mo m c (ix3 3 (rowOf t.val k) l) := by
  show V m c main_arg2 _ = _
  rw [V_main_arg2]
  exact congrArg (mo m c) (emb1 t k l)

theorem ve_block (c : Dev nD) (t : Fin cfg0.N) (k : Fin 128) (l : Fin 2048) : iblk m c 3 t (ix3 0 k l) = ve m c (ix3 3 (rowOf t.val k) l) := by
  show V m c main_arg3 _ = _
  rw [V_main_arg3]
  exact congrArg (ve m c) (emb1 t k l)

/-- An array with `f` in its last layer and `old` in the layers before. -/
def lay (f : Fin 256 → Fin 2048 → EReal) (old : Vec Ideal S4x256x2048 .f32) : Vec Ideal S4x256x2048 .f32 :=
  fun i => if (i 0).val = 3 then f (i 1) (i 2) else old i

theorem lay_last (f : Fin 256 → Fin 2048 → EReal) (old : Vec Ideal S4x256x2048 .f32) (r : Fin 256) (l : Fin 2048) : lay f old (ix3 3 r l) = f r l := if_pos rfl

theorem lay_rest (f : Fin 256 → Fin 2048 → EReal) (old : Vec Ideal S4x256x2048 .f32) (s : Fin 4) (r : Fin 256) (l : Fin 2048) (h : s.val ≠ 3) : lay f old (ix3 s r l) = old (ix3 s r l) := if_neg h

theorem inside (t : Fin cfg0.N) {s : Fin 4} {r : Fin 256} {l : Fin 2048} (hm : ix3 s r l ∈ ((View.whole main_v0_0).slice (win0_4.rect t)).set) : s.val = 3 := by
  have F := at4 t
  rw [View.set_slice_whole, Rect.mem_set_unit] at hm
  have h0 : win0_4.index t (0 : Fin 3) * 1 ≤ s.val ∧ s.val < win0_4.index t (0 : Fin 3) * 1 + 1 := hm 0
  omega

theorem lay_of {f : Fin 256 → Fin 2048 → EReal} {old A : Vec Ideal S4x256x2048 .f32} (hl : ∀ (t : Fin cfg0.N) (j : Fin 128) (l : Fin 2048), A (ix3 3 (rowOf t.val j) l) = f (rowOf t.val j) l)
    (hr : ∀ (s : Fin 4) (r : Fin 256) (l : Fin 2048), s.val ≠ 3 → A (ix3 s r l) = old (ix3 s r l)) : A = lay f old := by
  funext i
  obtain ⟨s, r, l, rfl⟩ := eq_ix3 i
  by_cases h : s.val = 3
  · obtain rfl : s = 3 := Fin.ext h
    obtain ⟨t, j, rfl⟩ := places r
    exact (hl t j l).trans (lay_last ..).symm
  · exact (hr s r l h).trans (lay_rest _ _ s r l h).symm

theorem array4_eq (c : Dev nD) : (dats m 0 c).arrAt 4 cfg0.N = lay (fun r l => total (parts m c) r l) (old0 m c) :=
  lay_of (fun t j l => by
    refine (congrArg _ (emb1 t j l).symm).trans ((congrFun (Value.blocks4 m c t (at4 t).2.2.2) (ix3 0 j l)).trans ?_)
    rw [Value.flushed4_A]
    refine (outs_apply ..).1.trans ?_
    rw [parts_block]) fun s r l h => Value.entry4 m c (ix3 s r l) fun t _ hm => h (inside t hm)

theorem array5_eq (c : Dev nD) : (dats m 0 c).arrAt 5 cfg0.N = lay (fun r l => Adam.change (wt m c (ix3 3 r l)) (Adam.first (mo m c (ix3 3 r l)) (total (parts m c) r l)) (Adam.second (ve m c (ix3 3 r l)) (total (parts m c) r l))) (old1 m c) :=
  lay_of (fun t j l => by
    refine (congrArg _ (emb1 t j l).symm).trans ((congrFun (Value.blocks5 m c t (at4 t).2.2.2) (ix3 0 j l)).trans ?_)
    rw [Value.flushed5_A]
    refine (outs_apply ..).2.1.trans ?_
    rw [parts_block, wt_block, mo_block, ve_block]) fun s r l h => Value.entry5 m c (ix3 s r l) fun t _ hm => h (inside t hm)

theorem array6_eq (c : Dev nD) : (dats m 0 c).arrAt 6 cfg0.N = lay (fun r l => Adam.first (mo m c (ix3 3 r l)) (total (parts m c) r l)) (old2 m c) :=
  lay_of (fun t j l => by
    refine (congrArg _ (emb1 t j l).symm).trans ((congrFun (Value.blocks6 m c t (at4 t).2.2.2) (ix3 0 j l)).trans ?_)
    rw [Value.flushed6_A]
    refine (outs_apply ..).2.2.1.trans ?_
    rw [parts_block, mo_block]) fun s r l h => Value.entry6 m c (ix3 s r l) fun t _ hm => h (inside t hm)

theorem array7_eq (c : Dev nD) : (dats m 0 c).arrAt 7 cfg0.N = lay (fun r l => Adam.second (ve m c (ix3 3 r l)) (total (parts m c) r l)) (old3 m c) :=
  lay_of (fun t j l => by
    refine (congrArg _ (emb1 t j l).symm).trans ((congrFun (Value.blocks7 m c t (at4 t).2.2.2) (ix3 0 j l)).trans ?_)
    rw [Value.flushed7_A]
    refine (outs_apply ..).2.2.2.trans ?_
    rw [parts_block, ve_block]) fun s r l h => Value.entry7 m c (ix3 s r l) fun t _ hm => h (inside t hm)

/-- The gradient: the reference's. -/
theorem gradient_eq (g : Vec Ideal S8x256x2048 .bf16) (u : Vec Ideal S4x256x2048 .f32) : val_main_v34 (F := Ideal) g u = lay (fun r l => total g r l) u := by
  funext i
  obtain ⟨s, r, l, rfl⟩ := eq_ix3 i
  unfold lay total
  fin_cases s <;> pointwise [val_main_v0, val_main_cst, val_main_v1, val_main_v32, val_main_v33, val_main_v34]

/-- The change of the weight: the reference's. -/
theorem change_eq (g : Vec Ideal S8x256x2048 .bf16) (w m v u : Vec Ideal S4x256x2048 .f32) : val_main_v37 (F := Ideal) g w m v u = lay (fun r l => Adam.change (w (ix3 3 r l)) (Adam.first (m (ix3 3 r l)) (total g r l)) (Adam.second (v (ix3 3 r l)) (total g r l))) u := by
  funext i
  obtain ⟨s, r, l, rfl⟩ := eq_ix3 i
  unfold lay Adam.change Adam.first Adam.second total
  fin_cases s <;> pointwise [val_main_v0, val_main_cst, val_main_v1, val_main_v2, val_main_v3, val_main_v4, val_main_v5, val_main_v6, val_main_v7, val_main_cst_0, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31, val_main_v35, val_main_v36, val_main_v37]

/-- The first moment: the reference's. -/
theorem first_eq (g : Vec Ideal S8x256x2048 .bf16) (m u : Vec Ideal S4x256x2048 .f32) : val_main_v40 (F := Ideal) g m u = lay (fun r l => Adam.first (m (ix3 3 r l)) (total g r l)) u := by
  funext i
  obtain ⟨s, r, l, rfl⟩ := eq_ix3 i
  unfold lay Adam.first total
  fin_cases s <;> pointwise [val_main_v0, val_main_cst, val_main_v1, val_main_v4, val_main_v5, val_main_cst_0, val_main_v8, val_main_v9, val_main_cst_1, val_main_v10, val_main_v11, val_main_v12, val_main_v38, val_main_v39, val_main_v40]

/-- The second moment: the reference's. -/
theorem second_eq (g : Vec Ideal S8x256x2048 .bf16) (v u : Vec Ideal S4x256x2048 .f32) : val_main_v43 (F := Ideal) g v u = lay (fun r l => Adam.second (v (ix3 3 r l)) (total g r l)) u := by
  funext i
  obtain ⟨s, r, l, rfl⟩ := eq_ix3 i
  unfold lay Adam.second total
  fin_cases s <;> pointwise [val_main_v0, val_main_cst, val_main_v1, val_main_v6, val_main_v7, val_main_cst_2, val_main_v13, val_main_v14, val_main_v15, val_main_cst_3, val_main_v16, val_main_v17, val_main_v18, val_main_v41, val_main_v42, val_main_v43]

theorem preserves : Cert.preserves_AdamGate_AdamGateIdeal :=
  ⟨IdealRules.named_const.statement Cert.AdamGateIdeal.κ "c1" .f32 0x3FC48605#32 ((8388608 / 5463681 : ℝ) : EReal) rfl,
    IdealRules.named_const.statement Cert.AdamGateIdeal.κ "c2" .f32 0x42C8E6D3#32 ((268435456 / 2672307 : ℝ) : EReal) rfl⟩

/-- The kernel and the reference hold the same four arrays. -/
theorem algebraic : Cert.algebraic_AdamGateIdeal_AdamGateRefIdeal := by
  intro m g m' g' _ hagree
  refine ⟨fun c => lay (fun r l => total (parts m c) r l) (old0 m c), fun c => lay (fun r l => Adam.change (wt m c (ix3 3 r l)) (Adam.first (mo m c (ix3 3 r l)) (total (parts m c) r l)) (Adam.second (ve m c (ix3 3 r l)) (total (parts m c) r l))) (old1 m c), fun c => lay (fun r l => Adam.first (mo m c (ix3 3 r l)) (total (parts m c) r l)) (old2 m c), fun c => lay (fun r l => Adam.second (ve m c (ix3 3 r l)) (total (parts m c) r l)) (old3 m c),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (val_main_v34_eq ..)).trans ?_, ((h c).2.1.trans (val_main_v37_eq ..)).trans ?_,
      ((h c).2.2.1.trans (val_main_v40_eq ..)).trans ?_, ((h c).2.2.2.1.trans (val_main_v43_eq ..)).trans ?_, (h c).2.2.2.2⟩) (AdamGateRefIdeal.Value.run m' g')⟩
  · rw [(hagree c).1, (hagree c).2.2.2.2.1]
    exact gradient_eq _ _
  · rw [(hagree c).1, (hagree c).2.1, (hagree c).2.2.1, (hagree c).2.2.2.1, (hagree c).2.2.2.2.2.1]
    exact change_eq _ _ _ _ _
  · rw [(hagree c).1, (hagree c).2.2.1, (hagree c).2.2.2.2.2.2.1]
    exact first_eq _ _ _
  · rw [(hagree c).1, (hagree c).2.2.2.1, (hagree c).2.2.2.2.2.2.2]
    exact second_eq _ _ _

end Cert.AdamGateValue

end
-- ==== Proof.AdamProj.lean ====
/- The optimiser's step for the weight of the per-layer input, at the last of its four layers: the layer's four blocks are the reference's, and the layers before it stay as they were. -/
module

public import proofs.«01_k».proof.Defs
public import proofs.«01_k».proof.Proof.Gen.AdamProjIdeal.Value
public import proofs.«01_k».proof.Proof.Gen.AdamProjRefIdeal.Read
public import proofs.«01_k».proof.Proof.Adam
public import proofs.«01_k».proof.Proof.Zero

@[expose] public section

noncomputable section

namespace Cert.AdamProjValue

open Cert.AdamProjIdeal Cert.AdamProjIdeal.Gen Idealize.ShloMosaic Idealize.ShloMosaic.TcCoe Idealize.SL.Sem
open AdamProjRefIdeal.Read

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3 (y : S4x256x256.Idx) : ∃ (s : Fin 4) (r : Fin 256) (l : Fin 256), y = ix3 s r l :=
  ⟨y 0, y 1, y 2, funext fun a => by match a with | ⟨0, _⟩ => rfl | ⟨1, _⟩ => rfl | ⟨2, _⟩ => rfl⟩

section
variable (g : Vec Ideal S8x256x256 .bf16) (r : Fin 256) (l : Fin 256)
theorem slab0 : View.ld g (Rect.unit (s := S8x256x256) ![0, 0, 0] S1x256x256.size inb_S8x256x256_S1x256x256_0_0_0) (ix3 0 r l) = g (ix3 0 r l) := Adam.slab 0 _ g r l
theorem slab1 : View.ld g (Rect.unit (s := S8x256x256) ![1, 0, 0] S1x256x256.size inb_S8x256x256_S1x256x256_1_0_0) (ix3 0 r l) = g (ix3 1 r l) := Adam.slab 1 _ g r l
theorem slab2 : View.ld g (Rect.unit (s := S8x256x256) ![2, 0, 0] S1x256x256.size inb_S8x256x256_S1x256x256_2_0_0) (ix3 0 r l) = g (ix3 2 r l) := Adam.slab 2 _ g r l
theorem slab3 : View.ld g (Rect.unit (s := S8x256x256) ![3, 0, 0] S1x256x256.size inb_S8x256x256_S1x256x256_3_0_0) (ix3 0 r l) = g (ix3 3 r l) := Adam.slab 3 _ g r l
theorem slab4 : View.ld g (Rect.unit (s := S8x256x256) ![4, 0, 0] S1x256x256.size inb_S8x256x256_S1x256x256_4_0_0) (ix3 0 r l) = g (ix3 4 r l) := Adam.slab 4 _ g r l
theorem slab5 : View.ld g (Rect.unit (s := S8x256x256) ![5, 0, 0] S1x256x256.size inb_S8x256x256_S1x256x256_5_0_0) (ix3 0 r l) = g (ix3 5 r l) := Adam.slab 5 _ g r l
theorem slab6 : View.ld g (Rect.unit (s := S8x256x256) ![6, 0, 0] S1x256x256.size inb_S8x256x256_S1x256x256_6_0_0) (ix3 0 r l) = g (ix3 6 r l) := Adam.slab 6 _ g r l
theorem slab7 : View.ld g (Rect.unit (s := S8x256x256) ![7, 0, 0] S1x256x256.size inb_S8x256x256_S1x256x256_7_0_0) (ix3 0 r l) = g (ix3 7 r l) := Adam.slab 7 _ g r l
end

/-- The gradient: the sum of the eight devices' parts. -/
def total (g : Vec Ideal S8x256x256 .bf16) (r : Fin 256) (l : Fin 256) : EReal :=
  ∑ d : Fin 8, g (ix3 d r l)

/-- The same in one block of rows. -/
def totalBlock (g : Vec Ideal S8x256x256 .bf16) (r : Fin 256) (l : Fin 256) : EReal :=
  ∑ d : Fin 8, g (ix3 d r l)

section
variable (c : Dev nD) (i : grid0.Coords) (b1 : Memref sig .tc .vmem S8x256x256 .bf16) (h1 : b1.IsWhole) (b2 : Memref sig .tc .vmem S1x256x256 .f32) (h2 : b2.IsWhole) (b3 : Memref sig .tc .vmem S1x256x256 .f32) (h3 : b3.IsWhole) (b4 : Memref sig .tc .vmem S1x256x256 .f32) (h4 : b4.IsWhole) (b9 : Memref sig .tc .vmem S1x256x256 .f32) (h9 : b9.IsWhole) (b10 : Memref sig .tc .vmem S1x256x256 .f32) (h10 : b10.IsWhole) (b11 : Memref sig .tc .vmem S1x256x256 .f32) (h11 : b11.IsWhole) (b12 : Memref sig .tc .vmem S1x256x256 .f32) (h12 : b12.IsWhole) (x0 : Vec Ideal S8x256x256 .bf16) (x1 : Vec Ideal S1x256x256 .f32) (x2 : Vec Ideal S1x256x256 .f32) (x3 : Vec Ideal S1x256x256 .f32) (r : Fin 256) (l : Fin 256)

theorem outs_apply :
    out0_A_4 c i b1 h1 b2 h2 b3 h3 b4 h4 b9 h9 b10 h10 b11 h11 b12 h12 x0 x1 x2 x3 (ix3 0 r l) = totalBlock x0 r l
    ∧ out0_A_5 c i b1 h1 b2 h2 b3 h3 b4 h4 b9 h9 b10 h10 b11 h11 b12 h12 x0 x1 x2 x3 (ix3 0 r l) = Adam.change (x1 (ix3 0 r l)) (Adam.first (x2 (ix3 0 r l)) (totalBlock x0 r l)) (Adam.second (x3 (ix3 0 r l)) (totalBlock x0 r l))
    ∧ out0_A_6 c i b1 h1 b2 h2 b3 h3 b4 h4 b9 h9 b10 h10 b11 h11 b12 h12 x0 x1 x2 x3 (ix3 0 r l) = Adam.first (x2 (ix3 0 r l)) (totalBlock x0 r l)
    ∧ out0_A_7 c i b1 h1 b2 h2 b3 h3 b4 h4 b9 h9 b10 h10 b11 h11 b12 h12 x0 x1 x2 x3 (ix3 0 r l) = Adam.second (x3 (ix3 0 r l)) (totalBlock x0 r l) := by
  unfold out0_A_4 out0_A_5 out0_A_6 out0_A_7
  rw [View.read_writes_eq_canon _ _ _ (cover0_A_4 c i b1 h1 b2 h2 b3 h3 b4 h4 b9 h9 b10 h10 b11 h11 b12 h12 x0 x1 x2 x3), View.read_writes_eq_canon _ _ _ (cover0_A_5 c i b1 h1 b2 h2 b3 h3 b4 h4 b9 h9 b10 h10 b11 h11 b12 h12 x0 x1 x2 x3), View.read_writes_eq_canon _ _ _ (cover0_A_6 c i b1 h1 b2 h2 b3 h3 b4 h4 b9 h9 b10 h10 b11 h11 b12 h12 x0 x1 x2 x3), View.read_writes_eq_canon _ _ _ (cover0_A_7 c i b1 h1 b2 h2 b3 h3 b4 h4 b9 h9 b10 h10 b11 h11 b12 h12 x0 x1 x2 x3)]
  unfold kernelRun0_A
  dsimp only
  sl_unfold_words
  rw [View.canon_unit_zero zero3, View.canon_unit_zero zero3, View.canon_unit_zero zero3, View.canon_unit_zero zero3]
  unfold totalBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  simp only [View.readAt_eq_ld, h1.read_unread, h2.read_unread, h3.read_unread, h4.read_unread, View.ld_unit_zero (S := S1x256x256) zero3]
  refine ⟨?_, ?_, ?_, ?_⟩ <;> pointwise [k0_pay1, k0_pay2, k0_pay3, k0_pay4, k0_pay5, k0_pay6, k0_pay7, k0_pay8, k0_pay9, k0_pay10]

end

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 3 ∧ win0_1.index t (1 : Fin 3) = t.val ∧ win0_1.index t (2 : Fin 3) = 0 :=
  (by decide +kernel : ∀ t : Fin grid0.N, _)

theorem at4 : ∀ t : Fin cfg0.N, win0_4.index t (0 : Fin 3) = 3 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 256) : Fin 256 := ⟨(t * 256 + k.val) % 256, by omega⟩

theorem places (r : Fin 256) : ∃ (t : Fin cfg0.N) (k : Fin 256), rowOf t.val k = r :=
  ⟨⟨r.val / 256, by show _ < 1; omega⟩, ⟨r.val % 256, by omega⟩, Fin.ext (by show (r.val / 256 * 256 + r.val % 256) % 256 = r.val; omega)⟩

theorem emb1 (t : Fin cfg0.N) (k : Fin 256) (l : Fin 256) : ((cfg0.win 1).blk t).view.emb (ix3 0 k l) = (ix3 3 (rowOf t.val k) l : S4x256x256.Idx) := by
  have F := at1 t
  have hN : t.val < 1 := t.isLt
  funext a; apply Fin.ext
  match a with
  | ⟨0, _⟩ => show win0_1.index t (0 : Fin 3) * 1 + 1 * 0 = 3; omega
  | ⟨1, _⟩ => show win0_1.index t (1 : Fin 3) * 256 + 1 * k.val = (t.val * 256 + k.val) % 256; omega
  | ⟨2, _⟩ => show win0_1.index t (2 : Fin 3) * 256 + 1 * l.val = l.val; omega

variable (m : (ℓ : Loc nD τ sig) → Buf (Elt Ideal) ℓ)

/-- An argument on core `c`. -/
abbrev parts (c : Dev nD) : Vec Ideal S8x256x256 .bf16 := m (c.tc.loc main_arg0)
abbrev wt (c : Dev nD) : Vec Ideal S4x256x256 .f32 := m (c.tc.loc main_arg1)
abbrev mo (c : Dev nD) : Vec Ideal S4x256x256 .f32 := m (c.tc.loc main_arg2)
abbrev ve (c : Dev nD) : Vec Ideal S4x256x256 .f32 := m (c.tc.loc main_arg3)
abbrev old0 (c : Dev nD) : Vec Ideal S4x256x256 .f32 := m (c.tc.loc main_arg4)
abbrev old1 (c : Dev nD) : Vec Ideal S4x256x256 .f32 := m (c.tc.loc main_arg5)
abbrev old2 (c : Dev nD) : Vec Ideal S4x256x256 .f32 := m (c.tc.loc main_arg6)
abbrev old3 (c : Dev nD) : Vec Ideal S4x256x256 .f32 := m (c.tc.loc main_arg7)

theorem parts_block (c : Dev nD) (t : Fin cfg0.N) (k : Fin 256) (l : Fin 256) : totalBlock (iblk m c 0 t) k l = total (parts m c) (rowOf t.val k) l := by
  have F := at0 t
  have hN : t.val < 1 := t.isLt
  unfold totalBlock total
  refine Finset.sum_congr rfl fun d _ => ?_
  show V m c main_arg0 (((cfg0.win 0).blk t).view.emb _) = _
  rw [V_main_arg0]
  refine congrArg (parts m c) ?_
  funext a; apply Fin.ext
  match a with
  | ⟨0, _⟩ => show win0_0.index t (0 : Fin 3) * 8 + 1 * d.val = d.val; omega
  | ⟨1, _⟩ => show win0_0.index t (1 : Fin 3) * 256 + 1 * k.val = (t.val * 256 + k.val) % 256; omega
  | ⟨2, _⟩ => show win0_0.index t (2 : Fin 3) * 256 + 1 * l.val = l.val; omega

theorem wt_block (c : Dev nD) (t : Fin cfg0.N) (k : Fin 256) (l : Fin 256) : iblk m c 1 t (ix3 0 k l) = wt m c (ix3 3 (rowOf t.val k) l) := by
  show V m c main_arg1 _ = _
  rw [V_main_arg1]
  exact congrArg (wt m c) (emb1 t k l)

theorem mo_block (c : Dev nD) (t : Fin cfg0.N) (k : Fin 256) (l : Fin 256) : iblk m c 2 t (ix3 0 k l) = mo m c (ix3 3 (rowOf t.val k) l) := by
  show V m c main_arg2 _ = _
  rw [V_main_arg2]
  exact congrArg (mo m c) (emb1 t k l)

theorem ve_block (c : Dev nD) (t : Fin cfg0.N) (k : Fin 256) (l : Fin 256) : iblk m c 3 t (ix3 0 k l) = ve m c (ix3 3 (rowOf t.val k) l) := by
  show V m c main_arg3 _ = _
  rw [V_main_arg3]
  exact congrArg (ve m c) (emb1 t k l)

/-- An array with `f` in its last layer and `old` in the layers before. -/
def lay (f : Fin 256 → Fin 256 → EReal) (old : Vec Ideal S4x256x256 .f32) : Vec Ideal S4x256x256 .f32 :=
  fun i => if (i 0).val = 3 then f (i 1) (i 2) else old i

theorem lay_last (f : Fin 256 → Fin 256 → EReal) (old : Vec Ideal S4x256x256 .f32) (r : Fin 256) (l : Fin 256) : lay f old (ix3 3 r l) = f r l := if_pos rfl

theorem lay_rest (f : Fin 256 → Fin 256 → EReal) (old : Vec Ideal S4x256x256 .f32) (s : Fin 4) (r : Fin 256) (l : Fin 256) (h : s.val ≠ 3) : lay f old (ix3 s r l) = old (ix3 s r l) := if_neg h

theorem inside (t : Fin cfg0.N) {s : Fin 4} {r : Fin 256} {l : Fin 256} (hm : ix3 s r l ∈ ((View.whole main_v0_0).slice (win0_4.rect t)).set) : s.val = 3 := by
  have F := at4 t
  rw [View.set_slice_whole, Rect.mem_set_unit] at hm
  have h0 : win0_4.index t (0 : Fin 3) * 1 ≤ s.val ∧ s.val < win0_4.index t (0 : Fin 3) * 1 + 1 := hm 0
  omega

theorem lay_of {f : Fin 256 → Fin 256 → EReal} {old A : Vec Ideal S4x256x256 .f32} (hl : ∀ (t : Fin cfg0.N) (j : Fin 256) (l : Fin 256), A (ix3 3 (rowOf t.val j) l) = f (rowOf t.val j) l)
    (hr : ∀ (s : Fin 4) (r : Fin 256) (l : Fin 256), s.val ≠ 3 → A (ix3 s r l) = old (ix3 s r l)) : A = lay f old := by
  funext i
  obtain ⟨s, r, l, rfl⟩ := eq_ix3 i
  by_cases h : s.val = 3
  · obtain rfl : s = 3 := Fin.ext h
    obtain ⟨t, j, rfl⟩ := places r
    exact (hl t j l).trans (lay_last ..).symm
  · exact (hr s r l h).trans (lay_rest _ _ s r l h).symm

theorem array4_eq (c : Dev nD) : (dats m 0 c).arrAt 4 cfg0.N = lay (fun r l => total (parts m c) r l) (old0 m c) :=
  lay_of (fun t j l => by
    refine (congrArg _ (emb1 t j l).symm).trans ((congrFun (Value.blocks4 m c t (at4 t).2.2.2) (ix3 0 j l)).trans ?_)
    rw [Value.flushed4_A]
    refine (outs_apply ..).1.trans ?_
    rw [parts_block]) fun s r l h => Value.entry4 m c (ix3 s r l) fun t _ hm => h (inside t hm)

theorem array5_eq (c : Dev nD) : (dats m 0 c).arrAt 5 cfg0.N = lay (fun r l => Adam.change (wt m c (ix3 3 r l)) (Adam.first (mo m c (ix3 3 r l)) (total (parts m c) r l)) (Adam.second (ve m c (ix3 3 r l)) (total (parts m c) r l))) (old1 m c) :=
  lay_of (fun t j l => by
    refine (congrArg _ (emb1 t j l).symm).trans ((congrFun (Value.blocks5 m c t (at4 t).2.2.2) (ix3 0 j l)).trans ?_)
    rw [Value.flushed5_A]
    refine (outs_apply ..).2.1.trans ?_
    rw [parts_block, wt_block, mo_block, ve_block]) fun s r l h => Value.entry5 m c (ix3 s r l) fun t _ hm => h (inside t hm)

theorem array6_eq (c : Dev nD) : (dats m 0 c).arrAt 6 cfg0.N = lay (fun r l => Adam.first (mo m c (ix3 3 r l)) (total (parts m c) r l)) (old2 m c) :=
  lay_of (fun t j l => by
    refine (congrArg _ (emb1 t j l).symm).trans ((congrFun (Value.blocks6 m c t (at4 t).2.2.2) (ix3 0 j l)).trans ?_)
    rw [Value.flushed6_A]
    refine (outs_apply ..).2.2.1.trans ?_
    rw [parts_block, mo_block]) fun s r l h => Value.entry6 m c (ix3 s r l) fun t _ hm => h (inside t hm)

theorem array7_eq (c : Dev nD) : (dats m 0 c).arrAt 7 cfg0.N = lay (fun r l => Adam.second (ve m c (ix3 3 r l)) (total (parts m c) r l)) (old3 m c) :=
  lay_of (fun t j l => by
    refine (congrArg _ (emb1 t j l).symm).trans ((congrFun (Value.blocks7 m c t (at4 t).2.2.2) (ix3 0 j l)).trans ?_)
    rw [Value.flushed7_A]
    refine (outs_apply ..).2.2.2.trans ?_
    rw [parts_block, ve_block]) fun s r l h => Value.entry7 m c (ix3 s r l) fun t _ hm => h (inside t hm)

/-- The gradient: the reference's. -/
theorem gradient_eq (g : Vec Ideal S8x256x256 .bf16) (u : Vec Ideal S4x256x256 .f32) : val_main_v34 (F := Ideal) g u = lay (fun r l => total g r l) u := by
  funext i
  obtain ⟨s, r, l, rfl⟩ := eq_ix3 i
  unfold lay total
  fin_cases s <;> pointwise [val_main_v0, val_main_cst, val_main_v1, val_main_v32, val_main_v33, val_main_v34]

/-- The change of the weight: the reference's. -/
theorem change_eq (g : Vec Ideal S8x256x256 .bf16) (w m v u : Vec Ideal S4x256x256 .f32) : val_main_v37 (F := Ideal) g w m v u = lay (fun r l => Adam.change (w (ix3 3 r l)) (Adam.first (m (ix3 3 r l)) (total g r l)) (Adam.second (v (ix3 3 r l)) (total g r l))) u := by
  funext i
  obtain ⟨s, r, l, rfl⟩ := eq_ix3 i
  unfold lay Adam.change Adam.first Adam.second total
  fin_cases s <;> pointwise [val_main_v0, val_main_cst, val_main_v1, val_main_v2, val_main_v3, val_main_v4, val_main_v5, val_main_v6, val_main_v7, val_main_cst_0, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31, val_main_v35, val_main_v36, val_main_v37]

/-- The first moment: the reference's. -/
theorem first_eq (g : Vec Ideal S8x256x256 .bf16) (m u : Vec Ideal S4x256x256 .f32) : val_main_v40 (F := Ideal) g m u = lay (fun r l => Adam.first (m (ix3 3 r l)) (total g r l)) u := by
  funext i
  obtain ⟨s, r, l, rfl⟩ := eq_ix3 i
  unfold lay Adam.first total
  fin_cases s <;> pointwise [val_main_v0, val_main_cst, val_main_v1, val_main_v4, val_main_v5, val_main_cst_0, val_main_v8, val_main_v9, val_main_cst_1, val_main_v10, val_main_v11, val_main_v12, val_main_v38, val_main_v39, val_main_v40]

/-- The second moment: the reference's. -/
theorem second_eq (g : Vec Ideal S8x256x256 .bf16) (v u : Vec Ideal S4x256x256 .f32) : val_main_v43 (F := Ideal) g v u = lay (fun r l => Adam.second (v (ix3 3 r l)) (total g r l)) u := by
  funext i
  obtain ⟨s, r, l, rfl⟩ := eq_ix3 i
  unfold lay Adam.second total
  fin_cases s <;> pointwise [val_main_v0, val_main_cst, val_main_v1, val_main_v6, val_main_v7, val_main_cst_2, val_main_v13, val_main_v14, val_main_v15, val_main_cst_3, val_main_v16, val_main_v17, val_main_v18, val_main_v41, val_main_v42, val_main_v43]

theorem preserves : Cert.preserves_AdamProj_AdamProjIdeal :=
  ⟨IdealRules.named_const.statement Cert.AdamProjIdeal.κ "c1" .f32 0x3FC48605#32 ((8388608 / 5463681 : ℝ) : EReal) rfl,
    IdealRules.named_const.statement Cert.AdamProjIdeal.κ "c2" .f32 0x42C8E6D3#32 ((268435456 / 2672307 : ℝ) : EReal) rfl⟩

/-- The kernel and the reference hold the same four arrays. -/
theorem algebraic : Cert.algebraic_AdamProjIdeal_AdamProjRefIdeal := by
  intro m g m' g' _ hagree
  refine ⟨fun c => lay (fun r l => total (parts m c) r l) (old0 m c), fun c => lay (fun r l => Adam.change (wt m c (ix3 3 r l)) (Adam.first (mo m c (ix3 3 r l)) (total (parts m c) r l)) (Adam.second (ve m c (ix3 3 r l)) (total (parts m c) r l))) (old1 m c), fun c => lay (fun r l => Adam.first (mo m c (ix3 3 r l)) (total (parts m c) r l)) (old2 m c), fun c => lay (fun r l => Adam.second (ve m c (ix3 3 r l)) (total (parts m c) r l)) (old3 m c),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (val_main_v34_eq ..)).trans ?_, ((h c).2.1.trans (val_main_v37_eq ..)).trans ?_,
      ((h c).2.2.1.trans (val_main_v40_eq ..)).trans ?_, ((h c).2.2.2.1.trans (val_main_v43_eq ..)).trans ?_, (h c).2.2.2.2⟩) (AdamProjRefIdeal.Value.run m' g')⟩
  · rw [(hagree c).1, (hagree c).2.2.2.2.1]
    exact gradient_eq _ _
  · rw [(hagree c).1, (hagree c).2.1, (hagree c).2.2.1, (hagree c).2.2.2.1, (hagree c).2.2.2.2.2.1]
    exact change_eq _ _ _ _ _
  · rw [(hagree c).1, (hagree c).2.2.1, (hagree c).2.2.2.2.2.2.1]
    exact first_eq _ _ _
  · rw [(hagree c).1, (hagree c).2.2.2.1, (hagree c).2.2.2.2.2.2.2]
    exact second_eq _ _ _

end Cert.AdamProjValue

end
-- ==== Proof.AdamConvIn.lean ====
/- The optimiser's step for the convolution's first weight, at the second of its two layers: the layer's four blocks are the reference's, and the layers before it stay as they were. -/
module

public import proofs.«01_k».proof.Defs
public import proofs.«01_k».proof.Proof.Gen.AdamConvInIdeal.Value
public import proofs.«01_k».proof.Proof.Gen.AdamConvInRefIdeal.Read
public import proofs.«01_k».proof.Proof.Adam
public import proofs.«01_k».proof.Proof.Zero

@[expose] public section

noncomputable section

namespace Cert.AdamConvInValue

open Cert.AdamConvInIdeal Cert.AdamConvInIdeal.Gen Idealize.ShloMosaic Idealize.ShloMosaic.TcCoe Idealize.SL.Sem
open AdamConvInRefIdeal.Read

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3 (y : S2x512x2048.Idx) : ∃ (s : Fin 2) (r : Fin 512) (l : Fin 2048), y = ix3 s r l :=
  ⟨y 0, y 1, y 2, funext fun a => by match a with | ⟨0, _⟩ => rfl | ⟨1, _⟩ => rfl | ⟨2, _⟩ => rfl⟩

section
variable (g : Vec Ideal S8x128x2048 .bf16) (r : Fin 128) (l : Fin 2048)
theorem slab0 : View.ld g (Rect.unit (s := S8x128x2048) ![0, 0, 0] S1x128x2048.size inb_S8x128x2048_S1x128x2048_0_0_0) (ix3 0 r l) = g (ix3 0 r l) := Adam.slab 0 _ g r l
theorem slab1 : View.ld g (Rect.unit (s := S8x128x2048) ![1, 0, 0] S1x128x2048.size inb_S8x128x2048_S1x128x2048_1_0_0) (ix3 0 r l) = g (ix3 1 r l) := Adam.slab 1 _ g r l
theorem slab2 : View.ld g (Rect.unit (s := S8x128x2048) ![2, 0, 0] S1x128x2048.size inb_S8x128x2048_S1x128x2048_2_0_0) (ix3 0 r l) = g (ix3 2 r l) := Adam.slab 2 _ g r l
theorem slab3 : View.ld g (Rect.unit (s := S8x128x2048) ![3, 0, 0] S1x128x2048.size inb_S8x128x2048_S1x128x2048_3_0_0) (ix3 0 r l) = g (ix3 3 r l) := Adam.slab 3 _ g r l
theorem slab4 : View.ld g (Rect.unit (s := S8x128x2048) ![4, 0, 0] S1x128x2048.size inb_S8x128x2048_S1x128x2048_4_0_0) (ix3 0 r l) = g (ix3 4 r l) := Adam.slab 4 _ g r l
theorem slab5 : View.ld g (Rect.unit (s := S8x128x2048) ![5, 0, 0] S1x128x2048.size inb_S8x128x2048_S1x128x2048_5_0_0) (ix3 0 r l) = g (ix3 5 r l) := Adam.slab 5 _ g r l
theorem slab6 : View.ld g (Rect.unit (s := S8x128x2048) ![6, 0, 0] S1x128x2048.size inb_S8x128x2048_S1x128x2048_6_0_0) (ix3 0 r l) = g (ix3 6 r l) := Adam.slab 6 _ g r l
theorem slab7 : View.ld g (Rect.unit (s := S8x128x2048) ![7, 0, 0] S1x128x2048.size inb_S8x128x2048_S1x128x2048_7_0_0) (ix3 0 r l) = g (ix3 7 r l) := Adam.slab 7 _ g r l
end

/-- The gradient: the sum of the eight devices' parts. -/
def total (g : Vec Ideal S8x512x2048 .bf16) (r : Fin 512) (l : Fin 2048) : EReal :=
  ∑ d : Fin 8, g (ix3 d r l)

/-- The same in one block of rows. -/
def totalBlock (g : Vec Ideal S8x128x2048 .bf16) (r : Fin 128) (l : Fin 2048) : EReal :=
  ∑ d : Fin 8, g (ix3 d r l)

section
variable (c : Dev nD) (i : grid0.Coords) (b1 : Memref sig .tc .vmem S8x128x2048 .bf16) (h1 : b1.IsWhole) (b2 : Memref sig .tc .vmem S1x128x2048 .f32) (h2 : b2.IsWhole) (b3 : Memref sig .tc .vmem S1x128x2048 .f32) (h3 : b3.IsWhole) (b4 : Memref sig .tc .vmem S1x128x2048 .f32) (h4 : b4.IsWhole) (b9 : Memref sig .tc .vmem S1x128x2048 .f32) (h9 : b9.IsWhole) (b10 : Memref sig .tc .vmem S1x128x2048 .f32) (h10 : b10.IsWhole) (b11 : Memref sig .tc .vmem S1x128x2048 .f32) (h11 : b11.IsWhole) (b12 : Memref sig .tc .vmem S1x128x2048 .f32) (h12 : b12.IsWhole) (x0 : Vec Ideal S8x128x2048 .bf16) (x1 : Vec Ideal S1x128x2048 .f32) (x2 : Vec Ideal S1x128x2048 .f32) (x3 : Vec Ideal S1x128x2048 .f32) (r : Fin 128) (l : Fin 2048)

set_option maxHeartbeats 800000 in
theorem outs_apply :
    out0_A_4 c i b1 h1 b2 h2 b3 h3 b4 h4 b9 h9 b10 h10 b11 h11 b12 h12 x0 x1 x2 x3 (ix3 0 r l) = totalBlock x0 r l
    ∧ out0_A_5 c i b1 h1 b2 h2 b3 h3 b4 h4 b9 h9 b10 h10 b11 h11 b12 h12 x0 x1 x2 x3 (ix3 0 r l) = Adam.change (x1 (ix3 0 r l)) (Adam.first (x2 (ix3 0 r l)) (totalBlock x0 r l)) (Adam.second (x3 (ix3 0 r l)) (totalBlock x0 r l))
    ∧ out0_A_6 c i b1 h1 b2 h2 b3 h3 b4 h4 b9 h9 b10 h10 b11 h11 b12 h12 x0 x1 x2 x3 (ix3 0 r l) = Adam.first (x2 (ix3 0 r l)) (totalBlock x0 r l)
    ∧ out0_A_7 c i b1 h1 b2 h2 b3 h3 b4 h4 b9 h9 b10 h10 b11 h11 b12 h12 x0 x1 x2 x3 (ix3 0 r l) = Adam.second (x3 (ix3 0 r l)) (totalBlock x0 r l) := by
  unfold out0_A_4 out0_A_5 out0_A_6 out0_A_7
  rw [View.read_writes_eq_canon _ _ _ (cover0_A_4 c i b1 h1 b2 h2 b3 h3 b4 h4 b9 h9 b10 h10 b11 h11 b12 h12 x0 x1 x2 x3), View.read_writes_eq_canon _ _ _ (cover0_A_5 c i b1 h1 b2 h2 b3 h3 b4 h4 b9 h9 b10 h10 b11 h11 b12 h12 x0 x1 x2 x3), View.read_writes_eq_canon _ _ _ (cover0_A_6 c i b1 h1 b2 h2 b3 h3 b4 h4 b9 h9 b10 h10 b11 h11 b12 h12 x0 x1 x2 x3), View.read_writes_eq_canon _ _ _ (cover0_A_7 c i b1 h1 b2 h2 b3 h3 b4 h4 b9 h9 b10 h10 b11 h11 b12 h12 x0 x1 x2 x3)]
  unfold kernelRun0_A
  dsimp only
  sl_unfold_words
  rw [View.canon_unit_zero zero3, View.canon_unit_zero zero3, View.canon_unit_zero zero3, View.canon_unit_zero zero3]
  unfold totalBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  simp only [View.readAt_eq_ld, h1.read_unread, h2.read_unread, h3.read_unread, h4.read_unread, View.ld_unit_zero (S := S1x128x2048) zero3]
  refine ⟨?_, ?_, ?_, ?_⟩ <;> pointwise [k0_pay1, k0_pay2, k0_pay3, k0_pay4, k0_pay5, k0_pay6, k0_pay7, k0_pay8, k0_pay9, k0_pay10]

end

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 1 ∧ win0_1.index t (1 : Fin 3) = t.val ∧ win0_1.index t (2 : Fin 3) = 0 :=
  (by decide +kernel : ∀ t : Fin grid0.N, _)

theorem at4 : ∀ t : Fin cfg0.N, win0_4.index t (0 : Fin 3) = 1 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 128) : Fin 512 := ⟨(t * 128 + k.val) % 512, by omega⟩

theorem places (r : Fin 512) : ∃ (t : Fin cfg0.N) (k : Fin 128), rowOf t.val k = r :=
  ⟨⟨r.val / 128, by show _ < 4; omega⟩, ⟨r.val % 128, by omega⟩, Fin.ext (by show (r.val / 128 * 128 + r.val % 128) % 512 = r.val; omega)⟩

theorem emb1 (t : Fin cfg0.N) (k : Fin 128) (l : Fin 2048) : ((cfg0.win 1).blk t).view.emb (ix3 0 k l) = (ix3 1 (rowOf t.val k) l : S2x512x2048.Idx) := by
  have F := at1 t
  have hN : t.val < 4 := t.isLt
  funext a; apply Fin.ext
  match a with
  | ⟨0, _⟩ => show win0_1.index t (0 : Fin 3) * 1 + 1 * 0 = 1; omega
  | ⟨1, _⟩ => show win0_1.index t (1 : Fin 3) * 128 + 1 * k.val = (t.val * 128 + k.val) % 512; omega
  | ⟨2, _⟩ => show win0_1.index t (2 : Fin 3) * 2048 + 1 * l.val = l.val; omega

variable (m : (ℓ : Loc nD τ sig) → Buf (Elt Ideal) ℓ)

/-- An argument on core `c`. -/
abbrev parts (c : Dev nD) : Vec Ideal S8x512x2048 .bf16 := m (c.tc.loc main_arg0)
abbrev wt (c : Dev nD) : Vec Ideal S2x512x2048 .f32 := m (c.tc.loc main_arg1)
abbrev mo (c : Dev nD) : Vec Ideal S2x512x2048 .f32 := m (c.tc.loc main_arg2)
abbrev ve (c : Dev nD) : Vec Ideal S2x512x2048 .f32 := m (c.tc.loc main_arg3)
abbrev old0 (c : Dev nD) : Vec Ideal S2x512x2048 .f32 := m (c.tc.loc main_arg4)
abbrev old1 (c : Dev nD) : Vec Ideal S2x512x2048 .f32 := m (c.tc.loc main_arg5)
abbrev old2 (c : Dev nD) : Vec Ideal S2x512x2048 .f32 := m (c.tc.loc main_arg6)
abbrev old3 (c : Dev nD) : Vec Ideal S2x512x2048 .f32 := m (c.tc.loc main_arg7)

theorem parts_block (c : Dev nD) (t : Fin cfg0.N) (k : Fin 128) (l : Fin 2048) : totalBlock (iblk m c 0 t) k l = total (parts m c) (rowOf t.val k) l := by
  have F := at0 t
  have hN : t.val < 4 := t.isLt
  unfold totalBlock total
  refine Finset.sum_congr rfl fun d _ => ?_
  show V m c main_arg0 (((cfg0.win 0).blk t).view.emb _) = _
  rw [V_main_arg0]
  refine congrArg (parts m c) ?_
  funext a; apply Fin.ext
  match a with
  | ⟨0, _⟩ => show win0_0.index t (0 : Fin 3) * 8 + 1 * d.val = d.val; omega
  | ⟨1, _⟩ => show win0_0.index t (1 : Fin 3) * 128 + 1 * k.val = (t.val * 128 + k.val) % 512; omega
  | ⟨2, _⟩ => show win0_0.index t (2 : Fin 3) * 2048 + 1 * l.val = l.val; omega

theorem wt_block (c : Dev nD) (t : Fin cfg0.N) (k : Fin 128) (l : Fin 2048) : iblk m c 1 t (ix3 0 k l) = wt m c (ix3 1 (rowOf t.val k) l) := by
  show V m c main_arg1 _ = _
  rw [V_main_arg1]
  exact congrArg (wt m c) (emb1 t k l)

theorem mo_block (c : Dev nD) (t : Fin cfg0.N) (k : Fin 128) (l : Fin 2048) : iblk m c 2 t (ix3 0 k l) = mo m c (ix3 1 (rowOf t.val k) l) := by
  show V m c main_arg2 _ = _
  rw [V_main_arg2]
  exact congrArg (mo m c) (emb1 t k l)

theorem ve_block (c : Dev nD) (t : Fin cfg0.N) (k : Fin 128) (l : Fin 2048) : iblk m c 3 t (ix3 0 k l) = ve m c (ix3 1 (rowOf t.val k) l) := by
  show V m c main_arg3 _ = _
  rw [V_main_arg3]
  exact congrArg (ve m c) (emb1 t k l)

/-- An array with `f` in its last layer and `old` in the layers before. -/
def lay (f : Fin 512 → Fin 2048 → EReal) (old : Vec Ideal S2x512x2048 .f32) : Vec Ideal S2x512x2048 .f32 :=
  fun i => if (i 0).val = 1 then f (i 1) (i 2) else old i

theorem lay_last (f : Fin 512 → Fin 2048 → EReal) (old : Vec Ideal S2x512x2048 .f32) (r : Fin 512) (l : Fin 2048) : lay f old (ix3 1 r l) = f r l := if_pos rfl

theorem lay_rest (f : Fin 512 → Fin 2048 → EReal) (old : Vec Ideal S2x512x2048 .f32) (s : Fin 2) (r : Fin 512) (l : Fin 2048) (h : s.val ≠ 1) : lay f old (ix3 s r l) = old (ix3 s r l) := if_neg h

theorem inside (t : Fin cfg0.N) {s : Fin 2} {r : Fin 512} {l : Fin 2048} (hm : ix3 s r l ∈ ((View.whole main_v0_0).slice (win0_4.rect t)).set) : s.val = 1 := by
  have F := at4 t
  rw [View.set_slice_whole, Rect.mem_set_unit] at hm
  have h0 : win0_4.index t (0 : Fin 3) * 1 ≤ s.val ∧ s.val < win0_4.index t (0 : Fin 3) * 1 + 1 := hm 0
  omega

theorem lay_of {f : Fin 512 → Fin 2048 → EReal} {old A : Vec Ideal S2x512x2048 .f32} (hl : ∀ (t : Fin cfg0.N) (j : Fin 128) (l : Fin 2048), A (ix3 1 (rowOf t.val j) l) = f (rowOf t.val j) l)
    (hr : ∀ (s : Fin 2) (r : Fin 512) (l : Fin 2048), s.val ≠ 1 → A (ix3 s r l) = old (ix3 s r l)) : A = lay f old := by
  funext i
  obtain ⟨s, r, l, rfl⟩ := eq_ix3 i
  by_cases h : s.val = 1
  · obtain rfl : s = 1 := Fin.ext h
    obtain ⟨t, j, rfl⟩ := places r
    exact (hl t j l).trans (lay_last ..).symm
  · exact (hr s r l h).trans (lay_rest _ _ s r l h).symm

theorem array4_eq (c : Dev nD) : (dats m 0 c).arrAt 4 cfg0.N = lay (fun r l => total (parts m c) r l) (old0 m c) :=
  lay_of (fun t j l => by
    refine (congrArg _ (emb1 t j l).symm).trans ((congrFun (Value.blocks4 m c t (at4 t).2.2.2) (ix3 0 j l)).trans ?_)
    rw [Value.flushed4_A]
    refine (outs_apply ..).1.trans ?_
    rw [parts_block]) fun s r l h => Value.entry4 m c (ix3 s r l) fun t _ hm => h (inside t hm)

theorem array5_eq (c : Dev nD) : (dats m 0 c).arrAt 5 cfg0.N = lay (fun r l => Adam.change (wt m c (ix3 1 r l)) (Adam.first (mo m c (ix3 1 r l)) (total (parts m c) r l)) (Adam.second (ve m c (ix3 1 r l)) (total (parts m c) r l))) (old1 m c) :=
  lay_of (fun t j l => by
    refine (congrArg _ (emb1 t j l).symm).trans ((congrFun (Value.blocks5 m c t (at4 t).2.2.2) (ix3 0 j l)).trans ?_)
    rw [Value.flushed5_A]
    refine (outs_apply ..).2.1.trans ?_
    rw [parts_block, wt_block, mo_block, ve_block]) fun s r l h => Value.entry5 m c (ix3 s r l) fun t _ hm => h (inside t hm)

theorem array6_eq (c : Dev nD) : (dats m 0 c).arrAt 6 cfg0.N = lay (fun r l => Adam.first (mo m c (ix3 1 r l)) (total (parts m c) r l)) (old2 m c) :=
  lay_of (fun t j l => by
    refine (congrArg _ (emb1 t j l).symm).trans ((congrFun (Value.blocks6 m c t (at4 t).2.2.2) (ix3 0 j l)).trans ?_)
    rw [Value.flushed6_A]
    refine (outs_apply ..).2.2.1.trans ?_
    rw [parts_block, mo_block]) fun s r l h => Value.entry6 m c (ix3 s r l) fun t _ hm => h (inside t hm)

theorem array7_eq (c : Dev nD) : (dats m 0 c).arrAt 7 cfg0.N = lay (fun r l => Adam.second (ve m c (ix3 1 r l)) (total (parts m c) r l)) (old3 m c) :=
  lay_of (fun t j l => by
    refine (congrArg _ (emb1 t j l).symm).trans ((congrFun (Value.blocks7 m c t (at4 t).2.2.2) (ix3 0 j l)).trans ?_)
    rw [Value.flushed7_A]
    refine (outs_apply ..).2.2.2.trans ?_
    rw [parts_block, ve_block]) fun s r l h => Value.entry7 m c (ix3 s r l) fun t _ hm => h (inside t hm)

/-- The gradient: the reference's. -/
theorem gradient_eq (g : Vec Ideal S8x512x2048 .bf16) (u : Vec Ideal S2x512x2048 .f32) : val_main_v34 (F := Ideal) g u = lay (fun r l => total g r l) u := by
  funext i
  obtain ⟨s, r, l, rfl⟩ := eq_ix3 i
  unfold lay total
  fin_cases s <;> pointwise [val_main_v0, val_main_cst, val_main_v1, val_main_v32, val_main_v33, val_main_v34]

/-- The change of the weight: the reference's. -/
theorem change_eq (g : Vec Ideal S8x512x2048 .bf16) (w m v u : Vec Ideal S2x512x2048 .f32) : val_main_v37 (F := Ideal) g w m v u = lay (fun r l => Adam.change (w (ix3 1 r l)) (Adam.first (m (ix3 1 r l)) (total g r l)) (Adam.second (v (ix3 1 r l)) (total g r l))) u := by
  funext i
  obtain ⟨s, r, l, rfl⟩ := eq_ix3 i
  unfold lay Adam.change Adam.first Adam.second total
  fin_cases s <;> pointwise [val_main_v0, val_main_cst, val_main_v1, val_main_v2, val_main_v3, val_main_v4, val_main_v5, val_main_v6, val_main_v7, val_main_cst_0, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31, val_main_v35, val_main_v36, val_main_v37]

/-- The first moment: the reference's. -/
theorem first_eq (g : Vec Ideal S8x512x2048 .bf16) (m u : Vec Ideal S2x512x2048 .f32) : val_main_v40 (F := Ideal) g m u = lay (fun r l => Adam.first (m (ix3 1 r l)) (total g r l)) u := by
  funext i
  obtain ⟨s, r, l, rfl⟩ := eq_ix3 i
  unfold lay Adam.first total
  fin_cases s <;> pointwise [val_main_v0, val_main_cst, val_main_v1, val_main_v4, val_main_v5, val_main_cst_0, val_main_v8, val_main_v9, val_main_cst_1, val_main_v10, val_main_v11, val_main_v12, val_main_v38, val_main_v39, val_main_v40]

/-- The second moment: the reference's. -/
theorem second_eq (g : Vec Ideal S8x512x2048 .bf16) (v u : Vec Ideal S2x512x2048 .f32) : val_main_v43 (F := Ideal) g v u = lay (fun r l => Adam.second (v (ix3 1 r l)) (total g r l)) u := by
  funext i
  obtain ⟨s, r, l, rfl⟩ := eq_ix3 i
  unfold lay Adam.second total
  fin_cases s <;> pointwise [val_main_v0, val_main_cst, val_main_v1, val_main_v6, val_main_v7, val_main_cst_2, val_main_v13, val_main_v14, val_main_v15, val_main_cst_3, val_main_v16, val_main_v17, val_main_v18, val_main_v41, val_main_v42, val_main_v43]

theorem preserves : Cert.preserves_AdamConvIn_AdamConvInIdeal :=
  ⟨IdealRules.named_const.statement Cert.AdamConvInIdeal.κ "c1" .f32 0x3FC48605#32 ((8388608 / 5463681 : ℝ) : EReal) rfl,
    IdealRules.named_const.statement Cert.AdamConvInIdeal.κ "c2" .f32 0x42C8E6D3#32 ((268435456 / 2672307 : ℝ) : EReal) rfl⟩

/-- The kernel and the reference hold the same four arrays. -/
theorem algebraic : Cert.algebraic_AdamConvInIdeal_AdamConvInRefIdeal := by
  intro m g m' g' _ hagree
  refine ⟨fun c => lay (fun r l => total (parts m c) r l) (old0 m c), fun c => lay (fun r l => Adam.change (wt m c (ix3 1 r l)) (Adam.first (mo m c (ix3 1 r l)) (total (parts m c) r l)) (Adam.second (ve m c (ix3 1 r l)) (total (parts m c) r l))) (old1 m c), fun c => lay (fun r l => Adam.first (mo m c (ix3 1 r l)) (total (parts m c) r l)) (old2 m c), fun c => lay (fun r l => Adam.second (ve m c (ix3 1 r l)) (total (parts m c) r l)) (old3 m c),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (val_main_v34_eq ..)).trans ?_, ((h c).2.1.trans (val_main_v37_eq ..)).trans ?_,
      ((h c).2.2.1.trans (val_main_v40_eq ..)).trans ?_, ((h c).2.2.2.1.trans (val_main_v43_eq ..)).trans ?_, (h c).2.2.2.2⟩) (AdamConvInRefIdeal.Value.run m' g')⟩
  · rw [(hagree c).1, (hagree c).2.2.2.2.1]
    exact gradient_eq _ _
  · rw [(hagree c).1, (hagree c).2.1, (hagree c).2.2.1, (hagree c).2.2.2.1, (hagree c).2.2.2.2.2.1]
    exact change_eq _ _ _ _ _
  · rw [(hagree c).1, (hagree c).2.2.1, (hagree c).2.2.2.2.2.2.1]
    exact first_eq _ _ _
  · rw [(hagree c).1, (hagree c).2.2.2.1, (hagree c).2.2.2.2.2.2.2]
    exact second_eq _ _ _

end Cert.AdamConvInValue

end
-- ==== Proof.AdamConvOut.lean ====
/- The optimiser's step for the convolution's second weight, at the second of its two layers: the layer's four blocks are the reference's, and the layers before it stay as they were. -/
module

public import proofs.«01_k».proof.Defs
public import proofs.«01_k».proof.Proof.Gen.AdamConvOutIdeal.Value
public import proofs.«01_k».proof.Proof.Gen.AdamConvOutRefIdeal.Read
public import proofs.«01_k».proof.Proof.Adam
public import proofs.«01_k».proof.Proof.Zero

@[expose] public section

noncomputable section

namespace Cert.AdamConvOutValue

open Cert.AdamConvOutIdeal Cert.AdamConvOutIdeal.Gen Idealize.ShloMosaic Idealize.ShloMosaic.TcCoe Idealize.SL.Sem
open AdamConvOutRefIdeal.Read

theorem name_c1 : Named.named (F := Ideal) κ "c1" (φ := .f32) 0x3FC48605#32 = ((8388608 / 5463681 : ℝ) : EReal) :=
  IdealRules.named_const.ideal_named_scalar _ _ _ _ rfl

theorem name_c2 : Named.named (F := Ideal) κ "c2" (φ := .f32) 0x42C8E6D3#32 = ((268435456 / 2672307 : ℝ) : EReal) :=
  IdealRules.named_const.ideal_named_scalar _ _ _ _ rfl

theorem eq_ix3 (y : S2x256x2048.Idx) : ∃ (s : Fin 2) (r : Fin 256) (l : Fin 2048), y = ix3 s r l :=
  ⟨y 0, y 1, y 2, funext fun a => by match a with | ⟨0, _⟩ => rfl | ⟨1, _⟩ => rfl | ⟨2, _⟩ => rfl⟩

section
variable (g : Vec Ideal S8x128x2048 .bf16) (r : Fin 128) (l : Fin 2048)
theorem slab0 : View.ld g (Rect.unit (s := S8x128x2048) ![0, 0, 0] S1x128x2048.size inb_S8x128x2048_S1x128x2048_0_0_0) (ix3 0 r l) = g (ix3 0 r l) := Adam.slab 0 _ g r l
theorem slab1 : View.ld g (Rect.unit (s := S8x128x2048) ![1, 0, 0] S1x128x2048.size inb_S8x128x2048_S1x128x2048_1_0_0) (ix3 0 r l) = g (ix3 1 r l) := Adam.slab 1 _ g r l
theorem slab2 : View.ld g (Rect.unit (s := S8x128x2048) ![2, 0, 0] S1x128x2048.size inb_S8x128x2048_S1x128x2048_2_0_0) (ix3 0 r l) = g (ix3 2 r l) := Adam.slab 2 _ g r l
theorem slab3 : View.ld g (Rect.unit (s := S8x128x2048) ![3, 0, 0] S1x128x2048.size inb_S8x128x2048_S1x128x2048_3_0_0) (ix3 0 r l) = g (ix3 3 r l) := Adam.slab 3 _ g r l
theorem slab4 : View.ld g (Rect.unit (s := S8x128x2048) ![4, 0, 0] S1x128x2048.size inb_S8x128x2048_S1x128x2048_4_0_0) (ix3 0 r l) = g (ix3 4 r l) := Adam.slab 4 _ g r l
theorem slab5 : View.ld g (Rect.unit (s := S8x128x2048) ![5, 0, 0] S1x128x2048.size inb_S8x128x2048_S1x128x2048_5_0_0) (ix3 0 r l) = g (ix3 5 r l) := Adam.slab 5 _ g r l
theorem slab6 : View.ld g (Rect.unit (s := S8x128x2048) ![6, 0, 0] S1x128x2048.size inb_S8x128x2048_S1x128x2048_6_0_0) (ix3 0 r l) = g (ix3 6 r l) := Adam.slab 6 _ g r l
theorem slab7 : View.ld g (Rect.unit (s := S8x128x2048) ![7, 0, 0] S1x128x2048.size inb_S8x128x2048_S1x128x2048_7_0_0) (ix3 0 r l) = g (ix3 7 r l) := Adam.slab 7 _ g r l
end

/-- The gradient: the sum of the eight devices' parts. -/
def total (g : Vec Ideal S8x256x2048 .bf16) (r : Fin 256) (l : Fin 2048) : EReal :=
  ∑ d : Fin 8, g (ix3 d r l)

/-- The same in one block of rows. -/
def totalBlock (g : Vec Ideal S8x128x2048 .bf16) (r : Fin 128) (l : Fin 2048) : EReal :=
  ∑ d : Fin 8, g (ix3 d r l)

section
variable (c : Dev nD) (i : grid0.Coords) (b1 : Memref sig .tc .vmem S8x128x2048 .bf16) (h1 : b1.IsWhole) (b2 : Memref sig .tc .vmem S1x128x2048 .f32) (h2 : b2.IsWhole) (b3 : Memref sig .tc .vmem S1x128x2048 .f32) (h3 : b3.IsWhole) (b4 : Memref sig .tc .vmem S1x128x2048 .f32) (h4 : b4.IsWhole) (b9 : Memref sig .tc .vmem S1x128x2048 .f32) (h9 : b9.IsWhole) (b10 : Memref sig .tc .vmem S1x128x2048 .f32) (h10 : b10.IsWhole) (b11 : Memref sig .tc .vmem S1x128x2048 .f32) (h11 : b11.IsWhole) (b12 : Memref sig .tc .vmem S1x128x2048 .f32) (h12 : b12.IsWhole) (x0 : Vec Ideal S8x128x2048 .bf16) (x1 : Vec Ideal S1x128x2048 .f32) (x2 : Vec Ideal S1x128x2048 .f32) (x3 : Vec Ideal S1x128x2048 .f32) (r : Fin 128) (l : Fin 2048)

set_option maxHeartbeats 800000 in
theorem outs_apply :
    out0_A_4 c i b1 h1 b2 h2 b3 h3 b4 h4 b9 h9 b10 h10 b11 h11 b12 h12 x0 x1 x2 x3 (ix3 0 r l) = totalBlock x0 r l
    ∧ out0_A_5 c i b1 h1 b2 h2 b3 h3 b4 h4 b9 h9 b10 h10 b11 h11 b12 h12 x0 x1 x2 x3 (ix3 0 r l) = Adam.change (x1 (ix3 0 r l)) (Adam.first (x2 (ix3 0 r l)) (totalBlock x0 r l)) (Adam.second (x3 (ix3 0 r l)) (totalBlock x0 r l))
    ∧ out0_A_6 c i b1 h1 b2 h2 b3 h3 b4 h4 b9 h9 b10 h10 b11 h11 b12 h12 x0 x1 x2 x3 (ix3 0 r l) = Adam.first (x2 (ix3 0 r l)) (totalBlock x0 r l)
    ∧ out0_A_7 c i b1 h1 b2 h2 b3 h3 b4 h4 b9 h9 b10 h10 b11 h11 b12 h12 x0 x1 x2 x3 (ix3 0 r l) = Adam.second (x3 (ix3 0 r l)) (totalBlock x0 r l) := by
  unfold out0_A_4 out0_A_5 out0_A_6 out0_A_7
  rw [View.read_writes_eq_canon _ _ _ (cover0_A_4 c i b1 h1 b2 h2 b3 h3 b4 h4 b9 h9 b10 h10 b11 h11 b12 h12 x0 x1 x2 x3), View.read_writes_eq_canon _ _ _ (cover0_A_5 c i b1 h1 b2 h2 b3 h3 b4 h4 b9 h9 b10 h10 b11 h11 b12 h12 x0 x1 x2 x3), View.read_writes_eq_canon _ _ _ (cover0_A_6 c i b1 h1 b2 h2 b3 h3 b4 h4 b9 h9 b10 h10 b11 h11 b12 h12 x0 x1 x2 x3), View.read_writes_eq_canon _ _ _ (cover0_A_7 c i b1 h1 b2 h2 b3 h3 b4 h4 b9 h9 b10 h10 b11 h11 b12 h12 x0 x1 x2 x3)]
  unfold kernelRun0_A
  dsimp only
  sl_unfold_words
  rw [View.canon_unit_zero zero3, View.canon_unit_zero zero3, View.canon_unit_zero zero3, View.canon_unit_zero zero3]
  unfold totalBlock Adam.change Adam.first Adam.second
  simp only [Fin.sum_univ_eight]
  simp only [← Adam.mul_c1, ← Adam.mul_c2, ← name_c1, ← name_c2]
  simp only [← slab0, ← slab1, ← slab2, ← slab3, ← slab4, ← slab5, ← slab6, ← slab7]
  simp only [View.readAt_eq_ld, h1.read_unread, h2.read_unread, h3.read_unread, h4.read_unread, View.ld_unit_zero (S := S1x128x2048) zero3]
  refine ⟨?_, ?_, ?_, ?_⟩ <;> pointwise [k0_pay1, k0_pay2, k0_pay3, k0_pay4, k0_pay5, k0_pay6, k0_pay7, k0_pay8, k0_pay9, k0_pay10]

end

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)

theorem at1 : ∀ t : Fin cfg0.N, win0_1.index t (0 : Fin 3) = 1 ∧ win0_1.index t (1 : Fin 3) = t.val ∧ win0_1.index t (2 : Fin 3) = 0 :=
  (by decide +kernel : ∀ t : Fin grid0.N, _)

theorem at4 : ∀ t : Fin cfg0.N, win0_4.index t (0 : Fin 3) = 1 ∧ win0_4.index t (1 : Fin 3) = t.val ∧ win0_4.index t (2 : Fin 3) = 0 ∧ win0_4.flush t = true :=
  (by decide +kernel : ∀ t : Fin grid0.N, _)

/-- Row `k` of block `t`. -/
def rowOf (t : Nat) (k : Fin 128) : Fin 256 := ⟨(t * 128 + k.val) % 256, by omega⟩

theorem places (r : Fin 256) : ∃ (t : Fin cfg0.N) (k : Fin 128), rowOf t.val k = r :=
  ⟨⟨r.val / 128, by show _ < 2; omega⟩, ⟨r.val % 128, by omega⟩, Fin.ext (by show (r.val / 128 * 128 + r.val % 128) % 256 = r.val; omega)⟩

theorem emb1 (t : Fin cfg0.N) (k : Fin 128) (l : Fin 2048) : ((cfg0.win 1).blk t).view.emb (ix3 0 k l) = (ix3 1 (rowOf t.val k) l : S2x256x2048.Idx) := by
  have F := at1 t
  have hN : t.val < 2 := t.isLt
  funext a; apply Fin.ext
  match a with
  | ⟨0, _⟩ => show win0_1.index t (0 : Fin 3) * 1 + 1 * 0 = 1; omega
  | ⟨1, _⟩ => show win0_1.index t (1 : Fin 3) * 128 + 1 * k.val = (t.val * 128 + k.val) % 256; omega
  | ⟨2, _⟩ => show win0_1.index t (2 : Fin 3) * 2048 + 1 * l.val = l.val; omega

variable (m : (ℓ : Loc nD τ sig) → Buf (Elt Ideal) ℓ)

/-- An argument on core `c`. -/
abbrev parts (c : Dev nD) : Vec Ideal S8x256x2048 .bf16 := m (c.tc.loc main_arg0)
abbrev wt (c : Dev nD) : Vec Ideal S2x256x2048 .f32 := m (c.tc.loc main_arg1)
abbrev mo (c : Dev nD) : Vec Ideal S2x256x2048 .f32 := m (c.tc.loc main_arg2)
abbrev ve (c : Dev nD) : Vec Ideal S2x256x2048 .f32 := m (c.tc.loc main_arg3)
abbrev old0 (c : Dev nD) : Vec Ideal S2x256x2048 .f32 := m (c.tc.loc main_arg4)
abbrev old1 (c : Dev nD) : Vec Ideal S2x256x2048 .f32 := m (c.tc.loc main_arg5)
abbrev old2 (c : Dev nD) : Vec Ideal S2x256x2048 .f32 := m (c.tc.loc main_arg6)
abbrev old3 (c : Dev nD) : Vec Ideal S2x256x2048 .f32 := m (c.tc.loc main_arg7)

theorem parts_block (c : Dev nD) (t : Fin cfg0.N) (k : Fin 128) (l : Fin 2048) : totalBlock (iblk m c 0 t) k l = total (parts m c) (rowOf t.val k) l := by
  have F := at0 t
  have hN : t.val < 2 := t.isLt
  unfold totalBlock total
  refine Finset.sum_congr rfl fun d _ => ?_
  show V m c main_arg0 (((cfg0.win 0).blk t).view.emb _) = _
  rw [V_main_arg0]
  refine congrArg (parts m c) ?_
  funext a; apply Fin.ext
  match a with
  | ⟨0, _⟩ => show win0_0.index t (0 : Fin 3) * 8 + 1 * d.val = d.val; omega
  | ⟨1, _⟩ => show win0_0.index t (1 : Fin 3) * 128 + 1 * k.val = (t.val * 128 + k.val) % 256; omega
  | ⟨2, _⟩ => show win0_0.index t (2 : Fin 3) * 2048 + 1 * l.val = l.val; omega

theorem wt_block (c : Dev nD) (t : Fin cfg0.N) (k : Fin 128) (l : Fin 2048) : iblk m c 1 t (ix3 0 k l) = wt m c (ix3 1 (rowOf t.val k) l) := by
  show V m c main_arg1 _ = _
  rw [V_main_arg1]
  exact congrArg (wt m c) (emb1 t k l)

theorem mo_block (c : Dev nD) (t : Fin cfg0.N) (k : Fin 128) (l : Fin 2048) : iblk m c 2 t (ix3 0 k l) = mo m c (ix3 1 (rowOf t.val k) l) := by
  show V m c main_arg2 _ = _
  rw [V_main_arg2]
  exact congrArg (mo m c) (emb1 t k l)

theorem ve_block (c : Dev nD) (t : Fin cfg0.N) (k : Fin 128) (l : Fin 2048) : iblk m c 3 t (ix3 0 k l) = ve m c (ix3 1 (rowOf t.val k) l) := by
  show V m c main_arg3 _ = _
  rw [V_main_arg3]
  exact congrArg (ve m c) (emb1 t k l)

/-- An array with `f` in its last layer and `old` in the layers before. -/
def lay (f : Fin 256 → Fin 2048 → EReal) (old : Vec Ideal S2x256x2048 .f32) : Vec Ideal S2x256x2048 .f32 :=
  fun i => if (i 0).val = 1 then f (i 1) (i 2) else old i

theorem lay_last (f : Fin 256 → Fin 2048 → EReal) (old : Vec Ideal S2x256x2048 .f32) (r : Fin 256) (l : Fin 2048) : lay f old (ix3 1 r l) = f r l := if_pos rfl

theorem lay_rest (f : Fin 256 → Fin 2048 → EReal) (old : Vec Ideal S2x256x2048 .f32) (s : Fin 2) (r : Fin 256) (l : Fin 2048) (h : s.val ≠ 1) : lay f old (ix3 s r l) = old (ix3 s r l) := if_neg h

theorem inside (t : Fin cfg0.N) {s : Fin 2} {r : Fin 256} {l : Fin 2048} (hm : ix3 s r l ∈ ((View.whole main_v0_0).slice (win0_4.rect t)).set) : s.val = 1 := by
  have F := at4 t
  rw [View.set_slice_whole, Rect.mem_set_unit] at hm
  have h0 : win0_4.index t (0 : Fin 3) * 1 ≤ s.val ∧ s.val < win0_4.index t (0 : Fin 3) * 1 + 1 := hm 0
  omega

theorem lay_of {f : Fin 256 → Fin 2048 → EReal} {old A : Vec Ideal S2x256x2048 .f32} (hl : ∀ (t : Fin cfg0.N) (j : Fin 128) (l : Fin 2048), A (ix3 1 (rowOf t.val j) l) = f (rowOf t.val j) l)
    (hr : ∀ (s : Fin 2) (r : Fin 256) (l : Fin 2048), s.val ≠ 1 → A (ix3 s r l) = old (ix3 s r l)) : A = lay f old := by
  funext i
  obtain ⟨s, r, l, rfl⟩ := eq_ix3 i
  by_cases h : s.val = 1
  · obtain rfl : s = 1 := Fin.ext h
    obtain ⟨t, j, rfl⟩ := places r
    exact (hl t j l).trans (lay_last ..).symm
  · exact (hr s r l h).trans (lay_rest _ _ s r l h).symm

theorem array4_eq (c : Dev nD) : (dats m 0 c).arrAt 4 cfg0.N = lay (fun r l => total (parts m c) r l) (old0 m c) :=
  lay_of (fun t j l => by
    refine (congrArg _ (emb1 t j l).symm).trans ((congrFun (Value.blocks4 m c t (at4 t).2.2.2) (ix3 0 j l)).trans ?_)
    rw [Value.flushed4_A]
    refine (outs_apply ..).1.trans ?_
    rw [parts_block]) fun s r l h => Value.entry4 m c (ix3 s r l) fun t _ hm => h (inside t hm)

theorem array5_eq (c : Dev nD) : (dats m 0 c).arrAt 5 cfg0.N = lay (fun r l => Adam.change (wt m c (ix3 1 r l)) (Adam.first (mo m c (ix3 1 r l)) (total (parts m c) r l)) (Adam.second (ve m c (ix3 1 r l)) (total (parts m c) r l))) (old1 m c) :=
  lay_of (fun t j l => by
    refine (congrArg _ (emb1 t j l).symm).trans ((congrFun (Value.blocks5 m c t (at4 t).2.2.2) (ix3 0 j l)).trans ?_)
    rw [Value.flushed5_A]
    refine (outs_apply ..).2.1.trans ?_
    rw [parts_block, wt_block, mo_block, ve_block]) fun s r l h => Value.entry5 m c (ix3 s r l) fun t _ hm => h (inside t hm)

theorem array6_eq (c : Dev nD) : (dats m 0 c).arrAt 6 cfg0.N = lay (fun r l => Adam.first (mo m c (ix3 1 r l)) (total (parts m c) r l)) (old2 m c) :=
  lay_of (fun t j l => by
    refine (congrArg _ (emb1 t j l).symm).trans ((congrFun (Value.blocks6 m c t (at4 t).2.2.2) (ix3 0 j l)).trans ?_)
    rw [Value.flushed6_A]
    refine (outs_apply ..).2.2.1.trans ?_
    rw [parts_block, mo_block]) fun s r l h => Value.entry6 m c (ix3 s r l) fun t _ hm => h (inside t hm)

theorem array7_eq (c : Dev nD) : (dats m 0 c).arrAt 7 cfg0.N = lay (fun r l => Adam.second (ve m c (ix3 1 r l)) (total (parts m c) r l)) (old3 m c) :=
  lay_of (fun t j l => by
    refine (congrArg _ (emb1 t j l).symm).trans ((congrFun (Value.blocks7 m c t (at4 t).2.2.2) (ix3 0 j l)).trans ?_)
    rw [Value.flushed7_A]
    refine (outs_apply ..).2.2.2.trans ?_
    rw [parts_block, ve_block]) fun s r l h => Value.entry7 m c (ix3 s r l) fun t _ hm => h (inside t hm)

/-- The gradient: the reference's. -/
theorem gradient_eq (g : Vec Ideal S8x256x2048 .bf16) (u : Vec Ideal S2x256x2048 .f32) : val_main_v34 (F := Ideal) g u = lay (fun r l => total g r l) u := by
  funext i
  obtain ⟨s, r, l, rfl⟩ := eq_ix3 i
  unfold lay total
  fin_cases s <;> pointwise [val_main_v0, val_main_cst, val_main_v1, val_main_v32, val_main_v33, val_main_v34]

/-- The change of the weight: the reference's. -/
theorem change_eq (g : Vec Ideal S8x256x2048 .bf16) (w m v u : Vec Ideal S2x256x2048 .f32) : val_main_v37 (F := Ideal) g w m v u = lay (fun r l => Adam.change (w (ix3 1 r l)) (Adam.first (m (ix3 1 r l)) (total g r l)) (Adam.second (v (ix3 1 r l)) (total g r l))) u := by
  funext i
  obtain ⟨s, r, l, rfl⟩ := eq_ix3 i
  unfold lay Adam.change Adam.first Adam.second total
  fin_cases s <;> pointwise [val_main_v0, val_main_cst, val_main_v1, val_main_v2, val_main_v3, val_main_v4, val_main_v5, val_main_v6, val_main_v7, val_main_cst_0, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31, val_main_v35, val_main_v36, val_main_v37]

/-- The first moment: the reference's. -/
theorem first_eq (g : Vec Ideal S8x256x2048 .bf16) (m u : Vec Ideal S2x256x2048 .f32) : val_main_v40 (F := Ideal) g m u = lay (fun r l => Adam.first (m (ix3 1 r l)) (total g r l)) u := by
  funext i
  obtain ⟨s, r, l, rfl⟩ := eq_ix3 i
  unfold lay Adam.first total
  fin_cases s <;> pointwise [val_main_v0, val_main_cst, val_main_v1, val_main_v4, val_main_v5, val_main_cst_0, val_main_v8, val_main_v9, val_main_cst_1, val_main_v10, val_main_v11, val_main_v12, val_main_v38, val_main_v39, val_main_v40]

/-- The second moment: the reference's. -/
theorem second_eq (g : Vec Ideal S8x256x2048 .bf16) (v u : Vec Ideal S2x256x2048 .f32) : val_main_v43 (F := Ideal) g v u = lay (fun r l => Adam.second (v (ix3 1 r l)) (total g r l)) u := by
  funext i
  obtain ⟨s, r, l, rfl⟩ := eq_ix3 i
  unfold lay Adam.second total
  fin_cases s <;> pointwise [val_main_v0, val_main_cst, val_main_v1, val_main_v6, val_main_v7, val_main_cst_2, val_main_v13, val_main_v14, val_main_v15, val_main_cst_3, val_main_v16, val_main_v17, val_main_v18, val_main_v41, val_main_v42, val_main_v43]

theorem preserves : Cert.preserves_AdamConvOut_AdamConvOutIdeal :=
  ⟨IdealRules.named_const.statement Cert.AdamConvOutIdeal.κ "c1" .f32 0x3FC48605#32 ((8388608 / 5463681 : ℝ) : EReal) rfl,
    IdealRules.named_const.statement Cert.AdamConvOutIdeal.κ "c2" .f32 0x42C8E6D3#32 ((268435456 / 2672307 : ℝ) : EReal) rfl⟩

/-- The kernel and the reference hold the same four arrays. -/
theorem algebraic : Cert.algebraic_AdamConvOutIdeal_AdamConvOutRefIdeal := by
  intro m g m' g' _ hagree
  refine ⟨fun c => lay (fun r l => total (parts m c) r l) (old0 m c), fun c => lay (fun r l => Adam.change (wt m c (ix3 1 r l)) (Adam.first (mo m c (ix3 1 r l)) (total (parts m c) r l)) (Adam.second (ve m c (ix3 1 r l)) (total (parts m c) r l))) (old1 m c), fun c => lay (fun r l => Adam.first (mo m c (ix3 1 r l)) (total (parts m c) r l)) (old2 m c), fun c => lay (fun r l => Adam.second (ve m c (ix3 1 r l)) (total (parts m c) r l)) (old3 m c),
    (θ_run _ _ _).mono (fun r h c => ⟨(h c).1.trans (array4_eq m c), (h c).2.1.trans (array5_eq m c), (h c).2.2.1.trans (array6_eq m c), (h c).2.2.2.1.trans (array7_eq m c), (h c).2.2.2.2⟩) (Value.run_blocks m g),
    (θ_run _ _ _).mono (fun r h c => ⟨((h c).1.trans (val_main_v34_eq ..)).trans ?_, ((h c).2.1.trans (val_main_v37_eq ..)).trans ?_,
      ((h c).2.2.1.trans (val_main_v40_eq ..)).trans ?_, ((h c).2.2.2.1.trans (val_main_v43_eq ..)).trans ?_, (h c).2.2.2.2⟩) (AdamConvOutRefIdeal.Value.run m' g')⟩
  · rw [(hagree c).1, (hagree c).2.2.2.2.1]
    exact gradient_eq _ _
  · rw [(hagree c).1, (hagree c).2.1, (hagree c).2.2.1, (hagree c).2.2.2.1, (hagree c).2.2.2.2.2.1]
    exact change_eq _ _ _ _ _
  · rw [(hagree c).1, (hagree c).2.2.1, (hagree c).2.2.2.2.2.2.1]
    exact first_eq _ _ _
  · rw [(hagree c).1, (hagree c).2.2.2.1, (hagree c).2.2.2.2.2.2.2]
    exact second_eq _ _ _

end Cert.AdamConvOutValue

end
-- ==== Proof.lean ====
/- The claims: every program runs to its end without fault, each kernel over the reals is the kernel, and its results are its reference's. -/
module

public import proofs.«01_k».proof.Defs
public import proofs.«01_k».proof.Proof.Gen.Hidden
public import proofs.«01_k».proof.Proof.Gen.Hidden.Skeleton
public import proofs.«01_k».proof.Proof.Gen.Hidden.Launch
public import proofs.«01_k».proof.Proof.Gen.Hidden.Points
public import proofs.«01_k».proof.Proof.Gen.Hidden.Frame
public import proofs.«01_k».proof.Proof.Gen.HiddenIdeal
public import proofs.«01_k».proof.Proof.Gen.HiddenIdeal.Skeleton
public import proofs.«01_k».proof.Proof.Gen.HiddenIdeal.Launch
public import proofs.«01_k».proof.Proof.Gen.HiddenIdeal.Points
public import proofs.«01_k».proof.Proof.Gen.HiddenIdeal.Frame
public import proofs.«01_k».proof.Proof.Gen.HiddenRefIdeal
public import proofs.«01_k».proof.Proof.Gen.HiddenRefIdeal.Run
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsRefIdeal
public import proofs.«01_k».proof.Proof.Gen.RowsRefIdeal.Run
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmRefIdeal
public import proofs.«01_k».proof.Proof.Gen.MmRefIdeal.Run
public import proofs.«01_k».proof.Proof.Gen.MmAdd
public import proofs.«01_k».proof.Proof.Gen.MmAdd.Skeleton
public import proofs.«01_k».proof.Proof.Gen.MmAdd.Launch
public import proofs.«01_k».proof.Proof.Gen.MmAdd.Points
public import proofs.«01_k».proof.Proof.Gen.MmAdd.Frame
public import proofs.«01_k».proof.Proof.Gen.MmAddIdeal
public import proofs.«01_k».proof.Proof.Gen.MmAddIdeal.Skeleton
public import proofs.«01_k».proof.Proof.Gen.MmAddIdeal.Launch
public import proofs.«01_k».proof.Proof.Gen.MmAddIdeal.Points
public import proofs.«01_k».proof.Proof.Gen.MmAddIdeal.Frame
public import proofs.«01_k».proof.Proof.Gen.MmAddRefIdeal
public import proofs.«01_k».proof.Proof.Gen.MmAddRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GradW
public import proofs.«01_k».proof.Proof.Gen.GradW.Skeleton
public import proofs.«01_k».proof.Proof.Gen.GradW.Launch
public import proofs.«01_k».proof.Proof.Gen.GradW.Points
public import proofs.«01_k».proof.Proof.Gen.GradW.Frame
public import proofs.«01_k».proof.Proof.Gen.GradWIdeal
public import proofs.«01_k».proof.Proof.Gen.GradWIdeal.Skeleton
public import proofs.«01_k».proof.Proof.Gen.GradWIdeal.Launch
public import proofs.«01_k».proof.Proof.Gen.GradWIdeal.Points
public import proofs.«01_k».proof.Proof.Gen.GradWIdeal.Frame
public import proofs.«01_k».proof.Proof.Gen.GradWRefIdeal
public import proofs.«01_k».proof.Proof.Gen.GradWRefIdeal.Run
public import proofs.«01_k».proof.Proof.Gen.Res
public import proofs.«01_k».proof.Proof.Gen.Res.Skeleton
public import proofs.«01_k».proof.Proof.Gen.Res.Launch
public import proofs.«01_k».proof.Proof.Gen.Res.Points
public import proofs.«01_k».proof.Proof.Gen.Res.Frame
public import proofs.«01_k».proof.Proof.Gen.ResIdeal
public import proofs.«01_k».proof.Proof.Gen.ResIdeal.Skeleton
public import proofs.«01_k».proof.Proof.Gen.ResIdeal.Launch
public import proofs.«01_k».proof.Proof.Gen.ResIdeal.Points
public import proofs.«01_k».proof.Proof.Gen.ResIdeal.Frame
public import proofs.«01_k».proof.Proof.Gen.ResRefIdeal
public import proofs.«01_k».proof.Proof.Gen.ResRefIdeal.Run
public import proofs.«01_k».proof.Proof.Gen.ResIn
public import proofs.«01_k».proof.Proof.Gen.ResIn.Skeleton
public import proofs.«01_k».proof.Proof.Gen.ResIn.Launch
public import proofs.«01_k».proof.Proof.Gen.ResIn.Points
public import proofs.«01_k».proof.Proof.Gen.ResIn.Frame
public import proofs.«01_k».proof.Proof.Gen.ResInIdeal
public import proofs.«01_k».proof.Proof.Gen.ResInIdeal.Skeleton
public import proofs.«01_k».proof.Proof.Gen.ResInIdeal.Launch
public import proofs.«01_k».proof.Proof.Gen.ResInIdeal.Points
public import proofs.«01_k».proof.Proof.Gen.ResInIdeal.Frame
public import proofs.«01_k».proof.Proof.Gen.ResInRefIdeal
public import proofs.«01_k».proof.Proof.Gen.ResInRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.PoolOut
public import proofs.«01_k».proof.Proof.Gen.PoolOut.Skeleton
public import proofs.«01_k».proof.Proof.Gen.PoolOut.Launch
public import proofs.«01_k».proof.Proof.Gen.PoolOut.Points
public import proofs.«01_k».proof.Proof.Gen.PoolOut.Frame
public import proofs.«01_k».proof.Proof.Gen.PoolOutIdeal
public import proofs.«01_k».proof.Proof.Gen.PoolOutIdeal.Skeleton
public import proofs.«01_k».proof.Proof.Gen.PoolOutIdeal.Launch
public import proofs.«01_k».proof.Proof.Gen.PoolOutIdeal.Points
public import proofs.«01_k».proof.Proof.Gen.PoolOutIdeal.Frame
public import proofs.«01_k».proof.Proof.Gen.PoolOutRefIdeal
public import proofs.«01_k».proof.Proof.Gen.PoolOutRefIdeal.Run
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutRefIdeal
public import proofs.«01_k».proof.Proof.Gen.ConvOutRefIdeal.Run
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdRefIdeal
public import proofs.«01_k».proof.Proof.Gen.PoolFwdRefIdeal.Run
public import proofs.«01_k».proof.Proof.Gen.FfnRes
public import proofs.«01_k».proof.Proof.Gen.FfnRes.Skeleton
public import proofs.«01_k».proof.Proof.Gen.FfnRes.Launch
public import proofs.«01_k».proof.Proof.Gen.FfnRes.Points
public import proofs.«01_k».proof.Proof.Gen.FfnRes.Frame
public import proofs.«01_k».proof.Proof.Gen.FfnResIdeal
public import proofs.«01_k».proof.Proof.Gen.FfnResIdeal.Skeleton
public import proofs.«01_k».proof.Proof.Gen.FfnResIdeal.Launch
public import proofs.«01_k».proof.Proof.Gen.FfnResIdeal.Points
public import proofs.«01_k».proof.Proof.Gen.FfnResIdeal.Frame
public import proofs.«01_k».proof.Proof.Gen.FfnResRefIdeal
public import proofs.«01_k».proof.Proof.Gen.FfnResRefIdeal.Run
public import proofs.«01_k».proof.Proof.Gen.AttnRes
public import proofs.«01_k».proof.Proof.Gen.AttnRes.Skeleton
public import proofs.«01_k».proof.Proof.Gen.AttnRes.Launch
public import proofs.«01_k».proof.Proof.Gen.AttnRes.Points
public import proofs.«01_k».proof.Proof.Gen.AttnRes.Frame
public import proofs.«01_k».proof.Proof.Gen.AttnResIdeal
public import proofs.«01_k».proof.Proof.Gen.AttnResIdeal.Skeleton
public import proofs.«01_k».proof.Proof.Gen.AttnResIdeal.Launch
public import proofs.«01_k».proof.Proof.Gen.AttnResIdeal.Points
public import proofs.«01_k».proof.Proof.Gen.AttnResIdeal.Frame
public import proofs.«01_k».proof.Proof.Gen.AttnResRefIdeal
public import proofs.«01_k».proof.Proof.Gen.AttnResRefIdeal.Run
public import proofs.«01_k».proof.Proof.Gen.ConvRes
public import proofs.«01_k».proof.Proof.Gen.ConvRes.Skeleton
public import proofs.«01_k».proof.Proof.Gen.ConvRes.Launch
public import proofs.«01_k».proof.Proof.Gen.ConvRes.Points
public import proofs.«01_k».proof.Proof.Gen.ConvRes.Frame
public import proofs.«01_k».proof.Proof.Gen.ConvResIdeal
public import proofs.«01_k».proof.Proof.Gen.ConvResIdeal.Skeleton
public import proofs.«01_k».proof.Proof.Gen.ConvResIdeal.Launch
public import proofs.«01_k».proof.Proof.Gen.ConvResIdeal.Points
public import proofs.«01_k».proof.Proof.Gen.ConvResIdeal.Frame
public import proofs.«01_k».proof.Proof.Gen.ConvResRefIdeal
public import proofs.«01_k».proof.Proof.Gen.ConvResRefIdeal.Run
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInRefIdeal
public import proofs.«01_k».proof.Proof.Gen.ConvInRefIdeal.Run
public import proofs.«01_k».proof.Proof.Gen.AttnDx
public import proofs.«01_k».proof.Proof.Gen.AttnDx.Skeleton
public import proofs.«01_k».proof.Proof.Gen.AttnDx.Launch
public import proofs.«01_k».proof.Proof.Gen.AttnDx.Points
public import proofs.«01_k».proof.Proof.Gen.AttnDx.Frame
public import proofs.«01_k».proof.Proof.Gen.AttnDxIdeal
public import proofs.«01_k».proof.Proof.Gen.AttnDxIdeal.Skeleton
public import proofs.«01_k».proof.Proof.Gen.AttnDxIdeal.Launch
public import proofs.«01_k».proof.Proof.Gen.AttnDxIdeal.Points
public import proofs.«01_k».proof.Proof.Gen.AttnDxIdeal.Frame
public import proofs.«01_k».proof.Proof.Gen.AttnDxRefIdeal
public import proofs.«01_k».proof.Proof.Gen.AttnDxRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.PleProj
public import proofs.«01_k».proof.Proof.Gen.PleProj.Skeleton
public import proofs.«01_k».proof.Proof.Gen.PleProj.Launch
public import proofs.«01_k».proof.Proof.Gen.PleProj.Points
public import proofs.«01_k».proof.Proof.Gen.PleProj.Frame
public import proofs.«01_k».proof.Proof.Gen.PleProjIdeal
public import proofs.«01_k».proof.Proof.Gen.PleProjIdeal.Skeleton
public import proofs.«01_k».proof.Proof.Gen.PleProjIdeal.Launch
public import proofs.«01_k».proof.Proof.Gen.PleProjIdeal.Points
public import proofs.«01_k».proof.Proof.Gen.PleProjIdeal.Frame
public import proofs.«01_k».proof.Proof.Gen.PleProjRefIdeal
public import proofs.«01_k».proof.Proof.Gen.PleProjRefIdeal.Run
public import proofs.«01_k».proof.Proof.Gen.RmsIn
public import proofs.«01_k».proof.Proof.Gen.RmsIn.Skeleton
public import proofs.«01_k».proof.Proof.Gen.RmsIn.Launch
public import proofs.«01_k».proof.Proof.Gen.RmsIn.Points
public import proofs.«01_k».proof.Proof.Gen.RmsIn.Frame
public import proofs.«01_k».proof.Proof.Gen.RmsInIdeal
public import proofs.«01_k».proof.Proof.Gen.RmsInIdeal.Skeleton
public import proofs.«01_k».proof.Proof.Gen.RmsInIdeal.Launch
public import proofs.«01_k».proof.Proof.Gen.RmsInIdeal.Points
public import proofs.«01_k».proof.Proof.Gen.RmsInIdeal.Frame
public import proofs.«01_k».proof.Proof.Gen.RmsInRefIdeal
public import proofs.«01_k».proof.Proof.Gen.RmsInRefIdeal.Run
public import proofs.«01_k».proof.Proof.Gen.BiasGrad
public import proofs.«01_k».proof.Proof.Gen.BiasGrad.Skeleton
public import proofs.«01_k».proof.Proof.Gen.BiasGrad.Launch
public import proofs.«01_k».proof.Proof.Gen.BiasGrad.Points
public import proofs.«01_k».proof.Proof.Gen.BiasGrad.Frame
public import proofs.«01_k».proof.Proof.Gen.BiasGradIdeal
public import proofs.«01_k».proof.Proof.Gen.BiasGradIdeal.Skeleton
public import proofs.«01_k».proof.Proof.Gen.BiasGradIdeal.Launch
public import proofs.«01_k».proof.Proof.Gen.BiasGradIdeal.Points
public import proofs.«01_k».proof.Proof.Gen.BiasGradIdeal.Frame
public import proofs.«01_k».proof.Proof.Gen.BiasGradRefIdeal
public import proofs.«01_k».proof.Proof.Gen.BiasGradRefIdeal.Run
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.BiasRefIdeal.Run
public import proofs.«01_k».proof.Proof.Gen.PoolW
public import proofs.«01_k».proof.Proof.Gen.PoolW.Skeleton
public import proofs.«01_k».proof.Proof.Gen.PoolW.Launch
public import proofs.«01_k».proof.Proof.Gen.PoolW.Points
public import proofs.«01_k».proof.Proof.Gen.PoolW.Frame
public import proofs.«01_k».proof.Proof.Gen.PoolWIdeal
public import proofs.«01_k».proof.Proof.Gen.PoolWIdeal.Skeleton
public import proofs.«01_k».proof.Proof.Gen.PoolWIdeal.Launch
public import proofs.«01_k».proof.Proof.Gen.PoolWIdeal.Points
public import proofs.«01_k».proof.Proof.Gen.PoolWIdeal.Frame
public import proofs.«01_k».proof.Proof.Gen.PoolWRefIdeal
public import proofs.«01_k».proof.Proof.Gen.PoolWRefIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormRefIdeal
public import proofs.«01_k».proof.Proof.Gen.AdamNormRefIdeal.Run
public import proofs.«01_k».proof.Proof.Gen.AdamVec
public import proofs.«01_k».proof.Proof.Gen.AdamVec.Skeleton
public import proofs.«01_k».proof.Proof.Gen.AdamVec.Launch
public import proofs.«01_k».proof.Proof.Gen.AdamVec.Points
public import proofs.«01_k».proof.Proof.Gen.AdamVec.Frame
public import proofs.«01_k».proof.Proof.Gen.AdamVecIdeal
public import proofs.«01_k».proof.Proof.Gen.AdamVecIdeal.Skeleton
public import proofs.«01_k».proof.Proof.Gen.AdamVecIdeal.Launch
public import proofs.«01_k».proof.Proof.Gen.AdamVecIdeal.Points
public import proofs.«01_k».proof.Proof.Gen.AdamVecIdeal.Frame
public import proofs.«01_k».proof.Proof.Gen.AdamVecRefIdeal
public import proofs.«01_k».proof.Proof.Gen.AdamVecRefIdeal.Run
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadRefIdeal
public import proofs.«01_k».proof.Proof.Gen.AdamHeadRefIdeal.Run
public import proofs.«01_k».proof.Proof.Gen.AdamScale
public import proofs.«01_k».proof.Proof.Gen.AdamScale.Skeleton
public import proofs.«01_k».proof.Proof.Gen.AdamScale.Launch
public import proofs.«01_k».proof.Proof.Gen.AdamScale.Points
public import proofs.«01_k».proof.Proof.Gen.AdamScale.Frame
public import proofs.«01_k».proof.Proof.Gen.AdamScaleIdeal
public import proofs.«01_k».proof.Proof.Gen.AdamScaleIdeal.Skeleton
public import proofs.«01_k».proof.Proof.Gen.AdamScaleIdeal.Launch
public import proofs.«01_k».proof.Proof.Gen.AdamScaleIdeal.Points
public import proofs.«01_k».proof.Proof.Gen.AdamScaleIdeal.Frame
public import proofs.«01_k».proof.Proof.Gen.AdamScaleRefIdeal
public import proofs.«01_k».proof.Proof.Gen.AdamScaleRefIdeal.Run
public import proofs.«01_k».proof.Proof.Gen.AdamSink
public import proofs.«01_k».proof.Proof.Gen.AdamSink.Skeleton
public import proofs.«01_k».proof.Proof.Gen.AdamSink.Launch
public import proofs.«01_k».proof.Proof.Gen.AdamSink.Points
public import proofs.«01_k».proof.Proof.Gen.AdamSink.Frame
public import proofs.«01_k».proof.Proof.Gen.AdamSinkIdeal
public import proofs.«01_k».proof.Proof.Gen.AdamSinkIdeal.Skeleton
public import proofs.«01_k».proof.Proof.Gen.AdamSinkIdeal.Launch
public import proofs.«01_k».proof.Proof.Gen.AdamSinkIdeal.Points
public import proofs.«01_k».proof.Proof.Gen.AdamSinkIdeal.Frame
public import proofs.«01_k».proof.Proof.Gen.AdamSinkRefIdeal
public import proofs.«01_k».proof.Proof.Gen.AdamSinkRefIdeal.Run
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasRefIdeal
public import proofs.«01_k».proof.Proof.Gen.AdamBiasRefIdeal.Run
public import proofs.«01_k».proof.Proof.Gen.AdamConvB
public import proofs.«01_k».proof.Proof.Gen.AdamConvB.Skeleton
public import proofs.«01_k».proof.Proof.Gen.AdamConvB.Launch
public import proofs.«01_k».proof.Proof.Gen.AdamConvB.Points
public import proofs.«01_k».proof.Proof.Gen.AdamConvB.Frame
public import proofs.«01_k».proof.Proof.Gen.AdamConvBIdeal
public import proofs.«01_k».proof.Proof.Gen.AdamConvBIdeal.Skeleton
public import proofs.«01_k».proof.Proof.Gen.AdamConvBIdeal.Launch
public import proofs.«01_k».proof.Proof.Gen.AdamConvBIdeal.Points
public import proofs.«01_k».proof.Proof.Gen.AdamConvBIdeal.Frame
public import proofs.«01_k».proof.Proof.Gen.AdamConvBRefIdeal
public import proofs.«01_k».proof.Proof.Gen.AdamConvBRefIdeal.Run
public import proofs.«01_k».proof.Proof.Gen.AdamConvW
public import proofs.«01_k».proof.Proof.Gen.AdamConvW.Skeleton
public import proofs.«01_k».proof.Proof.Gen.AdamConvW.Launch
public import proofs.«01_k».proof.Proof.Gen.AdamConvW.Points
public import proofs.«01_k».proof.Proof.Gen.AdamConvW.Frame
public import proofs.«01_k».proof.Proof.Gen.AdamConvWIdeal
public import proofs.«01_k».proof.Proof.Gen.AdamConvWIdeal.Skeleton
public import proofs.«01_k».proof.Proof.Gen.AdamConvWIdeal.Launch
public import proofs.«01_k».proof.Proof.Gen.AdamConvWIdeal.Points
public import proofs.«01_k».proof.Proof.Gen.AdamConvWIdeal.Frame
public import proofs.«01_k».proof.Proof.Gen.AdamConvWRefIdeal
public import proofs.«01_k».proof.Proof.Gen.AdamConvWRefIdeal.Run
public import proofs.«01_k».proof.Proof.Gen.AdamQkv
public import proofs.«01_k».proof.Proof.Gen.AdamQkv.Skeleton
public import proofs.«01_k».proof.Proof.Gen.AdamQkv.Launch
public import proofs.«01_k».proof.Proof.Gen.AdamQkv.Points
public import proofs.«01_k».proof.Proof.Gen.AdamQkv.Frame
public import proofs.«01_k».proof.Proof.Gen.AdamQkvIdeal
public import proofs.«01_k».proof.Proof.Gen.AdamQkvIdeal.Skeleton
public import proofs.«01_k».proof.Proof.Gen.AdamQkvIdeal.Launch
public import proofs.«01_k».proof.Proof.Gen.AdamQkvIdeal.Points
public import proofs.«01_k».proof.Proof.Gen.AdamQkvIdeal.Frame
public import proofs.«01_k».proof.Proof.Gen.AdamQkvRefIdeal
public import proofs.«01_k».proof.Proof.Gen.AdamQkvRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolRefIdeal
public import proofs.«01_k».proof.Proof.Gen.AdamPoolRefIdeal.Run
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnRefIdeal
public import proofs.«01_k».proof.Proof.Gen.AdamFfnRefIdeal.Run
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateRefIdeal
public import proofs.«01_k».proof.Proof.Gen.AdamGateRefIdeal.Run
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjRefIdeal
public import proofs.«01_k».proof.Proof.Gen.AdamProjRefIdeal.Run
public import proofs.«01_k».proof.Proof.Gen.AdamConvIn
public import proofs.«01_k».proof.Proof.Gen.AdamConvIn.Skeleton
public import proofs.«01_k».proof.Proof.Gen.AdamConvIn.Launch
public import proofs.«01_k».proof.Proof.Gen.AdamConvIn.Points
public import proofs.«01_k».proof.Proof.Gen.AdamConvIn.Frame
public import proofs.«01_k».proof.Proof.Gen.AdamConvInIdeal
public import proofs.«01_k».proof.Proof.Gen.AdamConvInIdeal.Skeleton
public import proofs.«01_k».proof.Proof.Gen.AdamConvInIdeal.Launch
public import proofs.«01_k».proof.Proof.Gen.AdamConvInIdeal.Points
public import proofs.«01_k».proof.Proof.Gen.AdamConvInIdeal.Frame
public import proofs.«01_k».proof.Proof.Gen.AdamConvInRefIdeal
public import proofs.«01_k».proof.Proof.Gen.AdamConvInRefIdeal.Run
public import proofs.«01_k».proof.Proof.Gen.AdamConvOut
public import proofs.«01_k».proof.Proof.Gen.AdamConvOut.Skeleton
public import proofs.«01_k».proof.Proof.Gen.AdamConvOut.Launch
public import proofs.«01_k».proof.Proof.Gen.AdamConvOut.Points
public import proofs.«01_k».proof.Proof.Gen.AdamConvOut.Frame
public import proofs.«01_k».proof.Proof.Gen.AdamConvOutIdeal
public import proofs.«01_k».proof.Proof.Gen.AdamConvOutIdeal.Skeleton
public import proofs.«01_k».proof.Proof.Gen.AdamConvOutIdeal.Launch
public import proofs.«01_k».proof.Proof.Gen.AdamConvOutIdeal.Points
public import proofs.«01_k».proof.Proof.Gen.AdamConvOutIdeal.Frame
public import proofs.«01_k».proof.Proof.Gen.AdamConvOutRefIdeal
public import proofs.«01_k».proof.Proof.Gen.AdamConvOutRefIdeal.Run
public import proofs.«01_k».proof.Proof.Gen.Pre_finite_hidden
public import proofs.«01_k».proof.Proof.Gen.Pre_finite_dx
public import proofs.«01_k».proof.Proof.Gen.Pre_finite_res
public import proofs.«01_k».proof.Proof.Gen.Pre_finite_conv
public import proofs.«01_k».proof.Proof.Gen.Pre_bucketed
public import proofs.«01_k».proof.Proof.Gen.Pre_bucketed_table
public import proofs.«01_k».proof.Proof.Hidden
public import proofs.«01_k».proof.Proof.Rows
public import proofs.«01_k».proof.Proof.Mm
public import proofs.«01_k».proof.Proof.MmAdd
public import proofs.«01_k».proof.Proof.Up
public import proofs.«01_k».proof.Proof.Dx
public import proofs.«01_k».proof.Proof.Gate
public import proofs.«01_k».proof.Proof.GradW
public import proofs.«01_k».proof.Proof.Res
public import proofs.«01_k».proof.Proof.ResIn
public import proofs.«01_k».proof.Proof.Loss
public import proofs.«01_k».proof.Proof.PoolOut
public import proofs.«01_k».proof.Proof.GateBwd
public import proofs.«01_k».proof.Proof.ConvOut
public import proofs.«01_k».proof.Proof.PoolFwd
public import proofs.«01_k».proof.Proof.FfnRes
public import proofs.«01_k».proof.Proof.AttnRes
public import proofs.«01_k».proof.Proof.ConvRes
public import proofs.«01_k».proof.Proof.ConvIn
public import proofs.«01_k».proof.Proof.AttnDx
public import proofs.«01_k».proof.Proof.Qkv
public import proofs.«01_k».proof.Proof.PleProj
public import proofs.«01_k».proof.Proof.RmsIn
public import proofs.«01_k».proof.Proof.BiasGrad
public import proofs.«01_k».proof.Proof.Bias
public import proofs.«01_k».proof.Proof.PoolW
public import proofs.«01_k».proof.Proof.AdamNorm
public import proofs.«01_k».proof.Proof.AdamVec
public import proofs.«01_k».proof.Proof.AdamHead
public import proofs.«01_k».proof.Proof.AdamScale
public import proofs.«01_k».proof.Proof.AdamSink
public import proofs.«01_k».proof.Proof.AdamBias
public import proofs.«01_k».proof.Proof.AdamConvB
public import proofs.«01_k».proof.Proof.AdamConvW
public import proofs.«01_k».proof.Proof.AdamQkv
public import proofs.«01_k».proof.Proof.AdamOut
public import proofs.«01_k».proof.Proof.AdamPool
public import proofs.«01_k».proof.Proof.AdamFfn
public import proofs.«01_k».proof.Proof.AdamGate
public import proofs.«01_k».proof.Proof.AdamProj
public import proofs.«01_k».proof.Proof.AdamConvIn
public import proofs.«01_k».proof.Proof.AdamConvOut
public import Idealize.ShloMosaic.Adequacy
public import Idealize.ShloMosaic.Init

@[expose] public section

noncomputable section

namespace Cert.Proof

open Idealize.ShloMosaic Idealize.SL.Sem

/-- The plain computation `HiddenRef` runs to its end and leaves its arguments. -/
theorem HiddenRefFrame : ∀ (m : (ℓ : Loc Cert.HiddenRefIdeal.nD Cert.HiddenRefIdeal.τ Cert.HiddenRefIdeal.sig) → Buf (Elt Ideal) ℓ) (g : Dev Cert.HiddenRefIdeal.nD → PrngReg), θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0) :=
  fun m ρ => (θ_run Cert.HiddenRefIdeal.defs _ _).mono (fun r h => ⟨fun c => (h c).2.2, Idealize.ShloMosaic.sem_eq_zero_of_no_sems (by decide) r.2⟩) (Cert.HiddenRefIdeal.Value.run (F := Ideal) m ρ)

/-- The plain computation `RowsRef` runs to its end and leaves its arguments. -/
theorem RowsRefFrame : ∀ (m : (ℓ : Loc Cert.RowsRefIdeal.nD Cert.RowsRefIdeal.τ Cert.RowsRefIdeal.sig) → Buf (Elt Ideal) ℓ) (g : Dev Cert.RowsRefIdeal.nD → PrngReg), θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0) :=
  fun m ρ => (θ_run Cert.RowsRefIdeal.defs _ _).mono (fun r h => ⟨fun c => (h c).2, Idealize.ShloMosaic.sem_eq_zero_of_no_sems (by decide) r.2⟩) (Cert.RowsRefIdeal.Value.run (F := Ideal) m ρ)

/-- The plain computation `MmRef` runs to its end and leaves its arguments. -/
theorem MmRefFrame : ∀ (m : (ℓ : Loc Cert.MmRefIdeal.nD Cert.MmRefIdeal.τ Cert.MmRefIdeal.sig) → Buf (Elt Ideal) ℓ) (g : Dev Cert.MmRefIdeal.nD → PrngReg), θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0) :=
  fun m ρ => (θ_run Cert.MmRefIdeal.defs _ _).mono (fun r h => ⟨fun c => (h c).2, Idealize.ShloMosaic.sem_eq_zero_of_no_sems (by decide) r.2⟩) (Cert.MmRefIdeal.Value.run (F := Ideal) m ρ)

/-- The plain computation `MmAddRef` runs to its end and leaves its arguments. -/
theorem MmAddRefFrame : ∀ (m : (ℓ : Loc Cert.MmAddRefIdeal.nD Cert.MmAddRefIdeal.τ Cert.MmAddRefIdeal.sig) → Buf (Elt Ideal) ℓ) (g : Dev Cert.MmAddRefIdeal.nD → PrngReg), θ_run (Cert.MmAddRefIdeal.defs (F := Ideal)) (onTc (τ := Cert.MmAddRefIdeal.τ) (Cert.MmAddRefIdeal.main (F := Ideal))) ⟨m, fun _ => 0, g⟩ (fun r => (∀ c : Dev Cert.MmAddRefIdeal.nD,
      r.2.mem ((c.tc : Thread Cert.MmAddRefIdeal.nD Cert.MmAddRefIdeal.τ).loc Cert.MmAddRefIdeal.main_arg0) = m ((c.tc : Thread Cert.MmAddRefIdeal.nD Cert.MmAddRefIdeal.τ).loc Cert.MmAddRefIdeal.main_arg0)
      ∧ r.2.mem ((c.tc : Thread Cert.MmAddRefIdeal.nD Cert.MmAddRefIdeal.τ).loc Cert.MmAddRefIdeal.main_arg1) = m ((c.tc : Thread Cert.MmAddRefIdeal.nD Cert.MmAddRefIdeal.τ).loc Cert.MmAddRefIdeal.main_arg1)
      ∧ r.2.mem ((c.tc : Thread Cert.MmAddRefIdeal.nD Cert.MmAddRefIdeal.τ).loc Cert.MmAddRefIdeal.main_arg2) = m ((c.tc : Thread Cert.MmAddRefIdeal.nD Cert.MmAddRefIdeal.τ).loc Cert.MmAddRefIdeal.main_arg2))
      ∧ r.2.sem = fun _ => 0) :=
  fun m ρ => (θ_run Cert.MmAddRefIdeal.defs _ _).mono (fun r h => ⟨fun c => (h c).2, Idealize.ShloMosaic.sem_eq_zero_of_no_sems (by decide) r.2⟩) (Cert.MmAddRefIdeal.Value.run (F := Ideal) m ρ)

/-- The plain computation `UpRef` runs to its end and leaves its arguments. -/
theorem UpRefFrame : ∀ (m : (ℓ : Loc Cert.UpRefIdeal.nD Cert.UpRefIdeal.τ Cert.UpRefIdeal.sig) → Buf (Elt Ideal) ℓ) (g : Dev Cert.UpRefIdeal.nD → PrngReg), θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0) :=
  fun m ρ => (θ_run Cert.UpRefIdeal.defs _ _).mono (fun r h => ⟨fun c => (h c).2.2.2, Idealize.ShloMosaic.sem_eq_zero_of_no_sems (by decide) r.2⟩) (Cert.UpRefIdeal.Value.run (F := Ideal) m ρ)

/-- The plain computation `DxRef` runs to its end and leaves its arguments. -/
theorem DxRefFrame : ∀ (m : (ℓ : Loc Cert.DxRefIdeal.nD Cert.DxRefIdeal.τ Cert.DxRefIdeal.sig) → Buf (Elt Ideal) ℓ) (g : Dev Cert.DxRefIdeal.nD → PrngReg), θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0) :=
  fun m ρ => (θ_run Cert.DxRefIdeal.defs _ _).mono (fun r h => ⟨fun c => (h c).2.2.2, Idealize.ShloMosaic.sem_eq_zero_of_no_sems (by decide) r.2⟩) (Cert.DxRefIdeal.Value.run (F := Ideal) m ρ)

/-- The plain computation `GateRef` runs to its end and leaves its arguments. -/
theorem GateRefFrame : ∀ (m : (ℓ : Loc Cert.GateRefIdeal.nD Cert.GateRefIdeal.τ Cert.GateRefIdeal.sig) → Buf (Elt Ideal) ℓ) (g : Dev Cert.GateRefIdeal.nD → PrngReg), θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0) :=
  fun m ρ => (θ_run Cert.GateRefIdeal.defs _ _).mono (fun r h => ⟨fun c => (h c).2.2.2, Idealize.ShloMosaic.sem_eq_zero_of_no_sems (by decide) r.2⟩) (Cert.GateRefIdeal.Value.run (F := Ideal) m ρ)

/-- The plain computation `GradWRef` runs to its end and leaves its arguments. -/
theorem GradWRefFrame : ∀ (m : (ℓ : Loc Cert.GradWRefIdeal.nD Cert.GradWRefIdeal.τ Cert.GradWRefIdeal.sig) → Buf (Elt Ideal) ℓ) (g : Dev Cert.GradWRefIdeal.nD → PrngReg), θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0) :=
  fun m ρ => (θ_run Cert.GradWRefIdeal.defs _ _).mono (fun r h => ⟨fun c => (h c).2, Idealize.ShloMosaic.sem_eq_zero_of_no_sems (by decide) r.2⟩) (Cert.GradWRefIdeal.Value.run (F := Ideal) m ρ)

/-- The plain computation `ResRef` runs to its end and leaves its arguments. -/
theorem ResRefFrame : ∀ (m : (ℓ : Loc Cert.ResRefIdeal.nD Cert.ResRefIdeal.τ Cert.ResRefIdeal.sig) → Buf (Elt Ideal) ℓ) (g : Dev Cert.ResRefIdeal.nD → PrngReg), θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0) :=
  fun m ρ => (θ_run Cert.ResRefIdeal.defs _ _).mono (fun r h => ⟨fun c => (h c).2.2.2.2, Idealize.ShloMosaic.sem_eq_zero_of_no_sems (by decide) r.2⟩) (Cert.ResRefIdeal.Value.run (F := Ideal) m ρ)

/-- The plain computation `ResInRef` runs to its end and leaves its arguments. -/
theorem ResInRefFrame : ∀ (m : (ℓ : Loc Cert.ResInRefIdeal.nD Cert.ResInRefIdeal.τ Cert.ResInRefIdeal.sig) → Buf (Elt Ideal) ℓ) (g : Dev Cert.ResInRefIdeal.nD → PrngReg), θ_run (Cert.ResInRefIdeal.defs (F := Ideal)) (onTc (τ := Cert.ResInRefIdeal.τ) (Cert.ResInRefIdeal.main (F := Ideal))) ⟨m, fun _ => 0, g⟩ (fun r => (∀ c : Dev Cert.ResInRefIdeal.nD,
      r.2.mem ((c.tc : Thread Cert.ResInRefIdeal.nD Cert.ResInRefIdeal.τ).loc Cert.ResInRefIdeal.main_arg0) = m ((c.tc : Thread Cert.ResInRefIdeal.nD Cert.ResInRefIdeal.τ).loc Cert.ResInRefIdeal.main_arg0)
      ∧ r.2.mem ((c.tc : Thread Cert.ResInRefIdeal.nD Cert.ResInRefIdeal.τ).loc Cert.ResInRefIdeal.main_arg1) = m ((c.tc : Thread Cert.ResInRefIdeal.nD Cert.ResInRefIdeal.τ).loc Cert.ResInRefIdeal.main_arg1)
      ∧ r.2.mem ((c.tc : Thread Cert.ResInRefIdeal.nD Cert.ResInRefIdeal.τ).loc Cert.ResInRefIdeal.main_arg2) = m ((c.tc : Thread Cert.ResInRefIdeal.nD Cert.ResInRefIdeal.τ).loc Cert.ResInRefIdeal.main_arg2)
      ∧ r.2.mem ((c.tc : Thread Cert.ResInRefIdeal.nD Cert.ResInRefIdeal.τ).loc Cert.ResInRefIdeal.main_arg3) = m ((c.tc : Thread Cert.ResInRefIdeal.nD Cert.ResInRefIdeal.τ).loc Cert.ResInRefIdeal.main_arg3))
      ∧ r.2.sem = fun _ => 0) :=
  fun m ρ => (θ_run Cert.ResInRefIdeal.defs _ _).mono (fun r h => ⟨fun c => (h c).2.2.2, Idealize.ShloMosaic.sem_eq_zero_of_no_sems (by decide) r.2⟩) (Cert.ResInRefIdeal.Value.run (F := Ideal) m ρ)

/-- The plain computation `LossRef` runs to its end and leaves its arguments. -/
theorem LossRefFrame : ∀ (m : (ℓ : Loc Cert.LossRefIdeal.nD Cert.LossRefIdeal.τ Cert.LossRefIdeal.sig) → Buf (Elt Ideal) ℓ) (g : Dev Cert.LossRefIdeal.nD → PrngReg), θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0) :=
  fun m ρ => (θ_run Cert.LossRefIdeal.defs _ _).mono (fun r h => ⟨fun c => (h c).2.2.2, Idealize.ShloMosaic.sem_eq_zero_of_no_sems (by decide) r.2⟩) (Cert.LossRefIdeal.Value.run (F := Ideal) m ρ)

/-- The plain computation `PoolOutRef` runs to its end and leaves its arguments. -/
theorem PoolOutRefFrame : ∀ (m : (ℓ : Loc Cert.PoolOutRefIdeal.nD Cert.PoolOutRefIdeal.τ Cert.PoolOutRefIdeal.sig) → Buf (Elt Ideal) ℓ) (g : Dev Cert.PoolOutRefIdeal.nD → PrngReg), θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1)
      ∧ r.2.mem ((c.tc : Thread Cert.PoolOutRefIdeal.nD Cert.PoolOutRefIdeal.τ).loc Cert.PoolOutRefIdeal.main_arg2) = m ((c.tc : Thread Cert.PoolOutRefIdeal.nD Cert.PoolOutRefIdeal.τ).loc Cert.PoolOutRefIdeal.main_arg2)
      ∧ r.2.mem ((c.tc : Thread Cert.PoolOutRefIdeal.nD Cert.PoolOutRefIdeal.τ).loc Cert.PoolOutRefIdeal.main_arg3) = m ((c.tc : Thread Cert.PoolOutRefIdeal.nD Cert.PoolOutRefIdeal.τ).loc Cert.PoolOutRefIdeal.main_arg3))
      ∧ r.2.sem = fun _ => 0) :=
  fun m ρ => (θ_run Cert.PoolOutRefIdeal.defs _ _).mono (fun r h => ⟨fun c => (h c).2.2.2, Idealize.ShloMosaic.sem_eq_zero_of_no_sems (by decide) r.2⟩) (Cert.PoolOutRefIdeal.Value.run (F := Ideal) m ρ)

/-- The plain computation `GateBwdRef` runs to its end and leaves its arguments. -/
theorem GateBwdRefFrame : ∀ (m : (ℓ : Loc Cert.GateBwdRefIdeal.nD Cert.GateBwdRefIdeal.τ Cert.GateBwdRefIdeal.sig) → Buf (Elt Ideal) ℓ) (g : Dev Cert.GateBwdRefIdeal.nD → PrngReg), θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0) :=
  fun m ρ => (θ_run Cert.GateBwdRefIdeal.defs _ _).mono (fun r h => ⟨fun c => (h c).2.2.2, Idealize.ShloMosaic.sem_eq_zero_of_no_sems (by decide) r.2⟩) (Cert.GateBwdRefIdeal.Value.run (F := Ideal) m ρ)

/-- The plain computation `ConvOutRef` runs to its end and leaves its arguments. -/
theorem ConvOutRefFrame : ∀ (m : (ℓ : Loc Cert.ConvOutRefIdeal.nD Cert.ConvOutRefIdeal.τ Cert.ConvOutRefIdeal.sig) → Buf (Elt Ideal) ℓ) (g : Dev Cert.ConvOutRefIdeal.nD → PrngReg), θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4))
      ∧ r.2.sem = fun _ => 0) :=
  fun m ρ => (θ_run Cert.ConvOutRefIdeal.defs _ _).mono (fun r h => ⟨fun c => (h c).2.2.2.2, Idealize.ShloMosaic.sem_eq_zero_of_no_sems (by decide) r.2⟩) (Cert.ConvOutRefIdeal.Value.run (F := Ideal) m ρ)

/-- The plain computation `PoolFwdRef` runs to its end and leaves its arguments. -/
theorem PoolFwdRefFrame : ∀ (m : (ℓ : Loc Cert.PoolFwdRefIdeal.nD Cert.PoolFwdRefIdeal.τ Cert.PoolFwdRefIdeal.sig) → Buf (Elt Ideal) ℓ) (g : Dev Cert.PoolFwdRefIdeal.nD → PrngReg), θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3)
      ∧ r.2.mem ((c.tc : Thread Cert.PoolFwdRefIdeal.nD Cert.PoolFwdRefIdeal.τ).loc Cert.PoolFwdRefIdeal.main_arg4) = m ((c.tc : Thread Cert.PoolFwdRefIdeal.nD Cert.PoolFwdRefIdeal.τ).loc Cert.PoolFwdRefIdeal.main_arg4))
      ∧ r.2.sem = fun _ => 0) :=
  fun m ρ => (θ_run Cert.PoolFwdRefIdeal.defs _ _).mono (fun r h => ⟨fun c => (h c).2.2.2, Idealize.ShloMosaic.sem_eq_zero_of_no_sems (by decide) r.2⟩) (Cert.PoolFwdRefIdeal.Value.run (F := Ideal) m ρ)

/-- The plain computation `FfnResRef` runs to its end and leaves its arguments. -/
theorem FfnResRefFrame : ∀ (m : (ℓ : Loc Cert.FfnResRefIdeal.nD Cert.FfnResRefIdeal.τ Cert.FfnResRefIdeal.sig) → Buf (Elt Ideal) ℓ) (g : Dev Cert.FfnResRefIdeal.nD → PrngReg), θ_run (Cert.FfnResRefIdeal.defs (F := Ideal)) (onTc (τ := Cert.FfnResRefIdeal.τ) (Cert.FfnResRefIdeal.main (F := Ideal))) ⟨m, fun _ => 0, g⟩ (fun r => (∀ c : Dev Cert.FfnResRefIdeal.nD,
      r.2.mem ((c.tc : Thread Cert.FfnResRefIdeal.nD Cert.FfnResRefIdeal.τ).loc Cert.FfnResRefIdeal.main_arg0) = m ((c.tc : Thread Cert.FfnResRefIdeal.nD Cert.FfnResRefIdeal.τ).loc Cert.FfnResRefIdeal.main_arg0)
      ∧ r.2.mem ((c.tc : Thread Cert.FfnResRefIdeal.nD Cert.FfnResRefIdeal.τ).loc Cert.FfnResRefIdeal.main_arg1) = m ((c.tc : Thread Cert.FfnResRefIdeal.nD Cert.FfnResRefIdeal.τ).loc Cert.FfnResRefIdeal.main_arg1)
      ∧ r.2.mem ((c.tc : Thread Cert.FfnResRefIdeal.nD Cert.FfnResRefIdeal.τ).loc Cert.FfnResRefIdeal.main_arg2) = m ((c.tc : Thread Cert.FfnResRefIdeal.nD Cert.FfnResRefIdeal.τ).loc Cert.FfnResRefIdeal.main_arg2))
      ∧ r.2.sem = fun _ => 0) :=
  fun m ρ => (θ_run Cert.FfnResRefIdeal.defs _ _).mono (fun r h => ⟨fun c => (h c).2.2, Idealize.ShloMosaic.sem_eq_zero_of_no_sems (by decide) r.2⟩) (Cert.FfnResRefIdeal.Value.run (F := Ideal) m ρ)

/-- The plain computation `AttnResRef` runs to its end and leaves its arguments. -/
theorem AttnResRefFrame : ∀ (m : (ℓ : Loc Cert.AttnResRefIdeal.nD Cert.AttnResRefIdeal.τ Cert.AttnResRefIdeal.sig) → Buf (Elt Ideal) ℓ) (g : Dev Cert.AttnResRefIdeal.nD → PrngReg), θ_run (Cert.AttnResRefIdeal.defs (F := Ideal)) (onTc (τ := Cert.AttnResRefIdeal.τ) (Cert.AttnResRefIdeal.main (F := Ideal))) ⟨m, fun _ => 0, g⟩ (fun r => (∀ c : Dev Cert.AttnResRefIdeal.nD,
      r.2.mem ((c.tc : Thread Cert.AttnResRefIdeal.nD Cert.AttnResRefIdeal.τ).loc Cert.AttnResRefIdeal.main_arg0) = m ((c.tc : Thread Cert.AttnResRefIdeal.nD Cert.AttnResRefIdeal.τ).loc Cert.AttnResRefIdeal.main_arg0)
      ∧ r.2.mem ((c.tc : Thread Cert.AttnResRefIdeal.nD Cert.AttnResRefIdeal.τ).loc Cert.AttnResRefIdeal.main_arg1) = m ((c.tc : Thread Cert.AttnResRefIdeal.nD Cert.AttnResRefIdeal.τ).loc Cert.AttnResRefIdeal.main_arg1)
      ∧ r.2.mem ((c.tc : Thread Cert.AttnResRefIdeal.nD Cert.AttnResRefIdeal.τ).loc Cert.AttnResRefIdeal.main_arg2) = m ((c.tc : Thread Cert.AttnResRefIdeal.nD Cert.AttnResRefIdeal.τ).loc Cert.AttnResRefIdeal.main_arg2)
      ∧ r.2.mem ((c.tc : Thread Cert.AttnResRefIdeal.nD Cert.AttnResRefIdeal.τ).loc Cert.AttnResRefIdeal.main_arg3) = m ((c.tc : Thread Cert.AttnResRefIdeal.nD Cert.AttnResRefIdeal.τ).loc Cert.AttnResRefIdeal.main_arg3))
      ∧ r.2.sem = fun _ => 0) :=
  fun m ρ => (θ_run Cert.AttnResRefIdeal.defs _ _).mono (fun r h => ⟨fun c => (h c).2.2, Idealize.ShloMosaic.sem_eq_zero_of_no_sems (by decide) r.2⟩) (Cert.AttnResRefIdeal.Value.run (F := Ideal) m ρ)

/-- The plain computation `ConvResRef` runs to its end and leaves its arguments. -/
theorem ConvResRefFrame : ∀ (m : (ℓ : Loc Cert.ConvResRefIdeal.nD Cert.ConvResRefIdeal.τ Cert.ConvResRefIdeal.sig) → Buf (Elt Ideal) ℓ) (g : Dev Cert.ConvResRefIdeal.nD → PrngReg), θ_run (Cert.ConvResRefIdeal.defs (F := Ideal)) (onTc (τ := Cert.ConvResRefIdeal.τ) (Cert.ConvResRefIdeal.main (F := Ideal))) ⟨m, fun _ => 0, g⟩ (fun r => (∀ c : Dev Cert.ConvResRefIdeal.nD,
      r.2.mem ((c.tc : Thread Cert.ConvResRefIdeal.nD Cert.ConvResRefIdeal.τ).loc Cert.ConvResRefIdeal.main_arg0) = m ((c.tc : Thread Cert.ConvResRefIdeal.nD Cert.ConvResRefIdeal.τ).loc Cert.ConvResRefIdeal.main_arg0)
      ∧ r.2.mem ((c.tc : Thread Cert.ConvResRefIdeal.nD Cert.ConvResRefIdeal.τ).loc Cert.ConvResRefIdeal.main_arg1) = m ((c.tc : Thread Cert.ConvResRefIdeal.nD Cert.ConvResRefIdeal.τ).loc Cert.ConvResRefIdeal.main_arg1)
      ∧ r.2.mem ((c.tc : Thread Cert.ConvResRefIdeal.nD Cert.ConvResRefIdeal.τ).loc Cert.ConvResRefIdeal.main_arg2) = m ((c.tc : Thread Cert.ConvResRefIdeal.nD Cert.ConvResRefIdeal.τ).loc Cert.ConvResRefIdeal.main_arg2)
      ∧ r.2.mem ((c.tc : Thread Cert.ConvResRefIdeal.nD Cert.ConvResRefIdeal.τ).loc Cert.ConvResRefIdeal.main_arg3) = m ((c.tc : Thread Cert.ConvResRefIdeal.nD Cert.ConvResRefIdeal.τ).loc Cert.ConvResRefIdeal.main_arg3)
      ∧ r.2.mem ((c.tc : Thread Cert.ConvResRefIdeal.nD Cert.ConvResRefIdeal.τ).loc Cert.ConvResRefIdeal.main_arg4) = m ((c.tc : Thread Cert.ConvResRefIdeal.nD Cert.ConvResRefIdeal.τ).loc Cert.ConvResRefIdeal.main_arg4))
      ∧ r.2.sem = fun _ => 0) :=
  fun m ρ => (θ_run Cert.ConvResRefIdeal.defs _ _).mono (fun r h => ⟨fun c => (h c).2.2, Idealize.ShloMosaic.sem_eq_zero_of_no_sems (by decide) r.2⟩) (Cert.ConvResRefIdeal.Value.run (F := Ideal) m ρ)

/-- The plain computation `ConvInRef` runs to its end and leaves its arguments. -/
theorem ConvInRefFrame : ∀ (m : (ℓ : Loc Cert.ConvInRefIdeal.nD Cert.ConvInRefIdeal.τ Cert.ConvInRefIdeal.sig) → Buf (Elt Ideal) ℓ) (g : Dev Cert.ConvInRefIdeal.nD → PrngReg), θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0) :=
  fun m ρ => (θ_run Cert.ConvInRefIdeal.defs _ _).mono (fun r h => ⟨fun c => (h c).2.2.2, Idealize.ShloMosaic.sem_eq_zero_of_no_sems (by decide) r.2⟩) (Cert.ConvInRefIdeal.Value.run (F := Ideal) m ρ)

/-- The plain computation `AttnDxRef` runs to its end and leaves its arguments. -/
theorem AttnDxRefFrame : ∀ (m : (ℓ : Loc Cert.AttnDxRefIdeal.nD Cert.AttnDxRefIdeal.τ Cert.AttnDxRefIdeal.sig) → Buf (Elt Ideal) ℓ) (g : Dev Cert.AttnDxRefIdeal.nD → PrngReg), θ_run (Cert.AttnDxRefIdeal.defs (F := Ideal)) (onTc (τ := Cert.AttnDxRefIdeal.τ) (Cert.AttnDxRefIdeal.main (F := Ideal))) ⟨m, fun _ => 0, g⟩ (fun r => (∀ c : Dev Cert.AttnDxRefIdeal.nD,
      r.2.mem ((c.tc : Thread Cert.AttnDxRefIdeal.nD Cert.AttnDxRefIdeal.τ).loc Cert.AttnDxRefIdeal.main_arg0) = m ((c.tc : Thread Cert.AttnDxRefIdeal.nD Cert.AttnDxRefIdeal.τ).loc Cert.AttnDxRefIdeal.main_arg0)
      ∧ r.2.mem ((c.tc : Thread Cert.AttnDxRefIdeal.nD Cert.AttnDxRefIdeal.τ).loc Cert.AttnDxRefIdeal.main_arg1) = m ((c.tc : Thread Cert.AttnDxRefIdeal.nD Cert.AttnDxRefIdeal.τ).loc Cert.AttnDxRefIdeal.main_arg1))
      ∧ r.2.sem = fun _ => 0) :=
  fun m ρ => (θ_run Cert.AttnDxRefIdeal.defs _ _).mono (fun r h => ⟨fun c => (h c).2, Idealize.ShloMosaic.sem_eq_zero_of_no_sems (by decide) r.2⟩) (Cert.AttnDxRefIdeal.Value.run (F := Ideal) m ρ)

/-- The plain computation `QkvRef` runs to its end and leaves its arguments. -/
theorem QkvRefFrame : ∀ (m : (ℓ : Loc Cert.QkvRefIdeal.nD Cert.QkvRefIdeal.τ Cert.QkvRefIdeal.sig) → Buf (Elt Ideal) ℓ) (g : Dev Cert.QkvRefIdeal.nD → PrngReg), θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0) :=
  fun m ρ => (θ_run Cert.QkvRefIdeal.defs _ _).mono (fun r h => ⟨fun c => (h c).2, Idealize.ShloMosaic.sem_eq_zero_of_no_sems (by decide) r.2⟩) (Cert.QkvRefIdeal.Value.run (F := Ideal) m ρ)

/-- The plain computation `PleProjRef` runs to its end and leaves its arguments. -/
theorem PleProjRefFrame : ∀ (m : (ℓ : Loc Cert.PleProjRefIdeal.nD Cert.PleProjRefIdeal.τ Cert.PleProjRefIdeal.sig) → Buf (Elt Ideal) ℓ) (g : Dev Cert.PleProjRefIdeal.nD → PrngReg), θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0) :=
  fun m ρ => (θ_run Cert.PleProjRefIdeal.defs _ _).mono (fun r h => ⟨fun c => (h c).2, Idealize.ShloMosaic.sem_eq_zero_of_no_sems (by decide) r.2⟩) (Cert.PleProjRefIdeal.Value.run (F := Ideal) m ρ)

/-- The plain computation `RmsInRef` runs to its end and leaves its arguments. -/
theorem RmsInRefFrame : ∀ (m : (ℓ : Loc Cert.RmsInRefIdeal.nD Cert.RmsInRefIdeal.τ Cert.RmsInRefIdeal.sig) → Buf (Elt Ideal) ℓ) (g : Dev Cert.RmsInRefIdeal.nD → PrngReg), θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1))
      ∧ r.2.sem = fun _ => 0) :=
  fun m ρ => (θ_run Cert.RmsInRefIdeal.defs _ _).mono (fun r h => ⟨fun c => (h c).2, Idealize.ShloMosaic.sem_eq_zero_of_no_sems (by decide) r.2⟩) (Cert.RmsInRefIdeal.Value.run (F := Ideal) m ρ)

/-- The plain computation `BiasGradRef` runs to its end and leaves its arguments. -/
theorem BiasGradRefFrame : ∀ (m : (ℓ : Loc Cert.BiasGradRefIdeal.nD Cert.BiasGradRefIdeal.τ Cert.BiasGradRefIdeal.sig) → Buf (Elt Ideal) ℓ) (g : Dev Cert.BiasGradRefIdeal.nD → PrngReg), θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0) :=
  fun m ρ => (θ_run Cert.BiasGradRefIdeal.defs _ _).mono (fun r h => ⟨fun c => (h c).2, Idealize.ShloMosaic.sem_eq_zero_of_no_sems (by decide) r.2⟩) (Cert.BiasGradRefIdeal.Value.run (F := Ideal) m ρ)

/-- The plain computation `BiasRef` runs to its end and leaves its arguments. -/
theorem BiasRefFrame : ∀ (m : (ℓ : Loc Cert.BiasRefIdeal.nD Cert.BiasRefIdeal.τ Cert.BiasRefIdeal.sig) → Buf (Elt Ideal) ℓ) (g : Dev Cert.BiasRefIdeal.nD → PrngReg), θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1))
      ∧ r.2.sem = fun _ => 0) :=
  fun m ρ => (θ_run Cert.BiasRefIdeal.defs _ _).mono (fun r h => ⟨fun c => (h c).2, Idealize.ShloMosaic.sem_eq_zero_of_no_sems (by decide) r.2⟩) (Cert.BiasRefIdeal.Value.run (F := Ideal) m ρ)

/-- The plain computation `PoolWRef` runs to its end and leaves its arguments. -/
theorem PoolWRefFrame : ∀ (m : (ℓ : Loc Cert.PoolWRefIdeal.nD Cert.PoolWRefIdeal.τ Cert.PoolWRefIdeal.sig) → Buf (Elt Ideal) ℓ) (g : Dev Cert.PoolWRefIdeal.nD → PrngReg), θ_run (Cert.PoolWRefIdeal.defs (F := Ideal)) (onTc (τ := Cert.PoolWRefIdeal.τ) (Cert.PoolWRefIdeal.main (F := Ideal))) ⟨m, fun _ => 0, g⟩ (fun r => (∀ c : Dev Cert.PoolWRefIdeal.nD,
      r.2.mem ((c.tc : Thread Cert.PoolWRefIdeal.nD Cert.PoolWRefIdeal.τ).loc Cert.PoolWRefIdeal.main_arg0) = m ((c.tc : Thread Cert.PoolWRefIdeal.nD Cert.PoolWRefIdeal.τ).loc Cert.PoolWRefIdeal.main_arg0)
      ∧ r.2.mem ((c.tc : Thread Cert.PoolWRefIdeal.nD Cert.PoolWRefIdeal.τ).loc Cert.PoolWRefIdeal.main_arg1) = m ((c.tc : Thread Cert.PoolWRefIdeal.nD Cert.PoolWRefIdeal.τ).loc Cert.PoolWRefIdeal.main_arg1))
      ∧ r.2.sem = fun _ => 0) :=
  fun m ρ => (θ_run Cert.PoolWRefIdeal.defs _ _).mono (fun r h => ⟨fun c => (h c).2, Idealize.ShloMosaic.sem_eq_zero_of_no_sems (by decide) r.2⟩) (Cert.PoolWRefIdeal.Value.run (F := Ideal) m ρ)

/-- The plain computation `AdamNormRef` runs to its end and leaves its arguments. -/
theorem AdamNormRefFrame : ∀ (m : (ℓ : Loc Cert.AdamNormRefIdeal.nD Cert.AdamNormRefIdeal.τ Cert.AdamNormRefIdeal.sig) → Buf (Elt Ideal) ℓ) (g : Dev Cert.AdamNormRefIdeal.nD → PrngReg), θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0) :=
  fun m ρ => (θ_run Cert.AdamNormRefIdeal.defs _ _).mono (fun r h => ⟨fun c => (h c).2.2.2.2, Idealize.ShloMosaic.sem_eq_zero_of_no_sems (by decide) r.2⟩) (Cert.AdamNormRefIdeal.Value.run (F := Ideal) m ρ)

/-- The plain computation `AdamVecRef` runs to its end and leaves its arguments. -/
theorem AdamVecRefFrame : ∀ (m : (ℓ : Loc Cert.AdamVecRefIdeal.nD Cert.AdamVecRefIdeal.τ Cert.AdamVecRefIdeal.sig) → Buf (Elt Ideal) ℓ) (g : Dev Cert.AdamVecRefIdeal.nD → PrngReg), θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0) :=
  fun m ρ => (θ_run Cert.AdamVecRefIdeal.defs _ _).mono (fun r h => ⟨fun c => (h c).2.2.2.2, Idealize.ShloMosaic.sem_eq_zero_of_no_sems (by decide) r.2⟩) (Cert.AdamVecRefIdeal.Value.run (F := Ideal) m ρ)

/-- The plain computation `AdamHeadRef` runs to its end and leaves its arguments. -/
theorem AdamHeadRefFrame : ∀ (m : (ℓ : Loc Cert.AdamHeadRefIdeal.nD Cert.AdamHeadRefIdeal.τ Cert.AdamHeadRefIdeal.sig) → Buf (Elt Ideal) ℓ) (g : Dev Cert.AdamHeadRefIdeal.nD → PrngReg), θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0) :=
  fun m ρ => (θ_run Cert.AdamHeadRefIdeal.defs _ _).mono (fun r h => ⟨fun c => (h c).2.2.2.2, Idealize.ShloMosaic.sem_eq_zero_of_no_sems (by decide) r.2⟩) (Cert.AdamHeadRefIdeal.Value.run (F := Ideal) m ρ)

/-- The plain computation `AdamScaleRef` runs to its end and leaves its arguments. -/
theorem AdamScaleRefFrame : ∀ (m : (ℓ : Loc Cert.AdamScaleRefIdeal.nD Cert.AdamScaleRefIdeal.τ Cert.AdamScaleRefIdeal.sig) → Buf (Elt Ideal) ℓ) (g : Dev Cert.AdamScaleRefIdeal.nD → PrngReg), θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3))
      ∧ r.2.sem = fun _ => 0) :=
  fun m ρ => (θ_run Cert.AdamScaleRefIdeal.defs _ _).mono (fun r h => ⟨fun c => (h c).2.2.2.2, Idealize.ShloMosaic.sem_eq_zero_of_no_sems (by decide) r.2⟩) (Cert.AdamScaleRefIdeal.Value.run (F := Ideal) m ρ)

/-- The plain computation `AdamSinkRef` runs to its end and leaves its arguments. -/
theorem AdamSinkRefFrame : ∀ (m : (ℓ : Loc Cert.AdamSinkRefIdeal.nD Cert.AdamSinkRefIdeal.τ Cert.AdamSinkRefIdeal.sig) → Buf (Elt Ideal) ℓ) (g : Dev Cert.AdamSinkRefIdeal.nD → PrngReg), θ_run (Cert.AdamSinkRefIdeal.defs (F := Ideal)) (onTc (τ := Cert.AdamSinkRefIdeal.τ) (Cert.AdamSinkRefIdeal.main (F := Ideal))) ⟨m, fun _ => 0, g⟩ (fun r => (∀ c : Dev Cert.AdamSinkRefIdeal.nD,
      r.2.mem ((c.tc : Thread Cert.AdamSinkRefIdeal.nD Cert.AdamSinkRefIdeal.τ).loc Cert.AdamSinkRefIdeal.main_arg0) = m ((c.tc : Thread Cert.AdamSinkRefIdeal.nD Cert.AdamSinkRefIdeal.τ).loc Cert.AdamSinkRefIdeal.main_arg0)
      ∧ r.2.mem ((c.tc : Thread Cert.AdamSinkRefIdeal.nD Cert.AdamSinkRefIdeal.τ).loc Cert.AdamSinkRefIdeal.main_arg1) = m ((c.tc : Thread Cert.AdamSinkRefIdeal.nD Cert.AdamSinkRefIdeal.τ).loc Cert.AdamSinkRefIdeal.main_arg1)
      ∧ r.2.mem ((c.tc : Thread Cert.AdamSinkRefIdeal.nD Cert.AdamSinkRefIdeal.τ).loc Cert.AdamSinkRefIdeal.main_arg2) = m ((c.tc : Thread Cert.AdamSinkRefIdeal.nD Cert.AdamSinkRefIdeal.τ).loc Cert.AdamSinkRefIdeal.main_arg2)
      ∧ r.2.mem ((c.tc : Thread Cert.AdamSinkRefIdeal.nD Cert.AdamSinkRefIdeal.τ).loc Cert.AdamSinkRefIdeal.main_arg3) = m ((c.tc : Thread Cert.AdamSinkRefIdeal.nD Cert.AdamSinkRefIdeal.τ).loc Cert.AdamSinkRefIdeal.main_arg3))
      ∧ r.2.sem = fun _ => 0) :=
  fun m ρ => (θ_run Cert.AdamSinkRefIdeal.defs _ _).mono (fun r h => ⟨fun c => (h c).2.2.2.2, Idealize.ShloMosaic.sem_eq_zero_of_no_sems (by decide) r.2⟩) (Cert.AdamSinkRefIdeal.Value.run (F := Ideal) m ρ)

/-- The plain computation `AdamBiasRef` runs to its end and leaves its arguments. -/
theorem AdamBiasRefFrame : ∀ (m : (ℓ : Loc Cert.AdamBiasRefIdeal.nD Cert.AdamBiasRefIdeal.τ Cert.AdamBiasRefIdeal.sig) → Buf (Elt Ideal) ℓ) (g : Dev Cert.AdamBiasRefIdeal.nD → PrngReg), θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0) :=
  fun m ρ => (θ_run Cert.AdamBiasRefIdeal.defs _ _).mono (fun r h => ⟨fun c => (h c).2.2.2.2, Idealize.ShloMosaic.sem_eq_zero_of_no_sems (by decide) r.2⟩) (Cert.AdamBiasRefIdeal.Value.run (F := Ideal) m ρ)

/-- The plain computation `AdamConvBRef` runs to its end and leaves its arguments. -/
theorem AdamConvBRefFrame : ∀ (m : (ℓ : Loc Cert.AdamConvBRefIdeal.nD Cert.AdamConvBRefIdeal.τ Cert.AdamConvBRefIdeal.sig) → Buf (Elt Ideal) ℓ) (g : Dev Cert.AdamConvBRefIdeal.nD → PrngReg), θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0) :=
  fun m ρ => (θ_run Cert.AdamConvBRefIdeal.defs _ _).mono (fun r h => ⟨fun c => (h c).2.2.2.2, Idealize.ShloMosaic.sem_eq_zero_of_no_sems (by decide) r.2⟩) (Cert.AdamConvBRefIdeal.Value.run (F := Ideal) m ρ)

/-- The plain computation `AdamConvWRef` runs to its end and leaves its arguments. -/
theorem AdamConvWRefFrame : ∀ (m : (ℓ : Loc Cert.AdamConvWRefIdeal.nD Cert.AdamConvWRefIdeal.τ Cert.AdamConvWRefIdeal.sig) → Buf (Elt Ideal) ℓ) (g : Dev Cert.AdamConvWRefIdeal.nD → PrngReg), θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0) :=
  fun m ρ => (θ_run Cert.AdamConvWRefIdeal.defs _ _).mono (fun r h => ⟨fun c => (h c).2.2.2.2, Idealize.ShloMosaic.sem_eq_zero_of_no_sems (by decide) r.2⟩) (Cert.AdamConvWRefIdeal.Value.run (F := Ideal) m ρ)

/-- The plain computation `AdamQkvRef` runs to its end and leaves its arguments. -/
theorem AdamQkvRefFrame : ∀ (m : (ℓ : Loc Cert.AdamQkvRefIdeal.nD Cert.AdamQkvRefIdeal.τ Cert.AdamQkvRefIdeal.sig) → Buf (Elt Ideal) ℓ) (g : Dev Cert.AdamQkvRefIdeal.nD → PrngReg), θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0) :=
  fun m ρ => (θ_run Cert.AdamQkvRefIdeal.defs _ _).mono (fun r h => ⟨fun c => (h c).2.2.2.2, Idealize.ShloMosaic.sem_eq_zero_of_no_sems (by decide) r.2⟩) (Cert.AdamQkvRefIdeal.Value.run (F := Ideal) m ρ)

/-- The plain computation `AdamOutRef` runs to its end and leaves its arguments. -/
theorem AdamOutRefFrame : ∀ (m : (ℓ : Loc Cert.AdamOutRefIdeal.nD Cert.AdamOutRefIdeal.τ Cert.AdamOutRefIdeal.sig) → Buf (Elt Ideal) ℓ) (g : Dev Cert.AdamOutRefIdeal.nD → PrngReg), θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0) :=
  fun m ρ => (θ_run Cert.AdamOutRefIdeal.defs _ _).mono (fun r h => ⟨fun c => (h c).2.2.2.2, Idealize.ShloMosaic.sem_eq_zero_of_no_sems (by decide) r.2⟩) (Cert.AdamOutRefIdeal.Value.run (F := Ideal) m ρ)

/-- The plain computation `AdamPoolRef` runs to its end and leaves its arguments. -/
theorem AdamPoolRefFrame : ∀ (m : (ℓ : Loc Cert.AdamPoolRefIdeal.nD Cert.AdamPoolRefIdeal.τ Cert.AdamPoolRefIdeal.sig) → Buf (Elt Ideal) ℓ) (g : Dev Cert.AdamPoolRefIdeal.nD → PrngReg), θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0) :=
  fun m ρ => (θ_run Cert.AdamPoolRefIdeal.defs _ _).mono (fun r h => ⟨fun c => (h c).2.2.2.2, Idealize.ShloMosaic.sem_eq_zero_of_no_sems (by decide) r.2⟩) (Cert.AdamPoolRefIdeal.Value.run (F := Ideal) m ρ)

/-- The plain computation `AdamFfnRef` runs to its end and leaves its arguments. -/
theorem AdamFfnRefFrame : ∀ (m : (ℓ : Loc Cert.AdamFfnRefIdeal.nD Cert.AdamFfnRefIdeal.τ Cert.AdamFfnRefIdeal.sig) → Buf (Elt Ideal) ℓ) (g : Dev Cert.AdamFfnRefIdeal.nD → PrngReg), θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4)
      ∧ r.2.mem ((c.tc : Thread Cert.AdamFfnRefIdeal.nD Cert.AdamFfnRefIdeal.τ).loc Cert.AdamFfnRefIdeal.main_arg5) = m ((c.tc : Thread Cert.AdamFfnRefIdeal.nD Cert.AdamFfnRefIdeal.τ).loc Cert.AdamFfnRefIdeal.main_arg5)
      ∧ r.2.mem ((c.tc : Thread Cert.AdamFfnRefIdeal.nD Cert.AdamFfnRefIdeal.τ).loc Cert.AdamFfnRefIdeal.main_arg6) = m ((c.tc : Thread Cert.AdamFfnRefIdeal.nD Cert.AdamFfnRefIdeal.τ).loc Cert.AdamFfnRefIdeal.main_arg6)
      ∧ r.2.mem ((c.tc : Thread Cert.AdamFfnRefIdeal.nD Cert.AdamFfnRefIdeal.τ).loc Cert.AdamFfnRefIdeal.main_arg7) = m ((c.tc : Thread Cert.AdamFfnRefIdeal.nD Cert.AdamFfnRefIdeal.τ).loc Cert.AdamFfnRefIdeal.main_arg7))
      ∧ r.2.sem = fun _ => 0) :=
  fun m ρ => (θ_run Cert.AdamFfnRefIdeal.defs _ _).mono (fun r h => ⟨fun c => (h c).2.2.2.2, Idealize.ShloMosaic.sem_eq_zero_of_no_sems (by decide) r.2⟩) (Cert.AdamFfnRefIdeal.Value.run (F := Ideal) m ρ)

/-- The plain computation `AdamGateRef` runs to its end and leaves its arguments. -/
theorem AdamGateRefFrame : ∀ (m : (ℓ : Loc Cert.AdamGateRefIdeal.nD Cert.AdamGateRefIdeal.τ Cert.AdamGateRefIdeal.sig) → Buf (Elt Ideal) ℓ) (g : Dev Cert.AdamGateRefIdeal.nD → PrngReg), θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4)
      ∧ r.2.mem ((c.tc : Thread Cert.AdamGateRefIdeal.nD Cert.AdamGateRefIdeal.τ).loc Cert.AdamGateRefIdeal.main_arg5) = m ((c.tc : Thread Cert.AdamGateRefIdeal.nD Cert.AdamGateRefIdeal.τ).loc Cert.AdamGateRefIdeal.main_arg5)
      ∧ r.2.mem ((c.tc : Thread Cert.AdamGateRefIdeal.nD Cert.AdamGateRefIdeal.τ).loc Cert.AdamGateRefIdeal.main_arg6) = m ((c.tc : Thread Cert.AdamGateRefIdeal.nD Cert.AdamGateRefIdeal.τ).loc Cert.AdamGateRefIdeal.main_arg6)
      ∧ r.2.mem ((c.tc : Thread Cert.AdamGateRefIdeal.nD Cert.AdamGateRefIdeal.τ).loc Cert.AdamGateRefIdeal.main_arg7) = m ((c.tc : Thread Cert.AdamGateRefIdeal.nD Cert.AdamGateRefIdeal.τ).loc Cert.AdamGateRefIdeal.main_arg7))
      ∧ r.2.sem = fun _ => 0) :=
  fun m ρ => (θ_run Cert.AdamGateRefIdeal.defs _ _).mono (fun r h => ⟨fun c => (h c).2.2.2.2, Idealize.ShloMosaic.sem_eq_zero_of_no_sems (by decide) r.2⟩) (Cert.AdamGateRefIdeal.Value.run (F := Ideal) m ρ)

/-- The plain computation `AdamProjRef` runs to its end and leaves its arguments. -/
theorem AdamProjRefFrame : ∀ (m : (ℓ : Loc Cert.AdamProjRefIdeal.nD Cert.AdamProjRefIdeal.τ Cert.AdamProjRefIdeal.sig) → Buf (Elt Ideal) ℓ) (g : Dev Cert.AdamProjRefIdeal.nD → PrngReg), θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4)
      ∧ r.2.mem ((c.tc : Thread Cert.AdamProjRefIdeal.nD Cert.AdamProjRefIdeal.τ).loc Cert.AdamProjRefIdeal.main_arg5) = m ((c.tc : Thread Cert.AdamProjRefIdeal.nD Cert.AdamProjRefIdeal.τ).loc Cert.AdamProjRefIdeal.main_arg5)
      ∧ r.2.mem ((c.tc : Thread Cert.AdamProjRefIdeal.nD Cert.AdamProjRefIdeal.τ).loc Cert.AdamProjRefIdeal.main_arg6) = m ((c.tc : Thread Cert.AdamProjRefIdeal.nD Cert.AdamProjRefIdeal.τ).loc Cert.AdamProjRefIdeal.main_arg6)
      ∧ r.2.mem ((c.tc : Thread Cert.AdamProjRefIdeal.nD Cert.AdamProjRefIdeal.τ).loc Cert.AdamProjRefIdeal.main_arg7) = m ((c.tc : Thread Cert.AdamProjRefIdeal.nD Cert.AdamProjRefIdeal.τ).loc Cert.AdamProjRefIdeal.main_arg7))
      ∧ r.2.sem = fun _ => 0) :=
  fun m ρ => (θ_run Cert.AdamProjRefIdeal.defs _ _).mono (fun r h => ⟨fun c => (h c).2.2.2.2, Idealize.ShloMosaic.sem_eq_zero_of_no_sems (by decide) r.2⟩) (Cert.AdamProjRefIdeal.Value.run (F := Ideal) m ρ)

/-- The plain computation `AdamConvInRef` runs to its end and leaves its arguments. -/
theorem AdamConvInRefFrame : ∀ (m : (ℓ : Loc Cert.AdamConvInRefIdeal.nD Cert.AdamConvInRefIdeal.τ Cert.AdamConvInRefIdeal.sig) → Buf (Elt Ideal) ℓ) (g : Dev Cert.AdamConvInRefIdeal.nD → PrngReg), θ_run (Cert.AdamConvInRefIdeal.defs (F := Ideal)) (onTc (τ := Cert.AdamConvInRefIdeal.τ) (Cert.AdamConvInRefIdeal.main (F := Ideal))) ⟨m, fun _ => 0, g⟩ (fun r => (∀ c : Dev Cert.AdamConvInRefIdeal.nD,
      r.2.mem ((c.tc : Thread Cert.AdamConvInRefIdeal.nD Cert.AdamConvInRefIdeal.τ).loc Cert.AdamConvInRefIdeal.main_arg0) = m ((c.tc : Thread Cert.AdamConvInRefIdeal.nD Cert.AdamConvInRefIdeal.τ).loc Cert.AdamConvInRefIdeal.main_arg0)
      ∧ r.2.mem ((c.tc : Thread Cert.AdamConvInRefIdeal.nD Cert.AdamConvInRefIdeal.τ).loc Cert.AdamConvInRefIdeal.main_arg1) = m ((c.tc : Thread Cert.AdamConvInRefIdeal.nD Cert.AdamConvInRefIdeal.τ).loc Cert.AdamConvInRefIdeal.main_arg1)
      ∧ r.2.mem ((c.tc : Thread Cert.AdamConvInRefIdeal.nD Cert.AdamConvInRefIdeal.τ).loc Cert.AdamConvInRefIdeal.main_arg2) = m ((c.tc : Thread Cert.AdamConvInRefIdeal.nD Cert.AdamConvInRefIdeal.τ).loc Cert.AdamConvInRefIdeal.main_arg2)
      ∧ r.2.mem ((c.tc : Thread Cert.AdamConvInRefIdeal.nD Cert.AdamConvInRefIdeal.τ).loc Cert.AdamConvInRefIdeal.main_arg3) = m ((c.tc : Thread Cert.AdamConvInRefIdeal.nD Cert.AdamConvInRefIdeal.τ).loc Cert.AdamConvInRefIdeal.main_arg3)
      ∧ r.2.mem ((c.tc : Thread Cert.AdamConvInRefIdeal.nD Cert.AdamConvInRefIdeal.τ).loc Cert.AdamConvInRefIdeal.main_arg4) = m ((c.tc : Thread Cert.AdamConvInRefIdeal.nD Cert.AdamConvInRefIdeal.τ).loc Cert.AdamConvInRefIdeal.main_arg4)
      ∧ r.2.mem ((c.tc : Thread Cert.AdamConvInRefIdeal.nD Cert.AdamConvInRefIdeal.τ).loc Cert.AdamConvInRefIdeal.main_arg5) = m ((c.tc : Thread Cert.AdamConvInRefIdeal.nD Cert.AdamConvInRefIdeal.τ).loc Cert.AdamConvInRefIdeal.main_arg5)
      ∧ r.2.mem ((c.tc : Thread Cert.AdamConvInRefIdeal.nD Cert.AdamConvInRefIdeal.τ).loc Cert.AdamConvInRefIdeal.main_arg6) = m ((c.tc : Thread Cert.AdamConvInRefIdeal.nD Cert.AdamConvInRefIdeal.τ).loc Cert.AdamConvInRefIdeal.main_arg6)
      ∧ r.2.mem ((c.tc : Thread Cert.AdamConvInRefIdeal.nD Cert.AdamConvInRefIdeal.τ).loc Cert.AdamConvInRefIdeal.main_arg7) = m ((c.tc : Thread Cert.AdamConvInRefIdeal.nD Cert.AdamConvInRefIdeal.τ).loc Cert.AdamConvInRefIdeal.main_arg7))
      ∧ r.2.sem = fun _ => 0) :=
  fun m ρ => (θ_run Cert.AdamConvInRefIdeal.defs _ _).mono (fun r h => ⟨fun c => (h c).2.2.2.2, Idealize.ShloMosaic.sem_eq_zero_of_no_sems (by decide) r.2⟩) (Cert.AdamConvInRefIdeal.Value.run (F := Ideal) m ρ)

/-- The plain computation `AdamConvOutRef` runs to its end and leaves its arguments. -/
theorem AdamConvOutRefFrame : ∀ (m : (ℓ : Loc Cert.AdamConvOutRefIdeal.nD Cert.AdamConvOutRefIdeal.τ Cert.AdamConvOutRefIdeal.sig) → Buf (Elt Ideal) ℓ) (g : Dev Cert.AdamConvOutRefIdeal.nD → PrngReg), θ_run (Cert.AdamConvOutRefIdeal.defs (F := Ideal)) (onTc (τ := Cert.AdamConvOutRefIdeal.τ) (Cert.AdamConvOutRefIdeal.main (F := Ideal))) ⟨m, fun _ => 0, g⟩ (fun r => (∀ c : Dev Cert.AdamConvOutRefIdeal.nD,
      r.2.mem ((c.tc : Thread Cert.AdamConvOutRefIdeal.nD Cert.AdamConvOutRefIdeal.τ).loc Cert.AdamConvOutRefIdeal.main_arg0) = m ((c.tc : Thread Cert.AdamConvOutRefIdeal.nD Cert.AdamConvOutRefIdeal.τ).loc Cert.AdamConvOutRefIdeal.main_arg0)
      ∧ r.2.mem ((c.tc : Thread Cert.AdamConvOutRefIdeal.nD Cert.AdamConvOutRefIdeal.τ).loc Cert.AdamConvOutRefIdeal.main_arg1) = m ((c.tc : Thread Cert.AdamConvOutRefIdeal.nD Cert.AdamConvOutRefIdeal.τ).loc Cert.AdamConvOutRefIdeal.main_arg1)
      ∧ r.2.mem ((c.tc : Thread Cert.AdamConvOutRefIdeal.nD Cert.AdamConvOutRefIdeal.τ).loc Cert.AdamConvOutRefIdeal.main_arg2) = m ((c.tc : Thread Cert.AdamConvOutRefIdeal.nD Cert.AdamConvOutRefIdeal.τ).loc Cert.AdamConvOutRefIdeal.main_arg2)
      ∧ r.2.mem ((c.tc : Thread Cert.AdamConvOutRefIdeal.nD Cert.AdamConvOutRefIdeal.τ).loc Cert.AdamConvOutRefIdeal.main_arg3) = m ((c.tc : Thread Cert.AdamConvOutRefIdeal.nD Cert.AdamConvOutRefIdeal.τ).loc Cert.AdamConvOutRefIdeal.main_arg3)
      ∧ r.2.mem ((c.tc : Thread Cert.AdamConvOutRefIdeal.nD Cert.AdamConvOutRefIdeal.τ).loc Cert.AdamConvOutRefIdeal.main_arg4) = m ((c.tc : Thread Cert.AdamConvOutRefIdeal.nD Cert.AdamConvOutRefIdeal.τ).loc Cert.AdamConvOutRefIdeal.main_arg4)
      ∧ r.2.mem ((c.tc : Thread Cert.AdamConvOutRefIdeal.nD Cert.AdamConvOutRefIdeal.τ).loc Cert.AdamConvOutRefIdeal.main_arg5) = m ((c.tc : Thread Cert.AdamConvOutRefIdeal.nD Cert.AdamConvOutRefIdeal.τ).loc Cert.AdamConvOutRefIdeal.main_arg5)
      ∧ r.2.mem ((c.tc : Thread Cert.AdamConvOutRefIdeal.nD Cert.AdamConvOutRefIdeal.τ).loc Cert.AdamConvOutRefIdeal.main_arg6) = m ((c.tc : Thread Cert.AdamConvOutRefIdeal.nD Cert.AdamConvOutRefIdeal.τ).loc Cert.AdamConvOutRefIdeal.main_arg6)
      ∧ r.2.mem ((c.tc : Thread Cert.AdamConvOutRefIdeal.nD Cert.AdamConvOutRefIdeal.τ).loc Cert.AdamConvOutRefIdeal.main_arg7) = m ((c.tc : Thread Cert.AdamConvOutRefIdeal.nD Cert.AdamConvOutRefIdeal.τ).loc Cert.AdamConvOutRefIdeal.main_arg7))
      ∧ r.2.sem = fun _ => 0) :=
  fun m ρ => (θ_run Cert.AdamConvOutRefIdeal.defs _ _).mono (fun r h => ⟨fun c => (h c).2.2.2.2, Idealize.ShloMosaic.sem_eq_zero_of_no_sems (by decide) r.2⟩) (Cert.AdamConvOutRefIdeal.Value.run (F := Ideal) m ρ)

theorem claim : Cert.Claim := ⟨Cert.Hidden.Gen.facts, Cert.HiddenIdeal.Gen.facts, Cert.HiddenRefIdeal.Gen.facts, Cert.Rows.Gen.facts, Cert.RowsIdeal.Gen.facts, Cert.RowsRefIdeal.Gen.facts, Cert.Mm.Gen.facts, Cert.MmIdeal.Gen.facts, Cert.MmRefIdeal.Gen.facts, Cert.MmAdd.Gen.facts, Cert.MmAddIdeal.Gen.facts, Cert.MmAddRefIdeal.Gen.facts, Cert.Up.Gen.facts, Cert.UpIdeal.Gen.facts, Cert.UpRefIdeal.Gen.facts, Cert.Dx.Gen.facts, Cert.DxIdeal.Gen.facts, Cert.DxRefIdeal.Gen.facts, Cert.Gate.Gen.facts, Cert.GateIdeal.Gen.facts, Cert.GateRefIdeal.Gen.facts, Cert.GradW.Gen.facts, Cert.GradWIdeal.Gen.facts, Cert.GradWRefIdeal.Gen.facts, Cert.Res.Gen.facts, Cert.ResIdeal.Gen.facts, Cert.ResRefIdeal.Gen.facts, Cert.ResIn.Gen.facts, Cert.ResInIdeal.Gen.facts, Cert.ResInRefIdeal.Gen.facts, Cert.Loss.Gen.facts, Cert.LossIdeal.Gen.facts, Cert.LossRefIdeal.Gen.facts, Cert.PoolOut.Gen.facts, Cert.PoolOutIdeal.Gen.facts, Cert.PoolOutRefIdeal.Gen.facts, Cert.GateBwd.Gen.facts, Cert.GateBwdIdeal.Gen.facts, Cert.GateBwdRefIdeal.Gen.facts, Cert.ConvOut.Gen.facts, Cert.ConvOutIdeal.Gen.facts, Cert.ConvOutRefIdeal.Gen.facts, Cert.PoolFwd.Gen.facts, Cert.PoolFwdIdeal.Gen.facts, Cert.PoolFwdRefIdeal.Gen.facts, Cert.FfnRes.Gen.facts, Cert.FfnResIdeal.Gen.facts, Cert.FfnResRefIdeal.Gen.facts, Cert.AttnRes.Gen.facts, Cert.AttnResIdeal.Gen.facts, Cert.AttnResRefIdeal.Gen.facts, Cert.ConvRes.Gen.facts, Cert.ConvResIdeal.Gen.facts, Cert.ConvResRefIdeal.Gen.facts, Cert.ConvIn.Gen.facts, Cert.ConvInIdeal.Gen.facts, Cert.ConvInRefIdeal.Gen.facts, Cert.AttnDx.Gen.facts, Cert.AttnDxIdeal.Gen.facts, Cert.AttnDxRefIdeal.Gen.facts, Cert.Qkv.Gen.facts, Cert.QkvIdeal.Gen.facts, Cert.QkvRefIdeal.Gen.facts, Cert.PleProj.Gen.facts, Cert.PleProjIdeal.Gen.facts, Cert.PleProjRefIdeal.Gen.facts, Cert.RmsIn.Gen.facts, Cert.RmsInIdeal.Gen.facts, Cert.RmsInRefIdeal.Gen.facts, Cert.BiasGrad.Gen.facts, Cert.BiasGradIdeal.Gen.facts, Cert.BiasGradRefIdeal.Gen.facts, Cert.Bias.Gen.facts, Cert.BiasIdeal.Gen.facts, Cert.BiasRefIdeal.Gen.facts, Cert.PoolW.Gen.facts, Cert.PoolWIdeal.Gen.facts, Cert.PoolWRefIdeal.Gen.facts, Cert.AdamNorm.Gen.facts, Cert.AdamNormIdeal.Gen.facts, Cert.AdamNormRefIdeal.Gen.facts, Cert.AdamVec.Gen.facts, Cert.AdamVecIdeal.Gen.facts, Cert.AdamVecRefIdeal.Gen.facts, Cert.AdamHead.Gen.facts, Cert.AdamHeadIdeal.Gen.facts, Cert.AdamHeadRefIdeal.Gen.facts, Cert.AdamScale.Gen.facts, Cert.AdamScaleIdeal.Gen.facts, Cert.AdamScaleRefIdeal.Gen.facts, Cert.AdamSink.Gen.facts, Cert.AdamSinkIdeal.Gen.facts, Cert.AdamSinkRefIdeal.Gen.facts, Cert.AdamBias.Gen.facts, Cert.AdamBiasIdeal.Gen.facts, Cert.AdamBiasRefIdeal.Gen.facts, Cert.AdamConvB.Gen.facts, Cert.AdamConvBIdeal.Gen.facts, Cert.AdamConvBRefIdeal.Gen.facts, Cert.AdamConvW.Gen.facts, Cert.AdamConvWIdeal.Gen.facts, Cert.AdamConvWRefIdeal.Gen.facts, Cert.AdamQkv.Gen.facts, Cert.AdamQkvIdeal.Gen.facts, Cert.AdamQkvRefIdeal.Gen.facts, Cert.AdamOut.Gen.facts, Cert.AdamOutIdeal.Gen.facts, Cert.AdamOutRefIdeal.Gen.facts, Cert.AdamPool.Gen.facts, Cert.AdamPoolIdeal.Gen.facts, Cert.AdamPoolRefIdeal.Gen.facts, Cert.AdamFfn.Gen.facts, Cert.AdamFfnIdeal.Gen.facts, Cert.AdamFfnRefIdeal.Gen.facts, Cert.AdamGate.Gen.facts, Cert.AdamGateIdeal.Gen.facts, Cert.AdamGateRefIdeal.Gen.facts, Cert.AdamProj.Gen.facts, Cert.AdamProjIdeal.Gen.facts, Cert.AdamProjRefIdeal.Gen.facts, Cert.AdamConvIn.Gen.facts, Cert.AdamConvInIdeal.Gen.facts, Cert.AdamConvInRefIdeal.Gen.facts, Cert.AdamConvOut.Gen.facts, Cert.AdamConvOutIdeal.Gen.facts, Cert.AdamConvOutRefIdeal.Gen.facts, Cert.Pre_finite_hidden.Gen.facts, Cert.Pre_finite_dx.Gen.facts, Cert.Pre_finite_res.Gen.facts, Cert.Pre_finite_conv.Gen.facts, Cert.Pre_bucketed.Gen.facts, Cert.Pre_bucketed_table.Gen.facts,
  fun m ρ _ => Cert.Hidden.Gen.frame m ρ,
  fun m ρ _ => Cert.HiddenIdeal.Gen.frame m ρ,
  fun m ρ _ => Cert.HiddenIdeal.Gen.frame m ρ,
  fun m ρ _ => HiddenRefFrame m ρ,
  fun m ρ _ => HiddenRefFrame m ρ,
  fun m ρ _ => Cert.Rows.Gen.frame m ρ,
  fun m ρ _ => Cert.RowsIdeal.Gen.frame m ρ,
  fun m ρ _ => RowsRefFrame m ρ,
  fun m ρ _ => Cert.Mm.Gen.frame m ρ,
  fun m ρ _ => Cert.MmIdeal.Gen.frame m ρ,
  fun m ρ _ => MmRefFrame m ρ,
  fun m ρ _ => Cert.MmAdd.Gen.frame m ρ,
  fun m ρ _ => Cert.MmAddIdeal.Gen.frame m ρ,
  fun m ρ _ => MmAddRefFrame m ρ,
  fun m ρ _ => Cert.Up.Gen.frame m ρ,
  fun m ρ _ => Cert.UpIdeal.Gen.frame m ρ,
  fun m ρ _ => UpRefFrame m ρ,
  fun m ρ _ => Cert.Dx.Gen.frame m ρ,
  fun m ρ _ => Cert.DxIdeal.Gen.frame m ρ,
  fun m ρ _ => Cert.DxIdeal.Gen.frame m ρ,
  fun m ρ _ => DxRefFrame m ρ,
  fun m ρ _ => DxRefFrame m ρ,
  fun m ρ _ => Cert.Gate.Gen.frame m ρ,
  fun m ρ _ => Cert.GateIdeal.Gen.frame m ρ,
  fun m ρ _ => GateRefFrame m ρ,
  fun m ρ _ => Cert.GradW.Gen.frame m ρ,
  fun m ρ _ => Cert.GradWIdeal.Gen.frame m ρ,
  fun m ρ _ => GradWRefFrame m ρ,
  fun m ρ _ => Cert.Res.Gen.frame m ρ,
  fun m ρ _ => Cert.ResIdeal.Gen.frame m ρ,
  fun m ρ _ => Cert.ResIdeal.Gen.frame m ρ,
  fun m ρ _ => ResRefFrame m ρ,
  fun m ρ _ => ResRefFrame m ρ,
  fun m ρ _ => Cert.ResIn.Gen.frame m ρ,
  fun m ρ _ => Cert.ResInIdeal.Gen.frame m ρ,
  fun m ρ _ => Cert.ResInIdeal.Gen.frame m ρ,
  fun m ρ _ => ResInRefFrame m ρ,
  fun m ρ _ => ResInRefFrame m ρ,
  fun m ρ _ => Cert.Loss.Gen.frame m ρ,
  fun m ρ _ => Cert.LossIdeal.Gen.frame m ρ,
  fun m ρ _ => LossRefFrame m ρ,
  fun m ρ _ => Cert.PoolOut.Gen.frame m ρ,
  fun m ρ _ => Cert.PoolOutIdeal.Gen.frame m ρ,
  fun m ρ _ => PoolOutRefFrame m ρ,
  fun m ρ _ => Cert.GateBwd.Gen.frame m ρ,
  fun m ρ _ => Cert.GateBwdIdeal.Gen.frame m ρ,
  fun m ρ _ => GateBwdRefFrame m ρ,
  fun m ρ _ => Cert.ConvOut.Gen.frame m ρ,
  fun m ρ _ => Cert.ConvOutIdeal.Gen.frame m ρ,
  fun m ρ _ => Cert.ConvOutIdeal.Gen.frame m ρ,
  fun m ρ _ => ConvOutRefFrame m ρ,
  fun m ρ _ => ConvOutRefFrame m ρ,
  fun m ρ _ => Cert.PoolFwd.Gen.frame m ρ,
  fun m ρ _ => Cert.PoolFwdIdeal.Gen.frame m ρ,
  fun m ρ _ => PoolFwdRefFrame m ρ,
  fun m ρ _ => Cert.FfnRes.Gen.frame m ρ,
  fun m ρ _ => Cert.FfnResIdeal.Gen.frame m ρ,
  fun m ρ _ => FfnResRefFrame m ρ,
  fun m ρ _ => Cert.AttnRes.Gen.frame m ρ,
  fun m ρ _ => Cert.AttnResIdeal.Gen.frame m ρ,
  fun m ρ _ => AttnResRefFrame m ρ,
  fun m ρ _ => Cert.ConvRes.Gen.frame m ρ,
  fun m ρ _ => Cert.ConvResIdeal.Gen.frame m ρ,
  fun m ρ _ => ConvResRefFrame m ρ,
  fun m ρ _ => Cert.ConvIn.Gen.frame m ρ,
  fun m ρ _ => Cert.ConvInIdeal.Gen.frame m ρ,
  fun m ρ _ => ConvInRefFrame m ρ,
  fun m ρ _ => Cert.AttnDx.Gen.frame m ρ,
  fun m ρ _ => Cert.AttnDxIdeal.Gen.frame m ρ,
  fun m ρ _ => AttnDxRefFrame m ρ,
  fun m ρ _ => Cert.Qkv.Gen.frame m ρ,
  fun m ρ _ => Cert.QkvIdeal.Gen.frame m ρ,
  fun m ρ _ => QkvRefFrame m ρ,
  fun m ρ _ => Cert.PleProj.Gen.frame m ρ,
  fun m ρ _ => Cert.PleProjIdeal.Gen.frame m ρ,
  fun m ρ _ => PleProjRefFrame m ρ,
  fun m ρ _ => Cert.RmsIn.Gen.frame m ρ,
  fun m ρ _ => Cert.RmsInIdeal.Gen.frame m ρ,
  fun m ρ _ => RmsInRefFrame m ρ,
  fun m ρ _ => Cert.BiasGrad.Gen.frame m ρ,
  fun m ρ _ => Cert.BiasGradIdeal.Gen.frame m ρ,
  fun m ρ _ => Cert.BiasGradIdeal.Gen.frame m ρ,
  fun m ρ _ => BiasGradRefFrame m ρ,
  fun m ρ _ => BiasGradRefFrame m ρ,
  fun m ρ _ => Cert.Bias.Gen.frame m ρ,
  fun m ρ _ => Cert.BiasIdeal.Gen.frame m ρ,
  fun m ρ _ => Cert.BiasIdeal.Gen.frame m ρ,
  fun m ρ _ => BiasRefFrame m ρ,
  fun m ρ _ => BiasRefFrame m ρ,
  fun m ρ _ => Cert.PoolW.Gen.frame m ρ,
  fun m ρ _ => Cert.PoolWIdeal.Gen.frame m ρ,
  fun m ρ _ => PoolWRefFrame m ρ,
  fun m ρ _ => Cert.AdamNorm.Gen.frame m ρ,
  fun m ρ _ => Cert.AdamNormIdeal.Gen.frame m ρ,
  fun m ρ _ => AdamNormRefFrame m ρ,
  fun m ρ _ => Cert.AdamVec.Gen.frame m ρ,
  fun m ρ _ => Cert.AdamVecIdeal.Gen.frame m ρ,
  fun m ρ _ => AdamVecRefFrame m ρ,
  fun m ρ _ => Cert.AdamHead.Gen.frame m ρ,
  fun m ρ _ => Cert.AdamHeadIdeal.Gen.frame m ρ,
  fun m ρ _ => AdamHeadRefFrame m ρ,
  fun m ρ _ => Cert.AdamScale.Gen.frame m ρ,
  fun m ρ _ => Cert.AdamScaleIdeal.Gen.frame m ρ,
  fun m ρ _ => AdamScaleRefFrame m ρ,
  fun m ρ _ => Cert.AdamSink.Gen.frame m ρ,
  fun m ρ _ => Cert.AdamSinkIdeal.Gen.frame m ρ,
  fun m ρ _ => AdamSinkRefFrame m ρ,
  fun m ρ _ => Cert.AdamBias.Gen.frame m ρ,
  fun m ρ _ => Cert.AdamBiasIdeal.Gen.frame m ρ,
  fun m ρ _ => AdamBiasRefFrame m ρ,
  fun m ρ _ => Cert.AdamConvB.Gen.frame m ρ,
  fun m ρ _ => Cert.AdamConvBIdeal.Gen.frame m ρ,
  fun m ρ _ => AdamConvBRefFrame m ρ,
  fun m ρ _ => Cert.AdamConvW.Gen.frame m ρ,
  fun m ρ _ => Cert.AdamConvWIdeal.Gen.frame m ρ,
  fun m ρ _ => AdamConvWRefFrame m ρ,
  fun m ρ _ => Cert.AdamQkv.Gen.frame m ρ,
  fun m ρ _ => Cert.AdamQkvIdeal.Gen.frame m ρ,
  fun m ρ _ => AdamQkvRefFrame m ρ,
  fun m ρ _ => Cert.AdamOut.Gen.frame m ρ,
  fun m ρ _ => Cert.AdamOutIdeal.Gen.frame m ρ,
  fun m ρ _ => AdamOutRefFrame m ρ,
  fun m ρ _ => Cert.AdamPool.Gen.frame m ρ,
  fun m ρ _ => Cert.AdamPoolIdeal.Gen.frame m ρ,
  fun m ρ _ => AdamPoolRefFrame m ρ,
  fun m ρ _ => Cert.AdamFfn.Gen.frame m ρ,
  fun m ρ _ => Cert.AdamFfnIdeal.Gen.frame m ρ,
  fun m ρ _ => AdamFfnRefFrame m ρ,
  fun m ρ _ => Cert.AdamGate.Gen.frame m ρ,
  fun m ρ _ => Cert.AdamGateIdeal.Gen.frame m ρ,
  fun m ρ _ => AdamGateRefFrame m ρ,
  fun m ρ _ => Cert.AdamProj.Gen.frame m ρ,
  fun m ρ _ => Cert.AdamProjIdeal.Gen.frame m ρ,
  fun m ρ _ => AdamProjRefFrame m ρ,
  fun m ρ _ => Cert.AdamConvIn.Gen.frame m ρ,
  fun m ρ _ => Cert.AdamConvInIdeal.Gen.frame m ρ,
  fun m ρ _ => AdamConvInRefFrame m ρ,
  fun m ρ _ => Cert.AdamConvOut.Gen.frame m ρ,
  fun m ρ _ => Cert.AdamConvOutIdeal.Gen.frame m ρ,
  fun m ρ _ => AdamConvOutRefFrame m ρ,
  trivial,
  Cert.HiddenValue.algebraic,
  trivial,
  Cert.RowsValue.algebraic,
  trivial,
  Cert.MmValue.algebraic,
  trivial,
  Cert.MmAddValue.algebraic,
  trivial,
  Cert.UpValue.algebraic,
  trivial,
  Cert.DxValue.algebraic,
  trivial,
  Cert.GateValue.algebraic,
  trivial,
  Cert.GradWValue.algebraic,
  trivial,
  Cert.ResValue.algebraic,
  trivial,
  Cert.ResInValue.algebraic,
  trivial,
  Cert.LossValue.algebraic,
  trivial,
  Cert.PoolOutValue.algebraic,
  trivial,
  Cert.GateBwdValue.algebraic,
  trivial,
  Cert.ConvOutValue.algebraic,
  trivial,
  Cert.PoolFwdValue.algebraic,
  trivial,
  Cert.FfnResValue.algebraic,
  trivial,
  Cert.AttnResValue.algebraic,
  trivial,
  Cert.ConvResValue.algebraic,
  trivial,
  Cert.ConvInValue.algebraic,
  trivial,
  Cert.AttnDxValue.algebraic,
  trivial,
  Cert.QkvValue.algebraic,
  trivial,
  Cert.PleProjValue.algebraic,
  trivial,
  Cert.RmsInValue.algebraic,
  trivial,
  Cert.BiasGradValue.algebraic,
  trivial,
  Cert.BiasValue.algebraic,
  trivial,
  Cert.PoolWValue.algebraic,
  Cert.AdamNormValue.preserves,
  Cert.AdamNormValue.algebraic,
  Cert.AdamVecValue.preserves,
  Cert.AdamVecValue.algebraic,
  Cert.AdamHeadValue.preserves,
  Cert.AdamHeadValue.algebraic,
  Cert.AdamScaleValue.preserves,
  Cert.AdamScaleValue.algebraic,
  Cert.AdamSinkValue.preserves,
  Cert.AdamSinkValue.algebraic,
  Cert.AdamBiasValue.preserves,
  Cert.AdamBiasValue.algebraic,
  Cert.AdamConvBValue.preserves,
  Cert.AdamConvBValue.algebraic,
  Cert.AdamConvWValue.preserves,
  Cert.AdamConvWValue.algebraic,
  Cert.AdamQkvValue.preserves,
  Cert.AdamQkvValue.algebraic,
  Cert.AdamOutValue.preserves,
  Cert.AdamOutValue.algebraic,
  Cert.AdamPoolValue.preserves,
  Cert.AdamPoolValue.algebraic,
  Cert.AdamFfnValue.preserves,
  Cert.AdamFfnValue.algebraic,
  Cert.AdamGateValue.preserves,
  Cert.AdamGateValue.algebraic,
  Cert.AdamProjValue.preserves,
  Cert.AdamProjValue.algebraic,
  Cert.AdamConvInValue.preserves,
  Cert.AdamConvInValue.algebraic,
  Cert.AdamConvOutValue.preserves,
  Cert.AdamConvOutValue.algebraic⟩

end Cert.Proof

end
